-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v48_0)) (v1 : (c : Dev Cert.KernelIdeal.nD) → Buf (Elt Ideal) ((c.tc : Thread Cert.KernelIdeal.nD Cert.KernelIdeal.τ).loc Cert.KernelIdeal.main_v48_1)) (v2 : (c : Dev Cert.KernelIdeal.nD) → Buf (Elt Ideal) ((c.tc : Thread Cert.KernelIdeal.nD Cert.KernelIdeal.τ).loc Cert.KernelIdeal.main_v48_2)) (v3 : (c : Dev Cert.KernelIdeal.nD) → Buf (Elt Ideal) ((c.tc : Thread Cert.KernelIdeal.nD Cert.KernelIdeal.τ).loc Cert.KernelIdeal.main_v48_3)) (v4 : (c : Dev Cert.KernelIdeal.nD) → Buf (Elt Ideal) ((c.tc : Thread Cert.KernelIdeal.nD Cert.KernelIdeal.τ).loc Cert.KernelIdeal.main_v48_4)) (v5 : (c : Dev Cert.KernelIdeal.nD) → Buf (Elt Ideal) ((c.tc : Thread Cert.KernelIdeal.nD Cert.KernelIdeal.τ).loc Cert.KernelIdeal.main_v48_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48_0) = v0 c
          ∧ r.2.mem ((c.tc : Thread Cert.KernelIdeal.nD Cert.KernelIdeal.τ).loc Cert.KernelIdeal.main_v48_1) = v1 c
          ∧ r.2.mem ((c.tc : Thread Cert.KernelIdeal.nD Cert.KernelIdeal.τ).loc Cert.KernelIdeal.main_v48_2) = v2 c
          ∧ r.2.mem ((c.tc : Thread Cert.KernelIdeal.nD Cert.KernelIdeal.τ).loc Cert.KernelIdeal.main_v48_3) = v3 c
          ∧ r.2.mem ((c.tc : Thread Cert.KernelIdeal.nD Cert.KernelIdeal.τ).loc Cert.KernelIdeal.main_v48_4) = v4 c
          ∧ r.2.mem ((c.tc : Thread Cert.KernelIdeal.nD Cert.KernelIdeal.τ).loc Cert.KernelIdeal.main_v48_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_v114) = v2 c
          ∧ r.2.mem ((c.tc : Thread Cert.ReferenceIdeal.nD Cert.ReferenceIdeal.τ).loc Cert.ReferenceIdeal.main_v115) = v3 c
          ∧ r.2.mem ((c.tc : Thread Cert.ReferenceIdeal.nD Cert.ReferenceIdeal.τ).loc Cert.ReferenceIdeal.main_v111) = v4 c
          ∧ r.2.mem ((c.tc : Thread Cert.ReferenceIdeal.nD Cert.ReferenceIdeal.τ).loc Cert.ReferenceIdeal.main_v67) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_v16) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v21) = v0 c
          ∧ r.2.mem ((c.tc : Thread Cert.Reference8Ideal.nD Cert.Reference8Ideal.τ).loc Cert.Reference8Ideal.main_v9) = v1 c
          ∧ r.2.mem ((c.tc : Thread Cert.Reference8Ideal.nD Cert.Reference8Ideal.τ).loc Cert.Reference8Ideal.main_v32) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v27) = v0 c
          ∧ r.2.mem ((c.tc : Thread Cert.Reference10Ideal.nD Cert.Reference10Ideal.τ).loc Cert.Reference10Ideal.main_v22) = v1 c
          ∧ r.2.mem ((c.tc : Thread Cert.Reference10Ideal.nD Cert.Reference10Ideal.τ).loc Cert.Reference10Ideal.main_v19) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S4096x512 : Shape := ⟨2, ![4096, 512]⟩
abbrev S4096x1024 : Shape := ⟨2, ![4096, 1024]⟩
abbrev S4096x16 : Shape := ⟨2, ![4096, 16]⟩
abbrev S16x512 : Shape := ⟨2, ![16, 512]⟩
abbrev S1x512 : Shape := ⟨2, ![1, 512]⟩
abbrev S1x256 : Shape := ⟨2, ![1, 256]⟩
abbrev S_ : Shape := ⟨0, ![]⟩

class Facts : Prop where
  bitsLt_bf16_f32 : FTy.bits .bf16 < FTy.bits .f32
  bcast_S_S4096x512 : S_.BroadcastsInDim S4096x512 (![] : Fin 0 → Fin S4096x512.rank)
  bcast_S_S4096x1024 : S_.BroadcastsInDim S4096x1024 (![] : Fin 0 → Fin S4096x1024.rank)
  bcast_S_S4096x16 : S_.BroadcastsInDim S4096x16 (![] : Fin 0 → Fin S4096x16.rank)
  bcast_S_S16x512 : S_.BroadcastsInDim S16x512 (![] : Fin 0 → Fin S16x512.rank)
  bcast_S_S1x512 : S_.BroadcastsInDim S1x512 (![] : Fin 0 → Fin S1x512.rank)
  bcast_S_S1x256 : S_.BroadcastsInDim S1x256 (![] : Fin 0 → Fin S1x256.rank)

variable [Facts]

def fn_part1 {F : FTy → Type} [FloatOps F] (main_arg5 : FVec F S16x512 .f32) (main_arg6 : FVec F S1x512 .f32) (main_arg7 : FVec F S1x256 .f32) (main_arg8 : FVec F S4096x1024 .bf16) (main_v3 : IVec S4096x512 1) (main_v7 : IVec S4096x512 1) (main_v11 : IVec S4096x1024 1) (main_v15 : IVec S4096x1024 1) (main_v17 : FVec F S4096x16 .f32) (main_v18 : FVec F S4096x16 .f32) : IVec S4096x512 1 × IVec S4096x512 1 × IVec S4096x1024 1 × IVec S4096x1024 1 × IVec S4096x16 1 × IVec S16x512 1 × IVec S1x512 1 × IVec S1x256 1 × IVec S4096x1024 1 :=
  let main_v19 : IVec S4096x16 1 := cmpf .olt main_v17 main_v18
  let main_v20 : FVec F S16x512 .f32 := Host.absf main_arg5
  let main_cst_4 : FVec F S_ .f32 := constant S_ .f32 0x7F800000#32
  let main_v21 : FVec F S16x512 .f32 := broadcastInDim S16x512 ![] bcast_S_S16x512 main_cst_4
  let main_v22 : IVec S16x512 1 := cmpf .olt main_v20 main_v21
  let main_v23 : FVec F S1x512 .f32 := Host.absf main_arg6
  let main_cst_5 : FVec F S_ .f32 := constant S_ .f32 0x7F800000#32
  let main_v24 : FVec F S1x512 .f32 := broadcastInDim S1x512 ![] bcast_S_S1x512 main_cst_5
  let main_v25 : IVec S1x512 1 := cmpf .olt main_v23 main_v24
  let main_v26 : FVec F S1x256 .f32 := Host.absf main_arg7
  let main_cst_6 : FVec F S_ .f32 := constant S_ .f32 0x7F800000#32
  let main_v27 : FVec F S1x256 .f32 := broadcastInDim S1x256 ![] bcast_S_S1x256 main_cst_6
  let main_v28 : IVec S1x256 1 := cmpf .olt main_v26 main_v27
  let main_v29 : FVec F S4096x1024 .f32 := (extf .f32 · bitsLt_bf16_f32) main_arg8
  let main_v30 : FVec F S4096x1024 .f32 := Host.absf main_v29
  let main_cst_7 : FVec F S_ .f32 := constant S_ .f32 0x7F800000#32
  let main_v31 : FVec F S4096x1024 .f32 := broadcastInDim S4096x1024 ![] bcast_S_S4096x1024 main_cst_7
  let main_v32 : IVec S4096x1024 1 := cmpf .olt main_v30 main_v31
  (main_v3, main_v7, main_v11, main_v15, main_v19, main_v22, main_v25, main_v28, main_v32)

def fn {F : FTy → Type} [FloatOps F] (main_arg0 : FVec F S4096x512 .bf16) (main_arg1 : FVec F S4096x512 .bf16) (main_arg2 : FVec F S4096x1024 .bf16) (main_arg3 : FVec F S4096x1024 .bf16) (main_arg4 : FVec F S4096x16 .bf16) (main_arg5 : FVec F S16x512 .f32) (main_arg6 : FVec F S1x512 .f32) (main_arg7 : FVec F S1x256 .f32) (main_arg8 : FVec F S4096x1024 .bf16) : IVec S4096x512 1 × IVec S4096x512 1 × IVec S4096x1024 1 × IVec S4096x1024 1 × IVec S4096x16 1 × IVec S16x512 1 × IVec S1x512 1 × IVec S1x256 1 × IVec S4096x1024 1 :=
  let main_v0 : FVec F S4096x512 .f32 := (extf .f32 · bitsLt_bf16_f32) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_v4 : FVec F S4096x512 .f32 := (extf .f32 · bitsLt_bf16_f32) main_arg1
  let main_v5 : FVec F S4096x512 .f32 := Host.absf main_v4
  let main_cst_0 : FVec F S_ .f32 := constant S_ .f32 0x7F800000#32
  let main_v6 : FVec F S4096x512 .f32 := broadcastInDim S4096x512 ![] bcast_S_S4096x512 main_cst_0
  let main_v7 : IVec S4096x512 1 := cmpf .olt main_v5 main_v6
  let main_v8 : FVec F S4096x1024 .f32 := (extf .f32 · bitsLt_bf16_f32) main_arg2
  let main_v9 : FVec F S4096x1024 .f32 := Host.absf main_v8
  let main_cst_1 : FVec F S_ .f32 := constant S_ .f32 0x7F800000#32
  let main_v10 : FVec F S4096x1024 .f32 := broadcastInDim S4096x1024 ![] bcast_S_S4096x1024 main_cst_1
  let main_v11 : IVec S4096x1024 1 := cmpf .olt main_v9 main_v10
  let main_v12 : FVec F S4096x1024 .f32 := (extf .f32 · bitsLt_bf16_f32) main_arg3
  let main_v13 : FVec F S4096x1024 .f32 := Host.absf main_v12
  let main_cst_2 : FVec F S_ .f32 := constant S_ .f32 0x7F800000#32
  let main_v14 : FVec F S4096x1024 .f32 := broadcastInDim S4096x1024 ![] bcast_S_S4096x1024 main_cst_2
  let main_v15 : IVec S4096x1024 1 := cmpf .olt main_v13 main_v14
  let main_v16 : FVec F S4096x16 .f32 := (extf .f32 · bitsLt_bf16_f32) main_arg4
  let main_v17 : FVec F S4096x16 .f32 := Host.absf main_v16
  let main_cst_3 : FVec F S_ .f32 := constant S_ .f32 0x7F800000#32
  let main_v18 : FVec F S4096x16 .f32 := broadcastInDim S4096x16 ![] bcast_S_S4096x16 main_cst_3
  fn_part1 (F := F) main_arg5 main_arg6 main_arg7 main_arg8 main_v3 main_v7 main_v11 main_v15 main_v17 main_v18
-- ==== Pre_finite2.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S5632x2048 : S_.BroadcastsInDim S5632x2048 (![] : Fin 0 → Fin S5632x2048.rank)
  bcast_S_S4096x5632 : S_.BroadcastsInDim S4096x5632 (![] : Fin 0 → Fin S4096x5632.rank)

variable [Facts]

def fn {F : FTy → Type} [FloatOps F] (main_arg0 : FVec F S4096x2048 .bf16) (main_arg1 : FVec F S5632x2048 .bf16) (main_arg2 : FVec F S4096x5632 .bf16) (main_arg3 : FVec F S4096x5632 .bf16) : IVec S4096x2048 1 × IVec S5632x2048 1 × IVec S4096x5632 1 × IVec S4096x5632 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S5632x2048 .f32 := (extf .f32 · bitsLt_bf16_f32) main_arg1
  let main_v5 : FVec F S5632x2048 .f32 := Host.absf main_v4
  let main_cst_0 : FVec F S_ .f32 := constant S_ .f32 0x7F800000#32
  let main_v6 : FVec F S5632x2048 .f32 := broadcastInDim S5632x2048 ![] bcast_S_S5632x2048 main_cst_0
  let main_v7 : IVec S5632x2048 1 := cmpf .olt main_v5 main_v6
  let main_v8 : FVec F S4096x5632 .f32 := (extf .f32 · bitsLt_bf16_f32) main_arg2
  let main_v9 : FVec F S4096x5632 .f32 := Host.absf main_v8
  let main_cst_1 : FVec F S_ .f32 := constant S_ .f32 0x7F800000#32
  let main_v10 : FVec F S4096x5632 .f32 := broadcastInDim S4096x5632 ![] bcast_S_S4096x5632 main_cst_1
  let main_v11 : IVec S4096x5632 1 := cmpf .olt main_v9 main_v10
  let main_v12 : FVec F S4096x5632 .f32 := (extf .f32 · bitsLt_bf16_f32) main_arg3
  let main_v13 : FVec F S4096x5632 .f32 := Host.absf main_v12
  let main_cst_2 : FVec F S_ .f32 := constant S_ .f32 0x7F800000#32
  let main_v14 : FVec F S4096x5632 .f32 := broadcastInDim S4096x5632 ![] bcast_S_S4096x5632 main_cst_2
  let main_v15 : IVec S4096x5632 1 := cmpf .olt main_v13 main_v14
  (main_v3, main_v7, main_v11, main_v15)
-- ==== Kernel.lean ====
abbrev S4096x512 : Shape := ⟨2, ![4096, 512]⟩
abbrev S4096x1024 : Shape := ⟨2, ![4096, 1024]⟩
abbrev S4096x16 : Shape := ⟨2, ![4096, 16]⟩
abbrev S16x512 : Shape := ⟨2, ![16, 512]⟩
abbrev S1x512 : Shape := ⟨2, ![1, 512]⟩
abbrev S1x256 : Shape := ⟨2, ![1, 256]⟩
abbrev S_ : Shape := ⟨0, ![]⟩
abbrev S64x64x4x128 : Shape := ⟨4, ![64, 64, 4, 128]⟩
abbrev S64x64x4x256 : Shape := ⟨4, ![64, 64, 4, 256]⟩
abbrev S64x1x4x128 : Shape := ⟨4, ![64, 1, 4, 128]⟩
abbrev S64x4x128x256 : Shape := ⟨4, ![64, 4, 128, 256]⟩
abbrev S64x4x128 : Shape := ⟨3, ![64, 4, 128]⟩
abbrev S1x64x4x128 : Shape := ⟨4, ![1, 64, 4, 128]⟩
abbrev S4x128x256x64 : Shape := ⟨4, ![4, 128, 256, 64]⟩
abbrev S64x4x256x64 : Shape := ⟨4, ![64, 4, 256, 64]⟩
abbrev S4x64x256x128 : Shape := ⟨4, ![4, 64, 256, 128]⟩
abbrev S4096x112 : Shape := ⟨2, ![4096, 112]⟩
abbrev S4096x3200 : Shape := ⟨2, ![4096, 3200]⟩
abbrev S128x512 : Shape := ⟨2, ![128, 512]⟩
abbrev S1 : Shape := ⟨1, ![1]⟩
abbrev S512x128 : Shape := ⟨2, ![512, 128]⟩
abbrev S512x256 : Shape := ⟨2, ![512, 256]⟩
abbrev S128x128 : Shape := ⟨2, ![128, 128]⟩
abbrev S1x128 : Shape := ⟨2, ![1, 128]⟩
abbrev S1x8x256x128 : Shape := ⟨4, ![1, 8, 256, 128]⟩
abbrev S1x1x256x128 : Shape := ⟨4, ![1, 1, 256, 128]⟩
abbrev S256x128 : Shape := ⟨2, ![256, 128]⟩
abbrev S64x256 : Shape := ⟨2, ![64, 256]⟩
abbrev S64 : Shape := ⟨1, ![64]⟩
abbrev S64x1 : Shape := ⟨2, ![64, 1]⟩
abbrev S256 : Shape := ⟨1, ![256]⟩
abbrev S64x128 : Shape := ⟨2, ![64, 128]⟩
abbrev S128 : Shape := ⟨1, ![128]⟩
abbrev S64x64 : Shape := ⟨2, ![64, 64]⟩
abbrev S64x384 : Shape := ⟨2, ![64, 384]⟩

abbrev nBuf : Space → Nat
  | .hbm => 93
  | .vmem => 35
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x1024, .bf16⟩
  | .hbm, ⟨3, _⟩ => ⟨S4096x1024, .bf16⟩
  | .hbm, ⟨4, _⟩ => ⟨S4096x16, .bf16⟩
  | .hbm, ⟨5, _⟩ => ⟨S16x512, .f32⟩
  | .hbm, ⟨6, _⟩ => ⟨S1x512, .f32⟩
  | .hbm, ⟨7, _⟩ => ⟨S1x256, .f32⟩
  | .hbm, ⟨8, _⟩ => ⟨S4096x1024, .bf16⟩
  | .hbm, ⟨9, _⟩ => ⟨S4096x512, .f32⟩
  | .hbm, ⟨10, _⟩ => ⟨S4096x512, .f32⟩
  | .hbm, ⟨11, _⟩ => ⟨S4096x1024, .f32⟩
  | .hbm, ⟨12, _⟩ => ⟨S4096x16, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S4096x512, .i1⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S_, .f32⟩
  | .hbm, ⟨33, _⟩ => ⟨S4096x512, .f32⟩
  | .hbm, ⟨34, _⟩ => ⟨S4096x512, .f32⟩
  | .hbm, ⟨35, _⟩ => ⟨S64x64x4x128, .f32⟩
  | .hbm, ⟨36, _⟩ => ⟨S_, .f32⟩
  | .hbm, ⟨37, _⟩ => ⟨S4096x512, .f32⟩
  | .hbm, ⟨38, _⟩ => ⟨S4096x512, .f32⟩
  | .hbm, ⟨39, _⟩ => ⟨S64x64x4x128, .f32⟩
  | .hbm, ⟨40, _⟩ => ⟨S64x64x4x128, .f32⟩
  | .hbm, ⟨41, _⟩ => ⟨S64x64x4x256, .f32⟩
  | .hbm, ⟨42, _⟩ => ⟨S_, .f32⟩
  | .hbm, ⟨43, _⟩ => ⟨S_, .f32⟩
  | .hbm, ⟨44, _⟩ => ⟨S64x64x4x128, .f32⟩
  | .hbm, ⟨45, _⟩ => ⟨S64x1x4x128, .f32⟩
  | .hbm, ⟨46, _⟩ => ⟨S64x64x4x128, .f32⟩
  | .hbm, ⟨47, _⟩ => ⟨S64x64x4x128, .f32⟩
  | .hbm, ⟨48, _⟩ => ⟨S64x64x4x128, .f32⟩
  | .hbm, ⟨49, _⟩ => ⟨S64x64x4x128, .f32⟩
  | .hbm, ⟨50, _⟩ => ⟨S64x4x128x256, .f32⟩
  | .hbm, ⟨51, _⟩ => ⟨S64x4x128, .f32⟩
  | .hbm, ⟨52, _⟩ => ⟨S_, .f32⟩
  | .hbm, ⟨53, _⟩ => ⟨S_, .f32⟩
  | .hbm, ⟨54, _⟩ => ⟨S64x4x128, .f32⟩
  | .hbm, ⟨55, _⟩ => ⟨S64x64x4x128, .i32⟩
  | .hbm, ⟨56, _⟩ => ⟨S64x64x4x128, .i32⟩
  | .hbm, ⟨57, _⟩ => ⟨S64x64x4x128, .i1⟩
  | .hbm, ⟨58, _⟩ => ⟨S64x1x4x128, .f32⟩
  | .hbm, ⟨59, _⟩ => ⟨S1x64x4x128, .f32⟩
  | .hbm, ⟨60, _⟩ => ⟨S64x64x4x128, .f32⟩
  | .hbm, ⟨61, _⟩ => ⟨S64x64x4x128, .f32⟩
  | .hbm, ⟨62, _⟩ => ⟨S64x64x4x128, .f32⟩
  | .hbm, ⟨63, _⟩ => ⟨S_, .f32⟩
  | .hbm, ⟨64, _⟩ => ⟨S_, .f32⟩
  | .hbm, ⟨65, _⟩ => ⟨S64x64x4x128, .f32⟩
  | .hbm, ⟨66, _⟩ => ⟨S64x64x4x128, .f32⟩
  | .hbm, ⟨67, _⟩ => ⟨S64x64x4x128, .f32⟩
  | .hbm, ⟨68, _⟩ => ⟨S_, .f32⟩
  | .hbm, ⟨69, _⟩ => ⟨S_, .f32⟩
  | .hbm, ⟨70, _⟩ => ⟨S64x64x4x128, .f32⟩
  | .hbm, ⟨71, _⟩ => ⟨S64x64x4x128, .f32⟩
  | .hbm, ⟨72, _⟩ => ⟨S4x128x256x64, .f32⟩
  | .hbm, ⟨73, _⟩ => ⟨S64x4x128x256, .f32⟩
  | .hbm, ⟨74, _⟩ => ⟨S64x4x256x64, .f32⟩
  | .hbm, ⟨75, _⟩ => ⟨S64x64x4x256, .f32⟩
  | .hbm, ⟨76, _⟩ => ⟨S4096x1024, .f32⟩
  | .hbm, ⟨77, _⟩ => ⟨S4x64x256x128, .f32⟩
  | .hbm, ⟨78, _⟩ => ⟨S_, .bf16⟩
  | .hbm, ⟨79, _⟩ => ⟨S4096x112, .bf16⟩
  | .hbm, ⟨80, _⟩ => ⟨S4096x3200, .bf16⟩
  | .hbm, ⟨81, _⟩ => ⟨S_, .bf16⟩
  | .hbm, ⟨82, _⟩ => ⟨S128x512, .bf16⟩
  | .hbm, ⟨83, _⟩ => ⟨S16x512, .bf16⟩
  | .hbm, ⟨84, _⟩ => ⟨S_, .i32⟩
  | .hbm, ⟨85, _⟩ => ⟨S1, .i32⟩
  | .hbm, ⟨86, _⟩ => ⟨S128x512, .bf16⟩
  | .hbm, ⟨87, _⟩ => ⟨S4096x512, .bf16⟩
  | .hbm, ⟨88, _⟩ => ⟨S4096x512, .bf16⟩
  | .hbm, ⟨89, _⟩ => ⟨S4096x1024, .bf16⟩
  | .hbm, ⟨90, _⟩ => ⟨S4096x1024, .bf16⟩
  | .hbm, ⟨91, _⟩ => ⟨S4096x512, .f32⟩
  | .hbm, ⟨92, _⟩ => ⟨S1x256, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x128, .bf16⟩
  | .local _ .vmem, ⟨9, _⟩ => ⟨S512x128, .bf16⟩
  | .local _ .vmem, ⟨10, _⟩ => ⟨S128x128, .bf16⟩
  | .local _ .vmem, ⟨11, _⟩ => ⟨S128x128, .bf16⟩
  | .local _ .vmem, ⟨12, _⟩ => ⟨S1x128, .f32⟩
  | .local _ .vmem, ⟨13, _⟩ => ⟨S1x128, .f32⟩
  | .local _ .vmem, ⟨14, _⟩ => ⟨S1x256, .f32⟩
  | .local _ .vmem, ⟨15, _⟩ => ⟨S512x256, .f32⟩
  | .local _ .vmem, ⟨16, _⟩ => ⟨S512x256, .f32⟩
  | .local _ .vmem, ⟨17, _⟩ => ⟨S1x8x256x128, .f32⟩
  | .local _ .vmem, ⟨18, _⟩ => ⟨S1x8x256x128, .f32⟩
  | .local _ .vmem, ⟨19, _⟩ => ⟨S1x1x256x128, .f32⟩
  | .local _ .vmem, ⟨20, _⟩ => ⟨S1x1x256x128, .f32⟩
  | .local _ .vmem, ⟨21, _⟩ => ⟨S512x256, .bf16⟩
  | .local _ .vmem, ⟨22, _⟩ => ⟨S512x256, .bf16⟩
  | .local _ .vmem, ⟨23, _⟩ => ⟨S512x128, .bf16⟩
  | .local _ .vmem, ⟨24, _⟩ => ⟨S512x128, .bf16⟩
  | .local _ .vmem, ⟨25, _⟩ => ⟨S512x128, .bf16⟩
  | .local _ .vmem, ⟨26, _⟩ => ⟨S512x128, .bf16⟩
  | .local _ .vmem, ⟨27, _⟩ => ⟨S512x256, .bf16⟩
  | .local _ .vmem, ⟨28, _⟩ => ⟨S512x256, .bf16⟩
  | .local _ .vmem, ⟨29, _⟩ => ⟨S512x256, .bf16⟩
  | .local _ .vmem, ⟨30, _⟩ => ⟨S512x256, .bf16⟩
  | .local _ .vmem, ⟨31, _⟩ => ⟨S512x128, .f32⟩
  | .local _ .vmem, ⟨32, _⟩ => ⟨S512x128, .f32⟩
  | .local _ .vmem, ⟨33, _⟩ => ⟨S1x256, .f32⟩
  | .local _ .vmem, ⟨34, _⟩ => ⟨S256x128, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v7 : Ref sig .tc := ⟨.hbm, 31, rfl⟩
abbrev main_cst : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst_0 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_call1_call0_cst : Ref sig .tc := ⟨.hbm, 42, rfl⟩
abbrev main_call1_call0_v0 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_call2_call0_cst : Ref sig .tc := ⟨.hbm, 52, rfl⟩
abbrev main_call2_call0_v0 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_1 : Ref sig .tc := ⟨.hbm, 63, rfl⟩
abbrev main_call3_v0 : Ref sig .tc := ⟨.hbm, 64, rfl⟩
abbrev main_call3_v1 : Ref sig .tc := ⟨.hbm, 65, rfl⟩
abbrev main_v33 : Ref sig .tc := ⟨.hbm, 66, rfl⟩
abbrev main_v34 : Ref sig .tc := ⟨.hbm, 67, rfl⟩
abbrev main_cst_2 : Ref sig .tc := ⟨.hbm, 68, rfl⟩
abbrev main_call4_v0 : Ref sig .tc := ⟨.hbm, 69, rfl⟩
abbrev main_call4_v1 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_cst_3 : Ref sig .tc := ⟨.hbm, 78, rfl⟩
abbrev main_v42 : Ref sig .tc := ⟨.hbm, 79, rfl⟩
abbrev main_v43 : Ref sig .tc := ⟨.hbm, 80, rfl⟩
abbrev main_cst_4 : Ref sig .tc := ⟨.hbm, 81, rfl⟩
abbrev main_v44 : Ref sig .tc := ⟨.hbm, 82, rfl⟩
abbrev main_v45 : Ref sig .tc := ⟨.hbm, 83, rfl⟩
abbrev main_c : Ref sig .tc := ⟨.hbm, 84, rfl⟩
abbrev main_v46 : Ref sig .tc := ⟨.hbm, 85, rfl⟩
abbrev main_v47 : Ref sig .tc := ⟨.hbm, 86, rfl⟩
abbrev main_v48_0 : Ref sig .tc := ⟨.hbm, 87, rfl⟩
abbrev main_v48_1 : Ref sig .tc := ⟨.hbm, 88, rfl⟩
abbrev main_v48_2 : Ref sig .tc := ⟨.hbm, 89, rfl⟩
abbrev main_v48_3 : Ref sig .tc := ⟨.hbm, 90, rfl⟩
abbrev main_v48_4 : Ref sig .tc := ⟨.hbm, 91, rfl⟩
abbrev main_v48_5 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c4_i32 : BitVec 32 := 4#32
  let v1 : BitVec 32 := Scalar.addi c4_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c4_i32 : BitVec 32 := 4#32
  let v1 : BitVec 32 := Scalar.addi c4_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c8_i32 : BitVec 32 := 8#32
  let v1 : BitVec 32 := Scalar.addi c8_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c24_i32 : BitVec 32 := 24#32
  let c0_i32 : BitVec 32 := 0#32
  ![v0.toNat, c24_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_9 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  ![arg0.toNat, v3.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_13 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_14 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_15 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_16 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]
-- ==== ReferenceIdeal.lean ====
abbrev S4096x512 : Shape := ⟨2, ![4096, 512]⟩
abbrev S4096x1024 : Shape := ⟨2, ![4096, 1024]⟩
abbrev S4096x16 : Shape := ⟨2, ![4096, 16]⟩
abbrev S16x512 : Shape := ⟨2, ![16, 512]⟩
abbrev S1x512 : Shape := ⟨2, ![1, 512]⟩
abbrev S1x256 : Shape := ⟨2, ![1, 256]⟩
abbrev S_ : Shape := ⟨0, ![]⟩
abbrev S4096x4x128 : Shape := ⟨3, ![4096, 4, 128]⟩
abbrev S64x64x4x128 : Shape := ⟨4, ![64, 64, 4, 128]⟩
abbrev S64x64x4x256 : Shape := ⟨4, ![64, 64, 4, 256]⟩
abbrev S64x1x4x128 : Shape := ⟨4, ![64, 1, 4, 128]⟩
abbrev S64x4x128x256 : Shape := ⟨4, ![64, 4, 128, 256]⟩
abbrev S64x4x128 : Shape := ⟨3, ![64, 4, 128]⟩
abbrev S4x128x256 : Shape := ⟨3, ![4, 128, 256]⟩
abbrev S64x4x128x1 : Shape := ⟨4, ![64, 4, 128, 1]⟩
abbrev S1x4x128 : Shape := ⟨3, ![1, 4, 128]⟩
abbrev S4x128 : Shape := ⟨2, ![4, 128]⟩
abbrev S1x4x128x256 : Shape := ⟨4, ![1, 4, 128, 256]⟩
abbrev S1x64x4x128 : Shape := ⟨4, ![1, 64, 4, 128]⟩
abbrev S4x128x1 : Shape := ⟨3, ![4, 128, 1]⟩
abbrev S4x256x64 : Shape := ⟨3, ![4, 256, 64]⟩
abbrev S64x4x256 : Shape := ⟨3, ![64, 4, 256]⟩
abbrev S1x64x4x256 : Shape := ⟨4, ![1, 64, 4, 256]⟩
abbrev S1x4x128x1 : Shape := ⟨4, ![1, 4, 128, 1]⟩
abbrev S4096x4x256 : Shape := ⟨3, ![4096, 4, 256]⟩
abbrev S4096x4 : Shape := ⟨2, ![4096, 4]⟩
abbrev S4096x4x1 : Shape := ⟨3, ![4096, 4, 1]⟩
abbrev S1x1x256 : Shape := ⟨3, ![1, 1, 256]⟩
abbrev S256 : Shape := ⟨1, ![256]⟩
abbrev S4x64x128 : Shape := ⟨3, ![4, 64, 128]⟩
abbrev S4x256x128 : Shape := ⟨3, ![4, 256, 128]⟩
abbrev S64x4x256x64 : Shape := ⟨4, ![64, 4, 256, 64]⟩
abbrev S64x4x128x64 : Shape := ⟨4, ![64, 4, 128, 64]⟩

abbrev nBuf : Space → Nat
  | .hbm => 343
  | .vmem => 0
  | .smem => 0
  | _ => 0

abbrev hbmTy0_0 (i : Nat) : BufTy := match i % 128 with
  | 0 => ⟨S4096x512, .bf16⟩
  | 1 => ⟨S4096x512, .bf16⟩
  | 2 => ⟨S4096x1024, .bf16⟩
  | 3 => ⟨S4096x1024, .bf16⟩
  | 4 => ⟨S4096x16, .bf16⟩
  | 5 => ⟨S16x512, .f32⟩
  | 6 => ⟨S1x512, .f32⟩
  | 7 => ⟨S1x256, .f32⟩
  | 8 => ⟨S4096x1024, .bf16⟩
  | 9 => ⟨S4096x512, .f32⟩
  | 10 => ⟨S4096x512, .f32⟩
  | 11 => ⟨S4096x1024, .f32⟩
  | 12 => ⟨S4096x1024, .f32⟩
  | 13 => ⟨S4096x16, .f32⟩
  | 14 => ⟨S4096x1024, .f32⟩
  | 15 => ⟨S4096x512, .f32⟩
  | 16 => ⟨S4096x512, .f32⟩
  | 17 => ⟨S4096x512, .f32⟩
  | 18 => ⟨S4096x512, .f32⟩
  | 19 => ⟨S_, .f32⟩
  | 20 => ⟨S4096x512, .f32⟩
  | 21 => ⟨S4096x512, .f32⟩
  | 22 => ⟨S4096x512, .f32⟩
  | 23 => ⟨S4096x512, .f32⟩
  | 24 => ⟨S4096x512, .i1⟩
  | 25 => ⟨S4096x512, .f32⟩
  | 26 => ⟨S4096x512, .f32⟩
  | 27 => ⟨S4096x512, .f32⟩
  | 28 => ⟨S4096x512, .f32⟩
  | 29 => ⟨S4096x512, .f32⟩
  | 30 => ⟨S4096x512, .f32⟩
  | 31 => ⟨S4096x512, .f32⟩
  | 32 => ⟨S4096x512, .f32⟩
  | 33 => ⟨S_, .f32⟩
  | 34 => ⟨S4096x512, .f32⟩
  | 35 => ⟨S4096x512, .i1⟩
  | 36 => ⟨S_, .f32⟩
  | 37 => ⟨S4096x512, .f32⟩
  | 38 => ⟨S4096x512, .f32⟩
  | 39 => ⟨S_, .f32⟩
  | 40 => ⟨S4096x512, .f32⟩
  | 41 => ⟨S4096x512, .i1⟩
  | 42 => ⟨S_, .f32⟩
  | 43 => ⟨S4096x512, .f32⟩
  | 44 => ⟨S4096x512, .f32⟩
  | 45 => ⟨S4096x512, .f32⟩
  | 46 => ⟨S4096x512, .f32⟩
  | 47 => ⟨S_, .f32⟩
  | 48 => ⟨S_, .f32⟩
  | 49 => ⟨S_, .i1⟩
  | 50 => ⟨S_, .f32⟩
  | 51 => ⟨S_, .f32⟩
  | 52 => ⟨S_, .f32⟩
  | 53 => ⟨S_, .f32⟩
  | 54 => ⟨S4096x512, .f32⟩
  | 55 => ⟨S4096x512, .i1⟩
  | 56 => ⟨S_, .f32⟩
  | 57 => ⟨S4096x512, .f32⟩
  | 58 => ⟨S4096x512, .f32⟩
  | 59 => ⟨S4096x512, .f32⟩
  | 60 => ⟨S4096x512, .f32⟩
  | 61 => ⟨S4096x512, .f32⟩
  | 62 => ⟨S_, .f32⟩
  | 63 => ⟨S4096x512, .f32⟩
  | 64 => ⟨S4096x512, .f32⟩
  | 65 => ⟨S4096x512, .f32⟩
  | 66 => ⟨S_, .f32⟩
  | 67 => ⟨S4096x512, .f32⟩
  | 68 => ⟨S4096x512, .f32⟩
  | 69 => ⟨S4096x4x128, .f32⟩
  | 70 => ⟨S_, .f32⟩
  | 71 => ⟨S4096x4x128, .f32⟩
  | 72 => ⟨S4096x4x128, .f32⟩
  | 73 => ⟨S64x64x4x128, .f32⟩
  | 74 => ⟨S64x64x4x128, .f32⟩
  | 75 => ⟨S64x64x4x256, .f32⟩
  | 76 => ⟨S64x64x4x128, .f32⟩
  | 77 => ⟨S_, .f32⟩
  | 78 => ⟨S_, .f32⟩
  | 79 => ⟨S64x64x4x128, .f32⟩
  | 80 => ⟨S64x1x4x128, .f32⟩
  | 81 => ⟨S64x64x4x128, .f32⟩
  | 82 => ⟨S64x64x4x128, .f32⟩
  | 83 => ⟨S64x64x4x128, .f32⟩
  | 84 => ⟨S64x64x4x128, .f32⟩
  | 85 => ⟨S64x4x128x256, .f32⟩
  | 86 => ⟨S64x4x128, .f32⟩
  | 87 => ⟨S64x4x128, .f32⟩
  | 88 => ⟨S_, .f32⟩
  | 89 => ⟨S4x128x256, .f32⟩
  | 90 => ⟨S_, .f32⟩
  | 91 => ⟨S64x64x4x256, .f32⟩
  | 92 => ⟨S_, .f32⟩
  | 93 => ⟨S64x4x128x256, .f32⟩
  | 94 => ⟨S_, .f32⟩
  | 95 => ⟨S64x4x128x1, .f32⟩
  | 96 => ⟨S_, .f32⟩
  | 97 => ⟨S64x4x128x256, .f32⟩
  | 98 => ⟨S_, .i32⟩
  | 99 => ⟨S64x4x128, .f32⟩
  | 100 => ⟨S64x4x128x256, .f32⟩
  | 101 => ⟨S64x64x4x128, .f32⟩
  | 102 => ⟨S_, .i32⟩
  | 103 => ⟨S4x128x256, .f32⟩
  | 104 => ⟨S64x64x4x256, .f32⟩
  | 105 => ⟨S64x4x128x256, .f32⟩
  | 106 => ⟨S64x4x128x1, .f32⟩
  | 107 => ⟨S64x4x128x256, .f32⟩
  | 108 => ⟨S_, .i32⟩
  | 109 => ⟨S_, .i1⟩
  | 110 => ⟨S_, .i32⟩
  | 111 => ⟨S_, .i32⟩
  | 112 => ⟨S1x4x128, .f32⟩
  | 113 => ⟨S4x128, .f32⟩
  | 114 => ⟨S_, .i32⟩
  | 115 => ⟨S_, .i32⟩
  | 116 => ⟨S_, .i32⟩
  | 117 => ⟨S1x4x128x256, .f32⟩
  | 118 => ⟨S4x128x256, .f32⟩
  | 119 => ⟨S_, .i32⟩
  | 120 => ⟨S_, .i32⟩
  | 121 => ⟨S_, .i32⟩
  | 122 => ⟨S1x64x4x128, .f32⟩
  | 123 => ⟨S64x4x128, .f32⟩
  | 124 => ⟨S4x128x1, .f32⟩
  | 125 => ⟨S4x128x256, .f32⟩
  | 126 => ⟨S4x128x256, .f32⟩
  | 127 => ⟨S4x128x256, .f32⟩
  | _ => ⟨S4096x512, .bf16⟩

abbrev hbmTy0_1 (i : Nat) : BufTy := match i % 128 with
  | 0 => ⟨S4x256x64, .f32⟩
  | 1 => ⟨S64x4x256, .f32⟩
  | 2 => ⟨S1x64x4x256, .f32⟩
  | 3 => ⟨S_, .i32⟩
  | 4 => ⟨S_, .i32⟩
  | 5 => ⟨S_, .i32⟩
  | 6 => ⟨S64x64x4x256, .f32⟩
  | 7 => ⟨S1x4x128x256, .f32⟩
  | 8 => ⟨S_, .i32⟩
  | 9 => ⟨S_, .i32⟩
  | 10 => ⟨S_, .i32⟩
  | 11 => ⟨S64x4x128x256, .f32⟩
  | 12 => ⟨S1x4x128x1, .f32⟩
  | 13 => ⟨S_, .i32⟩
  | 14 => ⟨S_, .i32⟩
  | 15 => ⟨S_, .i32⟩
  | 16 => ⟨S64x4x128x1, .f32⟩
  | 17 => ⟨S1x4x128x256, .f32⟩
  | 18 => ⟨S_, .i32⟩
  | 19 => ⟨S_, .i32⟩
  | 20 => ⟨S_, .i32⟩
  | 21 => ⟨S64x4x128x256, .f32⟩
  | 22 => ⟨S_, .i32⟩
  | 23 => ⟨S_, .i32⟩
  | 24 => ⟨S4096x4x256, .f32⟩
  | 25 => ⟨S4096x4x256, .f32⟩
  | 26 => ⟨S_, .f32⟩
  | 27 => ⟨S4096x4x256, .f32⟩
  | 28 => ⟨S4096x4x256, .f32⟩
  | 29 => ⟨S_, .f32⟩
  | 30 => ⟨S4096x4, .f32⟩
  | 31 => ⟨S4096x4x1, .f32⟩
  | 32 => ⟨S_, .f32⟩
  | 33 => ⟨S4096x4x1, .f32⟩
  | 34 => ⟨S4096x4x1, .f32⟩
  | 35 => ⟨S_, .f32⟩
  | 36 => ⟨S4096x4x1, .f32⟩
  | 37 => ⟨S4096x4x1, .f32⟩
  | 38 => ⟨S4096x4x1, .f32⟩
  | 39 => ⟨S4096x4x1, .f32⟩
  | 40 => ⟨S_, .f32⟩
  | 41 => ⟨S4096x4x1, .f32⟩
  | 42 => ⟨S4096x4x1, .f32⟩
  | 43 => ⟨S4096x4x256, .f32⟩
  | 44 => ⟨S4096x4x256, .f32⟩
  | 45 => ⟨S1x1x256, .f32⟩
  | 46 => ⟨S4096x4x256, .f32⟩
  | 47 => ⟨S4096x4x256, .f32⟩
  | 48 => ⟨S4096x1024, .f32⟩
  | 49 => ⟨S4096x1024, .f32⟩
  | 50 => ⟨S4096x1024, .f32⟩
  | 51 => ⟨S_, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S_, .f32⟩
  | 58 => ⟨S4096x1024, .f32⟩
  | 59 => ⟨S4096x1024, .f32⟩
  | 60 => ⟨S4096x1024, .f32⟩
  | 61 => ⟨S4096x1024, .f32⟩
  | 62 => ⟨S4096x1024, .f32⟩
  | 63 => ⟨S_, .f32⟩
  | 64 => ⟨S4x128x256, .f32⟩
  | 65 => ⟨S4096x1024, .f32⟩
  | 66 => ⟨S4096x1024, .f32⟩
  | 67 => ⟨S4096x1024, .f32⟩
  | 68 => ⟨S4096x1024, .f32⟩
  | 69 => ⟨S4096x1024, .f32⟩
  | 70 => ⟨S4096x1024, .f32⟩
  | 71 => ⟨S4096x4x256, .f32⟩
  | 72 => ⟨S4096x4x256, .f32⟩
  | 73 => ⟨S_, .f32⟩
  | 74 => ⟨S256, .f32⟩
  | 75 => ⟨S1x1x256, .f32⟩
  | 76 => ⟨S4096x4x256, .f32⟩
  | 77 => ⟨S4096x4x256, .f32⟩
  | 78 => ⟨S_, .f32⟩
  | 79 => ⟨S256, .f32⟩
  | 80 => ⟨S1x256, .f32⟩
  | 81 => ⟨S4096x4x256, .f32⟩
  | 82 => ⟨S_, .f32⟩
  | 83 => ⟨S4096x4, .f32⟩
  | 84 => ⟨S4096x4x1, .f32⟩
  | 85 => ⟨S4096x4x256, .f32⟩
  | 86 => ⟨S4096x4x256, .f32⟩
  | 87 => ⟨S4096x4x1, .f32⟩
  | 88 => ⟨S_, .f32⟩
  | 89 => ⟨S4096x4x1, .f32⟩
  | 90 => ⟨S4096x4x1, .f32⟩
  | 91 => ⟨S_, .f32⟩
  | 92 => ⟨S4096x4, .f32⟩
  | 93 => ⟨S4096x4x256, .f32⟩
  | 94 => ⟨S4096x4x256, .f32⟩
  | 95 => ⟨S4096x4x256, .f32⟩
  | 96 => ⟨S64x64x4x256, .f32⟩
  | 97 => ⟨S_, .f32⟩
  | 98 => ⟨S4x128x256, .f32⟩
  | 99 => ⟨S_, .f32⟩
  | 100 => ⟨S64x4x128, .f32⟩
  | 101 => ⟨S_, .f32⟩
  | 102 => ⟨S64x4x128x256, .f32⟩
  | 103 => ⟨S_, .f32⟩
  | 104 => ⟨S64x64x4x128, .f32⟩
  | 105 => ⟨S_, .i32⟩
  | 106 => ⟨S64x64x4x256, .f32⟩
  | 107 => ⟨S64x4x128x256, .f32⟩
  | 108 => ⟨S64x4x128x1, .f32⟩
  | 109 => ⟨S64x64x4x128, .f32⟩
  | 110 => ⟨S64x4x128x256, .f32⟩
  | 111 => ⟨S_, .i32⟩
  | 112 => ⟨S4x128x256, .f32⟩
  | 113 => ⟨S64x4x128, .f32⟩
  | 114 => ⟨S64x4x128x256, .f32⟩
  | 115 => ⟨S64x64x4x128, .f32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S1x64x4x256, .f32⟩
  | 126 => ⟨S64x4x256, .f32⟩
  | 127 => ⟨S_, .i32⟩
  | _ => ⟨S4096x512, .bf16⟩

abbrev hbmTy0_2 (i : Nat) : BufTy := match i % 128 with
  | 0 => ⟨S_, .i32⟩
  | 1 => ⟨S_, .i32⟩
  | 2 => ⟨S1x4x128x256, .f32⟩
  | 3 => ⟨S4x128x256, .f32⟩
  | 4 => ⟨S_, .i32⟩
  | 5 => ⟨S_, .i32⟩
  | 6 => ⟨S_, .i32⟩
  | 7 => ⟨S1x4x128x1, .f32⟩
  | 8 => ⟨S4x128x1, .f32⟩
  | 9 => ⟨S_, .i32⟩
  | 10 => ⟨S_, .i32⟩
  | 11 => ⟨S_, .i32⟩
  | 12 => ⟨S1x64x4x128, .f32⟩
  | 13 => ⟨S64x4x128, .f32⟩
  | 14 => ⟨S_, .i32⟩
  | 15 => ⟨S_, .i32⟩
  | 16 => ⟨S_, .i32⟩
  | 17 => ⟨S1x4x128x256, .f32⟩
  | 18 => ⟨S4x128x256, .f32⟩
  | 19 => ⟨S4x256x64, .f32⟩
  | 20 => ⟨S4x64x128, .f32⟩
  | 21 => ⟨S64x4x128, .f32⟩
  | 22 => ⟨S4x256x128, .f32⟩
  | 23 => ⟨S4x128x256, .f32⟩
  | 24 => ⟨S4x128x256, .f32⟩
  | 25 => ⟨S4x128x256, .f32⟩
  | 26 => ⟨S4x128x256, .f32⟩
  | 27 => ⟨S4x128x256, .f32⟩
  | 28 => ⟨S_, .f32⟩
  | 29 => ⟨S4x128, .f32⟩
  | 30 => ⟨S4x128x1, .f32⟩
  | 31 => ⟨S_, .f32⟩
  | 32 => ⟨S4x128, .f32⟩
  | 33 => ⟨S1x4x128, .f32⟩
  | 34 => ⟨S_, .i32⟩
  | 35 => ⟨S_, .i32⟩
  | 36 => ⟨S64x4x128, .f32⟩
  | 37 => ⟨S1x4x128x256, .f32⟩
  | 38 => ⟨S_, .i32⟩
  | 39 => ⟨S_, .i32⟩
  | 40 => ⟨S_, .i32⟩
  | 41 => ⟨S64x4x128x256, .f32⟩
  | 42 => ⟨S1x64x4x128, .f32⟩
  | 43 => ⟨S_, .i32⟩
  | 44 => ⟨S_, .i32⟩
  | 45 => ⟨S_, .i32⟩
  | 46 => ⟨S64x64x4x128, .f32⟩
  | 47 => ⟨S_, .i32⟩
  | 48 => ⟨S_, .i32⟩
  | 49 => ⟨S64x4x128, .f32⟩
  | 50 => ⟨S64x1x4x128, .f32⟩
  | 51 => ⟨S64x4x256x64, .f32⟩
  | 52 => ⟨S64x64x4x256, .f32⟩
  | 53 => ⟨S64x4x128x64, .f32⟩
  | 54 => ⟨S64x64x4x128, .f32⟩
  | 55 => ⟨S64x64x4x128, .f32⟩
  | 56 => ⟨S64x64x4x128, .f32⟩
  | 57 => ⟨S64x64x4x128, .f32⟩
  | 58 => ⟨S_, .f32⟩
  | 59 => ⟨S64x4x128, .f32⟩
  | 60 => ⟨S64x1x4x128, .f32⟩
  | 61 => ⟨S64x64x4x128, .f32⟩
  | 62 => ⟨S64x1x4x128, .f32⟩
  | 63 => ⟨S_, .f32⟩
  | 64 => ⟨S64x64x4x128, .f32⟩
  | 65 => ⟨S64x64x4x128, .f32⟩
  | 66 => ⟨S_, .f32⟩
  | 67 => ⟨S_, .f32⟩
  | 68 => ⟨S64x64x4x128, .f32⟩
  | 69 => ⟨S4096x512, .f32⟩
  | 70 => ⟨S4096x1024, .f32⟩
  | 71 => ⟨S4096x512, .f32⟩
  | 72 => ⟨S4096x4x128, .f32⟩
  | 73 => ⟨S_, .f32⟩
  | 74 => ⟨S4096x4x128, .f32⟩
  | 75 => ⟨S4096x4x128, .f32⟩
  | 76 => ⟨S4096x512, .f32⟩
  | 77 => ⟨S_, .f32⟩
  | 78 => ⟨S4096x512, .f32⟩
  | 79 => ⟨S4096x512, .f32⟩
  | 80 => ⟨S4096x512, .f32⟩
  | 81 => ⟨S4096x512, .f32⟩
  | 82 => ⟨S4096x512, .f32⟩
  | 83 => ⟨S4096x512, .bf16⟩
  | 84 => ⟨S4096x512, .bf16⟩
  | 85 => ⟨S4096x1024, .bf16⟩
  | 86 => ⟨S4096x1024, .bf16⟩
  | _ => ⟨S4096x512, .bf16⟩

abbrev hbmTy (i : Nat) : BufTy := match i / 128 with
  | 0 => hbmTy0_0 i
  | 1 => hbmTy0_1 i
  | 2 => hbmTy0_2 i
  | _ => ⟨S4096x512, .bf16⟩

abbrev bufTy : (tb : Table) → Fin (tcTables nBuf tb) → BufTy
  | .hbm, ⟨i, _⟩ => hbmTy i
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1_0 : Ref sig .tc := ⟨.hbm, 32, rfl⟩
abbrev main_call0_call0_cst_0 : Ref sig .tc := ⟨.hbm, 33, rfl⟩
abbrev main_call0_call0_v13 : Ref sig .tc := ⟨.hbm, 34, rfl⟩
abbrev main_call0_call0_v14 : Ref sig .tc := ⟨.hbm, 35, rfl⟩
abbrev main_call0_call0_cst_1 : Ref sig .tc := ⟨.hbm, 36, rfl⟩
abbrev main_call0_call0_v15 : Ref sig .tc := ⟨.hbm, 37, rfl⟩
abbrev main_call0_call0_v16 : Ref sig .tc := ⟨.hbm, 38, rfl⟩
abbrev main_call0_call0_cst_2 : Ref sig .tc := ⟨.hbm, 39, rfl⟩
abbrev main_call0_call0_v17 : Ref sig .tc := ⟨.hbm, 40, rfl⟩
abbrev main_call0_call0_v18 : Ref sig .tc := ⟨.hbm, 41, rfl⟩
abbrev main_call0_call0_cst_3 : Ref sig .tc := ⟨.hbm, 42, rfl⟩
abbrev main_call0_call0_v19 : Ref sig .tc := ⟨.hbm, 43, rfl⟩
abbrev main_call0_call0_v20 : Ref sig .tc := ⟨.hbm, 44, rfl⟩
abbrev main_call0_call0_v21 : Ref sig .tc := ⟨.hbm, 45, rfl⟩
abbrev main_v9_1 : Ref sig .tc := ⟨.hbm, 46, rfl⟩
abbrev main_call0_call0_cst_4 : Ref sig .tc := ⟨.hbm, 47, rfl⟩
abbrev main_call0_call0_cst_5 : Ref sig .tc := ⟨.hbm, 48, rfl⟩
abbrev main_call0_call0_v23 : Ref sig .tc := ⟨.hbm, 49, rfl⟩
abbrev main_call0_call0_cst_6 : Ref sig .tc := ⟨.hbm, 50, rfl⟩
abbrev main_call0_call0_cst_7 : Ref sig .tc := ⟨.hbm, 51, rfl⟩
abbrev main_call0_call0_v24 : Ref sig .tc := ⟨.hbm, 52, rfl⟩
abbrev main_call0_call0_cst_8 : Ref sig .tc := ⟨.hbm, 53, rfl⟩
abbrev main_call0_call0_v25 : Ref sig .tc := ⟨.hbm, 54, rfl⟩
abbrev main_call0_call0_v26 : Ref sig .tc := ⟨.hbm, 55, rfl⟩
abbrev main_call0_call0_cst_9 : Ref sig .tc := ⟨.hbm, 56, rfl⟩
abbrev main_call0_call0_v27 : Ref sig .tc := ⟨.hbm, 57, rfl⟩
abbrev main_call0_call0_v28 : Ref sig .tc := ⟨.hbm, 58, rfl⟩
abbrev main_call0_call0_v29 : Ref sig .tc := ⟨.hbm, 59, rfl⟩
abbrev main_call0_call0_v30 : Ref sig .tc := ⟨.hbm, 60, rfl⟩
abbrev main_call0_call0_v31 : Ref sig .tc := ⟨.hbm, 61, rfl⟩
abbrev main_call0_call0_cst_10 : Ref sig .tc := ⟨.hbm, 62, rfl⟩
abbrev main_call0_call0_v32 : Ref sig .tc := ⟨.hbm, 63, rfl⟩
abbrev main_v9_2 : Ref sig .tc := ⟨.hbm, 64, rfl⟩
abbrev main_v9_0 : Ref sig .tc := ⟨.hbm, 65, rfl⟩
abbrev main_cst : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_cst_0 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_call1_call0_cst : Ref sig .tc := ⟨.hbm, 77, rfl⟩
abbrev main_call1_call0_v0 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_cst_1 : Ref sig .tc := ⟨.hbm, 88, rfl⟩
abbrev main_v28 : Ref sig .tc := ⟨.hbm, 89, rfl⟩
abbrev main_cst_2 : Ref sig .tc := ⟨.hbm, 90, rfl⟩
abbrev main_v29 : Ref sig .tc := ⟨.hbm, 91, rfl⟩
abbrev main_cst_3 : Ref sig .tc := ⟨.hbm, 92, rfl⟩
abbrev main_v30 : Ref sig .tc := ⟨.hbm, 93, rfl⟩
abbrev main_cst_4 : Ref sig .tc := ⟨.hbm, 94, rfl⟩
abbrev main_v31 : Ref sig .tc := ⟨.hbm, 95, rfl⟩
abbrev main_cst_5 : Ref sig .tc := ⟨.hbm, 96, rfl⟩
abbrev main_v32 : Ref sig .tc := ⟨.hbm, 97, rfl⟩
abbrev main_c : Ref sig .tc := ⟨.hbm, 98, rfl⟩
abbrev main_v33_0 : Ref sig .tc := ⟨.hbm, 99, rfl⟩
abbrev main_v33_1 : Ref sig .tc := ⟨.hbm, 100, rfl⟩
abbrev main_v33_2 : Ref sig .tc := ⟨.hbm, 101, rfl⟩
abbrev main_v33_3 : Ref sig .tc := ⟨.hbm, 102, rfl⟩
abbrev main_v33_4 : Ref sig .tc := ⟨.hbm, 103, rfl⟩
abbrev main_v33_5 : Ref sig .tc := ⟨.hbm, 104, rfl⟩
abbrev main_v33_6 : Ref sig .tc := ⟨.hbm, 105, rfl⟩
abbrev main_v33_7 : Ref sig .tc := ⟨.hbm, 106, rfl⟩
abbrev main_v33_8 : Ref sig .tc := ⟨.hbm, 107, rfl⟩
abbrev main_while0c_c_34 : Ref sig .tc := ⟨.hbm, 108, rfl⟩
abbrev main_while0c_v116 : Ref sig .tc := ⟨.hbm, 109, rfl⟩
abbrev main_while0b_call2_c : Ref sig .tc := ⟨.hbm, 110, rfl⟩
abbrev main_while0b_call2_c_0 : Ref sig .tc := ⟨.hbm, 111, rfl⟩
abbrev main_while0b_call2_v0 : Ref sig .tc := ⟨.hbm, 112, rfl⟩
abbrev main_while0b_v116 : Ref sig .tc := ⟨.hbm, 113, rfl⟩
abbrev main_while0b_call3_c : Ref sig .tc := ⟨.hbm, 114, rfl⟩
abbrev main_while0b_call3_c_0 : Ref sig .tc := ⟨.hbm, 115, rfl⟩
abbrev main_while0b_call3_c_1 : Ref sig .tc := ⟨.hbm, 116, rfl⟩
abbrev main_while0b_call3_v0 : Ref sig .tc := ⟨.hbm, 117, rfl⟩
abbrev main_while0b_v117 : Ref sig .tc := ⟨.hbm, 118, rfl⟩
abbrev main_while0b_call4_c : Ref sig .tc := ⟨.hbm, 119, rfl⟩
abbrev main_while0b_call4_c_0 : Ref sig .tc := ⟨.hbm, 120, rfl⟩
abbrev main_while0b_call4_c_1 : Ref sig .tc := ⟨.hbm, 121, rfl⟩
abbrev main_while0b_call4_v0 : Ref sig .tc := ⟨.hbm, 122, rfl⟩
abbrev main_while0b_v118 : Ref sig .tc := ⟨.hbm, 123, rfl⟩
abbrev main_while0b_v119 : Ref sig .tc := ⟨.hbm, 124, rfl⟩
abbrev main_while0b_v120 : Ref sig .tc := ⟨.hbm, 125, rfl⟩
abbrev main_while0b_v121 : Ref sig .tc := ⟨.hbm, 126, rfl⟩
abbrev main_while0b_v122 : Ref sig .tc := ⟨.hbm, 127, rfl⟩
abbrev main_while0b_v123 : Ref sig .tc := ⟨.hbm, 128, rfl⟩
abbrev main_while0b_v124 : Ref sig .tc := ⟨.hbm, 129, rfl⟩
abbrev main_while0b_call5_v0 : Ref sig .tc := ⟨.hbm, 130, rfl⟩
abbrev main_while0b_call5_c : Ref sig .tc := ⟨.hbm, 131, rfl⟩
abbrev main_while0b_call5_c_0 : Ref sig .tc := ⟨.hbm, 132, rfl⟩
abbrev main_while0b_call5_c_1 : Ref sig .tc := ⟨.hbm, 133, rfl⟩
abbrev main_while0b_v125 : Ref sig .tc := ⟨.hbm, 134, rfl⟩
abbrev main_while0b_call6_v0 : Ref sig .tc := ⟨.hbm, 135, rfl⟩
abbrev main_while0b_call6_c : Ref sig .tc := ⟨.hbm, 136, rfl⟩
abbrev main_while0b_call6_c_0 : Ref sig .tc := ⟨.hbm, 137, rfl⟩
abbrev main_while0b_call6_c_1 : Ref sig .tc := ⟨.hbm, 138, rfl⟩
abbrev main_while0b_v126 : Ref sig .tc := ⟨.hbm, 139, rfl⟩
abbrev main_while0b_call7_v0 : Ref sig .tc := ⟨.hbm, 140, rfl⟩
abbrev main_while0b_call7_c : Ref sig .tc := ⟨.hbm, 141, rfl⟩
abbrev main_while0b_call7_c_0 : Ref sig .tc := ⟨.hbm, 142, rfl⟩
abbrev main_while0b_call7_c_1 : Ref sig .tc := ⟨.hbm, 143, rfl⟩
abbrev main_while0b_v127 : Ref sig .tc := ⟨.hbm, 144, rfl⟩
abbrev main_while0b_call8_v0 : Ref sig .tc := ⟨.hbm, 145, rfl⟩
abbrev main_while0b_call8_c : Ref sig .tc := ⟨.hbm, 146, rfl⟩
abbrev main_while0b_call8_c_0 : Ref sig .tc := ⟨.hbm, 147, rfl⟩
abbrev main_while0b_call8_c_1 : Ref sig .tc := ⟨.hbm, 148, rfl⟩
abbrev main_while0b_v128 : Ref sig .tc := ⟨.hbm, 149, rfl⟩
abbrev main_while0b_c_34 : Ref sig .tc := ⟨.hbm, 150, rfl⟩
abbrev main_while0b_v129 : Ref sig .tc := ⟨.hbm, 151, rfl⟩
abbrev main_v34 : Ref sig .tc := ⟨.hbm, 152, rfl⟩
abbrev main_v35 : Ref sig .tc := ⟨.hbm, 153, rfl⟩
abbrev main_cst_6 : Ref sig .tc := ⟨.hbm, 154, rfl⟩
abbrev main_v36 : Ref sig .tc := ⟨.hbm, 155, rfl⟩
abbrev main_v37 : Ref sig .tc := ⟨.hbm, 156, rfl⟩
abbrev main_cst_7 : Ref sig .tc := ⟨.hbm, 157, rfl⟩
abbrev main_v38 : Ref sig .tc := ⟨.hbm, 158, rfl⟩
abbrev main_v39 : Ref sig .tc := ⟨.hbm, 159, rfl⟩
abbrev main_cst_8 : Ref sig .tc := ⟨.hbm, 160, rfl⟩
abbrev main_v40 : Ref sig .tc := ⟨.hbm, 161, rfl⟩
abbrev main_v41 : Ref sig .tc := ⟨.hbm, 162, rfl⟩
abbrev main_cst_9 : Ref sig .tc := ⟨.hbm, 163, rfl⟩
abbrev main_v42 : Ref sig .tc := ⟨.hbm, 164, rfl⟩
abbrev main_v43 : Ref sig .tc := ⟨.hbm, 165, rfl⟩
abbrev main_v44 : Ref sig .tc := ⟨.hbm, 166, rfl⟩
abbrev main_v45 : Ref sig .tc := ⟨.hbm, 167, rfl⟩
abbrev main_cst_10 : Ref sig .tc := ⟨.hbm, 168, rfl⟩
abbrev main_v46 : Ref sig .tc := ⟨.hbm, 169, rfl⟩
abbrev main_v47 : Ref sig .tc := ⟨.hbm, 170, rfl⟩
abbrev main_v48 : Ref sig .tc := ⟨.hbm, 171, rfl⟩
abbrev main_v49 : Ref sig .tc := ⟨.hbm, 172, rfl⟩
abbrev main_v50 : Ref sig .tc := ⟨.hbm, 173, rfl⟩
abbrev main_v51 : Ref sig .tc := ⟨.hbm, 174, rfl⟩
abbrev main_v52 : Ref sig .tc := ⟨.hbm, 175, rfl⟩
abbrev main_v53 : Ref sig .tc := ⟨.hbm, 176, rfl⟩
abbrev main_call9_v0 : Ref sig .tc := ⟨.hbm, 177, rfl⟩
abbrev main_call9_v1 : Ref sig .tc := ⟨.hbm, 178, rfl⟩
abbrev main_call9_cst : Ref sig .tc := ⟨.hbm, 179, rfl⟩
abbrev main_call9_v2 : Ref sig .tc := ⟨.hbm, 180, rfl⟩
abbrev main_call9_v3 : Ref sig .tc := ⟨.hbm, 181, rfl⟩
abbrev main_call9_cst_0 : Ref sig .tc := ⟨.hbm, 182, rfl⟩
abbrev main_call9_v4 : Ref sig .tc := ⟨.hbm, 183, rfl⟩
abbrev main_v54_2 : Ref sig .tc := ⟨.hbm, 184, rfl⟩
abbrev main_call9_cst_1 : Ref sig .tc := ⟨.hbm, 185, rfl⟩
abbrev main_call9_v6 : Ref sig .tc := ⟨.hbm, 186, rfl⟩
abbrev main_call9_v7 : Ref sig .tc := ⟨.hbm, 187, rfl⟩
abbrev main_v54_1 : Ref sig .tc := ⟨.hbm, 188, rfl⟩
abbrev main_v54_0 : Ref sig .tc := ⟨.hbm, 189, rfl⟩
abbrev main_v55 : Ref sig .tc := ⟨.hbm, 190, rfl⟩
abbrev main_cst_11 : Ref sig .tc := ⟨.hbm, 191, rfl⟩
abbrev main_v56 : Ref sig .tc := ⟨.hbm, 192, rfl⟩
abbrev main_v57 : Ref sig .tc := ⟨.hbm, 193, rfl⟩
abbrev main_v58 : Ref sig .tc := ⟨.hbm, 194, rfl⟩
abbrev main_call10_v0 : Ref sig .tc := ⟨.hbm, 195, rfl⟩
abbrev main_call10_v1 : Ref sig .tc := ⟨.hbm, 196, rfl⟩
abbrev main_call10_v2 : Ref sig .tc := ⟨.hbm, 197, rfl⟩
abbrev main_v59 : Ref sig .tc := ⟨.hbm, 198, rfl⟩
abbrev main_v60 : Ref sig .tc := ⟨.hbm, 199, rfl⟩
abbrev main_v61 : Ref sig .tc := ⟨.hbm, 200, rfl⟩
abbrev main_cst_12 : Ref sig .tc := ⟨.hbm, 201, rfl⟩
abbrev main_v62 : Ref sig .tc := ⟨.hbm, 202, rfl⟩
abbrev main_v63 : Ref sig .tc := ⟨.hbm, 203, rfl⟩
abbrev main_v64 : Ref sig .tc := ⟨.hbm, 204, rfl⟩
abbrev main_v65 : Ref sig .tc := ⟨.hbm, 205, rfl⟩
abbrev main_cst_13 : Ref sig .tc := ⟨.hbm, 206, rfl⟩
abbrev main_v66 : Ref sig .tc := ⟨.hbm, 207, rfl⟩
abbrev main_v67 : Ref sig .tc := ⟨.hbm, 208, rfl⟩
abbrev main_v68 : Ref sig .tc := ⟨.hbm, 209, rfl⟩
abbrev main_cst_14 : Ref sig .tc := ⟨.hbm, 210, rfl⟩
abbrev main_v69 : Ref sig .tc := ⟨.hbm, 211, rfl⟩
abbrev main_v70 : Ref sig .tc := ⟨.hbm, 212, rfl⟩
abbrev main_v71 : Ref sig .tc := ⟨.hbm, 213, rfl⟩
abbrev main_v72 : Ref sig .tc := ⟨.hbm, 214, rfl⟩
abbrev main_v73 : Ref sig .tc := ⟨.hbm, 215, rfl⟩
abbrev main_cst_15 : Ref sig .tc := ⟨.hbm, 216, rfl⟩
abbrev main_v74 : Ref sig .tc := ⟨.hbm, 217, rfl⟩
abbrev main_v75 : Ref sig .tc := ⟨.hbm, 218, rfl⟩
abbrev main_cst_16 : Ref sig .tc := ⟨.hbm, 219, rfl⟩
abbrev main_v76 : Ref sig .tc := ⟨.hbm, 220, rfl⟩
abbrev main_v77 : Ref sig .tc := ⟨.hbm, 221, rfl⟩
abbrev main_v78 : Ref sig .tc := ⟨.hbm, 222, rfl⟩
abbrev main_v79 : Ref sig .tc := ⟨.hbm, 223, rfl⟩
abbrev main_v80 : Ref sig .tc := ⟨.hbm, 224, rfl⟩
abbrev main_cst_17 : Ref sig .tc := ⟨.hbm, 225, rfl⟩
abbrev main_v81 : Ref sig .tc := ⟨.hbm, 226, rfl⟩
abbrev main_cst_18 : Ref sig .tc := ⟨.hbm, 227, rfl⟩
abbrev main_v82 : Ref sig .tc := ⟨.hbm, 228, rfl⟩
abbrev main_cst_19 : Ref sig .tc := ⟨.hbm, 229, rfl⟩
abbrev main_v83 : Ref sig .tc := ⟨.hbm, 230, rfl⟩
abbrev main_cst_20 : Ref sig .tc := ⟨.hbm, 231, rfl⟩
abbrev main_v84 : Ref sig .tc := ⟨.hbm, 232, rfl⟩
abbrev main_c_21 : Ref sig .tc := ⟨.hbm, 233, rfl⟩
abbrev main_v85_0 : Ref sig .tc := ⟨.hbm, 234, rfl⟩
abbrev main_v85_1 : Ref sig .tc := ⟨.hbm, 235, rfl⟩
abbrev main_v85_2 : Ref sig .tc := ⟨.hbm, 236, rfl⟩
abbrev main_v85_3 : Ref sig .tc := ⟨.hbm, 237, rfl⟩
abbrev main_v85_4 : Ref sig .tc := ⟨.hbm, 238, rfl⟩
abbrev main_v85_5 : Ref sig .tc := ⟨.hbm, 239, rfl⟩
abbrev main_v85_6 : Ref sig .tc := ⟨.hbm, 240, rfl⟩
abbrev main_v85_7 : Ref sig .tc := ⟨.hbm, 241, rfl⟩
abbrev main_v85_8 : Ref sig .tc := ⟨.hbm, 242, rfl⟩
abbrev main_v85_9 : Ref sig .tc := ⟨.hbm, 243, rfl⟩
abbrev main_while1c_c_35 : Ref sig .tc := ⟨.hbm, 244, rfl⟩
abbrev main_while1c_v116 : Ref sig .tc := ⟨.hbm, 245, rfl⟩
abbrev main_while1b_c_35 : Ref sig .tc := ⟨.hbm, 246, rfl⟩
abbrev main_while1b_v116 : Ref sig .tc := ⟨.hbm, 247, rfl⟩
abbrev main_while1b_c_36 : Ref sig .tc := ⟨.hbm, 248, rfl⟩
abbrev main_while1b_v117 : Ref sig .tc := ⟨.hbm, 249, rfl⟩
abbrev main_while1b_call11_c : Ref sig .tc := ⟨.hbm, 250, rfl⟩
abbrev main_while1b_call11_c_0 : Ref sig .tc := ⟨.hbm, 251, rfl⟩
abbrev main_while1b_call11_c_1 : Ref sig .tc := ⟨.hbm, 252, rfl⟩
abbrev main_while1b_call11_v0 : Ref sig .tc := ⟨.hbm, 253, rfl⟩
abbrev main_while1b_v118 : Ref sig .tc := ⟨.hbm, 254, rfl⟩
abbrev main_while1b_call12_c : Ref sig .tc := ⟨.hbm, 255, rfl⟩
abbrev main_while1b_call12_c_0 : Ref sig .tc := ⟨.hbm, 256, rfl⟩
abbrev main_while1b_call12_c_1 : Ref sig .tc := ⟨.hbm, 257, rfl⟩
abbrev main_while1b_call12_v0 : Ref sig .tc := ⟨.hbm, 258, rfl⟩
abbrev main_while1b_v119 : Ref sig .tc := ⟨.hbm, 259, rfl⟩
abbrev main_while1b_call13_c : Ref sig .tc := ⟨.hbm, 260, rfl⟩
abbrev main_while1b_call13_c_0 : Ref sig .tc := ⟨.hbm, 261, rfl⟩
abbrev main_while1b_call13_c_1 : Ref sig .tc := ⟨.hbm, 262, rfl⟩
abbrev main_while1b_call13_v0 : Ref sig .tc := ⟨.hbm, 263, rfl⟩
abbrev main_while1b_v120 : Ref sig .tc := ⟨.hbm, 264, rfl⟩
abbrev main_while1b_call14_c : Ref sig .tc := ⟨.hbm, 265, rfl⟩
abbrev main_while1b_call14_c_0 : Ref sig .tc := ⟨.hbm, 266, rfl⟩
abbrev main_while1b_call14_c_1 : Ref sig .tc := ⟨.hbm, 267, rfl⟩
abbrev main_while1b_call14_v0 : Ref sig .tc := ⟨.hbm, 268, rfl⟩
abbrev main_while1b_v121 : Ref sig .tc := ⟨.hbm, 269, rfl⟩
abbrev main_while1b_call15_c : Ref sig .tc := ⟨.hbm, 270, rfl⟩
abbrev main_while1b_call15_c_0 : Ref sig .tc := ⟨.hbm, 271, rfl⟩
abbrev main_while1b_call15_c_1 : Ref sig .tc := ⟨.hbm, 272, rfl⟩
abbrev main_while1b_call15_v0 : Ref sig .tc := ⟨.hbm, 273, rfl⟩
abbrev main_while1b_v122 : Ref sig .tc := ⟨.hbm, 274, rfl⟩
abbrev main_while1b_v123 : Ref sig .tc := ⟨.hbm, 275, rfl⟩
abbrev main_while1b_v124 : Ref sig .tc := ⟨.hbm, 276, rfl⟩
abbrev main_while1b_v125 : Ref sig .tc := ⟨.hbm, 277, rfl⟩
abbrev main_while1b_v126 : Ref sig .tc := ⟨.hbm, 278, rfl⟩
abbrev main_while1b_v127 : Ref sig .tc := ⟨.hbm, 279, rfl⟩
abbrev main_while1b_v128 : Ref sig .tc := ⟨.hbm, 280, rfl⟩
abbrev main_while1b_v129 : Ref sig .tc := ⟨.hbm, 281, rfl⟩
abbrev main_while1b_v130 : Ref sig .tc := ⟨.hbm, 282, rfl⟩
abbrev main_while1b_v131 : Ref sig .tc := ⟨.hbm, 283, rfl⟩
abbrev main_while1b_cst_37 : Ref sig .tc := ⟨.hbm, 284, rfl⟩
abbrev main_while1b_v132 : Ref sig .tc := ⟨.hbm, 285, rfl⟩
abbrev main_while1b_v133 : Ref sig .tc := ⟨.hbm, 286, rfl⟩
abbrev main_while1b_cst_38 : Ref sig .tc := ⟨.hbm, 287, rfl⟩
abbrev main_while1b_v134 : Ref sig .tc := ⟨.hbm, 288, rfl⟩
abbrev main_while1b_call16_v0 : Ref sig .tc := ⟨.hbm, 289, rfl⟩
abbrev main_while1b_call16_c : Ref sig .tc := ⟨.hbm, 290, rfl⟩
abbrev main_while1b_call16_c_0 : Ref sig .tc := ⟨.hbm, 291, rfl⟩
abbrev main_while1b_v135 : Ref sig .tc := ⟨.hbm, 292, rfl⟩
abbrev main_while1b_call17_v0 : Ref sig .tc := ⟨.hbm, 293, rfl⟩
abbrev main_while1b_call17_c : Ref sig .tc := ⟨.hbm, 294, rfl⟩
abbrev main_while1b_call17_c_0 : Ref sig .tc := ⟨.hbm, 295, rfl⟩
abbrev main_while1b_call17_c_1 : Ref sig .tc := ⟨.hbm, 296, rfl⟩
abbrev main_while1b_v136 : Ref sig .tc := ⟨.hbm, 297, rfl⟩
abbrev main_while1b_call18_v0 : Ref sig .tc := ⟨.hbm, 298, rfl⟩
abbrev main_while1b_call18_c : Ref sig .tc := ⟨.hbm, 299, rfl⟩
abbrev main_while1b_call18_c_0 : Ref sig .tc := ⟨.hbm, 300, rfl⟩
abbrev main_while1b_call18_c_1 : Ref sig .tc := ⟨.hbm, 301, rfl⟩
abbrev main_while1b_v137 : Ref sig .tc := ⟨.hbm, 302, rfl⟩
abbrev main_while1b_c_39 : Ref sig .tc := ⟨.hbm, 303, rfl⟩
abbrev main_while1b_v138 : Ref sig .tc := ⟨.hbm, 304, rfl⟩
abbrev main_v86 : Ref sig .tc := ⟨.hbm, 305, rfl⟩
abbrev main_v87 : Ref sig .tc := ⟨.hbm, 306, rfl⟩
abbrev main_v88 : Ref sig .tc := ⟨.hbm, 307, rfl⟩
abbrev main_v89 : Ref sig .tc := ⟨.hbm, 308, rfl⟩
abbrev main_v90 : Ref sig .tc := ⟨.hbm, 309, rfl⟩
abbrev main_v91 : Ref sig .tc := ⟨.hbm, 310, rfl⟩
abbrev main_v92 : Ref sig .tc := ⟨.hbm, 311, rfl⟩
abbrev main_v93 : Ref sig .tc := ⟨.hbm, 312, rfl⟩
abbrev main_v94 : Ref sig .tc := ⟨.hbm, 313, rfl⟩
abbrev main_cst_22 : Ref sig .tc := ⟨.hbm, 314, rfl⟩
abbrev main_v95 : Ref sig .tc := ⟨.hbm, 315, rfl⟩
abbrev main_v96 : Ref sig .tc := ⟨.hbm, 316, rfl⟩
abbrev main_v97 : Ref sig .tc := ⟨.hbm, 317, rfl⟩
abbrev main_v98 : Ref sig .tc := ⟨.hbm, 318, rfl⟩
abbrev main_cst_23 : Ref sig .tc := ⟨.hbm, 319, rfl⟩
abbrev main_v99 : Ref sig .tc := ⟨.hbm, 320, rfl⟩
abbrev main_v100 : Ref sig .tc := ⟨.hbm, 321, rfl⟩
abbrev main_call19_call0_cst : Ref sig .tc := ⟨.hbm, 322, rfl⟩
abbrev main_call19_call0_v0 : Ref sig .tc := ⟨.hbm, 323, rfl⟩
abbrev main_v101 : Ref sig .tc := ⟨.hbm, 324, rfl⟩
abbrev main_v102 : Ref sig .tc := ⟨.hbm, 325, rfl⟩
abbrev main_v103 : Ref sig .tc := ⟨.hbm, 326, rfl⟩
abbrev main_v104 : Ref sig .tc := ⟨.hbm, 327, rfl⟩
abbrev main_v105 : Ref sig .tc := ⟨.hbm, 328, rfl⟩
abbrev main_cst_24 : Ref sig .tc := ⟨.hbm, 329, rfl⟩
abbrev main_v106 : Ref sig .tc := ⟨.hbm, 330, rfl⟩
abbrev main_v107 : Ref sig .tc := ⟨.hbm, 331, rfl⟩
abbrev main_v108 : Ref sig .tc := ⟨.hbm, 332, rfl⟩
abbrev main_cst_25 : Ref sig .tc := ⟨.hbm, 333, rfl⟩
abbrev main_v109 : Ref sig .tc := ⟨.hbm, 334, rfl⟩
abbrev main_v110 : Ref sig .tc := ⟨.hbm, 335, rfl⟩
abbrev main_call20_v0 : Ref sig .tc := ⟨.hbm, 336, rfl⟩
abbrev main_call20_v1 : Ref sig .tc := ⟨.hbm, 337, rfl⟩
abbrev main_v111 : Ref sig .tc := ⟨.hbm, 338, rfl⟩
abbrev main_v112 : Ref sig .tc := ⟨.hbm, 339, rfl⟩
abbrev main_v113 : Ref sig .tc := ⟨.hbm, 340, rfl⟩
abbrev main_v114 : Ref sig .tc := ⟨.hbm, 341, rfl⟩
abbrev main_v115 : Ref sig .tc := ⟨.hbm, 342, rfl⟩

abbrev nD : Nat := 1
abbrev τ : Topo := Topo.v7x

variable {F : FTy → Type} [FloatOps F]

abbrev main_while0_count : Scf.Loop 32 := ⟨0#32, 64#32, 1#32⟩

abbrev main_while1_count : Scf.Loop 32 := ⟨0#32, 64#32, 1#32⟩
-- ==== Kernel2.lean ====
abbrev S4096x2048 : Shape := ⟨2, ![4096, 2048]⟩
abbrev S5632x2048 : Shape := ⟨2, ![5632, 2048]⟩
abbrev S4096x5632 : Shape := ⟨2, ![4096, 5632]⟩
abbrev S2x4096x5632 : Shape := ⟨3, ![2, 4096, 5632]⟩
abbrev S512x2048 : Shape := ⟨2, ![512, 2048]⟩
abbrev S1408x2048 : Shape := ⟨2, ![1408, 2048]⟩
abbrev S512x1408 : Shape := ⟨2, ![512, 1408]⟩
abbrev S2x512x1408 : Shape := ⟨3, ![2, 512, 1408]⟩
abbrev S1x512x1408 : Shape := ⟨3, ![1, 512, 1408]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S2x4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1408x2048, .bf16⟩
  | .local _ .vmem, ⟨3, _⟩ => ⟨S1408x2048, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S2x512x1408, .bf16⟩
  | .local _ .vmem, ⟨9, _⟩ => ⟨S2x512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩
abbrev S1x4096x5632 : Shape := ⟨3, ![1, 4096, 5632]⟩
abbrev S2x4096x5632 : Shape := ⟨3, ![2, 4096, 5632]⟩

abbrev nBuf : Space → Nat
  | .hbm => 34
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S4096x2048, .f32⟩
  | .hbm, ⟨5, _⟩ => ⟨S5632x2048, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S4096x5632, .f32⟩
  | .hbm, ⟨10, _⟩ => ⟨S_, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S_, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x2048, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S1x4096x5632, .f32⟩
  | .hbm, ⟨31, _⟩ => ⟨S1x4096x5632, .f32⟩
  | .hbm, ⟨32, _⟩ => ⟨S2x4096x5632, .f32⟩
  | .hbm, ⟨33, _⟩ => ⟨S2x4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩

abbrev nD : Nat := 1
abbrev τ : Topo := Topo.v7x

variable {F : FTy → Type} [FloatOps F]
-- ==== Kernel3.lean ====
abbrev S4096x2048 : Shape := ⟨2, ![4096, 2048]⟩
abbrev S1x2048 : Shape := ⟨2, ![1, 2048]⟩
abbrev S2x4096x5632 : Shape := ⟨3, ![2, 4096, 5632]⟩
abbrev S8x2048x1408 : Shape := ⟨3, ![8, 2048, 1408]⟩
abbrev S1024x2048 : Shape := ⟨2, ![1024, 2048]⟩
abbrev S1x1024x1408 : Shape := ⟨3, ![1, 1024, 1408]⟩
abbrev S1x2048x1408 : Shape := ⟨3, ![1, 2048, 1408]⟩
abbrev S2048x1408 : Shape := ⟨2, ![2048, 1408]⟩
abbrev S1024x1408 : Shape := ⟨2, ![1024, 1408]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S2x4096x5632, .bf16⟩
  | .hbm, ⟨4, _⟩ => ⟨S8x2048x1408, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1x1024x1408, .bf16⟩
  | .local _ .vmem, ⟨5, _⟩ => ⟨S1x1024x1408, .bf16⟩
  | .local _ .vmem, ⟨6, _⟩ => ⟨S1x2048x1408, .bf16⟩
  | .local _ .vmem, ⟨7, _⟩ => ⟨S1x2048x1408, .bf16⟩
  | .local _ .vmem, ⟨8, _⟩ => ⟨S2048x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_14 : BitVec 32 := 0#32
  let v23 : BitVec 1 := Scalar.cmpi .ne v22 c0_i32_14
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S4096x2048 : Shape := ⟨2, ![4096, 2048]⟩
abbrev S1x2048 : Shape := ⟨2, ![1, 2048]⟩
abbrev S2x4096x5632 : Shape := ⟨3, ![2, 4096, 5632]⟩
abbrev S_ : Shape := ⟨0, ![]⟩
abbrev S1x4096x5632 : Shape := ⟨3, ![1, 4096, 5632]⟩
abbrev S4096x5632 : Shape := ⟨2, ![4096, 5632]⟩
abbrev S4096x11264 : Shape := ⟨2, ![4096, 11264]⟩
abbrev S11264x2048 : Shape := ⟨2, ![11264, 2048]⟩
abbrev S2048x11264 : Shape := ⟨2, ![2048, 11264]⟩
abbrev S2048x8x1408 : Shape := ⟨3, ![2048, 8, 1408]⟩
abbrev S8x2048x1408 : Shape := ⟨3, ![8, 2048, 1408]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S2x4096x5632, .bf16⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S1x4096x5632, .bf16⟩
  | .hbm, ⟨12, _⟩ => ⟨S4096x5632, .bf16⟩
  | .hbm, ⟨13, _⟩ => ⟨S1x4096x5632, .bf16⟩
  | .hbm, ⟨14, _⟩ => ⟨S4096x5632, .bf16⟩
  | .hbm, ⟨15, _⟩ => ⟨S4096x11264, .bf16⟩
  | .hbm, ⟨16, _⟩ => ⟨S4096x11264, .f32⟩
  | .hbm, ⟨17, _⟩ => ⟨S11264x2048, .f32⟩
  | .hbm, ⟨18, _⟩ => ⟨S2048x11264, .f32⟩
  | .hbm, ⟨19, _⟩ => ⟨S2048x8x1408, .f32⟩
  | .hbm, ⟨20, _⟩ => ⟨S8x2048x1408, .f32⟩
  | .hbm, ⟨21, _⟩ => ⟨S8x2048x1408, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel4.lean ====
abbrev S4096x2048 : Shape := ⟨2, ![4096, 2048]⟩
abbrev S1x2048 : Shape := ⟨2, ![1, 2048]⟩
abbrev S8x2048x1408 : Shape := ⟨3, ![8, 2048, 1408]⟩
abbrev S4096x5632 : Shape := ⟨2, ![4096, 5632]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S8x2048x1408, .bf16⟩
  | .hbm, ⟨4, _⟩ => ⟨S4096x5632, .bf16⟩
  | .hbm, ⟨5, _⟩ => ⟨S4096x5632, .bf16⟩
  | .hbm, ⟨6, _⟩ => ⟨S4096x5632, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048x1408, .bf16⟩
  | .local _ .vmem, ⟨5, _⟩ => ⟨S1x2048x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x2048x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S4096x2048 : Shape := ⟨2, ![4096, 2048]⟩
abbrev S1x2048 : Shape := ⟨2, ![1, 2048]⟩
abbrev S8x2048x1408 : Shape := ⟨3, ![8, 2048, 1408]⟩
abbrev S_ : Shape := ⟨0, ![]⟩
abbrev S2048x8x1408 : Shape := ⟨3, ![2048, 8, 1408]⟩
abbrev S2048x11264 : Shape := ⟨2, ![2048, 11264]⟩
abbrev S4096x11264 : Shape := ⟨2, ![4096, 11264]⟩
abbrev S4096x5632 : Shape := ⟨2, ![4096, 5632]⟩

abbrev nBuf : Space → Nat
  | .hbm => 30
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S8x2048x1408, .bf16⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S8x2048x1408, .f32⟩
  | .hbm, ⟨12, _⟩ => ⟨S2048x8x1408, .f32⟩
  | .hbm, ⟨13, _⟩ => ⟨S2048x11264, .f32⟩
  | .hbm, ⟨14, _⟩ => ⟨S4096x11264, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S_, .f32⟩
  | .hbm, ⟨20, _⟩ => ⟨S4096x5632, .f32⟩
  | .hbm, ⟨21, _⟩ => ⟨S4096x5632, .f32⟩
  | .hbm, ⟨22, _⟩ => ⟨S_, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .bf16⟩
  | .hbm, ⟨28, _⟩ => ⟨S4096x5632, .bf16⟩
  | .hbm, ⟨29, _⟩ => ⟨S4096x5632, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩

abbrev nD : Nat := 1
abbrev τ : Topo := Topo.v7x

variable {F : FTy → Type} [FloatOps F]
-- ==== Kernel5.lean ====
abbrev S4096x5632 : Shape := ⟨2, ![4096, 5632]⟩
abbrev S4096x2048 : Shape := ⟨2, ![4096, 2048]⟩
abbrev S5632x2048 : Shape := ⟨2, ![5632, 2048]⟩
abbrev S1024x1408 : Shape := ⟨2, ![1024, 1408]⟩
abbrev S1024x2048 : Shape := ⟨2, ![1024, 2048]⟩
abbrev S1408x2048 : Shape := ⟨2, ![1408, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x2048, .bf16⟩
  | .local _ .vmem, ⟨3, _⟩ => ⟨S1024x2048, .bf16⟩
  | .local _ .vmem, ⟨4, _⟩ => ⟨S1408x2048, .bf16⟩
  | .local _ .vmem, ⟨5, _⟩ => ⟨S1408x2048, .bf16⟩
  | .local _ .vmem, ⟨6, _⟩ => ⟨S1408x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S4096x5632 : Shape := ⟨2, ![4096, 5632]⟩
abbrev S4096x2048 : Shape := ⟨2, ![4096, 2048]⟩
abbrev S2048x5632 : Shape := ⟨2, ![2048, 5632]⟩
abbrev S5632x2048 : Shape := ⟨2, ![5632, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x5632, .f32⟩
  | .hbm, ⟨3, _⟩ => ⟨S4096x2048, .f32⟩
  | .hbm, ⟨4, _⟩ => ⟨S2048x5632, .f32⟩
  | .hbm, ⟨5, _⟩ => ⟨S5632x2048, .f32⟩
  | .hbm, ⟨6, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S4096x10368 : Shape := ⟨2, ![4096, 10368]⟩
abbrev S4096x2048 : Shape := ⟨2, ![4096, 2048]⟩
abbrev S1x2048 : Shape := ⟨2, ![1, 2048]⟩
abbrev S10368x2048 : Shape := ⟨2, ![10368, 2048]⟩
abbrev S1024x1152 : Shape := ⟨2, ![1024, 1152]⟩
abbrev S1024x2048 : Shape := ⟨2, ![1024, 2048]⟩
abbrev S1152x2048 : Shape := ⟨2, ![1152, 2048]⟩

abbrev nBuf : Space → Nat
  | .hbm => 5
  | .vmem => 9
  | .smem => 0
  | _ => 0

abbrev bufTy : (tb : Table) → Fin (tcTables nBuf tb) → BufTy
  | .hbm, ⟨0, _⟩ => ⟨S4096x10368, .bf16⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S10368x2048, .bf16⟩
  | .local _ .vmem, ⟨0, _⟩ => ⟨S1024x1152, .bf16⟩
  | .local _ .vmem, ⟨1, _⟩ => ⟨S1024x1152, .bf16⟩
  | .local _ .vmem, ⟨2, _⟩ => ⟨S1x2048, .f32⟩
  | .local _ .vmem, ⟨3, _⟩ => ⟨S1x2048, .f32⟩
  | .local _ .vmem, ⟨4, _⟩ => ⟨S1024x2048, .f32⟩
  | .local _ .vmem, ⟨5, _⟩ => ⟨S1024x2048, .f32⟩
  | .local _ .vmem, ⟨6, _⟩ => ⟨S1152x2048, .bf16⟩
  | .local _ .vmem, ⟨7, _⟩ => ⟨S1152x2048, .bf16⟩
  | .local _ .vmem, ⟨8, _⟩ => ⟨S1152x2048, .f32⟩
  | _, _ => ⟨S4096x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![9, 4], ![false, false]⟩

def k0_cond2 (i : grid0.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_13 : BitVec 32 := 0#32
  let v22 : BitVec 1 := Scalar.cmpi .ne v21 c0_i32_13
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1152x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference6Ideal.lean ====
abbrev S4096x10368 : Shape := ⟨2, ![4096, 10368]⟩
abbrev S4096x2048 : Shape := ⟨2, ![4096, 2048]⟩
abbrev S1x2048 : Shape := ⟨2, ![1, 2048]⟩
abbrev S_ : Shape := ⟨0, ![]⟩
abbrev S10368x2048 : Shape := ⟨2, ![10368, 2048]⟩
abbrev S2048x10368 : Shape := ⟨2, ![2048, 10368]⟩

abbrev nBuf : Space → Nat
  | .hbm => 16
  | .vmem => 0
  | .smem => 0
  | _ => 0

abbrev bufTy : (tb : Table) → Fin (tcTables nBuf tb) → BufTy
  | .hbm, ⟨0, _⟩ => ⟨S4096x10368, .bf16⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x10368, .f32⟩
  | .hbm, ⟨12, _⟩ => ⟨S10368x2048, .f32⟩
  | .hbm, ⟨13, _⟩ => ⟨S2048x10368, .f32⟩
  | .hbm, ⟨14, _⟩ => ⟨S10368x2048, .f32⟩
  | .hbm, ⟨15, _⟩ => ⟨S10368x2048, .bf16⟩
  | _, _ => ⟨S4096x10368, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel7.lean ====
abbrev S4096x2048 : Shape := ⟨2, ![4096, 2048]⟩
abbrev S1x2048 : Shape := ⟨2, ![1, 2048]⟩
abbrev S10368x2048 : Shape := ⟨2, ![10368, 2048]⟩
abbrev S4096x10368 : Shape := ⟨2, ![4096, 10368]⟩
abbrev S512x2048 : Shape := ⟨2, ![512, 2048]⟩
abbrev S1152x2048 : Shape := ⟨2, ![1152, 2048]⟩
abbrev S512x1152 : Shape := ⟨2, ![512, 1152]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S10368x2048, .bf16⟩
  | .hbm, ⟨4, _⟩ => ⟨S4096x10368, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1152x2048, .bf16⟩
  | .local _ .vmem, ⟨5, _⟩ => ⟨S1152x2048, .bf16⟩
  | .local _ .vmem, ⟨6, _⟩ => ⟨S512x1152, .bf16⟩
  | .local _ .vmem, ⟨7, _⟩ => ⟨S512x1152, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![9, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1152x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1152 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S4096x2048 : Shape := ⟨2, ![4096, 2048]⟩
abbrev S1x2048 : Shape := ⟨2, ![1, 2048]⟩
abbrev S10368x2048 : Shape := ⟨2, ![10368, 2048]⟩
abbrev S_ : Shape := ⟨0, ![]⟩
abbrev S2048x10368 : Shape := ⟨2, ![2048, 10368]⟩
abbrev S4096x10368 : Shape := ⟨2, ![4096, 10368]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S10368x2048, .bf16⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S10368x2048, .f32⟩
  | .hbm, ⟨12, _⟩ => ⟨S2048x10368, .f32⟩
  | .hbm, ⟨13, _⟩ => ⟨S4096x10368, .f32⟩
  | .hbm, ⟨14, _⟩ => ⟨S4096x10368, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel8.lean ====
abbrev S4096x5632 : Shape := ⟨2, ![4096, 5632]⟩
abbrev S5632x2048 : Shape := ⟨2, ![5632, 2048]⟩
abbrev S4096x2048 : Shape := ⟨2, ![4096, 2048]⟩
abbrev S1x2048 : Shape := ⟨2, ![1, 2048]⟩
abbrev S256x5632 : Shape := ⟨2, ![256, 5632]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 14
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S4096x2048, .bf16⟩
  | .hbm, ⟨7, _⟩ => ⟨S4096x2048, .f32⟩
  | .hbm, ⟨8, _⟩ => ⟨S4096x2048, .f32⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .bf16⟩
  | .local _ .vmem, ⟨9, _⟩ => ⟨S256x2048, .bf16⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S4096x5632 : Shape := ⟨2, ![4096, 5632]⟩
abbrev S5632x2048 : Shape := ⟨2, ![5632, 2048]⟩
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 46
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S4096x5632, .f32⟩
  | .hbm, ⟨7, _⟩ => ⟨S5632x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S1x2048, .f32⟩
  | .hbm, ⟨14, _⟩ => ⟨S1x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x2048, .bf16⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Kernel9.lean ====
abbrev S2x4096x5632 : Shape := ⟨3, ![2, 4096, 5632]⟩
abbrev S8x2048x1408 : Shape := ⟨3, ![8, 2048, 1408]⟩
abbrev S4096x2048 : Shape := ⟨2, ![4096, 2048]⟩
abbrev S1x256x5632 : Shape := ⟨3, ![1, 256, 5632]⟩
abbrev S4x2048x1408 : Shape := ⟨3, ![4, 2048, 1408]⟩
abbrev S256x2048 : Shape := ⟨2, ![256, 2048]⟩
abbrev S1x256x1408 : Shape := ⟨3, ![1, 256, 1408]⟩
abbrev S256x1408 : Shape := ⟨2, ![256, 1408]⟩
abbrev S1x2048x1408 : Shape := ⟨3, ![1, 2048, 1408]⟩
abbrev S2048x1408 : Shape := ⟨2, ![2048, 1408]⟩

abbrev nBuf : Space → Nat
  | .hbm => 3
  | .vmem => 5
  | .smem => 0
  | _ => 0

abbrev bufTy : (tb : Table) → Fin (tcTables nBuf tb) → BufTy
  | .hbm, ⟨0, _⟩ => ⟨S2x4096x5632, .bf16⟩
  | .hbm, ⟨1, _⟩ => ⟨S8x2048x1408, .bf16⟩
  | .hbm, ⟨2, _⟩ => ⟨S4096x2048, .f32⟩
  | .local _ .vmem, ⟨0, _⟩ => ⟨S1x256x5632, .bf16⟩
  | .local _ .vmem, ⟨1, _⟩ => ⟨S1x256x5632, .bf16⟩
  | .local _ .vmem, ⟨2, _⟩ => ⟨S4x2048x1408, .bf16⟩
  | .local _ .vmem, ⟨3, _⟩ => ⟨S256x2048, .f32⟩
  | .local _ .vmem, ⟨4, _⟩ => ⟨S256x2048, .f32⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x2048x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S2x4096x5632 : Shape := ⟨3, ![2, 4096, 5632]⟩
abbrev S8x2048x1408 : Shape := ⟨3, ![8, 2048, 1408]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S1x4096x5632 : Shape := ⟨3, ![1, 4096, 5632]⟩
abbrev S4096x5632 : Shape := ⟨2, ![4096, 5632]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S8x2048x1408, .bf16⟩
  | .hbm, ⟨2, _⟩ => ⟨S4x2048x1408, .bf16⟩
  | .hbm, ⟨3, _⟩ => ⟨S4x2048x1408, .f32⟩
  | .hbm, ⟨4, _⟩ => ⟨S2048x4x1408, .f32⟩
  | .hbm, ⟨5, _⟩ => ⟨S2048x5632, .f32⟩
  | .hbm, ⟨6, _⟩ => ⟨S1x4096x5632, .bf16⟩
  | .hbm, ⟨7, _⟩ => ⟨S4096x5632, .bf16⟩
  | .hbm, ⟨8, _⟩ => ⟨S4096x5632, .f32⟩
  | .hbm, ⟨9, _⟩ => ⟨S4096x2048, .f32⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel10.lean ====
abbrev S2x4096x5632 : Shape := ⟨3, ![2, 4096, 5632]⟩
abbrev S8x2048x1408 : Shape := ⟨3, ![8, 2048, 1408]⟩
abbrev S4096x2048 : Shape := ⟨2, ![4096, 2048]⟩
abbrev S1x2048 : Shape := ⟨2, ![1, 2048]⟩
abbrev S1x256x5632 : Shape := ⟨3, ![1, 256, 5632]⟩
abbrev S4x2048x1408 : Shape := ⟨3, ![4, 2048, 1408]⟩
abbrev S256x2048 : Shape := ⟨2, ![256, 2048]⟩
abbrev S1x256x1408 : Shape := ⟨3, ![1, 256, 1408]⟩
abbrev S256x1408 : Shape := ⟨2, ![256, 1408]⟩
abbrev S1x2048x1408 : Shape := ⟨3, ![1, 2048, 1408]⟩
abbrev S2048x1408 : Shape := ⟨2, ![2048, 1408]⟩
abbrev S2048 : Shape := ⟨1, ![2048]⟩

abbrev nBuf : Space → Nat
  | .hbm => 9
  | .vmem => 14
  | .smem => 0
  | _ => 0

abbrev bufTy : (tb : Table) → Fin (tcTables nBuf tb) → BufTy
  | .hbm, ⟨0, _⟩ => ⟨S2x4096x5632, .bf16⟩
  | .hbm, ⟨1, _⟩ => ⟨S8x2048x1408, .bf16⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x2048, .f32⟩
  | .hbm, ⟨6, _⟩ => ⟨S4096x2048, .f32⟩
  | .hbm, ⟨7, _⟩ => ⟨S1x2048, .f32⟩
  | .hbm, ⟨8, _⟩ => ⟨S1x2048, .f32⟩
  | .local _ .vmem, ⟨0, _⟩ => ⟨S1x256x5632, .bf16⟩
  | .local _ .vmem, ⟨1, _⟩ => ⟨S1x256x5632, .bf16⟩
  | .local _ .vmem, ⟨2, _⟩ => ⟨S4x2048x1408, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S1x2048, .f32⟩
  | .local _ .vmem, ⟨13, _⟩ => ⟨S1x2048, .f32⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x2048x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference10Ideal.lean ====
abbrev S2x4096x5632 : Shape := ⟨3, ![2, 4096, 5632]⟩
abbrev S8x2048x1408 : Shape := ⟨3, ![8, 2048, 1408]⟩
abbrev S4096x2048 : Shape := ⟨2, ![4096, 2048]⟩
abbrev S1x2048 : Shape := ⟨2, ![1, 2048]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S1x4096x5632 : Shape := ⟨3, ![1, 4096, 5632]⟩
abbrev S4096x5632 : Shape := ⟨2, ![4096, 5632]⟩
abbrev S_ : Shape := ⟨0, ![]⟩
abbrev S2048 : Shape := ⟨1, ![2048]⟩

abbrev nBuf : Space → Nat
  | .hbm => 40
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S8x2048x1408, .bf16⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x2048, .f32⟩
  | .hbm, ⟨6, _⟩ => ⟨S4x2048x1408, .bf16⟩
  | .hbm, ⟨7, _⟩ => ⟨S4x2048x1408, .f32⟩
  | .hbm, ⟨8, _⟩ => ⟨S2048x4x1408, .f32⟩
  | .hbm, ⟨9, _⟩ => ⟨S2048x5632, .f32⟩
  | .hbm, ⟨10, _⟩ => ⟨S1x4096x5632, .bf16⟩
  | .hbm, ⟨11, _⟩ => ⟨S4096x5632, .bf16⟩
  | .hbm, ⟨12, _⟩ => ⟨S4096x5632, .f32⟩
  | .hbm, ⟨13, _⟩ => ⟨S4096x2048, .f32⟩
  | .hbm, ⟨14, _⟩ => ⟨S_, .f32⟩
  | .hbm, ⟨15, _⟩ => ⟨S1x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S4096x2048, .f32⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Proof.RefOps.lean ====
/- The reference's run: @main is stretches of host operations around two counted loops of 64 trips, the forward and the
   backward pass over the chunks. Every buffer's contents at the end are a fold of the operations. -/
module

public import proofs.«01_k».proof.ReferenceIdeal
public import proofs.«01_k».proof.Proof.Gen.ReferenceIdeal
public import Idealize.ShloMosaic.Lib.StableHlo.RunLoop
public import Idealize.ShloMosaic.Lib.StableHlo.RunRead
public import Idealize.ShloMosaic.Lib.Scf.ExitTest

@[expose] public section

set_option maxRecDepth 16384

noncomputable section

namespace Cert.ReferenceIdeal.Run

open Cert.ReferenceIdeal Cert.ReferenceIdeal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket PCfg ucRefs unscopedBufs_held sub_ucRefs)

variable {F : FTy → Type} [FloatOps F]

local notation "𝕄" => MT nD τ sig Unit (Elt F) ℕ (Option PUnit) ℕ

/-- Operations of this stretch, in order. -/
abbrev pre0 : List (HloOp τ sig (Elt F)) :=
  [ StableHlo.unary main_arg0 main_v0 ((extf .f32 · bitsLt_bf16_f32) : (⟨S4096x512, .bf16⟩ : BufTy).Contents (Elt F) → (⟨S4096x512, .f32⟩ : BufTy).Contents (Elt F)),
    StableHlo.unary main_arg1 main_v1 ((extf .f32 · bitsLt_bf16_f32) : (⟨S4096x512, .bf16⟩ : BufTy).Contents (Elt F) → (⟨S4096x512, .f32⟩ : BufTy).Contents (Elt F)),
    StableHlo.unary main_arg2 main_v2 ((extf .f32 · bitsLt_bf16_f32) : (⟨S4096x1024, .bf16⟩ : BufTy).Contents (Elt F) → (⟨S4096x1024, .f32⟩ : BufTy).Contents (Elt F)),
    StableHlo.unary main_arg3 main_v3 ((extf .f32 · bitsLt_bf16_f32) : (⟨S4096x1024, .bf16⟩ : BufTy).Contents (Elt F) → (⟨S4096x1024, .f32⟩ : BufTy).Contents (Elt F)),
    StableHlo.unary main_arg4 main_v4 ((extf .f32 · bitsLt_bf16_f32) : (⟨S4096x16, .bf16⟩ : BufTy).Contents (Elt F) → (⟨S4096x16, .f32⟩ : BufTy).Contents (Elt F)),
    StableHlo.unary main_arg8 main_v5 ((extf .f32 · bitsLt_bf16_f32) : (⟨S4096x1024, .bf16⟩ : BufTy).Contents (Elt F) → (⟨S4096x1024, .f32⟩ : BufTy).Contents (Elt F)),
    StableHlo.binary main_v4 main_arg5 main_v6 ((fun l r => Host.dotGeneral dot_S4096x16_S16x512_S4096x512_1_0_0_1_n_n none l r) : (⟨S4096x16, .f32⟩ : BufTy).Contents (Elt F) → (⟨S16x512, .f32⟩ : BufTy).Contents (Elt F) → (⟨S4096x512, .f32⟩ : BufTy).Contents (Elt F)),
    StableHlo.unary main_arg6 main_v7 (broadcastInDim S4096x512 ![0, 1] bcast_S1x512_S4096x512_0_1 : (⟨S1x512, .f32⟩ : BufTy).Contents (Elt F) → (⟨S4096x512, .f32⟩ : BufTy).Contents (Elt F)),
    StableHlo.binary main_v6 main_v7 main_v8 (addf : (⟨S4096x512, .f32⟩ : BufTy).Contents (Elt F) → (⟨S4096x512, .f32⟩ : BufTy).Contents (Elt F) → (⟨S4096x512, .f32⟩ : BufTy).Contents (Elt F)) ]
/-- They touch the device's tensor buffers only. -/
theorem pre0_sub : (pre0 : List (HloOp τ sig (Elt F))).Forall fun op => op.bufs ⊆ StableHlo.tcRefs τ sig := ⟨StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.binary_bufs_sub ..⟩
/-- Operations of this stretch, in order. -/
abbrev pre1 : List (HloOp τ sig (Elt F)) :=
  [ StableHlo.TRef.unary (.of main_v8 : StableHlo.TRef sig ⟨S4096x512, .f32⟩) (.of main_call0_v0 : StableHlo.TRef sig ⟨S4096x512, .f32⟩) Host.negf,
    StableHlo.TRef.nullary (.of main_call0_call0_cst : StableHlo.TRef sig ⟨S_, .f32⟩) (constant S_ .f32 0x00000000#32),
    StableHlo.TRef.unary (.of main_call0_call0_cst : StableHlo.TRef sig ⟨S_, .f32⟩) (.of main_call0_call0_v0 : StableHlo.TRef sig ⟨S4096x512, .f32⟩) (broadcastInDim S4096x512 ![] bcast_S_S4096x512),
    StableHlo.TRef.binary (.of main_call0_v0 : StableHlo.TRef sig ⟨S4096x512, .f32⟩) (.of main_call0_call0_v0 : StableHlo.TRef sig ⟨S4096x512, .f32⟩) (.of main_call0_call0_v1 : StableHlo.TRef sig ⟨S4096x512, .f32⟩) maximumf,
    StableHlo.TRef.unary (.of main_call0_call0_cst : StableHlo.TRef sig ⟨S_, .f32⟩) (.of main_call0_call0_v2 : StableHlo.TRef sig ⟨S4096x512, .f32⟩) (broadcastInDim S4096x512 ![] bcast_S_S4096x512),
    StableHlo.TRef.binary (.of main_call0_v0 : StableHlo.TRef sig ⟨S4096x512, .f32⟩) (.of main_call0_call0_v2 : StableHlo.TRef sig ⟨S4096x512, .f32⟩) (.of main_call0_call0_v3 : StableHlo.TRef sig ⟨S4096x512, .f32⟩) subf,
    StableHlo.TRef.binary (.of main_call0_call0_v3 : StableHlo.TRef sig ⟨S4096x512, .f32⟩) (.of main_call0_call0_v3 : StableHlo.TRef sig ⟨S4096x512, .f32⟩) (.of main_call0_call0_v4 : StableHlo.TRef sig ⟨S4096x512, .i1⟩) (cmpf .une),
    StableHlo.TRef.unary (.of main_call0_call0_cst : StableHlo.TRef sig ⟨S_, .f32⟩) (.of main_call0_call0_v5 : StableHlo.TRef sig ⟨S4096x512, .f32⟩) (broadcastInDim S4096x512 ![] bcast_S_S4096x512),
    StableHlo.TRef.binary (.of main_call0_v0 : StableHlo.TRef sig ⟨S4096x512, .f32⟩) (.of main_call0_call0_v5 : StableHlo.TRef sig ⟨S4096x512, .f32⟩) (.of main_call0_call0_v6 : StableHlo.TRef sig ⟨S4096x512, .f32⟩) addf,
    StableHlo.TRef.unary (.of main_call0_call0_v3 : StableHlo.TRef sig ⟨S4096x512, .f32⟩) (.of main_call0_call0_v7 : StableHlo.TRef sig ⟨S4096x512, .f32⟩) Host.absf,
    StableHlo.TRef.unary (.of main_call0_call0_v7 : StableHlo.TRef sig ⟨S4096x512, .f32⟩) (.of main_call0_call0_v8 : StableHlo.TRef sig ⟨S4096x512, .f32⟩) Host.negf,
    StableHlo.TRef.unary (.of main_call0_call0_v8 : StableHlo.TRef sig ⟨S4096x512, .f32⟩) (.of main_call0_call0_v9 : StableHlo.TRef sig ⟨S4096x512, .f32⟩) Host.exp,
    StableHlo.TRef.unary (.of main_call0_call0_v9 : StableHlo.TRef sig ⟨S4096x512, .f32⟩) (.of main_call0_call0_v10 : StableHlo.TRef sig ⟨S4096x512, .f32⟩) Host.log1p,
    StableHlo.TRef.binary (.of main_call0_call0_v1 : StableHlo.TRef sig ⟨S4096x512, .f32⟩) (.of main_call0_call0_v10 : StableHlo.TRef sig ⟨S4096x512, .f32⟩) (.of main_call0_call0_v11 : StableHlo.TRef sig ⟨S4096x512, .f32⟩) addf,
    StableHlo.TRef.ternary (.of main_call0_call0_v4 : StableHlo.TRef sig ⟨S4096x512, .i1⟩) (.of main_call0_call0_v6 : StableHlo.TRef sig ⟨S4096x512, .f32⟩) (.of main_call0_call0_v11 : StableHlo.TRef sig ⟨S4096x512, .f32⟩) (.of main_call0_v1_0 : StableHlo.TRef sig ⟨S4096x512, .f32⟩) select,
    StableHlo.TRef.nullary (.of main_call0_call0_cst_0 : StableHlo.TRef sig ⟨S_, .f32⟩) (constant S_ .f32 0x7F800000#32),
    StableHlo.TRef.unary (.of main_call0_call0_cst_0 : StableHlo.TRef sig ⟨S_, .f32⟩) (.of main_call0_call0_v13 : StableHlo.TRef sig ⟨S4096x512, .f32⟩) (broadcastInDim S4096x512 ![] bcast_S_S4096x512),
    StableHlo.TRef.binary (.of main_call0_v0 : StableHlo.TRef sig ⟨S4096x512, .f32⟩) (.of main_call0_call0_v13 : StableHlo.TRef sig ⟨S4096x512, .f32⟩) (.of main_call0_call0_v14 : StableHlo.TRef sig ⟨S4096x512, .i1⟩) (cmpf .oeq),
    StableHlo.TRef.nullary (.of main_call0_call0_cst_1 : StableHlo.TRef sig ⟨S_, .f32⟩) (constant S_ .f32 0x00000000#32),
    StableHlo.TRef.unary (.of main_call0_call0_cst_1 : StableHlo.TRef sig ⟨S_, .f32⟩) (.of main_call0_call0_v15 : StableHlo.TRef sig ⟨S4096x512, .f32⟩) (broadcastInDim S4096x512 ![] bcast_S_S4096x512),
    StableHlo.TRef.ternary (.of main_call0_call0_v14 : StableHlo.TRef sig ⟨S4096x512, .i1⟩) (.of main_call0_call0_v15 : StableHlo.TRef sig ⟨S4096x512, .f32⟩) (.of main_call0_v0 : StableHlo.TRef sig ⟨S4096x512, .f32⟩) (.of main_call0_call0_v16 : StableHlo.TRef sig ⟨S4096x512, .f32⟩) select,
    StableHlo.TRef.nullary (.of main_call0_call0_cst_2 : StableHlo.TRef sig ⟨S_, .f32⟩) (constant S_ .f32 0x7F800000#32),
    StableHlo.TRef.unary (.of main_call0_call0_cst_2 : StableHlo.TRef sig ⟨S_, .f32⟩) (.of main_call0_call0_v17 : StableHlo.TRef sig ⟨S4096x512, .f32⟩) (broadcastInDim S4096x512 ![] bcast_S_S4096x512),
    StableHlo.TRef.binary (.of main_call0_v1_0 : StableHlo.TRef sig ⟨S4096x512, .f32⟩) (.of main_call0_call0_v17 : StableHlo.TRef sig ⟨S4096x512, .f32⟩) (.of main_call0_call0_v18 : StableHlo.TRef sig ⟨S4096x512, .i1⟩) (cmpf .oeq),
    StableHlo.TRef.nullary (.of main_call0_call0_cst_3 : StableHlo.TRef sig ⟨S_, .f32⟩) (constant S_ .f32 0x00000000#32),
    StableHlo.TRef.unary (.of main_call0_call0_cst_3 : StableHlo.TRef sig ⟨S_, .f32⟩) (.of main_call0_call0_v19 : StableHlo.TRef sig ⟨S4096x512, .f32⟩) (broadcastInDim S4096x512 ![] bcast_S_S4096x512),
    StableHlo.TRef.ternary (.of main_call0_call0_v18 : StableHlo.TRef sig ⟨S4096x512, .i1⟩) (.of main_call0_call0_v19 : StableHlo.TRef sig ⟨S4096x512, .f32⟩) (.of main_call0_v1_0 : StableHlo.TRef sig ⟨S4096x512, .f32⟩) (.of main_call0_call0_v20 : StableHlo.TRef sig ⟨S4096x512, .f32⟩) select,
    StableHlo.TRef.binary (.of main_call0_call0_v16 : StableHlo.TRef sig ⟨S4096x512, .f32⟩) (.of main_call0_call0_v20 : StableHlo.TRef sig ⟨S4096x512, .f32⟩) (.of main_call0_call0_v21 : StableHlo.TRef sig ⟨S4096x512, .f32⟩) subf,
    StableHlo.TRef.unary (.of main_call0_call0_v21 : StableHlo.TRef sig ⟨S4096x512, .f32⟩) (.of main_v9_1 : StableHlo.TRef sig ⟨S4096x512, .f32⟩) Host.exp,
    StableHlo.TRef.nullary (.of main_call0_call0_cst_4 : StableHlo.TRef sig ⟨S_, .f32⟩) (constant S_ .f32 0x00000000#32),
    StableHlo.TRef.nullary (.of main_call0_call0_cst_5 : StableHlo.TRef sig ⟨S_, .f32⟩) (constant S_ .f32 0x7F800000#32),
    StableHlo.TRef.binary (.of main_call0_call0_cst_4 : StableHlo.TRef sig ⟨S_, .f32⟩) (.of main_call0_call0_cst_5 : StableHlo.TRef sig ⟨S_, .f32⟩) (.of main_call0_call0_v23 : StableHlo.TRef sig ⟨S_, .i1⟩) (cmpf .oeq),
    StableHlo.TRef.nullary (.of main_call0_call0_cst_6 : StableHlo.TRef sig ⟨S_, .f32⟩) (constant S_ .f32 0x00000000#32),
    StableHlo.TRef.nullary (.of main_call0_call0_cst_7 : StableHlo.TRef sig ⟨S_, .f32⟩) (constant S_ .f32 0x00000000#32),
    StableHlo.TRef.ternary (.of main_call0_call0_v23 : StableHlo.TRef sig ⟨S_, .i1⟩) (.of main_call0_call0_cst_7 : StableHlo.TRef sig ⟨S_, .f32⟩) (.of main_call0_call0_cst_6 : StableHlo.TRef sig ⟨S_, .f32⟩) (.of main_call0_call0_v24 : StableHlo.TRef sig ⟨S_, .f32⟩) select,
    StableHlo.TRef.nullary (.of main_call0_call0_cst_8 : StableHlo.TRef sig ⟨S_, .f32⟩) (constant S_ .f32 0x7F800000#32),
    StableHlo.TRef.unary (.of main_call0_call0_cst_8 : StableHlo.TRef sig ⟨S_, .f32⟩) (.of main_call0_call0_v25 : StableHlo.TRef sig ⟨S4096x512, .f32⟩) (broadcastInDim S4096x512 ![] bcast_S_S4096x512),
    StableHlo.TRef.binary (.of main_call0_v1_0 : StableHlo.TRef sig ⟨S4096x512, .f32⟩) (.of main_call0_call0_v25 : StableHlo.TRef sig ⟨S4096x512, .f32⟩) (.of main_call0_call0_v26 : StableHlo.TRef sig ⟨S4096x512, .i1⟩) (cmpf .oeq),
    StableHlo.TRef.nullary (.of main_call0_call0_cst_9 : StableHlo.TRef sig ⟨S_, .f32⟩) (constant S_ .f32 0x00000000#32),
    StableHlo.TRef.unary (.of main_call0_call0_cst_9 : StableHlo.TRef sig ⟨S_, .f32⟩) (.of main_call0_call0_v27 : StableHlo.TRef sig ⟨S4096x512, .f32⟩) (broadcastInDim S4096x512 ![] bcast_S_S4096x512),
    StableHlo.TRef.ternary (.of main_call0_call0_v26 : StableHlo.TRef sig ⟨S4096x512, .i1⟩) (.of main_call0_call0_v27 : StableHlo.TRef sig ⟨S4096x512, .f32⟩) (.of main_call0_v1_0 : StableHlo.TRef sig ⟨S4096x512, .f32⟩) (.of main_call0_call0_v28 : StableHlo.TRef sig ⟨S4096x512, .f32⟩) select,
    StableHlo.TRef.unary (.of main_call0_call0_v24 : StableHlo.TRef sig ⟨S_, .f32⟩) (.of main_call0_call0_v29 : StableHlo.TRef sig ⟨S4096x512, .f32⟩) (broadcastInDim S4096x512 ![] bcast_S_S4096x512),
    StableHlo.TRef.binary (.of main_call0_call0_v29 : StableHlo.TRef sig ⟨S4096x512, .f32⟩) (.of main_call0_call0_v28 : StableHlo.TRef sig ⟨S4096x512, .f32⟩) (.of main_call0_call0_v30 : StableHlo.TRef sig ⟨S4096x512, .f32⟩) subf,
    StableHlo.TRef.unary (.of main_call0_call0_v30 : StableHlo.TRef sig ⟨S4096x512, .f32⟩) (.of main_call0_call0_v31 : StableHlo.TRef sig ⟨S4096x512, .f32⟩) Host.exp,
    StableHlo.TRef.nullary (.of main_call0_call0_cst_10 : StableHlo.TRef sig ⟨S_, .f32⟩) (constant S_ .f32 0x00000000#32),
    StableHlo.TRef.unary (.of main_call0_call0_cst_10 : StableHlo.TRef sig ⟨S_, .f32⟩) (.of main_call0_call0_v32 : StableHlo.TRef sig ⟨S4096x512, .f32⟩) (broadcastInDim S4096x512 ![] bcast_S_S4096x512),
    StableHlo.TRef.binary (.of main_call0_call0_v32 : StableHlo.TRef sig ⟨S4096x512, .f32⟩) (.of main_call0_call0_v31 : StableHlo.TRef sig ⟨S4096x512, .f32⟩) (.of main_v9_2 : StableHlo.TRef sig ⟨S4096x512, .f32⟩) mulf,
    StableHlo.TRef.unary (.of main_call0_v1_0 : StableHlo.TRef sig ⟨S4096x512, .f32⟩) (.of main_v9_0 : StableHlo.TRef sig ⟨S4096x512, .f32⟩) Host.negf ]
/-- They touch the device's tensor buffers only. -/
theorem pre1_sub : (pre1 : List (HloOp τ sig (Elt F))).Forall fun op => op.bufs ⊆ StableHlo.tcRefs τ sig := ⟨StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.binary_bufs_sub .., StableHlo.unary_bufs_sub .., StableHlo.nullary_bufs_sub .., StableHlo.nullary_bufs_sub .., StableHlo.binary_bufs_sub .., StableHlo.nullary_bufs_sub .., StableHlo.nullary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub ..⟩
/-- Operations of this stretch, in order. -/
abbrev pre2 : List (HloOp τ sig (Elt F)) :=
  [ StableHlo.nullary main_cst (constant S_ .f32 0x41800000#32),
    StableHlo.unary main_cst main_v10 (broadcastInDim S4096x512 ![] bcast_S_S4096x512 : (⟨S_, .f32⟩ : BufTy).Contents (Elt F) → (⟨S4096x512, .f32⟩ : BufTy).Contents (Elt F)),
    StableHlo.binary main_v9_0 main_v10 main_v11 (Host.divf : (⟨S4096x512, .f32⟩ : BufTy).Contents (Elt F) → (⟨S4096x512, .f32⟩ : BufTy).Contents (Elt F) → (⟨S4096x512, .f32⟩ : BufTy).Contents (Elt F)),
    StableHlo.reshape main_v0 main_v12 (rfl : (.f32 : EltTy) = .f32) shapeCasts_S4096x512_S4096x4x128,
    StableHlo.nullary main_cst_0 (constant S_ .f32 0x3DB504F3#32),
    StableHlo.unary main_cst_0 main_v13 (broadcastInDim S4096x4x128 ![] bcast_S_S4096x4x128 : (⟨S_, .f32⟩ : BufTy).Contents (Elt F) → (⟨S4096x4x128, .f32⟩ : BufTy).Contents (Elt F)),
    StableHlo.binary main_v12 main_v13 main_v14 (mulf : (⟨S4096x4x128, .f32⟩ : BufTy).Contents (Elt F) → (⟨S4096x4x128, .f32⟩ : BufTy).Contents (Elt F) → (⟨S4096x4x128, .f32⟩ : BufTy).Contents (Elt F)),
    StableHlo.reshape main_v14 main_v15 (rfl : (.f32 : EltTy) = .f32) shapeCasts_S4096x4x128_S64x64x4x128,
    StableHlo.reshape main_v1 main_v16 (rfl : (.f32 : EltTy) = .f32) shapeCasts_S4096x512_S64x64x4x128,
    StableHlo.reshape main_v2 main_v17 (rfl : (.f32 : EltTy) = .f32) shapeCasts_S4096x1024_S64x64x4x256,
    StableHlo.reshape main_v11 main_v18 (rfl : (.f32 : EltTy) = .f32) shapeCasts_S4096x512_S64x64x4x128 ]
/-- They touch the device's tensor buffers only. -/
theorem pre2_sub : (pre2 : List (HloOp τ sig (Elt F))).Forall fun op => op.bufs ⊆ StableHlo.tcRefs τ sig := ⟨StableHlo.nullary_bufs_sub .., StableHlo.unary_bufs_sub .., StableHlo.binary_bufs_sub .., StableHlo.reshape_bufs_sub .., StableHlo.nullary_bufs_sub .., StableHlo.unary_bufs_sub .., StableHlo.binary_bufs_sub .., StableHlo.reshape_bufs_sub .., StableHlo.reshape_bufs_sub .., StableHlo.reshape_bufs_sub .., StableHlo.reshape_bufs_sub ..⟩
/-- Operations of this stretch, in order. -/
abbrev pre3 : List (HloOp τ sig (Elt F)) :=
  [ StableHlo.TRef.nullary (.of main_call1_call0_cst : StableHlo.TRef sig ⟨S_, .f32⟩) (constant S_ .f32 0x00000000#32),
    StableHlo.TRef.unary (.of main_call1_call0_cst : StableHlo.TRef sig ⟨S_, .f32⟩) (.of main_call1_call0_v0 : StableHlo.TRef sig ⟨S_, .f32⟩) (broadcastInDim S_ ![] bcast_S_S_),
    StableHlo.TRef.binary (.of main_v18 : StableHlo.TRef sig ⟨S64x64x4x128, .f32⟩) (.of main_call1_call0_v0 : StableHlo.TRef sig ⟨S_, .f32⟩) (.of main_v19 : StableHlo.TRef sig ⟨S64x64x4x128, .f32⟩) (fun x v => Host.reduceWindowAdd ![1, 64, 1, 1] ![1, 1, 1, 1] ![0, 63, 0, 0] ![0, 0, 0, 0] x v reduceWindows_S64x64x4x128_S64x64x4x128_w1s1p0_0_w64s1p63_0_w1s1p0_0_w1s1p0_0 h_S_) ]
/-- They touch the device's tensor buffers only. -/
theorem pre3_sub : (pre3 : List (HloOp τ sig (Elt F))).Forall fun op => op.bufs ⊆ StableHlo.tcRefs τ sig := ⟨StableHlo.nullary_bufs_sub .., StableHlo.unary_bufs_sub .., StableHlo.binary_bufs_sub ..⟩
/-- Operations of this stretch, in order. -/
abbrev pre4 : List (HloOp τ sig (Elt F)) :=
  [ StableHlo.unary main_v19 main_v20 ((extractStridedSlice S64x1x4x128 ![0, 63, 0, 0] · slices_S64x64x4x128_S64x1x4x128_0_63_0_0) : (⟨S64x64x4x128, .f32⟩ : BufTy).Contents (Elt F) → (⟨S64x1x4x128, .f32⟩ : BufTy).Contents (Elt F)),
    StableHlo.unary main_v20 main_v21 (broadcastInDim S64x64x4x128 ![0, 1, 2, 3] bcast_S64x1x4x128_S64x64x4x128_0_1_2_3 : (⟨S64x1x4x128, .f32⟩ : BufTy).Contents (Elt F) → (⟨S64x64x4x128, .f32⟩ : BufTy).Contents (Elt F)),
    StableHlo.binary main_v21 main_v19 main_v22 (subf : (⟨S64x64x4x128, .f32⟩ : BufTy).Contents (Elt F) → (⟨S64x64x4x128, .f32⟩ : BufTy).Contents (Elt F) → (⟨S64x64x4x128, .f32⟩ : BufTy).Contents (Elt F)),
    StableHlo.unary main_v22 main_v23 (Host.exp : (⟨S64x64x4x128, .f32⟩ : BufTy).Contents (Elt F) → (⟨S64x64x4x128, .f32⟩ : BufTy).Contents (Elt F)),
    StableHlo.binary main_v16 main_v23 main_v24 (mulf : (⟨S64x64x4x128, .f32⟩ : BufTy).Contents (Elt F) → (⟨S64x64x4x128, .f32⟩ : BufTy).Contents (Elt F) → (⟨S64x64x4x128, .f32⟩ : BufTy).Contents (Elt F)),
    StableHlo.binary main_v24 main_v17 main_v25 ((fun l r => Host.dotGeneral dot_S64x64x4x128_S64x64x4x256_S64x4x128x256_1_1_3_3_02_02 none l r) : (⟨S64x64x4x128, .f32⟩ : BufTy).Contents (Elt F) → (⟨S64x64x4x256, .f32⟩ : BufTy).Contents (Elt F) → (⟨S64x4x128x256, .f32⟩ : BufTy).Contents (Elt F)),
    StableHlo.reshape main_v20 main_v26 (rfl : (.f32 : EltTy) = .f32) shapeCasts_S64x1x4x128_S64x4x128,
    StableHlo.unary main_v26 main_v27 (Host.exp : (⟨S64x4x128, .f32⟩ : BufTy).Contents (Elt F) → (⟨S64x4x128, .f32⟩ : BufTy).Contents (Elt F)),
    StableHlo.nullary main_cst_1 (constant S_ .f32 0x00000000#32),
    StableHlo.unary main_cst_1 main_v28 (broadcastInDim S4x128x256 ![] bcast_S_S4x128x256 : (⟨S_, .f32⟩ : BufTy).Contents (Elt F) → (⟨S4x128x256, .f32⟩ : BufTy).Contents (Elt F)),
    StableHlo.nullary main_cst_2 (constant S_ .f32 0x00000000#32),
    StableHlo.unary main_cst_2 main_v29 (broadcastInDim S64x64x4x256 ![] bcast_S_S64x64x4x256 : (⟨S_, .f32⟩ : BufTy).Contents (Elt F) → (⟨S64x64x4x256, .f32⟩ : BufTy).Contents (Elt F)),
    StableHlo.nullary main_cst_3 (constant S_ .f32 0x00000000#32),
    StableHlo.unary main_cst_3 main_v30 (broadcastInDim S64x4x128x256 ![] bcast_S_S64x4x128x256 : (⟨S_, .f32⟩ : BufTy).Contents (Elt F) → (⟨S64x4x128x256, .f32⟩ : BufTy).Contents (Elt F)),
    StableHlo.nullary main_cst_4 (constant S_ .f32 0x00000000#32),
    StableHlo.unary main_cst_4 main_v31 (broadcastInDim S64x4x128x1 ![] bcast_S_S64x4x128x1 : (⟨S_, .f32⟩ : BufTy).Contents (Elt F) → (⟨S64x4x128x1, .f32⟩ : BufTy).Contents (Elt F)),
    StableHlo.nullary main_cst_5 (constant S_ .f32 0x00000000#32),
    StableHlo.unary main_cst_5 main_v32 (broadcastInDim S64x4x128x256 ![] bcast_S_S64x4x128x256 : (⟨S_, .f32⟩ : BufTy).Contents (Elt F) → (⟨S64x4x128x256, .f32⟩ : BufTy).Contents (Elt F)),
    StableHlo.nullary main_c (constantI S_ 32 0#32),
    StableHlo.unary main_v27 main_v33_0 id,
    StableHlo.unary main_v25 main_v33_1 id,
    StableHlo.unary main_v15 main_v33_2 id,
    StableHlo.unary main_c main_v33_3 id,
    StableHlo.unary main_v28 main_v33_4 id,
    StableHlo.unary main_v29 main_v33_5 id,
    StableHlo.unary main_v30 main_v33_6 id,
    StableHlo.unary main_v31 main_v33_7 id,
    StableHlo.unary main_v32 main_v33_8 id ]
/-- They touch the device's tensor buffers only. -/
theorem pre4_sub : (pre4 : List (HloOp τ sig (Elt F))).Forall fun op => op.bufs ⊆ StableHlo.tcRefs τ sig := ⟨StableHlo.unary_bufs_sub .., StableHlo.unary_bufs_sub .., StableHlo.binary_bufs_sub .., StableHlo.unary_bufs_sub .., StableHlo.binary_bufs_sub .., StableHlo.binary_bufs_sub .., StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- Operations of this stretch, in order. -/
abbrev mid0 : List (HloOp τ sig (Elt F)) :=
  [ StableHlo.reshape main_v33_5 main_v34 (rfl : (.f32 : EltTy) = .f32) shapeCasts_S64x64x4x256_S4096x4x256,
    StableHlo.binary main_v34 main_v34 main_v35 (mulf : (⟨S4096x4x256, .f32⟩ : BufTy).Contents (Elt F) → (⟨S4096x4x256, .f32⟩ : BufTy).Contents (Elt F) → (⟨S4096x4x256, .f32⟩ : BufTy).Contents (Elt F)),
    StableHlo.nullary main_cst_6 (constant S_ .f32 0x40000000#32),
    StableHlo.unary main_cst_6 main_v36 (broadcastInDim S4096x4x256 ![] bcast_S_S4096x4x256 : (⟨S_, .f32⟩ : BufTy).Contents (Elt F) → (⟨S4096x4x256, .f32⟩ : BufTy).Contents (Elt F)),
    StableHlo.binary main_v36 main_v34 main_v37 (mulf : (⟨S4096x4x256, .f32⟩ : BufTy).Contents (Elt F) → (⟨S4096x4x256, .f32⟩ : BufTy).Contents (Elt F) → (⟨S4096x4x256, .f32⟩ : BufTy).Contents (Elt F)),
    StableHlo.nullary main_cst_7 (constant S_ .f32 0x00000000#32),
    StableHlo.binary main_v35 main_cst_7 main_v38 ((fun x v => Host.reduceAdd x v reducesTo_S4096x4x256_S4096x4_d2 h_S_) : (⟨S4096x4x256, .f32⟩ : BufTy).Contents (Elt F) → (⟨S_, .f32⟩ : BufTy).Contents (Elt F) → (⟨S4096x4, .f32⟩ : BufTy).Contents (Elt F)),
    StableHlo.unary main_v38 main_v39 (broadcastInDim S4096x4x1 ![0, 1] bcast_S4096x4_S4096x4x1_0_1 : (⟨S4096x4, .f32⟩ : BufTy).Contents (Elt F) → (⟨S4096x4x1, .f32⟩ : BufTy).Contents (Elt F)),
    StableHlo.nullary main_cst_8 (constant S_ .f32 0x43800000#32),
    StableHlo.unary main_cst_8 main_v40 (broadcastInDim S4096x4x1 ![] bcast_S_S4096x4x1 : (⟨S_, .f32⟩ : BufTy).Contents (Elt F) → (⟨S4096x4x1, .f32⟩ : BufTy).Contents (Elt F)),
    StableHlo.binary main_v39 main_v40 main_v41 (Host.divf : (⟨S4096x4x1, .f32⟩ : BufTy).Contents (Elt F) → (⟨S4096x4x1, .f32⟩ : BufTy).Contents (Elt F) → (⟨S4096x4x1, .f32⟩ : BufTy).Contents (Elt F)),
    StableHlo.nullary main_cst_9 (constant S_ .f32 0x358637BD#32),
    StableHlo.unary main_cst_9 main_v42 (broadcastInDim S4096x4x1 ![] bcast_S_S4096x4x1 : (⟨S_, .f32⟩ : BufTy).Contents (Elt F) → (⟨S4096x4x1, .f32⟩ : BufTy).Contents (Elt F)),
    StableHlo.binary main_v41 main_v42 main_v43 (addf : (⟨S4096x4x1, .f32⟩ : BufTy).Contents (Elt F) → (⟨S4096x4x1, .f32⟩ : BufTy).Contents (Elt F) → (⟨S4096x4x1, .f32⟩ : BufTy).Contents (Elt F)),
    StableHlo.unary main_v43 main_v44 (Host.rsqrt : (⟨S4096x4x1, .f32⟩ : BufTy).Contents (Elt F) → (⟨S4096x4x1, .f32⟩ : BufTy).Contents (Elt F)),
    StableHlo.binary main_v44 main_v43 main_v45 (Host.divf : (⟨S4096x4x1, .f32⟩ : BufTy).Contents (Elt F) → (⟨S4096x4x1, .f32⟩ : BufTy).Contents (Elt F) → (⟨S4096x4x1, .f32⟩ : BufTy).Contents (Elt F)),
    StableHlo.nullary main_cst_10 (constant S_ .f32 0xBF000000#32),
    StableHlo.unary main_cst_10 main_v46 (broadcastInDim S4096x4x1 ![] bcast_S_S4096x4x1 : (⟨S_, .f32⟩ : BufTy).Contents (Elt F) → (⟨S4096x4x1, .f32⟩ : BufTy).Contents (Elt F)),
    StableHlo.binary main_v46 main_v45 main_v47 (mulf : (⟨S4096x4x1, .f32⟩ : BufTy).Contents (Elt F) → (⟨S4096x4x1, .f32⟩ : BufTy).Contents (Elt F) → (⟨S4096x4x1, .f32⟩ : BufTy).Contents (Elt F)),
    StableHlo.unary main_v44 main_v48 (broadcastInDim S4096x4x256 ![0, 1, 2] bcast_S4096x4x1_S4096x4x256_0_1_2 : (⟨S4096x4x1, .f32⟩ : BufTy).Contents (Elt F) → (⟨S4096x4x256, .f32⟩ : BufTy).Contents (Elt F)),
    StableHlo.binary main_v34 main_v48 main_v49 (mulf : (⟨S4096x4x256, .f32⟩ : BufTy).Contents (Elt F) → (⟨S4096x4x256, .f32⟩ : BufTy).Contents (Elt F) → (⟨S4096x4x256, .f32⟩ : BufTy).Contents (Elt F)),
    StableHlo.unary main_arg7 main_v50 (broadcastInDim S1x1x256 ![1, 2] bcast_S1x256_S1x1x256_1_2 : (⟨S1x256, .f32⟩ : BufTy).Contents (Elt F) → (⟨S1x1x256, .f32⟩ : BufTy).Contents (Elt F)),
    StableHlo.unary main_v50 main_v51 (broadcastInDim S4096x4x256 ![0, 1, 2] bcast_S1x1x256_S4096x4x256_0_1_2 : (⟨S1x1x256, .f32⟩ : BufTy).Contents (Elt F) → (⟨S4096x4x256, .f32⟩ : BufTy).Contents (Elt F)),
    StableHlo.binary main_v49 main_v51 main_v52 (mulf : (⟨S4096x4x256, .f32⟩ : BufTy).Contents (Elt F) → (⟨S4096x4x256, .f32⟩ : BufTy).Contents (Elt F) → (⟨S4096x4x256, .f32⟩ : BufTy).Contents (Elt F)),
    StableHlo.reshape main_v52 main_v53 (rfl : (.f32 : EltTy) = .f32) shapeCasts_S4096x4x256_S4096x1024 ]
/-- They touch the device's tensor buffers only. -/
theorem mid0_sub : (mid0 : List (HloOp τ sig (Elt F))).Forall fun op => op.bufs ⊆ StableHlo.tcRefs τ sig := ⟨StableHlo.reshape_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.reshape_bufs_sub ..⟩
/-- Operations of this stretch, in order. -/
abbrev mid1 : List (HloOp τ sig (Elt F)) :=
  [ StableHlo.TRef.unary (.of main_v3 : StableHlo.TRef sig ⟨S4096x1024, .f32⟩) (.of main_call9_v0 : StableHlo.TRef sig ⟨S4096x1024, .f32⟩) Host.negf,
    StableHlo.TRef.unary (.of main_call9_v0 : StableHlo.TRef sig ⟨S4096x1024, .f32⟩) (.of main_call9_v1 : StableHlo.TRef sig ⟨S4096x1024, .f32⟩) Host.exp,
    StableHlo.TRef.nullary (.of main_call9_cst : StableHlo.TRef sig ⟨S_, .f32⟩) (constant S_ .f32 0x3F800000#32),
    StableHlo.TRef.unary (.of main_call9_cst : StableHlo.TRef sig ⟨S_, .f32⟩) (.of main_call9_v2 : StableHlo.TRef sig ⟨S4096x1024, .f32⟩) (broadcastInDim S4096x1024 ![] bcast_S_S4096x1024),
    StableHlo.TRef.binary (.of main_call9_v2 : StableHlo.TRef sig ⟨S4096x1024, .f32⟩) (.of main_call9_v1 : StableHlo.TRef sig ⟨S4096x1024, .f32⟩) (.of main_call9_v3 : StableHlo.TRef sig ⟨S4096x1024, .f32⟩) addf,
    StableHlo.TRef.nullary (.of main_call9_cst_0 : StableHlo.TRef sig ⟨S_, .f32⟩) (constant S_ .f32 0x3F800000#32),
    StableHlo.TRef.unary (.of main_call9_cst_0 : StableHlo.TRef sig ⟨S_, .f32⟩) (.of main_call9_v4 : StableHlo.TRef sig ⟨S4096x1024, .f32⟩) (broadcastInDim S4096x1024 ![] bcast_S_S4096x1024),
    StableHlo.TRef.binary (.of main_call9_v4 : StableHlo.TRef sig ⟨S4096x1024, .f32⟩) (.of main_call9_v3 : StableHlo.TRef sig ⟨S4096x1024, .f32⟩) (.of main_v54_2 : StableHlo.TRef sig ⟨S4096x1024, .f32⟩) Host.divf,
    StableHlo.TRef.nullary (.of main_call9_cst_1 : StableHlo.TRef sig ⟨S_, .f32⟩) (constant S_ .f32 0x3F800000#32),
    StableHlo.TRef.unary (.of main_call9_cst_1 : StableHlo.TRef sig ⟨S_, .f32⟩) (.of main_call9_v6 : StableHlo.TRef sig ⟨S4096x1024, .f32⟩) (broadcastInDim S4096x1024 ![] bcast_S_S4096x1024),
    StableHlo.TRef.binary (.of main_call9_v6 : StableHlo.TRef sig ⟨S4096x1024, .f32⟩) (.of main_v54_2 : StableHlo.TRef sig ⟨S4096x1024, .f32⟩) (.of main_call9_v7 : StableHlo.TRef sig ⟨S4096x1024, .f32⟩) subf,
    StableHlo.TRef.binary (.of main_v54_2 : StableHlo.TRef sig ⟨S4096x1024, .f32⟩) (.of main_call9_v7 : StableHlo.TRef sig ⟨S4096x1024, .f32⟩) (.of main_v54_1 : StableHlo.TRef sig ⟨S4096x1024, .f32⟩) mulf,
    StableHlo.TRef.binary (.of main_v3 : StableHlo.TRef sig ⟨S4096x1024, .f32⟩) (.of main_v54_2 : StableHlo.TRef sig ⟨S4096x1024, .f32⟩) (.of main_v54_0 : StableHlo.TRef sig ⟨S4096x1024, .f32⟩) mulf ]
/-- They touch the device's tensor buffers only. -/
theorem mid1_sub : (mid1 : List (HloOp τ sig (Elt F))).Forall fun op => op.bufs ⊆ StableHlo.tcRefs τ sig := ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩
/-- Operations of this stretch, in order. -/
abbrev mid2 : List (HloOp τ sig (Elt F)) :=
  [ StableHlo.binary main_v53 main_v54_0 main_v55 (mulf : (⟨S4096x1024, .f32⟩ : BufTy).Contents (Elt F) → (⟨S4096x1024, .f32⟩ : BufTy).Contents (Elt F) → (⟨S4096x1024, .f32⟩ : BufTy).Contents (Elt F)),
    StableHlo.nullary main_cst_11 (constant S_ .f32 0x00000000#32),
    StableHlo.unary main_cst_11 main_v56 (broadcastInDim S4x128x256 ![] bcast_S_S4x128x256 : (⟨S_, .f32⟩ : BufTy).Contents (Elt F) → (⟨S4x128x256, .f32⟩ : BufTy).Contents (Elt F)),
    StableHlo.binary main_v53 main_v5 main_v57 (mulf : (⟨S4096x1024, .f32⟩ : BufTy).Contents (Elt F) → (⟨S4096x1024, .f32⟩ : BufTy).Contents (Elt F) → (⟨S4096x1024, .f32⟩ : BufTy).Contents (Elt F)),
    StableHlo.binary main_v5 main_v54_0 main_v58 (mulf : (⟨S4096x1024, .f32⟩ : BufTy).Contents (Elt F) → (⟨S4096x1024, .f32⟩ : BufTy).Contents (Elt F) → (⟨S4096x1024, .f32⟩ : BufTy).Contents (Elt F)) ]
/-- They touch the device's tensor buffers only. -/
theorem mid2_sub : (mid2 : List (HloOp τ sig (Elt F))).Forall fun op => op.bufs ⊆ StableHlo.tcRefs τ sig := ⟨StableHlo.binary_bufs_sub .., StableHlo.nullary_bufs_sub .., StableHlo.unary_bufs_sub .., StableHlo.binary_bufs_sub .., StableHlo.binary_bufs_sub ..⟩
/-- Operations of this stretch, in order. -/
abbrev mid3 : List (HloOp τ sig (Elt F)) :=
  [ StableHlo.TRef.binary (.of main_v3 : StableHlo.TRef sig ⟨S4096x1024, .f32⟩) (.of main_v57 : StableHlo.TRef sig ⟨S4096x1024, .f32⟩) (.of main_call10_v0 : StableHlo.TRef sig ⟨S4096x1024, .f32⟩) mulf,
    StableHlo.TRef.binary (.of main_v57 : StableHlo.TRef sig ⟨S4096x1024, .f32⟩) (.of main_v54_2 : StableHlo.TRef sig ⟨S4096x1024, .f32⟩) (.of main_call10_v1 : StableHlo.TRef sig ⟨S4096x1024, .f32⟩) mulf,
    StableHlo.TRef.binary (.of main_call10_v0 : StableHlo.TRef sig ⟨S4096x1024, .f32⟩) (.of main_v54_1 : StableHlo.TRef sig ⟨S4096x1024, .f32⟩) (.of main_call10_v2 : StableHlo.TRef sig ⟨S4096x1024, .f32⟩) mulf,
    StableHlo.TRef.binary (.of main_call10_v1 : StableHlo.TRef sig ⟨S4096x1024, .f32⟩) (.of main_call10_v2 : StableHlo.TRef sig ⟨S4096x1024, .f32⟩) (.of main_v59 : StableHlo.TRef sig ⟨S4096x1024, .f32⟩) addf ]
/-- They touch the device's tensor buffers only. -/
theorem mid3_sub : (mid3 : List (HloOp τ sig (Elt F))).Forall fun op => op.bufs ⊆ StableHlo.tcRefs τ sig := ⟨StableHlo.binary_bufs_sub .., StableHlo.binary_bufs_sub .., StableHlo.binary_bufs_sub .., StableHlo.binary_bufs_sub ..⟩
/-- Operations of this stretch, in order. -/
abbrev mid4 : List (HloOp τ sig (Elt F)) :=
  [ StableHlo.reshape main_v58 main_v60 (rfl : (.f32 : EltTy) = .f32) shapeCasts_S4096x1024_S4096x4x256,
    StableHlo.binary main_v49 main_v60 main_v61 (mulf : (⟨S4096x4x256, .f32⟩ : BufTy).Contents (Elt F) → (⟨S4096x4x256, .f32⟩ : BufTy).Contents (Elt F) → (⟨S4096x4x256, .f32⟩ : BufTy).Contents (Elt F)),
    StableHlo.nullary main_cst_12 (constant S_ .f32 0x00000000#32),
    StableHlo.binary main_v61 main_cst_12 main_v62 ((fun x v => Host.reduceAdd x v reducesTo_S4096x4x256_S256_d0_1 h_S_) : (⟨S4096x4x256, .f32⟩ : BufTy).Contents (Elt F) → (⟨S_, .f32⟩ : BufTy).Contents (Elt F) → (⟨S256, .f32⟩ : BufTy).Contents (Elt F)),
    StableHlo.reshape main_v62 main_v63 (rfl : (.f32 : EltTy) = .f32) shapeCasts_S256_S1x1x256,
    StableHlo.unary main_v50 main_v64 (broadcastInDim S4096x4x256 ![0, 1, 2] bcast_S1x1x256_S4096x4x256_0_1_2 : (⟨S1x1x256, .f32⟩ : BufTy).Contents (Elt F) → (⟨S4096x4x256, .f32⟩ : BufTy).Contents (Elt F)),
    StableHlo.binary main_v60 main_v64 main_v65 (mulf : (⟨S4096x4x256, .f32⟩ : BufTy).Contents (Elt F) → (⟨S4096x4x256, .f32⟩ : BufTy).Contents (Elt F) → (⟨S4096x4x256, .f32⟩ : BufTy).Contents (Elt F)),
    StableHlo.nullary main_cst_13 (constant S_ .f32 0x00000000#32),
    StableHlo.binary main_v63 main_cst_13 main_v66 ((fun x v => Host.reduceAdd x v reducesTo_S1x1x256_S256_d0_1 h_S_) : (⟨S1x1x256, .f32⟩ : BufTy).Contents (Elt F) → (⟨S_, .f32⟩ : BufTy).Contents (Elt F) → (⟨S256, .f32⟩ : BufTy).Contents (Elt F)),
    StableHlo.unary main_v66 main_v67 (broadcastInDim S1x256 ![1] bcast_S256_S1x256_1 : (⟨S256, .f32⟩ : BufTy).Contents (Elt F) → (⟨S1x256, .f32⟩ : BufTy).Contents (Elt F)),
    StableHlo.binary main_v34 main_v65 main_v68 (mulf : (⟨S4096x4x256, .f32⟩ : BufTy).Contents (Elt F) → (⟨S4096x4x256, .f32⟩ : BufTy).Contents (Elt F) → (⟨S4096x4x256, .f32⟩ : BufTy).Contents (Elt F)),
    StableHlo.nullary main_cst_14 (constant S_ .f32 0x00000000#32),
    StableHlo.binary main_v68 main_cst_14 main_v69 ((fun x v => Host.reduceAdd x v reducesTo_S4096x4x256_S4096x4_d2 h_S_) : (⟨S4096x4x256, .f32⟩ : BufTy).Contents (Elt F) → (⟨S_, .f32⟩ : BufTy).Contents (Elt F) → (⟨S4096x4, .f32⟩ : BufTy).Contents (Elt F)),
    StableHlo.reshape main_v69 main_v70 (rfl : (.f32 : EltTy) = .f32) shapeCasts_S4096x4_S4096x4x1,
    StableHlo.unary main_v44 main_v71 (broadcastInDim S4096x4x256 ![0, 1, 2] bcast_S4096x4x1_S4096x4x256_0_1_2 : (⟨S4096x4x1, .f32⟩ : BufTy).Contents (Elt F) → (⟨S4096x4x256, .f32⟩ : BufTy).Contents (Elt F)),
    StableHlo.binary main_v65 main_v71 main_v72 (mulf : (⟨S4096x4x256, .f32⟩ : BufTy).Contents (Elt F) → (⟨S4096x4x256, .f32⟩ : BufTy).Contents (Elt F) → (⟨S4096x4x256, .f32⟩ : BufTy).Contents (Elt F)),
    StableHlo.binary main_v70 main_v47 main_v73 (mulf : (⟨S4096x4x1, .f32⟩ : BufTy).Contents (Elt F) → (⟨S4096x4x1, .f32⟩ : BufTy).Contents (Elt F) → (⟨S4096x4x1, .f32⟩ : BufTy).Contents (Elt F)),
    StableHlo.nullary main_cst_15 (constant S_ .f32 0x43800000#32),
    StableHlo.unary main_cst_15 main_v74 (broadcastInDim S4096x4x1 ![] bcast_S_S4096x4x1 : (⟨S_, .f32⟩ : BufTy).Contents (Elt F) → (⟨S4096x4x1, .f32⟩ : BufTy).Contents (Elt F)),
    StableHlo.binary main_v73 main_v74 main_v75 (Host.divf : (⟨S4096x4x1, .f32⟩ : BufTy).Contents (Elt F) → (⟨S4096x4x1, .f32⟩ : BufTy).Contents (Elt F) → (⟨S4096x4x1, .f32⟩ : BufTy).Contents (Elt F)),
    StableHlo.nullary main_cst_16 (constant S_ .f32 0x00000000#32),
    StableHlo.binary main_v75 main_cst_16 main_v76 ((fun x v => Host.reduceAdd x v reducesTo_S4096x4x1_S4096x4_d2 h_S_) : (⟨S4096x4x1, .f32⟩ : BufTy).Contents (Elt F) → (⟨S_, .f32⟩ : BufTy).Contents (Elt F) → (⟨S4096x4, .f32⟩ : BufTy).Contents (Elt F)),
    StableHlo.unary main_v76 main_v77 (broadcastInDim S4096x4x256 ![0, 1] bcast_S4096x4_S4096x4x256_0_1 : (⟨S4096x4, .f32⟩ : BufTy).Contents (Elt F) → (⟨S4096x4x256, .f32⟩ : BufTy).Contents (Elt F)),
    StableHlo.binary main_v77 main_v37 main_v78 (mulf : (⟨S4096x4x256, .f32⟩ : BufTy).Contents (Elt F) → (⟨S4096x4x256, .f32⟩ : BufTy).Contents (Elt F) → (⟨S4096x4x256, .f32⟩ : BufTy).Contents (Elt F)),
    StableHlo.binary main_v72 main_v78 main_v79 (addf : (⟨S4096x4x256, .f32⟩ : BufTy).Contents (Elt F) → (⟨S4096x4x256, .f32⟩ : BufTy).Contents (Elt F) → (⟨S4096x4x256, .f32⟩ : BufTy).Contents (Elt F)),
    StableHlo.reshape main_v79 main_v80 (rfl : (.f32 : EltTy) = .f32) shapeCasts_S4096x4x256_S64x64x4x256,
    StableHlo.nullary main_cst_17 (constant S_ .f32 0x00000000#32),
    StableHlo.unary main_cst_17 main_v81 (broadcastInDim S4x128x256 ![] bcast_S_S4x128x256 : (⟨S_, .f32⟩ : BufTy).Contents (Elt F) → (⟨S4x128x256, .f32⟩ : BufTy).Contents (Elt F)),
    StableHlo.nullary main_cst_18 (constant S_ .f32 0x00000000#32),
    StableHlo.unary main_cst_18 main_v82 (broadcastInDim S64x4x128 ![] bcast_S_S64x4x128 : (⟨S_, .f32⟩ : BufTy).Contents (Elt F) → (⟨S64x4x128, .f32⟩ : BufTy).Contents (Elt F)),
    StableHlo.nullary main_cst_19 (constant S_ .f32 0x00000000#32),
    StableHlo.unary main_cst_19 main_v83 (broadcastInDim S64x4x128x256 ![] bcast_S_S64x4x128x256 : (⟨S_, .f32⟩ : BufTy).Contents (Elt F) → (⟨S64x4x128x256, .f32⟩ : BufTy).Contents (Elt F)),
    StableHlo.nullary main_cst_20 (constant S_ .f32 0x00000000#32),
    StableHlo.unary main_cst_20 main_v84 (broadcastInDim S64x64x4x128 ![] bcast_S_S64x64x4x128 : (⟨S_, .f32⟩ : BufTy).Contents (Elt F) → (⟨S64x64x4x128, .f32⟩ : BufTy).Contents (Elt F)),
    StableHlo.nullary main_c_21 (constantI S_ 32 0#32),
    StableHlo.unary main_v80 main_v85_0 id,
    StableHlo.unary main_v33_6 main_v85_1 id,
    StableHlo.unary main_v33_7 main_v85_2 id,
    StableHlo.unary main_v15 main_v85_3 id,
    StableHlo.unary main_v33_8 main_v85_4 id,
    StableHlo.unary main_c_21 main_v85_5 id,
    StableHlo.unary main_v81 main_v85_6 id,
    StableHlo.unary main_v82 main_v85_7 id,
    StableHlo.unary main_v83 main_v85_8 id,
    StableHlo.unary main_v84 main_v85_9 id ]
/-- They touch the device's tensor buffers only. -/
theorem mid4_sub : (mid4 : List (HloOp τ sig (Elt F))).Forall fun op => op.bufs ⊆ StableHlo.tcRefs τ sig := ⟨StableHlo.reshape_bufs_sub .., StableHlo.binary_bufs_sub .., StableHlo.nullary_bufs_sub .., StableHlo.binary_bufs_sub .., StableHlo.reshape_bufs_sub .., StableHlo.unary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.reshape_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- Operations of this stretch, in order. -/
abbrev post0 : List (HloOp τ sig (Elt F)) :=
  [ StableHlo.binary main_v85_7 main_v27 main_v86 (mulf : (⟨S64x4x128, .f32⟩ : BufTy).Contents (Elt F) → (⟨S64x4x128, .f32⟩ : BufTy).Contents (Elt F) → (⟨S64x4x128, .f32⟩ : BufTy).Contents (Elt F)),
    StableHlo.unary main_v86 main_v87 (broadcastInDim S64x1x4x128 ![0, 2, 3] bcast_S64x4x128_S64x1x4x128_0_2_3 : (⟨S64x4x128, .f32⟩ : BufTy).Contents (Elt F) → (⟨S64x1x4x128, .f32⟩ : BufTy).Contents (Elt F)),
    StableHlo.binary main_v85_8 main_v24 main_v88 ((fun l r => Host.dotGeneral dot_S64x4x128x256_S64x64x4x128_S64x4x256x64_2_3_3_1_01_02 none l r) : (⟨S64x4x128x256, .f32⟩ : BufTy).Contents (Elt F) → (⟨S64x64x4x128, .f32⟩ : BufTy).Contents (Elt F) → (⟨S64x4x256x64, .f32⟩ : BufTy).Contents (Elt F)),
    StableHlo.unary main_v88 main_v89 ((transpose S64x64x4x256 [0, 3, 1, 2] · transposes_S64x4x256x64_S64x64x4x256_0_3_1_2) : (⟨S64x4x256x64, .f32⟩ : BufTy).Contents (Elt F) → (⟨S64x64x4x256, .f32⟩ : BufTy).Contents (Elt F)),
    StableHlo.binary main_v85_8 main_v17 main_v90 ((fun l r => Host.dotGeneral dot_S64x4x128x256_S64x64x4x256_S64x4x128x64_3_3_2_1_01_02 none l r) : (⟨S64x4x128x256, .f32⟩ : BufTy).Contents (Elt F) → (⟨S64x64x4x256, .f32⟩ : BufTy).Contents (Elt F) → (⟨S64x4x128x64, .f32⟩ : BufTy).Contents (Elt F)),
    StableHlo.unary main_v90 main_v91 ((transpose S64x64x4x128 [0, 3, 1, 2] · transposes_S64x4x128x64_S64x64x4x128_0_3_1_2) : (⟨S64x4x128x64, .f32⟩ : BufTy).Contents (Elt F) → (⟨S64x64x4x128, .f32⟩ : BufTy).Contents (Elt F)),
    StableHlo.binary main_v16 main_v91 main_v92 (mulf : (⟨S64x64x4x128, .f32⟩ : BufTy).Contents (Elt F) → (⟨S64x64x4x128, .f32⟩ : BufTy).Contents (Elt F) → (⟨S64x64x4x128, .f32⟩ : BufTy).Contents (Elt F)),
    StableHlo.binary main_v91 main_v23 main_v93 (mulf : (⟨S64x64x4x128, .f32⟩ : BufTy).Contents (Elt F) → (⟨S64x64x4x128, .f32⟩ : BufTy).Contents (Elt F) → (⟨S64x64x4x128, .f32⟩ : BufTy).Contents (Elt F)),
    StableHlo.binary main_v92 main_v23 main_v94 (mulf : (⟨S64x64x4x128, .f32⟩ : BufTy).Contents (Elt F) → (⟨S64x64x4x128, .f32⟩ : BufTy).Contents (Elt F) → (⟨S64x64x4x128, .f32⟩ : BufTy).Contents (Elt F)),
    StableHlo.nullary main_cst_22 (constant S_ .f32 0x00000000#32),
    StableHlo.binary main_v94 main_cst_22 main_v95 ((fun x v => Host.reduceAdd x v reducesTo_S64x64x4x128_S64x4x128_d1 h_S_) : (⟨S64x64x4x128, .f32⟩ : BufTy).Contents (Elt F) → (⟨S_, .f32⟩ : BufTy).Contents (Elt F) → (⟨S64x4x128, .f32⟩ : BufTy).Contents (Elt F)),
    StableHlo.reshape main_v95 main_v96 (rfl : (.f32 : EltTy) = .f32) shapeCasts_S64x4x128_S64x1x4x128,
    StableHlo.unary main_v94 main_v97 (Host.negf : (⟨S64x64x4x128, .f32⟩ : BufTy).Contents (Elt F) → (⟨S64x64x4x128, .f32⟩ : BufTy).Contents (Elt F)),
    StableHlo.binary main_v87 main_v96 main_v98 (addf : (⟨S64x1x4x128, .f32⟩ : BufTy).Contents (Elt F) → (⟨S64x1x4x128, .f32⟩ : BufTy).Contents (Elt F) → (⟨S64x1x4x128, .f32⟩ : BufTy).Contents (Elt F)),
    StableHlo.nullary main_cst_23 (constant S_ .f32 0x00000000#32),
    StableHlo.binary main_v98 main_cst_23 main_v99 ((fun x v => pad S64x64x4x128 ![0, 63, 0, 0] ![0, 0, 0, 0] ![0, 0, 0, 0] x v pads_S64x1x4x128_S64x64x4x128_000_6300_000_000 h_S_) : (⟨S64x1x4x128, .f32⟩ : BufTy).Contents (Elt F) → (⟨S_, .f32⟩ : BufTy).Contents (Elt F) → (⟨S64x64x4x128, .f32⟩ : BufTy).Contents (Elt F)),
    StableHlo.binary main_v97 main_v99 main_v100 (addf : (⟨S64x64x4x128, .f32⟩ : BufTy).Contents (Elt F) → (⟨S64x64x4x128, .f32⟩ : BufTy).Contents (Elt F) → (⟨S64x64x4x128, .f32⟩ : BufTy).Contents (Elt F)) ]
/-- They touch the device's tensor buffers only. -/
theorem post0_sub : (post0 : List (HloOp τ sig (Elt F))).Forall fun op => op.bufs ⊆ StableHlo.tcRefs τ sig := ⟨StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.binary_bufs_sub .., StableHlo.nullary_bufs_sub .., StableHlo.binary_bufs_sub .., StableHlo.reshape_bufs_sub .., StableHlo.unary_bufs_sub .., StableHlo.binary_bufs_sub .., StableHlo.nullary_bufs_sub .., StableHlo.binary_bufs_sub .., StableHlo.binary_bufs_sub ..⟩
/-- Operations of this stretch, in order. -/
abbrev post1 : List (HloOp τ sig (Elt F)) :=
  [ StableHlo.TRef.nullary (.of main_call19_call0_cst : StableHlo.TRef sig ⟨S_, .f32⟩) (constant S_ .f32 0x00000000#32),
    StableHlo.TRef.unary (.of main_call19_call0_cst : StableHlo.TRef sig ⟨S_, .f32⟩) (.of main_call19_call0_v0 : StableHlo.TRef sig ⟨S_, .f32⟩) (broadcastInDim S_ ![] bcast_S_S_),
    StableHlo.TRef.binary (.of main_v100 : StableHlo.TRef sig ⟨S64x64x4x128, .f32⟩) (.of main_call19_call0_v0 : StableHlo.TRef sig ⟨S_, .f32⟩) (.of main_v101 : StableHlo.TRef sig ⟨S64x64x4x128, .f32⟩) (fun x v => Host.reduceWindowAdd ![1, 64, 1, 1] ![1, 1, 1, 1] ![0, 0, 0, 0] ![0, 63, 0, 0] x v reduceWindows_S64x64x4x128_S64x64x4x128_w1s1p0_0_w64s1p0_63_w1s1p0_0_w1s1p0_0 h_S_) ]
/-- They touch the device's tensor buffers only. -/
theorem post1_sub : (post1 : List (HloOp τ sig (Elt F))).Forall fun op => op.bufs ⊆ StableHlo.tcRefs τ sig := ⟨StableHlo.nullary_bufs_sub .., StableHlo.unary_bufs_sub .., StableHlo.binary_bufs_sub ..⟩
/-- Operations of this stretch, in order. -/
abbrev post2 : List (HloOp τ sig (Elt F)) :=
  [ StableHlo.reshape main_v101 main_v102 (rfl : (.f32 : EltTy) = .f32) shapeCasts_S64x64x4x128_S4096x512,
    StableHlo.reshape main_v89 main_v103 (rfl : (.f32 : EltTy) = .f32) shapeCasts_S64x64x4x256_S4096x1024,
    StableHlo.reshape main_v93 main_v104 (rfl : (.f32 : EltTy) = .f32) shapeCasts_S64x64x4x128_S4096x512,
    StableHlo.reshape main_v85_9 main_v105 (rfl : (.f32 : EltTy) = .f32) shapeCasts_S64x64x4x128_S4096x4x128,
    StableHlo.nullary main_cst_24 (constant S_ .f32 0x3DB504F3#32),
    StableHlo.unary main_cst_24 main_v106 (broadcastInDim S4096x4x128 ![] bcast_S_S4096x4x128 : (⟨S_, .f32⟩ : BufTy).Contents (Elt F) → (⟨S4096x4x128, .f32⟩ : BufTy).Contents (Elt F)),
    StableHlo.binary main_v105 main_v106 main_v107 (mulf : (⟨S4096x4x128, .f32⟩ : BufTy).Contents (Elt F) → (⟨S4096x4x128, .f32⟩ : BufTy).Contents (Elt F) → (⟨S4096x4x128, .f32⟩ : BufTy).Contents (Elt F)),
    StableHlo.reshape main_v107 main_v108 (rfl : (.f32 : EltTy) = .f32) shapeCasts_S4096x4x128_S4096x512,
    StableHlo.nullary main_cst_25 (constant S_ .f32 0x41800000#32),
    StableHlo.unary main_cst_25 main_v109 (broadcastInDim S4096x512 ![] bcast_S_S4096x512 : (⟨S_, .f32⟩ : BufTy).Contents (Elt F) → (⟨S4096x512, .f32⟩ : BufTy).Contents (Elt F)),
    StableHlo.binary main_v102 main_v109 main_v110 (Host.divf : (⟨S4096x512, .f32⟩ : BufTy).Contents (Elt F) → (⟨S4096x512, .f32⟩ : BufTy).Contents (Elt F) → (⟨S4096x512, .f32⟩ : BufTy).Contents (Elt F)) ]
/-- They touch the device's tensor buffers only. -/
theorem post2_sub : (post2 : List (HloOp τ sig (Elt F))).Forall fun op => op.bufs ⊆ StableHlo.tcRefs τ sig := ⟨StableHlo.reshape_bufs_sub .., StableHlo.reshape_bufs_sub .., StableHlo.reshape_bufs_sub .., StableHlo.reshape_bufs_sub .., StableHlo.nullary_bufs_sub .., StableHlo.unary_bufs_sub .., StableHlo.binary_bufs_sub .., StableHlo.reshape_bufs_sub .., StableHlo.nullary_bufs_sub .., StableHlo.unary_bufs_sub .., StableHlo.binary_bufs_sub ..⟩
/-- Operations of this stretch, in order. -/
abbrev post3 : List (HloOp τ sig (Elt F)) :=
  [ StableHlo.TRef.unary (.of main_v110 : StableHlo.TRef sig ⟨S4096x512, .f32⟩) (.of main_call20_v0 : StableHlo.TRef sig ⟨S4096x512, .f32⟩) Host.negf,
    StableHlo.TRef.binary (.of main_call20_v0 : StableHlo.TRef sig ⟨S4096x512, .f32⟩) (.of main_v9_1 : StableHlo.TRef sig ⟨S4096x512, .f32⟩) (.of main_call20_v1 : StableHlo.TRef sig ⟨S4096x512, .f32⟩) mulf,
    StableHlo.TRef.unary (.of main_call20_v1 : StableHlo.TRef sig ⟨S4096x512, .f32⟩) (.of main_v111 : StableHlo.TRef sig ⟨S4096x512, .f32⟩) Host.negf ]
/-- They touch the device's tensor buffers only. -/
theorem post3_sub : (post3 : List (HloOp τ sig (Elt F))).Forall fun op => op.bufs ⊆ StableHlo.tcRefs τ sig := ⟨StableHlo.unary_bufs_sub .., StableHlo.binary_bufs_sub .., StableHlo.unary_bufs_sub ..⟩
/-- Operations of this stretch, in order. -/
abbrev post4 : List (HloOp τ sig (Elt F)) :=
  [ StableHlo.unary main_v108 main_v112 ((truncf .bf16 · bitsLt_bf16_f32) : (⟨S4096x512, .f32⟩ : BufTy).Contents (Elt F) → (⟨S4096x512, .bf16⟩ : BufTy).Contents (Elt F)),
    StableHlo.unary main_v104 main_v113 ((truncf .bf16 · bitsLt_bf16_f32) : (⟨S4096x512, .f32⟩ : BufTy).Contents (Elt F) → (⟨S4096x512, .bf16⟩ : BufTy).Contents (Elt F)),
    StableHlo.unary main_v103 main_v114 ((truncf .bf16 · bitsLt_bf16_f32) : (⟨S4096x1024, .f32⟩ : BufTy).Contents (Elt F) → (⟨S4096x1024, .bf16⟩ : BufTy).Contents (Elt F)),
    StableHlo.unary main_v59 main_v115 ((truncf .bf16 · bitsLt_bf16_f32) : (⟨S4096x1024, .f32⟩ : BufTy).Contents (Elt F) → (⟨S4096x1024, .bf16⟩ : BufTy).Contents (Elt F)) ]
/-- They touch the device's tensor buffers only. -/
theorem post4_sub : (post4 : List (HloOp τ sig (Elt F))).Forall fun op => op.bufs ⊆ StableHlo.tcRefs τ sig := ⟨StableHlo.unary_bufs_sub .., StableHlo.unary_bufs_sub .., StableHlo.unary_bufs_sub .., StableHlo.unary_bufs_sub ..⟩
/-- Operations of this stretch, in order. -/
abbrev body0_0 : List (HloOp τ sig (Elt F)) :=
  [ StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.unaryIndexed (.of main_v33_0 : StableHlo.TRef sig ⟨S64x4x128, .f32⟩) ![(.of main_v33_3 : StableHlo.TRef sig ⟨S_, .i32⟩), (.of main_while0b_call2_c : StableHlo.TRef sig ⟨S_, .i32⟩), (.of main_while0b_call2_c_0 : StableHlo.TRef sig ⟨S_, .i32⟩)] (.of main_while0b_call2_v0 : StableHlo.TRef sig ⟨S1x4x128, .f32⟩) (fun x i => Host.dynamicSlice S1x4x128 x (fun k => (i k (Shape.Idx.first h_S_)).toInt) sliceFits_S64x4x128_S1x4x128),
    StableHlo.TRef.reshape (.of main_while0b_call2_v0 : StableHlo.TRef sig ⟨S1x4x128, .f32⟩) (.of main_while0b_v116 : StableHlo.TRef sig ⟨S4x128, .f32⟩) (rfl : (.f32 : EltTy) = .f32) shapeCasts_S1x4x128_S4x128 ]
/-- They touch the device's tensor buffers only. -/
theorem body0_0_sub : (body0_0 : List (HloOp τ sig (Elt F))).Forall fun op => op.bufs ⊆ StableHlo.tcRefs τ sig := ⟨StableHlo.nullary_bufs_sub .., StableHlo.nullary_bufs_sub .., StableHlo.unaryIndexed_bufs_sub .., StableHlo.reshape_bufs_sub ..⟩
/-- Operations of this stretch, in order. -/
abbrev body0_1 : List (HloOp τ sig (Elt F)) :=
  [ StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.nullary (.of main_while0b_call3_c_1 : StableHlo.TRef sig ⟨S_, .i32⟩) (constantI S_ 32 0#32),
    StableHlo.TRef.unaryIndexed (.of main_v33_1 : StableHlo.TRef sig ⟨S64x4x128x256, .f32⟩) ![(.of main_v33_3 : StableHlo.TRef sig ⟨S_, .i32⟩), (.of main_while0b_call3_c : StableHlo.TRef sig ⟨S_, .i32⟩), (.of main_while0b_call3_c_0 : StableHlo.TRef sig ⟨S_, .i32⟩), (.of main_while0b_call3_c_1 : StableHlo.TRef sig ⟨S_, .i32⟩)] (.of main_while0b_call3_v0 : StableHlo.TRef sig ⟨S1x4x128x256, .f32⟩) (fun x i => Host.dynamicSlice S1x4x128x256 x (fun k => (i k (Shape.Idx.first h_S_)).toInt) sliceFits_S64x4x128x256_S1x4x128x256),
    StableHlo.TRef.reshape (.of main_while0b_call3_v0 : StableHlo.TRef sig ⟨S1x4x128x256, .f32⟩) (.of main_while0b_v117 : StableHlo.TRef sig ⟨S4x128x256, .f32⟩) (rfl : (.f32 : EltTy) = .f32) shapeCasts_S1x4x128x256_S4x128x256 ]
/-- They touch the device's tensor buffers only. -/
theorem body0_1_sub : (body0_1 : List (HloOp τ sig (Elt F))).Forall fun op => op.bufs ⊆ StableHlo.tcRefs τ sig := ⟨StableHlo.nullary_bufs_sub .., StableHlo.nullary_bufs_sub .., StableHlo.nullary_bufs_sub .., StableHlo.unaryIndexed_bufs_sub .., StableHlo.reshape_bufs_sub ..⟩
/-- Operations of this stretch, in order. -/
abbrev body0_2 : List (HloOp τ sig (Elt F)) :=
  [ StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.nullary (.of main_while0b_call4_c_1 : StableHlo.TRef sig ⟨S_, .i32⟩) (constantI S_ 32 0#32),
    StableHlo.TRef.unaryIndexed (.of main_v33_2 : StableHlo.TRef sig ⟨S64x64x4x128, .f32⟩) ![(.of main_v33_3 : StableHlo.TRef sig ⟨S_, .i32⟩), (.of main_while0b_call4_c : StableHlo.TRef sig ⟨S_, .i32⟩), (.of main_while0b_call4_c_0 : StableHlo.TRef sig ⟨S_, .i32⟩), (.of main_while0b_call4_c_1 : StableHlo.TRef sig ⟨S_, .i32⟩)] (.of main_while0b_call4_v0 : StableHlo.TRef sig ⟨S1x64x4x128, .f32⟩) (fun x i => Host.dynamicSlice S1x64x4x128 x (fun k => (i k (Shape.Idx.first h_S_)).toInt) sliceFits_S64x64x4x128_S1x64x4x128),
    StableHlo.TRef.reshape (.of main_while0b_call4_v0 : StableHlo.TRef sig ⟨S1x64x4x128, .f32⟩) (.of main_while0b_v118 : StableHlo.TRef sig ⟨S64x4x128, .f32⟩) (rfl : (.f32 : EltTy) = .f32) shapeCasts_S1x64x4x128_S64x4x128 ]
/-- They touch the device's tensor buffers only. -/
theorem body0_2_sub : (body0_2 : List (HloOp τ sig (Elt F))).Forall fun op => op.bufs ⊆ StableHlo.tcRefs τ sig := ⟨StableHlo.nullary_bufs_sub .., StableHlo.nullary_bufs_sub .., StableHlo.nullary_bufs_sub .., StableHlo.unaryIndexed_bufs_sub .., StableHlo.reshape_bufs_sub ..⟩
/-- Operations of this stretch, in order. -/
abbrev body0_3 : List (HloOp τ sig (Elt F)) :=
  [ StableHlo.unary main_while0b_v116 main_while0b_v119 (broadcastInDim S4x128x1 ![0, 1] bcast_S4x128_S4x128x1_0_1 : (⟨S4x128, .f32⟩ : BufTy).Contents (Elt F) → (⟨S4x128x1, .f32⟩ : BufTy).Contents (Elt F)),
    StableHlo.unary main_while0b_v119 main_while0b_v120 (broadcastInDim S4x128x256 ![0, 1, 2] bcast_S4x128x1_S4x128x256_0_1_2 : (⟨S4x128x1, .f32⟩ : BufTy).Contents (Elt F) → (⟨S4x128x256, .f32⟩ : BufTy).Contents (Elt F)),
    StableHlo.binary main_while0b_v120 main_v33_4 main_while0b_v121 (mulf : (⟨S4x128x256, .f32⟩ : BufTy).Contents (Elt F) → (⟨S4x128x256, .f32⟩ : BufTy).Contents (Elt F) → (⟨S4x128x256, .f32⟩ : BufTy).Contents (Elt F)),
    StableHlo.binary main_while0b_v121 main_while0b_v117 main_while0b_v122 (addf : (⟨S4x128x256, .f32⟩ : BufTy).Contents (Elt F) → (⟨S4x128x256, .f32⟩ : BufTy).Contents (Elt F) → (⟨S4x128x256, .f32⟩ : BufTy).Contents (Elt F)),
    StableHlo.binary main_while0b_v122 main_while0b_v118 main_while0b_v123 ((fun l r => Host.dotGeneral dot_S4x128x256_S64x4x128_S4x256x64_1_2_2_0_0_1 none l r) : (⟨S4x128x256, .f32⟩ : BufTy).Contents (Elt F) → (⟨S64x4x128, .f32⟩ : BufTy).Contents (Elt F) → (⟨S4x256x64, .f32⟩ : BufTy).Contents (Elt F)),
    StableHlo.unary main_while0b_v123 main_while0b_v124 ((transpose S64x4x256 [2, 0, 1] · transposes_S4x256x64_S64x4x256_2_0_1) : (⟨S4x256x64, .f32⟩ : BufTy).Contents (Elt F) → (⟨S64x4x256, .f32⟩ : BufTy).Contents (Elt F)) ]
/-- They touch the device's tensor buffers only. -/
theorem body0_3_sub : (body0_3 : List (HloOp τ sig (Elt F))).Forall fun op => op.bufs ⊆ StableHlo.tcRefs τ sig := ⟨StableHlo.unary_bufs_sub .., StableHlo.unary_bufs_sub .., StableHlo.binary_bufs_sub .., StableHlo.binary_bufs_sub .., StableHlo.binary_bufs_sub .., StableHlo.unary_bufs_sub ..⟩
/-- Operations of this stretch, in order. -/
abbrev body0_4 : List (HloOp τ sig (Elt F)) :=
  [ StableHlo.TRef.unary (.of main_while0b_v124 : StableHlo.TRef sig ⟨S64x4x256, .f32⟩) (.of main_while0b_call5_v0 : StableHlo.TRef sig ⟨S1x64x4x256, .f32⟩) (broadcastInDim S1x64x4x256 ![1, 2, 3] bcast_S64x4x256_S1x64x4x256_1_2_3),
    StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.nullary (.of main_while0b_call5_c_1 : StableHlo.TRef sig ⟨S_, .i32⟩) (constantI S_ 32 0#32),
    StableHlo.TRef.binaryIndexed (.of main_v33_5 : StableHlo.TRef sig ⟨S64x64x4x256, .f32⟩) (.of main_while0b_call5_v0 : StableHlo.TRef sig ⟨S1x64x4x256, .f32⟩) ![(.of main_v33_3 : StableHlo.TRef sig ⟨S_, .i32⟩), (.of main_while0b_call5_c : StableHlo.TRef sig ⟨S_, .i32⟩), (.of main_while0b_call5_c_0 : StableHlo.TRef sig ⟨S_, .i32⟩), (.of main_while0b_call5_c_1 : StableHlo.TRef sig ⟨S_, .i32⟩)] (.of main_while0b_v125 : StableHlo.TRef sig ⟨S64x64x4x256, .f32⟩) (fun x u i => Host.dynamicUpdateSlice x u (fun k => (i k (Shape.Idx.first h_S_)).toInt) updateFits_S64x64x4x256_S1x64x4x256) ]
/-- They touch the device's tensor buffers only. -/
theorem body0_4_sub : (body0_4 : List (HloOp τ sig (Elt F))).Forall fun op => op.bufs ⊆ StableHlo.tcRefs τ sig := ⟨StableHlo.unary_bufs_sub .., StableHlo.nullary_bufs_sub .., StableHlo.nullary_bufs_sub .., StableHlo.nullary_bufs_sub .., StableHlo.binaryIndexed_bufs_sub ..⟩
/-- Operations of this stretch, in order. -/
abbrev body0_5 : List (HloOp τ sig (Elt F)) :=
  [ StableHlo.TRef.unary (.of main_v33_4 : StableHlo.TRef sig ⟨S4x128x256, .f32⟩) (.of main_while0b_call6_v0 : StableHlo.TRef sig ⟨S1x4x128x256, .f32⟩) (broadcastInDim S1x4x128x256 ![1, 2, 3] bcast_S4x128x256_S1x4x128x256_1_2_3),
    StableHlo.TRef.nullary (.of main_while0b_call6_c : StableHlo.TRef sig ⟨S_, .i32⟩) (constantI S_ 32 0#32),
    StableHlo.TRef.nullary (.of main_while0b_call6_c_0 : StableHlo.TRef sig ⟨S_, .i32⟩) (constantI S_ 32 0#32),
    StableHlo.TRef.nullary (.of main_while0b_call6_c_1 : StableHlo.TRef sig ⟨S_, .i32⟩) (constantI S_ 32 0#32),
    StableHlo.TRef.binaryIndexed (.of main_v33_6 : StableHlo.TRef sig ⟨S64x4x128x256, .f32⟩) (.of main_while0b_call6_v0 : StableHlo.TRef sig ⟨S1x4x128x256, .f32⟩) ![(.of main_v33_3 : StableHlo.TRef sig ⟨S_, .i32⟩), (.of main_while0b_call6_c : StableHlo.TRef sig ⟨S_, .i32⟩), (.of main_while0b_call6_c_0 : StableHlo.TRef sig ⟨S_, .i32⟩), (.of main_while0b_call6_c_1 : StableHlo.TRef sig ⟨S_, .i32⟩)] (.of main_while0b_v126 : StableHlo.TRef sig ⟨S64x4x128x256, .f32⟩) (fun x u i => Host.dynamicUpdateSlice x u (fun k => (i k (Shape.Idx.first h_S_)).toInt) updateFits_S64x4x128x256_S1x4x128x256) ]
/-- They touch the device's tensor buffers only. -/
theorem body0_5_sub : (body0_5 : List (HloOp τ sig (Elt F))).Forall fun op => op.bufs ⊆ StableHlo.tcRefs τ sig := ⟨StableHlo.unary_bufs_sub .., StableHlo.nullary_bufs_sub .., StableHlo.nullary_bufs_sub .., StableHlo.nullary_bufs_sub .., StableHlo.binaryIndexed_bufs_sub ..⟩
/-- Operations of this stretch, in order. -/
abbrev body0_6 : List (HloOp τ sig (Elt F)) :=
  [ StableHlo.TRef.unary (.of main_while0b_v119 : StableHlo.TRef sig ⟨S4x128x1, .f32⟩) (.of main_while0b_call7_v0 : StableHlo.TRef sig ⟨S1x4x128x1, .f32⟩) (broadcastInDim S1x4x128x1 ![1, 2, 3] bcast_S4x128x1_S1x4x128x1_1_2_3),
    StableHlo.TRef.nullary (.of main_while0b_call7_c : StableHlo.TRef sig ⟨S_, .i32⟩) (constantI S_ 32 0#32),
    StableHlo.TRef.nullary (.of main_while0b_call7_c_0 : StableHlo.TRef sig ⟨S_, .i32⟩) (constantI S_ 32 0#32),
    StableHlo.TRef.nullary (.of main_while0b_call7_c_1 : StableHlo.TRef sig ⟨S_, .i32⟩) (constantI S_ 32 0#32),
    StableHlo.TRef.binaryIndexed (.of main_v33_7 : StableHlo.TRef sig ⟨S64x4x128x1, .f32⟩) (.of main_while0b_call7_v0 : StableHlo.TRef sig ⟨S1x4x128x1, .f32⟩) ![(.of main_v33_3 : StableHlo.TRef sig ⟨S_, .i32⟩), (.of main_while0b_call7_c : StableHlo.TRef sig ⟨S_, .i32⟩), (.of main_while0b_call7_c_0 : StableHlo.TRef sig ⟨S_, .i32⟩), (.of main_while0b_call7_c_1 : StableHlo.TRef sig ⟨S_, .i32⟩)] (.of main_while0b_v127 : StableHlo.TRef sig ⟨S64x4x128x1, .f32⟩) (fun x u i => Host.dynamicUpdateSlice x u (fun k => (i k (Shape.Idx.first h_S_)).toInt) updateFits_S64x4x128x1_S1x4x128x1) ]
/-- They touch the device's tensor buffers only. -/
theorem body0_6_sub : (body0_6 : List (HloOp τ sig (Elt F))).Forall fun op => op.bufs ⊆ StableHlo.tcRefs τ sig := ⟨StableHlo.unary_bufs_sub .., StableHlo.nullary_bufs_sub .., StableHlo.nullary_bufs_sub .., StableHlo.nullary_bufs_sub .., StableHlo.binaryIndexed_bufs_sub ..⟩
/-- Operations of this stretch, in order. -/
abbrev body0_7 : List (HloOp τ sig (Elt F)) :=
  [ StableHlo.TRef.unary (.of main_while0b_v122 : StableHlo.TRef sig ⟨S4x128x256, .f32⟩) (.of main_while0b_call8_v0 : StableHlo.TRef sig ⟨S1x4x128x256, .f32⟩) (broadcastInDim S1x4x128x256 ![1, 2, 3] bcast_S4x128x256_S1x4x128x256_1_2_3),
    StableHlo.TRef.nullary (.of main_while0b_call8_c : StableHlo.TRef sig ⟨S_, .i32⟩) (constantI S_ 32 0#32),
    StableHlo.TRef.nullary (.of main_while0b_call8_c_0 : StableHlo.TRef sig ⟨S_, .i32⟩) (constantI S_ 32 0#32),
    StableHlo.TRef.nullary (.of main_while0b_call8_c_1 : StableHlo.TRef sig ⟨S_, .i32⟩) (constantI S_ 32 0#32),
    StableHlo.TRef.binaryIndexed (.of main_v33_8 : StableHlo.TRef sig ⟨S64x4x128x256, .f32⟩) (.of main_while0b_call8_v0 : StableHlo.TRef sig ⟨S1x4x128x256, .f32⟩) ![(.of main_v33_3 : StableHlo.TRef sig ⟨S_, .i32⟩), (.of main_while0b_call8_c : StableHlo.TRef sig ⟨S_, .i32⟩), (.of main_while0b_call8_c_0 : StableHlo.TRef sig ⟨S_, .i32⟩), (.of main_while0b_call8_c_1 : StableHlo.TRef sig ⟨S_, .i32⟩)] (.of main_while0b_v128 : StableHlo.TRef sig ⟨S64x4x128x256, .f32⟩) (fun x u i => Host.dynamicUpdateSlice x u (fun k => (i k (Shape.Idx.first h_S_)).toInt) updateFits_S64x4x128x256_S1x4x128x256) ]
/-- They touch the device's tensor buffers only. -/
theorem body0_7_sub : (body0_7 : List (HloOp τ sig (Elt F))).Forall fun op => op.bufs ⊆ StableHlo.tcRefs τ sig := ⟨StableHlo.unary_bufs_sub .., StableHlo.nullary_bufs_sub .., StableHlo.nullary_bufs_sub .., StableHlo.nullary_bufs_sub .., StableHlo.binaryIndexed_bufs_sub ..⟩
/-- Operations of this stretch, in order. -/
abbrev body0_8 : List (HloOp τ sig (Elt F)) :=
  [ StableHlo.nullary main_while0b_c_34 (constantI S_ 32 1#32),
    StableHlo.binary main_v33_3 main_while0b_c_34 main_while0b_v129 (addi : (⟨S_, .i32⟩ : BufTy).Contents (Elt F) → (⟨S_, .i32⟩ : BufTy).Contents (Elt F) → (⟨S_, .i32⟩ : BufTy).Contents (Elt F)),
    StableHlo.unary main_while0b_v129 main_v33_3 id,
    StableHlo.unary main_while0b_v122 main_v33_4 id,
    StableHlo.unary main_while0b_v125 main_v33_5 id,
    StableHlo.unary main_while0b_v126 main_v33_6 id,
    StableHlo.unary main_while0b_v127 main_v33_7 id,
    StableHlo.unary main_while0b_v128 main_v33_8 id ]
/-- They touch the device's tensor buffers only. -/
theorem body0_8_sub : (body0_8 : List (HloOp τ sig (Elt F))).Forall fun op => op.bufs ⊆ StableHlo.tcRefs τ sig := ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩
/-- Operations of this stretch, in order. -/
abbrev body1_0 : List (HloOp τ sig (Elt F)) :=
  [ StableHlo.nullary main_while1b_c_35 (constantI S_ 32 64#32),
    StableHlo.binary main_while1b_c_35 main_v85_5 main_while1b_v116 (subi : (⟨S_, .i32⟩ : BufTy).Contents (Elt F) → (⟨S_, .i32⟩ : BufTy).Contents (Elt F) → (⟨S_, .i32⟩ : BufTy).Contents (Elt F)),
    StableHlo.nullary main_while1b_c_36 (constantI S_ 32 1#32),
    StableHlo.binary main_while1b_v116 main_while1b_c_36 main_while1b_v117 (subi : (⟨S_, .i32⟩ : BufTy).Contents (Elt F) → (⟨S_, .i32⟩ : BufTy).Contents (Elt F) → (⟨S_, .i32⟩ : BufTy).Contents (Elt F)) ]
/-- They touch the device's tensor buffers only. -/
theorem body1_0_sub : (body1_0 : List (HloOp τ sig (Elt F))).Forall fun op => op.bufs ⊆ StableHlo.tcRefs τ sig := ⟨StableHlo.nullary_bufs_sub .., StableHlo.binary_bufs_sub .., StableHlo.nullary_bufs_sub .., StableHlo.binary_bufs_sub ..⟩
/-- Operations of this stretch, in order. -/
abbrev body1_1 : List (HloOp τ sig (Elt F)) :=
  [ StableHlo.TRef.nullary (.of main_while1b_call11_c : StableHlo.TRef sig ⟨S_, .i32⟩) (constantI S_ 32 0#32),
    StableHlo.TRef.nullary (.of main_while1b_call11_c_0 : StableHlo.TRef sig ⟨S_, .i32⟩) (constantI S_ 32 0#32),
    StableHlo.TRef.nullary (.of main_while1b_call11_c_1 : StableHlo.TRef sig ⟨S_, .i32⟩) (constantI S_ 32 0#32),
    StableHlo.TRef.unaryIndexed (.of main_v85_0 : StableHlo.TRef sig ⟨S64x64x4x256, .f32⟩) ![(.of main_while1b_v117 : StableHlo.TRef sig ⟨S_, .i32⟩), (.of main_while1b_call11_c : StableHlo.TRef sig ⟨S_, .i32⟩), (.of main_while1b_call11_c_0 : StableHlo.TRef sig ⟨S_, .i32⟩), (.of main_while1b_call11_c_1 : StableHlo.TRef sig ⟨S_, .i32⟩)] (.of main_while1b_call11_v0 : StableHlo.TRef sig ⟨S1x64x4x256, .f32⟩) (fun x i => Host.dynamicSlice S1x64x4x256 x (fun k => (i k (Shape.Idx.first h_S_)).toInt) sliceFits_S64x64x4x256_S1x64x4x256),
    StableHlo.TRef.reshape (.of main_while1b_call11_v0 : StableHlo.TRef sig ⟨S1x64x4x256, .f32⟩) (.of main_while1b_v118 : StableHlo.TRef sig ⟨S64x4x256, .f32⟩) (rfl : (.f32 : EltTy) = .f32) shapeCasts_S1x64x4x256_S64x4x256 ]
/-- They touch the device's tensor buffers only. -/
theorem body1_1_sub : (body1_1 : List (HloOp τ sig (Elt F))).Forall fun op => op.bufs ⊆ StableHlo.tcRefs τ sig := ⟨StableHlo.nullary_bufs_sub .., StableHlo.nullary_bufs_sub .., StableHlo.nullary_bufs_sub .., StableHlo.unaryIndexed_bufs_sub .., StableHlo.reshape_bufs_sub ..⟩
/-- Operations of this stretch, in order. -/
abbrev body1_2 : List (HloOp τ sig (Elt F)) :=
  [ StableHlo.TRef.nullary (.of main_while1b_call12_c : StableHlo.TRef sig ⟨S_, .i32⟩) (constantI S_ 32 0#32),
    StableHlo.TRef.nullary (.of main_while1b_call12_c_0 : StableHlo.TRef sig ⟨S_, .i32⟩) (constantI S_ 32 0#32),
    StableHlo.TRef.nullary (.of main_while1b_call12_c_1 : StableHlo.TRef sig ⟨S_, .i32⟩) (constantI S_ 32 0#32),
    StableHlo.TRef.unaryIndexed (.of main_v85_1 : StableHlo.TRef sig ⟨S64x4x128x256, .f32⟩) ![(.of main_while1b_v117 : StableHlo.TRef sig ⟨S_, .i32⟩), (.of main_while1b_call12_c : StableHlo.TRef sig ⟨S_, .i32⟩), (.of main_while1b_call12_c_0 : StableHlo.TRef sig ⟨S_, .i32⟩), (.of main_while1b_call12_c_1 : StableHlo.TRef sig ⟨S_, .i32⟩)] (.of main_while1b_call12_v0 : StableHlo.TRef sig ⟨S1x4x128x256, .f32⟩) (fun x i => Host.dynamicSlice S1x4x128x256 x (fun k => (i k (Shape.Idx.first h_S_)).toInt) sliceFits_S64x4x128x256_S1x4x128x256),
    StableHlo.TRef.reshape (.of main_while1b_call12_v0 : StableHlo.TRef sig ⟨S1x4x128x256, .f32⟩) (.of main_while1b_v119 : StableHlo.TRef sig ⟨S4x128x256, .f32⟩) (rfl : (.f32 : EltTy) = .f32) shapeCasts_S1x4x128x256_S4x128x256 ]
/-- They touch the device's tensor buffers only. -/
theorem body1_2_sub : (body1_2 : List (HloOp τ sig (Elt F))).Forall fun op => op.bufs ⊆ StableHlo.tcRefs τ sig := ⟨StableHlo.nullary_bufs_sub .., StableHlo.nullary_bufs_sub .., StableHlo.nullary_bufs_sub .., StableHlo.unaryIndexed_bufs_sub .., StableHlo.reshape_bufs_sub ..⟩
/-- Operations of this stretch, in order. -/
abbrev body1_3 : List (HloOp τ sig (Elt F)) :=
  [ StableHlo.TRef.nullary (.of main_while1b_call13_c : StableHlo.TRef sig ⟨S_, .i32⟩) (constantI S_ 32 0#32),
    StableHlo.TRef.nullary (.of main_while1b_call13_c_0 : StableHlo.TRef sig ⟨S_, .i32⟩) (constantI S_ 32 0#32),
    StableHlo.TRef.nullary (.of main_while1b_call13_c_1 : StableHlo.TRef sig ⟨S_, .i32⟩) (constantI S_ 32 0#32),
    StableHlo.TRef.unaryIndexed (.of main_v85_2 : StableHlo.TRef sig ⟨S64x4x128x1, .f32⟩) ![(.of main_while1b_v117 : StableHlo.TRef sig ⟨S_, .i32⟩), (.of main_while1b_call13_c : StableHlo.TRef sig ⟨S_, .i32⟩), (.of main_while1b_call13_c_0 : StableHlo.TRef sig ⟨S_, .i32⟩), (.of main_while1b_call13_c_1 : StableHlo.TRef sig ⟨S_, .i32⟩)] (.of main_while1b_call13_v0 : StableHlo.TRef sig ⟨S1x4x128x1, .f32⟩) (fun x i => Host.dynamicSlice S1x4x128x1 x (fun k => (i k (Shape.Idx.first h_S_)).toInt) sliceFits_S64x4x128x1_S1x4x128x1),
    StableHlo.TRef.reshape (.of main_while1b_call13_v0 : StableHlo.TRef sig ⟨S1x4x128x1, .f32⟩) (.of main_while1b_v120 : StableHlo.TRef sig ⟨S4x128x1, .f32⟩) (rfl : (.f32 : EltTy) = .f32) shapeCasts_S1x4x128x1_S4x128x1 ]
/-- They touch the device's tensor buffers only. -/
theorem body1_3_sub : (body1_3 : List (HloOp τ sig (Elt F))).Forall fun op => op.bufs ⊆ StableHlo.tcRefs τ sig := ⟨StableHlo.nullary_bufs_sub .., StableHlo.nullary_bufs_sub .., StableHlo.nullary_bufs_sub .., StableHlo.unaryIndexed_bufs_sub .., StableHlo.reshape_bufs_sub ..⟩
/-- Operations of this stretch, in order. -/
abbrev body1_4 : List (HloOp τ sig (Elt F)) :=
  [ StableHlo.TRef.nullary (.of main_while1b_call14_c : StableHlo.TRef sig ⟨S_, .i32⟩) (constantI S_ 32 0#32),
    StableHlo.TRef.nullary (.of main_while1b_call14_c_0 : StableHlo.TRef sig ⟨S_, .i32⟩) (constantI S_ 32 0#32),
    StableHlo.TRef.nullary (.of main_while1b_call14_c_1 : StableHlo.TRef sig ⟨S_, .i32⟩) (constantI S_ 32 0#32),
    StableHlo.TRef.unaryIndexed (.of main_v85_3 : StableHlo.TRef sig ⟨S64x64x4x128, .f32⟩) ![(.of main_while1b_v117 : StableHlo.TRef sig ⟨S_, .i32⟩), (.of main_while1b_call14_c : StableHlo.TRef sig ⟨S_, .i32⟩), (.of main_while1b_call14_c_0 : StableHlo.TRef sig ⟨S_, .i32⟩), (.of main_while1b_call14_c_1 : StableHlo.TRef sig ⟨S_, .i32⟩)] (.of main_while1b_call14_v0 : StableHlo.TRef sig ⟨S1x64x4x128, .f32⟩) (fun x i => Host.dynamicSlice S1x64x4x128 x (fun k => (i k (Shape.Idx.first h_S_)).toInt) sliceFits_S64x64x4x128_S1x64x4x128),
    StableHlo.TRef.reshape (.of main_while1b_call14_v0 : StableHlo.TRef sig ⟨S1x64x4x128, .f32⟩) (.of main_while1b_v121 : StableHlo.TRef sig ⟨S64x4x128, .f32⟩) (rfl : (.f32 : EltTy) = .f32) shapeCasts_S1x64x4x128_S64x4x128 ]
/-- They touch the device's tensor buffers only. -/
theorem body1_4_sub : (body1_4 : List (HloOp τ sig (Elt F))).Forall fun op => op.bufs ⊆ StableHlo.tcRefs τ sig := ⟨StableHlo.nullary_bufs_sub .., StableHlo.nullary_bufs_sub .., StableHlo.nullary_bufs_sub .., StableHlo.unaryIndexed_bufs_sub .., StableHlo.reshape_bufs_sub ..⟩
/-- Operations of this stretch, in order. -/
abbrev body1_5 : List (HloOp τ sig (Elt F)) :=
  [ StableHlo.TRef.nullary (.of main_while1b_call15_c : StableHlo.TRef sig ⟨S_, .i32⟩) (constantI S_ 32 0#32),
    StableHlo.TRef.nullary (.of main_while1b_call15_c_0 : StableHlo.TRef sig ⟨S_, .i32⟩) (constantI S_ 32 0#32),
    StableHlo.TRef.nullary (.of main_while1b_call15_c_1 : StableHlo.TRef sig ⟨S_, .i32⟩) (constantI S_ 32 0#32),
    StableHlo.TRef.unaryIndexed (.of main_v85_4 : StableHlo.TRef sig ⟨S64x4x128x256, .f32⟩) ![(.of main_while1b_v117 : StableHlo.TRef sig ⟨S_, .i32⟩), (.of main_while1b_call15_c : StableHlo.TRef sig ⟨S_, .i32⟩), (.of main_while1b_call15_c_0 : StableHlo.TRef sig ⟨S_, .i32⟩), (.of main_while1b_call15_c_1 : StableHlo.TRef sig ⟨S_, .i32⟩)] (.of main_while1b_call15_v0 : StableHlo.TRef sig ⟨S1x4x128x256, .f32⟩) (fun x i => Host.dynamicSlice S1x4x128x256 x (fun k => (i k (Shape.Idx.first h_S_)).toInt) sliceFits_S64x4x128x256_S1x4x128x256),
    StableHlo.TRef.reshape (.of main_while1b_call15_v0 : StableHlo.TRef sig ⟨S1x4x128x256, .f32⟩) (.of main_while1b_v122 : StableHlo.TRef sig ⟨S4x128x256, .f32⟩) (rfl : (.f32 : EltTy) = .f32) shapeCasts_S1x4x128x256_S4x128x256 ]
/-- They touch the device's tensor buffers only. -/
theorem body1_5_sub : (body1_5 : List (HloOp τ sig (Elt F))).Forall fun op => op.bufs ⊆ StableHlo.tcRefs τ sig := ⟨StableHlo.nullary_bufs_sub .., StableHlo.nullary_bufs_sub .., StableHlo.nullary_bufs_sub .., StableHlo.unaryIndexed_bufs_sub .., StableHlo.reshape_bufs_sub ..⟩
/-- Operations of this stretch, in order. -/
abbrev body1_6 : List (HloOp τ sig (Elt F)) :=
  [ StableHlo.unary main_while1b_v118 main_while1b_v123 ((transpose S4x256x64 [1, 2, 0] · transposes_S64x4x256_S4x256x64_1_2_0) : (⟨S64x4x256, .f32⟩ : BufTy).Contents (Elt F) → (⟨S4x256x64, .f32⟩ : BufTy).Contents (Elt F)),
    StableHlo.binary main_while1b_v123 main_while1b_v122 main_while1b_v124 ((fun l r => Host.dotGeneral dot_S4x256x64_S4x128x256_S4x64x128_1_2_2_1_0_0 none l r) : (⟨S4x256x64, .f32⟩ : BufTy).Contents (Elt F) → (⟨S4x128x256, .f32⟩ : BufTy).Contents (Elt F) → (⟨S4x64x128, .f32⟩ : BufTy).Contents (Elt F)),
    StableHlo.unary main_while1b_v124 main_while1b_v125 ((transpose S64x4x128 [1, 0, 2] · transposes_S4x64x128_S64x4x128_1_0_2) : (⟨S4x64x128, .f32⟩ : BufTy).Contents (Elt F) → (⟨S64x4x128, .f32⟩ : BufTy).Contents (Elt F)),
    StableHlo.binary main_while1b_v123 main_while1b_v121 main_while1b_v126 ((fun l r => Host.dotGeneral dot_S4x256x64_S64x4x128_S4x256x128_2_0_1_2_0_1 none l r) : (⟨S4x256x64, .f32⟩ : BufTy).Contents (Elt F) → (⟨S64x4x128, .f32⟩ : BufTy).Contents (Elt F) → (⟨S4x256x128, .f32⟩ : BufTy).Contents (Elt F)),
    StableHlo.unary main_while1b_v126 main_while1b_v127 ((transpose S4x128x256 [0, 2, 1] · transposes_S4x256x128_S4x128x256_0_2_1) : (⟨S4x256x128, .f32⟩ : BufTy).Contents (Elt F) → (⟨S4x128x256, .f32⟩ : BufTy).Contents (Elt F)),
    StableHlo.binary main_v85_6 main_while1b_v127 main_while1b_v128 (addf : (⟨S4x128x256, .f32⟩ : BufTy).Contents (Elt F) → (⟨S4x128x256, .f32⟩ : BufTy).Contents (Elt F) → (⟨S4x128x256, .f32⟩ : BufTy).Contents (Elt F)),
    StableHlo.unary main_while1b_v120 main_while1b_v129 (broadcastInDim S4x128x256 ![0, 1, 2] bcast_S4x128x1_S4x128x256_0_1_2 : (⟨S4x128x1, .f32⟩ : BufTy).Contents (Elt F) → (⟨S4x128x256, .f32⟩ : BufTy).Contents (Elt F)),
    StableHlo.binary main_while1b_v129 main_while1b_v128 main_while1b_v130 (mulf : (⟨S4x128x256, .f32⟩ : BufTy).Contents (Elt F) → (⟨S4x128x256, .f32⟩ : BufTy).Contents (Elt F) → (⟨S4x128x256, .f32⟩ : BufTy).Contents (Elt F)),
    StableHlo.binary main_while1b_v128 main_while1b_v119 main_while1b_v131 (mulf : (⟨S4x128x256, .f32⟩ : BufTy).Contents (Elt F) → (⟨S4x128x256, .f32⟩ : BufTy).Contents (Elt F) → (⟨S4x128x256, .f32⟩ : BufTy).Contents (Elt F)),
    StableHlo.nullary main_while1b_cst_37 (constant S_ .f32 0x00000000#32),
    StableHlo.binary main_while1b_v131 main_while1b_cst_37 main_while1b_v132 ((fun x v => Host.reduceAdd x v reducesTo_S4x128x256_S4x128_d2 h_S_) : (⟨S4x128x256, .f32⟩ : BufTy).Contents (Elt F) → (⟨S_, .f32⟩ : BufTy).Contents (Elt F) → (⟨S4x128, .f32⟩ : BufTy).Contents (Elt F)),
    StableHlo.reshape main_while1b_v132 main_while1b_v133 (rfl : (.f32 : EltTy) = .f32) shapeCasts_S4x128_S4x128x1,
    StableHlo.nullary main_while1b_cst_38 (constant S_ .f32 0x00000000#32),
    StableHlo.binary main_while1b_v133 main_while1b_cst_38 main_while1b_v134 ((fun x v => Host.reduceAdd x v reducesTo_S4x128x1_S4x128_d2 h_S_) : (⟨S4x128x1, .f32⟩ : BufTy).Contents (Elt F) → (⟨S_, .f32⟩ : BufTy).Contents (Elt F) → (⟨S4x128, .f32⟩ : BufTy).Contents (Elt F)) ]
/-- They touch the device's tensor buffers only. -/
theorem body1_6_sub : (body1_6 : List (HloOp τ sig (Elt F))).Forall fun op => op.bufs ⊆ StableHlo.tcRefs τ sig := ⟨StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub ..⟩
/-- Operations of this stretch, in order. -/
abbrev body1_7 : List (HloOp τ sig (Elt F)) :=
  [ StableHlo.TRef.unary (.of main_while1b_v134 : StableHlo.TRef sig ⟨S4x128, .f32⟩) (.of main_while1b_call16_v0 : StableHlo.TRef sig ⟨S1x4x128, .f32⟩) (broadcastInDim S1x4x128 ![1, 2] bcast_S4x128_S1x4x128_1_2),
    StableHlo.TRef.nullary (.of main_while1b_call16_c : StableHlo.TRef sig ⟨S_, .i32⟩) (constantI S_ 32 0#32),
    StableHlo.TRef.nullary (.of main_while1b_call16_c_0 : StableHlo.TRef sig ⟨S_, .i32⟩) (constantI S_ 32 0#32),
    StableHlo.TRef.binaryIndexed (.of main_v85_7 : StableHlo.TRef sig ⟨S64x4x128, .f32⟩) (.of main_while1b_call16_v0 : StableHlo.TRef sig ⟨S1x4x128, .f32⟩) ![(.of main_while1b_v117 : StableHlo.TRef sig ⟨S_, .i32⟩), (.of main_while1b_call16_c : StableHlo.TRef sig ⟨S_, .i32⟩), (.of main_while1b_call16_c_0 : StableHlo.TRef sig ⟨S_, .i32⟩)] (.of main_while1b_v135 : StableHlo.TRef sig ⟨S64x4x128, .f32⟩) (fun x u i => Host.dynamicUpdateSlice x u (fun k => (i k (Shape.Idx.first h_S_)).toInt) updateFits_S64x4x128_S1x4x128) ]
/-- They touch the device's tensor buffers only. -/
theorem body1_7_sub : (body1_7 : List (HloOp τ sig (Elt F))).Forall fun op => op.bufs ⊆ StableHlo.tcRefs τ sig := ⟨StableHlo.unary_bufs_sub .., StableHlo.nullary_bufs_sub .., StableHlo.nullary_bufs_sub .., StableHlo.binaryIndexed_bufs_sub ..⟩
/-- Operations of this stretch, in order. -/
abbrev body1_8 : List (HloOp τ sig (Elt F)) :=
  [ StableHlo.TRef.unary (.of main_while1b_v128 : StableHlo.TRef sig ⟨S4x128x256, .f32⟩) (.of main_while1b_call17_v0 : StableHlo.TRef sig ⟨S1x4x128x256, .f32⟩) (broadcastInDim S1x4x128x256 ![1, 2, 3] bcast_S4x128x256_S1x4x128x256_1_2_3),
    StableHlo.TRef.nullary (.of main_while1b_call17_c : StableHlo.TRef sig ⟨S_, .i32⟩) (constantI S_ 32 0#32),
    StableHlo.TRef.nullary (.of main_while1b_call17_c_0 : StableHlo.TRef sig ⟨S_, .i32⟩) (constantI S_ 32 0#32),
    StableHlo.TRef.nullary (.of main_while1b_call17_c_1 : StableHlo.TRef sig ⟨S_, .i32⟩) (constantI S_ 32 0#32),
    StableHlo.TRef.binaryIndexed (.of main_v85_8 : StableHlo.TRef sig ⟨S64x4x128x256, .f32⟩) (.of main_while1b_call17_v0 : StableHlo.TRef sig ⟨S1x4x128x256, .f32⟩) ![(.of main_while1b_v117 : StableHlo.TRef sig ⟨S_, .i32⟩), (.of main_while1b_call17_c : StableHlo.TRef sig ⟨S_, .i32⟩), (.of main_while1b_call17_c_0 : StableHlo.TRef sig ⟨S_, .i32⟩), (.of main_while1b_call17_c_1 : StableHlo.TRef sig ⟨S_, .i32⟩)] (.of main_while1b_v136 : StableHlo.TRef sig ⟨S64x4x128x256, .f32⟩) (fun x u i => Host.dynamicUpdateSlice x u (fun k => (i k (Shape.Idx.first h_S_)).toInt) updateFits_S64x4x128x256_S1x4x128x256) ]
/-- They touch the device's tensor buffers only. -/
theorem body1_8_sub : (body1_8 : List (HloOp τ sig (Elt F))).Forall fun op => op.bufs ⊆ StableHlo.tcRefs τ sig := ⟨StableHlo.unary_bufs_sub .., StableHlo.nullary_bufs_sub .., StableHlo.nullary_bufs_sub .., StableHlo.nullary_bufs_sub .., StableHlo.binaryIndexed_bufs_sub ..⟩
/-- Operations of this stretch, in order. -/
abbrev body1_9 : List (HloOp τ sig (Elt F)) :=
  [ StableHlo.TRef.unary (.of main_while1b_v125 : StableHlo.TRef sig ⟨S64x4x128, .f32⟩) (.of main_while1b_call18_v0 : StableHlo.TRef sig ⟨S1x64x4x128, .f32⟩) (broadcastInDim S1x64x4x128 ![1, 2, 3] bcast_S64x4x128_S1x64x4x128_1_2_3),
    StableHlo.TRef.nullary (.of main_while1b_call18_c : StableHlo.TRef sig ⟨S_, .i32⟩) (constantI S_ 32 0#32),
    StableHlo.TRef.nullary (.of main_while1b_call18_c_0 : StableHlo.TRef sig ⟨S_, .i32⟩) (constantI S_ 32 0#32),
    StableHlo.TRef.nullary (.of main_while1b_call18_c_1 : StableHlo.TRef sig ⟨S_, .i32⟩) (constantI S_ 32 0#32),
    StableHlo.TRef.binaryIndexed (.of main_v85_9 : StableHlo.TRef sig ⟨S64x64x4x128, .f32⟩) (.of main_while1b_call18_v0 : StableHlo.TRef sig ⟨S1x64x4x128, .f32⟩) ![(.of main_while1b_v117 : StableHlo.TRef sig ⟨S_, .i32⟩), (.of main_while1b_call18_c : StableHlo.TRef sig ⟨S_, .i32⟩), (.of main_while1b_call18_c_0 : StableHlo.TRef sig ⟨S_, .i32⟩), (.of main_while1b_call18_c_1 : StableHlo.TRef sig ⟨S_, .i32⟩)] (.of main_while1b_v137 : StableHlo.TRef sig ⟨S64x64x4x128, .f32⟩) (fun x u i => Host.dynamicUpdateSlice x u (fun k => (i k (Shape.Idx.first h_S_)).toInt) updateFits_S64x64x4x128_S1x64x4x128) ]
/-- They touch the device's tensor buffers only. -/
theorem body1_9_sub : (body1_9 : List (HloOp τ sig (Elt F))).Forall fun op => op.bufs ⊆ StableHlo.tcRefs τ sig := ⟨StableHlo.unary_bufs_sub .., StableHlo.nullary_bufs_sub .., StableHlo.nullary_bufs_sub .., StableHlo.nullary_bufs_sub .., StableHlo.binaryIndexed_bufs_sub ..⟩
/-- Operations of this stretch, in order. -/
abbrev body1_10 : List (HloOp τ sig (Elt F)) :=
  [ StableHlo.nullary main_while1b_c_39 (constantI S_ 32 1#32),
    StableHlo.binary main_v85_5 main_while1b_c_39 main_while1b_v138 (addi : (⟨S_, .i32⟩ : BufTy).Contents (Elt F) → (⟨S_, .i32⟩ : BufTy).Contents (Elt F) → (⟨S_, .i32⟩ : BufTy).Contents (Elt F)),
    StableHlo.unary main_while1b_v138 main_v85_5 id,
    StableHlo.unary main_while1b_v130 main_v85_6 id,
    StableHlo.unary main_while1b_v135 main_v85_7 id,
    StableHlo.unary main_while1b_v136 main_v85_8 id,
    StableHlo.unary main_while1b_v137 main_v85_9 id ]
/-- They touch the device's tensor buffers only. -/
theorem body1_10_sub : (body1_10 : List (HloOp τ sig (Elt F))).Forall fun op => op.bufs ⊆ StableHlo.tcRefs τ sig := ⟨StableHlo.nullary_bufs_sub .., StableHlo.binary_bufs_sub .., StableHlo.unary_bufs_sub .., StableHlo.unary_bufs_sub .., StableHlo.unary_bufs_sub .., StableHlo.unary_bufs_sub .., StableHlo.unary_bufs_sub ..⟩
/-- The stretches of this part of the program. -/
abbrev preI : List (List (HloOp τ sig (Elt F))) := [pre0, pre1, pre2, pre3, pre4]
/-- They are plain host operations. -/
theorem preI_plain : StableHlo.Plain (preI : List (List (HloOp τ sig (Elt F)))) := .cons pre0_sub (.cons pre1_sub (.cons pre2_sub (.cons pre3_sub (.cons pre4_sub (.nil)))))
/-- The stretches of this part of the program. -/
abbrev midI : List (List (HloOp τ sig (Elt F))) := [mid0, mid1, mid2, mid3, mid4]
/-- They are plain host operations. -/
theorem midI_plain : StableHlo.Plain (midI : List (List (HloOp τ sig (Elt F)))) := .cons mid0_sub (.cons mid1_sub (.cons mid2_sub (.cons mid3_sub (.cons mid4_sub (.nil)))))
/-- The stretches of this part of the program. -/
abbrev postI : List (List (HloOp τ sig (Elt F))) := [post0, post1, post2, post3, post4]
/-- They are plain host operations. -/
theorem postI_plain : StableHlo.Plain (postI : List (List (HloOp τ sig (Elt F)))) := .cons post0_sub (.cons post1_sub (.cons post2_sub (.cons post3_sub (.cons post4_sub (.nil)))))
/-- The stretches of this part of the program. -/
abbrev body0I : List (List (HloOp τ sig (Elt F))) := [body0_0, body0_1, body0_2, body0_3, body0_4, body0_5, body0_6, body0_7, body0_8]
/-- They are plain host operations. -/
theorem body0I_plain : StableHlo.Plain (body0I : List (List (HloOp τ sig (Elt F)))) := .cons body0_0_sub (.cons body0_1_sub (.cons body0_2_sub (.cons body0_3_sub (.cons body0_4_sub (.cons body0_5_sub (.cons body0_6_sub (.cons body0_7_sub (.cons body0_8_sub (.nil)))))))))
/-- The stretches of this part of the program. -/
abbrev body1I : List (List (HloOp τ sig (Elt F))) := [body1_0, body1_1, body1_2, body1_3, body1_4, body1_5, body1_6, body1_7, body1_8, body1_9, body1_10]
/-- They are plain host operations. -/
theorem body1I_plain : StableHlo.Plain (body1I : List (List (HloOp τ sig (Elt F)))) := .cons body1_0_sub (.cons body1_1_sub (.cons body1_2_sub (.cons body1_3_sub (.cons body1_4_sub (.cons body1_5_sub (.cons body1_6_sub (.cons body1_7_sub (.cons body1_8_sub (.cons body1_9_sub (.cons body1_10_sub (.nil)))))))))))
/-- The operations of loop 0's condition. -/
abbrev cond0 : List (HloOp τ sig (Elt F)) :=
  [ StableHlo.nullary main_while0c_c_34 (constantI S_ 32 64#32),
    StableHlo.binary main_v33_3 main_while0c_c_34 main_while0c_v116 (cmpi .slt : (⟨S_, .i32⟩ : BufTy).Contents (Elt F) → (⟨S_, .i32⟩ : BufTy).Contents (Elt F) → (⟨S_, .i1⟩ : BufTy).Contents (Elt F)) ]
/-- The operations of loop 1's condition. -/
abbrev cond1 : List (HloOp τ sig (Elt F)) :=
  [ StableHlo.nullary main_while1c_c_35 (constantI S_ 32 64#32),
    StableHlo.binary main_v85_5 main_while1c_c_35 main_while1c_v116 (cmpi .slt : (⟨S_, .i32⟩ : BufTy).Contents (Elt F) → (⟨S_, .i32⟩ : BufTy).Contents (Elt F) → (⟨S_, .i1⟩ : BufTy).Contents (Elt F)) ]

end Cert.ReferenceIdeal.Run

end
-- ==== Proof.RefRun.lean ====
/- The reference's run over its two counted loops: every buffer of @main ends at `fin m c`, the fold of the operations. -/
module

public import proofs.«01_k».proof.Proof.RefOps

@[expose] public section

set_option maxRecDepth 16384

noncomputable section

namespace Cert.ReferenceIdeal.Run

open Cert.ReferenceIdeal Cert.ReferenceIdeal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg Ticket PCfg ucRefs unscopedBufs_held sub_ucRefs)

variable {F : FTy → Type} [FloatOps F]

local notation "𝕄" => MT nD τ sig Unit (Elt F) ℕ (Option PUnit) ℕ

/-- No region: nothing is admitted, no ticket, no level. -/
abbrev adm : (p : Fin 0) → (pcfgs (F := F) p).Adm := fun p => p.elim0
/-- No ticket. -/
abbrev tk : Fin 0 → Ticket (Ix := Unit) (Name := ℕ) (U := Option PUnit) (Lvl := ℕ) (nD := nD) (τ := τ) (pcfgs (F := F)) adm := fun j => j.elim0
/-- No level carries a cell. -/
abbrev L : GSem nD τ sig → Finset Unit := fun _ => ∅
/-- Every level is zero. -/
abbrev lv : GSem nD τ sig → Unit → ℕ := fun _ _ => 0
/-- What is carried beside the buffers: what the core owes. -/
abbrev Rw (c : Dev nD) : sProp 𝕄 := iprop(∃ W, owes (c : Thread nD τ) (0 : CellTallies nD τ sig Unit) W)

/-- The counter's comparison with 64. -/
theorem slt_iff (k : ℕ) (hk : k ≤ 64) : IntOp.cmpi .slt (BitVec.ofNat 32 k) (64#32) = 1#1 ↔ k < 64 := by
  exact (by decide : ∀ k : Fin 65, IntOp.cmpi .slt (BitVec.ofNat 32 k.val) (64#32) = 1#1 ↔ k.val < 64) ⟨k, by omega⟩

/-- The counter's step. -/
theorem ofNat_succ (k : ℕ) : IntOp.addi (BitVec.ofNat 32 k) (1#32) = BitVec.ofNat 32 (k + 1) := by
  show BitVec.ofNat 32 k + 1#32 = _
  rw [BitVec.ofNat_add]

set_option maxHeartbeats 4000000 in
/-- One trip of the forward loop adds one to its counter. -/
theorem ctr0_step (V : Valuation τ sig (Elt F)) :
    afterL body0I (after cond0 V) (Proc.devRef .tc main_v33_3) = fun i => IntOp.addi (V (Proc.devRef .tc main_v33_3) i) 1#32 := by
  simp only [afterL_cons, afterL_nil]
  after_reads_simp
  rfl

set_option maxHeartbeats 4000000 in
/-- One trip of the backward loop adds one to its counter. -/
theorem ctr1_step (V : Valuation τ sig (Elt F)) :
    afterL body1I (after cond1 V) (Proc.devRef .tc main_v85_5) = fun i => IntOp.addi (V (Proc.devRef .tc main_v85_5) i) 1#32 := by
  simp only [afterL_cons, afterL_nil]
  after_reads_simp
  rfl

/-- The forward loop's counter before trip `k`. -/
theorem ctr0 (W₀ : Dev nD → Valuation τ sig (Elt F)) (h : ∀ c, W₀ c (Proc.devRef .tc main_v33_3) = fun _ => 0#32) (c : Dev nD) :
    ∀ k, atTrip cond0 body0I W₀ k c (Proc.devRef .tc main_v33_3) = fun _ => BitVec.ofNat 32 k
  | 0 => h c
  | k + 1 => by
    rw [atTrip_succ, ctr0_step, ctr0 W₀ h c k]
    funext _; exact ofNat_succ k

/-- The backward loop's counter before trip `k`. -/
theorem ctr1 (W₀ : Dev nD → Valuation τ sig (Elt F)) (h : ∀ c, W₀ c (Proc.devRef .tc main_v85_5) = fun _ => 0#32) (c : Dev nD) :
    ∀ k, atTrip cond1 body1I W₀ k c (Proc.devRef .tc main_v85_5) = fun _ => BitVec.ofNat 32 k
  | 0 => h c
  | k + 1 => by
    rw [atTrip_succ, ctr1_step, ctr1 W₀ h c k]
    funext _; exact ofNat_succ k

/-- The forward loop's condition holds for its first 64 tests and fails at the next. -/
theorem cond0_spec (W₀ : Dev nD → Valuation τ sig (Elt F)) (h : ∀ c, W₀ c (Proc.devRef .tc main_v33_3) = fun _ => 0#32) :
    LoopCond (Ix := Unit) (Name := ℕ) (U := Option PUnit) (Lvl := ℕ) (pcfgs (F := F)) defs₀ Variants.none loops Rw main_while0_cond cond0 body0I W₀ 64 := by
  intro k hk c bd
  have hctr := ctr0 W₀ h c k
  unfold main_while0_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  erw [HostLoop.elt_apply, wp_ret]; imodintro
  isplitr
  · ipureintro
    show Iff (IntOp.cmpi .slt (HloOp.result _ (atTrip cond0 body0I W₀ k c) main_v33_3 HostLoop.idx0)
        (HloOp.result _ (atTrip cond0 body0I W₀ k c) main_while0c_c_34 HostLoop.idx0) = 1#1) (k < 64)
    rw [StableHlo.nullary_result_ne _ _ _ _ (by decide), StableHlo.nullary_result, hctr]
    exact slt_iff k hk
  isplitl [Hb]; · iexact Hb
  isplitl [Hh]; · rw [StableHlo.after_cons, StableHlo.after_cons, StableHlo.after_nil]; iexact Hh
  iexact HR

/-- The backward loop's condition holds for its first 64 tests and fails at the next. -/
theorem cond1_spec (W₀ : Dev nD → Valuation τ sig (Elt F)) (h : ∀ c, W₀ c (Proc.devRef .tc main_v85_5) = fun _ => 0#32) :
    LoopCond (Ix := Unit) (Name := ℕ) (U := Option PUnit) (Lvl := ℕ) (pcfgs (F := F)) defs₀ Variants.none loops Rw main_while1_cond cond1 body1I W₀ 64 := by
  intro k hk c bd
  have hctr := ctr1 W₀ h c k
  unfold main_while1_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  erw [HostLoop.elt_apply, wp_ret]; imodintro
  isplitr
  · ipureintro
    show Iff (IntOp.cmpi .slt (HloOp.result _ (atTrip cond1 body1I W₀ k c) main_v85_5 HostLoop.idx0)
        (HloOp.result _ (atTrip cond1 body1I W₀ k c) main_while1c_c_35 HostLoop.idx0) = 1#1) (k < 64)
    rw [StableHlo.nullary_result_ne _ _ _ _ (by decide), StableHlo.nullary_result, hctr]
    exact slt_iff k hk
  isplitl [Hb]; · iexact Hb
  isplitl [Hh]; · rw [StableHlo.after_cons, StableHlo.after_cons, StableHlo.after_nil]; iexact Hh
  iexact HR

variable (m : (ℓ : Loc nD τ sig) → Buf (Elt F) ℓ)

/-- Buffers at the forward loop's entry. -/
abbrev W0 (c : Dev nD) : Valuation τ sig (Elt F) := afterL preI (launchContents m c)
/-- Buffers after the forward loop. -/
abbrev M0 (c : Dev nD) : Valuation τ sig (Elt F) := after cond0 (atTrip cond0 body0I (W0 m) 64 c)
/-- Buffers at the backward loop's entry. -/
abbrev W1 (c : Dev nD) : Valuation τ sig (Elt F) := afterL midI (M0 m c)
/-- Buffers after the backward loop. -/
abbrev M1 (c : Dev nD) : Valuation τ sig (Elt F) := after cond1 (atTrip cond1 body1I (W1 m) 64 c)
/-- Buffers at the end. -/
abbrev fin (c : Dev nD) : Valuation τ sig (Elt F) := afterL postI (M1 m c)

set_option maxHeartbeats 4000000 in
/-- The forward loop starts at 0. -/
theorem W0_ctr (c : Dev nD) : W0 m c (Proc.devRef .tc main_v33_3) = fun _ => 0#32 := by
  simp only [W0, afterL_cons, afterL_nil]
  after_reads_simp
  rfl

set_option maxHeartbeats 4000000 in
/-- The backward loop starts at 0. -/
theorem W1_ctr (c : Dev nD) : W1 m c (Proc.devRef .tc main_v85_5) = fun _ => 0#32 := by
  simp only [W1, afterL_cons, afterL_nil]
  after_reads_simp
  rfl

/-- The forward loop's body is its stretches. -/
theorem body0_chain : (main_while0_body : Prog (TpuEff nD τ sig (Elt F) (HostLoop.Sig (Pipeline.Sig Λ₀ (Fin 0) fun p => (pcfgs (F := F) p).Adm) 2) .tc) PUnit)
    = Pipeline.chain (body0I.map fun ops => (seq ops : Prog _ PUnit)) := by
  simp only [List.map_cons, List.map_nil]
  rewrite [Pipeline.chain_cons, Pipeline.chain_cons, Pipeline.chain_cons, StableHlo.chain_seq_cons, Pipeline.chain_cons, Pipeline.chain_cons, Pipeline.chain_cons, Pipeline.chain_cons, StableHlo.chain_seq_cons]
  chain_rfl

/-- The backward loop's body is its stretches. -/
theorem body1_chain : (main_while1_body : Prog (TpuEff nD τ sig (Elt F) (HostLoop.Sig (Pipeline.Sig Λ₀ (Fin 0) fun p => (pcfgs (F := F) p).Adm) 2) .tc) PUnit)
    = Pipeline.chain (body1I.map fun ops => (seq ops : Prog _ PUnit)) := by
  simp only [List.map_cons, List.map_nil]
  rewrite [StableHlo.chain_seq_cons, Pipeline.chain_cons, Pipeline.chain_cons, Pipeline.chain_cons, Pipeline.chain_cons, Pipeline.chain_cons, StableHlo.chain_seq_cons, Pipeline.chain_cons, Pipeline.chain_cons, Pipeline.chain_cons, StableHlo.chain_seq_cons]
  chain_rfl

/-- @main is its stretches and its two loops. -/
theorem main_chain (c : Dev nD) : (main c : Prog (TpuEff nD τ sig (Elt F) (HostLoop.Sig (Pipeline.Sig Λ₀ (Fin 0) fun p => (pcfgs (F := F) p).Adm) 2) .tc) PUnit)
    = Pipeline.chain ((preI.map fun ops => (seq ops : Prog _ PUnit)) ++ HostLoop.enter 0 ::
        ((midI.map fun ops => (seq ops : Prog _ PUnit)) ++ HostLoop.enter 1 :: postI.map fun ops => (seq ops : Prog _ PUnit))) := by
  simp only [List.map_cons, List.map_nil, List.cons_append, List.nil_append]
  rewrite [StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons]
  chain_rfl

/-- @main's segments. -/
def segs : List (CSeg (pcfgs (F := F)) adm defs₀ Variants.none L lv loops tk) :=
  segsOf _ _ _ _ _ _ _ _ Rw preI preI_plain (launchContents m)
    ++ loopSeg _ _ _ _ _ _ _ _ 0 main_while0_cond main_while0_body rfl cond0 body0I body0I_plain body0_chain 64 (W0 m) Rw (cond0_spec _ (W0_ctr m))
      :: (segsOf _ _ _ _ _ _ _ _ Rw midI midI_plain (M0 m)
        ++ loopSeg _ _ _ _ _ _ _ _ 1 main_while1_cond main_while1_body rfl cond1 body1I body1I_plain body1_chain 64 (W1 m) Rw (cond1_spec _ (W1_ctr m))
          :: segsOf _ _ _ _ _ _ _ _ Rw postI postI_plain (M1 m))

theorem segs_prog : (segs m).map CSeg.prog
    = (preI.map fun ops => (seq ops : Prog _ PUnit)) ++ HostLoop.enter 0 ::
        ((midI.map fun ops => (seq ops : Prog _ PUnit)) ++ HostLoop.enter 1 :: postI.map fun ops => (seq ops : Prog _ PUnit)) := by
  unfold segs
  rw [List.map_append, List.map_cons, List.map_append, List.map_cons, segsOf_prog, segsOf_prog, segsOf_prog]
  rfl

theorem main_segs (c : Dev nD) : (main c : Prog (TpuEff nD τ sig (Elt F) (HostLoop.Sig (Pipeline.Sig Λ₀ (Fin 0) fun p => (pcfgs (F := F) p).Adm) 2) .tc) PUnit)
    = Pipeline.chain ((segs m).map CSeg.prog) :=
  (main_chain c).trans (congrArg Pipeline.chain (segs_prog m).symm)

theorem segs_chains : CSeg.Chains (fun c => iprop(held (c : Thread nD τ) (ucRefs τ sig) (launchContents m c) ∗ Rw c)) (segs m)
      (fun c => iprop(iprop(held (c : Thread nD τ) (ucRefs τ sig) (fin m c)) ∗ ∃ W, owes (c : Thread nD τ) (0 : CellTallies nD τ sig Unit) W)) := by
  unfold segs
  exact CSeg.Chains.append (segsOf_chains _ _ _ _ _ _ _ _ Rw preI preI_plain _) ⟨fun _ => .rfl,
    CSeg.Chains.append (segsOf_chains _ _ _ _ _ _ _ _ Rw midI midI_plain _) ⟨fun _ => .rfl,
      segsOf_chains _ _ _ _ _ _ _ _ Rw postI postI_plain _⟩⟩

theorem cellOf_injective : Function.Injective (Pipeline.cellOf (nD := nD) (τ := τ) (Pipeline.pin (pcfgs (F := F)) adm)) :=
  fun k => k.1.elim0

/-- From any memory with zero counters every execution of @main ends, with every buffer at `fin`. -/
theorem run_fin [∀ e, Nonempty (Elt F e)] (ρ : Dev nD → PrngReg) :
    θ_run defs (onTc (τ := τ) (main (F := F))) ⟨m, fun _ => 0, ρ⟩
      (fun r => ∀ (c : Dev nD) (b : Ref sig .tc), (Proc.devRef .tc b : DevRef τ sig).isScoped = false →
        r.2.mem ((c.tc : Thread nD τ).loc b) = fin m c (Proc.devRef .tc b)) :=
  Pipeline.θ_run_regions_loop_kit (Ix := Unit) (Name := ℕ) (U := Option PUnit) (Lvl := ℕ) (J := Fin 0) (P := Fin 0) (Val := Elt F)
    (pcfgs (F := F)) adm cellOf_injective defs₀ Variants.none L lv loops tk m ρ main (segs m)
    (fun c Q => by
      rewrite [main_segs m c]
      exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (fin m c)))
    (hch := segs_chains m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = fin m c b)
    (hfin := fun c s' => by
      unfold held
      iintro ⟨Hh, HSI⟩
      ihave Hr := (pointsTo_read_all (ucRefs τ sig) (fun b => ((c : Dev nD), b)) (fun b => fin m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.ReferenceIdeal.Run

end
-- ==== Proof.RefFrame.lean ====
/- The reference leaves its arguments unchanged. -/
module

public import proofs.«01_k».proof.Proof.RefRun
public import Idealize.ShloMosaic.Lib.Quiescent
public import proofs.«01_k».proof.Defs

@[expose] public section

set_option maxRecDepth 16384

noncomputable section

namespace Cert.ReferenceIdeal.Run

open Cert.ReferenceIdeal Cert.ReferenceIdeal.Gen Idealize.ShloMosaic Idealize.ShloMosaic.TcCoe
open Idealize.ShloMosaic.StableHlo Idealize.SL.Sem

variable {F : FTy → Type} [FloatOps F]

/-- A buffer one trip keeps is kept by any number of trips. -/
theorem atTrip_keep {condOps : List (HloOp τ sig (Elt F))} {bodyI : List (List (HloOp τ sig (Elt F)))} {r : DevRef τ sig}
    (h : ∀ V, afterL bodyI (after condOps V) r = V r) (W₀ : Dev nD → Valuation τ sig (Elt F)) (c : Dev nD) :
    ∀ k, atTrip condOps bodyI W₀ k c r = W₀ c r
  | 0 => rfl
  | k + 1 => by rw [atTrip_succ, h, atTrip_keep h W₀ c k]

/-- A buffer no part of @main writes ends as it was launched. -/
theorem fin_keep {r : DevRef τ sig} (hpre : ∀ V : Valuation τ sig (Elt F), afterL preI V r = V r)
    (h0 : ∀ V : Valuation τ sig (Elt F), afterL body0I (after cond0 V) r = V r) (hc0 : ∀ V : Valuation τ sig (Elt F), after cond0 V r = V r)
    (hmid : ∀ V : Valuation τ sig (Elt F), afterL midI V r = V r)
    (h1 : ∀ V : Valuation τ sig (Elt F), afterL body1I (after cond1 V) r = V r) (hc1 : ∀ V : Valuation τ sig (Elt F), after cond1 V r = V r)
    (hpost : ∀ V : Valuation τ sig (Elt F), afterL postI V r = V r)
    (m : (ℓ : Loc nD τ sig) → Buf (Elt F) ℓ) (c : Dev nD) : fin m c r = m (c, r) := by
  exact (hpost _).trans ((hc1 _).trans ((atTrip_keep h1 _ c 64).trans ((hmid _).trans ((hc0 _).trans ((atTrip_keep h0 _ c 64).trans ((hpre _).trans rfl))))))

/-- Argument 0 ends as launched. -/
theorem fin_arg0 (m : (ℓ : Loc nD τ sig) → Buf (Elt F) ℓ) (c : Dev nD) :
    fin m c (Proc.devRef .tc main_arg0) = m ((c.tc : Thread nD τ).loc main_arg0) :=
  fin_keep (fun V => by simp only [afterL_cons, afterL_nil]; after_reads_simp) (fun V => by simp only [afterL_cons, afterL_nil]; after_reads_simp)
    (fun V => by after_reads_simp) (fun V => by simp only [afterL_cons, afterL_nil]; after_reads_simp)
    (fun V => by simp only [afterL_cons, afterL_nil]; after_reads_simp) (fun V => by after_reads_simp)
    (fun V => by simp only [afterL_cons, afterL_nil]; after_reads_simp) m c

/-- Argument 1 ends as launched. -/
theorem fin_arg1 (m : (ℓ : Loc nD τ sig) → Buf (Elt F) ℓ) (c : Dev nD) :
    fin m c (Proc.devRef .tc main_arg1) = m ((c.tc : Thread nD τ).loc main_arg1) :=
  fin_keep (fun V => by simp only [afterL_cons, afterL_nil]; after_reads_simp) (fun V => by simp only [afterL_cons, afterL_nil]; after_reads_simp)
    (fun V => by after_reads_simp) (fun V => by simp only [afterL_cons, afterL_nil]; after_reads_simp)
    (fun V => by simp only [afterL_cons, afterL_nil]; after_reads_simp) (fun V => by after_reads_simp)
    (fun V => by simp only [afterL_cons, afterL_nil]; after_reads_simp) m c

/-- Argument 2 ends as launched. -/
theorem fin_arg2 (m : (ℓ : Loc nD τ sig) → Buf (Elt F) ℓ) (c : Dev nD) :
    fin m c (Proc.devRef .tc main_arg2) = m ((c.tc : Thread nD τ).loc main_arg2) :=
  fin_keep (fun V => by simp only [afterL_cons, afterL_nil]; after_reads_simp) (fun V => by simp only [afterL_cons, afterL_nil]; after_reads_simp)
    (fun V => by after_reads_simp) (fun V => by simp only [afterL_cons, afterL_nil]; after_reads_simp)
    (fun V => by simp only [afterL_cons, afterL_nil]; after_reads_simp) (fun V => by after_reads_simp)
    (fun V => by simp only [afterL_cons, afterL_nil]; after_reads_simp) m c

/-- Argument 3 ends as launched. -/
theorem fin_arg3 (m : (ℓ : Loc nD τ sig) → Buf (Elt F) ℓ) (c : Dev nD) :
    fin m c (Proc.devRef .tc main_arg3) = m ((c.tc : Thread nD τ).loc main_arg3) :=
  fin_keep (fun V => by simp only [afterL_cons, afterL_nil]; after_reads_simp) (fun V => by simp only [afterL_cons, afterL_nil]; after_reads_simp)
    (fun V => by after_reads_simp) (fun V => by simp only [afterL_cons, afterL_nil]; after_reads_simp)
    (fun V => by simp only [afterL_cons, afterL_nil]; after_reads_simp) (fun V => by after_reads_simp)
    (fun V => by simp only [afterL_cons, afterL_nil]; after_reads_simp) m c

/-- Argument 4 ends as launched. -/
theorem fin_arg4 (m : (ℓ : Loc nD τ sig) → Buf (Elt F) ℓ) (c : Dev nD) :
    fin m c (Proc.devRef .tc main_arg4) = m ((c.tc : Thread nD τ).loc main_arg4) :=
  fin_keep (fun V => by simp only [afterL_cons, afterL_nil]; after_reads_simp) (fun V => by simp only [afterL_cons, afterL_nil]; after_reads_simp)
    (fun V => by after_reads_simp) (fun V => by simp only [afterL_cons, afterL_nil]; after_reads_simp)
    (fun V => by simp only [afterL_cons, afterL_nil]; after_reads_simp) (fun V => by after_reads_simp)
    (fun V => by simp only [afterL_cons, afterL_nil]; after_reads_simp) m c

/-- Argument 5 ends as launched. -/
theorem fin_arg5 (m : (ℓ : Loc nD τ sig) → Buf (Elt F) ℓ) (c : Dev nD) :
    fin m c (Proc.devRef .tc main_arg5) = m ((c.tc : Thread nD τ).loc main_arg5) :=
  fin_keep (fun V => by simp only [afterL_cons, afterL_nil]; after_reads_simp) (fun V => by simp only [afterL_cons, afterL_nil]; after_reads_simp)
    (fun V => by after_reads_simp) (fun V => by simp only [afterL_cons, afterL_nil]; after_reads_simp)
    (fun V => by simp only [afterL_cons, afterL_nil]; after_reads_simp) (fun V => by after_reads_simp)
    (fun V => by simp only [afterL_cons, afterL_nil]; after_reads_simp) m c

/-- Argument 6 ends as launched. -/
theorem fin_arg6 (m : (ℓ : Loc nD τ sig) → Buf (Elt F) ℓ) (c : Dev nD) :
    fin m c (Proc.devRef .tc main_arg6) = m ((c.tc : Thread nD τ).loc main_arg6) :=
  fin_keep (fun V => by simp only [afterL_cons, afterL_nil]; after_reads_simp) (fun V => by simp only [afterL_cons, afterL_nil]; after_reads_simp)
    (fun V => by after_reads_simp) (fun V => by simp only [afterL_cons, afterL_nil]; after_reads_simp)
    (fun V => by simp only [afterL_cons, afterL_nil]; after_reads_simp) (fun V => by after_reads_simp)
    (fun V => by simp only [afterL_cons, afterL_nil]; after_reads_simp) m c

/-- Argument 7 ends as launched. -/
theorem fin_arg7 (m : (ℓ : Loc nD τ sig) → Buf (Elt F) ℓ) (c : Dev nD) :
    fin m c (Proc.devRef .tc main_arg7) = m ((c.tc : Thread nD τ).loc main_arg7) :=
  fin_keep (fun V => by simp only [afterL_cons, afterL_nil]; after_reads_simp) (fun V => by simp only [afterL_cons, afterL_nil]; after_reads_simp)
    (fun V => by after_reads_simp) (fun V => by simp only [afterL_cons, afterL_nil]; after_reads_simp)
    (fun V => by simp only [afterL_cons, afterL_nil]; after_reads_simp) (fun V => by after_reads_simp)
    (fun V => by simp only [afterL_cons, afterL_nil]; after_reads_simp) m c

/-- Argument 8 ends as launched. -/
theorem fin_arg8 (m : (ℓ : Loc nD τ sig) → Buf (Elt F) ℓ) (c : Dev nD) :
    fin m c (Proc.devRef .tc main_arg8) = m ((c.tc : Thread nD τ).loc main_arg8) :=
  fin_keep (fun V => by simp only [afterL_cons, afterL_nil]; after_reads_simp) (fun V => by simp only [afterL_cons, afterL_nil]; after_reads_simp)
    (fun V => by after_reads_simp) (fun V => by simp only [afterL_cons, afterL_nil]; after_reads_simp)
    (fun V => by simp only [afterL_cons, afterL_nil]; after_reads_simp) (fun V => by after_reads_simp)
    (fun V => by simp only [afterL_cons, afterL_nil]; after_reads_simp) m c

/-- The reference's frame: it runs, its arguments end as they were, every counter is at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨(h c main_arg0 rfl).trans (fin_arg0 m c), (h c main_arg1 rfl).trans (fin_arg1 m c), (h c main_arg2 rfl).trans (fin_arg2 m c), (h c main_arg3 rfl).trans (fin_arg3 m c), (h c main_arg4 rfl).trans (fin_arg4 m c), (h c main_arg5 rfl).trans (fin_arg5 m c), (h c main_arg6 rfl).trans (fin_arg6 m c), (h c main_arg7 rfl).trans (fin_arg7 m c), (h c main_arg8 rfl).trans (fin_arg8 m c)⟩,
    sem_eq_zero_of_no_sems (by decide) r.2⟩) (run_fin m ρ)

end Cert.ReferenceIdeal.Run

end
-- ==== Proof.Twin.lean ====
/- The kernel and its idealized text are one program text: a frame of the one over the bit values is a frame of the other. -/
module

public import proofs.«01_k».proof.Defs
public import proofs.«01_k».proof.Proof.Gen.Kernel
public import proofs.«01_k».proof.Proof.Gen.KernelIdeal
public import Idealize.ShloMosaic.Lib.Pipeline.Regions

@[expose] public section

set_option maxRecDepth 16384

noncomputable section

namespace Cert.Proof

open Idealize.ShloMosaic Idealize.SL.Sem

/-- The kernel's frame, stated of the idealized text over the bit values. -/
def quiescentBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

/-- The kernel's frame is that statement. -/
theorem quiescent_eq : Cert.quiescent_Kernel = quiescentBits := by
  chain_rfl

end Cert.Proof

end
-- ==== Proof.KChunk.lean ====
module
public import proofs.«01_k».proof.Proof.Gen.KernelIdeal.Value
@[expose] public section
/-! # The arithmetic of one chunk of the kernel

The kernel's body handles a window of 512 rows as eight chunks of 64 rows, the last chunk first. This module names the
arrays one chunk leaves, as functions of the window's twelve inputs, of the chunk's number and of the state that is
carried from the chunk after it. -/
set_option maxRecDepth 16384
noncomputable section
namespace Cert.KernelIdeal.Chunk
open Cert.KernelIdeal Cert.KernelIdeal.Gen Idealize.ShloMosaic Idealize.ShloMosaic.TcCoe Idealize.SL.Sem
variable {F : FTy → Type} [FloatOps F]

/-- The second coordinate of one grid point, and its twelve input windows. -/
structure Win (F : FTy → Type) [FloatOps F] where
  b : BitVec 32
  x0 : Vec F S512x128 .bf16
  x1 : Vec F S512x128 .bf16
  x2 : Vec F S512x256 .bf16
  x3 : Vec F S512x256 .bf16
  x4 : Vec F S512x128 .bf16
  x5 : Vec F S128x128 .bf16
  x6 : Vec F S1x128 .f32
  x7 : Vec F S1x256 .f32
  x8 : Vec F S512x256 .f32
  x9 : Vec F S1x8x256x128 .f32
  x10 : Vec F S1x1x256x128 .f32
  x11 : Vec F S512x256 .bf16

theorem inb128 (j : Fin 8) (a : Fin 2) : (![64 * j.val, 0] : Fin 2 → Nat) a + (![64, 128] : Fin 2 → Nat) a ≤ S512x128.size a := by
  revert j a; decide
theorem inb256 (j : Fin 8) (a : Fin 2) : (![64 * j.val, 0] : Fin 2 → Nat) a + (![64, 256] : Fin 2 → Nat) a ≤ S512x256.size a := by
  revert j a; decide
theorem inbSt (j : Fin 8) (a : Fin 4) : (![0, j.val, 0, 0] : Fin 4 → Nat) a + (![1, 1, 256, 128] : Fin 4 → Nat) a ≤ S1x8x256x128.size a := by
  revert j a; decide

/-- Rows `64 j … 64 j + 63` of a window of 128 columns. -/
def row128 {e : EltTy} (x : Vec F S512x128 e) (j : Fin 8) : Vec F S64x128 e :=
  View.ld x (Rect.unit ![64 * j.val, 0] ![64, 128] (inb128 j))
/-- Rows `64 j … 64 j + 63` of a window of 256 columns. -/
def row256 {e : EltTy} (x : Vec F S512x256 e) (j : Fin 8) : Vec F S64x256 e :=
  View.ld x (Rect.unit ![64 * j.val, 0] ![64, 256] (inb256 j))
/-- The state the window holds for chunk `j`. -/
def rowSt {e : EltTy} (x : Vec F S1x8x256x128 e) (j : Fin 8) : Vec F S1x1x256x128 e :=
  View.ld x (Rect.unit ![0, j.val, 0, 0] ![1, 1, 256, 128] (inbSt j))

/-- The piece a chunk's 64×128 array occupies in the window. -/
def tile128 {e : EltTy} (f : Fin 8 → Vec F S64x128 e) (j : Fin 8) : View.Piece (Elt F) S512x128 e :=
  ⟨Rect.unit ![64 * j.val, 0] ![64, 128] (inb128 j), f j⟩
/-- The piece a chunk's 64×256 array occupies in the window. -/
def tile256 {e : EltTy} (f : Fin 8 → Vec F S64x256 e) (j : Fin 8) : View.Piece (Elt F) S512x256 e :=
  ⟨Rect.unit ![64 * j.val, 0] ![64, 256] (inb256 j), f j⟩
/-- The window made of eight chunks' 64×128 arrays. -/
def tiles128 {e : EltTy} (f : Fin 8 → Vec F S64x128 e) : Vec F S512x128 e :=
  View.canon [tile128 f 0, tile128 f 1, tile128 f 2, tile128 f 3, tile128 f 4, tile128 f 5, tile128 f 6, tile128 f 7]
/-- The window made of eight chunks' 64×256 arrays. -/
def tiles256 {e : EltTy} (f : Fin 8 → Vec F S64x256 e) : Vec F S512x256 e :=
  View.canon [tile256 f 0, tile256 f 1, tile256 f 2, tile256 f 3, tile256 f 4, tile256 f 5, tile256 f 6, tile256 f 7]

namespace Win
variable (W : Win F)
/-- The gradient of the normalised output times the gate. -/
def dn (j : Fin 8) : FVec F S64x256 .f32 := k0_pay9 (row256 W.x3 j) (row256 W.x11 j)
/-- The scaled gradient of the recurrence's output. -/
def dob (j : Fin 8) : FVec F S64x256 .bf16 :=
  k0_pay13 W.x7 (k0_pay7 (row256 W.x8 j)) (k0_pay8 (row256 W.x8 j)) (W.dn j)
/-- The chunk's gradient of `q`. -/
def dq (j : Fin 8) : FVec F S64x128 .bf16 := k0_pay17 (W.dob j) (rowSt W.x9 j)
/-- The chunk's gradient of `r`. -/
def dr (j : Fin 8) : FVec F S64x256 .bf16 :=
  k0_pay11 (k0_pay4 (row256 W.x3 j)) (k0_pay5 (row256 W.x3 j)) (k0_pay6 (row256 W.x11 j)) (k0_pay10 W.x7 (row256 W.x8 j))
/-- The smaller of the gate's argument and 0. -/
def mn (j : Fin 8) : FVec F S64x128 .f32 := k0_pay21 (row128 W.x4 j) W.x5 W.x6
/-- `1 + exp (-|y|)` of the gate's argument `y`. -/
def ex (j : Fin 8) : FVec F S64x128 .f32 := k0_pay22 (row128 W.x4 j) W.x5 W.x6
/-- The gradient of the chunk's state, from the carried state. -/
def dst (j : Fin 8) (C : FVec F S256x128 .f32) : FVec F S256x128 .f32 := k0_pay18 (W.dob j) (k0_pay14 (row128 W.x0 j)) C
/-- The carried state the chunk leaves. -/
def new (j : Fin 8) (C : FVec F S256x128 .f32) : FVec F S256x128 .f32 := k0_pay35 (W.dst j C) (k0_pay26 (W.mn j) (W.ex j))
/-- The chunk's gradient of `v`. -/
def dv (j : Fin 8) (C : FVec F S256x128 .f32) : FVec F S64x256 .bf16 :=
  k0_pay30 (k0_pay15 (row128 W.x1 j)) (W.dst j C) (W.mn j) (W.ex j)
/-- The chunk's gradient of `k`. -/
def dk (j : Fin 8) (C : FVec F S256x128 .f32) : FVec F S64x128 .bf16 :=
  k0_pay31 (k0_pay16 (row256 W.x2 j)) (W.dst j C) (W.mn j) (W.ex j)
/-- The gradient of the chunk's decay: the state's gradient against the state before the chunk. That state is the
window's own of the chunk before; for chunk 0 it is the one handed over, or nothing where the window is the first. -/
def ddec (j : Fin 8) (C : FVec F S256x128 .f32) : FVec F S1x128 .f32 :=
  if j = 0 then
    k0_pay234 W.b C (k0_pay232 W.x7 (k0_pay7 (row256 W.x8 j)) (k0_pay8 (row256 W.x8 j)) (W.dn j) (row128 W.x0 j)) W.x10
  else k0_pay19 (W.dob j) (k0_pay14 (row128 W.x0 j)) C (rowSt W.x9 (j - 1))
/-- The chunk's gradient of the gate's argument. -/
def dg (j : Fin 8) (C : FVec F S256x128 .f32) : FVec F S64x128 .f32 :=
  k0_pay34 (W.ddec j C) (k0_pay20 (row128 W.x4 j) W.x5 W.x6) (k0_pay26 (W.mn j) (W.ex j))
    (k0_pay32 (k0_pay15 (row128 W.x1 j)) (k0_pay16 (row256 W.x2 j)) (W.dst j C) (W.mn j) (W.ex j))
    k0_pay33 (Scalar.ofBits .f32 0x3F800000#32) (Scalar.ofBits .f32 0x00000000#32)
/-- The chunk's contribution to the gradient of the norm's scale, added to what the chunks after it gave. -/
def gn (j : Fin 8) (G : Vec F S1x256 .f32) : FVec F S1x256 .f32 :=
  k0_pay12 (k0_pay7 (row256 W.x8 j)) (k0_pay8 (row256 W.x8 j)) (W.dn j) G

/-- The carried state before `k` chunks from the last are done. -/
def car (C : FVec F S256x128 .f32) : Nat → FVec F S256x128 .f32
  | 0 => C
  | k + 1 => W.new (7 - Fin.ofNat 8 k) (car C k)
/-- The gradient of the norm's scale after `k` chunks from the last. -/
def gnAt (G : Vec F S1x256 .f32) : Nat → Vec F S1x256 .f32
  | 0 => G
  | k + 1 => W.gn (7 - Fin.ofNat 8 k) (gnAt G k)
/-- The window of gradients of `q`. -/
def out12 : Vec F S512x128 .bf16 := tiles128 W.dq
/-- The window of gradients of `k`. -/
def out13 (C : FVec F S256x128 .f32) : Vec F S512x128 .bf16 := tiles128 fun j => W.dk j (W.car C (7 - j.val))
/-- The window of gradients of `v`. -/
def out14 (C : FVec F S256x128 .f32) : Vec F S512x256 .bf16 := tiles256 fun j => W.dv j (W.car C (7 - j.val))
/-- The window of gradients of `r`. -/
def out15 : Vec F S512x256 .bf16 := tiles256 W.dr
/-- The window of gradients of the gate's argument. -/
def out16 (C : FVec F S256x128 .f32) : Vec F S512x128 .f32 :=
  tiles128 fun j => W.dg j (W.car C (7 - j.val))
end Win
end Cert.KernelIdeal.Chunk
end
-- ==== Proof.RealVal.lean ====
module
public import Idealize.ShloMosaic.Lib.Pointwise
public import Mathlib.Analysis.SpecialFunctions.Log.Basic
public import Mathlib.Analysis.Complex.Trigonometric
@[expose] public section
/-! # The extended-real operations at real arguments

Every array of the two programs holds real numbers under the claim's precondition. Each operation at arguments that are
coercions of reals is the coercion of the real operation. -/
noncomputable section
namespace Cert.RealVal
open Idealize.ShloMosaic

/-- The scale of the queries: the real number its float word is. -/
def sc : ℝ := 11863283 / 134217728
/-- The constant under the norm's root: the real number its float word is. -/
def eps : ℝ := 8796093 / 8796093022208

theorem eps_pos : 0 < eps := by unfold eps; norm_num

theorem exp_coe (r : ℝ) : Ideal.exp (r : EReal) = ((Real.exp r : ℝ) : EReal) := rfl
theorem tanh_coe (r : ℝ) : Ideal.tanh (r : EReal) = ((Real.tanh r : ℝ) : EReal) := rfl
theorem log_coe {r : ℝ} (h : 0 < r) : Ideal.log (r : EReal) = ((Real.log r : ℝ) : EReal) := by
  show (if r ≤ 0 then (⊥ : EReal) else (Real.log r : EReal)) = _
  rw [if_neg (not_le.mpr h)]
theorem rsqrt_coe {r : ℝ} (h : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (not_lt.mpr h.le), if_neg h.ne']
theorem div_coe (x : ℝ) {y : ℝ} (h : y ≠ 0) : Ideal.div (x : EReal) (y : EReal) = ((x / y : ℝ) : EReal) := by
  unfold Ideal.div
  rw [if_neg (by exact_mod_cast h), ← EReal.coe_inv, ← EReal.coe_mul, div_eq_mul_inv]
theorem abs_coe (r : ℝ) : FloatOps.absf (F := Ideal) (φ := .f32) (r : EReal) = ((|r| : ℝ) : EReal) := by
  show max (r : EReal) (-(r : EReal)) = _
  rw [← EReal.coe_neg, ← EReal.coe_strictMono.monotone.map_max]; rfl
theorem min_coe (x y : ℝ) : min (x : EReal) (y : EReal) = ((min x y : ℝ) : EReal) := (EReal.coe_strictMono.monotone.map_min (a := x) (b := y)).symm
theorem max_coe (x y : ℝ) : max (x : EReal) (y : EReal) = ((max x y : ℝ) : EReal) := (EReal.coe_strictMono.monotone.map_max (a := x) (b := y)).symm

/-- A sum of reals, coerced. -/
theorem sum_coe {ι : Type} [Fintype ι] (f : ι → ℝ) : (∑ k, ((f k : ℝ) : EReal)) = ((∑ k, f k : ℝ) : EReal) := by
  classical
  refine Finset.induction_on (motive := fun s => (∑ k ∈ s, ((f k : ℝ) : EReal)) = ((∑ k ∈ s, f k : ℝ) : EReal)) _ ?_ ?_
  · simp
  · intro a s ha ih; rw [Finset.sum_insert ha, Finset.sum_insert ha, ih, EReal.coe_add]

theorem c_zero : (0 : EReal) = ((0 : ℝ) : EReal) := rfl
theorem c_one : (1 : EReal) = ((1 : ℝ) : EReal) := rfl
theorem c_half : Ideal.ofBits .f32 0x3F000000#32 = ((1 / 2 : ℝ) : EReal) := by
  simp [Ideal.ofBits, Ideal.ieee, -EReal.coe_mul]; norm_num
theorem c_nhalf : Ideal.ofBits .f32 0xBF000000#32 = ((-(1 / 2) : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_256 : Ideal.ofBits .f32 0x43800000#32 = ((256 : ℝ) : EReal) := by
  simp [Ideal.ofBits, Ideal.ieee, -EReal.coe_mul]; norm_num
theorem c_16 : Ideal.ofBits .f32 0x41800000#32 = ((16 : ℝ) : EReal) := by
  simp [Ideal.ofBits, Ideal.ieee, -EReal.coe_mul]; norm_num
theorem c_16th : Ideal.ofBits .f32 0x3D800000#32 = ((1 / 16 : ℝ) : EReal) := by
  simp [Ideal.ofBits, Ideal.ieee, -EReal.coe_mul]; norm_num
theorem c_eps : Ideal.ofBits .f32 0x358637BD#32 = ((eps : ℝ) : EReal) := by
  unfold eps; simp [Ideal.ofBits, Ideal.ieee, -EReal.coe_mul]; norm_num
theorem c_sc : Ideal.ofBits .f32 0x3DB504F3#32 = ((sc : ℝ) : EReal) := by
  unfold sc; simp [Ideal.ofBits, Ideal.ieee, -EReal.coe_mul]; norm_num

/-- The sigmoid. -/
def sg (x : ℝ) : ℝ := (1 + Real.exp (-x))⁻¹

/-- The sigmoid through the hyperbolic tangent of half the argument. -/
theorem sg_tanh (x : ℝ) : 1 / 2 * Real.tanh (1 / 2 * x) + 1 / 2 = sg x := by
  unfold sg
  rw [Real.tanh_eq_sinh_div_cosh, Real.sinh_eq, Real.cosh_eq]
  have h : Real.exp (-x) = Real.exp (-(1 / 2 * x)) * Real.exp (-(1 / 2 * x)) := by rw [← Real.exp_add]; ring_nf
  have h1 : Real.exp (1 / 2 * x) * Real.exp (-(1 / 2 * x)) = 1 := by rw [← Real.exp_add]; simp
  have p := Real.exp_pos (1 / 2 * x)
  have p' := Real.exp_pos (-(1 / 2 * x))
  rw [h]
  generalize Real.exp (1 / 2 * x) = a at *
  generalize Real.exp (-(1 / 2 * x)) = b at *
  have : 1 + b * b ≠ 0 := by positivity
  have : a + b ≠ 0 := by positivity
  field_simp
  nlinarith

/-- A comparison of two small numbers as a word: not greater. -/
theorem sle_word (x i : Fin 64) : IntOp.cmpi .sle (BitVec.ofNat 32 x.val) (BitVec.ofNat 32 i.val) = if x.val ≤ i.val then 1#1 else 0#1 := by
  revert x i; decide +kernel
/-- A comparison of two small numbers as a word: less. -/
theorem slt_word (x i : Fin 64) : IntOp.cmpi .slt (BitVec.ofNat 32 x.val) (BitVec.ofNat 32 i.val) = if x.val < i.val then 1#1 else 0#1 := by
  revert x i; decide +kernel
theorem select_ite {α : Type} (p : Prop) [Decidable p] (a b : α) : Scalar.select (if p then 1#1 else 0#1) a b = if p then a else b := by
  by_cases h : p <;> simp [h, Scalar.select]
/-- A choice between two reals, coerced. -/
theorem ite_coe (p : Prop) [Decidable p] (a b : ℝ) : (if p then ((a : ℝ) : EReal) else ((b : ℝ) : EReal)) = ((if p then a else b : ℝ) : EReal) := by
  by_cases h : p <;> simp [h]
theorem add_zero_coe (x : ℝ) : ((x : ℝ) : EReal) - ((x : ℝ) : EReal) = ((0 : ℝ) : EReal) := by
  rw [← EReal.coe_sub, sub_self]

/-- An array of two axes holds the reals `f`. -/
def Is2 {m n : Nat} (X : (⟨2, ![m, n]⟩ : Shape).Idx → EReal) (f : Nat → Nat → ℝ) : Prop :=
  ∀ (i : Fin m) (j : Fin n), X (ix2 i j) = ((f i.val j.val : ℝ) : EReal)
/-- An array of three axes holds the reals `f`. -/
def Is3 {m n o : Nat} (X : (⟨3, ![m, n, o]⟩ : Shape).Idx → EReal) (f : Nat → Nat → Nat → ℝ) : Prop :=
  ∀ (i : Fin m) (j : Fin n) (k : Fin o), X (ix3 i j k) = ((f i.val j.val k.val : ℝ) : EReal)
/-- An array of four axes holds the reals `f`. -/
def Is4 {m n o p : Nat} (X : (⟨4, ![m, n, o, p]⟩ : Shape).Idx → EReal) (f : Nat → Nat → Nat → Nat → ℝ) : Prop :=
  ∀ (i : Fin m) (j : Fin n) (k : Fin o) (l : Fin p), X (ix4 i j k l) = ((f i.val j.val k.val l.val : ℝ) : EReal)
end Cert.RealVal
end
-- ==== Proof.Spec.lean ====
module
public import proofs.«01_k».proof.Proof.RealVal
@[expose] public section
/-! # The gradient of gated linear attention over the reals

The nine inputs are functions of natural coordinates. A row is `64 n + i`, row `i` of chunk `n`; a key column is
`128 h + a` and a value column `256 h + b`, `h` being the head. -/
noncomputable section
namespace Cert.Spec
open Cert.RealVal

/-- The reciprocal root of a row's mean square. -/
def rinvR (o : Nat → Nat → ℝ) (i : Nat) : ℝ := (Real.sqrt ((∑ b : Fin 256, o i b * o i b) / 256 + eps))⁻¹
/-- The gate's argument: a product of 128 terms and an offset. -/
def yR (x w : Nat → Nat → ℝ) (b : Nat → ℝ) (i a : Nat) : ℝ := (∑ j : Fin 128, x i j * w j a) + b a
/-- The logarithm of the decay, from the gate's argument. -/
def laR (y : ℝ) : ℝ := (min y 0 - Real.log (1 + Real.exp (0 - |y|))) / 16
/-- Its running sum over a chunk's rows. -/
def cumR (y : Nat → Nat → ℝ) (i a : Nat) : ℝ := ∑ i' : Fin 64, if i'.val ≤ i then laR (y i' a) else 0

/-- The nine inputs. -/
structure Inp where
  q : Nat → Nat → ℝ
  k : Nat → Nat → ℝ
  v : Nat → Nat → ℝ
  r : Nat → Nat → ℝ
  lr : Nat → Nat → ℝ
  wa : Nat → Nat → ℝ
  ba : Nat → ℝ
  g : Nat → ℝ
  dy : Nat → Nat → ℝ

namespace Inp
variable (D : Inp)
/-- The low-rank gate input, in 128 columns. -/
def lrp (t j : Nat) : ℝ := if j < 16 then D.lr t j else 0
/-- The gate's weight, in 128 rows. -/
def wap (j c : Nat) : ℝ := if j < 16 then D.wa j c else 0
/-- A chunk's rows of a head's queries. -/
def Q (n h i a : Nat) : ℝ := D.q (64 * n + i) (128 * h + a)
/-- A chunk's rows of a head's keys. -/
def K (n h i a : Nat) : ℝ := D.k (64 * n + i) (128 * h + a)
/-- A chunk's rows of a head's values. -/
def V (n h i b : Nat) : ℝ := D.v (64 * n + i) (256 * h + b)
/-- A chunk's rows of a head's output gate. -/
def R (n h i b : Nat) : ℝ := D.r (64 * n + i) (256 * h + b)
/-- A chunk's rows of a head's incoming gradient. -/
def DY (n h i b : Nat) : ℝ := D.dy (64 * n + i) (256 * h + b)
/-- The gate's argument. -/
def Y (n h i a : Nat) : ℝ := yR (fun i j => D.lrp (64 * n + i) j) (fun j a => D.wap j (128 * h + a)) (fun a => D.ba (128 * h + a)) i a
/-- The running sum of the decay's logarithm. -/
def cum (n h i a : Nat) : ℝ := cumR (D.Y n h) i a
/-- The decay from a row to the end of its chunk. -/
def w (n h i a : Nat) : ℝ := Real.exp (D.cum n h 63 a - D.cum n h i a)
/-- The decay over a whole chunk. -/
def dec (n h a : Nat) : ℝ := Real.exp (D.cum n h 63 a)
/-- A chunk's own contribution to the state. -/
def u (n h b a : Nat) : ℝ := ∑ i : Fin 64, D.K n h i a * D.w n h i a * D.V n h i b
/-- The state before chunk `n`. -/
def S : Nat → Nat → Nat → Nat → ℝ
  | 0, _, _, _ => 0
  | n + 1, h, b, a => D.dec n h a * S n h b a + D.u n h b a
/-- The recurrence's output. -/
def o (n h i b : Nat) : ℝ := ∑ a : Fin 128, D.Q n h i a * sc * D.S (n + 1) h b a
/-- The reciprocal root of the output's mean square. -/
def ri (n h i : Nat) : ℝ := rinvR (D.o n h) i
/-- The gradient of the normalised output times the norm's scale. -/
def dn (n h i b : Nat) : ℝ := D.DY n h i b * (D.R n h i b * sg (D.R n h i b))
/-- The gradient of the output gate. -/
def dr (n h i b : Nat) : ℝ :=
  D.DY n h i b * (D.o n h i b * D.ri n h i * D.g b) * (sg (D.R n h i b) * (1 + D.R n h i b * (1 - sg (D.R n h i b))))
/-- One row's contribution to the gradient of the norm's scale. -/
def dg1 (n h i b : Nat) : ℝ := D.dn n h i b * D.o n h i b * D.ri n h i
/-- The gradient of the norm's scale. -/
def dgn (b : Nat) : ℝ := ∑ h : Fin 4, ∑ n : Fin 64, ∑ i : Fin 64, D.dg1 n h i b
/-- The scaled gradient of the recurrence's output. -/
def dob (n h i b : Nat) : ℝ :=
  (D.ri n h i * (D.dn n h i b * D.g b)
    - D.o n h i b * (D.ri n h i * D.ri n h i * D.ri n h i) * ((∑ b' : Fin 256, D.dn n h i b' * D.g b' * D.o n h i b') / 256)) * sc
/-- The gradient of the queries. -/
def dq (n h i a : Nat) : ℝ := ∑ b : Fin 256, D.dob n h i b * D.S (n + 1) h b a
/-- What a chunk's output adds to the gradient of its state. -/
def ds1 (n h b a : Nat) : ℝ := ∑ i : Fin 64, D.dob n h i b * D.Q n h i a
/-- The gradient carried to chunk `63 - k` from the chunks after it. -/
def car : Nat → Nat → Nat → Nat → ℝ
  | 0, _, _, _ => 0
  | k + 1, h, b, a => D.dec (63 - k) h a * (car k h b a + D.ds1 (63 - k) h b a)
/-- The gradient of the state after chunk `n`. -/
def dS (n h b a : Nat) : ℝ := D.car (63 - n) h b a + D.ds1 n h b a
/-- The gradient of a chunk's decay. -/
def ddec (n h a : Nat) : ℝ := ∑ b : Fin 256, D.dS n h b a * D.S n h b a
/-- The gradient of the decayed keys. -/
def dkd (n h i a : Nat) : ℝ := ∑ b : Fin 256, D.V n h i b * D.dS n h b a
/-- The gradient of the values. -/
def dv (n h i b : Nat) : ℝ := ∑ a : Fin 128, D.K n h i a * D.w n h i a * D.dS n h b a
/-- The gradient of the keys. -/
def dk (n h i a : Nat) : ℝ := D.dkd n h i a * D.w n h i a
/-- The gradient of the decay's exponent, row by row. -/
def e (n h i a : Nat) : ℝ := D.dkd n h i a * D.K n h i a * D.w n h i a
/-- The gradient of the gate's argument. -/
def dgate (n h i a : Nat) : ℝ :=
  ((∑ i' : Fin 64, if i'.val < i then D.e n h i' a else 0) + D.ddec n h a * D.dec n h a) * (1 / 16) * sg (-D.Y n h i a)
end Inp
end Cert.Spec
end
-- ==== Proof.KVal.lean ====
module
public import proofs.«01_k».proof.Proof.KChunk
public import proofs.«01_k».proof.Proof.Spec
@[expose] public section
/-! # One chunk of the kernel over the reals

What each array of one chunk holds, its inputs holding reals. -/
set_option maxRecDepth 16384
noncomputable section
namespace Cert.KernelIdeal.Chunk
open Cert.KernelIdeal Cert.KernelIdeal.Gen Idealize.ShloMosaic Idealize.ShloMosaic.TcCoe Idealize.SL.Sem Cert.RealVal Cert.Spec

theorem pay8_val (X : Vec Ideal S64x256 .f32) (o : Nat → Nat → ℝ) (h : Is2 X o) (i : Fin 64) (z : Fin 1) :
    k0_pay8 X (ix2 i z) = ((rinvR o i : ℝ) : EReal) := by
  pointwise [k0_pay8, k0_pay7]
  simp only [h i _, ← EReal.coe_mul, sum_coe, c_256, c_eps, div_coe _ (show (256 : ℝ) ≠ 0 by norm_num), ← EReal.coe_add]
  rw [rsqrt_coe]
  · rfl
  · have : 0 ≤ ∑ b : Fin 256, o i b * o i b := Finset.sum_nonneg fun b _ => mul_self_nonneg _
    have := eps_pos
    positivity

theorem pay5_val (X : Vec Ideal S64x256 .bf16) (r : Nat → Nat → ℝ) (h : Is2 X r) : Is2 (k0_pay5 X) fun i b => sg (r i b) := by
  intro i b
  pointwise [k0_pay5, k0_pay4]
  simp only [h i _, c_half, ← EReal.coe_mul, tanh_coe, ← EReal.coe_add, sg_tanh]

theorem pay9_val (X Y : Vec Ideal S64x256 .bf16) (r dy : Nat → Nat → ℝ) (h : Is2 X r) (hy : Is2 Y dy) :
    Is2 (k0_pay9 X Y) fun i b => dy i b * (r i b * sg (r i b)) := by
  intro i b
  have h5 := pay5_val X r h
  pointwise [k0_pay9, k0_pay4, k0_pay6]
  simp only [h i _, h5 i _, hy i _, ← EReal.coe_mul]

theorem pay13_val (X : Vec Ideal S64x256 .f32) (D : FVec Ideal S64x256 .f32) (G : Vec Ideal S1x256 .f32) (o d : Nat → Nat → ℝ) (g : Nat → ℝ)
    (h : Is2 X o) (hd : Is2 D d) (hg : ∀ b : Fin 256, G (ix2 0 b) = ((g b.val : ℝ) : EReal)) :
    Is2 (k0_pay13 G (k0_pay7 X) (k0_pay8 X) D) fun i b =>
      (rinvR o i * (d i b * g b) - o i b * (rinvR o i * rinvR o i * rinvR o i) * ((∑ b' : Fin 256, d i b' * g b' * o i b') / 256)) * sc := by
  intro i b
  have h8 := pay8_val X o h
  pointwise [k0_pay13, k0_pay7]
  simp only [h i _, h8 i _, hd i _, hg _, ← EReal.coe_mul, sum_coe, c_256, c_sc, div_coe _ (show (256 : ℝ) ≠ 0 by norm_num), ← EReal.coe_sub]

theorem pay11_val (X : Vec Ideal S64x256 .f32) (R Y : Vec Ideal S64x256 .bf16) (G : Vec Ideal S1x256 .f32) (o r dy : Nat → Nat → ℝ) (g : Nat → ℝ)
    (h : Is2 X o) (hr : Is2 R r) (hy : Is2 Y dy) (hg : ∀ b : Fin 256, G (ix2 0 b) = ((g b.val : ℝ) : EReal)) :
    Is2 (k0_pay11 (k0_pay4 R) (k0_pay5 R) (k0_pay6 Y) (k0_pay10 G X)) fun i b =>
      dy i b * (o i b * rinvR o i * g b) * (sg (r i b) * (1 + r i b * (1 - sg (r i b)))) := by
  intro i b
  have h8 := pay8_val X o h
  have h5 := pay5_val R r hr
  pointwise [k0_pay11, k0_pay7, k0_pay6, k0_pay10, k0_pay4]
  simp only [h i _, h8 i _, h5 i _, hy i _, hr i _, hg _, c_one, ← EReal.coe_mul, ← EReal.coe_add, ← EReal.coe_sub]

theorem pay12_val (X : Vec Ideal S64x256 .f32) (D : FVec Ideal S64x256 .f32) (G : Vec Ideal S1x256 .f32) (o d : Nat → Nat → ℝ) (g : Nat → ℝ)
    (h : Is2 X o) (hd : Is2 D d) (hg : ∀ b : Fin 256, G (ix2 0 b) = ((g b.val : ℝ) : EReal)) (b : Fin 256) :
    k0_pay12 (k0_pay7 X) (k0_pay8 X) D G (ix2 0 b) = ((g b + ∑ i : Fin 64, d i b * o i b * rinvR o i : ℝ) : EReal) := by
  have h8 := pay8_val X o h
  pointwise [k0_pay12, k0_pay7]
  simp only [h _ _, h8 _ _, hd _ _, hg _, ← EReal.coe_mul, sum_coe, ← EReal.coe_add]

theorem pay17_val (D : FVec Ideal S64x256 .bf16) (S : Vec Ideal S1x1x256x128 .f32) (d s : Nat → Nat → ℝ)
    (hd : Is2 D d) (hs : ∀ (b : Fin 256) (a : Fin 128), S (ix4 0 0 b a) = ((s b a : ℝ) : EReal)) :
    Is2 (k0_pay17 D S) fun i a => ∑ b : Fin 256, d i b * s b a := by
  intro i a
  pointwise [k0_pay17]
  simp only [hd _ _, hs _ _, ← EReal.coe_mul, sum_coe]

theorem pay18_val (D : FVec Ideal S64x256 .bf16) (Q : Vec Ideal S64x128 .bf16) (C : FVec Ideal S256x128 .f32) (d q c : Nat → Nat → ℝ)
    (hd : Is2 D d) (hq : Is2 Q q) (hc : Is2 C c) :
    Is2 (k0_pay18 D (k0_pay14 Q) C) fun b a => c b a + ∑ i : Fin 64, d i b * q i a := by
  intro b a
  pointwise [k0_pay18, k0_pay14]
  simp only [hd _ _, hq _ _, hc _ _, ← EReal.coe_mul, sum_coe, ← EReal.coe_add]

theorem pay19_val (D : FVec Ideal S64x256 .bf16) (Q : FVec Ideal S64x128 .bf16) (C : Vec Ideal S256x128 .f32) (S : Vec Ideal S1x1x256x128 .f32)
    (t s : Nat → Nat → ℝ) (ht : Is2 (k0_pay18 D Q C) t) (hs : ∀ (b : Fin 256) (a : Fin 128), S (ix4 0 0 b a) = ((s b a : ℝ) : EReal)) (a : Fin 128) :
    k0_pay19 D Q C S (ix2 0 a) = ((∑ b : Fin 256, t b a * s b a : ℝ) : EReal) := by
  pointwise [k0_pay19]
  simp only [ht _ _, hs _ _, ← EReal.coe_mul, sum_coe]

theorem pay234_val (w : BitVec 32) (C E : FVec Ideal S256x128 .f32) (S : Vec Ideal S1x1x256x128 .f32)
    (t s : Nat → Nat → ℝ) (ht : Is2 (addf C E) t)
    (hs : w ≠ 7#32 → ∀ (b : Fin 256) (a : Fin 128), S (ix4 0 0 b a) = ((s b a : ℝ) : EReal)) (h0 : w = 7#32 → ∀ b a, s b a = 0) (a : Fin 128) :
    k0_pay234 w C E S (ix2 0 a) = ((∑ b : Fin 256, t b a * s b a : ℝ) : EReal) := by
  have ht' : ∀ b a, C (ix2 b a) + E (ix2 b a) = ((t b.val a.val : ℝ) : EReal) := ht
  pointwise [k0_pay234, k0_pay233]
  rw [← sum_coe]
  refine Finset.sum_congr rfl fun b _ => ?_
  by_cases hw : w = 7#32
  · subst hw; simp [Scalar.select, Scalar.cmpi, IntOp.cmpi, h0]
  · rw [ht' b a, hs hw b a, ← EReal.coe_mul]
    have hf : (w == 7#32) = false := by simpa using hw
    simp [Scalar.select, Scalar.cmpi, IntOp.cmpi, hf]

theorem pay20_val (X : Vec Ideal S64x128 .bf16) (Wt : Vec Ideal S128x128 .bf16) (B : Vec Ideal S1x128 .f32) (x w : Nat → Nat → ℝ) (b : Nat → ℝ)
    (hx : Is2 X x) (hw : Is2 Wt w) (hb : ∀ a : Fin 128, B (ix2 0 a) = ((b a.val : ℝ) : EReal)) : Is2 (k0_pay20 X Wt B) (yR x w b) := by
  intro i a
  pointwise [k0_pay20]
  simp only [hx _ _, hw _ _, hb _, ← EReal.coe_mul, sum_coe, ← EReal.coe_add, yR]
theorem pay21_val (X : Vec Ideal S64x128 .bf16) (Wt : Vec Ideal S128x128 .bf16) (B : Vec Ideal S1x128 .f32) (y : Nat → Nat → ℝ)
    (h : Is2 (k0_pay20 X Wt B) y) : Is2 (k0_pay21 X Wt B) fun i a => min (y i a) 0 := by
  intro i a
  pointwise [k0_pay21]
  rw [h i a, c_zero, min_coe]
theorem pay22_val (X : Vec Ideal S64x128 .bf16) (Wt : Vec Ideal S128x128 .bf16) (B : Vec Ideal S1x128 .f32) (y : Nat → Nat → ℝ)
    (h : Is2 (k0_pay20 X Wt B) y) : Is2 (k0_pay22 X Wt B) fun i a => 1 + Real.exp (0 - |y i a|) := by
  intro i a
  pointwise [k0_pay22]
  rw [h i a, c_zero, abs_coe, ← EReal.coe_sub, exp_coe, c_one, ← EReal.coe_add]

theorem pay23_val (M E : FVec Ideal S64x128 .f32) (y : Nat → Nat → ℝ) (hm : Is2 M fun i a => min (y i a) 0)
    (he : Is2 E fun i a => 1 + Real.exp (0 - |y i a|)) : Is2 (k0_pay23 M E) (cumR y) := by
  have hla : ∀ (i : Fin 64) (a : Fin 128), Ideal.div (M (ix2 i a) - Ideal.log (E (ix2 i a))) (Ideal.ofBits .f32 1098907648#32) = ((laR (y i a) : ℝ) : EReal) := by
    intro i a
    rw [hm i a, he i a, log_coe (by positivity), ← EReal.coe_sub, c_16, div_coe _ (by norm_num)]; rfl
  intro i a
  pointwise [k0_pay23]
  simp only [hla, sle_word, select_ite, add_zero_coe, c_zero, ite_coe, sum_coe, ← EReal.coe_add, ite_self, dite_eq_ite]
  have na : ¬ (256 + a.val < 128) := by omega
  simp [cumR, na]

theorem pay24_val (M E : FVec Ideal S64x128 .f32) (c : Nat → Nat → ℝ) (h : Is2 (k0_pay23 M E) c) (a : Fin 128) :
    k0_pay24 M E (ix2 0 a) = ((c 63 a : ℝ) : EReal) := by
  pointwise [k0_pay24]
  exact h 63 a
theorem pay25_val (M E : FVec Ideal S64x128 .f32) (c : Nat → Nat → ℝ) (h : Is2 (k0_pay23 M E) c) :
    Is2 (k0_pay25 M E) fun i a => Real.exp (c 63 a - c i a) := by
  intro i a
  have h4 := pay24_val M E c h
  pointwise [k0_pay25]
  rw [h i a, h4 a, ← EReal.coe_sub, exp_coe]
theorem pay26_val (M E : FVec Ideal S64x128 .f32) (c : Nat → Nat → ℝ) (h : Is2 (k0_pay23 M E) c) (a : Fin 128) :
    k0_pay26 M E (ix2 0 a) = ((Real.exp (c 63 a) : ℝ) : EReal) := by
  have h4 := pay24_val M E c h
  pointwise [k0_pay26]
  rw [h4 a, exp_coe]
theorem pay29_val (V : Vec Ideal S64x256 .bf16) (T : FVec Ideal S256x128 .f32) (v t : Nat → Nat → ℝ) (hv : Is2 V v) (ht : Is2 T t) :
    Is2 (k0_pay29 (k0_pay16 V) T) fun i a => ∑ b : Fin 256, v i b * t b a := by
  intro i a
  pointwise [k0_pay29, k0_pay28, k0_pay16]
  simp only [hv _ _, ht _ _, ← EReal.coe_mul, sum_coe]
theorem pay30_val (K : Vec Ideal S64x128 .bf16) (T : FVec Ideal S256x128 .f32) (M E : FVec Ideal S64x128 .f32) (k t w : Nat → Nat → ℝ)
    (hk : Is2 K k) (ht : Is2 T t) (hw : Is2 (k0_pay25 M E) w) :
    Is2 (k0_pay30 (k0_pay15 K) T M E) fun i b => ∑ a : Fin 128, k i a * w i a * t b a := by
  intro i b
  pointwise [k0_pay30, k0_pay28, k0_pay15, k0_pay27]
  simp only [hk _ _, ht _ _, hw _ _, ← EReal.coe_mul, sum_coe]
theorem pay31_val (V : Vec Ideal S64x256 .bf16) (T : FVec Ideal S256x128 .f32) (M E : FVec Ideal S64x128 .f32) (d w : Nat → Nat → ℝ)
    (hd : Is2 (k0_pay29 (k0_pay16 V) T) d) (hw : Is2 (k0_pay25 M E) w) :
    Is2 (k0_pay31 (k0_pay16 V) T M E) fun i a => d i a * w i a := by
  intro i a
  pointwise [k0_pay31]
  rw [hd i a, hw i a, ← EReal.coe_mul]
theorem pay32_val (K : Vec Ideal S64x128 .bf16) (V : Vec Ideal S64x256 .bf16) (T : FVec Ideal S256x128 .f32) (M E : FVec Ideal S64x128 .f32) (k d w : Nat → Nat → ℝ)
    (hk : Is2 K k) (hd : Is2 (k0_pay29 (k0_pay16 V) T) d) (hw : Is2 (k0_pay25 M E) w) :
    Is2 (k0_pay32 (k0_pay15 K) (k0_pay16 V) T M E) fun i a => d i a * k i a * w i a := by
  intro i a
  pointwise [k0_pay32, k0_pay27, k0_pay15]
  rw [hd i a, hw i a, hk i a, ← EReal.coe_mul, ← EReal.coe_mul]
theorem pay35_val (T : FVec Ideal S256x128 .f32) (P : FVec Ideal S1x128 .f32) (t : Nat → Nat → ℝ) (p : Nat → ℝ)
    (ht : Is2 T t) (hp : ∀ a : Fin 128, P (ix2 0 a) = ((p a.val : ℝ) : EReal)) : Is2 (k0_pay35 T P) fun b a => p a * t b a := by
  intro b a
  pointwise [k0_pay35]
  rw [ht b a, hp a, ← EReal.coe_mul]

theorem pay34_val (A P : FVec Ideal S1x128 .f32) (Y X : FVec Ideal S64x128 .f32) (d p : Nat → ℝ) (y e : Nat → Nat → ℝ)
    (hA : ∀ a : Fin 128, A (ix2 0 a) = ((d a.val : ℝ) : EReal)) (hP : ∀ a : Fin 128, P (ix2 0 a) = ((p a.val : ℝ) : EReal))
    (hY : Is2 Y y) (hX : Is2 X e) :
    Is2 (k0_pay34 A Y P X k0_pay33 (Scalar.ofBits .f32 0x3F800000#32) (Scalar.ofBits .f32 0x00000000#32)) fun i a =>
      ((∑ i' : Fin 64, if i'.val < i then e i' a else 0) + d a * p a) * (1 / 16) * sg (-y i a) := by
  intro i a
  pointwise [k0_pay34, k0_pay33]
  simp only [hX _ _, hY _ _, hA _, hP _, slt_word, select_ite, add_zero_coe, c_zero, c_half, c_16th, ite_coe, sum_coe, ← EReal.coe_add, ← EReal.coe_sub,
    ← EReal.coe_mul, tanh_coe, sg_tanh, ite_self, dite_eq_ite, zero_sub]
  have na : ¬ (256 + a.val < 128) := by omega
  simp [na]
end Cert.KernelIdeal.Chunk
end
-- ==== Proof.KWin.lean ====
module
public import proofs.«01_k».proof.Proof.KVal
@[expose] public section
/-! # A window of the kernel over the reals

Window `nb` of head `h` holds the rows `512 nb … 512 nb + 511`, that is the chunks `8 nb … 8 nb + 7`. Its inputs holding
the reals they should, its outputs and the carried state hold the gradients. -/
set_option maxRecDepth 16384
noncomputable section
namespace Cert.KernelIdeal.Chunk
open Cert.KernelIdeal Cert.KernelIdeal.Gen Idealize.ShloMosaic Idealize.ShloMosaic.TcCoe Idealize.SL.Sem Cert.RealVal Cert.Spec

variable {F : FTy → Type} [FloatOps F]
theorem row128_apply {e : EltTy} (x : Vec F S512x128 e) (j : Fin 8) (i : Fin 64) (a : Fin 128) :
    row128 x j (ix2 i a) = x (ix2 (⟨64 * j.val + i.val, by omega⟩ : Fin 512) a) := by
  unfold row128
  rw [View.ld_unit]
  pointwise []
theorem row256_apply {e : EltTy} (x : Vec F S512x256 e) (j : Fin 8) (i : Fin 64) (a : Fin 256) :
    row256 x j (ix2 i a) = x (ix2 (⟨64 * j.val + i.val, by omega⟩ : Fin 512) a) := by
  unfold row256
  rw [View.ld_unit]
  pointwise []
theorem rowSt_apply {e : EltTy} (x : Vec F S1x8x256x128 e) (j : Fin 8) (b : Fin 256) (a : Fin 128) :
    rowSt x j (ix4 0 0 b a) = x (ix4 0 j b a) := by
  unfold rowSt
  rw [View.ld_unit]
  pointwise []

/-- An index of two axes with the given coordinates. -/
theorem eq_ix2_of_val {m n : Nat} (x : (⟨2, ![m, n]⟩ : Shape).Idx) (i : Fin m) (j : Fin n) (h0 : (x 0).val = i.val) (h1 : (x 1).val = j.val) : x = ix2 i j := by
  rw [eq_ix2 x]
  exact congrArg₂ ix2 (Fin.ext h0) (Fin.ext h1)

/-- The window of eight chunks' arrays, by row and column. -/
def untile128 {e : EltTy} (f : Fin 8 → Vec F S64x128 e) : S512x128.Idx → Elt F e := fun y =>
  f ⟨(y 0).val / 64, by have : (y 0).val < 512 := (y 0).isLt; omega⟩ (ix2 (⟨(y 0).val % 64, by omega⟩ : Fin 64) (⟨(y 1).val, (y 1).isLt⟩ : Fin 128))
theorem untile128_apply {e : EltTy} (f : Fin 8 → Vec F S64x128 e) (j : Fin 8) (i : Fin 64) (a : Fin 128) :
    untile128 f (ix2 (⟨64 * j.val + i.val, by omega⟩ : Fin 512) a) = f j (ix2 i a) := by
  have e1 : (⟨(64 * j.val + i.val) / 64, by omega⟩ : Fin 8) = j := Fin.ext (by show (64 * j.val + i.val) / 64 = j.val; omega)
  have e2 : (⟨(64 * j.val + i.val) % 64, by omega⟩ : Fin 64) = i := Fin.ext (by show (64 * j.val + i.val) % 64 = i.val; omega)
  exact congr (congrArg f e1) (congrArg (fun k => ix2 k a) e2)
theorem tile128_emb {e : EltTy} (f : Fin 8 → Vec F S64x128 e) (j : Fin 8) (i : Fin 64) (a : Fin 128) :
    (tile128 f j).1.emb (ix2 i a) = ix2 (⟨64 * j.val + i.val, by omega⟩ : Fin 512) a := by
  refine eq_ix2_of_val _ _ _ ?_ ?_
  · show 64 * j.val + 1 * i.val = _; simp
  · show 0 + 1 * a.val = _; simp
theorem tile128_piece {e : EltTy} (f : Fin 8 → Vec F S64x128 e) (j : Fin 8) (x : (tile128 f j).1.shape.Idx) :
    (tile128 f j).2 x = untile128 f ((tile128 f j).1.emb x) := by
  obtain ⟨i, a, rfl⟩ : ∃ (i : Fin 64) (a : Fin 128), x = ix2 i a := ⟨x 0, x 1, eq_ix2 x⟩
  rw [tile128_emb, untile128_apply]; rfl
theorem tiles128_apply {e : EltTy} (f : Fin 8 → Vec F S64x128 e) (j : Fin 8) (i : Fin 64) (a : Fin 128) :
    tiles128 f (ix2 (⟨64 * j.val + i.val, by omega⟩ : Fin 512) a) = f j (ix2 i a) := by
  have hm : tile128 f j ∈ ([tile128 f 0, tile128 f 1, tile128 f 2, tile128 f 3, tile128 f 4, tile128 f 5, tile128 f 6, tile128 f 7] : List (View.Piece (Elt F) S512x128 e)) := by
    have : ∀ j : Fin 8, j = 0 ∨ j = 1 ∨ j = 2 ∨ j = 3 ∨ j = 4 ∨ j = 5 ∨ j = 6 ∨ j = 7 := by decide
    rcases this j with rfl | rfl | rfl | rfl | rfl | rfl | rfl | rfl <;> simp
  refine Eq.trans (View.canon_apply_of_pieces (untile128 f) _ (fun p hp => ?_) _ ⟨_, hm, ?_⟩) (untile128_apply f j i a)
  · simp only [List.mem_cons, List.not_mem_nil, or_false] at hp
    rcases hp with rfl | rfl | rfl | rfl | rfl | rfl | rfl | rfl <;> exact tile128_piece f _
  · rw [← tile128_emb f j i a, ← Rect.map_emb_univ]; exact Finset.mem_map_of_mem _ (Finset.mem_univ _)

/-- The window of eight chunks' arrays, by row and column. -/
def untile256 {e : EltTy} (f : Fin 8 → Vec F S64x256 e) : S512x256.Idx → Elt F e := fun y =>
  f ⟨(y 0).val / 64, by have : (y 0).val < 512 := (y 0).isLt; omega⟩ (ix2 (⟨(y 0).val % 64, by omega⟩ : Fin 64) (⟨(y 1).val, (y 1).isLt⟩ : Fin 256))
theorem untile256_apply {e : EltTy} (f : Fin 8 → Vec F S64x256 e) (j : Fin 8) (i : Fin 64) (a : Fin 256) :
    untile256 f (ix2 (⟨64 * j.val + i.val, by omega⟩ : Fin 512) a) = f j (ix2 i a) := by
  have e1 : (⟨(64 * j.val + i.val) / 64, by omega⟩ : Fin 8) = j := Fin.ext (by show (64 * j.val + i.val) / 64 = j.val; omega)
  have e2 : (⟨(64 * j.val + i.val) % 64, by omega⟩ : Fin 64) = i := Fin.ext (by show (64 * j.val + i.val) % 64 = i.val; omega)
  exact congr (congrArg f e1) (congrArg (fun k => ix2 k a) e2)
theorem tile256_emb {e : EltTy} (f : Fin 8 → Vec F S64x256 e) (j : Fin 8) (i : Fin 64) (a : Fin 256) :
    (tile256 f j).1.emb (ix2 i a) = ix2 (⟨64 * j.val + i.val, by omega⟩ : Fin 512) a := by
  refine eq_ix2_of_val _ _ _ ?_ ?_
  · show 64 * j.val + 1 * i.val = _; simp
  · show 0 + 1 * a.val = _; simp
theorem tile256_piece {e : EltTy} (f : Fin 8 → Vec F S64x256 e) (j : Fin 8) (x : (tile256 f j).1.shape.Idx) :
    (tile256 f j).2 x = untile256 f ((tile256 f j).1.emb x) := by
  obtain ⟨i, a, rfl⟩ : ∃ (i : Fin 64) (a : Fin 256), x = ix2 i a := ⟨x 0, x 1, eq_ix2 x⟩
  rw [tile256_emb, untile256_apply]; rfl
theorem tiles256_apply {e : EltTy} (f : Fin 8 → Vec F S64x256 e) (j : Fin 8) (i : Fin 64) (a : Fin 256) :
    tiles256 f (ix2 (⟨64 * j.val + i.val, by omega⟩ : Fin 512) a) = f j (ix2 i a) := by
  have hm : tile256 f j ∈ ([tile256 f 0, tile256 f 1, tile256 f 2, tile256 f 3, tile256 f 4, tile256 f 5, tile256 f 6, tile256 f 7] : List (View.Piece (Elt F) S512x256 e)) := by
    have : ∀ j : Fin 8, j = 0 ∨ j = 1 ∨ j = 2 ∨ j = 3 ∨ j = 4 ∨ j = 5 ∨ j = 6 ∨ j = 7 := by decide
    rcases this j with rfl | rfl | rfl | rfl | rfl | rfl | rfl | rfl <;> simp
  refine Eq.trans (View.canon_apply_of_pieces (untile256 f) _ (fun p hp => ?_) _ ⟨_, hm, ?_⟩) (untile256_apply f j i a)
  · simp only [List.mem_cons, List.not_mem_nil, or_false] at hp
    rcases hp with rfl | rfl | rfl | rfl | rfl | rfl | rfl | rfl <;> exact tile256_piece f _
  · rw [← tile256_emb f j i a, ← Rect.map_emb_univ]; exact Finset.mem_map_of_mem _ (Finset.mem_univ _)

/-- The window's inputs hold what window `nb` of head `h` should. -/
structure Has (W : Win Ideal) (D : Inp) (h nb : Nat) : Prop where
  b : W.b = 7#32 ↔ nb = 0
  x0 : Is2 W.x0 fun i a => D.q (512 * nb + i) (128 * h + a)
  x1 : Is2 W.x1 fun i a => D.k (512 * nb + i) (128 * h + a)
  x2 : Is2 W.x2 fun i b => D.v (512 * nb + i) (256 * h + b)
  x3 : Is2 W.x3 fun i b => D.r (512 * nb + i) (256 * h + b)
  x4 : Is2 W.x4 fun i j => D.lrp (512 * nb + i) j
  x5 : Is2 W.x5 fun j a => D.wap j (128 * h + a)
  x6 : ∀ a : Fin 128, W.x6 (ix2 0 a) = ((D.ba (128 * h + a) : ℝ) : EReal)
  x7 : ∀ b : Fin 256, W.x7 (ix2 0 b) = ((D.g b : ℝ) : EReal)
  x8 : Is2 W.x8 fun i b => D.o (8 * nb + i / 64) h (i % 64) b
  x9 : ∀ (j : Fin 8) (b : Fin 256) (a : Fin 128), W.x9 (ix4 0 j b a) = ((D.S (8 * nb + j + 1) h b a : ℝ) : EReal)
  x10 : nb ≠ 0 → ∀ (b : Fin 256) (a : Fin 128), W.x10 (ix4 0 0 b a) = ((D.S (8 * nb) h b a : ℝ) : EReal)
  x11 : Is2 W.x11 fun i b => D.dy (512 * nb + i) (256 * h + b)

namespace Has
variable {W : Win Ideal} {D : Inp} {h nb : Nat} (H : Has W D h nb) (j : Fin 8)
include H
theorem ridx (j : Fin 8) (i : Nat) : 512 * nb + (64 * j.val + i) = 64 * (8 * nb + j.val) + i := by omega
theorem vq : Is2 (row128 W.x0 j) (D.Q (8 * nb + j) h) := fun i a => by
  rw [row128_apply, H.x0]; simp only [H.ridx]; rfl
theorem vk : Is2 (row128 W.x1 j) (D.K (8 * nb + j) h) := fun i a => by
  rw [row128_apply, H.x1]; simp only [H.ridx]; rfl
theorem vv : Is2 (row256 W.x2 j) (D.V (8 * nb + j) h) := fun i a => by
  rw [row256_apply, H.x2]; simp only [H.ridx]; rfl
theorem vr : Is2 (row256 W.x3 j) (D.R (8 * nb + j) h) := fun i a => by
  rw [row256_apply, H.x3]; simp only [H.ridx]; rfl
theorem vdy : Is2 (row256 W.x11 j) (D.DY (8 * nb + j) h) := fun i a => by
  rw [row256_apply, H.x11]; simp only [H.ridx]; rfl
theorem vlr : Is2 (row128 W.x4 j) (fun i c => D.lrp (64 * (8 * nb + j) + i) c) := fun i a => by
  rw [row128_apply, H.x4]; simp only [H.ridx]
theorem vo : Is2 (row256 W.x8 j) (D.o (8 * nb + j) h) := fun i a => by
  rw [row256_apply, H.x8]
  have h1 : (64 * j.val + i.val) / 64 = j.val := by omega
  have h2 : (64 * j.val + i.val) % 64 = i.val := by omega
  simp only [h1, h2]
theorem vst (b : Fin 256) (a : Fin 128) : rowSt W.x9 j (ix4 0 0 b a) = ((D.S (8 * nb + j + 1) h b a : ℝ) : EReal) := by
  rw [rowSt_apply, H.x9]
theorem vdn : Is2 (W.dn j) (D.dn (8 * nb + j) h) := pay9_val _ _ _ _ (H.vr j) (H.vdy j)
theorem vdob : Is2 (W.dob j) (D.dob (8 * nb + j) h) := pay13_val _ _ _ _ _ D.g (H.vo j) (H.vdn j) H.x7
theorem vdq : Is2 (W.dq j) (D.dq (8 * nb + j) h) := pay17_val _ _ _ _ (H.vdob j) (H.vst j)
theorem vdr : Is2 (W.dr j) (D.dr (8 * nb + j) h) := pay11_val _ _ _ _ _ _ _ D.g (H.vo j) (H.vr j) (H.vdy j) H.x7
theorem vy : Is2 (k0_pay20 (row128 W.x4 j) W.x5 W.x6) (D.Y (8 * nb + j) h) := pay20_val _ _ _ _ _ _ (H.vlr j) H.x5 H.x6
theorem vcum : Is2 (k0_pay23 (W.mn j) (W.ex j)) (D.cum (8 * nb + j) h) :=
  pay23_val _ _ _ (pay21_val _ _ _ _ (H.vy j)) (pay22_val _ _ _ _ (H.vy j))
theorem vw : Is2 (k0_pay25 (W.mn j) (W.ex j)) (D.w (8 * nb + j) h) := pay25_val _ _ _ (H.vcum j)
theorem vdec (a : Fin 128) : k0_pay26 (W.mn j) (W.ex j) (ix2 0 a) = ((D.dec (8 * nb + j) h a : ℝ) : EReal) := pay26_val _ _ _ (H.vcum j) a

/-- The state carried to chunk `j` of the window. -/
abbrev cc (D : Inp) (h nb : Nat) (j : Fin 8) : Nat → Nat → ℝ := D.car (63 - (8 * nb + j.val)) h

section
variable {C : FVec Ideal S256x128 .f32} (hC : Is2 C (D.car (63 - (8 * nb + j.val)) h))
include hC
theorem vdst : Is2 (W.dst j C) (D.dS (8 * nb + j) h) := pay18_val _ _ _ _ _ _ (H.vdob j) (H.vq j) hC
theorem vnew (hn : nb < 8) : Is2 (W.new j C) (D.car (64 - (8 * nb + j.val)) h) := by
  have := pay35_val _ _ _ _ (H.vdst j hC) (H.vdec j)
  have e : 64 - (8 * nb + j.val) = (63 - (8 * nb + j.val)) + 1 := by omega
  have e' : 63 - (63 - (8 * nb + j.val)) = 8 * nb + j.val := by omega
  rw [e]
  intro b a
  rw [show W.new j C (ix2 b a) = _ from this b a]
  simp only [Inp.car, Inp.dS, e']
theorem vdkd : Is2 (k0_pay29 (k0_pay16 (row256 W.x2 j)) (W.dst j C)) (D.dkd (8 * nb + j) h) := pay29_val _ _ _ _ (H.vv j) (H.vdst j hC)
theorem vdv : Is2 (W.dv j C) (D.dv (8 * nb + j) h) := pay30_val _ _ _ _ _ _ _ (H.vk j) (H.vdst j hC) (H.vw j)
theorem vdk : Is2 (W.dk j C) (D.dk (8 * nb + j) h) := pay31_val _ _ _ _ _ _ (H.vdkd j hC) (H.vw j)
theorem ve : Is2 (k0_pay32 (k0_pay15 (row128 W.x1 j)) (k0_pay16 (row256 W.x2 j)) (W.dst j C) (W.mn j) (W.ex j)) (D.e (8 * nb + j) h) :=
  pay32_val _ _ _ _ _ _ _ _ (H.vk j) (H.vdkd j hC) (H.vw j)
theorem vddec (a : Fin 128) : W.ddec j C (ix2 0 a) = ((D.ddec (8 * nb + j) h a : ℝ) : EReal) := by
  unfold Win.ddec
  by_cases hj : j = 0
  · subst hj
    rw [if_pos rfl]
    refine pay234_val _ _ _ _ (D.dS (8 * nb + 0) h) (D.S (8 * nb + 0) h) (H.vdst 0 hC) (fun hw => ?_) (fun hw b a => ?_) a
    · exact H.x10 fun h0 => hw (H.b.mpr h0)
    · rw [H.b.mp hw]; rfl
  · rw [if_neg hj]
    refine pay19_val _ _ _ _ (D.dS (8 * nb + j) h) (D.S (8 * nb + j) h) (H.vdst j hC) (fun b a => ?_) a
    rw [H.vst]
    have hs : ∀ j : Fin 8, j ≠ 0 → (j - 1).val = j.val - 1 := by decide
    have := hs j hj
    have hj' : 0 < j.val := by rcases j with ⟨_ | j, hj'⟩ <;> simp_all
    rw [this, show 8 * nb + (j.val - 1) + 1 = 8 * nb + j.val by omega]
theorem vdg : Is2 (W.dg j C) (D.dgate (8 * nb + j) h) :=
  pay34_val _ _ _ _ _ _ _ _ (H.vddec j hC) (H.vdec j) (H.vy j) (H.ve j hC)
end

theorem vgn {G : Vec Ideal S1x256 .f32} {g : Nat → ℝ} (hG : ∀ b : Fin 256, G (ix2 0 b) = ((g b : ℝ) : EReal)) (b : Fin 256) :
    W.gn j G (ix2 0 b) = ((g b + ∑ i : Fin 64, D.dg1 (8 * nb + j) h i b : ℝ) : EReal) :=
  pay12_val _ _ _ _ _ _ (H.vo j) (H.vdn j) hG b

/-- The carried state after `k` chunks of the window. -/
theorem vcar (hn : nb < 8) {C : FVec Ideal S256x128 .f32} (hC : Is2 C (D.car (56 - 8 * nb) h)) (k : Nat) (hk : k ≤ 8) :
    Is2 (W.car C k) (D.car (56 - 8 * nb + k) h) := by
  induction k with
  | zero => exact hC
  | succ k ih =>
    have hj : (7 - Fin.ofNat 8 k).val = 7 - k := by
      have : ∀ k : Fin 8, (7 - Fin.ofNat 8 k.val).val = 7 - k.val := by decide
      exact this ⟨k, by omega⟩
    have := H.vnew (7 - Fin.ofNat 8 k) (C := W.car C k) (by
      rw [hj, show 63 - (8 * nb + (7 - k)) = 56 - 8 * nb + k by omega]; exact ih (by omega)) hn
    rw [hj, show 64 - (8 * nb + (7 - k)) = 56 - 8 * nb + (k + 1) by omega] at this
    exact this
/-- The state carried to chunk `j`. -/
theorem vcarj (hn : nb < 8) {C : FVec Ideal S256x128 .f32} (hC : Is2 C (D.car (56 - 8 * nb) h)) :
    Is2 (W.car C (7 - j.val)) (D.car (63 - (8 * nb + j.val)) h) := by
  have := H.vcar hn hC (7 - j.val) (by omega)
  rwa [show 56 - 8 * nb + (7 - j.val) = 63 - (8 * nb + j.val) by omega] at this
/-- The gradient of the norm's scale after `k` chunks of the window. -/
theorem vgnk {G : Vec Ideal S1x256 .f32} {g : Nat → ℝ} (hG : ∀ b : Fin 256, G (ix2 0 b) = ((g b : ℝ) : EReal)) (k : Nat) (hk : k ≤ 8) (b : Fin 256) :
    W.gnAt G k (ix2 0 b) = ((g b + ∑ m ∈ Finset.range k, ∑ i : Fin 64, D.dg1 (8 * nb + (7 - m)) h i b : ℝ) : EReal) := by
  induction k generalizing b with
  | zero =>
    rw [Finset.sum_range_zero, add_zero]
    exact hG b
  | succ k ih =>
    have hj : (7 - Fin.ofNat 8 k).val = 7 - k := by
      have : ∀ k : Fin 8, (7 - Fin.ofNat 8 k.val).val = 7 - k.val := by decide
      exact this ⟨k, by omega⟩
    have := H.vgn (7 - Fin.ofNat 8 k) (G := W.gnAt G k)
      (g := fun b => g b + ∑ m ∈ Finset.range k, ∑ i : Fin 64, D.dg1 (8 * nb + (7 - m)) h i b) (ih (by omega)) b
    rw [hj] at this
    refine Eq.trans (show W.gnAt G (k + 1) (ix2 0 b) = _ from this) ?_
    rw [Finset.sum_range_succ, add_assoc]
/-- The gradient of the norm's scale after the window. -/
theorem vgnAt {G : Vec Ideal S1x256 .f32} {g : Nat → ℝ} (hG : ∀ b : Fin 256, G (ix2 0 b) = ((g b : ℝ) : EReal)) (b : Fin 256) :
    W.gnAt G 8 (ix2 0 b) = ((g b + ∑ j : Fin 8, ∑ i : Fin 64, D.dg1 (8 * nb + j) h i b : ℝ) : EReal) := by
  rw [H.vgnk hG 8 le_rfl b, Fin.sum_univ_eq_sum_range (fun j => ∑ i : Fin 64, D.dg1 (8 * nb + j) h i b) 8,
    ← Finset.sum_range_reflect (fun j => ∑ i : Fin 64, D.dg1 (8 * nb + j) h i b) 8]

/-- Row `i` of a window is row `i % 64` of its chunk `i / 64`. -/
theorem split (i : Fin 512) : i = (⟨64 * (⟨i.val / 64, by omega⟩ : Fin 8).val + (⟨i.val % 64, by omega⟩ : Fin 64).val, by have := i.isLt; show 64 * (i.val / 64) + i.val % 64 < 512; omega⟩ : Fin 512) :=
  Fin.ext (by show i.val = 64 * (i.val / 64) + i.val % 64; omega)

theorem v12 : Is2 W.out12 fun i a => D.dq (8 * nb + i / 64) h (i % 64) a := fun i a => by
  rw [H.split i]; unfold Win.out12; rw [tiles128_apply, H.vdq, ← H.split i]
theorem v15 : Is2 W.out15 fun i b => D.dr (8 * nb + i / 64) h (i % 64) b := fun i a => by
  rw [H.split i]; unfold Win.out15; rw [tiles256_apply, H.vdr, ← H.split i]
section
variable (hn : nb < 8) {C : FVec Ideal S256x128 .f32} (hC : Is2 C (D.car (56 - 8 * nb) h))
include hn hC
theorem v13 : Is2 (W.out13 C) fun i a => D.dk (8 * nb + i / 64) h (i % 64) a := fun i a => by
  rw [H.split i]; unfold Win.out13; rw [tiles128_apply, H.vdk _ (H.vcarj _ hn hC), ← H.split i]
theorem v14 : Is2 (W.out14 C) fun i b => D.dv (8 * nb + i / 64) h (i % 64) b := fun i a => by
  rw [H.split i]; unfold Win.out14; rw [tiles256_apply, H.vdv _ (H.vcarj _ hn hC), ← H.split i]
theorem v16 : Is2 (W.out16 C) fun i a => D.dgate (8 * nb + i / 64) h (i % 64) a := fun i a => by
  rw [H.split i]; unfold Win.out16; rw [tiles128_apply, H.vdg _ (H.vcarj _ hn hC), ← H.split i]
end
end Has
end Cert.KernelIdeal.Chunk
end
-- ==== Proof.OpenA.lean ====
module
public import proofs.«01_k».proof.Proof.KChunk
public import Idealize.ShloMosaic.Lib.Pipeline.ValueKit
public import Idealize.ShloMosaic.Lib.Pipeline.ReadBack
public import Idealize.ShloMosaic.Lib.Pipeline.Regions
@[expose] public section
/-! # What the kernel's body leaves, in case A of its two tests

Each output window, and the carried state, as the chunks' arrays. -/
set_option maxRecDepth 65536
noncomputable section
namespace Cert.KernelIdeal.Chunk
open Cert.KernelIdeal Cert.KernelIdeal.Gen Idealize.ShloMosaic Idealize.ShloMosaic.TcCoe Idealize.SL.Sem
variable {F : FTy → Type} [FloatOps F]
set_option maxHeartbeats 4000000 in
/-- The gradients of `q` of one grid point. -/
theorem out0_A_12_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x8x256x128 .f32) (harg11 : arg11.IsWhole) (arg12 : Memref sig .tc .vmem S1x1x256x128 .f32) (harg12 : arg12.IsWhole) (arg13 : Memref sig .tc .vmem S512x256 .bf16) (harg13 : arg13.IsWhole) (arg14 : Memref sig .tc .vmem S512x128 .bf16) (harg14 : arg14.IsWhole) (arg15 : Memref sig .tc .vmem S512x128 .bf16) (harg15 : arg15.IsWhole) (arg16 : Memref sig .tc .vmem S512x256 .bf16) (harg16 : arg16.IsWhole) (arg17 : Memref sig .tc .vmem S512x256 .bf16) (harg17 : arg17.IsWhole) (arg18 : Memref sig .tc .vmem S512x128 .f32) (harg18 : arg18.IsWhole) (arg19 : Memref sig .tc .vmem S1x256 .f32) (harg19 : arg19.IsWhole) (arg20 : Memref sig .tc .vmem S256x128 .f32) (harg20 : arg20.IsWhole) (hc0 : cond0_0 i) (hc1 : cond0_1 i)
    (x0 : Vec F S512x128 .bf16) (x1 : Vec F S512x128 .bf16) (x2 : Vec F S512x256 .bf16) (x3 : Vec F S512x256 .bf16) (x4 : Vec F S512x128 .bf16) (x5 : Vec F S128x128 .bf16) (x6 : Vec F S1x128 .f32) (x7 : Vec F S1x256 .f32) (x8 : Vec F S512x256 .f32) (x9 : Vec F S1x8x256x128 .f32) (x10 : Vec F S1x1x256x128 .f32) (x11 : Vec F S512x256 .bf16) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 = Win.out12 (⟨BitVec.ofNat 32 (i 1).val, x0, x1, x2, x3, x4, x5, x6, x7, x8, x9, x10, x11⟩ : Win F) := by
  frame_out
  chain_rfl
set_option maxHeartbeats 4000000 in
/-- The gradients of `k` of one grid point. -/
theorem out0_A_13_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x8x256x128 .f32) (harg11 : arg11.IsWhole) (arg12 : Memref sig .tc .vmem S1x1x256x128 .f32) (harg12 : arg12.IsWhole) (arg13 : Memref sig .tc .vmem S512x256 .bf16) (harg13 : arg13.IsWhole) (arg14 : Memref sig .tc .vmem S512x128 .bf16) (harg14 : arg14.IsWhole) (arg15 : Memref sig .tc .vmem S512x128 .bf16) (harg15 : arg15.IsWhole) (arg16 : Memref sig .tc .vmem S512x256 .bf16) (harg16 : arg16.IsWhole) (arg17 : Memref sig .tc .vmem S512x256 .bf16) (harg17 : arg17.IsWhole) (arg18 : Memref sig .tc .vmem S512x128 .f32) (harg18 : arg18.IsWhole) (arg19 : Memref sig .tc .vmem S1x256 .f32) (harg19 : arg19.IsWhole) (arg20 : Memref sig .tc .vmem S256x128 .f32) (harg20 : arg20.IsWhole) (hc0 : cond0_0 i) (hc1 : cond0_1 i)
    (x0 : Vec F S512x128 .bf16) (x1 : Vec F S512x128 .bf16) (x2 : Vec F S512x256 .bf16) (x3 : Vec F S512x256 .bf16) (x4 : Vec F S512x128 .bf16) (x5 : Vec F S128x128 .bf16) (x6 : Vec F S1x128 .f32) (x7 : Vec F S1x256 .f32) (x8 : Vec F S512x256 .f32) (x9 : Vec F S1x8x256x128 .f32) (x10 : Vec F S1x1x256x128 .f32) (x11 : Vec F S512x256 .bf16) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 = Win.out13 (⟨BitVec.ofNat 32 (i 1).val, x0, x1, x2, x3, x4, x5, x6, x7, x8, x9, x10, x11⟩ : Win F) k0_pay2 := by
  frame_out
  chain_rfl
set_option maxHeartbeats 4000000 in
/-- The gradients of `v` of one grid point. -/
theorem out0_A_14_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x8x256x128 .f32) (harg11 : arg11.IsWhole) (arg12 : Memref sig .tc .vmem S1x1x256x128 .f32) (harg12 : arg12.IsWhole) (arg13 : Memref sig .tc .vmem S512x256 .bf16) (harg13 : arg13.IsWhole) (arg14 : Memref sig .tc .vmem S512x128 .bf16) (harg14 : arg14.IsWhole) (arg15 : Memref sig .tc .vmem S512x128 .bf16) (harg15 : arg15.IsWhole) (arg16 : Memref sig .tc .vmem S512x256 .bf16) (harg16 : arg16.IsWhole) (arg17 : Memref sig .tc .vmem S512x256 .bf16) (harg17 : arg17.IsWhole) (arg18 : Memref sig .tc .vmem S512x128 .f32) (harg18 : arg18.IsWhole) (arg19 : Memref sig .tc .vmem S1x256 .f32) (harg19 : arg19.IsWhole) (arg20 : Memref sig .tc .vmem S256x128 .f32) (harg20 : arg20.IsWhole) (hc0 : cond0_0 i) (hc1 : cond0_1 i)
    (x0 : Vec F S512x128 .bf16) (x1 : Vec F S512x128 .bf16) (x2 : Vec F S512x256 .bf16) (x3 : Vec F S512x256 .bf16) (x4 : Vec F S512x128 .bf16) (x5 : Vec F S128x128 .bf16) (x6 : Vec F S1x128 .f32) (x7 : Vec F S1x256 .f32) (x8 : Vec F S512x256 .f32) (x9 : Vec F S1x8x256x128 .f32) (x10 : Vec F S1x1x256x128 .f32) (x11 : Vec F S512x256 .bf16) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 = Win.out14 (⟨BitVec.ofNat 32 (i 1).val, x0, x1, x2, x3, x4, x5, x6, x7, x8, x9, x10, x11⟩ : Win F) k0_pay2 := by
  frame_out
  chain_rfl
set_option maxHeartbeats 4000000 in
/-- The gradients of `r` of one grid point. -/
theorem out0_A_15_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x8x256x128 .f32) (harg11 : arg11.IsWhole) (arg12 : Memref sig .tc .vmem S1x1x256x128 .f32) (harg12 : arg12.IsWhole) (arg13 : Memref sig .tc .vmem S512x256 .bf16) (harg13 : arg13.IsWhole) (arg14 : Memref sig .tc .vmem S512x128 .bf16) (harg14 : arg14.IsWhole) (arg15 : Memref sig .tc .vmem S512x128 .bf16) (harg15 : arg15.IsWhole) (arg16 : Memref sig .tc .vmem S512x256 .bf16) (harg16 : arg16.IsWhole) (arg17 : Memref sig .tc .vmem S512x256 .bf16) (harg17 : arg17.IsWhole) (arg18 : Memref sig .tc .vmem S512x128 .f32) (harg18 : arg18.IsWhole) (arg19 : Memref sig .tc .vmem S1x256 .f32) (harg19 : arg19.IsWhole) (arg20 : Memref sig .tc .vmem S256x128 .f32) (harg20 : arg20.IsWhole) (hc0 : cond0_0 i) (hc1 : cond0_1 i)
    (x0 : Vec F S512x128 .bf16) (x1 : Vec F S512x128 .bf16) (x2 : Vec F S512x256 .bf16) (x3 : Vec F S512x256 .bf16) (x4 : Vec F S512x128 .bf16) (x5 : Vec F S128x128 .bf16) (x6 : Vec F S1x128 .f32) (x7 : Vec F S1x256 .f32) (x8 : Vec F S512x256 .f32) (x9 : Vec F S1x8x256x128 .f32) (x10 : Vec F S1x1x256x128 .f32) (x11 : Vec F S512x256 .bf16) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 = Win.out15 (⟨BitVec.ofNat 32 (i 1).val, x0, x1, x2, x3, x4, x5, x6, x7, x8, x9, x10, x11⟩ : Win F) := by
  frame_out
  chain_rfl
set_option maxHeartbeats 4000000 in
/-- The gradients of the gate of one grid point. -/
theorem out0_A_16_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x8x256x128 .f32) (harg11 : arg11.IsWhole) (arg12 : Memref sig .tc .vmem S1x1x256x128 .f32) (harg12 : arg12.IsWhole) (arg13 : Memref sig .tc .vmem S512x256 .bf16) (harg13 : arg13.IsWhole) (arg14 : Memref sig .tc .vmem S512x128 .bf16) (harg14 : arg14.IsWhole) (arg15 : Memref sig .tc .vmem S512x128 .bf16) (harg15 : arg15.IsWhole) (arg16 : Memref sig .tc .vmem S512x256 .bf16) (harg16 : arg16.IsWhole) (arg17 : Memref sig .tc .vmem S512x256 .bf16) (harg17 : arg17.IsWhole) (arg18 : Memref sig .tc .vmem S512x128 .f32) (harg18 : arg18.IsWhole) (arg19 : Memref sig .tc .vmem S1x256 .f32) (harg19 : arg19.IsWhole) (arg20 : Memref sig .tc .vmem S256x128 .f32) (harg20 : arg20.IsWhole) (hc0 : cond0_0 i) (hc1 : cond0_1 i)
    (x0 : Vec F S512x128 .bf16) (x1 : Vec F S512x128 .bf16) (x2 : Vec F S512x256 .bf16) (x3 : Vec F S512x256 .bf16) (x4 : Vec F S512x128 .bf16) (x5 : Vec F S128x128 .bf16) (x6 : Vec F S1x128 .f32) (x7 : Vec F S1x256 .f32) (x8 : Vec F S512x256 .f32) (x9 : Vec F S1x8x256x128 .f32) (x10 : Vec F S1x1x256x128 .f32) (x11 : Vec F S512x256 .bf16) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 = Win.out16 (⟨BitVec.ofNat 32 (i 1).val, x0, x1, x2, x3, x4, x5, x6, x7, x8, x9, x10, x11⟩ : Win F) k0_pay2 := by
  frame_out
  chain_rfl
set_option maxHeartbeats 4000000 in
/-- The gradient of the norm's scale of one grid point. -/
theorem out0_A_17_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x8x256x128 .f32) (harg11 : arg11.IsWhole) (arg12 : Memref sig .tc .vmem S1x1x256x128 .f32) (harg12 : arg12.IsWhole) (arg13 : Memref sig .tc .vmem S512x256 .bf16) (harg13 : arg13.IsWhole) (arg14 : Memref sig .tc .vmem S512x128 .bf16) (harg14 : arg14.IsWhole) (arg15 : Memref sig .tc .vmem S512x128 .bf16) (harg15 : arg15.IsWhole) (arg16 : Memref sig .tc .vmem S512x256 .bf16) (harg16 : arg16.IsWhole) (arg17 : Memref sig .tc .vmem S512x256 .bf16) (harg17 : arg17.IsWhole) (arg18 : Memref sig .tc .vmem S512x128 .f32) (harg18 : arg18.IsWhole) (arg19 : Memref sig .tc .vmem S1x256 .f32) (harg19 : arg19.IsWhole) (arg20 : Memref sig .tc .vmem S256x128 .f32) (harg20 : arg20.IsWhole) (hc0 : cond0_0 i) (hc1 : cond0_1 i)
    (x0 : Vec F S512x128 .bf16) (x1 : Vec F S512x128 .bf16) (x2 : Vec F S512x256 .bf16) (x3 : Vec F S512x256 .bf16) (x4 : Vec F S512x128 .bf16) (x5 : Vec F S128x128 .bf16) (x6 : Vec F S1x128 .f32) (x7 : Vec F S1x256 .f32) (x8 : Vec F S512x256 .f32) (x9 : Vec F S1x8x256x128 .f32) (x10 : Vec F S1x1x256x128 .f32) (x11 : Vec F S512x256 .bf16) :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 = Win.gnAt (⟨BitVec.ofNat 32 (i 1).val, x0, x1, x2, x3, x4, x5, x6, x7, x8, x9, x10, x11⟩ : Win F) k0_pay3 8 := by
  frame_out
  chain_rfl
set_option maxHeartbeats 4000000 in
/-- The carried state of one grid point. -/
theorem sout0_A_0_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x8x256x128 .f32) (harg11 : arg11.IsWhole) (arg12 : Memref sig .tc .vmem S1x1x256x128 .f32) (harg12 : arg12.IsWhole) (arg13 : Memref sig .tc .vmem S512x256 .bf16) (harg13 : arg13.IsWhole) (arg14 : Memref sig .tc .vmem S512x128 .bf16) (harg14 : arg14.IsWhole) (arg15 : Memref sig .tc .vmem S512x128 .bf16) (harg15 : arg15.IsWhole) (arg16 : Memref sig .tc .vmem S512x256 .bf16) (harg16 : arg16.IsWhole) (arg17 : Memref sig .tc .vmem S512x256 .bf16) (harg17 : arg17.IsWhole) (arg18 : Memref sig .tc .vmem S512x128 .f32) (harg18 : arg18.IsWhole) (arg19 : Memref sig .tc .vmem S1x256 .f32) (harg19 : arg19.IsWhole) (arg20 : Memref sig .tc .vmem S256x128 .f32) (harg20 : arg20.IsWhole) (hc0 : cond0_0 i) (hc1 : cond0_1 i)
    (x0 : Vec F S512x128 .bf16) (x1 : Vec F S512x128 .bf16) (x2 : Vec F S512x256 .bf16) (x3 : Vec F S512x256 .bf16) (x4 : Vec F S512x128 .bf16) (x5 : Vec F S128x128 .bf16) (x6 : Vec F S1x128 .f32) (x7 : Vec F S1x256 .f32) (x8 : Vec F S512x256 .f32) (x9 : Vec F S1x8x256x128 .f32) (x10 : Vec F S1x1x256x128 .f32) (x11 : Vec F S512x256 .bf16) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 = Win.car (⟨BitVec.ofNat 32 (i 1).val, x0, x1, x2, x3, x4, x5, x6, x7, x8, x9, x10, x11⟩ : Win F) k0_pay2 8 := by
  frame_out
  chain_rfl
end Cert.KernelIdeal.Chunk
end
-- ==== Proof.OpenB.lean ====
module
public import proofs.«01_k».proof.Proof.KChunk
public import Idealize.ShloMosaic.Lib.Pipeline.ValueKit
public import Idealize.ShloMosaic.Lib.Pipeline.ReadBack
public import Idealize.ShloMosaic.Lib.Pipeline.Regions
@[expose] public section
/-! # What the kernel's body leaves, in case B of its two tests

Each output window, and the carried state, as the chunks' arrays. -/
set_option maxRecDepth 65536
noncomputable section
namespace Cert.KernelIdeal.Chunk
open Cert.KernelIdeal Cert.KernelIdeal.Gen Idealize.ShloMosaic Idealize.ShloMosaic.TcCoe Idealize.SL.Sem
variable {F : FTy → Type} [FloatOps F]
set_option maxHeartbeats 4000000 in
/-- The gradients of `q` of one grid point. -/
theorem out0_B_12_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x8x256x128 .f32) (harg11 : arg11.IsWhole) (arg12 : Memref sig .tc .vmem S1x1x256x128 .f32) (harg12 : arg12.IsWhole) (arg13 : Memref sig .tc .vmem S512x256 .bf16) (harg13 : arg13.IsWhole) (arg14 : Memref sig .tc .vmem S512x128 .bf16) (harg14 : arg14.IsWhole) (arg15 : Memref sig .tc .vmem S512x128 .bf16) (harg15 : arg15.IsWhole) (arg16 : Memref sig .tc .vmem S512x256 .bf16) (harg16 : arg16.IsWhole) (arg17 : Memref sig .tc .vmem S512x256 .bf16) (harg17 : arg17.IsWhole) (arg18 : Memref sig .tc .vmem S512x128 .f32) (harg18 : arg18.IsWhole) (arg19 : Memref sig .tc .vmem S1x256 .f32) (harg19 : arg19.IsWhole) (arg20 : Memref sig .tc .vmem S256x128 .f32) (harg20 : arg20.IsWhole) (hc0 : ¬cond0_0 i) (hc1 : ¬cond0_1 i)
    (x0 : Vec F S512x128 .bf16) (x1 : Vec F S512x128 .bf16) (x2 : Vec F S512x256 .bf16) (x3 : Vec F S512x256 .bf16) (x4 : Vec F S512x128 .bf16) (x5 : Vec F S128x128 .bf16) (x6 : Vec F S1x128 .f32) (x7 : Vec F S1x256 .f32) (x8 : Vec F S512x256 .f32) (x9 : Vec F S1x8x256x128 .f32) (x10 : Vec F S1x1x256x128 .f32) (x11 : Vec F S512x256 .bf16) (xo17 : Vec F S1x256 .f32) (xs0 : Vec F S256x128 .f32) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo17 xs0 = Win.out12 (⟨BitVec.ofNat 32 (i 1).val, x0, x1, x2, x3, x4, x5, x6, x7, x8, x9, x10, x11⟩ : Win F) := by
  frame_out
  chain_rfl
set_option maxHeartbeats 4000000 in
/-- The gradients of `k` of one grid point. -/
theorem out0_B_13_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x8x256x128 .f32) (harg11 : arg11.IsWhole) (arg12 : Memref sig .tc .vmem S1x1x256x128 .f32) (harg12 : arg12.IsWhole) (arg13 : Memref sig .tc .vmem S512x256 .bf16) (harg13 : arg13.IsWhole) (arg14 : Memref sig .tc .vmem S512x128 .bf16) (harg14 : arg14.IsWhole) (arg15 : Memref sig .tc .vmem S512x128 .bf16) (harg15 : arg15.IsWhole) (arg16 : Memref sig .tc .vmem S512x256 .bf16) (harg16 : arg16.IsWhole) (arg17 : Memref sig .tc .vmem S512x256 .bf16) (harg17 : arg17.IsWhole) (arg18 : Memref sig .tc .vmem S512x128 .f32) (harg18 : arg18.IsWhole) (arg19 : Memref sig .tc .vmem S1x256 .f32) (harg19 : arg19.IsWhole) (arg20 : Memref sig .tc .vmem S256x128 .f32) (harg20 : arg20.IsWhole) (hc0 : ¬cond0_0 i) (hc1 : ¬cond0_1 i)
    (x0 : Vec F S512x128 .bf16) (x1 : Vec F S512x128 .bf16) (x2 : Vec F S512x256 .bf16) (x3 : Vec F S512x256 .bf16) (x4 : Vec F S512x128 .bf16) (x5 : Vec F S128x128 .bf16) (x6 : Vec F S1x128 .f32) (x7 : Vec F S1x256 .f32) (x8 : Vec F S512x256 .f32) (x9 : Vec F S1x8x256x128 .f32) (x10 : Vec F S1x1x256x128 .f32) (x11 : Vec F S512x256 .bf16) (xo17 : Vec F S1x256 .f32) (xs0 : Vec F S256x128 .f32) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo17 xs0 = Win.out13 (⟨BitVec.ofNat 32 (i 1).val, x0, x1, x2, x3, x4, x5, x6, x7, x8, x9, x10, x11⟩ : Win F) xs0 := by
  frame_out
  chain_rfl
set_option maxHeartbeats 4000000 in
/-- The gradients of `v` of one grid point. -/
theorem out0_B_14_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x8x256x128 .f32) (harg11 : arg11.IsWhole) (arg12 : Memref sig .tc .vmem S1x1x256x128 .f32) (harg12 : arg12.IsWhole) (arg13 : Memref sig .tc .vmem S512x256 .bf16) (harg13 : arg13.IsWhole) (arg14 : Memref sig .tc .vmem S512x128 .bf16) (harg14 : arg14.IsWhole) (arg15 : Memref sig .tc .vmem S512x128 .bf16) (harg15 : arg15.IsWhole) (arg16 : Memref sig .tc .vmem S512x256 .bf16) (harg16 : arg16.IsWhole) (arg17 : Memref sig .tc .vmem S512x256 .bf16) (harg17 : arg17.IsWhole) (arg18 : Memref sig .tc .vmem S512x128 .f32) (harg18 : arg18.IsWhole) (arg19 : Memref sig .tc .vmem S1x256 .f32) (harg19 : arg19.IsWhole) (arg20 : Memref sig .tc .vmem S256x128 .f32) (harg20 : arg20.IsWhole) (hc0 : ¬cond0_0 i) (hc1 : ¬cond0_1 i)
    (x0 : Vec F S512x128 .bf16) (x1 : Vec F S512x128 .bf16) (x2 : Vec F S512x256 .bf16) (x3 : Vec F S512x256 .bf16) (x4 : Vec F S512x128 .bf16) (x5 : Vec F S128x128 .bf16) (x6 : Vec F S1x128 .f32) (x7 : Vec F S1x256 .f32) (x8 : Vec F S512x256 .f32) (x9 : Vec F S1x8x256x128 .f32) (x10 : Vec F S1x1x256x128 .f32) (x11 : Vec F S512x256 .bf16) (xo17 : Vec F S1x256 .f32) (xs0 : Vec F S256x128 .f32) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo17 xs0 = Win.out14 (⟨BitVec.ofNat 32 (i 1).val, x0, x1, x2, x3, x4, x5, x6, x7, x8, x9, x10, x11⟩ : Win F) xs0 := by
  frame_out
  chain_rfl
set_option maxHeartbeats 4000000 in
/-- The gradients of `r` of one grid point. -/
theorem out0_B_15_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x8x256x128 .f32) (harg11 : arg11.IsWhole) (arg12 : Memref sig .tc .vmem S1x1x256x128 .f32) (harg12 : arg12.IsWhole) (arg13 : Memref sig .tc .vmem S512x256 .bf16) (harg13 : arg13.IsWhole) (arg14 : Memref sig .tc .vmem S512x128 .bf16) (harg14 : arg14.IsWhole) (arg15 : Memref sig .tc .vmem S512x128 .bf16) (harg15 : arg15.IsWhole) (arg16 : Memref sig .tc .vmem S512x256 .bf16) (harg16 : arg16.IsWhole) (arg17 : Memref sig .tc .vmem S512x256 .bf16) (harg17 : arg17.IsWhole) (arg18 : Memref sig .tc .vmem S512x128 .f32) (harg18 : arg18.IsWhole) (arg19 : Memref sig .tc .vmem S1x256 .f32) (harg19 : arg19.IsWhole) (arg20 : Memref sig .tc .vmem S256x128 .f32) (harg20 : arg20.IsWhole) (hc0 : ¬cond0_0 i) (hc1 : ¬cond0_1 i)
    (x0 : Vec F S512x128 .bf16) (x1 : Vec F S512x128 .bf16) (x2 : Vec F S512x256 .bf16) (x3 : Vec F S512x256 .bf16) (x4 : Vec F S512x128 .bf16) (x5 : Vec F S128x128 .bf16) (x6 : Vec F S1x128 .f32) (x7 : Vec F S1x256 .f32) (x8 : Vec F S512x256 .f32) (x9 : Vec F S1x8x256x128 .f32) (x10 : Vec F S1x1x256x128 .f32) (x11 : Vec F S512x256 .bf16) (xo17 : Vec F S1x256 .f32) (xs0 : Vec F S256x128 .f32) :
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo17 xs0 = Win.out15 (⟨BitVec.ofNat 32 (i 1).val, x0, x1, x2, x3, x4, x5, x6, x7, x8, x9, x10, x11⟩ : Win F) := by
  frame_out
  chain_rfl
set_option maxHeartbeats 4000000 in
/-- The gradients of the gate of one grid point. -/
theorem out0_B_16_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x8x256x128 .f32) (harg11 : arg11.IsWhole) (arg12 : Memref sig .tc .vmem S1x1x256x128 .f32) (harg12 : arg12.IsWhole) (arg13 : Memref sig .tc .vmem S512x256 .bf16) (harg13 : arg13.IsWhole) (arg14 : Memref sig .tc .vmem S512x128 .bf16) (harg14 : arg14.IsWhole) (arg15 : Memref sig .tc .vmem S512x128 .bf16) (harg15 : arg15.IsWhole) (arg16 : Memref sig .tc .vmem S512x256 .bf16) (harg16 : arg16.IsWhole) (arg17 : Memref sig .tc .vmem S512x256 .bf16) (harg17 : arg17.IsWhole) (arg18 : Memref sig .tc .vmem S512x128 .f32) (harg18 : arg18.IsWhole) (arg19 : Memref sig .tc .vmem S1x256 .f32) (harg19 : arg19.IsWhole) (arg20 : Memref sig .tc .vmem S256x128 .f32) (harg20 : arg20.IsWhole) (hc0 : ¬cond0_0 i) (hc1 : ¬cond0_1 i)
    (x0 : Vec F S512x128 .bf16) (x1 : Vec F S512x128 .bf16) (x2 : Vec F S512x256 .bf16) (x3 : Vec F S512x256 .bf16) (x4 : Vec F S512x128 .bf16) (x5 : Vec F S128x128 .bf16) (x6 : Vec F S1x128 .f32) (x7 : Vec F S1x256 .f32) (x8 : Vec F S512x256 .f32) (x9 : Vec F S1x8x256x128 .f32) (x10 : Vec F S1x1x256x128 .f32) (x11 : Vec F S512x256 .bf16) (xo17 : Vec F S1x256 .f32) (xs0 : Vec F S256x128 .f32) :
    out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo17 xs0 = Win.out16 (⟨BitVec.ofNat 32 (i 1).val, x0, x1, x2, x3, x4, x5, x6, x7, x8, x9, x10, x11⟩ : Win F) xs0 := by
  frame_out
  chain_rfl
set_option maxHeartbeats 4000000 in
/-- The gradient of the norm's scale of one grid point. -/
theorem out0_B_17_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x8x256x128 .f32) (harg11 : arg11.IsWhole) (arg12 : Memref sig .tc .vmem S1x1x256x128 .f32) (harg12 : arg12.IsWhole) (arg13 : Memref sig .tc .vmem S512x256 .bf16) (harg13 : arg13.IsWhole) (arg14 : Memref sig .tc .vmem S512x128 .bf16) (harg14 : arg14.IsWhole) (arg15 : Memref sig .tc .vmem S512x128 .bf16) (harg15 : arg15.IsWhole) (arg16 : Memref sig .tc .vmem S512x256 .bf16) (harg16 : arg16.IsWhole) (arg17 : Memref sig .tc .vmem S512x256 .bf16) (harg17 : arg17.IsWhole) (arg18 : Memref sig .tc .vmem S512x128 .f32) (harg18 : arg18.IsWhole) (arg19 : Memref sig .tc .vmem S1x256 .f32) (harg19 : arg19.IsWhole) (arg20 : Memref sig .tc .vmem S256x128 .f32) (harg20 : arg20.IsWhole) (hc0 : ¬cond0_0 i) (hc1 : ¬cond0_1 i)
    (x0 : Vec F S512x128 .bf16) (x1 : Vec F S512x128 .bf16) (x2 : Vec F S512x256 .bf16) (x3 : Vec F S512x256 .bf16) (x4 : Vec F S512x128 .bf16) (x5 : Vec F S128x128 .bf16) (x6 : Vec F S1x128 .f32) (x7 : Vec F S1x256 .f32) (x8 : Vec F S512x256 .f32) (x9 : Vec F S1x8x256x128 .f32) (x10 : Vec F S1x1x256x128 .f32) (x11 : Vec F S512x256 .bf16) (xo17 : Vec F S1x256 .f32) (xs0 : Vec F S256x128 .f32) :
    out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo17 xs0 = Win.gnAt (⟨BitVec.ofNat 32 (i 1).val, x0, x1, x2, x3, x4, x5, x6, x7, x8, x9, x10, x11⟩ : Win F) xo17 8 := by
  frame_out
  chain_rfl
set_option maxHeartbeats 4000000 in
/-- The carried state of one grid point. -/
theorem sout0_B_0_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x8x256x128 .f32) (harg11 : arg11.IsWhole) (arg12 : Memref sig .tc .vmem S1x1x256x128 .f32) (harg12 : arg12.IsWhole) (arg13 : Memref sig .tc .vmem S512x256 .bf16) (harg13 : arg13.IsWhole) (arg14 : Memref sig .tc .vmem S512x128 .bf16) (harg14 : arg14.IsWhole) (arg15 : Memref sig .tc .vmem S512x128 .bf16) (harg15 : arg15.IsWhole) (arg16 : Memref sig .tc .vmem S512x256 .bf16) (harg16 : arg16.IsWhole) (arg17 : Memref sig .tc .vmem S512x256 .bf16) (harg17 : arg17.IsWhole) (arg18 : Memref sig .tc .vmem S512x128 .f32) (harg18 : arg18.IsWhole) (arg19 : Memref sig .tc .vmem S1x256 .f32) (harg19 : arg19.IsWhole) (arg20 : Memref sig .tc .vmem S256x128 .f32) (harg20 : arg20.IsWhole) (hc0 : ¬cond0_0 i) (hc1 : ¬cond0_1 i)
    (x0 : Vec F S512x128 .bf16) (x1 : Vec F S512x128 .bf16) (x2 : Vec F S512x256 .bf16) (x3 : Vec F S512x256 .bf16) (x4 : Vec F S512x128 .bf16) (x5 : Vec F S128x128 .bf16) (x6 : Vec F S1x128 .f32) (x7 : Vec F S1x256 .f32) (x8 : Vec F S512x256 .f32) (x9 : Vec F S1x8x256x128 .f32) (x10 : Vec F S1x1x256x128 .f32) (x11 : Vec F S512x256 .bf16) (xo17 : Vec F S1x256 .f32) (xs0 : Vec F S256x128 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo17 xs0 = Win.car (⟨BitVec.ofNat 32 (i 1).val, x0, x1, x2, x3, x4, x5, x6, x7, x8, x9, x10, x11⟩ : Win F) xs0 8 := by
  frame_out
  chain_rfl
end Cert.KernelIdeal.Chunk
end
-- ==== Proof.OpenC.lean ====
module
public import proofs.«01_k».proof.Proof.KChunk
public import Idealize.ShloMosaic.Lib.Pipeline.ValueKit
public import Idealize.ShloMosaic.Lib.Pipeline.ReadBack
public import Idealize.ShloMosaic.Lib.Pipeline.Regions
@[expose] public section
/-! # What the kernel's body leaves, in case C of its two tests

Each output window, and the carried state, as the chunks' arrays. -/
set_option maxRecDepth 65536
noncomputable section
namespace Cert.KernelIdeal.Chunk
open Cert.KernelIdeal Cert.KernelIdeal.Gen Idealize.ShloMosaic Idealize.ShloMosaic.TcCoe Idealize.SL.Sem
variable {F : FTy → Type} [FloatOps F]
set_option maxHeartbeats 4000000 in
/-- The gradients of `q` of one grid point. -/
theorem out0_C_12_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x8x256x128 .f32) (harg11 : arg11.IsWhole) (arg12 : Memref sig .tc .vmem S1x1x256x128 .f32) (harg12 : arg12.IsWhole) (arg13 : Memref sig .tc .vmem S512x256 .bf16) (harg13 : arg13.IsWhole) (arg14 : Memref sig .tc .vmem S512x128 .bf16) (harg14 : arg14.IsWhole) (arg15 : Memref sig .tc .vmem S512x128 .bf16) (harg15 : arg15.IsWhole) (arg16 : Memref sig .tc .vmem S512x256 .bf16) (harg16 : arg16.IsWhole) (arg17 : Memref sig .tc .vmem S512x256 .bf16) (harg17 : arg17.IsWhole) (arg18 : Memref sig .tc .vmem S512x128 .f32) (harg18 : arg18.IsWhole) (arg19 : Memref sig .tc .vmem S1x256 .f32) (harg19 : arg19.IsWhole) (arg20 : Memref sig .tc .vmem S256x128 .f32) (harg20 : arg20.IsWhole) (hc0 : cond0_0 i) (hc1 : ¬cond0_1 i)
    (x0 : Vec F S512x128 .bf16) (x1 : Vec F S512x128 .bf16) (x2 : Vec F S512x256 .bf16) (x3 : Vec F S512x256 .bf16) (x4 : Vec F S512x128 .bf16) (x5 : Vec F S128x128 .bf16) (x6 : Vec F S1x128 .f32) (x7 : Vec F S1x256 .f32) (x8 : Vec F S512x256 .f32) (x9 : Vec F S1x8x256x128 .f32) (x10 : Vec F S1x1x256x128 .f32) (x11 : Vec F S512x256 .bf16) (xo17 : Vec F S1x256 .f32) :
    out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo17 = Win.out12 (⟨BitVec.ofNat 32 (i 1).val, x0, x1, x2, x3, x4, x5, x6, x7, x8, x9, x10, x11⟩ : Win F) := by
  frame_out
  chain_rfl
set_option maxHeartbeats 4000000 in
/-- The gradients of `k` of one grid point. -/
theorem out0_C_13_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x8x256x128 .f32) (harg11 : arg11.IsWhole) (arg12 : Memref sig .tc .vmem S1x1x256x128 .f32) (harg12 : arg12.IsWhole) (arg13 : Memref sig .tc .vmem S512x256 .bf16) (harg13 : arg13.IsWhole) (arg14 : Memref sig .tc .vmem S512x128 .bf16) (harg14 : arg14.IsWhole) (arg15 : Memref sig .tc .vmem S512x128 .bf16) (harg15 : arg15.IsWhole) (arg16 : Memref sig .tc .vmem S512x256 .bf16) (harg16 : arg16.IsWhole) (arg17 : Memref sig .tc .vmem S512x256 .bf16) (harg17 : arg17.IsWhole) (arg18 : Memref sig .tc .vmem S512x128 .f32) (harg18 : arg18.IsWhole) (arg19 : Memref sig .tc .vmem S1x256 .f32) (harg19 : arg19.IsWhole) (arg20 : Memref sig .tc .vmem S256x128 .f32) (harg20 : arg20.IsWhole) (hc0 : cond0_0 i) (hc1 : ¬cond0_1 i)
    (x0 : Vec F S512x128 .bf16) (x1 : Vec F S512x128 .bf16) (x2 : Vec F S512x256 .bf16) (x3 : Vec F S512x256 .bf16) (x4 : Vec F S512x128 .bf16) (x5 : Vec F S128x128 .bf16) (x6 : Vec F S1x128 .f32) (x7 : Vec F S1x256 .f32) (x8 : Vec F S512x256 .f32) (x9 : Vec F S1x8x256x128 .f32) (x10 : Vec F S1x1x256x128 .f32) (x11 : Vec F S512x256 .bf16) (xo17 : Vec F S1x256 .f32) :
    out0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo17 = Win.out13 (⟨BitVec.ofNat 32 (i 1).val, x0, x1, x2, x3, x4, x5, x6, x7, x8, x9, x10, x11⟩ : Win F) k0_pay2 := by
  frame_out
  chain_rfl
set_option maxHeartbeats 4000000 in
/-- The gradients of `v` of one grid point. -/
theorem out0_C_14_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x8x256x128 .f32) (harg11 : arg11.IsWhole) (arg12 : Memref sig .tc .vmem S1x1x256x128 .f32) (harg12 : arg12.IsWhole) (arg13 : Memref sig .tc .vmem S512x256 .bf16) (harg13 : arg13.IsWhole) (arg14 : Memref sig .tc .vmem S512x128 .bf16) (harg14 : arg14.IsWhole) (arg15 : Memref sig .tc .vmem S512x128 .bf16) (harg15 : arg15.IsWhole) (arg16 : Memref sig .tc .vmem S512x256 .bf16) (harg16 : arg16.IsWhole) (arg17 : Memref sig .tc .vmem S512x256 .bf16) (harg17 : arg17.IsWhole) (arg18 : Memref sig .tc .vmem S512x128 .f32) (harg18 : arg18.IsWhole) (arg19 : Memref sig .tc .vmem S1x256 .f32) (harg19 : arg19.IsWhole) (arg20 : Memref sig .tc .vmem S256x128 .f32) (harg20 : arg20.IsWhole) (hc0 : cond0_0 i) (hc1 : ¬cond0_1 i)
    (x0 : Vec F S512x128 .bf16) (x1 : Vec F S512x128 .bf16) (x2 : Vec F S512x256 .bf16) (x3 : Vec F S512x256 .bf16) (x4 : Vec F S512x128 .bf16) (x5 : Vec F S128x128 .bf16) (x6 : Vec F S1x128 .f32) (x7 : Vec F S1x256 .f32) (x8 : Vec F S512x256 .f32) (x9 : Vec F S1x8x256x128 .f32) (x10 : Vec F S1x1x256x128 .f32) (x11 : Vec F S512x256 .bf16) (xo17 : Vec F S1x256 .f32) :
    out0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo17 = Win.out14 (⟨BitVec.ofNat 32 (i 1).val, x0, x1, x2, x3, x4, x5, x6, x7, x8, x9, x10, x11⟩ : Win F) k0_pay2 := by
  frame_out
  chain_rfl
set_option maxHeartbeats 4000000 in
/-- The gradients of `r` of one grid point. -/
theorem out0_C_15_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x8x256x128 .f32) (harg11 : arg11.IsWhole) (arg12 : Memref sig .tc .vmem S1x1x256x128 .f32) (harg12 : arg12.IsWhole) (arg13 : Memref sig .tc .vmem S512x256 .bf16) (harg13 : arg13.IsWhole) (arg14 : Memref sig .tc .vmem S512x128 .bf16) (harg14 : arg14.IsWhole) (arg15 : Memref sig .tc .vmem S512x128 .bf16) (harg15 : arg15.IsWhole) (arg16 : Memref sig .tc .vmem S512x256 .bf16) (harg16 : arg16.IsWhole) (arg17 : Memref sig .tc .vmem S512x256 .bf16) (harg17 : arg17.IsWhole) (arg18 : Memref sig .tc .vmem S512x128 .f32) (harg18 : arg18.IsWhole) (arg19 : Memref sig .tc .vmem S1x256 .f32) (harg19 : arg19.IsWhole) (arg20 : Memref sig .tc .vmem S256x128 .f32) (harg20 : arg20.IsWhole) (hc0 : cond0_0 i) (hc1 : ¬cond0_1 i)
    (x0 : Vec F S512x128 .bf16) (x1 : Vec F S512x128 .bf16) (x2 : Vec F S512x256 .bf16) (x3 : Vec F S512x256 .bf16) (x4 : Vec F S512x128 .bf16) (x5 : Vec F S128x128 .bf16) (x6 : Vec F S1x128 .f32) (x7 : Vec F S1x256 .f32) (x8 : Vec F S512x256 .f32) (x9 : Vec F S1x8x256x128 .f32) (x10 : Vec F S1x1x256x128 .f32) (x11 : Vec F S512x256 .bf16) (xo17 : Vec F S1x256 .f32) :
    out0_C_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo17 = Win.out15 (⟨BitVec.ofNat 32 (i 1).val, x0, x1, x2, x3, x4, x5, x6, x7, x8, x9, x10, x11⟩ : Win F) := by
  frame_out
  chain_rfl
set_option maxHeartbeats 4000000 in
/-- The gradients of the gate of one grid point. -/
theorem out0_C_16_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x8x256x128 .f32) (harg11 : arg11.IsWhole) (arg12 : Memref sig .tc .vmem S1x1x256x128 .f32) (harg12 : arg12.IsWhole) (arg13 : Memref sig .tc .vmem S512x256 .bf16) (harg13 : arg13.IsWhole) (arg14 : Memref sig .tc .vmem S512x128 .bf16) (harg14 : arg14.IsWhole) (arg15 : Memref sig .tc .vmem S512x128 .bf16) (harg15 : arg15.IsWhole) (arg16 : Memref sig .tc .vmem S512x256 .bf16) (harg16 : arg16.IsWhole) (arg17 : Memref sig .tc .vmem S512x256 .bf16) (harg17 : arg17.IsWhole) (arg18 : Memref sig .tc .vmem S512x128 .f32) (harg18 : arg18.IsWhole) (arg19 : Memref sig .tc .vmem S1x256 .f32) (harg19 : arg19.IsWhole) (arg20 : Memref sig .tc .vmem S256x128 .f32) (harg20 : arg20.IsWhole) (hc0 : cond0_0 i) (hc1 : ¬cond0_1 i)
    (x0 : Vec F S512x128 .bf16) (x1 : Vec F S512x128 .bf16) (x2 : Vec F S512x256 .bf16) (x3 : Vec F S512x256 .bf16) (x4 : Vec F S512x128 .bf16) (x5 : Vec F S128x128 .bf16) (x6 : Vec F S1x128 .f32) (x7 : Vec F S1x256 .f32) (x8 : Vec F S512x256 .f32) (x9 : Vec F S1x8x256x128 .f32) (x10 : Vec F S1x1x256x128 .f32) (x11 : Vec F S512x256 .bf16) (xo17 : Vec F S1x256 .f32) :
    out0_C_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo17 = Win.out16 (⟨BitVec.ofNat 32 (i 1).val, x0, x1, x2, x3, x4, x5, x6, x7, x8, x9, x10, x11⟩ : Win F) k0_pay2 := by
  frame_out
  chain_rfl
set_option maxHeartbeats 4000000 in
/-- The gradient of the norm's scale of one grid point. -/
theorem out0_C_17_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x8x256x128 .f32) (harg11 : arg11.IsWhole) (arg12 : Memref sig .tc .vmem S1x1x256x128 .f32) (harg12 : arg12.IsWhole) (arg13 : Memref sig .tc .vmem S512x256 .bf16) (harg13 : arg13.IsWhole) (arg14 : Memref sig .tc .vmem S512x128 .bf16) (harg14 : arg14.IsWhole) (arg15 : Memref sig .tc .vmem S512x128 .bf16) (harg15 : arg15.IsWhole) (arg16 : Memref sig .tc .vmem S512x256 .bf16) (harg16 : arg16.IsWhole) (arg17 : Memref sig .tc .vmem S512x256 .bf16) (harg17 : arg17.IsWhole) (arg18 : Memref sig .tc .vmem S512x128 .f32) (harg18 : arg18.IsWhole) (arg19 : Memref sig .tc .vmem S1x256 .f32) (harg19 : arg19.IsWhole) (arg20 : Memref sig .tc .vmem S256x128 .f32) (harg20 : arg20.IsWhole) (hc0 : cond0_0 i) (hc1 : ¬cond0_1 i)
    (x0 : Vec F S512x128 .bf16) (x1 : Vec F S512x128 .bf16) (x2 : Vec F S512x256 .bf16) (x3 : Vec F S512x256 .bf16) (x4 : Vec F S512x128 .bf16) (x5 : Vec F S128x128 .bf16) (x6 : Vec F S1x128 .f32) (x7 : Vec F S1x256 .f32) (x8 : Vec F S512x256 .f32) (x9 : Vec F S1x8x256x128 .f32) (x10 : Vec F S1x1x256x128 .f32) (x11 : Vec F S512x256 .bf16) (xo17 : Vec F S1x256 .f32) :
    out0_C_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo17 = Win.gnAt (⟨BitVec.ofNat 32 (i 1).val, x0, x1, x2, x3, x4, x5, x6, x7, x8, x9, x10, x11⟩ : Win F) xo17 8 := by
  frame_out
  chain_rfl
set_option maxHeartbeats 4000000 in
/-- The carried state of one grid point. -/
theorem sout0_C_0_eq (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S1x256 .f32) (harg9 : arg9.IsWhole) (arg10 : Memref sig .tc .vmem S512x256 .f32) (harg10 : arg10.IsWhole) (arg11 : Memref sig .tc .vmem S1x8x256x128 .f32) (harg11 : arg11.IsWhole) (arg12 : Memref sig .tc .vmem S1x1x256x128 .f32) (harg12 : arg12.IsWhole) (arg13 : Memref sig .tc .vmem S512x256 .bf16) (harg13 : arg13.IsWhole) (arg14 : Memref sig .tc .vmem S512x128 .bf16) (harg14 : arg14.IsWhole) (arg15 : Memref sig .tc .vmem S512x128 .bf16) (harg15 : arg15.IsWhole) (arg16 : Memref sig .tc .vmem S512x256 .bf16) (harg16 : arg16.IsWhole) (arg17 : Memref sig .tc .vmem S512x256 .bf16) (harg17 : arg17.IsWhole) (arg18 : Memref sig .tc .vmem S512x128 .f32) (harg18 : arg18.IsWhole) (arg19 : Memref sig .tc .vmem S1x256 .f32) (harg19 : arg19.IsWhole) (arg20 : Memref sig .tc .vmem S256x128 .f32) (harg20 : arg20.IsWhole) (hc0 : cond0_0 i) (hc1 : ¬cond0_1 i)
    (x0 : Vec F S512x128 .bf16) (x1 : Vec F S512x128 .bf16) (x2 : Vec F S512x256 .bf16) (x3 : Vec F S512x256 .bf16) (x4 : Vec F S512x128 .bf16) (x5 : Vec F S128x128 .bf16) (x6 : Vec F S1x128 .f32) (x7 : Vec F S1x256 .f32) (x8 : Vec F S512x256 .f32) (x9 : Vec F S1x8x256x128 .f32) (x10 : Vec F S1x1x256x128 .f32) (x11 : Vec F S512x256 .bf16) (xo17 : Vec F S1x256 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 xo17 = Win.car (⟨BitVec.ofNat 32 (i 1).val, x0, x1, x2, x3, x4, x5, x6, x7, x8, x9, x10, x11⟩ : Win F) k0_pay2 8 := by
  frame_out
  chain_rfl
end Cert.KernelIdeal.Chunk
end
-- ==== Proof.KArr.lean ====
module
public import proofs.«01_k».proof.Proof.KWin
public import proofs.«01_k».proof.Proof.OpenA
public import proofs.«01_k».proof.Proof.OpenB
public import proofs.«01_k».proof.Proof.OpenC
public import proofs.«01_k».proof.Proof.Gen.KernelIdeal.Value
@[expose] public section
/-! # The kernel's result arrays, from what its argument arrays hold -/
set_option maxRecDepth 16384
noncomputable section
namespace Cert.KernelIdeal.Chunk
open Cert.KernelIdeal Cert.KernelIdeal.Gen Idealize.ShloMosaic Idealize.ShloMosaic.TcCoe Idealize.SL.Sem Cert.RealVal Cert.Spec

variable (m : (ℓ : Loc nD τ sig) → Buf (Elt Ideal) ℓ) (c : Dev nD)

/-- The arrays the grid reads hold the reals they should. -/
structure Arrs (p : Vec Ideal S4096x3200 .bf16) (wa : Vec Ideal S128x512 .bf16) (ba : Vec Ideal S1x512 .f32) (g : Vec Ideal S1x256 .f32)
    (o : Vec Ideal S4096x1024 .f32) (st : Vec Ideal S4x64x256x128 .f32) (dy : Vec Ideal S4096x1024 .bf16) (D : Inp) : Prop where
  hq : ∀ (r : Fin 4096) (a : Fin 512), p (ix2 r (⟨a.val, by omega⟩ : Fin 3200)) = ((D.q r a : ℝ) : EReal)
  hk : ∀ (r : Fin 4096) (a : Fin 512), p (ix2 r (⟨512 + a.val, by omega⟩ : Fin 3200)) = ((D.k r a : ℝ) : EReal)
  hv : ∀ (r : Fin 4096) (a : Fin 1024), p (ix2 r (⟨1024 + a.val, by omega⟩ : Fin 3200)) = ((D.v r a : ℝ) : EReal)
  hr : ∀ (r : Fin 4096) (a : Fin 1024), p (ix2 r (⟨2048 + a.val, by omega⟩ : Fin 3200)) = ((D.r r a : ℝ) : EReal)
  hlr : ∀ (r : Fin 4096) (a : Fin 128), p (ix2 r (⟨3072 + a.val, by omega⟩ : Fin 3200)) = ((D.lrp r a : ℝ) : EReal)
  hwa : ∀ (j : Fin 128) (a : Fin 512), wa (ix2 j a) = ((D.wap j a : ℝ) : EReal)
  hba : ∀ a : Fin 512, ba (ix2 0 a) = ((D.ba a : ℝ) : EReal)
  hg : ∀ b : Fin 256, g (ix2 0 b) = ((D.g b : ℝ) : EReal)
  ho : ∀ (r : Fin 4096) (h : Fin 4) (b : Fin 256), o (ix2 r (⟨256 * h.val + b.val, by omega⟩ : Fin 1024)) = ((D.o (r / 64) h (r % 64) b : ℝ) : EReal)
  hst : ∀ (h : Fin 4) (n : Fin 64) (b : Fin 256) (a : Fin 128), st (ix4 h n b a) = ((D.S (n + 1) h b a : ℝ) : EReal)
  hdy : ∀ (r : Fin 4096) (a : Fin 1024), dy (ix2 r a) = ((D.dy r a : ℝ) : EReal)

/-- The arrays the grid reads. -/
structure Reads (p : Vec Ideal S4096x3200 .bf16) (wa : Vec Ideal S128x512 .bf16) (ba : Vec Ideal S1x512 .f32) (g : Vec Ideal S1x256 .f32)
    (o : Vec Ideal S4096x1024 .f32) (st : Vec Ideal S4x64x256x128 .f32) (dy : Vec Ideal S4096x1024 .bf16) : Prop where
  p : V m c main_v43 = p
  wa : V m c main_v47 = wa
  ba : V m c main_arg6 = ba
  g : V m c main_arg7 = g
  o : V m c main_v40 = o
  st : V m c main_v41 = st
  dy : V m c main_arg8 = dy
/-- The window at a grid point. -/
def winAt (t : Fin cfg0.N) : Win Ideal :=
  ⟨BitVec.ofNat 32 (grid0.coords t 1).val, iblk m c 0 t, iblk m c 1 t, X0_2 m c t, X0_3 m c t, iblk m c 4 t, iblk m c 5 t, iblk m c 6 t, iblk m c 7 t, iblk m c 8 t, iblk m c 9 t, iblk m c 10 t, iblk m c 11 t⟩

theorem coords1 : ∀ t : Fin cfg0.N, (grid0.coords t 1).val = t.val % 8 := by decide +kernel
theorem ix0 : ∀ t : Fin cfg0.N, win0_0.index t = ![7 - t.val % 8, t.val / 8] := by decide +kernel
theorem ix1 : ∀ t : Fin cfg0.N, win0_1.index t = ![7 - t.val % 8, 4 + t.val / 8] := by decide +kernel
theorem ix2' : ∀ t : Fin cfg0.N, win0_2.index t = ![7 - t.val % 8, 4 + t.val / 8] := by decide +kernel
theorem ix3' : ∀ t : Fin cfg0.N, win0_3.index t = ![7 - t.val % 8, 8 + t.val / 8] := by decide +kernel
theorem ix4' : ∀ t : Fin cfg0.N, win0_4.index t = ![7 - t.val % 8, 24] := by decide +kernel
theorem ix5 : ∀ t : Fin cfg0.N, win0_5.index t = ![0, t.val / 8] := by decide +kernel
theorem ix6 : ∀ t : Fin cfg0.N, win0_6.index t = ![0, t.val / 8] := by decide +kernel
theorem ix7 : ∀ t : Fin cfg0.N, win0_7.index t = ![0, 0] := by decide +kernel
theorem ix8 : ∀ t : Fin cfg0.N, win0_8.index t = ![7 - t.val % 8, t.val / 8] := by decide +kernel
theorem ix9 : ∀ t : Fin cfg0.N, win0_9.index t = ![t.val / 8, 7 - t.val % 8, 0, 0] := by decide +kernel
theorem ix10 : ∀ t : Fin cfg0.N, win0_10.index t = ![t.val / 8, (7 - t.val % 8) * 8 - 1, 0, 0] := by decide +kernel
theorem ix11 : ∀ t : Fin cfg0.N, win0_11.index t = ![7 - t.val % 8, t.val / 8] := by decide +kernel

theorem emb0 (t : Fin cfg0.N) (i : Fin 512) (a : Fin 128) (hr : 512 * (7 - t.val % 8) + i.val < 4096) (hc : 128 * (t.val / 8) + a.val < 3200) :
    ((win0_0.blk t).view.emb (ix2 i a) : S4096x3200.Idx) = ix2 (⟨512 * (7 - t.val % 8) + i.val, hr⟩ : Fin 4096) (⟨128 * (t.val / 8) + a.val, hc⟩ : Fin 3200) := by
  have ht : t.val < 32 := t.isLt
  blk_ext [ix0]
theorem emb1 (t : Fin cfg0.N) (i : Fin 512) (a : Fin 128) (hr : 512 * (7 - t.val % 8) + i.val < 4096) (hc : 512 + (128 * (t.val / 8) + a.val) < 3200) :
    ((win0_1.blk t).view.emb (ix2 i a) : S4096x3200.Idx) = ix2 (⟨512 * (7 - t.val % 8) + i.val, hr⟩ : Fin 4096) (⟨512 + (128 * (t.val / 8) + a.val), hc⟩ : Fin 3200) := by
  have ht : t.val < 32 := t.isLt
  blk_ext [ix1]
theorem emb2 (t : Fin cfg0.N) (y : (win0_2.xblock (cfg0.grid.coords t)).Idx) (i : Fin 512) (a : Fin 256) (h0 : (y 0).val = i.val) (h1 : (y 1).val = a.val)
    (hr : 512 * (7 - t.val % 8) + i.val < 4096) (hc : 1024 + (256 * (t.val / 8) + a.val) < 3200) :
    ((win0_2.blk t).view.emb y : S4096x3200.Idx) = ix2 (⟨512 * (7 - t.val % 8) + i.val, hr⟩ : Fin 4096) (⟨1024 + (256 * (t.val / 8) + a.val), hc⟩ : Fin 3200) := by
  refine eq_ix2_of_val _ _ _ ((win0_2.rect_emb_val t y 0).trans ?_) ((win0_2.rect_emb_val t y 1).trans ?_)
  · rw [ix2' t]; show (7 - t.val % 8) * 512 + (y 0).val = 512 * (7 - t.val % 8) + i.val; rw [h0]; omega
  · rw [ix2' t]; show (4 + t.val / 8) * 256 + (y 1).val = 1024 + (256 * (t.val / 8) + a.val); rw [h1]; omega
theorem emb3 (t : Fin cfg0.N) (y : (win0_3.xblock (cfg0.grid.coords t)).Idx) (i : Fin 512) (a : Fin 256) (h0 : (y 0).val = i.val) (h1 : (y 1).val = a.val)
    (hr : 512 * (7 - t.val % 8) + i.val < 4096) (hc : 2048 + (256 * (t.val / 8) + a.val) < 3200) :
    ((win0_3.blk t).view.emb y : S4096x3200.Idx) = ix2 (⟨512 * (7 - t.val % 8) + i.val, hr⟩ : Fin 4096) (⟨2048 + (256 * (t.val / 8) + a.val), hc⟩ : Fin 3200) := by
  refine eq_ix2_of_val _ _ _ ((win0_3.rect_emb_val t y 0).trans ?_) ((win0_3.rect_emb_val t y 1).trans ?_)
  · rw [ix3' t]; show (7 - t.val % 8) * 512 + (y 0).val = 512 * (7 - t.val % 8) + i.val; rw [h0]; omega
  · rw [ix3' t]; show (8 + t.val / 8) * 256 + (y 1).val = 2048 + (256 * (t.val / 8) + a.val); rw [h1]; omega
theorem emb4 (t : Fin cfg0.N) (i : Fin 512) (a : Fin 128) (hr : 512 * (7 - t.val % 8) + i.val < 4096) (hc : 3072 + a.val < 3200) :
    ((win0_4.blk t).view.emb (ix2 i a) : S4096x3200.Idx) = ix2 (⟨512 * (7 - t.val % 8) + i.val, hr⟩ : Fin 4096) (⟨3072 + a.val, hc⟩ : Fin 3200) := by
  have ht : t.val < 32 := t.isLt
  blk_ext [ix4']
theorem emb5 (t : Fin cfg0.N) (i : Fin 128) (a : Fin 128) (hr : i.val < 128) (hc : 128 * (t.val / 8) + a.val < 512) :
    ((win0_5.blk t).view.emb (ix2 i a) : S128x512.Idx) = ix2 (⟨i.val, hr⟩ : Fin 128) (⟨128 * (t.val / 8) + a.val, hc⟩ : Fin 512) := by
  have ht : t.val < 32 := t.isLt
  blk_ext [ix5]
theorem emb6 (t : Fin cfg0.N) (i : Fin 1) (a : Fin 128) (hr : i.val < 1) (hc : 128 * (t.val / 8) + a.val < 512) :
    ((win0_6.blk t).view.emb (ix2 i a) : S1x512.Idx) = ix2 (⟨i.val, hr⟩ : Fin 1) (⟨128 * (t.val / 8) + a.val, hc⟩ : Fin 512) := by
  have ht : t.val < 32 := t.isLt
  blk_ext [ix6]
theorem emb7 (t : Fin cfg0.N) (i : Fin 1) (a : Fin 256) (hr : i.val < 1) (hc : a.val < 256) :
    ((win0_7.blk t).view.emb (ix2 i a) : S1x256.Idx) = ix2 (⟨i.val, hr⟩ : Fin 1) (⟨a.val, hc⟩ : Fin 256) := by
  have ht : t.val < 32 := t.isLt
  blk_ext [ix7]
theorem emb8 (t : Fin cfg0.N) (i : Fin 512) (a : Fin 256) (hr : 512 * (7 - t.val % 8) + i.val < 4096) (hc : 256 * (t.val / 8) + a.val < 1024) :
    ((win0_8.blk t).view.emb (ix2 i a) : S4096x1024.Idx) = ix2 (⟨512 * (7 - t.val % 8) + i.val, hr⟩ : Fin 4096) (⟨256 * (t.val / 8) + a.val, hc⟩ : Fin 1024) := by
  have ht : t.val < 32 := t.isLt
  blk_ext [ix8]
theorem emb11 (t : Fin cfg0.N) (i : Fin 512) (a : Fin 256) (hr : 512 * (7 - t.val % 8) + i.val < 4096) (hc : 256 * (t.val / 8) + a.val < 1024) :
    ((win0_11.blk t).view.emb (ix2 i a) : S4096x1024.Idx) = ix2 (⟨512 * (7 - t.val % 8) + i.val, hr⟩ : Fin 4096) (⟨256 * (t.val / 8) + a.val, hc⟩ : Fin 1024) := by
  have ht : t.val < 32 := t.isLt
  blk_ext [ix11]
theorem emb9 (t : Fin cfg0.N) (j : Fin 8) (b : Fin 256) (a : Fin 128) (h0 : t.val / 8 < 4) (h1 : 8 * (7 - t.val % 8) + j.val < 64) :
    ((win0_9.blk t).view.emb (ix4 0 j b a) : S4x64x256x128.Idx) = ix4 (⟨t.val / 8, h0⟩ : Fin 4) (⟨8 * (7 - t.val % 8) + j.val, h1⟩ : Fin 64) b a := by
  have ht : t.val < 32 := t.isLt
  blk_ext [ix9]
theorem emb10 (t : Fin cfg0.N) (b : Fin 256) (a : Fin 128) (h0 : t.val / 8 < 4) (h1 : 8 * (7 - t.val % 8) - 1 < 64) :
    ((win0_10.blk t).view.emb (ix4 0 0 b a) : S4x64x256x128.Idx) = ix4 (⟨t.val / 8, h0⟩ : Fin 4) (⟨8 * (7 - t.val % 8) - 1, h1⟩ : Fin 64) b a := by
  have ht : t.val < 32 := t.isLt
  blk_ext [ix10]
theorem blk0 {p : Vec Ideal S4096x3200 .bf16} (hp : V m c main_v43 = p) (t : Fin cfg0.N) (i : Fin 512) (a : Fin 128) (hr : 512 * (7 - t.val % 8) + i.val < 4096) (hc : 128 * (t.val / 8) + a.val < 3200) :
    iblk m c 0 t (ix2 i a) = p (ix2 (⟨512 * (7 - t.val % 8) + i.val, hr⟩ : Fin 4096) (⟨128 * (t.val / 8) + a.val, hc⟩ : Fin 3200)) := by
  show V m c main_v43 ((win0_0.blk t).view.emb (ix2 i a)) = _
  rw [hp, emb0 t i a hr hc]
theorem blk1 {p : Vec Ideal S4096x3200 .bf16} (hp : V m c main_v43 = p) (t : Fin cfg0.N) (i : Fin 512) (a : Fin 128) (hr : 512 * (7 - t.val % 8) + i.val < 4096) (hc : 512 + (128 * (t.val / 8) + a.val) < 3200) :
    iblk m c 1 t (ix2 i a) = p (ix2 (⟨512 * (7 - t.val % 8) + i.val, hr⟩ : Fin 4096) (⟨512 + (128 * (t.val / 8) + a.val), hc⟩ : Fin 3200)) := by
  show V m c main_v43 ((win0_1.blk t).view.emb (ix2 i a)) = _
  rw [hp, emb1 t i a hr hc]
theorem blk2 {p : Vec Ideal S4096x3200 .bf16} (hp : V m c main_v43 = p) (t : Fin cfg0.N) (i : Fin 512) (a : Fin 256) (hr : 512 * (7 - t.val % 8) + i.val < 4096) (hc : 1024 + (256 * (t.val / 8) + a.val) < 3200) :
    X0_2 m c t (ix2 i a) = p (ix2 (⟨512 * (7 - t.val % 8) + i.val, hr⟩ : Fin 4096) (⟨1024 + (256 * (t.val / 8) + a.val), hc⟩ : Fin 3200)) := by
  unfold X0_2 Pipeline.Window.fill
  rw [dif_pos (moved0_2 t _)]
  show V m c main_v43 ((win0_2.blk t).view.emb _) = _
  rw [hp, emb2 t _ i a rfl rfl hr hc]
theorem blk3 {p : Vec Ideal S4096x3200 .bf16} (hp : V m c main_v43 = p) (t : Fin cfg0.N) (i : Fin 512) (a : Fin 256) (hr : 512 * (7 - t.val % 8) + i.val < 4096) (hc : 2048 + (256 * (t.val / 8) + a.val) < 3200) :
    X0_3 m c t (ix2 i a) = p (ix2 (⟨512 * (7 - t.val % 8) + i.val, hr⟩ : Fin 4096) (⟨2048 + (256 * (t.val / 8) + a.val), hc⟩ : Fin 3200)) := by
  unfold X0_3 Pipeline.Window.fill
  rw [dif_pos (moved0_3 t _)]
  show V m c main_v43 ((win0_3.blk t).view.emb _) = _
  rw [hp, emb3 t _ i a rfl rfl hr hc]
theorem blk4 {p : Vec Ideal S4096x3200 .bf16} (hp : V m c main_v43 = p) (t : Fin cfg0.N) (i : Fin 512) (a : Fin 128) (hr : 512 * (7 - t.val % 8) + i.val < 4096) (hc : 3072 + a.val < 3200) :
    iblk m c 4 t (ix2 i a) = p (ix2 (⟨512 * (7 - t.val % 8) + i.val, hr⟩ : Fin 4096) (⟨3072 + a.val, hc⟩ : Fin 3200)) := by
  show V m c main_v43 ((win0_4.blk t).view.emb (ix2 i a)) = _
  rw [hp, emb4 t i a hr hc]
theorem blk5 {p : Vec Ideal S128x512 .bf16} (hp : V m c main_v47 = p) (t : Fin cfg0.N) (i : Fin 128) (a : Fin 128) (hr : i.val < 128) (hc : 128 * (t.val / 8) + a.val < 512) :
    iblk m c 5 t (ix2 i a) = p (ix2 (⟨i.val, hr⟩ : Fin 128) (⟨128 * (t.val / 8) + a.val, hc⟩ : Fin 512)) := by
  show V m c main_v47 ((win0_5.blk t).view.emb (ix2 i a)) = _
  rw [hp, emb5 t i a hr hc]
theorem blk6 {p : Vec Ideal S1x512 .f32} (hp : V m c main_arg6 = p) (t : Fin cfg0.N) (i : Fin 1) (a : Fin 128) (hr : i.val < 1) (hc : 128 * (t.val / 8) + a.val < 512) :
    iblk m c 6 t (ix2 i a) = p (ix2 (⟨i.val, hr⟩ : Fin 1) (⟨128 * (t.val / 8) + a.val, hc⟩ : Fin 512)) := by
  show V m c main_arg6 ((win0_6.blk t).view.emb (ix2 i a)) = _
  rw [hp, emb6 t i a hr hc]
theorem blk7 {p : Vec Ideal S1x256 .f32} (hp : V m c main_arg7 = p) (t : Fin cfg0.N) (i : Fin 1) (a : Fin 256) (hr : i.val < 1) (hc : a.val < 256) :
    iblk m c 7 t (ix2 i a) = p (ix2 (⟨i.val, hr⟩ : Fin 1) (⟨a.val, hc⟩ : Fin 256)) := by
  show V m c main_arg7 ((win0_7.blk t).view.emb (ix2 i a)) = _
  rw [hp, emb7 t i a hr hc]
theorem blk8 {p : Vec Ideal S4096x1024 .f32} (hp : V m c main_v40 = p) (t : Fin cfg0.N) (i : Fin 512) (a : Fin 256) (hr : 512 * (7 - t.val % 8) + i.val < 4096) (hc : 256 * (t.val / 8) + a.val < 1024) :
    iblk m c 8 t (ix2 i a) = p (ix2 (⟨512 * (7 - t.val % 8) + i.val, hr⟩ : Fin 4096) (⟨256 * (t.val / 8) + a.val, hc⟩ : Fin 1024)) := by
  show V m c main_v40 ((win0_8.blk t).view.emb (ix2 i a)) = _
  rw [hp, emb8 t i a hr hc]
theorem blk9 {p : Vec Ideal S4x64x256x128 .f32} (hp : V m c main_v41 = p) (t : Fin cfg0.N) (j : Fin 8) (b : Fin 256) (a : Fin 128) (h0 : t.val / 8 < 4) (h1 : 8 * (7 - t.val % 8) + j.val < 64) :
    iblk m c 9 t (ix4 0 j b a) = p (ix4 (⟨t.val / 8, h0⟩ : Fin 4) (⟨8 * (7 - t.val % 8) + j.val, h1⟩ : Fin 64) b a) := by
  show V m c main_v41 ((win0_9.blk t).view.emb (ix4 0 j b a)) = _
  rw [hp, emb9 t j b a h0 h1]
theorem blk10 {p : Vec Ideal S4x64x256x128 .f32} (hp : V m c main_v41 = p) (t : Fin cfg0.N) (b : Fin 256) (a : Fin 128) (h0 : t.val / 8 < 4) (h1 : 8 * (7 - t.val % 8) - 1 < 64) :
    iblk m c 10 t (ix4 0 0 b a) = p (ix4 (⟨t.val / 8, h0⟩ : Fin 4) (⟨8 * (7 - t.val % 8) - 1, h1⟩ : Fin 64) b a) := by
  show V m c main_v41 ((win0_10.blk t).view.emb (ix4 0 0 b a)) = _
  rw [hp, emb10 t b a h0 h1]
theorem blk11 {p : Vec Ideal S4096x1024 .bf16} (hp : V m c main_arg8 = p) (t : Fin cfg0.N) (i : Fin 512) (a : Fin 256) (hr : 512 * (7 - t.val % 8) + i.val < 4096) (hc : 256 * (t.val / 8) + a.val < 1024) :
    iblk m c 11 t (ix2 i a) = p (ix2 (⟨512 * (7 - t.val % 8) + i.val, hr⟩ : Fin 4096) (⟨256 * (t.val / 8) + a.val, hc⟩ : Fin 1024)) := by
  show V m c main_arg8 ((win0_11.blk t).view.emb (ix2 i a)) = _
  rw [hp, emb11 t i a hr hc]
end Cert.KernelIdeal.Chunk
end
-- ==== Proof.KHas.lean ====
module
public import proofs.«01_k».proof.Proof.KArr
@[expose] public section
/-! # The kernel's result arrays, from what its argument arrays hold -/
set_option maxRecDepth 16384
noncomputable section
namespace Cert.KernelIdeal.Chunk
open Cert.KernelIdeal Cert.KernelIdeal.Gen Idealize.ShloMosaic Idealize.ShloMosaic.TcCoe Idealize.SL.Sem Cert.RealVal Cert.Spec

variable (m : (ℓ : Loc nD τ sig) → Buf (Elt Ideal) ℓ) (c : Dev nD)

variable {m c} {p : Vec Ideal S4096x3200 .bf16} {wa : Vec Ideal S128x512 .bf16} {ba : Vec Ideal S1x512 .f32} {g : Vec Ideal S1x256 .f32}
    {o : Vec Ideal S4096x1024 .f32} {st : Vec Ideal S4x64x256x128 .f32} {dy : Vec Ideal S4096x1024 .bf16} {D : Inp}
theorem winAt_x0 (t : Fin cfg0.N) : (winAt m c t).x0 = iblk m c 0 t := by simp only [winAt]
theorem winAt_x1 (t : Fin cfg0.N) : (winAt m c t).x1 = iblk m c 1 t := by simp only [winAt]
theorem winAt_x2 (t : Fin cfg0.N) : (winAt m c t).x2 = X0_2 m c t := by simp only [winAt]
theorem winAt_x3 (t : Fin cfg0.N) : (winAt m c t).x3 = X0_3 m c t := by simp only [winAt]
theorem winAt_x4 (t : Fin cfg0.N) : (winAt m c t).x4 = iblk m c 4 t := by simp only [winAt]
theorem winAt_x5 (t : Fin cfg0.N) : (winAt m c t).x5 = iblk m c 5 t := by simp only [winAt]
theorem winAt_x6 (t : Fin cfg0.N) : (winAt m c t).x6 = iblk m c 6 t := by simp only [winAt]
theorem winAt_x7 (t : Fin cfg0.N) : (winAt m c t).x7 = iblk m c 7 t := by simp only [winAt]
theorem winAt_x8 (t : Fin cfg0.N) : (winAt m c t).x8 = iblk m c 8 t := by simp only [winAt]
theorem winAt_x9 (t : Fin cfg0.N) : (winAt m c t).x9 = iblk m c 9 t := by simp only [winAt]
theorem winAt_x10 (t : Fin cfg0.N) : (winAt m c t).x10 = iblk m c 10 t := by simp only [winAt]
theorem winAt_x11 (t : Fin cfg0.N) : (winAt m c t).x11 = iblk m c 11 t := by simp only [winAt]
theorem Arrs.has_b (H : Arrs p wa ba g o st dy D) (R : Reads m c p wa ba g o st dy) (t : Fin cfg0.N) : (winAt m c t).b = 7#32 ↔ (7 - t.val % 8) = 0 := by
    show BitVec.ofNat 32 (grid0.coords t 1).val = 7#32 ↔ _
    rw [coords1]
    have : ∀ x : Fin 8, BitVec.ofNat 32 x.val = 7#32 ↔ 7 - x.val = 0 := by decide
    exact this ⟨t.val % 8, by omega⟩
theorem Arrs.has_x0 (H : Arrs p wa ba g o st dy D) (R : Reads m c p wa ba g o st dy) (t : Fin cfg0.N) : Is2 (winAt m c t).x0 fun i a => D.q (512 * (7 - t.val % 8) + i) (128 * (t.val / 8) + a) := by
  intro i a
  rw [winAt_x0]
  exact (blk0 m c R.p t i a (by have ht : t.val < 32 := t.isLt; omega) (by have ht : t.val < 32 := t.isLt; omega)).trans (H.hq ⟨512 * (7 - t.val % 8) + i.val, by omega⟩ ⟨128 * (t.val / 8) + a.val, by have ht : t.val < 32 := t.isLt; omega⟩)
theorem Arrs.has_x1 (H : Arrs p wa ba g o st dy D) (R : Reads m c p wa ba g o st dy) (t : Fin cfg0.N) : Is2 (winAt m c t).x1 fun i a => D.k (512 * (7 - t.val % 8) + i) (128 * (t.val / 8) + a) := by
  intro i a
  rw [winAt_x1]
  exact (blk1 m c R.p t i a (by have ht : t.val < 32 := t.isLt; omega) (by have ht : t.val < 32 := t.isLt; omega)).trans (H.hk ⟨512 * (7 - t.val % 8) + i.val, by omega⟩ ⟨128 * (t.val / 8) + a.val, by have ht : t.val < 32 := t.isLt; omega⟩)
theorem Arrs.has_x2 (H : Arrs p wa ba g o st dy D) (R : Reads m c p wa ba g o st dy) (t : Fin cfg0.N) : Is2 (winAt m c t).x2 fun i b => D.v (512 * (7 - t.val % 8) + i) (256 * (t.val / 8) + b) := by
  intro i a
  rw [winAt_x2]
  exact (blk2 m c R.p t i a (by have ht : t.val < 32 := t.isLt; omega) (by have ht : t.val < 32 := t.isLt; omega)).trans (H.hv ⟨512 * (7 - t.val % 8) + i.val, by omega⟩ ⟨256 * (t.val / 8) + a.val, by have ht : t.val < 32 := t.isLt; omega⟩)
theorem Arrs.has_x3 (H : Arrs p wa ba g o st dy D) (R : Reads m c p wa ba g o st dy) (t : Fin cfg0.N) : Is2 (winAt m c t).x3 fun i b => D.r (512 * (7 - t.val % 8) + i) (256 * (t.val / 8) + b) := by
  intro i a
  rw [winAt_x3]
  exact (blk3 m c R.p t i a (by have ht : t.val < 32 := t.isLt; omega) (by have ht : t.val < 32 := t.isLt; omega)).trans (H.hr ⟨512 * (7 - t.val % 8) + i.val, by omega⟩ ⟨256 * (t.val / 8) + a.val, by have ht : t.val < 32 := t.isLt; omega⟩)
theorem Arrs.has_x4 (H : Arrs p wa ba g o st dy D) (R : Reads m c p wa ba g o st dy) (t : Fin cfg0.N) : Is2 (winAt m c t).x4 fun i j => D.lrp (512 * (7 - t.val % 8) + i) j := by
  intro i a
  rw [winAt_x4]
  exact (blk4 m c R.p t i a (by have ht : t.val < 32 := t.isLt; omega) (by have ht : t.val < 32 := t.isLt; omega)).trans (H.hlr ⟨512 * (7 - t.val % 8) + i.val, by omega⟩ a)
theorem Arrs.has_x5 (H : Arrs p wa ba g o st dy D) (R : Reads m c p wa ba g o st dy) (t : Fin cfg0.N) : Is2 (winAt m c t).x5 fun j a => D.wap j (128 * (t.val / 8) + a) := by
  intro i a
  rw [winAt_x5]
  exact (blk5 m c R.wa t i a i.isLt (by have ht : t.val < 32 := t.isLt; omega)).trans (H.hwa i ⟨128 * (t.val / 8) + a.val, by have ht : t.val < 32 := t.isLt; omega⟩)
theorem Arrs.has_x6 (H : Arrs p wa ba g o st dy D) (R : Reads m c p wa ba g o st dy) (t : Fin cfg0.N) : ∀ a : Fin 128, (winAt m c t).x6 (ix2 0 a) = ((D.ba (128 * (t.val / 8) + a) : ℝ) : EReal) := by
  intro a
  rw [winAt_x6]
  exact (blk6 m c R.ba t 0 a (0 : Fin 1).isLt (by have ht : t.val < 32 := t.isLt; omega)).trans (H.hba ⟨128 * (t.val / 8) + a.val, by have ht : t.val < 32 := t.isLt; omega⟩)
theorem Arrs.has_x7 (H : Arrs p wa ba g o st dy D) (R : Reads m c p wa ba g o st dy) (t : Fin cfg0.N) : ∀ b : Fin 256, (winAt m c t).x7 (ix2 0 b) = ((D.g b : ℝ) : EReal) := by
  intro a
  rw [winAt_x7]
  exact (blk7 m c R.g t 0 a (0 : Fin 1).isLt a.isLt).trans (H.hg a)
theorem Arrs.has_x8 (H : Arrs p wa ba g o st dy D) (R : Reads m c p wa ba g o st dy) (t : Fin cfg0.N) : Is2 (winAt m c t).x8 fun i b => D.o (8 * (7 - t.val % 8) + i / 64) (t.val / 8) (i % 64) b := by
    intro i b
    rw [winAt_x8]
    have ht : t.val < 32 := t.isLt
    have := (blk8 m c R.o t i b (by have ht : t.val < 32 := t.isLt; omega) (by have ht : t.val < 32 := t.isLt; omega)).trans (H.ho ⟨512 * (7 - t.val % 8) + i.val, by omega⟩ ⟨t.val / 8, by omega⟩ b)
    rwa [show (512 * (7 - t.val % 8) + i.val) / 64 = 8 * (7 - t.val % 8) + i.val / 64 by omega, show (512 * (7 - t.val % 8) + i.val) % 64 = i.val % 64 by omega] at this
theorem Arrs.has_x9 (H : Arrs p wa ba g o st dy D) (R : Reads m c p wa ba g o st dy) (t : Fin cfg0.N) : ∀ (j : Fin 8) (b : Fin 256) (a : Fin 128), (winAt m c t).x9 (ix4 0 j b a) = ((D.S (8 * (7 - t.val % 8) + j + 1) (t.val / 8) b a : ℝ) : EReal) := by
  intro j b a
  rw [winAt_x9]
  exact (blk9 m c R.st t j b a (by have ht : t.val < 32 := t.isLt; omega) (by have ht : t.val < 32 := t.isLt; omega)).trans (H.hst ⟨t.val / 8, by have ht : t.val < 32 := t.isLt; omega⟩ ⟨8 * (7 - t.val % 8) + j.val, by omega⟩ b a)
theorem Arrs.has_x10 (H : Arrs p wa ba g o st dy D) (R : Reads m c p wa ba g o st dy) (t : Fin cfg0.N) : (7 - t.val % 8) ≠ 0 → ∀ (b : Fin 256) (a : Fin 128), (winAt m c t).x10 (ix4 0 0 b a) = ((D.S (8 * (7 - t.val % 8)) (t.val / 8) b a : ℝ) : EReal) := by
    intro hn b a
    rw [winAt_x10]
    have ht : t.val < 32 := t.isLt
    have := (blk10 m c R.st t b a (by have ht : t.val < 32 := t.isLt; omega) (by have ht : t.val < 32 := t.isLt; omega)).trans (H.hst ⟨t.val / 8, by omega⟩ ⟨8 * (7 - t.val % 8) - 1, by omega⟩ b a)
    rwa [show 8 * (7 - t.val % 8) - 1 + 1 = 8 * (7 - t.val % 8) by omega] at this
theorem Arrs.has_x11 (H : Arrs p wa ba g o st dy D) (R : Reads m c p wa ba g o st dy) (t : Fin cfg0.N) : Is2 (winAt m c t).x11 fun i b => D.dy (512 * (7 - t.val % 8) + i) (256 * (t.val / 8) + b) := by
  intro i a
  rw [winAt_x11]
  exact (blk11 m c R.dy t i a (by have ht : t.val < 32 := t.isLt; omega) (by have ht : t.val < 32 := t.isLt; omega)).trans (H.hdy ⟨512 * (7 - t.val % 8) + i.val, by omega⟩ ⟨256 * (t.val / 8) + a.val, by have ht : t.val < 32 := t.isLt; omega⟩)
/-- A grid point's window holds what its head and rows should. -/
theorem Arrs.has (H : Arrs p wa ba g o st dy D) (R : Reads m c p wa ba g o st dy) (t : Fin cfg0.N) : Has (winAt m c t) D (t.val / 8) (7 - t.val % 8) :=
  ⟨Arrs.has_b H R t, Arrs.has_x0 H R t, Arrs.has_x1 H R t, Arrs.has_x2 H R t, Arrs.has_x3 H R t, Arrs.has_x4 H R t, Arrs.has_x5 H R t, Arrs.has_x6 H R t, Arrs.has_x7 H R t, Arrs.has_x8 H R t, Arrs.has_x9 H R t, Arrs.has_x10 H R t, Arrs.has_x11 H R t⟩
end Cert.KernelIdeal.Chunk
end
-- ==== Proof.KOut.lean ====
module
public import proofs.«01_k».proof.Proof.KHas
@[expose] public section
/-! # The kernel's result arrays over the reals -/
set_option maxRecDepth 16384
noncomputable section
namespace Cert.KernelIdeal.Chunk
open Cert.KernelIdeal Cert.KernelIdeal.Gen Idealize.ShloMosaic Idealize.ShloMosaic.TcCoe Idealize.SL.Sem Cert.RealVal Cert.Spec

variable (m : (ℓ : Loc nD τ sig) → Buf (Elt Ideal) ℓ) (c : Dev nD)

/-- What the point before left in the carried state, zero where a head begins. -/
def carIn (t : Fin cfg0.N) : FVec Ideal S256x128 .f32 :=
  if t.val % 8 = 0 then k0_pay2 else (outsAt0 m c (t.val - 1) (Nat.lt_of_le_of_lt (Nat.sub_le _ _) t.isLt)).2.2.2.2.2.2
/-- What the point before left in the norm's gradient, zero at the first point. -/
def gnIn (t : Fin cfg0.N) : FVec Ideal S1x256 .f32 :=
  if t.val % 32 = 0 then k0_pay3 else (outsAt0 m c (t.val - 1) (Nat.lt_of_le_of_lt (Nat.sub_le _ _) t.isLt)).2.2.2.2.2.1

set_option maxHeartbeats 4000000 in
/-- What a grid point leaves. -/
theorem outs_eq (t : Fin cfg0.N) : outsAt0 m c t.val t.isLt =
    ((winAt m c t).out12, (winAt m c t).out13 (carIn m c t), (winAt m c t).out14 (carIn m c t), (winAt m c t).out15, (winAt m c t).out16 (carIn m c t),
      (winAt m c t).gnAt (gnIn m c t) 8, (winAt m c t).car (carIn m c t) 8) := by
  unfold carIn gnIn
  by_cases h0 : t.val % 8 = 0
  · by_cases h1 : t.val % 32 = 0
    · rw [outsAt0_A m c t h0 h1, if_pos h0, if_pos h1]
      simp only [out0_A_12_eq, out0_A_13_eq, out0_A_14_eq, out0_A_15_eq, out0_A_16_eq, out0_A_17_eq, sout0_A_0_eq]
      rfl
    · rw [outsAt0_C m c t h0 h1, if_pos h0, if_neg h1]
      simp only [out0_C_12_eq, out0_C_13_eq, out0_C_14_eq, out0_C_15_eq, out0_C_16_eq, out0_C_17_eq, sout0_C_0_eq]
      rfl
  · have h1 : ¬ t.val % 32 = 0 := by omega
    rw [outsAt0_B m c t h0 h1, if_neg h0, if_neg h1]
    simp only [out0_B_12_eq, out0_B_13_eq, out0_B_14_eq, out0_B_15_eq, out0_B_16_eq, out0_B_17_eq, sout0_B_0_eq]
    rfl

variable {m c} {p : Vec Ideal S4096x3200 .bf16} {wa : Vec Ideal S128x512 .bf16} {ba : Vec Ideal S1x512 .f32} {g : Vec Ideal S1x256 .f32}
    {o : Vec Ideal S4096x1024 .f32} {st : Vec Ideal S4x64x256x128 .f32} {dy : Vec Ideal S4096x1024 .bf16} {D : Inp}
    (H : Arrs p wa ba g o st dy D) (R : Reads m c p wa ba g o st dy)
include H R

/-- The state carried into a grid point. -/
theorem carIn_val : ∀ (n : Nat) (hn : n < cfg0.N), Is2 (carIn m c ⟨n, hn⟩) (D.car (8 * (n % 8)) (n / 8)) := by
  intro n
  induction n with
  | zero =>
    intro hn i a
    unfold carIn
    rw [if_pos (show (⟨0, hn⟩ : Fin cfg0.N).val % 8 = 0 from rfl)]
    unfold k0_pay2
    pointwise []
    exact c_zero
  | succ n ih =>
    intro hn i a
    unfold carIn
    by_cases h : (n + 1) % 8 = 0
    · rw [if_pos h, h]
      unfold k0_pay2
      pointwise []
      exact c_zero
    · rw [if_neg h]
      have hn' : n < cfg0.N := by omega
      have e := congrArg (fun x => x.2.2.2.2.2.2) (outs_eq m c ⟨n, hn'⟩)
      have i1 := ih hn'
      rw [show 8 * (n % 8) = 56 - 8 * (7 - n % 8) by omega] at i1
      have := (H.has R ⟨n, hn'⟩).vcar (by omega) i1 8 le_rfl i a
      rw [show 8 * ((n + 1) % 8) = 56 - 8 * (7 - n % 8) + 8 by omega, show (n + 1) / 8 = n / 8 by omega]
      exact (congrFun e _).trans this

theorem carIn_val' (t : Fin cfg0.N) : Is2 (carIn m c t) (D.car (56 - 8 * (7 - t.val % 8)) (t.val / 8)) := by
  have := carIn_val H R t.val t.isLt
  rwa [show 8 * (t.val % 8) = 56 - 8 * (7 - t.val % 8) by omega] at this

/-- What one grid point adds to the gradient of the norm's scale. -/
def gnPt (D : Inp) (n b : Nat) : ℝ := ∑ j : Fin 8, ∑ i : Fin 64, D.dg1 (8 * (7 - n % 8) + j) (n / 8) i b

theorem gnStep (t : Fin cfg0.N) (hG : ∀ b : Fin 256, gnIn m c t (ix2 0 b) = ((∑ s ∈ Finset.range t.val, gnPt D s b : ℝ) : EReal)) (b : Fin 256) :
    (outsAt0 m c t.val t.isLt).2.2.2.2.2.1 (ix2 0 b) = ((∑ s ∈ Finset.range (t.val + 1), gnPt D s b : ℝ) : EReal) := by
  have e := congrArg (fun x => x.2.2.2.2.2.1) (outs_eq m c t)
  have := (H.has R t).vgnAt (g := fun b => ∑ s ∈ Finset.range t.val, gnPt D s b) hG b
  rw [Finset.sum_range_succ]
  exact (congrFun e _).trans this

theorem gnIn_val : ∀ (n : Nat) (hn : n < cfg0.N) (b : Fin 256), gnIn m c ⟨n, hn⟩ (ix2 0 b) = ((∑ s ∈ Finset.range n, gnPt D s b : ℝ) : EReal) := by
  intro n
  induction n with
  | zero =>
    intro hn b
    unfold gnIn
    rw [if_pos (show (⟨0, hn⟩ : Fin cfg0.N).val % 32 = 0 from rfl)]
    unfold k0_pay3
    pointwise []
    exact c_zero
  | succ n ih =>
    intro hn b
    have hN : n + 1 < 32 := hn
    unfold gnIn
    rw [if_neg (show ¬ (n + 1) % 32 = 0 by omega)]
    have hn' : n < cfg0.N := by omega
    exact gnStep H R ⟨n, hn'⟩ (ih hn') b

omit H R in
theorem gn_total (D : Inp) (b : Nat) : ∑ s ∈ Finset.range 32, gnPt D s b = D.dgn b := by
  unfold gnPt Inp.dgn
  have h1 : ∀ f : Nat → Nat → ℝ, ∑ s ∈ Finset.range 32, ∑ j : Fin 8, f (8 * (7 - s % 8) + j) (s / 8) = ∑ h : Fin 4, ∑ n : Fin 64, f n h := by
    intro f
    simp only [Finset.sum_range_succ, Finset.sum_range_zero, Fin.sum_univ_succ, Fin.sum_univ_zero]
    norm_num [Fin.succ]
    ring
  exact h1 fun n h => ∑ i : Fin 64, D.dg1 n h i b

/-- A result array of 128 columns a head, by row and column. -/
def arr128 (f : Nat → Nat → Nat → Nat → ℝ) : S4096x512.Idx → EReal := fun x =>
  ((f ((x 0).val / 64) ((x 1).val / 128) ((x 0).val % 64) ((x 1).val % 128) : ℝ) : EReal)
/-- A result array of 256 columns a head, by row and column. -/
def arr256 (f : Nat → Nat → Nat → Nat → ℝ) : S4096x1024.Idx → EReal := fun x =>
  ((f ((x 0).val / 64) ((x 1).val / 256) ((x 0).val % 64) ((x 1).val % 256) : ℝ) : EReal)

omit H R in
theorem ix12 : ∀ t : Fin cfg0.N, win0_12.index t = ![7 - t.val % 8, t.val / 8] := by decide +kernel
omit H R in
theorem emb12 (t : Fin cfg0.N) (i : Fin 512) (a : Fin 128) (hr : 512 * (7 - t.val % 8) + i.val < 4096) (hc : 128 * (t.val / 8) + a.val < 512) :
    ((win0_12.blk t).view.emb (ix2 i a) : S4096x512.Idx) = ix2 (⟨512 * (7 - t.val % 8) + i.val, hr⟩ : Fin 4096) (⟨128 * (t.val / 8) + a.val, hc⟩ : Fin 512) := by
  have ht : t.val < 32 := t.isLt
  blk_ext [ix12]
omit H R in
theorem ix13 : ∀ t : Fin cfg0.N, win0_13.index t = ![7 - t.val % 8, t.val / 8] := by decide +kernel
omit H R in
theorem emb13 (t : Fin cfg0.N) (i : Fin 512) (a : Fin 128) (hr : 512 * (7 - t.val % 8) + i.val < 4096) (hc : 128 * (t.val / 8) + a.val < 512) :
    ((win0_13.blk t).view.emb (ix2 i a) : S4096x512.Idx) = ix2 (⟨512 * (7 - t.val % 8) + i.val, hr⟩ : Fin 4096) (⟨128 * (t.val / 8) + a.val, hc⟩ : Fin 512) := by
  have ht : t.val < 32 := t.isLt
  blk_ext [ix13]
omit H R in
theorem ix14 : ∀ t : Fin cfg0.N, win0_14.index t = ![7 - t.val % 8, t.val / 8] := by decide +kernel
omit H R in
theorem emb14 (t : Fin cfg0.N) (i : Fin 512) (a : Fin 256) (hr : 512 * (7 - t.val % 8) + i.val < 4096) (hc : 256 * (t.val / 8) + a.val < 1024) :
    ((win0_14.blk t).view.emb (ix2 i a) : S4096x1024.Idx) = ix2 (⟨512 * (7 - t.val % 8) + i.val, hr⟩ : Fin 4096) (⟨256 * (t.val / 8) + a.val, hc⟩ : Fin 1024) := by
  have ht : t.val < 32 := t.isLt
  blk_ext [ix14]
omit H R in
theorem ix15 : ∀ t : Fin cfg0.N, win0_15.index t = ![7 - t.val % 8, t.val / 8] := by decide +kernel
omit H R in
theorem emb15 (t : Fin cfg0.N) (i : Fin 512) (a : Fin 256) (hr : 512 * (7 - t.val % 8) + i.val < 4096) (hc : 256 * (t.val / 8) + a.val < 1024) :
    ((win0_15.blk t).view.emb (ix2 i a) : S4096x1024.Idx) = ix2 (⟨512 * (7 - t.val % 8) + i.val, hr⟩ : Fin 4096) (⟨256 * (t.val / 8) + a.val, hc⟩ : Fin 1024) := by
  have ht : t.val < 32 := t.isLt
  blk_ext [ix15]
omit H R in
theorem ix16 : ∀ t : Fin cfg0.N, win0_16.index t = ![7 - t.val % 8, t.val / 8] := by decide +kernel
omit H R in
theorem emb16 (t : Fin cfg0.N) (i : Fin 512) (a : Fin 128) (hr : 512 * (7 - t.val % 8) + i.val < 4096) (hc : 128 * (t.val / 8) + a.val < 512) :
    ((win0_16.blk t).view.emb (ix2 i a) : S4096x512.Idx) = ix2 (⟨512 * (7 - t.val % 8) + i.val, hr⟩ : Fin 4096) (⟨128 * (t.val / 8) + a.val, hc⟩ : Fin 512) := by
  have ht : t.val < 32 := t.isLt
  blk_ext [ix16]
/-- Result 0 of the kernel. -/
theorem final12 : (dats m 0 c).arrAt 12 cfg0.N = arr128 D.dq := by
  refine (dats m 0 c).arrAt_eq_of_covers 12 _ (by decide +kernel) fun t hf y => ?_
  have ht : t.val < 32 := t.isLt
  obtain ⟨i, a, rfl⟩ : ∃ (i : Fin 512) (a : Fin 128), y = ix2 i a := ⟨y 0, y 1, eq_ix2 y⟩
  have e1 : arr128 D.dq ((win0_12.blk t).view.emb (ix2 i a)) = ((D.dq (8 * (7 - t.val % 8) + i / 64) (t.val / 8) (i % 64) a : ℝ) : EReal) := by
    rw [emb12 t i a (by omega) (by omega)]
    show ((D.dq ((512 * (7 - t.val % 8) + i.val) / 64) ((128 * (t.val / 8) + a.val) / 128) ((512 * (7 - t.val % 8) + i.val) % 64) ((128 * (t.val / 8) + a.val) % 128) : ℝ) : EReal) = _
    rw [show (512 * (7 - t.val % 8) + i.val) / 64 = 8 * (7 - t.val % 8) + i.val / 64 by omega, show (128 * (t.val / 8) + a.val) / 128 = t.val / 8 by omega,
      show (512 * (7 - t.val % 8) + i.val) % 64 = i.val % 64 by omega, show (128 * (t.val / 8) + a.val) % 128 = a.val by omega]
  refine Eq.trans ?_ e1.symm
  show (dats m 0 c).after 12 t (ix2 i a) = _
  rw [after0_12, outs_eq]
  exact (H.has R t).v12 i a
/-- Result 1 of the kernel. -/
theorem final13 : (dats m 0 c).arrAt 13 cfg0.N = arr128 D.dk := by
  refine (dats m 0 c).arrAt_eq_of_covers 13 _ (by decide +kernel) fun t hf y => ?_
  have ht : t.val < 32 := t.isLt
  obtain ⟨i, a, rfl⟩ : ∃ (i : Fin 512) (a : Fin 128), y = ix2 i a := ⟨y 0, y 1, eq_ix2 y⟩
  have e1 : arr128 D.dk ((win0_13.blk t).view.emb (ix2 i a)) = ((D.dk (8 * (7 - t.val % 8) + i / 64) (t.val / 8) (i % 64) a : ℝ) : EReal) := by
    rw [emb13 t i a (by omega) (by omega)]
    show ((D.dk ((512 * (7 - t.val % 8) + i.val) / 64) ((128 * (t.val / 8) + a.val) / 128) ((512 * (7 - t.val % 8) + i.val) % 64) ((128 * (t.val / 8) + a.val) % 128) : ℝ) : EReal) = _
    rw [show (512 * (7 - t.val % 8) + i.val) / 64 = 8 * (7 - t.val % 8) + i.val / 64 by omega, show (128 * (t.val / 8) + a.val) / 128 = t.val / 8 by omega,
      show (512 * (7 - t.val % 8) + i.val) % 64 = i.val % 64 by omega, show (128 * (t.val / 8) + a.val) % 128 = a.val by omega]
  refine Eq.trans ?_ e1.symm
  show (dats m 0 c).after 13 t (ix2 i a) = _
  rw [after0_13, outs_eq]
  exact (H.has R t).v13 (by omega) (carIn_val' H R t) i a
/-- Result 2 of the kernel. -/
theorem final14 : (dats m 0 c).arrAt 14 cfg0.N = arr256 D.dv := by
  refine (dats m 0 c).arrAt_eq_of_covers 14 _ (by decide +kernel) fun t hf y => ?_
  have ht : t.val < 32 := t.isLt
  obtain ⟨i, a, rfl⟩ : ∃ (i : Fin 512) (a : Fin 256), y = ix2 i a := ⟨y 0, y 1, eq_ix2 y⟩
  have e1 : arr256 D.dv ((win0_14.blk t).view.emb (ix2 i a)) = ((D.dv (8 * (7 - t.val % 8) + i / 64) (t.val / 8) (i % 64) a : ℝ) : EReal) := by
    rw [emb14 t i a (by omega) (by omega)]
    show ((D.dv ((512 * (7 - t.val % 8) + i.val) / 64) ((256 * (t.val / 8) + a.val) / 256) ((512 * (7 - t.val % 8) + i.val) % 64) ((256 * (t.val / 8) + a.val) % 256) : ℝ) : EReal) = _
    rw [show (512 * (7 - t.val % 8) + i.val) / 64 = 8 * (7 - t.val % 8) + i.val / 64 by omega, show (256 * (t.val / 8) + a.val) / 256 = t.val / 8 by omega,
      show (512 * (7 - t.val % 8) + i.val) % 64 = i.val % 64 by omega, show (256 * (t.val / 8) + a.val) % 256 = a.val by omega]
  refine Eq.trans ?_ e1.symm
  show (dats m 0 c).after 14 t (ix2 i a) = _
  rw [after0_14, outs_eq]
  exact (H.has R t).v14 (by omega) (carIn_val' H R t) i a
/-- Result 3 of the kernel. -/
theorem final15 : (dats m 0 c).arrAt 15 cfg0.N = arr256 D.dr := by
  refine (dats m 0 c).arrAt_eq_of_covers 15 _ (by decide +kernel) fun t hf y => ?_
  have ht : t.val < 32 := t.isLt
  obtain ⟨i, a, rfl⟩ : ∃ (i : Fin 512) (a : Fin 256), y = ix2 i a := ⟨y 0, y 1, eq_ix2 y⟩
  have e1 : arr256 D.dr ((win0_15.blk t).view.emb (ix2 i a)) = ((D.dr (8 * (7 - t.val % 8) + i / 64) (t.val / 8) (i % 64) a : ℝ) : EReal) := by
    rw [emb15 t i a (by omega) (by omega)]
    show ((D.dr ((512 * (7 - t.val % 8) + i.val) / 64) ((256 * (t.val / 8) + a.val) / 256) ((512 * (7 - t.val % 8) + i.val) % 64) ((256 * (t.val / 8) + a.val) % 256) : ℝ) : EReal) = _
    rw [show (512 * (7 - t.val % 8) + i.val) / 64 = 8 * (7 - t.val % 8) + i.val / 64 by omega, show (256 * (t.val / 8) + a.val) / 256 = t.val / 8 by omega,
      show (512 * (7 - t.val % 8) + i.val) % 64 = i.val % 64 by omega, show (256 * (t.val / 8) + a.val) % 256 = a.val by omega]
  refine Eq.trans ?_ e1.symm
  show (dats m 0 c).after 15 t (ix2 i a) = _
  rw [after0_15, outs_eq]
  exact (H.has R t).v15 i a
/-- Result 4 of the kernel. -/
theorem final16 : (dats m 0 c).arrAt 16 cfg0.N = arr128 D.dgate := by
  refine (dats m 0 c).arrAt_eq_of_covers 16 _ (by decide +kernel) fun t hf y => ?_
  have ht : t.val < 32 := t.isLt
  obtain ⟨i, a, rfl⟩ : ∃ (i : Fin 512) (a : Fin 128), y = ix2 i a := ⟨y 0, y 1, eq_ix2 y⟩
  have e1 : arr128 D.dgate ((win0_16.blk t).view.emb (ix2 i a)) = ((D.dgate (8 * (7 - t.val % 8) + i / 64) (t.val / 8) (i % 64) a : ℝ) : EReal) := by
    rw [emb16 t i a (by omega) (by omega)]
    show ((D.dgate ((512 * (7 - t.val % 8) + i.val) / 64) ((128 * (t.val / 8) + a.val) / 128) ((512 * (7 - t.val % 8) + i.val) % 64) ((128 * (t.val / 8) + a.val) % 128) : ℝ) : EReal) = _
    rw [show (512 * (7 - t.val % 8) + i.val) / 64 = 8 * (7 - t.val % 8) + i.val / 64 by omega, show (128 * (t.val / 8) + a.val) / 128 = t.val / 8 by omega,
      show (512 * (7 - t.val % 8) + i.val) % 64 = i.val % 64 by omega, show (128 * (t.val / 8) + a.val) % 128 = a.val by omega]
  refine Eq.trans ?_ e1.symm
  show (dats m 0 c).after 16 t (ix2 i a) = _
  rw [after0_16, outs_eq]
  exact (H.has R t).v16 (by omega) (carIn_val' H R t) i a
/-- The last result of the kernel. -/
theorem final17 : (dats m 0 c).arrAt 17 cfg0.N = fun x : S1x256.Idx => ((D.dgn (x 1).val : ℝ) : EReal) := by
  funext x
  refine ((dats m 0 c).arrAt_emb_eq_after_last 17 ⟨31, by decide⟩ (by decide +kernel) x).trans ?_
  obtain ⟨i, b, rfl⟩ : ∃ (i : Fin 1) (b : Fin 256), x = ix2 i b := ⟨x 0, x 1, eq_ix2 x⟩
  obtain rfl : i = 0 := Subsingleton.elim _ _
  show (dats m 0 c).after 17 ⟨31, by decide⟩ (ix2 0 b) = ((D.dgn b.val : ℝ) : EReal)
  rw [after0_17]
  exact (gnStep H R ⟨31, by decide⟩ (gnIn_val H R 31 (by decide)) b).trans (congrArg (fun r : ℝ => (r : EReal)) (gn_total D b))
end Cert.KernelIdeal.Chunk
end
-- ==== Proof.WinSum.lean ====
module
public import proofs.«01_k».proof.Proof.RealVal
@[expose] public section
/-! # Running sums

A windowed sum whose window covers one axis is the sum of a prefix along that axis, or of a suffix, as it is padded before
or behind. -/
noncomputable section
namespace Cert.WinSum
open Idealize.ShloMosaic Cert.RealVal

theorem foldl_sum {α : Type} (g : α → EReal) : ∀ (l : List α) (r : EReal), l.foldl (fun r n => r + g n) r = r + (l.map g).sum
  | [], r => by simp
  | a :: l, r => by rw [List.foldl_cons, foldl_sum g l, List.map_cons, List.sum_cons, add_assoc]

/-- A windowed sum from zero is the sum over the window's positions. -/
theorem window_sum {s t : Shape} (window strides lo hi : Fin s.rank → Nat) (h : s.ReduceWindows window strides lo hi t)
    (x : s.Idx → EReal) (j : t.Idx) :
    Ideal.hostReduceWindowAdd window strides lo hi h x 0 j = ∑ p : (⟨s.rank, window⟩ : Shape).Idx,
      if hin : ∀ a, lo a ≤ (j (a.cast h.1.symm)).val * strides a + (p a).val ∧ (j (a.cast h.1.symm)).val * strides a + (p a).val - lo a < s.size a
        then x (fun a => ⟨(j (a.cast h.1.symm)).val * strides a + (p a).val - lo a, (hin a).2⟩) else 0 := by
  unfold Ideal.hostReduceWindowAdd Host.reduceWindow
  refine (foldl_sum _ _ _).trans ?_
  rw [zero_add, ← List.ofFn_eq_map, List.sum_ofFn]
  refine Fintype.sum_equiv (⟨s.rank, window⟩ : Shape).rowMajor.symm _ _ fun n => ?_
  congr

/-- A prefix read through a window of 64 padded 63 before. -/
theorem prefix_sum (f : Nat → ℝ) (j : Fin 64) : (∑ i : Fin 64, if 63 ≤ j.val + i.val then f (j.val + i.val - 63) else 0)
    = ∑ i : Fin 64, if i.val ≤ j.val then f i.val else 0 := by
  have hj := j.isLt
  rw [Fin.sum_univ_eq_sum_range (fun i => if 63 ≤ j.val + i then f (j.val + i - 63) else 0) 64,
    Fin.sum_univ_eq_sum_range (fun i => if i ≤ j.val then f i else 0) 64, ← Finset.sum_filter, ← Finset.sum_filter]
  refine Finset.sum_nbij' (fun i => j.val + i - 63) (fun i => i + 63 - j.val) ?_ ?_ ?_ ?_ ?_
  · intro i hi; simp only [Finset.mem_filter, Finset.mem_range] at hi ⊢; omega
  · intro i hi; simp only [Finset.mem_filter, Finset.mem_range] at hi ⊢; omega
  · intro i hi; simp only [Finset.mem_filter, Finset.mem_range] at hi ⊢; omega
  · intro i hi; simp only [Finset.mem_filter, Finset.mem_range] at hi ⊢; omega
  · intro i hi; rfl

/-- The positions of a window along the second of four axes. -/
theorem sum_w4 (F : (⟨4, ![1, 64, 1, 1]⟩ : Shape).Idx → EReal) : (∑ p, F p) = ∑ i : Fin 64, F (ix4 (0 : Fin 1) i (0 : Fin 1) (0 : Fin 1)) := by
  symm
  refine Fintype.sum_bijective (fun i : Fin 64 => (ix4 (0 : Fin 1) i (0 : Fin 1) (0 : Fin 1) : (⟨4, ![1, 64, 1, 1]⟩ : Shape).Idx)) ⟨fun i j hij => congrFun hij 1, fun p => ⟨p 1, ?_⟩⟩ _ _ (fun _ => rfl)
  funext a
  match a with
  | ⟨0, _⟩ => exact Subsingleton.elim (α := Fin 1) _ _
  | ⟨1, _⟩ => rfl
  | ⟨2, _⟩ => exact Subsingleton.elim (α := Fin 1) _ _
  | ⟨3, _⟩ => exact Subsingleton.elim (α := Fin 1) _ _

/-- The positions of a window along the first of three axes. -/
theorem sum_w3 (F : (⟨3, ![64, 1, 1]⟩ : Shape).Idx → EReal) : (∑ p, F p) = ∑ i : Fin 64, F (ix3 i (0 : Fin 1) (0 : Fin 1)) := by
  symm
  refine Fintype.sum_bijective (fun i : Fin 64 => (ix3 i (0 : Fin 1) (0 : Fin 1) : (⟨3, ![64, 1, 1]⟩ : Shape).Idx)) ⟨fun i j hij => congrFun hij 0, fun p => ⟨p 0, ?_⟩⟩ _ _ (fun _ => rfl)
  funext a
  match a with
  | ⟨0, _⟩ => rfl
  | ⟨1, _⟩ => exact Subsingleton.elim (α := Fin 1) _ _
  | ⟨2, _⟩ => exact Subsingleton.elim (α := Fin 1) _ _

/-- The running sum along the second of four axes. -/
theorem cum4 {A B C : Nat} (h : (⟨4, ![A, 64, B, C]⟩ : Shape).ReduceWindows ![1, 64, 1, 1] ![1, 1, 1, 1] ![0, 63, 0, 0] ![0, 0, 0, 0] (⟨4, ![A, 64, B, C]⟩ : Shape))
    (x : (⟨4, ![A, 64, B, C]⟩ : Shape).Idx → EReal) (f : Nat → Nat → Nat → Nat → ℝ) (hx : Is4 x f) (n : Fin A) (i : Fin 64) (b : Fin B) (c : Fin C) :
    Ideal.hostReduceWindowAdd (s := ⟨4, ![A, 64, B, C]⟩) ![1, 64, 1, 1] ![1, 1, 1, 1] ![0, 63, 0, 0] ![0, 0, 0, 0] h x 0 (ix4 n i b c)
      = ((∑ i' : Fin 64, if i'.val ≤ i.val then f n i' b c else 0 : ℝ) : EReal) := by
  refine (window_sum (s := ⟨4, ![A, 64, B, C]⟩) _ _ _ _ h x _).trans ((sum_w4 _).trans ?_)
  rw [← prefix_sum (fun i' => f n i' b c) i, ← sum_coe]
  refine Finset.sum_congr rfl fun p _ => ?_
  have hi := i.isLt
  have hp := p.isLt
  split
  · next hin =>
    have h1 : 63 ≤ i.val * 1 + p.val ∧ i.val * 1 + p.val - 63 < 64 := hin 1
    rw [if_pos (by omega)]
    refine (congrArg x (funext fun a => Fin.ext ?_)).trans (hx n ⟨i.val + p.val - 63, by omega⟩ b c)
    match a with
    | ⟨0, _⟩ => show n.val * 1 + 0 - 0 = n.val; omega
    | ⟨1, _⟩ => show i.val * 1 + p.val - 63 = i.val + p.val - 63; omega
    | ⟨2, _⟩ => show b.val * 1 + 0 - 0 = b.val; omega
    | ⟨3, _⟩ => show c.val * 1 + 0 - 0 = c.val; omega
  · next hin =>
    rw [if_neg fun hle => hin fun a => ?_]
    · rfl
    have hn := n.isLt; have hb := b.isLt; have hc := c.isLt
    match a with
    | ⟨0, _⟩ => show 0 ≤ n.val * 1 + 0 ∧ n.val * 1 + 0 - 0 < A; omega
    | ⟨1, _⟩ => show 63 ≤ i.val * 1 + p.val ∧ i.val * 1 + p.val - 63 < 64; omega
    | ⟨2, _⟩ => show 0 ≤ b.val * 1 + 0 ∧ b.val * 1 + 0 - 0 < B; omega
    | ⟨3, _⟩ => show 0 ≤ c.val * 1 + 0 ∧ c.val * 1 + 0 - 0 < C; omega

/-- The running sum along the first of three axes. -/
theorem cum3 {B C : Nat} (h : (⟨3, ![64, B, C]⟩ : Shape).ReduceWindows ![64, 1, 1] ![1, 1, 1] ![63, 0, 0] ![0, 0, 0] (⟨3, ![64, B, C]⟩ : Shape))
    (x : (⟨3, ![64, B, C]⟩ : Shape).Idx → EReal) (f : Nat → Nat → Nat → ℝ) (hx : Is3 x f) (i : Fin 64) (b : Fin B) (c : Fin C) :
    Ideal.hostReduceWindowAdd (s := ⟨3, ![64, B, C]⟩) ![64, 1, 1] ![1, 1, 1] ![63, 0, 0] ![0, 0, 0] h x 0 (ix3 i b c)
      = ((∑ i' : Fin 64, if i'.val ≤ i.val then f i' b c else 0 : ℝ) : EReal) := by
  refine (window_sum (s := ⟨3, ![64, B, C]⟩) _ _ _ _ h x _).trans ((sum_w3 _).trans ?_)
  rw [← prefix_sum (fun i' => f i' b c) i, ← sum_coe]
  refine Finset.sum_congr rfl fun p _ => ?_
  have hi := i.isLt
  have hp := p.isLt
  split
  · next hin =>
    have h1 : 63 ≤ i.val * 1 + p.val ∧ i.val * 1 + p.val - 63 < 64 := hin 0
    rw [if_pos (by omega)]
    refine (congrArg x (funext fun a => Fin.ext ?_)).trans (hx ⟨i.val + p.val - 63, by omega⟩ b c)
    match a with
    | ⟨0, _⟩ => show i.val * 1 + p.val - 63 = i.val + p.val - 63; omega
    | ⟨1, _⟩ => show b.val * 1 + 0 - 0 = b.val; omega
    | ⟨2, _⟩ => show c.val * 1 + 0 - 0 = c.val; omega
  · next hin =>
    rw [if_neg fun hle => hin fun a => ?_]
    · rfl
    have hb := b.isLt; have hc := c.isLt
    match a with
    | ⟨0, _⟩ => show 63 ≤ i.val * 1 + p.val ∧ i.val * 1 + p.val - 63 < 64; omega
    | ⟨1, _⟩ => show 0 ≤ b.val * 1 + 0 ∧ b.val * 1 + 0 - 0 < B; omega
    | ⟨2, _⟩ => show 0 ≤ c.val * 1 + 0 ∧ c.val * 1 + 0 - 0 < C; omega
/-- A suffix read through a window of 64 padded 63 behind. -/
theorem suffix_sum (f : Nat → ℝ) (j : Fin 64) : (∑ i : Fin 64, if j.val + i.val < 64 then f (j.val + i.val) else 0)
    = ∑ i : Fin 64, if j.val ≤ i.val then f i.val else 0 := by
  have hj := j.isLt
  rw [Fin.sum_univ_eq_sum_range (fun i => if j.val + i < 64 then f (j.val + i) else 0) 64,
    Fin.sum_univ_eq_sum_range (fun i => if j.val ≤ i then f i else 0) 64, ← Finset.sum_filter, ← Finset.sum_filter]
  refine Finset.sum_nbij' (fun i => j.val + i) (fun i => i - j.val) ?_ ?_ ?_ ?_ ?_
  · intro i hi; simp only [Finset.mem_filter, Finset.mem_range] at hi ⊢; omega
  · intro i hi; simp only [Finset.mem_filter, Finset.mem_range] at hi ⊢; omega
  · intro i hi; simp only [Finset.mem_filter, Finset.mem_range] at hi ⊢; omega
  · intro i hi; simp only [Finset.mem_filter, Finset.mem_range] at hi ⊢; omega
  · intro i hi; rfl

/-- The sum from a row on, along the second of four axes. -/
theorem suf4 {A B C : Nat} (h : (⟨4, ![A, 64, B, C]⟩ : Shape).ReduceWindows ![1, 64, 1, 1] ![1, 1, 1, 1] ![0, 0, 0, 0] ![0, 63, 0, 0] (⟨4, ![A, 64, B, C]⟩ : Shape))
    (x : (⟨4, ![A, 64, B, C]⟩ : Shape).Idx → EReal) (f : Nat → Nat → Nat → Nat → ℝ) (hx : Is4 x f) (n : Fin A) (i : Fin 64) (b : Fin B) (c : Fin C) :
    Ideal.hostReduceWindowAdd (s := ⟨4, ![A, 64, B, C]⟩) ![1, 64, 1, 1] ![1, 1, 1, 1] ![0, 0, 0, 0] ![0, 63, 0, 0] h x 0 (ix4 n i b c)
      = ((∑ i' : Fin 64, if i.val ≤ i'.val then f n i' b c else 0 : ℝ) : EReal) := by
  refine (window_sum (s := ⟨4, ![A, 64, B, C]⟩) _ _ _ _ h x _).trans ((sum_w4 _).trans ?_)
  rw [← suffix_sum (fun i' => f n i' b c) i, ← sum_coe]
  refine Finset.sum_congr rfl fun p _ => ?_
  have hi := i.isLt
  have hp := p.isLt
  split
  · next hin =>
    have h1 : 0 ≤ i.val * 1 + p.val ∧ i.val * 1 + p.val - 0 < 64 := hin 1
    rw [if_pos (by omega)]
    refine (congrArg x (funext fun a => Fin.ext ?_)).trans (hx n ⟨i.val + p.val, by omega⟩ b c)
    match a with
    | ⟨0, _⟩ => show n.val * 1 + 0 - 0 = n.val; omega
    | ⟨1, _⟩ => show i.val * 1 + p.val - 0 = i.val + p.val; omega
    | ⟨2, _⟩ => show b.val * 1 + 0 - 0 = b.val; omega
    | ⟨3, _⟩ => show c.val * 1 + 0 - 0 = c.val; omega
  · next hin =>
    rw [if_neg fun hle => hin fun a => ?_]
    · rfl
    have hn := n.isLt; have hb := b.isLt; have hc := c.isLt
    match a with
    | ⟨0, _⟩ => show 0 ≤ n.val * 1 + 0 ∧ n.val * 1 + 0 - 0 < A; omega
    | ⟨1, _⟩ => show 0 ≤ i.val * 1 + p.val ∧ i.val * 1 + p.val - 0 < 64; omega
    | ⟨2, _⟩ => show 0 ≤ b.val * 1 + 0 ∧ b.val * 1 + 0 - 0 < B; omega
    | ⟨3, _⟩ => show 0 ≤ c.val * 1 + 0 ∧ c.val * 1 + 0 - 0 < C; omega

/-- The running sum along the second of four axes, as the host states it. -/
theorem cum4' {A B C : Nat} {u : Shape} (h : (⟨4, ![A, 64, B, C]⟩ : Shape).ReduceWindows ![1, 64, 1, 1] ![1, 1, 1, 1] ![0, 63, 0, 0] ![0, 0, 0, 0] (⟨4, ![A, 64, B, C]⟩ : Shape))
    (hu : 0 < u.numel) (x : Vec Ideal ⟨4, ![A, 64, B, C]⟩ .f32) (init : Vec Ideal u .f32) {f : Nat → Nat → Nat → Nat → ℝ} (hx : Is4 x f)
    (h0 : init (Shape.Idx.first hu) = (0 : EReal)) (n : Fin A) (i : Fin 64) (b : Fin B) (c : Fin C) :
    Host.reduceWindowAdd (F := Ideal) (φ := .f32) (s := ⟨4, ![A, 64, B, C]⟩) ![1, 64, 1, 1] ![1, 1, 1, 1] ![0, 63, 0, 0] ![0, 0, 0, 0] x init h hu (ix4 n i b c)
      = ((∑ i' : Fin 64, if i'.val ≤ i.val then f n i' b c else 0 : ℝ) : EReal) := by
  have := cum4 h x f hx n i b c
  rw [← h0] at this
  exact this
/-- The sum from a row on, along the second of four axes, as the host states it. -/
theorem suf4' {A B C : Nat} {u : Shape} (h : (⟨4, ![A, 64, B, C]⟩ : Shape).ReduceWindows ![1, 64, 1, 1] ![1, 1, 1, 1] ![0, 0, 0, 0] ![0, 63, 0, 0] (⟨4, ![A, 64, B, C]⟩ : Shape))
    (hu : 0 < u.numel) (x : Vec Ideal ⟨4, ![A, 64, B, C]⟩ .f32) (init : Vec Ideal u .f32) {f : Nat → Nat → Nat → Nat → ℝ} (hx : Is4 x f)
    (h0 : init (Shape.Idx.first hu) = (0 : EReal)) (n : Fin A) (i : Fin 64) (b : Fin B) (c : Fin C) :
    Host.reduceWindowAdd (F := Ideal) (φ := .f32) (s := ⟨4, ![A, 64, B, C]⟩) ![1, 64, 1, 1] ![1, 1, 1, 1] ![0, 0, 0, 0] ![0, 63, 0, 0] x init h hu (ix4 n i b c)
      = ((∑ i' : Fin 64, if i.val ≤ i'.val then f n i' b c else 0 : ℝ) : EReal) := by
  have := suf4 h x f hx n i b c
  rw [← h0] at this
  exact this
/-- The running sum along the first of three axes, as the host states it. -/
theorem cum3' {B C : Nat} {u : Shape} (h : (⟨3, ![64, B, C]⟩ : Shape).ReduceWindows ![64, 1, 1] ![1, 1, 1] ![63, 0, 0] ![0, 0, 0] (⟨3, ![64, B, C]⟩ : Shape))
    (hu : 0 < u.numel) (x : Vec Ideal ⟨3, ![64, B, C]⟩ .f32) (init : Vec Ideal u .f32) {f : Nat → Nat → Nat → ℝ} (hx : Is3 x f)
    (h0 : init (Shape.Idx.first hu) = (0 : EReal)) (i : Fin 64) (b : Fin B) (c : Fin C) :
    Host.reduceWindowAdd (F := Ideal) (φ := .f32) (s := ⟨3, ![64, B, C]⟩) ![64, 1, 1] ![1, 1, 1] ![63, 0, 0] ![0, 0, 0] x init h hu (ix3 i b c)
      = ((∑ i' : Fin 64, if i'.val ≤ i.val then f i' b c else 0 : ℝ) : EReal) := by
  have := cum3 h x f hx i b c
  rw [← h0] at this
  exact this
end Cert.WinSum
end
-- ==== Proof.KHost.lean ====
module
public import proofs.«01_k».proof.Proof.Spec
public import proofs.«01_k».proof.Proof.Gen.KernelIdeal.Value
public import Idealize.ShloMosaic.Lib.StableHlo.ReadAt
public import proofs.«01_k».proof.Proof.WinSum
public import Idealize.ShloMosaic.Lib.Pointwise
@[expose] public section
set_option maxRecDepth 16384
noncomputable section
namespace Cert.KernelIdeal.Host
open Cert.KernelIdeal Cert.KernelIdeal.Gen Idealize.ShloMosaic Idealize.ShloMosaic.TcCoe Idealize.SL.Sem Cert.RealVal Cert.Spec

/-- The nine arguments hold the nine inputs. -/
structure Args (x0 x1 : Vec Ideal S4096x512 .bf16) (x2 x3 : Vec Ideal S4096x1024 .bf16) (x4 : Vec Ideal S4096x16 .bf16) (x5 : Vec Ideal S16x512 .f32)
    (x6 : Vec Ideal S1x512 .f32) (x7 : Vec Ideal S1x256 .f32) (x8 : Vec Ideal S4096x1024 .bf16) (D : Inp) : Prop where
  q : Is2 x0 D.q
  k : Is2 x1 D.k
  v : Is2 x2 D.v
  r : Is2 x3 D.r
  lr : Is2 x4 D.lr
  wa : Is2 x5 D.wa
  ba : ∀ a : Fin 512, x6 (ix2 0 a) = ((D.ba a : ℝ) : EReal)
  g : ∀ b : Fin 256, x7 (ix2 0 b) = ((D.g b : ℝ) : EReal)
  dy : Is2 x8 D.dy

/-- The gate's argument, as the product of 16 terms it is. -/
theorem Y_eq (D : Inp) (n h i a : Nat) : D.Y n h i a = (∑ j : Fin 16, D.lr (64 * n + i) j * D.wa j (128 * h + a)) + D.ba (128 * h + a) := by
  unfold Inp.Y yR Inp.lrp Inp.wap
  congr 1
  rw [Fin.sum_univ_eq_sum_range (fun j => (if j < 16 then D.lr (64 * n + i) j else 0) * (if j < 16 then D.wa j (128 * h + a) else 0)) 128,
    Fin.sum_univ_eq_sum_range (fun j => D.lr (64 * n + i) j * D.wa j (128 * h + a)) 16,
    ← Finset.sum_subset (Finset.range_subset_range.mpr (show 16 ≤ 128 by decide))]
  · exact Finset.sum_congr rfl fun j hj => by simp only [Finset.mem_range] at hj; rw [if_pos hj, if_pos hj]
  · intro j _ hj
    rw [Finset.mem_range] at hj
    rw [if_neg hj, zero_mul]
/-- The logarithm of the gate's sigmoid, as the host computes it. -/
theorem logsig (y : ℝ) : (-(if -((y : ℝ) : EReal) ≠ -((y : ℝ) : EReal) then -((y : ℝ) : EReal)
    else max (-((y : ℝ) : EReal)) 0 + Ideal.log1p (Ideal.exp (-FloatOps.absf (F := Ideal) (φ := .f32) (-((y : ℝ) : EReal))))))
      = ((min y 0 - Real.log (1 + Real.exp (0 - |y|)) : ℝ) : EReal) := by
  rw [if_neg (fun h => h rfl)]
  unfold Ideal.log1p
  rw [c_zero, c_one, ← EReal.coe_neg, abs_coe, ← EReal.coe_neg, exp_coe, ← EReal.coe_add, log_coe (by positivity), max_coe, ← EReal.coe_add, ← EReal.coe_neg]
  congr 1
  rw [abs_neg, zero_sub, neg_add, ← min_neg_neg, neg_neg, neg_zero, sub_eq_add_neg]

variable (L : Valuation τ sig (Elt Ideal))

theorem ofBits_zero : Ideal.ofBits .f32 0x00000000#32 = ((0 : ℝ) : EReal) := by
  simp [Ideal.ofBits, Ideal.ieee, -EReal.coe_mul]
/-- The arguments' buffers hold the inputs. -/
abbrev LArgs (D : Inp) : Prop := Args (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) D
/-- The buffers once the gate's logarithm and the chunked operands are there. -/
def X1 : Valuation τ sig (Elt Ideal) := StableHlo.after (hostOps0 ++ hostOps0_1 ++ hostOps0_2) L
set_option maxHeartbeats 1000000 in
theorem X1_v10 {D : Inp} (H : LArgs L D) :
    Is4 (X1 L (Proc.devRef .tc main_v10) : Vec Ideal S64x64x4x128 .f32) (fun n i h a => laR (D.Y n h i a)) := by
  intro n i h a
  unfold X1
  simp only [hostOps0, hostOps0_1, hostOps0_2, List.cons_append, List.nil_append]
  after_reads_at
  have h4 : ∀ (r : Fin 4096) j, L (Proc.devRef .tc main_arg4) (ix2 r j) = _ := H.lr
  have h5 : ∀ (r : Fin 16) j, L (Proc.devRef .tc main_arg5) (ix2 r j) = _ := H.wa
  have h6 : ∀ j : Fin 512, L (Proc.devRef .tc main_arg6) (ix2 0 j) = _ := H.ba
  simp only [h4, h5, h6, ← EReal.coe_mul, sum_coe, ← EReal.coe_add]
  rw [logsig, c_16, div_coe _ (by norm_num), Y_eq]
  simp only [laR, Nat.mul_comm]
set_option maxHeartbeats 1000000 in
theorem X1_v13 {D : Inp} (H : LArgs L D) :
    Is4 (X1 L (Proc.devRef .tc main_v13) : Vec Ideal S64x64x4x128 .f32) (fun n i h a => D.Q n h i a * sc) := by
  intro n i h a
  unfold X1
  simp only [hostOps0, hostOps0_1, hostOps0_2, List.cons_append, List.nil_append]
  after_reads_at
  have h0 : ∀ (r : Fin 4096) j, L (Proc.devRef .tc main_arg0) (ix2 r j) = _ := H.q
  simp only [h0, c_sc, ← EReal.coe_mul, Inp.Q, Nat.mul_comm]
set_option maxHeartbeats 1000000 in
theorem X1_v14 {D : Inp} (H : LArgs L D) :
    Is4 (X1 L (Proc.devRef .tc main_v14) : Vec Ideal S64x64x4x128 .f32) (fun n i h a => D.K n h i a) := by
  intro n i h a
  unfold X1
  simp only [hostOps0, hostOps0_1, hostOps0_2, List.cons_append, List.nil_append]
  after_reads_at
  have h0 : ∀ (r : Fin 4096) j, L (Proc.devRef .tc main_arg1) (ix2 r j) = _ := H.k
  simp only [h0, Inp.K, Nat.mul_comm]
set_option maxHeartbeats 1000000 in
theorem X1_v15 {D : Inp} (H : LArgs L D) :
    Is4 (X1 L (Proc.devRef .tc main_v15) : Vec Ideal S64x64x4x256 .f32) (fun n i h b => D.V n h i b) := by
  intro n i h a
  unfold X1
  simp only [hostOps0, hostOps0_1, hostOps0_2, List.cons_append, List.nil_append]
  after_reads_at
  have h0 : ∀ (r : Fin 4096) j, L (Proc.devRef .tc main_arg2) (ix2 r j) = _ := H.v
  simp only [h0, Inp.V, Nat.mul_comm]
/-- The buffers once the logarithms are summed along each chunk. -/
def X2 : Valuation τ sig (Elt Ideal) := StableHlo.after hostOps0_3 (X1 L)
set_option maxHeartbeats 1000000 in
theorem X2_v16 {D : Inp} (H : LArgs L D) :
    Is4 (X2 L (Proc.devRef .tc main_v16) : Vec Ideal S64x64x4x128 .f32) (fun n i h a => D.cum n h i a) := by
  intro n i h a
  have h10 := X1_v10 L H
  unfold X2
  generalize X1 L = M at *
  simp only [hostOps0_3]
  after_reads_simp
  simp -implicitDefEqProofs only [StableHlo.TRef.toBuf, StableHlo.TRef.ofBuf, cast_cast, cast_eq]
  exact (WinSum.cum4' _ _ _ _ h10 (by pointwise []) n i h a)
/-- The buffers once each chunk's contribution is there. -/
def X3 : Valuation τ sig (Elt Ideal) := StableHlo.after hostOps0_4 (X2 L)
theorem X2_v13 {D : Inp} (H : LArgs L D) : Is4 (X2 L (Proc.devRef .tc main_v13) : Vec Ideal S64x64x4x128 .f32) (fun n i h a => D.Q n h i a * sc) := by
  have h10 := X1_v13 L H
  unfold X2
  generalize X1 L = M at *
  simp only [hostOps0_3]
  after_reads_simp
  exact h10
theorem X2_v14 {D : Inp} (H : LArgs L D) : Is4 (X2 L (Proc.devRef .tc main_v14) : Vec Ideal S64x64x4x128 .f32) (fun n i h a => D.K n h i a) := by
  have h10 := X1_v14 L H
  unfold X2
  generalize X1 L = M at *
  simp only [hostOps0_3]
  after_reads_simp
  exact h10
theorem X2_v15 {D : Inp} (H : LArgs L D) : Is4 (X2 L (Proc.devRef .tc main_v15) : Vec Ideal S64x64x4x256 .f32) (fun n i h b => D.V n h i b) := by
  have h10 := X1_v15 L H
  unfold X2
  generalize X1 L = M at *
  simp only [hostOps0_3]
  after_reads_simp
  exact h10
set_option maxHeartbeats 1000000 in
theorem X3_v22 {D : Inp} (H : LArgs L D) : Is4 (X3 L (Proc.devRef .tc main_v22) : Vec Ideal S64x4x128x256 .f32) (fun n h a b => D.u n h b a) := by
  intro n h a b
  have h14 : ∀ n i h a, _ = _ := X2_v14 L H
  have h15 : ∀ n i h a, _ = _ := X2_v15 L H
  have h16 : ∀ n i h a, _ = _ := X2_v16 L H
  unfold X3
  generalize X2 L = M at *
  simp only [hostOps0_4]
  after_reads_at
  simp only [h14, h15, h16, ← EReal.coe_sub, exp_coe, ← EReal.coe_mul, sum_coe, Inp.u, Inp.w]
  rfl
set_option maxHeartbeats 1000000 in
theorem X3_v23 {D : Inp} (H : LArgs L D) : Is3 (X3 L (Proc.devRef .tc main_v23) : Vec Ideal S64x4x128 .f32) (fun n h a => D.cum n h 63 a) := by
  intro n h a
  have h16 : ∀ n i h a, _ = _ := X2_v16 L H
  unfold X3
  generalize X2 L = M at *
  simp only [hostOps0_4]
  after_reads_at
  simp only [h16]
  rfl
/-- The buffers once the chunks' logarithms are summed along the sequence. -/
def X4 : Valuation τ sig (Elt Ideal) := StableHlo.after hostOps0_5 (X3 L)
/-- The logarithm of the decay from the sequence's start to a chunk's end. -/
def tot (D : Inp) (n h a : Nat) : ℝ := ∑ m : Fin 64, if m.val ≤ n then D.cum m h 63 a else 0
set_option maxHeartbeats 1000000 in
theorem X4_v24 {D : Inp} (H : LArgs L D) : Is3 (X4 L (Proc.devRef .tc main_v24) : Vec Ideal S64x4x128 .f32) (fun n h a => tot D n h a) := by
  intro n h a
  have h10 := X3_v23 L H
  unfold X4
  generalize X3 L = M at *
  simp only [hostOps0_5]
  after_reads_simp
  simp -implicitDefEqProofs only [StableHlo.TRef.toBuf, StableHlo.TRef.ofBuf, cast_cast, cast_eq]
  exact (WinSum.cum3' _ _ _ _ h10 (by pointwise []) n h a)
/-- The buffers once the decays between chunks are there. -/
def X5 : Valuation τ sig (Elt Ideal) := StableHlo.after (hostOps0_6 ++ hostOps0_7 ++ hostOps0_8 ++ hostOps0_9) (X4 L)
set_option maxHeartbeats 1000000 in
theorem X5_v35 {D : Inp} (H : LArgs L D) : Is4 (X5 L (Proc.devRef .tc main_v35) : Vec Ideal S64x64x4x128 .f32)
    (fun n m h a => if m ≤ n then Real.exp (tot D n h a - tot D m h a) else 0) := by
  intro n m h a
  have h24 : ∀ n h a, _ = _ := X4_v24 L H
  unfold X5
  generalize X4 L = M at *
  simp only [hostOps0_6, hostOps0_7, hostOps0_8, hostOps0_9, List.cons_append, List.nil_append]
  after_reads_at
  simp only [h24, sle_word, select_ite, ← EReal.coe_sub, exp_coe, c_zero, ite_coe]
  by_cases hmn : m.val ≤ n.val
  · simp only [if_pos hmn, exp_coe]
  · simp only [if_neg hmn]
    exact ofBits_zero
end Cert.KernelIdeal.Host
end
-- ==== Proof.KHost2.lean ====
module
public import proofs.«01_k».proof.Proof.KHost
public import Idealize.ShloMosaic.Lib.Routing.OpsSet
public import Idealize.ShloMosaic.Lib.Routing.OpsPair
@[expose] public section
set_option maxRecDepth 16384
noncomputable section
namespace Cert.KernelIdeal.Host
open Cert.KernelIdeal Cert.KernelIdeal.Gen Idealize.ShloMosaic Idealize.ShloMosaic.TcCoe Idealize.SL.Sem Cert.RealVal Cert.Spec
variable (L : Valuation τ sig (Elt Ideal))
/-- A sum over the prefix of 64 terms. -/
theorem pre_range (f : Nat → ℝ) {n : Nat} (hn : n < 64) : (∑ m : Fin 64, if m.val ≤ n then f m else 0) = ∑ m ∈ Finset.range (n + 1), f m := by
  rw [Fin.sum_univ_eq_sum_range (fun m => if m ≤ n then f m else 0) 64, ← Finset.sum_filter]
  refine Finset.sum_congr (Finset.ext fun m => ?_) fun _ _ => rfl
  simp only [Finset.mem_filter, Finset.mem_range]; omega
theorem tot_succ (D : Inp) {n : Nat} (hn : n + 1 < 64) (h a : Nat) : tot D (n + 1) h a = tot D n h a + D.cum (n + 1) h 63 a := by
  unfold tot
  rw [pre_range (fun m => D.cum m h 63 a) hn, pre_range (fun m => D.cum m h 63 a) (show n < 64 by omega), Finset.sum_range_succ]
/-- The recurrence's state is the sum of the chunks' contributions, each decayed to the state's chunk. -/
theorem S_closed (D : Inp) (h b a : Nat) : ∀ n : Nat, n < 64 →
    (∑ m : Fin 64, D.u m h b a * (if m.val ≤ n then Real.exp (tot D n h a - tot D m h a) else 0)) = D.S (n + 1) h b a := by
  have e : ∀ n, n < 64 → (∑ m : Fin 64, D.u m h b a * (if m.val ≤ n then Real.exp (tot D n h a - tot D m h a) else 0))
      = ∑ m ∈ Finset.range (n + 1), D.u m h b a * Real.exp (tot D n h a - tot D m h a) := fun n hn => by
    rw [← pre_range (fun m => D.u m h b a * Real.exp (tot D n h a - tot D m h a)) hn]
    exact Finset.sum_congr rfl fun m _ => by split <;> simp
  intro n hn
  rw [e n hn]
  induction n with
  | zero => simp [Inp.S]
  | succ n ih =>
    rw [Finset.sum_range_succ, sub_self, Real.exp_zero, mul_one, Inp.S, ← ih (by omega), Finset.mul_sum]
    congr 1
    refine Finset.sum_congr rfl fun m _ => ?_
    rw [tot_succ D hn, add_sub_right_comm, Real.exp_add, Inp.dec]
    ring
theorem X5_v22 {D : Inp} (H : LArgs L D) : Is4 (X5 L (Proc.devRef .tc main_v22) : Vec Ideal S64x4x128x256 .f32) (fun n h a b => D.u n h b a) := by
  have h10 := X3_v22 L H
  unfold X5 X4
  generalize X3 L = M at *
  simp only [hostOps0_5, hostOps0_6, hostOps0_7, hostOps0_8, hostOps0_9, List.cons_append, List.nil_append]
  after_reads_simp
  exact h10
theorem X5_v13 {D : Inp} (H : LArgs L D) : Is4 (X5 L (Proc.devRef .tc main_v13) : Vec Ideal S64x64x4x128 .f32) (fun n i h a => D.Q n h i a * sc) := by
  have h10 := X2_v13 L H
  unfold X5 X4 X3
  generalize X2 L = M at *
  simp only [hostOps0_4, hostOps0_5, hostOps0_6, hostOps0_7, hostOps0_8, hostOps0_9, List.cons_append, List.nil_append]
  after_reads_simp
  exact h10
theorem ofBits_zero16 : Ideal.ofBits .bf16 0x0000#16 = ((0 : ℝ) : EReal) := by
  simp [Ideal.ofBits, Ideal.ieee, -EReal.coe_mul]
/-- The arguments stay. -/
theorem X5_args : X5 L (Proc.devRef .tc main_arg0) = L (Proc.devRef .tc main_arg0) ∧ X5 L (Proc.devRef .tc main_arg1) = L (Proc.devRef .tc main_arg1) ∧ X5 L (Proc.devRef .tc main_arg2) = L (Proc.devRef .tc main_arg2)
    ∧ X5 L (Proc.devRef .tc main_arg3) = L (Proc.devRef .tc main_arg3) ∧ X5 L (Proc.devRef .tc main_arg4) = L (Proc.devRef .tc main_arg4) ∧ X5 L (Proc.devRef .tc main_arg5) = L (Proc.devRef .tc main_arg5) := by
  unfold X5 X4 X3 X2 X1
  simp only [hostOps0, hostOps0_1, hostOps0_2, hostOps0_3, hostOps0_4, hostOps0_5, hostOps0_6, hostOps0_7, hostOps0_8, hostOps0_9, List.cons_append, List.nil_append]
  refine ⟨?_, ?_, ?_, ?_, ?_, ?_⟩ <;> after_reads_simp
/-- The buffers before the kernel's call. -/
def X6 : Valuation τ sig (Elt Ideal) := StableHlo.after hostOps0_10 (X5 L)
set_option maxHeartbeats 1000000 in
theorem X6_v41 {D : Inp} (H : LArgs L D) : Is4 (X6 L (Proc.devRef .tc main_v41) : Vec Ideal S4x64x256x128 .f32) (fun h n b a => D.S (n + 1) h b a) := by
  intro h n b a
  have h22 : ∀ n i h a, _ = _ := X5_v22 L H
  have h35 : ∀ n i h a, _ = _ := X5_v35 L H
  unfold X6
  generalize X5 L = M at *
  simp only [hostOps0_10]
  after_reads_at
  simp only [h22, h35, ← EReal.coe_mul, sum_coe]
  rw [S_closed D h b a n n.isLt]
set_option maxHeartbeats 1000000 in
theorem X6_v40 {D : Inp} (H : LArgs L D) (r : Fin 4096) (h : Fin 4) (b : Fin 256) : (X6 L (Proc.devRef .tc main_v40) : Vec Ideal S4096x1024 .f32) (ix2 r ⟨256 * h.val + b.val, by omega⟩) = ((D.o (r / 64) h (r % 64) b : ℝ) : EReal) := by
  have h22 : ∀ n i h a, _ = _ := X5_v22 L H
  have h35 : ∀ n i h a, _ = _ := X5_v35 L H
  have h13 : ∀ n i h a, _ = _ := X5_v13 L H
  unfold X6
  generalize X5 L = M at *
  simp only [hostOps0_10]
  after_reads_at
  simp only [h22, h35, h13, ← EReal.coe_mul, sum_coe, Inp.o]
  congr 1
  refine Finset.sum_congr rfl fun a _ => ?_
  rw [S_closed D h b a (r / 64) (by omega)]
  ring
set_option maxHeartbeats 1000000 in
/-- The joined input: six arrays side by side. -/
theorem X6_v43 : (X6 L (Proc.devRef .tc main_v43) : Vec Ideal S4096x3200 .bf16)
    = concatenate S4096x3200 1 [⟨S4096x512, (L (Proc.devRef .tc main_arg0) : Vec Ideal S4096x512 .bf16)⟩, ⟨S4096x512, (L (Proc.devRef .tc main_arg1) : Vec Ideal S4096x512 .bf16)⟩,
        ⟨S4096x1024, (L (Proc.devRef .tc main_arg2) : Vec Ideal S4096x1024 .bf16)⟩, ⟨S4096x1024, (L (Proc.devRef .tc main_arg3) : Vec Ideal S4096x1024 .bf16)⟩,
        ⟨S4096x16, (L (Proc.devRef .tc main_arg4) : Vec Ideal S4096x16 .bf16)⟩, ⟨S4096x112, broadcastInDim S4096x112 ![] bcast_S_S4096x112 (constant (F := Ideal) S_ .bf16 0x0000#16)⟩]
        concatenates_S4096x512_S4096x512_S4096x1024_S4096x1024_S4096x16_S4096x112_S4096x3200_d1 := by
  unfold X6
  have h0 := X5_args L
  generalize X5 L = M at *
  rw [← h0.1, ← h0.2.1, ← h0.2.2.1, ← h0.2.2.2.1, ← h0.2.2.2.2.1]
  simp only [hostOps0_10]
  after_reads_simp
  rfl
/-- An update of the weight's copy lands where its own coordinates say. -/
theorem lands (idx : IVec S1 32) (hidx : ∀ i, idx i = 0#32) (k : S16x512.Idx) (r : Fin 128) (c : Fin 512) :
    scatter_S128x512_S1_S16x512_01_n_0_0.resultIdx? k idx = some (ix2 r c) ↔ (k 0).val = r.val ∧ (k 1).val = c.val := by
  have s0 : scatter_S128x512_S1_S16x512_01_n_0_0.start k idx 0 = 0 := by
    unfold ScatterDims.start; rw [dif_pos (by decide), hidx]; rfl
  have s1 : scatter_S128x512_S1_S16x512_01_n_0_0.start k idx 1 = 0 := by
    unfold ScatterDims.start; rw [dif_neg (by decide)]
  have w0 : scatter_S128x512_S1_S16x512_01_n_0_0.window k 0 = (k 0).val := by
    unfold ScatterDims.window; rw [dif_pos (by decide)]; rfl
  have w1 : scatter_S128x512_S1_S16x512_01_n_0_0.window k 1 = (k 1).val := by
    unfold ScatterDims.window; rw [dif_pos (by decide)]; rfl
  refine (Routing.resultIdx?_ix2 (R := 128) (C := 512) scatter_S128x512_S1_S16x512_01_n_0_0 k idx r c).trans ?_
  rw [s0, s1, w0, w1]
  omega
set_option maxHeartbeats 1000000 in
theorem X6_v47 {D : Inp} (H : LArgs L D) (r : Fin 128) (c : Fin 512) : (X6 L (Proc.devRef .tc main_v47) : Vec Ideal S128x512 .bf16) (ix2 r c) = ((D.wap r c : ℝ) : EReal) := by
  unfold X6
  have h0 := X5_args L
  generalize X5 L = M at *
  simp only [hostOps0_10]
  after_reads_simp
  rw [h0.2.2.2.2.2]
  by_cases hr : r.val < 16
  · refine (Routing.scatter_set_hit _ _ _ _ (ix2 r c) ((D.wap r c : ℝ) : EReal) (fun k hk => ?_) (ix2 (⟨r, hr⟩ : Fin 16) c) ((lands _ (fun _ => rfl) _ r c).mpr ⟨rfl, rfl⟩))
    obtain ⟨e0, e1⟩ := (lands _ (fun _ => rfl) k r c).mp hk
    have : k = ix2 (⟨r, hr⟩ : Fin 16) c := by
      funext a
      match a with
      | ⟨0, _⟩ => exact Fin.ext e0
      | ⟨1, _⟩ => exact Fin.ext e1
    rw [this]
    refine (H.wa _ _).trans ?_
    unfold Inp.wap
    rw [if_pos hr]
  · refine (Routing.scatter_set_miss _ _ _ _ (ix2 r c) (fun k hk => ?_)).trans ?_
    · obtain ⟨e0, e1⟩ := (lands _ (fun _ => rfl) k r c).mp hk
      have := (k 0).isLt
      exact hr (e0 ▸ this)
    · unfold Inp.wap
      rw [if_neg hr]
      exact ofBits_zero16

/-- The first array's columns in the joined input. -/
theorem cat0 (x0 x1 : Vec Ideal S4096x512 .bf16) (x2 x3 : Vec Ideal S4096x1024 .bf16) (x4 : Vec Ideal S4096x16 .bf16) (x5 : Vec Ideal S4096x112 .bf16) (r : Fin 4096) (a : Fin 512) :
    concatenate S4096x3200 1 [⟨S4096x512, x0⟩, ⟨S4096x512, x1⟩, ⟨S4096x1024, x2⟩, ⟨S4096x1024, x3⟩, ⟨S4096x16, x4⟩, ⟨S4096x112, x5⟩]
        concatenates_S4096x512_S4096x512_S4096x1024_S4096x1024_S4096x16_S4096x112_S4096x3200_d1 (ix2 r ⟨0 + a.val, by omega⟩) = x0 (ix2 r a) := by
  pointwise
/-- The second array's columns in the joined input. -/
theorem cat1 (x0 x1 : Vec Ideal S4096x512 .bf16) (x2 x3 : Vec Ideal S4096x1024 .bf16) (x4 : Vec Ideal S4096x16 .bf16) (x5 : Vec Ideal S4096x112 .bf16) (r : Fin 4096) (a : Fin 512) :
    concatenate S4096x3200 1 [⟨S4096x512, x0⟩, ⟨S4096x512, x1⟩, ⟨S4096x1024, x2⟩, ⟨S4096x1024, x3⟩, ⟨S4096x16, x4⟩, ⟨S4096x112, x5⟩]
        concatenates_S4096x512_S4096x512_S4096x1024_S4096x1024_S4096x16_S4096x112_S4096x3200_d1 (ix2 r ⟨512 + a.val, by omega⟩) = x1 (ix2 r a) := by
  pointwise
/-- The third array's columns in the joined input. -/
theorem cat2 (x0 x1 : Vec Ideal S4096x512 .bf16) (x2 x3 : Vec Ideal S4096x1024 .bf16) (x4 : Vec Ideal S4096x16 .bf16) (x5 : Vec Ideal S4096x112 .bf16) (r : Fin 4096) (a : Fin 1024) :
    concatenate S4096x3200 1 [⟨S4096x512, x0⟩, ⟨S4096x512, x1⟩, ⟨S4096x1024, x2⟩, ⟨S4096x1024, x3⟩, ⟨S4096x16, x4⟩, ⟨S4096x112, x5⟩]
        concatenates_S4096x512_S4096x512_S4096x1024_S4096x1024_S4096x16_S4096x112_S4096x3200_d1 (ix2 r ⟨1024 + a.val, by omega⟩) = x2 (ix2 r a) := by
  pointwise
  rw [dif_neg (by omega), dif_neg (by omega), dif_pos (by omega)]
  exact congrArg (fun j => x2 (ix2 r j)) (Fin.ext (by show _ = a.val; simp only []; omega))
/-- The fourth array's columns in the joined input. -/
theorem cat3 (x0 x1 : Vec Ideal S4096x512 .bf16) (x2 x3 : Vec Ideal S4096x1024 .bf16) (x4 : Vec Ideal S4096x16 .bf16) (x5 : Vec Ideal S4096x112 .bf16) (r : Fin 4096) (a : Fin 1024) :
    concatenate S4096x3200 1 [⟨S4096x512, x0⟩, ⟨S4096x512, x1⟩, ⟨S4096x1024, x2⟩, ⟨S4096x1024, x3⟩, ⟨S4096x16, x4⟩, ⟨S4096x112, x5⟩]
        concatenates_S4096x512_S4096x512_S4096x1024_S4096x1024_S4096x16_S4096x112_S4096x3200_d1 (ix2 r ⟨2048 + a.val, by omega⟩) = x3 (ix2 r a) := by
  pointwise
  rw [dif_neg (by omega), dif_neg (by omega), dif_neg (by omega), dif_pos (by omega)]
  exact congrArg (fun j => x3 (ix2 r j)) (Fin.ext (by show _ = a.val; simp only []; omega))
/-- The fifth array's columns in the joined input, and the zeros after them. -/
theorem cat4 (x0 x1 : Vec Ideal S4096x512 .bf16) (x2 x3 : Vec Ideal S4096x1024 .bf16) (x4 : Vec Ideal S4096x16 .bf16) (x5 : Vec Ideal S4096x112 .bf16) (r : Fin 4096) (a : Fin 128) :
    concatenate S4096x3200 1 [⟨S4096x512, x0⟩, ⟨S4096x512, x1⟩, ⟨S4096x1024, x2⟩, ⟨S4096x1024, x3⟩, ⟨S4096x16, x4⟩, ⟨S4096x112, x5⟩]
        concatenates_S4096x512_S4096x512_S4096x1024_S4096x1024_S4096x16_S4096x112_S4096x3200_d1 (ix2 r ⟨3072 + a.val, by omega⟩) = if h : a.val < 16 then x4 (ix2 r ⟨a, h⟩) else x5 (ix2 r ⟨a.val - 16, by omega⟩) := by
  pointwise
  rw [dif_neg (by omega), dif_neg (by omega), dif_neg (by omega), dif_neg (by omega)]
  by_cases h : a.val < 16
  · rw [dif_pos h, dif_pos (by omega)]
    exact congrArg (fun j => x4 (ix2 r j)) (Fin.ext (by show _ = a.val; simp only []; omega))
  · rw [dif_neg h, dif_neg (by omega)]
    exact congrArg (fun j => x5 (ix2 r j)) (Fin.ext (by show _ = a.val - 16; simp only []; omega))
end Cert.KernelIdeal.Host
end
-- ==== Proof.KTop.lean ====
module
public import proofs.«01_k».proof.Proof.KOut
public import proofs.«01_k».proof.Proof.KHost2
@[expose] public section
/-! # The kernel's results, from its nine arguments -/
set_option maxRecDepth 16384
noncomputable section
namespace Cert.KernelIdeal.Host
open Cert.KernelIdeal Cert.KernelIdeal.Gen Idealize.ShloMosaic Idealize.ShloMosaic.TcCoe Idealize.SL.Sem Cert.RealVal Cert.Spec
open StableHlo (launchContents)

/-- Eleven stretches one after the other, in the stages they were read in. -/
theorem after_stages (L : Valuation τ sig (Elt Ideal)) (a0 a1 a2 a3 a4 a5 a6 a7 a8 a9 a10 : List (HloOp τ sig (Elt Ideal))) :
    StableHlo.after (List.flatten [a0, a1, a2, a3, a4, a5, a6, a7, a8, a9, a10]) L
      = StableHlo.after a10 (StableHlo.after (a6 ++ a7 ++ a8 ++ a9) (StableHlo.after a5 (StableHlo.after a4 (StableHlo.after a3 (StableHlo.after (a0 ++ a1 ++ a2) L))))) := by
  simp only [List.flatten_cons, List.flatten_nil, List.append_nil, StableHlo.after_append]
variable (m : (ℓ : Loc nD τ sig) → Buf (Elt Ideal) ℓ) (c : Dev nD)
/-- The buffers the kernel's call finds are the last stage's. -/
theorem V_eq (b : Ref sig .tc) : V m c b = X6 (launchContents m c) (Proc.devRef .tc b) := by
  unfold X6 X5 X4 X3 X2 X1
  exact congrFun (after_stages (launchContents m c) hostOps0 hostOps0_1 hostOps0_2 hostOps0_3 hostOps0_4 hostOps0_5 hostOps0_6 hostOps0_7 hostOps0_8 hostOps0_9 hostOps0_10) (Proc.devRef .tc b)
/-- The arrays the kernel's call takes. -/
theorem reads : Chunk.Reads m c (X6 (launchContents m c) (Proc.devRef .tc main_v43)) (X6 (launchContents m c) (Proc.devRef .tc main_v47))
    (launchContents m c (Proc.devRef .tc main_arg6)) (launchContents m c (Proc.devRef .tc main_arg7))
    (X6 (launchContents m c) (Proc.devRef .tc main_v40)) (X6 (launchContents m c) (Proc.devRef .tc main_v41))
    (launchContents m c (Proc.devRef .tc main_arg8)) where
  p := V_eq m c _
  wa := V_eq m c _
  ba := V_main_arg6 m c
  g := V_main_arg7 m c
  o := V_eq m c _
  st := V_eq m c _
  dy := V_main_arg8 m c
/-- The first 16 columns are the low-rank input, the others zero. -/
theorem lrp_val {D : Inp} (x4 : Vec Ideal S4096x16 .bf16) (h4 : Is2 x4 D.lr) (r : Fin 4096) (a : Fin 128) :
    (if h : a.val < 16 then x4 (ix2 r ⟨a, h⟩) else broadcastInDim S4096x112 ![] bcast_S_S4096x112 (constant (F := Ideal) S_ .bf16 0x0000#16) (ix2 r ⟨a.val - 16, by omega⟩))
      = ((D.lrp r a : ℝ) : EReal) := by
  unfold Inp.lrp
  by_cases h : a.val < 16
  · rw [dif_pos h, if_pos h]; exact h4 r ⟨a, h⟩
  · rw [dif_neg h, if_neg h]; exact ofBits_zero16
variable {m c}
/-- What those arrays hold. -/
theorem arrs {D : Inp} (H : LArgs (launchContents m c) D) :
    Chunk.Arrs (X6 (launchContents m c) (Proc.devRef .tc main_v43)) (X6 (launchContents m c) (Proc.devRef .tc main_v47))
    (launchContents m c (Proc.devRef .tc main_arg6)) (launchContents m c (Proc.devRef .tc main_arg7))
    (X6 (launchContents m c) (Proc.devRef .tc main_v40)) (X6 (launchContents m c) (Proc.devRef .tc main_v41))
    (launchContents m c (Proc.devRef .tc main_arg8)) D where
  hq := fun r a => by
    rw [X6_v43 (launchContents m c)]
    rw [show (⟨a.val, by omega⟩ : Fin 3200) = ⟨0 + a.val, by omega⟩ from Fin.ext (Nat.zero_add _).symm]
    exact (cat0 _ _ _ _ _ _ r a).trans (H.q r a)
  hk := fun r a => by rw [X6_v43 (launchContents m c)]; exact (cat1 _ _ _ _ _ _ r a).trans (H.k r a)
  hv := fun r a => by rw [X6_v43 (launchContents m c)]; exact (cat2 _ _ _ _ _ _ r a).trans (H.v r a)
  hr := fun r a => by rw [X6_v43 (launchContents m c)]; exact (cat3 _ _ _ _ _ _ r a).trans (H.r r a)
  hlr := fun r a => by rw [X6_v43 (launchContents m c)]; exact (cat4 _ _ _ _ _ _ r a).trans (lrp_val _ H.lr r a)
  hwa := X6_v47 _ H
  hba := H.ba
  hg := H.g
  ho := X6_v40 _ H
  hst := X6_v41 _ H
  hdy := H.dy
end Cert.KernelIdeal.Host
end
-- ==== Proof.RefPre.lean ====
module
public import proofs.«01_k».proof.Proof.RefRun
public import proofs.«01_k».proof.Proof.KHost
@[expose] public section
/-! # The reference before its first loop -/
set_option maxRecDepth 16384
noncomputable section
namespace Cert.ReferenceIdeal.Val
open Cert.ReferenceIdeal Cert.ReferenceIdeal.Gen Cert.ReferenceIdeal.Run Idealize.ShloMosaic Idealize.ShloMosaic.TcCoe Idealize.SL.Sem Cert.RealVal Cert.Spec
open Cert.KernelIdeal.Host (Args Y_eq logsig ofBits_zero)
open StableHlo (afterL_cons afterL_nil after_append)
theorem ofBits_inf : Ideal.ofBits .f32 0x7F800000#32 = ⊤ := by
  simp [Ideal.ofBits, Ideal.ieee]
/-- The reference's logarithm of `1 + exp (-y)`, as it computes it. -/
theorem softplus (y : ℝ) : (if -((y : ℝ) : EReal) ≠ -((y : ℝ) : EReal) then -((y : ℝ) : EReal)
    else max (-((y : ℝ) : EReal)) 0 + Ideal.log1p (Ideal.exp (-FloatOps.absf (F := Ideal) (φ := .f32) (-((y : ℝ) : EReal)))))
      = ((-(min y 0 - Real.log (1 + Real.exp (0 - |y|))) : ℝ) : EReal) := by
  rw [EReal.coe_neg, ← logsig, neg_neg]
/-- `exp (-y) / (1 + exp (-y))`, as the reference computes it. -/
theorem exp_softplus (y : ℝ) : Real.exp (-y - -(min y 0 - Real.log (1 + Real.exp (0 - |y|)))) = sg (-y) := by
  have hp : 0 < 1 + Real.exp (0 - |y|) := by positivity
  rw [show -y - -(min y 0 - Real.log (1 + Real.exp (0 - |y|))) = (min y 0 - y) - Real.log (1 + Real.exp (0 - |y|)) from by ring,
    Real.exp_sub, Real.exp_log hp]
  unfold sg
  rw [neg_neg]
  rcases le_total 0 y with h | h
  · rw [min_eq_right h, abs_of_nonneg h, zero_sub, Real.exp_neg]
    have := Real.exp_pos y
    field_simp
    ring
  · rw [min_eq_left h, abs_of_nonpos h, sub_self, Real.exp_zero, one_div, zero_sub, neg_neg]
variable (L : Valuation τ sig (Elt Ideal))
/-- The arguments' buffers hold the inputs. -/
abbrev LArgs (D : Inp) : Prop := Args (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) D
/-- The buffers once the gate's logarithm and the chunked operands are there. -/
def P1 : Valuation τ sig (Elt Ideal) := StableHlo.after (pre0 ++ pre1 ++ pre2) L
/-- The buffers once the logarithms are summed along each chunk. -/
def P2 : Valuation τ sig (Elt Ideal) := StableHlo.after pre3 (P1 L)
/-- The buffers before the first loop. -/
def P3 : Valuation τ sig (Elt Ideal) := StableHlo.after pre4 (P2 L)
theorem P3_eq : StableHlo.afterL preI L = P3 L := by
  unfold P3 P2 P1
  simp only [afterL_cons, afterL_nil, after_append]
variable {L} {D : Inp}
set_option maxHeartbeats 1000000 in
theorem P1_v18 (H : LArgs L D) : Is4 (P1 L (Proc.devRef .tc main_v18) : Vec Ideal S64x64x4x128 .f32) (fun n i h a => laR (D.Y n h i a)) := by
  intro n i h a
  unfold P1
  simp only [pre0, pre1, pre2, List.cons_append, List.nil_append]
  after_reads_at
  have h4 : ∀ (r : Fin 4096) j, L (Proc.devRef .tc main_arg4) (ix2 r j) = _ := H.lr
  have h5 : ∀ (r : Fin 16) j, L (Proc.devRef .tc main_arg5) (ix2 r j) = _ := H.wa
  have h6 : ∀ j : Fin 512, L (Proc.devRef .tc main_arg6) (ix2 0 j) = _ := H.ba
  simp only [h4, h5, h6, ← EReal.coe_mul, sum_coe, ← EReal.coe_add]
  rw [logsig, c_16, div_coe _ (by norm_num), Y_eq]
  simp only [laR, Nat.mul_comm]
set_option maxHeartbeats 1000000 in
theorem P1_v9_1 (H : LArgs L D) (r : Fin 4096) (c : Fin 512) : (P1 L (Proc.devRef .tc main_v9_1) : Vec Ideal S4096x512 .f32) (ix2 r c)
    = ((sg (-D.Y (r / 64) (c / 128) (r % 64) (c % 128)) : ℝ) : EReal) := by
  unfold P1
  simp only [pre0, pre1, pre2, List.cons_append, List.nil_append]
  after_reads_at
  have h4 : ∀ (r : Fin 4096) j, L (Proc.devRef .tc main_arg4) (ix2 r j) = _ := H.lr
  have h5 : ∀ (r : Fin 16) j, L (Proc.devRef .tc main_arg5) (ix2 r j) = _ := H.wa
  have h6 : ∀ j : Fin 512, L (Proc.devRef .tc main_arg6) (ix2 0 j) = _ := H.ba
  simp only [h4, h5, h6, ← EReal.coe_mul, sum_coe, ← EReal.coe_add]
  rw [softplus, ofBits_inf, ← EReal.coe_neg, if_neg (EReal.coe_ne_top _), if_neg (EReal.coe_ne_top _), ← EReal.coe_sub, exp_coe, exp_softplus, Y_eq]
  have e1 : 64 * (r.val / 64) + r.val % 64 = r.val := Nat.div_add_mod _ _
  have e2 : 128 * (c.val / 128) + c.val % 128 = c.val := Nat.div_add_mod _ _
  rw [e1, e2]
set_option maxHeartbeats 1000000 in
theorem P1_v15 (H : LArgs L D) : Is4 (P1 L (Proc.devRef .tc main_v15) : Vec Ideal S64x64x4x128 .f32) (fun n i h a => D.Q n h i a * sc) := by
  intro n i h a
  unfold P1
  simp only [pre0, pre1, pre2, List.cons_append, List.nil_append]
  after_reads_at
  have h0 : ∀ (r : Fin 4096) j, L (Proc.devRef .tc main_arg0) (ix2 r j) = _ := H.q
  simp only [h0, c_sc, ← EReal.coe_mul, Inp.Q, Nat.mul_comm]
set_option maxHeartbeats 1000000 in
theorem P1_v16 (H : LArgs L D) : Is4 (P1 L (Proc.devRef .tc main_v16) : Vec Ideal S64x64x4x128 .f32) (fun n i h a => D.K n h i a) := by
  intro n i h a
  unfold P1
  simp only [pre0, pre1, pre2, List.cons_append, List.nil_append]
  after_reads_at
  have h0 : ∀ (r : Fin 4096) j, L (Proc.devRef .tc main_arg1) (ix2 r j) = _ := H.k
  simp only [h0, Inp.K, Nat.mul_comm]
set_option maxHeartbeats 1000000 in
theorem P1_v17 (H : LArgs L D) : Is4 (P1 L (Proc.devRef .tc main_v17) : Vec Ideal S64x64x4x256 .f32) (fun n i h a => D.V n h i a) := by
  intro n i h a
  unfold P1
  simp only [pre0, pre1, pre2, List.cons_append, List.nil_append]
  after_reads_at
  have h0 : ∀ (r : Fin 4096) j, L (Proc.devRef .tc main_arg2) (ix2 r j) = _ := H.v
  simp only [h0, Inp.V, Nat.mul_comm]
theorem P1_v3 (H : LArgs L D) : Is2 (P1 L (Proc.devRef .tc main_v3) : Vec Ideal S4096x1024 .f32) (fun r c => D.r r c) := by
  intro r c
  unfold P1
  simp only [pre0, pre1, pre2, List.cons_append, List.nil_append]
  after_reads_at
  exact H.r r c
theorem P1_v5 (H : LArgs L D) : Is2 (P1 L (Proc.devRef .tc main_v5) : Vec Ideal S4096x1024 .f32) (fun r c => D.dy r c) := by
  intro r c
  unfold P1
  simp only [pre0, pre1, pre2, List.cons_append, List.nil_append]
  after_reads_at
  exact H.dy r c
theorem P1_arg7 (H : LArgs L D) (c : Fin 256) : (P1 L (Proc.devRef .tc main_arg7) : Vec Ideal S1x256 .f32) (ix2 0 c) = ((D.g c : ℝ) : EReal) := by
  unfold P1
  simp only [pre0, pre1, pre2, List.cons_append, List.nil_append]
  after_reads_simp
  exact H.g c
set_option maxHeartbeats 1000000 in
theorem P2_v19 (H : LArgs L D) : Is4 (P2 L (Proc.devRef .tc main_v19) : Vec Ideal S64x64x4x128 .f32) (fun n i h a => D.cum n h i a) := by
  intro n i h a
  have h10 := P1_v18 H
  unfold P2
  generalize P1 L = M at *
  simp only [pre3]
  after_reads_simp
  simp -implicitDefEqProofs only [StableHlo.TRef.toBuf, StableHlo.TRef.ofBuf, cast_cast, cast_eq]
  exact (WinSum.cum4' _ _ _ _ h10 (by pointwise []) n i h a)
theorem P2_v9_1 : P2 L (Proc.devRef .tc main_v9_1) = P1 L (Proc.devRef .tc main_v9_1) := by
  unfold P2
  generalize P1 L = M at *
  simp only [pre3]
  after_reads_simp
theorem P3_v9_1 : P3 L (Proc.devRef .tc main_v9_1) = P1 L (Proc.devRef .tc main_v9_1) := by
  rw [← P2_v9_1]
  unfold P3
  generalize P2 L = M at *
  simp only [pre4]
  after_reads_simp
theorem P2_v15 : P2 L (Proc.devRef .tc main_v15) = P1 L (Proc.devRef .tc main_v15) := by
  unfold P2
  generalize P1 L = M at *
  simp only [pre3]
  after_reads_simp
theorem P3_v15 : P3 L (Proc.devRef .tc main_v15) = P1 L (Proc.devRef .tc main_v15) := by
  rw [← P2_v15]
  unfold P3
  generalize P2 L = M at *
  simp only [pre4]
  after_reads_simp
theorem P2_v16 : P2 L (Proc.devRef .tc main_v16) = P1 L (Proc.devRef .tc main_v16) := by
  unfold P2
  generalize P1 L = M at *
  simp only [pre3]
  after_reads_simp
theorem P3_v16 : P3 L (Proc.devRef .tc main_v16) = P1 L (Proc.devRef .tc main_v16) := by
  rw [← P2_v16]
  unfold P3
  generalize P2 L = M at *
  simp only [pre4]
  after_reads_simp
theorem P2_v17 : P2 L (Proc.devRef .tc main_v17) = P1 L (Proc.devRef .tc main_v17) := by
  unfold P2
  generalize P1 L = M at *
  simp only [pre3]
  after_reads_simp
theorem P3_v17 : P3 L (Proc.devRef .tc main_v17) = P1 L (Proc.devRef .tc main_v17) := by
  rw [← P2_v17]
  unfold P3
  generalize P2 L = M at *
  simp only [pre4]
  after_reads_simp
theorem P2_v3 : P2 L (Proc.devRef .tc main_v3) = P1 L (Proc.devRef .tc main_v3) := by
  unfold P2
  generalize P1 L = M at *
  simp only [pre3]
  after_reads_simp
theorem P3_v3 : P3 L (Proc.devRef .tc main_v3) = P1 L (Proc.devRef .tc main_v3) := by
  rw [← P2_v3]
  unfold P3
  generalize P2 L = M at *
  simp only [pre4]
  after_reads_simp
theorem P2_v5 : P2 L (Proc.devRef .tc main_v5) = P1 L (Proc.devRef .tc main_v5) := by
  unfold P2
  generalize P1 L = M at *
  simp only [pre3]
  after_reads_simp
theorem P3_v5 : P3 L (Proc.devRef .tc main_v5) = P1 L (Proc.devRef .tc main_v5) := by
  rw [← P2_v5]
  unfold P3
  generalize P2 L = M at *
  simp only [pre4]
  after_reads_simp
theorem P2_arg7 : P2 L (Proc.devRef .tc main_arg7) = P1 L (Proc.devRef .tc main_arg7) := by
  unfold P2
  generalize P1 L = M at *
  simp only [pre3]
  after_reads_simp
theorem P3_arg7 : P3 L (Proc.devRef .tc main_arg7) = P1 L (Proc.devRef .tc main_arg7) := by
  rw [← P2_arg7]
  unfold P3
  generalize P2 L = M at *
  simp only [pre4]
  after_reads_simp
set_option maxHeartbeats 1000000 in
theorem P3_v23 (H : LArgs L D) : Is4 (P3 L (Proc.devRef .tc main_v23) : Vec Ideal S64x64x4x128 .f32) (fun n i h a => D.w n h i a) := by
  intro n i h a
  have h19 : ∀ n i h a, _ = _ := P2_v19 H
  unfold P3
  generalize P2 L = M at *
  simp only [pre4]
  after_reads_at
  simp only [h19, ← EReal.coe_sub, exp_coe]
  rfl
set_option maxHeartbeats 1000000 in
theorem P3_v24 (H : LArgs L D) : Is4 (P3 L (Proc.devRef .tc main_v24) : Vec Ideal S64x64x4x128 .f32) (fun n i h a => D.K n h i a * D.w n h i a) := by
  intro n i h a
  have h16 : ∀ n i h a, _ = _ := P1_v16 H
  rw [← P2_v16] at h16
  have h19 : ∀ n i h a, _ = _ := P2_v19 H
  unfold P3
  generalize P2 L = M at *
  simp only [pre4]
  after_reads_at
  simp only [h16, h19, ← EReal.coe_sub, exp_coe, ← EReal.coe_mul]
  rfl
set_option maxHeartbeats 1000000 in
theorem P3_v27 (H : LArgs L D) : Is3 (P3 L (Proc.devRef .tc main_v27) : Vec Ideal S64x4x128 .f32) (fun n h a => D.dec n h a) := by
  intro n h a
  have h19 : ∀ n i h a, _ = _ := P2_v19 H
  unfold P3
  generalize P2 L = M at *
  simp only [pre4]
  after_reads_at
  simp only [h19, exp_coe]
  rfl
set_option maxHeartbeats 1000000 in
theorem P3_v25 (H : LArgs L D) : Is4 (P3 L (Proc.devRef .tc main_v25) : Vec Ideal S64x4x128x256 .f32) (fun n h a b => D.u n h b a) := by
  intro n h a b
  have h16 : ∀ n i h a, _ = _ := P1_v16 H
  rw [← P2_v16] at h16
  have h17 : ∀ n i h a, _ = _ := P1_v17 H
  rw [← P2_v17] at h17
  have h19 : ∀ n i h a, _ = _ := P2_v19 H
  unfold P3
  generalize P2 L = M at *
  simp only [pre4]
  after_reads_at
  simp only [h16, h17, h19, ← EReal.coe_sub, exp_coe, ← EReal.coe_mul, sum_coe]
  rfl
theorem P3_v33_0 (H : LArgs L D) : Is3 (P3 L (Proc.devRef .tc main_v33_0) : Vec Ideal S64x4x128 .f32) (fun n h a => D.dec n h a) := by
  have e : P3 L (Proc.devRef .tc main_v33_0) = P3 L (Proc.devRef .tc main_v27) := by
    unfold P3
    generalize P2 L = M at *
    simp only [pre4]
    after_reads_simp
    rfl
  rw [e]
  exact P3_v27 H
theorem P3_v33_1 (H : LArgs L D) : Is4 (P3 L (Proc.devRef .tc main_v33_1) : Vec Ideal S64x4x128x256 .f32) (fun n h a b => D.u n h b a) := by
  have e : P3 L (Proc.devRef .tc main_v33_1) = P3 L (Proc.devRef .tc main_v25) := by
    unfold P3
    generalize P2 L = M at *
    simp only [pre4]
    after_reads_simp
    rfl
  rw [e]
  exact P3_v25 H
theorem P3_v33_2 (H : LArgs L D) : Is4 (P3 L (Proc.devRef .tc main_v33_2) : Vec Ideal S64x64x4x128 .f32) (fun n i h a => D.Q n h i a * sc) := by
  have e : P3 L (Proc.devRef .tc main_v33_2) = P3 L (Proc.devRef .tc main_v15) := by
    unfold P3
    generalize P2 L = M at *
    simp only [pre4]
    after_reads_simp
    rfl
  rw [e]
  rw [P3_v15]
  exact P1_v15 H
theorem P3_v33_4 : Is3 (P3 L (Proc.devRef .tc main_v33_4) : Vec Ideal S4x128x256 .f32) (fun h a b => D.S 0 h b a) := by
  intro h a b
  unfold P3
  generalize P2 L = M at *
  simp only [pre4]
  after_reads_at
  exact ofBits_zero
end Cert.ReferenceIdeal.Val
end
-- ==== Proof.RefBase.lean ====
module
public import proofs.«01_k».proof.Proof.RefRun
public import proofs.«01_k».proof.Proof.Spec
public import Idealize.ShloMosaic.Lib.StableHlo.ReadAt
public import Idealize.ShloMosaic.Lib.DynamicIndex
public import Idealize.ShloMosaic.Lib.WordCmp
@[expose] public section
/-! # The slices of the reference's two loops

Both loops take part `k` of their inputs, and write part `k` of their outputs, along the first axis. -/
set_option maxRecDepth 16384
noncomputable section
namespace Cert.ReferenceIdeal.Val
open Cert.ReferenceIdeal Cert.ReferenceIdeal.Gen Idealize.ShloMosaic Idealize.ShloMosaic.TcCoe Idealize.SL.Sem Cert.RealVal Cert.Spec

/-- A small number's word, read signed, is the number. -/
theorem word_toInt (k : Nat) (hk : k < 64) : (BitVec.ofNat 32 k).toInt = (k : Int) := by
  rw [BitVec.toInt_ofNat', Int.bmod_eq_of_le] <;> omega
/-- The start of a slice along the first of three axes. -/
theorem start3 (c : IVec S_ 32) (k : Fin 64) (hc : c = fun _ => BitVec.ofNat 32 k.val) (a : Fin 3) :
    BitVec.toInt (![c, constantI S_ 32 0#32, constantI S_ 32 0#32] a (Shape.Idx.first h_S_)) = ((![k.val, 0, 0] a : Nat) : Int) := by
  subst hc
  fin_cases a
  · exact word_toInt k.val k.isLt
  · rfl
  · rfl
/-- The start of a slice along the first of four axes. -/
theorem start4 (c : IVec S_ 32) (k : Fin 64) (hc : c = fun _ => BitVec.ofNat 32 k.val) (a : Fin 4) :
    BitVec.toInt (![c, constantI S_ 32 0#32, constantI S_ 32 0#32, constantI S_ 32 0#32] a (Shape.Idx.first h_S_))
      = ((![k.val, 0, 0, 0] a : Nat) : Int) := by
  subst hc
  fin_cases a
  · exact word_toInt k.val k.isLt
  · rfl
  · rfl
  · rfl
/-- One of the 64 parts lies inside its array. -/
theorem fitsA (k : Fin 64) : S64x4x128.Slices ![k.val, 0, 0] S1x4x128 :=
  ⟨rfl, fun a => by have := k.isLt; fin_cases a <;> first | exact this | exact Nat.le_refl _⟩
/-- One of the 64 parts lies inside its array. -/
theorem fitsB (k : Fin 64) : S64x4x128x256.Slices ![k.val, 0, 0, 0] S1x4x128x256 :=
  ⟨rfl, fun a => by have := k.isLt; fin_cases a <;> first | exact this | exact Nat.le_refl _⟩
/-- One of the 64 parts lies inside its array. -/
theorem fitsC (k : Fin 64) : S64x64x4x256.Slices ![k.val, 0, 0, 0] S1x64x4x256 :=
  ⟨rfl, fun a => by have := k.isLt; fin_cases a <;> first | exact this | exact Nat.le_refl _⟩
/-- One of the 64 parts lies inside its array. -/
theorem fitsD (k : Fin 64) : S64x64x4x128.Slices ![k.val, 0, 0, 0] S1x64x4x128 :=
  ⟨rfl, fun a => by have := k.isLt; fin_cases a <;> first | exact this | exact Nat.le_refl _⟩
/-- One of the 64 parts lies inside its array. -/
theorem fitsE (k : Fin 64) : S64x4x128x1.Slices ![k.val, 0, 0, 0] S1x4x128x1 :=
  ⟨rfl, fun a => by have := k.isLt; fin_cases a <;> first | exact this | exact Nat.le_refl _⟩
/-- The window of one part holds the one index. -/
theorem part_iff {α : Type} (n k : Fin 64) (x y : α) : (if _ : k.val ≤ n.val ∧ n.val < k.val + 1 then x else y) = if n = k then x else y := by
  have e : (k.val ≤ n.val ∧ n.val < k.val + 1) ↔ n = k := by rw [Fin.ext_iff]; omega
  simp only [dite_eq_ite, e]
end Cert.ReferenceIdeal.Val
end
-- ==== Proof.RefLoop0.lean ====
module
public import proofs.«01_k».proof.Proof.RefBase
@[expose] public section
/-! # The reference's first loop

One trip per chunk: the state is decayed, the chunk's contribution is added, and the output is the product with the queries. -/
set_option maxRecDepth 16384
noncomputable section
namespace Cert.ReferenceIdeal.Val
open Cert.ReferenceIdeal Cert.ReferenceIdeal.Gen Cert.ReferenceIdeal.Run Idealize.ShloMosaic Idealize.ShloMosaic.TcCoe Idealize.SL.Sem Cert.RealVal Cert.Spec
open StableHlo (afterL_cons afterL_nil after_append unaryIndexed_result_read binaryIndexed_result_read indexContents_tref_cons indexContents_tref_empty)
variable (V : Valuation τ sig (Elt Ideal)) (k : Fin 64)

/-- The contents after the slices of the body. -/
def B1 := StableHlo.after (cond0 ++ body0_0 ++ body0_1 ++ body0_2) V
/-- The contents after the body's arithmetic. -/
def B2 := StableHlo.after body0_3 (B1 V)
/-- The contents after the body. -/
def B3 := StableHlo.after (body0_4 ++ body0_5 ++ body0_6 ++ body0_7 ++ body0_8) (B2 V)
theorem B3_eq : StableHlo.afterL body0I (StableHlo.after cond0 V) = B3 V := by
  unfold B3 B2 B1
  simp only [afterL_cons, afterL_nil, after_append]
/-- The counter holds the trip's number. -/
abbrev Ctr : Prop := (V (Proc.devRef .tc main_v33_3) : IVec S_ 32) = fun _ => BitVec.ofNat 32 k.val
set_option maxHeartbeats 1000000 in
theorem B1_v116 (hc : Ctr V k) (h : Fin 4) (a : Fin 128) : (B1 V (Proc.devRef .tc main_while0b_v116) : Vec Ideal S4x128 .f32) (ix2 h a)
    = (V (Proc.devRef .tc main_v33_0) : Vec Ideal S64x4x128 .f32) (ix3 k h a) := by
  unfold B1
  simp only [cond0, body0_0, body0_1, body0_2, List.cons_append, List.nil_append]
  after_reads_simp [unaryIndexed_result_read, indexContents_tref_cons, indexContents_tref_empty]
  simp -implicitDefEqProofs only [StableHlo.TRef.toBuf, StableHlo.TRef.ofBuf, cast_cast, cast_eq]
  rw [Host.dynamicSlice_eq_extractStridedSlice _ _ _ _ _ (fitsA k) (start3 _ k hc)]
  pointwise []
set_option maxHeartbeats 1000000 in
theorem B1_v117 (hc : Ctr V k) (h : Fin 4) (a : Fin 128) (b : Fin 256) : (B1 V (Proc.devRef .tc main_while0b_v117) : Vec Ideal S4x128x256 .f32) (ix3 h a b)
    = (V (Proc.devRef .tc main_v33_1) : Vec Ideal S64x4x128x256 .f32) (ix4 k h a b) := by
  unfold B1
  simp only [cond0, body0_0, body0_1, body0_2, List.cons_append, List.nil_append]
  after_reads_simp [unaryIndexed_result_read, indexContents_tref_cons, indexContents_tref_empty]
  simp -implicitDefEqProofs only [StableHlo.TRef.toBuf, StableHlo.TRef.ofBuf, cast_cast, cast_eq]
  rw [Host.dynamicSlice_eq_extractStridedSlice _ _ _ _ _ (fitsB k) (start4 _ k hc)]
  pointwise []
set_option maxHeartbeats 1000000 in
theorem B1_v118 (hc : Ctr V k) (i : Fin 64) (h : Fin 4) (a : Fin 128) : (B1 V (Proc.devRef .tc main_while0b_v118) : Vec Ideal S64x4x128 .f32) (ix3 i h a)
    = (V (Proc.devRef .tc main_v33_2) : Vec Ideal S64x64x4x128 .f32) (ix4 k i h a) := by
  unfold B1
  simp only [cond0, body0_0, body0_1, body0_2, List.cons_append, List.nil_append]
  after_reads_simp [unaryIndexed_result_read, indexContents_tref_cons, indexContents_tref_empty]
  simp -implicitDefEqProofs only [StableHlo.TRef.toBuf, StableHlo.TRef.ofBuf, cast_cast, cast_eq]
  rw [Host.dynamicSlice_eq_extractStridedSlice _ _ _ _ _ (fitsD k) (start4 _ k hc)]
  pointwise []
theorem B1_v33_0 : B1 V (Proc.devRef .tc main_v33_0) = V (Proc.devRef .tc main_v33_0) := by
  unfold B1
  simp only [cond0, body0_0, body0_1, body0_2, List.cons_append, List.nil_append]
  after_reads_simp
theorem B1_v33_1 : B1 V (Proc.devRef .tc main_v33_1) = V (Proc.devRef .tc main_v33_1) := by
  unfold B1
  simp only [cond0, body0_0, body0_1, body0_2, List.cons_append, List.nil_append]
  after_reads_simp
theorem B1_v33_2 : B1 V (Proc.devRef .tc main_v33_2) = V (Proc.devRef .tc main_v33_2) := by
  unfold B1
  simp only [cond0, body0_0, body0_1, body0_2, List.cons_append, List.nil_append]
  after_reads_simp
theorem B1_v33_3 : B1 V (Proc.devRef .tc main_v33_3) = V (Proc.devRef .tc main_v33_3) := by
  unfold B1
  simp only [cond0, body0_0, body0_1, body0_2, List.cons_append, List.nil_append]
  after_reads_simp
theorem B1_v33_4 : B1 V (Proc.devRef .tc main_v33_4) = V (Proc.devRef .tc main_v33_4) := by
  unfold B1
  simp only [cond0, body0_0, body0_1, body0_2, List.cons_append, List.nil_append]
  after_reads_simp
theorem B1_v33_5 : B1 V (Proc.devRef .tc main_v33_5) = V (Proc.devRef .tc main_v33_5) := by
  unfold B1
  simp only [cond0, body0_0, body0_1, body0_2, List.cons_append, List.nil_append]
  after_reads_simp
theorem B1_v33_6 : B1 V (Proc.devRef .tc main_v33_6) = V (Proc.devRef .tc main_v33_6) := by
  unfold B1
  simp only [cond0, body0_0, body0_1, body0_2, List.cons_append, List.nil_append]
  after_reads_simp
theorem B1_v33_7 : B1 V (Proc.devRef .tc main_v33_7) = V (Proc.devRef .tc main_v33_7) := by
  unfold B1
  simp only [cond0, body0_0, body0_1, body0_2, List.cons_append, List.nil_append]
  after_reads_simp
theorem B1_v33_8 : B1 V (Proc.devRef .tc main_v33_8) = V (Proc.devRef .tc main_v33_8) := by
  unfold B1
  simp only [cond0, body0_0, body0_1, body0_2, List.cons_append, List.nil_append]
  after_reads_simp
theorem B2_v33_0 : B2 V (Proc.devRef .tc main_v33_0) = B1 V (Proc.devRef .tc main_v33_0) := by
  unfold B2
  generalize B1 V = M at *
  simp only [body0_3]
  after_reads_simp
theorem B2_v33_1 : B2 V (Proc.devRef .tc main_v33_1) = B1 V (Proc.devRef .tc main_v33_1) := by
  unfold B2
  generalize B1 V = M at *
  simp only [body0_3]
  after_reads_simp
theorem B2_v33_2 : B2 V (Proc.devRef .tc main_v33_2) = B1 V (Proc.devRef .tc main_v33_2) := by
  unfold B2
  generalize B1 V = M at *
  simp only [body0_3]
  after_reads_simp
theorem B2_v33_3 : B2 V (Proc.devRef .tc main_v33_3) = B1 V (Proc.devRef .tc main_v33_3) := by
  unfold B2
  generalize B1 V = M at *
  simp only [body0_3]
  after_reads_simp
theorem B2_v33_5 : B2 V (Proc.devRef .tc main_v33_5) = B1 V (Proc.devRef .tc main_v33_5) := by
  unfold B2
  generalize B1 V = M at *
  simp only [body0_3]
  after_reads_simp
theorem B2_v33_6 : B2 V (Proc.devRef .tc main_v33_6) = B1 V (Proc.devRef .tc main_v33_6) := by
  unfold B2
  generalize B1 V = M at *
  simp only [body0_3]
  after_reads_simp
theorem B2_v33_7 : B2 V (Proc.devRef .tc main_v33_7) = B1 V (Proc.devRef .tc main_v33_7) := by
  unfold B2
  generalize B1 V = M at *
  simp only [body0_3]
  after_reads_simp
theorem B2_v33_8 : B2 V (Proc.devRef .tc main_v33_8) = B1 V (Proc.devRef .tc main_v33_8) := by
  unfold B2
  generalize B1 V = M at *
  simp only [body0_3]
  after_reads_simp
theorem B2_v33_4 : B2 V (Proc.devRef .tc main_v33_4) = B1 V (Proc.devRef .tc main_v33_4) := by
  unfold B2
  generalize B1 V = M at *
  simp only [body0_3]
  after_reads_simp
theorem B3_v33_0 : B3 V (Proc.devRef .tc main_v33_0) = B2 V (Proc.devRef .tc main_v33_0) := by
  unfold B3
  generalize B2 V = M at *
  simp only [body0_4, body0_5, body0_6, body0_7, body0_8, List.cons_append, List.nil_append]
  after_reads_simp
theorem B3_v33_1 : B3 V (Proc.devRef .tc main_v33_1) = B2 V (Proc.devRef .tc main_v33_1) := by
  unfold B3
  generalize B2 V = M at *
  simp only [body0_4, body0_5, body0_6, body0_7, body0_8, List.cons_append, List.nil_append]
  after_reads_simp
theorem B3_v33_2 : B3 V (Proc.devRef .tc main_v33_2) = B2 V (Proc.devRef .tc main_v33_2) := by
  unfold B3
  generalize B2 V = M at *
  simp only [body0_4, body0_5, body0_6, body0_7, body0_8, List.cons_append, List.nil_append]
  after_reads_simp
set_option maxHeartbeats 1000000 in
theorem B2_v119 (hc : Ctr V k) (h : Fin 4) (a : Fin 128) : (B2 V (Proc.devRef .tc main_while0b_v119) : Vec Ideal S4x128x1 .f32) (ix3 h a 0)
    = (V (Proc.devRef .tc main_v33_0) : Vec Ideal S64x4x128 .f32) (ix3 k h a) := by
  have h116 := B1_v116 V k hc
  unfold B2
  generalize B1 V = M at *
  simp only [body0_3]
  after_reads_at
  simp only [h116]
/-- What the loop has done after `k` trips. -/
structure Inv0 (D : Inp) (k : Nat) : Prop where
  dec : Is3 (V (Proc.devRef .tc main_v33_0) : Vec Ideal S64x4x128 .f32) (fun n h a => D.dec n h a)
  u : Is4 (V (Proc.devRef .tc main_v33_1) : Vec Ideal S64x4x128x256 .f32) (fun n h a b => D.u n h b a)
  q : Is4 (V (Proc.devRef .tc main_v33_2) : Vec Ideal S64x64x4x128 .f32) (fun n i h a => D.Q n h i a * sc)
  st : Is3 (V (Proc.devRef .tc main_v33_4) : Vec Ideal S4x128x256 .f32) (fun h a b => D.S k h b a)
  o : ∀ n : Fin 64, n.val < k → ∀ (i : Fin 64) (h : Fin 4) (b : Fin 256), (V (Proc.devRef .tc main_v33_5) : Vec Ideal S64x64x4x256 .f32) (ix4 n i h b) = ((D.o n h i b : ℝ) : EReal)
  before : ∀ n : Fin 64, n.val < k → ∀ (h : Fin 4) (a : Fin 128) (b : Fin 256), (V (Proc.devRef .tc main_v33_6) : Vec Ideal S64x4x128x256 .f32) (ix4 n h a b) = ((D.S n h b a : ℝ) : EReal)
  decay : ∀ n : Fin 64, n.val < k → ∀ (h : Fin 4) (a : Fin 128), (V (Proc.devRef .tc main_v33_7) : Vec Ideal S64x4x128x1 .f32) (ix4 n h a 0) = ((D.dec n h a : ℝ) : EReal)
  after : ∀ n : Fin 64, n.val < k → ∀ (h : Fin 4) (a : Fin 128) (b : Fin 256), (V (Proc.devRef .tc main_v33_8) : Vec Ideal S64x4x128x256 .f32) (ix4 n h a b) = ((D.S (n + 1) h b a : ℝ) : EReal)
variable {V} {k} {D : Inp}
/-- The new state. -/
theorem B2_v122 (hc : Ctr V k) (I : Inv0 V D k) : Is3 (B2 V (Proc.devRef .tc main_while0b_v122) : Vec Ideal S4x128x256 .f32) (fun h a b => D.S (k + 1) h b a) := by
  intro h a b
  have h0 : ∀ n h a, _ = _ := I.dec
  have h1 : ∀ n h a b, _ = _ := I.u
  have hs : ∀ h a b, _ = _ := I.st
  have h116 := B1_v116 V k hc
  have h117 := B1_v117 V k hc
  have h4 := B1_v33_4 V
  unfold B2
  generalize B1 V = M at *
  simp only [body0_3]
  after_reads_at
  simp only [h116, h117, h4, h0, h1, hs, ← EReal.coe_mul, ← EReal.coe_add]
  rfl
/-- The output of one chunk. -/
theorem B2_v124 (hc : Ctr V k) (I : Inv0 V D k) : Is3 (B2 V (Proc.devRef .tc main_while0b_v124) : Vec Ideal S64x4x256 .f32) (fun i h b => D.o k h i b) := by
  intro i h b
  have h0 : ∀ n h a, _ = _ := I.dec
  have h1 : ∀ n h a b, _ = _ := I.u
  have h2 : ∀ n i h a, _ = _ := I.q
  have hs : ∀ h a b, _ = _ := I.st
  have h116 := B1_v116 V k hc
  have h117 := B1_v117 V k hc
  have h118 := B1_v118 V k hc
  have h4 := B1_v33_4 V
  unfold B2
  generalize B1 V = M at *
  simp only [body0_3]
  after_reads_at
  simp only [h116, h117, h118, h4, h0, h1, h2, hs, ← EReal.coe_mul, ← EReal.coe_add, sum_coe]
  rw [Inp.o]
  exact congrArg (fun x : ℝ => (x : EReal)) (Finset.sum_congr rfl fun a _ => mul_comm _ _)
variable (V) (k)
set_option maxHeartbeats 1000000 in
theorem B3_v33_5 (hc : Ctr V k) (n : Fin 64) (i : Fin 64) (h : Fin 4) (b : Fin 256) : (B3 V (Proc.devRef .tc main_v33_5) : Vec Ideal S64x64x4x256 .f32) (ix4 n i h b)
    = if n = k then (B2 V (Proc.devRef .tc main_while0b_v124) : Vec Ideal S64x4x256 .f32) (ix3 i h b) else (V (Proc.devRef .tc main_v33_5) : Vec Ideal S64x64x4x256 .f32) (ix4 n i h b) := by
  have hc' := (B2_v33_3 V).trans ((B1_v33_3 V).trans hc)
  have hr := (B2_v33_5 V).trans (B1_v33_5 V)
  rw [← hr]
  unfold B3
  generalize B2 V = M at *
  simp only [body0_4, body0_5, body0_6, body0_7, body0_8, List.cons_append, List.nil_append]
  after_reads_simp [binaryIndexed_result_read, indexContents_tref_cons, indexContents_tref_empty]
  simp -implicitDefEqProofs only [StableHlo.TRef.toBuf, StableHlo.TRef.ofBuf, cast_cast, cast_eq, id]
  rw [WordCmp.dynamicUpdateSlice_eq_update _ _ _ _ _ (fitsC k) (start4 _ k hc')]
  pointwise []
  rw [part_iff]
set_option maxHeartbeats 1000000 in
theorem B3_v33_6 (hc : Ctr V k) (n : Fin 64) (h : Fin 4) (a : Fin 128) (b : Fin 256) : (B3 V (Proc.devRef .tc main_v33_6) : Vec Ideal S64x4x128x256 .f32) (ix4 n h a b)
    = if n = k then (B2 V (Proc.devRef .tc main_v33_4) : Vec Ideal S4x128x256 .f32) (ix3 h a b) else (V (Proc.devRef .tc main_v33_6) : Vec Ideal S64x4x128x256 .f32) (ix4 n h a b) := by
  have hc' := (B2_v33_3 V).trans ((B1_v33_3 V).trans hc)
  have hr := (B2_v33_6 V).trans (B1_v33_6 V)
  rw [← hr]
  unfold B3
  generalize B2 V = M at *
  simp only [body0_4, body0_5, body0_6, body0_7, body0_8, List.cons_append, List.nil_append]
  after_reads_simp [binaryIndexed_result_read, indexContents_tref_cons, indexContents_tref_empty]
  simp -implicitDefEqProofs only [StableHlo.TRef.toBuf, StableHlo.TRef.ofBuf, cast_cast, cast_eq, id]
  rw [WordCmp.dynamicUpdateSlice_eq_update _ _ _ _ _ (fitsB k) (start4 _ k hc')]
  pointwise []
  rw [part_iff]
set_option maxHeartbeats 1000000 in
theorem B3_v33_7 (hc : Ctr V k) (n : Fin 64) (h : Fin 4) (a : Fin 128) : (B3 V (Proc.devRef .tc main_v33_7) : Vec Ideal S64x4x128x1 .f32) (ix4 n h a 0)
    = if n = k then (B2 V (Proc.devRef .tc main_while0b_v119) : Vec Ideal S4x128x1 .f32) (ix3 h a 0) else (V (Proc.devRef .tc main_v33_7) : Vec Ideal S64x4x128x1 .f32) (ix4 n h a 0) := by
  have hc' := (B2_v33_3 V).trans ((B1_v33_3 V).trans hc)
  have hr := (B2_v33_7 V).trans (B1_v33_7 V)
  rw [← hr]
  unfold B3
  generalize B2 V = M at *
  simp only [body0_4, body0_5, body0_6, body0_7, body0_8, List.cons_append, List.nil_append]
  after_reads_simp [binaryIndexed_result_read, indexContents_tref_cons, indexContents_tref_empty]
  simp -implicitDefEqProofs only [StableHlo.TRef.toBuf, StableHlo.TRef.ofBuf, cast_cast, cast_eq, id]
  rw [WordCmp.dynamicUpdateSlice_eq_update _ _ _ _ _ (fitsE k) (start4 _ k hc')]
  pointwise []
  rw [part_iff]
set_option maxHeartbeats 1000000 in
theorem B3_v33_8 (hc : Ctr V k) (n : Fin 64) (h : Fin 4) (a : Fin 128) (b : Fin 256) : (B3 V (Proc.devRef .tc main_v33_8) : Vec Ideal S64x4x128x256 .f32) (ix4 n h a b)
    = if n = k then (B2 V (Proc.devRef .tc main_while0b_v122) : Vec Ideal S4x128x256 .f32) (ix3 h a b) else (V (Proc.devRef .tc main_v33_8) : Vec Ideal S64x4x128x256 .f32) (ix4 n h a b) := by
  have hc' := (B2_v33_3 V).trans ((B1_v33_3 V).trans hc)
  have hr := (B2_v33_8 V).trans (B1_v33_8 V)
  rw [← hr]
  unfold B3
  generalize B2 V = M at *
  simp only [body0_4, body0_5, body0_6, body0_7, body0_8, List.cons_append, List.nil_append]
  after_reads_simp [binaryIndexed_result_read, indexContents_tref_cons, indexContents_tref_empty]
  simp -implicitDefEqProofs only [StableHlo.TRef.toBuf, StableHlo.TRef.ofBuf, cast_cast, cast_eq, id]
  rw [WordCmp.dynamicUpdateSlice_eq_update _ _ _ _ _ (fitsB k) (start4 _ k hc')]
  pointwise []
  rw [part_iff]
theorem B3_v33_4 : B3 V (Proc.devRef .tc main_v33_4) = B2 V (Proc.devRef .tc main_while0b_v122) := by
  unfold B3
  generalize B2 V = M at *
  simp only [body0_4, body0_5, body0_6, body0_7, body0_8, List.cons_append, List.nil_append]
  after_reads_simp
  rfl
variable {V} {k}
/-- One more trip. -/
theorem Inv0.step (hc : Ctr V k) (I : Inv0 V D k) : Inv0 (B3 V) D (k + 1) where
  dec := by rw [(B3_v33_0 V).trans ((B2_v33_0 V).trans (B1_v33_0 V))]; exact I.dec
  u := by rw [(B3_v33_1 V).trans ((B2_v33_1 V).trans (B1_v33_1 V))]; exact I.u
  q := by rw [(B3_v33_2 V).trans ((B2_v33_2 V).trans (B1_v33_2 V))]; exact I.q
  st := by rw [B3_v33_4 V]; exact B2_v122 hc I
  o := fun n hn i h b => by
    rw [B3_v33_5 V k hc]
    by_cases e : n = k
    · rw [if_pos e, e]; exact B2_v124 hc I i h b
    · rw [if_neg e]; exact I.o n (by have := Fin.val_ne_of_ne e; omega) i h b
  before := fun n hn h a b => by
    rw [B3_v33_6 V k hc]
    by_cases e : n = k
    · rw [if_pos e, e, B2_v33_4, B1_v33_4]; exact I.st h a b
    · rw [if_neg e]; exact I.before n (by have := Fin.val_ne_of_ne e; omega) h a b
  decay := fun n hn h a => by
    rw [B3_v33_7 V k hc]
    by_cases e : n = k
    · rw [if_pos e, e, B2_v119 V k hc]; exact I.dec k h a
    · rw [if_neg e]; exact I.decay n (by have := Fin.val_ne_of_ne e; omega) h a
  after := fun n hn h a b => by
    rw [B3_v33_8 V k hc]
    by_cases e : n = k
    · rw [if_pos e, e]; exact B2_v122 hc I h a b
    · rw [if_neg e]; exact I.after n (by have := Fin.val_ne_of_ne e; omega) h a b
/-- The condition's operations touch nothing of it. -/
theorem Inv0.cond {m : Nat} (I : Inv0 V D m) : Inv0 (StableHlo.after cond0 V) D m where
  dec := by
    rw [show StableHlo.after cond0 V (Proc.devRef .tc main_v33_0) = V (Proc.devRef .tc main_v33_0) from by simp only [cond0]; after_reads_simp]
    exact I.dec
  u := by
    rw [show StableHlo.after cond0 V (Proc.devRef .tc main_v33_1) = V (Proc.devRef .tc main_v33_1) from by simp only [cond0]; after_reads_simp]
    exact I.u
  q := by
    rw [show StableHlo.after cond0 V (Proc.devRef .tc main_v33_2) = V (Proc.devRef .tc main_v33_2) from by simp only [cond0]; after_reads_simp]
    exact I.q
  st := by
    rw [show StableHlo.after cond0 V (Proc.devRef .tc main_v33_4) = V (Proc.devRef .tc main_v33_4) from by simp only [cond0]; after_reads_simp]
    exact I.st
  o := by
    rw [show StableHlo.after cond0 V (Proc.devRef .tc main_v33_5) = V (Proc.devRef .tc main_v33_5) from by simp only [cond0]; after_reads_simp]
    exact I.o
  before := by
    rw [show StableHlo.after cond0 V (Proc.devRef .tc main_v33_6) = V (Proc.devRef .tc main_v33_6) from by simp only [cond0]; after_reads_simp]
    exact I.before
  decay := by
    rw [show StableHlo.after cond0 V (Proc.devRef .tc main_v33_7) = V (Proc.devRef .tc main_v33_7) from by simp only [cond0]; after_reads_simp]
    exact I.decay
  after := by
    rw [show StableHlo.after cond0 V (Proc.devRef .tc main_v33_8) = V (Proc.devRef .tc main_v33_8) from by simp only [cond0]; after_reads_simp]
    exact I.after
/-- After all the trips. -/
theorem inv0 (W : Dev nD → Valuation τ sig (Elt Ideal)) (hW : ∀ c, W c (Proc.devRef .tc main_v33_3) = fun _ => 0#32) (c : Dev nD)
    (I : Inv0 (W c) D 0) : ∀ k : Nat, k ≤ 64 → Inv0 (StableHlo.atTrip cond0 body0I W k c) D k := by
  intro k
  induction k with
  | zero => exact fun _ => I
  | succ k ih =>
      intro hk
      have e : StableHlo.atTrip cond0 body0I W (k + 1) c = B3 (StableHlo.atTrip cond0 body0I W k c) :=
        (funext fun x => rfl : StableHlo.atTrip cond0 body0I W (k + 1) c = StableHlo.afterL body0I (StableHlo.after cond0 (StableHlo.atTrip cond0 body0I W k c))).trans (B3_eq _)
      rw [e]
      exact Inv0.step (k := ⟨k, hk⟩) (ctr0 W hW c k) (ih (by omega))
end Cert.ReferenceIdeal.Val
end
-- ==== Proof.RefLoop1.lean ====
module
public import proofs.«01_k».proof.Proof.RefBase
@[expose] public section
/-! # The reference's second loop

One trip per chunk, from the last to the first: the gradient of the state after the chunk, the gradient of the chunk's decay and the
gradient of its queries. -/
set_option maxRecDepth 16384
noncomputable section
namespace Cert.ReferenceIdeal.Val
open Cert.ReferenceIdeal Cert.ReferenceIdeal.Gen Cert.ReferenceIdeal.Run Idealize.ShloMosaic Idealize.ShloMosaic.TcCoe Idealize.SL.Sem Cert.RealVal Cert.Spec
open StableHlo (afterL_cons afterL_nil after_append unaryIndexed_result_read binaryIndexed_result_read indexContents_tref_cons indexContents_tref_empty)
variable (V : Valuation τ sig (Elt Ideal)) (j : Fin 64)

/-- The contents after the chunk's number is computed. -/
def C0 := StableHlo.after (cond1 ++ body1_0) V
/-- The contents after the slices of the body. -/
def C1 := StableHlo.after (body1_1 ++ body1_2 ++ body1_3 ++ body1_4 ++ body1_5) (C0 V)
/-- The contents after the body's arithmetic. -/
def C2 := StableHlo.after body1_6 (C1 V)
/-- The contents after the body. -/
def C3 := StableHlo.after (body1_7 ++ body1_8 ++ body1_9 ++ body1_10) (C2 V)
theorem C3_eq : StableHlo.afterL body1I (StableHlo.after cond1 V) = C3 V := by
  unfold C3 C2 C1 C0
  simp only [afterL_cons, afterL_nil, after_append]
/-- The counter holds the number of the trip at which chunk `j` is taken. -/
abbrev Ctr1 : Prop := (V (Proc.devRef .tc main_v85_5) : IVec S_ 32) = fun _ => BitVec.ofNat 32 (63 - j.val)
theorem back_word : ∀ j : Fin 64, IntOp.subi (IntOp.subi (64#32) (BitVec.ofNat 32 (63 - j.val))) (1#32) = BitVec.ofNat 32 j.val := by decide
/-- The chunk's number. -/
theorem C0_v117 (hc : Ctr1 V j) : (C0 V (Proc.devRef .tc main_while1b_v117) : IVec S_ 32) = fun _ => BitVec.ofNat 32 j.val := by
  unfold C0
  simp only [cond1, body1_0, List.cons_append, List.nil_append]
  after_reads_simp
  rw [hc]
  exact funext fun _ => back_word j
theorem C0_v85_0 : C0 V (Proc.devRef .tc main_v85_0) = V (Proc.devRef .tc main_v85_0) := by
  unfold C0
  simp only [cond1, body1_0, List.cons_append, List.nil_append]
  after_reads_simp
theorem C1_v85_0 : C1 V (Proc.devRef .tc main_v85_0) = C0 V (Proc.devRef .tc main_v85_0) := by
  unfold C1
  generalize C0 V = M at *
  simp only [body1_1, body1_2, body1_3, body1_4, body1_5, List.cons_append, List.nil_append]
  after_reads_simp
theorem C2_v85_0 : C2 V (Proc.devRef .tc main_v85_0) = C1 V (Proc.devRef .tc main_v85_0) := by
  unfold C2
  generalize C1 V = M at *
  simp only [body1_6]
  after_reads_simp
theorem C0_v85_1 : C0 V (Proc.devRef .tc main_v85_1) = V (Proc.devRef .tc main_v85_1) := by
  unfold C0
  simp only [cond1, body1_0, List.cons_append, List.nil_append]
  after_reads_simp
theorem C1_v85_1 : C1 V (Proc.devRef .tc main_v85_1) = C0 V (Proc.devRef .tc main_v85_1) := by
  unfold C1
  generalize C0 V = M at *
  simp only [body1_1, body1_2, body1_3, body1_4, body1_5, List.cons_append, List.nil_append]
  after_reads_simp
theorem C2_v85_1 : C2 V (Proc.devRef .tc main_v85_1) = C1 V (Proc.devRef .tc main_v85_1) := by
  unfold C2
  generalize C1 V = M at *
  simp only [body1_6]
  after_reads_simp
theorem C0_v85_2 : C0 V (Proc.devRef .tc main_v85_2) = V (Proc.devRef .tc main_v85_2) := by
  unfold C0
  simp only [cond1, body1_0, List.cons_append, List.nil_append]
  after_reads_simp
theorem C1_v85_2 : C1 V (Proc.devRef .tc main_v85_2) = C0 V (Proc.devRef .tc main_v85_2) := by
  unfold C1
  generalize C0 V = M at *
  simp only [body1_1, body1_2, body1_3, body1_4, body1_5, List.cons_append, List.nil_append]
  after_reads_simp
theorem C2_v85_2 : C2 V (Proc.devRef .tc main_v85_2) = C1 V (Proc.devRef .tc main_v85_2) := by
  unfold C2
  generalize C1 V = M at *
  simp only [body1_6]
  after_reads_simp
theorem C0_v85_3 : C0 V (Proc.devRef .tc main_v85_3) = V (Proc.devRef .tc main_v85_3) := by
  unfold C0
  simp only [cond1, body1_0, List.cons_append, List.nil_append]
  after_reads_simp
theorem C1_v85_3 : C1 V (Proc.devRef .tc main_v85_3) = C0 V (Proc.devRef .tc main_v85_3) := by
  unfold C1
  generalize C0 V = M at *
  simp only [body1_1, body1_2, body1_3, body1_4, body1_5, List.cons_append, List.nil_append]
  after_reads_simp
theorem C2_v85_3 : C2 V (Proc.devRef .tc main_v85_3) = C1 V (Proc.devRef .tc main_v85_3) := by
  unfold C2
  generalize C1 V = M at *
  simp only [body1_6]
  after_reads_simp
theorem C0_v85_4 : C0 V (Proc.devRef .tc main_v85_4) = V (Proc.devRef .tc main_v85_4) := by
  unfold C0
  simp only [cond1, body1_0, List.cons_append, List.nil_append]
  after_reads_simp
theorem C1_v85_4 : C1 V (Proc.devRef .tc main_v85_4) = C0 V (Proc.devRef .tc main_v85_4) := by
  unfold C1
  generalize C0 V = M at *
  simp only [body1_1, body1_2, body1_3, body1_4, body1_5, List.cons_append, List.nil_append]
  after_reads_simp
theorem C2_v85_4 : C2 V (Proc.devRef .tc main_v85_4) = C1 V (Proc.devRef .tc main_v85_4) := by
  unfold C2
  generalize C1 V = M at *
  simp only [body1_6]
  after_reads_simp
theorem C0_v85_6 : C0 V (Proc.devRef .tc main_v85_6) = V (Proc.devRef .tc main_v85_6) := by
  unfold C0
  simp only [cond1, body1_0, List.cons_append, List.nil_append]
  after_reads_simp
theorem C1_v85_6 : C1 V (Proc.devRef .tc main_v85_6) = C0 V (Proc.devRef .tc main_v85_6) := by
  unfold C1
  generalize C0 V = M at *
  simp only [body1_1, body1_2, body1_3, body1_4, body1_5, List.cons_append, List.nil_append]
  after_reads_simp
theorem C2_v85_6 : C2 V (Proc.devRef .tc main_v85_6) = C1 V (Proc.devRef .tc main_v85_6) := by
  unfold C2
  generalize C1 V = M at *
  simp only [body1_6]
  after_reads_simp
theorem C0_v85_7 : C0 V (Proc.devRef .tc main_v85_7) = V (Proc.devRef .tc main_v85_7) := by
  unfold C0
  simp only [cond1, body1_0, List.cons_append, List.nil_append]
  after_reads_simp
theorem C1_v85_7 : C1 V (Proc.devRef .tc main_v85_7) = C0 V (Proc.devRef .tc main_v85_7) := by
  unfold C1
  generalize C0 V = M at *
  simp only [body1_1, body1_2, body1_3, body1_4, body1_5, List.cons_append, List.nil_append]
  after_reads_simp
theorem C2_v85_7 : C2 V (Proc.devRef .tc main_v85_7) = C1 V (Proc.devRef .tc main_v85_7) := by
  unfold C2
  generalize C1 V = M at *
  simp only [body1_6]
  after_reads_simp
theorem C0_v85_8 : C0 V (Proc.devRef .tc main_v85_8) = V (Proc.devRef .tc main_v85_8) := by
  unfold C0
  simp only [cond1, body1_0, List.cons_append, List.nil_append]
  after_reads_simp
theorem C1_v85_8 : C1 V (Proc.devRef .tc main_v85_8) = C0 V (Proc.devRef .tc main_v85_8) := by
  unfold C1
  generalize C0 V = M at *
  simp only [body1_1, body1_2, body1_3, body1_4, body1_5, List.cons_append, List.nil_append]
  after_reads_simp
theorem C2_v85_8 : C2 V (Proc.devRef .tc main_v85_8) = C1 V (Proc.devRef .tc main_v85_8) := by
  unfold C2
  generalize C1 V = M at *
  simp only [body1_6]
  after_reads_simp
theorem C0_v85_9 : C0 V (Proc.devRef .tc main_v85_9) = V (Proc.devRef .tc main_v85_9) := by
  unfold C0
  simp only [cond1, body1_0, List.cons_append, List.nil_append]
  after_reads_simp
theorem C1_v85_9 : C1 V (Proc.devRef .tc main_v85_9) = C0 V (Proc.devRef .tc main_v85_9) := by
  unfold C1
  generalize C0 V = M at *
  simp only [body1_1, body1_2, body1_3, body1_4, body1_5, List.cons_append, List.nil_append]
  after_reads_simp
theorem C2_v85_9 : C2 V (Proc.devRef .tc main_v85_9) = C1 V (Proc.devRef .tc main_v85_9) := by
  unfold C2
  generalize C1 V = M at *
  simp only [body1_6]
  after_reads_simp
theorem C3_v85_0 : C3 V (Proc.devRef .tc main_v85_0) = C2 V (Proc.devRef .tc main_v85_0) := by
  unfold C3
  generalize C2 V = M at *
  simp only [body1_7, body1_8, body1_9, body1_10, List.cons_append, List.nil_append]
  after_reads_simp
theorem C3_v85_1 : C3 V (Proc.devRef .tc main_v85_1) = C2 V (Proc.devRef .tc main_v85_1) := by
  unfold C3
  generalize C2 V = M at *
  simp only [body1_7, body1_8, body1_9, body1_10, List.cons_append, List.nil_append]
  after_reads_simp
theorem C3_v85_2 : C3 V (Proc.devRef .tc main_v85_2) = C2 V (Proc.devRef .tc main_v85_2) := by
  unfold C3
  generalize C2 V = M at *
  simp only [body1_7, body1_8, body1_9, body1_10, List.cons_append, List.nil_append]
  after_reads_simp
theorem C3_v85_3 : C3 V (Proc.devRef .tc main_v85_3) = C2 V (Proc.devRef .tc main_v85_3) := by
  unfold C3
  generalize C2 V = M at *
  simp only [body1_7, body1_8, body1_9, body1_10, List.cons_append, List.nil_append]
  after_reads_simp
theorem C3_v85_4 : C3 V (Proc.devRef .tc main_v85_4) = C2 V (Proc.devRef .tc main_v85_4) := by
  unfold C3
  generalize C2 V = M at *
  simp only [body1_7, body1_8, body1_9, body1_10, List.cons_append, List.nil_append]
  after_reads_simp
theorem C1_v117 : C1 V (Proc.devRef .tc main_while1b_v117) = C0 V (Proc.devRef .tc main_while1b_v117) := by
  unfold C1
  generalize C0 V = M at *
  simp only [body1_1, body1_2, body1_3, body1_4, body1_5, List.cons_append, List.nil_append]
  after_reads_simp
theorem C2_v117 : C2 V (Proc.devRef .tc main_while1b_v117) = C1 V (Proc.devRef .tc main_while1b_v117) := by
  unfold C2
  generalize C1 V = M at *
  simp only [body1_6]
  after_reads_simp
set_option maxHeartbeats 1000000 in
theorem C1_v118 (hc : Ctr1 V j) (i : Fin 64) (h : Fin 4) (b : Fin 256) : (C1 V (Proc.devRef .tc main_while1b_v118) : Vec Ideal S64x4x256 .f32) (ix3 i h b)
    = (V (Proc.devRef .tc main_v85_0) : Vec Ideal S64x64x4x256 .f32) (ix4 j i h b) := by
  have hc' := C0_v117 V j hc
  rw [← C0_v85_0 V]
  unfold C1
  generalize C0 V = M at *
  simp only [body1_1, body1_2, body1_3, body1_4, body1_5, List.cons_append, List.nil_append]
  after_reads_simp [unaryIndexed_result_read, indexContents_tref_cons, indexContents_tref_empty]
  simp -implicitDefEqProofs only [StableHlo.TRef.toBuf, StableHlo.TRef.ofBuf, cast_cast, cast_eq]
  rw [Host.dynamicSlice_eq_extractStridedSlice _ _ _ _ _ (fitsC j) (start4 _ j hc')]
  pointwise []
set_option maxHeartbeats 1000000 in
theorem C1_v119 (hc : Ctr1 V j) (h : Fin 4) (a : Fin 128) (b : Fin 256) : (C1 V (Proc.devRef .tc main_while1b_v119) : Vec Ideal S4x128x256 .f32) (ix3 h a b)
    = (V (Proc.devRef .tc main_v85_1) : Vec Ideal S64x4x128x256 .f32) (ix4 j h a b) := by
  have hc' := C0_v117 V j hc
  rw [← C0_v85_1 V]
  unfold C1
  generalize C0 V = M at *
  simp only [body1_1, body1_2, body1_3, body1_4, body1_5, List.cons_append, List.nil_append]
  after_reads_simp [unaryIndexed_result_read, indexContents_tref_cons, indexContents_tref_empty]
  simp -implicitDefEqProofs only [StableHlo.TRef.toBuf, StableHlo.TRef.ofBuf, cast_cast, cast_eq]
  rw [Host.dynamicSlice_eq_extractStridedSlice _ _ _ _ _ (fitsB j) (start4 _ j hc')]
  pointwise []
set_option maxHeartbeats 1000000 in
theorem C1_v120 (hc : Ctr1 V j) (h : Fin 4) (a : Fin 128) : (C1 V (Proc.devRef .tc main_while1b_v120) : Vec Ideal S4x128x1 .f32) (ix3 h a 0)
    = (V (Proc.devRef .tc main_v85_2) : Vec Ideal S64x4x128x1 .f32) (ix4 j h a 0) := by
  have hc' := C0_v117 V j hc
  rw [← C0_v85_2 V]
  unfold C1
  generalize C0 V = M at *
  simp only [body1_1, body1_2, body1_3, body1_4, body1_5, List.cons_append, List.nil_append]
  after_reads_simp [unaryIndexed_result_read, indexContents_tref_cons, indexContents_tref_empty]
  simp -implicitDefEqProofs only [StableHlo.TRef.toBuf, StableHlo.TRef.ofBuf, cast_cast, cast_eq]
  rw [Host.dynamicSlice_eq_extractStridedSlice _ _ _ _ _ (fitsE j) (start4 _ j hc')]
  pointwise []
set_option maxHeartbeats 1000000 in
theorem C1_v121 (hc : Ctr1 V j) (i : Fin 64) (h : Fin 4) (a : Fin 128) : (C1 V (Proc.devRef .tc main_while1b_v121) : Vec Ideal S64x4x128 .f32) (ix3 i h a)
    = (V (Proc.devRef .tc main_v85_3) : Vec Ideal S64x64x4x128 .f32) (ix4 j i h a) := by
  have hc' := C0_v117 V j hc
  rw [← C0_v85_3 V]
  unfold C1
  generalize C0 V = M at *
  simp only [body1_1, body1_2, body1_3, body1_4, body1_5, List.cons_append, List.nil_append]
  after_reads_simp [unaryIndexed_result_read, indexContents_tref_cons, indexContents_tref_empty]
  simp -implicitDefEqProofs only [StableHlo.TRef.toBuf, StableHlo.TRef.ofBuf, cast_cast, cast_eq]
  rw [Host.dynamicSlice_eq_extractStridedSlice _ _ _ _ _ (fitsD j) (start4 _ j hc')]
  pointwise []
set_option maxHeartbeats 1000000 in
theorem C1_v122 (hc : Ctr1 V j) (h : Fin 4) (a : Fin 128) (b : Fin 256) : (C1 V (Proc.devRef .tc main_while1b_v122) : Vec Ideal S4x128x256 .f32) (ix3 h a b)
    = (V (Proc.devRef .tc main_v85_4) : Vec Ideal S64x4x128x256 .f32) (ix4 j h a b) := by
  have hc' := C0_v117 V j hc
  rw [← C0_v85_4 V]
  unfold C1
  generalize C0 V = M at *
  simp only [body1_1, body1_2, body1_3, body1_4, body1_5, List.cons_append, List.nil_append]
  after_reads_simp [unaryIndexed_result_read, indexContents_tref_cons, indexContents_tref_empty]
  simp -implicitDefEqProofs only [StableHlo.TRef.toBuf, StableHlo.TRef.ofBuf, cast_cast, cast_eq]
  rw [Host.dynamicSlice_eq_extractStridedSlice _ _ _ _ _ (fitsB j) (start4 _ j hc')]
  pointwise []
set_option maxHeartbeats 1000000 in
theorem C3_v85_7 (hc : Ctr1 V j) (n : Fin 64) (h : Fin 4) (a : Fin 128) : (C3 V (Proc.devRef .tc main_v85_7) : Vec Ideal S64x4x128 .f32) (ix3 n h a)
    = if n = j then (C2 V (Proc.devRef .tc main_while1b_v134) : Vec Ideal S4x128 .f32) (ix2 h a) else (V (Proc.devRef .tc main_v85_7) : Vec Ideal S64x4x128 .f32) (ix3 n h a) := by
  have hc' := (C2_v117 V).trans ((C1_v117 V).trans (C0_v117 V j hc))
  have hr := (C2_v85_7 V).trans ((C1_v85_7 V).trans (C0_v85_7 V))
  rw [← hr]
  unfold C3
  generalize C2 V = M at *
  simp only [body1_7, body1_8, body1_9, body1_10, List.cons_append, List.nil_append]
  after_reads_simp [binaryIndexed_result_read, indexContents_tref_cons, indexContents_tref_empty]
  simp -implicitDefEqProofs only [StableHlo.TRef.toBuf, StableHlo.TRef.ofBuf, cast_cast, cast_eq, id]
  rw [WordCmp.dynamicUpdateSlice_eq_update _ _ _ _ _ (fitsA j) (start3 _ j hc')]
  pointwise []
  rw [part_iff]
set_option maxHeartbeats 1000000 in
theorem C3_v85_8 (hc : Ctr1 V j) (n : Fin 64) (h : Fin 4) (a : Fin 128) (b : Fin 256) : (C3 V (Proc.devRef .tc main_v85_8) : Vec Ideal S64x4x128x256 .f32) (ix4 n h a b)
    = if n = j then (C2 V (Proc.devRef .tc main_while1b_v128) : Vec Ideal S4x128x256 .f32) (ix3 h a b) else (V (Proc.devRef .tc main_v85_8) : Vec Ideal S64x4x128x256 .f32) (ix4 n h a b) := by
  have hc' := (C2_v117 V).trans ((C1_v117 V).trans (C0_v117 V j hc))
  have hr := (C2_v85_8 V).trans ((C1_v85_8 V).trans (C0_v85_8 V))
  rw [← hr]
  unfold C3
  generalize C2 V = M at *
  simp only [body1_7, body1_8, body1_9, body1_10, List.cons_append, List.nil_append]
  after_reads_simp [binaryIndexed_result_read, indexContents_tref_cons, indexContents_tref_empty]
  simp -implicitDefEqProofs only [StableHlo.TRef.toBuf, StableHlo.TRef.ofBuf, cast_cast, cast_eq, id]
  rw [WordCmp.dynamicUpdateSlice_eq_update _ _ _ _ _ (fitsB j) (start4 _ j hc')]
  pointwise []
  rw [part_iff]
set_option maxHeartbeats 1000000 in
theorem C3_v85_9 (hc : Ctr1 V j) (n : Fin 64) (i : Fin 64) (h : Fin 4) (a : Fin 128) : (C3 V (Proc.devRef .tc main_v85_9) : Vec Ideal S64x64x4x128 .f32) (ix4 n i h a)
    = if n = j then (C2 V (Proc.devRef .tc main_while1b_v125) : Vec Ideal S64x4x128 .f32) (ix3 i h a) else (V (Proc.devRef .tc main_v85_9) : Vec Ideal S64x64x4x128 .f32) (ix4 n i h a) := by
  have hc' := (C2_v117 V).trans ((C1_v117 V).trans (C0_v117 V j hc))
  have hr := (C2_v85_9 V).trans ((C1_v85_9 V).trans (C0_v85_9 V))
  rw [← hr]
  unfold C3
  generalize C2 V = M at *
  simp only [body1_7, body1_8, body1_9, body1_10, List.cons_append, List.nil_append]
  after_reads_simp [binaryIndexed_result_read, indexContents_tref_cons, indexContents_tref_empty]
  simp -implicitDefEqProofs only [StableHlo.TRef.toBuf, StableHlo.TRef.ofBuf, cast_cast, cast_eq, id]
  rw [WordCmp.dynamicUpdateSlice_eq_update _ _ _ _ _ (fitsD j) (start4 _ j hc')]
  pointwise []
  rw [part_iff]
theorem C3_v85_6 : C3 V (Proc.devRef .tc main_v85_6) = C2 V (Proc.devRef .tc main_while1b_v130) := by
  unfold C3
  generalize C2 V = M at *
  simp only [body1_7, body1_8, body1_9, body1_10, List.cons_append, List.nil_append]
  after_reads_simp
  rfl
/-- The gradient of the recurrence's output, not scaled. -/
def dou (D : Inp) (n h i b : Nat) : ℝ :=
  D.ri n h i * (D.dn n h i b * D.g b)
    - D.o n h i b * (D.ri n h i * D.ri n h i * D.ri n h i) * ((∑ b' : Fin 256, D.dn n h i b' * D.g b' * D.o n h i b') / 256)
/-- The gradient of the scaled queries. -/
def dqu (D : Inp) (n h i a : Nat) : ℝ := ∑ b : Fin 256, dou D n h i b * D.S (n + 1) h b a
/-- What the loop has done after `k` trips. -/
structure Inv1 (D : Inp) (k : Nat) : Prop where
  dout : Is4 (V (Proc.devRef .tc main_v85_0) : Vec Ideal S64x64x4x256 .f32) (fun n i h b => dou D n h i b)
  before : Is4 (V (Proc.devRef .tc main_v85_1) : Vec Ideal S64x4x128x256 .f32) (fun n h a b => D.S n h b a)
  decay : ∀ (n : Fin 64) (h : Fin 4) (a : Fin 128), (V (Proc.devRef .tc main_v85_2) : Vec Ideal S64x4x128x1 .f32) (ix4 n h a 0) = ((D.dec n h a : ℝ) : EReal)
  q : Is4 (V (Proc.devRef .tc main_v85_3) : Vec Ideal S64x64x4x128 .f32) (fun n i h a => D.Q n h i a * sc)
  after : Is4 (V (Proc.devRef .tc main_v85_4) : Vec Ideal S64x4x128x256 .f32) (fun n h a b => D.S (n + 1) h b a)
  st : Is3 (V (Proc.devRef .tc main_v85_6) : Vec Ideal S4x128x256 .f32) (fun h a b => D.car k h b a)
  ddec : ∀ n : Fin 64, 64 ≤ n.val + k → ∀ (h : Fin 4) (a : Fin 128), (V (Proc.devRef .tc main_v85_7) : Vec Ideal S64x4x128 .f32) (ix3 n h a) = ((D.ddec n h a : ℝ) : EReal)
  dS : ∀ n : Fin 64, 64 ≤ n.val + k → ∀ (h : Fin 4) (a : Fin 128) (b : Fin 256), (V (Proc.devRef .tc main_v85_8) : Vec Ideal S64x4x128x256 .f32) (ix4 n h a b) = ((D.dS n h b a : ℝ) : EReal)
  dq : ∀ n : Fin 64, 64 ≤ n.val + k → ∀ (i : Fin 64) (h : Fin 4) (a : Fin 128), (V (Proc.devRef .tc main_v85_9) : Vec Ideal S64x64x4x128 .f32) (ix4 n i h a) = ((dqu D n h i a : ℝ) : EReal)
variable {V} {j} {D : Inp}
theorem car_add (D : Inp) (n h b a : Nat) : D.car (63 - n) h b a + ∑ i : Fin 64, dou D n h i b * (D.Q n h i a * sc) = D.dS n h b a := by
  unfold Inp.dS Inp.ds1
  congr 1
  exact Finset.sum_congr rfl fun i _ => by show _ = dou D n h i b * sc * _; ring
theorem car_next (D : Inp) (n : Fin 64) (h b a : Nat) : D.dec n h a * D.dS n h b a = D.car (63 - n.val + 1) h b a := by
  rw [Inp.car, show 63 - (63 - n.val) = n.val from by omega]
  rfl
/-- The gradient of the state after the chunk. -/
theorem C2_v128 (hc : Ctr1 V j) (I : Inv1 V D (63 - j.val)) : Is3 (C2 V (Proc.devRef .tc main_while1b_v128) : Vec Ideal S4x128x256 .f32) (fun h a b => D.dS j h b a) := by
  intro h a b
  have h0 : ∀ n i h b, _ = _ := I.dout
  have h3 : ∀ n i h a, _ = _ := I.q
  have hs : ∀ h a b, _ = _ := I.st
  have h118 := C1_v118 V j hc
  have h121 := C1_v121 V j hc
  have h6 := (C1_v85_6 V).trans (C0_v85_6 V)
  unfold C2
  generalize C1 V = M at *
  simp only [body1_6]
  after_reads_at
  simp only [h118, h121, h6, h0, h3, hs, ← EReal.coe_mul, sum_coe, ← EReal.coe_add, car_add]
/-- The gradient carried to the chunk before. -/
theorem C2_v130 (hc : Ctr1 V j) (I : Inv1 V D (63 - j.val)) : Is3 (C2 V (Proc.devRef .tc main_while1b_v130) : Vec Ideal S4x128x256 .f32) (fun h a b => D.car (63 - j.val + 1) h b a) := by
  intro h a b
  have h0 : ∀ n i h b, _ = _ := I.dout
  have h3 : ∀ n i h a, _ = _ := I.q
  have h2 := I.decay
  have hs : ∀ h a b, _ = _ := I.st
  have h118 := C1_v118 V j hc
  have h120 := C1_v120 V j hc
  have h121 := C1_v121 V j hc
  have h6 := (C1_v85_6 V).trans (C0_v85_6 V)
  unfold C2
  generalize C1 V = M at *
  simp only [body1_6]
  after_reads_at
  simp only [h118, h120, h121, h6, h0, h2, h3, hs, ← EReal.coe_mul, sum_coe, ← EReal.coe_add, car_add, car_next]
/-- The gradient of the chunk's decay. -/
theorem C2_v134 (hc : Ctr1 V j) (I : Inv1 V D (63 - j.val)) : Is2 (C2 V (Proc.devRef .tc main_while1b_v134) : Vec Ideal S4x128 .f32) (fun h a => D.ddec j h a) := by
  intro h a
  have h0 : ∀ n i h b, _ = _ := I.dout
  have h1 : ∀ n h a b, _ = _ := I.before
  have h3 : ∀ n i h a, _ = _ := I.q
  have hs : ∀ h a b, _ = _ := I.st
  have h118 := C1_v118 V j hc
  have h119 := C1_v119 V j hc
  have h121 := C1_v121 V j hc
  have h6 := (C1_v85_6 V).trans (C0_v85_6 V)
  unfold C2
  generalize C1 V = M at *
  simp only [body1_6]
  after_reads_at
  simp only [h118, h119, h121, h6, h0, h1, h3, hs, ← EReal.coe_mul, sum_coe, ← EReal.coe_add, car_add]
  exact congrArg (fun x : ℝ => (x : EReal)) (Fin.sum_univ_one _)
/-- The gradient of the chunk's scaled queries. -/
theorem C2_v125 (hc : Ctr1 V j) (I : Inv1 V D (63 - j.val)) : Is3 (C2 V (Proc.devRef .tc main_while1b_v125) : Vec Ideal S64x4x128 .f32) (fun i h a => dqu D j h i a) := by
  intro i h a
  have h0 : ∀ n i h b, _ = _ := I.dout
  have h4 : ∀ n h a b, _ = _ := I.after
  have h118 := C1_v118 V j hc
  have h122 := C1_v122 V j hc
  unfold C2
  generalize C1 V = M at *
  simp only [body1_6]
  after_reads_at
  simp only [h118, h122, h0, h4, ← EReal.coe_mul, sum_coe]
  rfl
/-- One more trip. -/
theorem Inv1.step (hc : Ctr1 V j) (I : Inv1 V D (63 - j.val)) : Inv1 (C3 V) D (63 - j.val + 1) where
  dout := by rw [(C3_v85_0 V).trans ((C2_v85_0 V).trans ((C1_v85_0 V).trans (C0_v85_0 V)))]; exact I.dout
  before := by rw [(C3_v85_1 V).trans ((C2_v85_1 V).trans ((C1_v85_1 V).trans (C0_v85_1 V)))]; exact I.before
  decay := by rw [(C3_v85_2 V).trans ((C2_v85_2 V).trans ((C1_v85_2 V).trans (C0_v85_2 V)))]; exact I.decay
  q := by rw [(C3_v85_3 V).trans ((C2_v85_3 V).trans ((C1_v85_3 V).trans (C0_v85_3 V)))]; exact I.q
  after := by rw [(C3_v85_4 V).trans ((C2_v85_4 V).trans ((C1_v85_4 V).trans (C0_v85_4 V)))]; exact I.after
  st := by rw [C3_v85_6 V]; exact C2_v130 hc I
  ddec := fun n hn h a => by
    rw [C3_v85_7 V j hc]
    by_cases e : n = j
    · rw [if_pos e, e]; exact C2_v134 hc I h a
    · rw [if_neg e]; exact I.ddec n (by have := Fin.val_ne_of_ne e; omega) h a
  dS := fun n hn h a b => by
    rw [C3_v85_8 V j hc]
    by_cases e : n = j
    · rw [if_pos e, e]; exact C2_v128 hc I h a b
    · rw [if_neg e]; exact I.dS n (by have := Fin.val_ne_of_ne e; omega) h a b
  dq := fun n hn i h a => by
    rw [C3_v85_9 V j hc]
    by_cases e : n = j
    · rw [if_pos e, e]; exact C2_v125 hc I i h a
    · rw [if_neg e]; exact I.dq n (by have := Fin.val_ne_of_ne e; omega) i h a
/-- The condition's operations touch nothing of it. -/
theorem Inv1.cond {m : Nat} (I : Inv1 V D m) : Inv1 (StableHlo.after cond1 V) D m where
  dout := by
    rw [show StableHlo.after cond1 V (Proc.devRef .tc main_v85_0) = V (Proc.devRef .tc main_v85_0) from by simp only [cond1]; after_reads_simp]
    exact I.dout
  before := by
    rw [show StableHlo.after cond1 V (Proc.devRef .tc main_v85_1) = V (Proc.devRef .tc main_v85_1) from by simp only [cond1]; after_reads_simp]
    exact I.before
  decay := by
    rw [show StableHlo.after cond1 V (Proc.devRef .tc main_v85_2) = V (Proc.devRef .tc main_v85_2) from by simp only [cond1]; after_reads_simp]
    exact I.decay
  q := by
    rw [show StableHlo.after cond1 V (Proc.devRef .tc main_v85_3) = V (Proc.devRef .tc main_v85_3) from by simp only [cond1]; after_reads_simp]
    exact I.q
  after := by
    rw [show StableHlo.after cond1 V (Proc.devRef .tc main_v85_4) = V (Proc.devRef .tc main_v85_4) from by simp only [cond1]; after_reads_simp]
    exact I.after
  st := by
    rw [show StableHlo.after cond1 V (Proc.devRef .tc main_v85_6) = V (Proc.devRef .tc main_v85_6) from by simp only [cond1]; after_reads_simp]
    exact I.st
  ddec := by
    rw [show StableHlo.after cond1 V (Proc.devRef .tc main_v85_7) = V (Proc.devRef .tc main_v85_7) from by simp only [cond1]; after_reads_simp]
    exact I.ddec
  dS := by
    rw [show StableHlo.after cond1 V (Proc.devRef .tc main_v85_8) = V (Proc.devRef .tc main_v85_8) from by simp only [cond1]; after_reads_simp]
    exact I.dS
  dq := by
    rw [show StableHlo.after cond1 V (Proc.devRef .tc main_v85_9) = V (Proc.devRef .tc main_v85_9) from by simp only [cond1]; after_reads_simp]
    exact I.dq
/-- After all the trips. -/
theorem inv1 (W : Dev nD → Valuation τ sig (Elt Ideal)) (hW : ∀ c, W c (Proc.devRef .tc main_v85_5) = fun _ => 0#32) (c : Dev nD)
    (I : Inv1 (W c) D 0) : ∀ k : Nat, k ≤ 64 → Inv1 (StableHlo.atTrip cond1 body1I W k c) D k := by
  intro k
  induction k with
  | zero => exact fun _ => I
  | succ k ih =>
      intro hk
      have e : StableHlo.atTrip cond1 body1I W (k + 1) c = C3 (StableHlo.atTrip cond1 body1I W k c) :=
        (funext fun x => rfl : StableHlo.atTrip cond1 body1I W (k + 1) c = StableHlo.afterL body1I (StableHlo.after cond1 (StableHlo.atTrip cond1 body1I W k c))).trans (C3_eq _)
      rw [e]
      have ek : 63 - (63 - k) = k := by omega
      have hc := ctr1 W hW c k
      have I' := ih (by omega)
      have := Inv1.step (V := StableHlo.atTrip cond1 body1I W k c) (D := D) (j := ⟨63 - k, by omega⟩)
      simp only [ek] at this
      exact this (hc.trans (by simp only [ek])) I'
end Cert.ReferenceIdeal.Val
end
-- ==== Proof.RefMid.lean ====
module
public import proofs.«01_k».proof.Proof.RefLoop1
@[expose] public section
/-! # The reference between its loops: the norm, the output gate and their gradients -/
set_option maxRecDepth 16384
noncomputable section
namespace Cert.ReferenceIdeal.Val
open Cert.ReferenceIdeal Cert.ReferenceIdeal.Gen Cert.ReferenceIdeal.Run Idealize.ShloMosaic Idealize.ShloMosaic.TcCoe Idealize.SL.Sem Cert.RealVal Cert.Spec
open StableHlo (afterL_cons afterL_nil after_append)
variable (V : Valuation τ sig (Elt Ideal))
/-- The sigmoid, as the reference computes it. -/
theorem sg_host (x : ℝ) : Ideal.div 1 (1 + Ideal.exp (-((x : ℝ) : EReal))) = ((sg x : ℝ) : EReal) := by
  rw [c_one, ← EReal.coe_neg, exp_coe, ← EReal.coe_add, div_coe _ (by positivity), one_div]
  rfl
/-- The indices a sum over the first two of three axes ranges over. -/
theorem fiber01 {m n p : Nat} (h : (⟨3, ![m, n, p]⟩ : Shape).ReducesTo [0, 1] ⟨1, ![p]⟩) (j : (⟨1, ![p]⟩ : Shape).Idx) (i : (⟨3, ![m, n, p]⟩ : Shape).Idx) :
    h.drop i = j ↔ ∃ k : Fin m × Fin n, (ix3 k.1 k.2 (j 0) : (⟨3, ![m, n, p]⟩ : Shape).Idx) = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl
/-- A sum over the first two of three axes. -/
theorem sum01 {m n p : Nat} {u : Shape} (x : FVec Ideal (⟨3, ![m, n, p]⟩ : Shape) .f32) (init : FVec Ideal u .f32)
    (h : (⟨3, ![m, n, p]⟩ : Shape).ReducesTo [0, 1] ⟨1, ![p]⟩) (hu) :
    Host.reduceAdd x init h hu = fun j : (⟨1, ![p]⟩ : Shape).Idx => init (Shape.Idx.first hu) + ∑ k0 : Fin m, ∑ k1 : Fin n, x (ix3 k0 k1 (j 0)) := by
  funext j
  refine congrArg (init (Shape.Idx.first hu) + ·) ((Finset.sum_filter_eq_sum_of_fiber _ (fun k : Fin m × Fin n => (ix3 k.1 k.2 (j 0) : (⟨3, ![m, n, p]⟩ : Shape).Idx))
    (fun _ _ e => Prod.ext (congrFun e 0) (congrFun e 1)) (fiber01 h j) x).trans ?_)
  simp only [Fintype.sum_prod_type]
/-- The rows, chunk by chunk. -/
theorem sum_rows (f : Nat → ℝ) : ∑ t : Fin 4096, f t.val = ∑ n : Fin 64, ∑ i : Fin 64, f (64 * n.val + i.val) := by
  rw [← Fintype.sum_prod_type', ← (finProdFinEquiv (m := 64) (n := 64)).sum_comp]
  exact Finset.sum_congr rfl fun x _ => congrArg f (by show x.2.val + 64 * x.1.val = _; omega)
/-- The buffers once the norm and the gate's derivative are there. -/
def E1 : Valuation τ sig (Elt Ideal) := StableHlo.after (mid0 ++ mid1 ++ mid2 ++ mid3) V
/-- The buffers before the second loop. -/
def E2 : Valuation τ sig (Elt Ideal) := StableHlo.after mid4 (E1 V)
theorem E2_eq : StableHlo.afterL midI V = E2 V := by
  unfold E2 E1
  simp only [afterL_cons, afterL_nil, after_append]
/-- What the norm reads. -/
structure MidIn (D : Inp) : Prop where
  o : Is4 (V (Proc.devRef .tc main_v33_5) : Vec Ideal S64x64x4x256 .f32) (fun n i h b => D.o n h i b)
  r : Is2 (V (Proc.devRef .tc main_v3) : Vec Ideal S4096x1024 .f32) (fun r c => D.r r c)
  dy : Is2 (V (Proc.devRef .tc main_v5) : Vec Ideal S4096x1024 .f32) (fun r c => D.dy r c)
  g : ∀ c : Fin 256, (V (Proc.devRef .tc main_arg7) : Vec Ideal S1x256 .f32) (ix2 0 c) = ((D.g c : ℝ) : EReal)
variable {V} {D : Inp}
/-- A row's mean square, offset. -/
def ms (D : Inp) (n h i : Nat) : ℝ := (∑ b : Fin 256, D.o n h i b * D.o n h i b) / 256 + eps
theorem ms_pos (D : Inp) (n h i : Nat) : 0 < ms D n h i := by
  have := eps_pos
  have : 0 ≤ (∑ b : Fin 256, D.o n h i b * D.o n h i b) := Finset.sum_nonneg fun b _ => mul_self_nonneg _
  unfold ms
  positivity
/-- The mean square, as the reference computes it. -/
theorem ms_host (D : Inp) (n h i : Nat) : Ideal.div ((∑ b : Fin 256, D.o n h i b * D.o n h i b : ℝ) : EReal) (Ideal.ofBits .f32 0x43800000#32)
    + Ideal.ofBits .f32 0x358637BD#32 = ((ms D n h i : ℝ) : EReal) := by
  rw [c_256, div_coe _ (by norm_num), c_eps, ← EReal.coe_add]
  rfl
theorem ri_host (D : Inp) (n h i : Nat) : Ideal.rsqrt ((ms D n h i : ℝ) : EReal) = ((D.ri n h i : ℝ) : EReal) := by
  rw [rsqrt_coe (ms_pos D n h i)]
  rfl
theorem ri_ms (D : Inp) (n h i : Nat) : D.ri n h i / ms D n h i = D.ri n h i * D.ri n h i * D.ri n h i := by
  have e : D.ri n h i * D.ri n h i * ms D n h i = 1 := by
    show (Real.sqrt (ms D n h i))⁻¹ * (Real.sqrt (ms D n h i))⁻¹ * ms D n h i = 1
    rw [← mul_inv, Real.mul_self_sqrt (ms_pos D n h i).le, inv_mul_cancel₀ (ms_pos D n h i).ne']
  rw [div_eq_iff (ms_pos D n h i).ne']
  calc D.ri n h i = D.ri n h i * (D.ri n h i * D.ri n h i * ms D n h i) := by rw [e, mul_one]
    _ = _ := by ring
set_option maxHeartbeats 1000000 in
theorem E1_v34 (I : MidIn V D) (t : Fin 4096) (h : Fin 4) (b : Fin 256) : (E1 V (Proc.devRef .tc main_v34) : Vec Ideal S4096x4x256 .f32) (ix3 t h b) = ((D.o (t / 64) h (t % 64) b : ℝ) : EReal) := by
  have hO : ∀ n i h b, _ = _ := I.o
  have hR : ∀ r c, _ = _ := I.r
  have hY : ∀ r c, _ = _ := I.dy
  have hG := I.g
  unfold E1
  simp only [mid0, mid1, mid2, mid3, List.cons_append, List.nil_append]
  after_reads_at
  simp only [hO, hR, hY, hG, ← EReal.coe_mul, ← EReal.coe_add, sum_coe]
set_option maxHeartbeats 1000000 in
theorem E1_v37 (I : MidIn V D) (t : Fin 4096) (h : Fin 4) (b : Fin 256) : (E1 V (Proc.devRef .tc main_v37) : Vec Ideal S4096x4x256 .f32) (ix3 t h b) = ((2 * D.o (t / 64) h (t % 64) b : ℝ) : EReal) := by
  have hO : ∀ n i h b, _ = _ := I.o
  have hR : ∀ r c, _ = _ := I.r
  have hY : ∀ r c, _ = _ := I.dy
  have hG := I.g
  unfold E1
  simp only [mid0, mid1, mid2, mid3, List.cons_append, List.nil_append]
  after_reads_at
  simp only [hO, hR, hY, hG, ← EReal.coe_mul, ← EReal.coe_add, sum_coe]
  rw [c_two, ← EReal.coe_mul]
set_option maxHeartbeats 1000000 in
theorem E1_v44 (I : MidIn V D) (t : Fin 4096) (h : Fin 4) : (E1 V (Proc.devRef .tc main_v44) : Vec Ideal S4096x4x1 .f32) (ix3 t h 0) = ((D.ri (t / 64) h (t % 64) : ℝ) : EReal) := by
  have hO : ∀ n i h b, _ = _ := I.o
  have hR : ∀ r c, _ = _ := I.r
  have hY : ∀ r c, _ = _ := I.dy
  have hG := I.g
  unfold E1
  simp only [mid0, mid1, mid2, mid3, List.cons_append, List.nil_append]
  after_reads_at
  simp only [hO, hR, hY, hG, ← EReal.coe_mul, ← EReal.coe_add, sum_coe]
  rw [ms_host, ri_host]
set_option maxHeartbeats 1000000 in
theorem E1_v47 (I : MidIn V D) (t : Fin 4096) (h : Fin 4) (x : Fin 1) : (E1 V (Proc.devRef .tc main_v47) : Vec Ideal S4096x4x1 .f32) (ix3 t h x) = ((-(1 / 2) * (D.ri (t / 64) h (t % 64) / ms D (t / 64) h (t % 64)) : ℝ) : EReal) := by
  have hO : ∀ n i h b, _ = _ := I.o
  have hR : ∀ r c, _ = _ := I.r
  have hY : ∀ r c, _ = _ := I.dy
  have hG := I.g
  unfold E1
  simp only [mid0, mid1, mid2, mid3, List.cons_append, List.nil_append]
  after_reads_at
  simp only [hO, hR, hY, hG, ← EReal.coe_mul, ← EReal.coe_add, sum_coe]
  rw [ms_host, ri_host, c_nhalf, div_coe _ (ms_pos D _ _ _).ne', ← EReal.coe_mul]
set_option maxHeartbeats 1000000 in
theorem E1_v49 (I : MidIn V D) (t : Fin 4096) (h : Fin 4) (b : Fin 256) : (E1 V (Proc.devRef .tc main_v49) : Vec Ideal S4096x4x256 .f32) (ix3 t h b) = ((D.o (t / 64) h (t % 64) b * D.ri (t / 64) h (t % 64) : ℝ) : EReal) := by
  have hO : ∀ n i h b, _ = _ := I.o
  have hR : ∀ r c, _ = _ := I.r
  have hY : ∀ r c, _ = _ := I.dy
  have hG := I.g
  unfold E1
  simp only [mid0, mid1, mid2, mid3, List.cons_append, List.nil_append]
  after_reads_at
  simp only [hO, hR, hY, hG, ← EReal.coe_mul, ← EReal.coe_add, sum_coe]
  rw [ms_host, ri_host, ← EReal.coe_mul]
set_option maxHeartbeats 1000000 in
theorem E1_v50 (I : MidIn V D) (b : Fin 256) : (E1 V (Proc.devRef .tc main_v50) : Vec Ideal S1x1x256 .f32) (ix3 0 0 b) = ((D.g b : ℝ) : EReal) := by
  have hO : ∀ n i h b, _ = _ := I.o
  have hR : ∀ r c, _ = _ := I.r
  have hY : ∀ r c, _ = _ := I.dy
  have hG := I.g
  unfold E1
  simp only [mid0, mid1, mid2, mid3, List.cons_append, List.nil_append]
  after_reads_at
  simp only [hO, hR, hY, hG, ← EReal.coe_mul, ← EReal.coe_add, sum_coe]
set_option maxHeartbeats 1000000 in
theorem E1_v58 (I : MidIn V D) (t : Fin 4096) (c : Fin 1024) : (E1 V (Proc.devRef .tc main_v58) : Vec Ideal S4096x1024 .f32) (ix2 t c) = ((D.dy t c * (D.r t c * sg (D.r t c)) : ℝ) : EReal) := by
  have hO : ∀ n i h b, _ = _ := I.o
  have hR : ∀ r c, _ = _ := I.r
  have hY : ∀ r c, _ = _ := I.dy
  have hG := I.g
  unfold E1
  simp only [mid0, mid1, mid2, mid3, List.cons_append, List.nil_append]
  after_reads_at
  simp only [hO, hR, hY, hG, ← EReal.coe_mul, ← EReal.coe_add, sum_coe]
  rw [sg_host, ← EReal.coe_mul, ← EReal.coe_mul]
set_option maxHeartbeats 1000000 in
theorem E1_v59 (I : MidIn V D) (t : Fin 4096) (c : Fin 1024) : (E1 V (Proc.devRef .tc main_v59) : Vec Ideal S4096x1024 .f32) (ix2 t c) = ((D.dr (t / 64) (c / 256) (t % 64) (c % 256) : ℝ) : EReal) := by
  have hO : ∀ n i h b, _ = _ := I.o
  have hR : ∀ r c, _ = _ := I.r
  have hY : ∀ r c, _ = _ := I.dy
  have hG := I.g
  unfold E1
  simp only [mid0, mid1, mid2, mid3, List.cons_append, List.nil_append]
  after_reads_at
  simp only [hO, hR, hY, hG, ← EReal.coe_mul, ← EReal.coe_add, sum_coe]
  rw [ms_host, ri_host, sg_host, c_one]
  simp only [← EReal.coe_mul, ← EReal.coe_sub, ← EReal.coe_add]
  unfold Inp.dr Inp.DY Inp.R
  have e1 : 64 * (t.val / 64) + t.val % 64 = t.val := Nat.div_add_mod _ _
  have e2 : 256 * (c.val / 256) + c.val % 256 = c.val := Nat.div_add_mod _ _
  rw [e1, e2]
  congr 1
  ring
set_option maxHeartbeats 1000000 in
theorem E2_v80 (I : MidIn V D) : Is4 (E2 V (Proc.devRef .tc main_v80) : Vec Ideal S64x64x4x256 .f32) (fun n i h b => dou D n h i b) := by
  intro n i h b
  have h34 := E1_v34 I
  have h37 := E1_v37 I
  have h44 := E1_v44 I
  have h47 := E1_v47 I
  have h49 := E1_v49 I
  have h50 := E1_v50 I
  have h58 := E1_v58 I
  unfold E2
  generalize E1 V = M at *
  simp only [mid4]
  after_reads_at
  simp only [h34, h37, h44, h47, h49, h50, h58, ← EReal.coe_mul, ← EReal.coe_add, sum_coe, c_256, div_coe _ (show (256 : ℝ) ≠ 0 by norm_num)]
  refine congrArg (fun x : ℝ => (x : EReal)) ?_
  rw [Fin.sum_univ_one, ri_ms]
  have e1 : (n.val * 64 + i.val) / 64 = n.val := by have := i.isLt; omega
  have e2 : (n.val * 64 + i.val) % 64 = i.val := by have := i.isLt; omega
  rw [e1, e2]
  unfold dou Inp.dn Inp.DY Inp.R
  simp only [Nat.mul_comm n.val 64, Nat.mul_comm h.val 256]
  have es : ∀ f g' o' : Fin 256 → ℝ, ∑ k, o' k * (f k * g' k) = ∑ k, f k * g' k * o' k := fun f g' o' => Finset.sum_congr rfl fun k _ => mul_comm _ _
  rw [es]
  ring
set_option maxHeartbeats 1000000 in
theorem E2_v67 (I : MidIn V D) (b : Fin 256) : (E2 V (Proc.devRef .tc main_v67) : Vec Ideal S1x256 .f32) (ix2 0 b) = ((D.dgn b : ℝ) : EReal) := by
  have h34 := E1_v34 I
  have h37 := E1_v37 I
  have h44 := E1_v44 I
  have h47 := E1_v47 I
  have h49 := E1_v49 I
  have h50 := E1_v50 I
  have h58 := E1_v58 I
  unfold E2
  generalize E1 V = M at *
  simp only [mid4]
  after_reads_simp
  simp only [sum01]
  pointwise []
  simp only [h34, h37, h44, h47, h49, h50, h58, ← EReal.coe_mul, ← EReal.coe_add, sum_coe]
  refine congrArg (fun x : ℝ => (x : EReal)) ?_
  refine (Fin.sum_univ_one (fun _ : Fin 1 => ∑ _k : Fin 1, ∑ t : Fin 4096, ∑ h : Fin 4, D.o (t / 64) h (t % 64) b * D.ri (t / 64) h (t % 64) *
    (D.dy t (h * 256 + b) * (D.r t (h * 256 + b) * sg (D.r t (h * 256 + b)))))).trans ?_
  refine (Fin.sum_univ_one (fun _ : Fin 1 => ∑ t : Fin 4096, ∑ h : Fin 4, D.o (t / 64) h (t % 64) b * D.ri (t / 64) h (t % 64) *
    (D.dy t (h * 256 + b) * (D.r t (h * 256 + b) * sg (D.r t (h * 256 + b)))))).trans ?_
  refine (sum_rows (fun t => ∑ h : Fin 4, D.o (t / 64) h (t % 64) b * D.ri (t / 64) h (t % 64) *
    (D.dy t (h * 256 + b) * (D.r t (h * 256 + b) * sg (D.r t (h * 256 + b)))))).trans ?_
  unfold Inp.dgn
  rw [Finset.sum_comm' (s := Finset.univ) (t := fun _ => Finset.univ) (t' := Finset.univ) (s' := fun _ => Finset.univ) (by simp)]
  refine (Finset.sum_congr rfl fun i _ => Finset.sum_comm).trans (Finset.sum_comm.trans ?_)
  refine Finset.sum_congr rfl fun h _ => Finset.sum_comm.trans ?_
  refine Finset.sum_congr rfl fun n _ => Finset.sum_congr rfl fun i _ => ?_
  have e1 : (64 * n.val + i.val) / 64 = n.val := by have := i.isLt; omega
  have e2 : (64 * n.val + i.val) % 64 = i.val := by have := i.isLt; omega
  simp only [e1, e2]
  unfold Inp.dg1 Inp.dn Inp.DY Inp.R
  rw [Nat.mul_comm h.val 256]
  ring
theorem E2_v59 (I : MidIn V D) (t : Fin 4096) (c : Fin 1024) : (E2 V (Proc.devRef .tc main_v59) : Vec Ideal S4096x1024 .f32) (ix2 t c)
    = ((D.dr (t / 64) (c / 256) (t % 64) (c % 256) : ℝ) : EReal) := by
  have h59 := E1_v59 I
  unfold E2
  generalize E1 V = M at *
  simp only [mid4]
  after_reads_simp
  exact h59 t c
theorem E2_v85_0 : E2 V (Proc.devRef .tc main_v85_0) = E2 V (Proc.devRef .tc main_v80) := by
  unfold E2
  generalize E1 V = M at *
  simp only [mid4]
  after_reads_simp
  rfl
theorem E2_v85_1 : E2 V (Proc.devRef .tc main_v85_1) = V (Proc.devRef .tc main_v33_6) := by
  have e : E1 V (Proc.devRef .tc main_v33_6) = V (Proc.devRef .tc main_v33_6) := by
    unfold E1
    simp only [mid0, mid1, mid2, mid3, List.cons_append, List.nil_append]
    after_reads_simp
  rw [← e]
  unfold E2
  generalize E1 V = M at *
  simp only [mid4]
  after_reads_simp
  rfl
theorem E2_v85_2 : E2 V (Proc.devRef .tc main_v85_2) = V (Proc.devRef .tc main_v33_7) := by
  have e : E1 V (Proc.devRef .tc main_v33_7) = V (Proc.devRef .tc main_v33_7) := by
    unfold E1
    simp only [mid0, mid1, mid2, mid3, List.cons_append, List.nil_append]
    after_reads_simp
  rw [← e]
  unfold E2
  generalize E1 V = M at *
  simp only [mid4]
  after_reads_simp
  rfl
theorem E2_v85_3 : E2 V (Proc.devRef .tc main_v85_3) = V (Proc.devRef .tc main_v15) := by
  have e : E1 V (Proc.devRef .tc main_v15) = V (Proc.devRef .tc main_v15) := by
    unfold E1
    simp only [mid0, mid1, mid2, mid3, List.cons_append, List.nil_append]
    after_reads_simp
  rw [← e]
  unfold E2
  generalize E1 V = M at *
  simp only [mid4]
  after_reads_simp
  rfl
theorem E2_v85_4 : E2 V (Proc.devRef .tc main_v85_4) = V (Proc.devRef .tc main_v33_8) := by
  have e : E1 V (Proc.devRef .tc main_v33_8) = V (Proc.devRef .tc main_v33_8) := by
    unfold E1
    simp only [mid0, mid1, mid2, mid3, List.cons_append, List.nil_append]
    after_reads_simp
  rw [← e]
  unfold E2
  generalize E1 V = M at *
  simp only [mid4]
  after_reads_simp
  rfl
theorem E2_v85_6 : Is3 (E2 V (Proc.devRef .tc main_v85_6) : Vec Ideal S4x128x256 .f32) (fun _ _ _ => 0) := by
  intro h a b
  unfold E2
  generalize E1 V = M at *
  simp only [mid4]
  after_reads_at
  show Ideal.ofBits .f32 0x00000000#32 = ((0 : ℝ) : EReal)
  simp [Ideal.ofBits, Ideal.ieee, -EReal.coe_mul]
theorem E2_v9_1 : E2 V (Proc.devRef .tc main_v9_1) = V (Proc.devRef .tc main_v9_1) := by
  have e : E1 V (Proc.devRef .tc main_v9_1) = V (Proc.devRef .tc main_v9_1) := by
    unfold E1
    simp only [mid0, mid1, mid2, mid3, List.cons_append, List.nil_append]
    after_reads_simp
  rw [← e]
  unfold E2
  generalize E1 V = M at *
  simp only [mid4]
  after_reads_simp
theorem E2_v16 : E2 V (Proc.devRef .tc main_v16) = V (Proc.devRef .tc main_v16) := by
  have e : E1 V (Proc.devRef .tc main_v16) = V (Proc.devRef .tc main_v16) := by
    unfold E1
    simp only [mid0, mid1, mid2, mid3, List.cons_append, List.nil_append]
    after_reads_simp
  rw [← e]
  unfold E2
  generalize E1 V = M at *
  simp only [mid4]
  after_reads_simp
theorem E2_v17 : E2 V (Proc.devRef .tc main_v17) = V (Proc.devRef .tc main_v17) := by
  have e : E1 V (Proc.devRef .tc main_v17) = V (Proc.devRef .tc main_v17) := by
    unfold E1
    simp only [mid0, mid1, mid2, mid3, List.cons_append, List.nil_append]
    after_reads_simp
  rw [← e]
  unfold E2
  generalize E1 V = M at *
  simp only [mid4]
  after_reads_simp
theorem E2_v23 : E2 V (Proc.devRef .tc main_v23) = V (Proc.devRef .tc main_v23) := by
  have e : E1 V (Proc.devRef .tc main_v23) = V (Proc.devRef .tc main_v23) := by
    unfold E1
    simp only [mid0, mid1, mid2, mid3, List.cons_append, List.nil_append]
    after_reads_simp
  rw [← e]
  unfold E2
  generalize E1 V = M at *
  simp only [mid4]
  after_reads_simp
theorem E2_v24 : E2 V (Proc.devRef .tc main_v24) = V (Proc.devRef .tc main_v24) := by
  have e : E1 V (Proc.devRef .tc main_v24) = V (Proc.devRef .tc main_v24) := by
    unfold E1
    simp only [mid0, mid1, mid2, mid3, List.cons_append, List.nil_append]
    after_reads_simp
  rw [← e]
  unfold E2
  generalize E1 V = M at *
  simp only [mid4]
  after_reads_simp
theorem E2_v27 : E2 V (Proc.devRef .tc main_v27) = V (Proc.devRef .tc main_v27) := by
  have e : E1 V (Proc.devRef .tc main_v27) = V (Proc.devRef .tc main_v27) := by
    unfold E1
    simp only [mid0, mid1, mid2, mid3, List.cons_append, List.nil_append]
    after_reads_simp
  rw [← e]
  unfold E2
  generalize E1 V = M at *
  simp only [mid4]
  after_reads_simp
end Cert.ReferenceIdeal.Val
end
-- ==== Proof.RefPost.lean ====
module
public import proofs.«01_k».proof.Proof.RefLoop1
public import proofs.«01_k».proof.Proof.WinSum
@[expose] public section
/-! # The reference after its second loop -/
set_option maxRecDepth 16384
noncomputable section
namespace Cert.ReferenceIdeal.Val
open Cert.ReferenceIdeal Cert.ReferenceIdeal.Gen Cert.ReferenceIdeal.Run Idealize.ShloMosaic Idealize.ShloMosaic.TcCoe Idealize.SL.Sem Cert.RealVal Cert.Spec
open StableHlo (afterL_cons afterL_nil after_append)
variable (V : Valuation τ sig (Elt Ideal))
/-- The buffers once the gradients of the values and keys are there. -/
def F1 : Valuation τ sig (Elt Ideal) := StableHlo.after post0 V
/-- The buffers once the gradient of the decay's exponent is summed. -/
def F2 : Valuation τ sig (Elt Ideal) := StableHlo.after post1 (F1 V)
/-- The buffers at the end. -/
def F3 : Valuation τ sig (Elt Ideal) := StableHlo.after (post2 ++ post3 ++ post4) (F2 V)
theorem F3_eq : StableHlo.afterL postI V = F3 V := by
  unfold F3 F2 F1
  simp only [afterL_cons, afterL_nil, after_append]
/-- The sum from a row on, the last row holding the whole sum besides, is the sum before the row. -/
theorem suffix_fold (e : Nat → ℝ) (z : ℝ) (i : Fin 64) :
    (∑ i' : Fin 64, if i.val ≤ i'.val then -e i' + (if i'.val = 63 then z + ∑ i'' : Fin 64, e i'' else 0) else 0)
      = (∑ i' : Fin 64, if i'.val < i.val then e i' else 0) + z := by
  have h1 : ∀ i' : Fin 64, (if i.val ≤ i'.val then -e i' + (if i'.val = 63 then z + ∑ i'' : Fin 64, e i'' else 0) else 0)
      = ((if i'.val < i.val then e i' else 0) - e i') + (if i' = 63 then z + ∑ i'' : Fin 64, e i'' else 0) := by
    intro i'
    have e63 : (i' = 63) ↔ i'.val = 63 := Fin.ext_iff
    have := i.isLt
    simp only [e63]
    by_cases hl : i'.val < i.val
    · rw [if_neg (by omega), if_pos hl, if_neg (by omega)]; ring
    · rw [if_pos (by omega), if_neg hl]; ring
  rw [Finset.sum_congr rfl fun i' _ => h1 i', Finset.sum_add_distrib, Finset.sum_sub_distrib, Finset.sum_ite_eq' Finset.univ (63 : Fin 64)]
  simp only [Finset.mem_univ, if_true]
  ring
/-- What the last part reads. -/
structure PostIn (D : Inp) : Prop where
  ddec : Is3 (V (Proc.devRef .tc main_v85_7) : Vec Ideal S64x4x128 .f32) (fun n h a => D.ddec n h a)
  dS : Is4 (V (Proc.devRef .tc main_v85_8) : Vec Ideal S64x4x128x256 .f32) (fun n h a b => D.dS n h b a)
  dq : Is4 (V (Proc.devRef .tc main_v85_9) : Vec Ideal S64x64x4x128 .f32) (fun n i h a => dqu D n h i a)
  k : Is4 (V (Proc.devRef .tc main_v16) : Vec Ideal S64x64x4x128 .f32) (fun n i h a => D.K n h i a)
  v : Is4 (V (Proc.devRef .tc main_v17) : Vec Ideal S64x64x4x256 .f32) (fun n i h b => D.V n h i b)
  w : Is4 (V (Proc.devRef .tc main_v23) : Vec Ideal S64x64x4x128 .f32) (fun n i h a => D.w n h i a)
  kw : Is4 (V (Proc.devRef .tc main_v24) : Vec Ideal S64x64x4x128 .f32) (fun n i h a => D.K n h i a * D.w n h i a)
  dec : Is3 (V (Proc.devRef .tc main_v27) : Vec Ideal S64x4x128 .f32) (fun n h a => D.dec n h a)
  gate : ∀ (r : Fin 4096) (c : Fin 512), (V (Proc.devRef .tc main_v9_1) : Vec Ideal S4096x512 .f32) (ix2 r c) = ((sg (-D.Y (r / 64) (c / 128) (r % 64) (c % 128)) : ℝ) : EReal)
  dr : ∀ (t : Fin 4096) (c : Fin 1024), (V (Proc.devRef .tc main_v59) : Vec Ideal S4096x1024 .f32) (ix2 t c) = ((D.dr (t / 64) (c / 256) (t % 64) (c % 256) : ℝ) : EReal)
variable {V} {D : Inp}
set_option maxHeartbeats 1000000 in
theorem F1_v89 (I : PostIn V D) : Is4 (F1 V (Proc.devRef .tc main_v89) : Vec Ideal S64x64x4x256 .f32) (fun n i h b => D.dv n h i b) := by
  intro n i h b
  have h7 : ∀ n h a, _ = _ := I.ddec
  have h8 : ∀ n h a b, _ = _ := I.dS
  have h16 : ∀ n i h a, _ = _ := I.k
  have h17 : ∀ n i h b, _ = _ := I.v
  have h23 : ∀ n i h a, _ = _ := I.w
  have h24 : ∀ n i h a, _ = _ := I.kw
  have h27 : ∀ n h a, _ = _ := I.dec
  unfold F1
  simp only [post0]
  after_reads_at
  simp only [h7, h8, h16, h17, h23, h24, h27, ← EReal.coe_mul, ← EReal.coe_add, ← EReal.coe_neg, sum_coe]
  rw [Inp.dv]
  exact congrArg (fun x : ℝ => (x : EReal)) (Finset.sum_congr rfl fun a _ => by ring)
set_option maxHeartbeats 1000000 in
theorem F1_v93 (I : PostIn V D) : Is4 (F1 V (Proc.devRef .tc main_v93) : Vec Ideal S64x64x4x128 .f32) (fun n i h a => D.dk n h i a) := by
  intro n i h a
  have h7 : ∀ n h a, _ = _ := I.ddec
  have h8 : ∀ n h a b, _ = _ := I.dS
  have h16 : ∀ n i h a, _ = _ := I.k
  have h17 : ∀ n i h b, _ = _ := I.v
  have h23 : ∀ n i h a, _ = _ := I.w
  have h24 : ∀ n i h a, _ = _ := I.kw
  have h27 : ∀ n h a, _ = _ := I.dec
  unfold F1
  simp only [post0]
  after_reads_at
  simp only [h7, h8, h16, h17, h23, h24, h27, ← EReal.coe_mul, ← EReal.coe_add, ← EReal.coe_neg, sum_coe]
  rw [Inp.dk, Inp.dkd]
  exact congrArg (fun x : ℝ => ((x * D.w n h i a : ℝ) : EReal)) (Finset.sum_congr rfl fun a _ => by ring)
set_option maxHeartbeats 1000000 in
theorem F1_v100 (I : PostIn V D) : Is4 (F1 V (Proc.devRef .tc main_v100) : Vec Ideal S64x64x4x128 .f32) (fun n i h a => -D.e n h i a + (if i = 63 then D.ddec n h a * D.dec n h a + ∑ i' : Fin 64, D.e n h i' a else 0)) := by
  intro n i h a
  have h7 : ∀ n h a, _ = _ := I.ddec
  have h8 : ∀ n h a b, _ = _ := I.dS
  have h16 : ∀ n i h a, _ = _ := I.k
  have h17 : ∀ n i h b, _ = _ := I.v
  have h23 : ∀ n i h a, _ = _ := I.w
  have h24 : ∀ n i h a, _ = _ := I.kw
  have h27 : ∀ n h a, _ = _ := I.dec
  unfold F1
  simp only [post0]
  after_reads_at
  simp only [h7, h8, h16, h17, h23, h24, h27, ← EReal.coe_mul, ← EReal.coe_add, ← EReal.coe_neg, sum_coe]
  have he : ∀ i : Fin 64, (D.K n h i a * ∑ k : Fin 256, D.dS n h k a * D.V n h i k) * D.w n h i a = D.e n h i a := fun i => by
    rw [Inp.e, Inp.dkd, mul_comm (D.K n h i a)]
    exact congrArg (fun x : ℝ => x * D.K n h i a * D.w n h i a) (Finset.sum_congr rfl fun b _ => mul_comm _ _)
  simp only [he, dite_eq_ite]
  have hi := i.isLt
  by_cases h63 : i.val = 63
  · rw [if_pos (by omega), if_pos h63, ← EReal.coe_add]
  · rw [if_neg (by omega), if_neg h63, add_zero, add_zero]
theorem F2_v101 (I : PostIn V D) : Is4 (F2 V (Proc.devRef .tc main_v101) : Vec Ideal S64x64x4x128 .f32)
    (fun n i h a => (∑ i' : Fin 64, if i'.val < i then D.e n h i' a else 0) + D.ddec n h a * D.dec n h a) := by
  intro n i h a
  have h10 := F1_v100 I
  unfold F2
  generalize F1 V = M at *
  simp only [post1]
  after_reads_simp
  simp -implicitDefEqProofs only [StableHlo.TRef.toBuf, StableHlo.TRef.ofBuf, cast_cast, cast_eq]
  refine (WinSum.suf4' _ _ _ _ h10 (by pointwise []) n i h a).trans ?_
  exact congrArg (fun x : ℝ => (x : EReal)) (suffix_fold (fun i => D.e n h i a) _ i)
theorem F2_v89 : F2 V (Proc.devRef .tc main_v89) = F1 V (Proc.devRef .tc main_v89) := by
  unfold F2
  generalize F1 V = M at *
  simp only [post1]
  after_reads_simp
theorem F2_v93 : F2 V (Proc.devRef .tc main_v93) = F1 V (Proc.devRef .tc main_v93) := by
  unfold F2
  generalize F1 V = M at *
  simp only [post1]
  after_reads_simp
theorem F2_v85_9 : F2 V (Proc.devRef .tc main_v85_9) = V (Proc.devRef .tc main_v85_9) := by
  have e : F1 V (Proc.devRef .tc main_v85_9) = V (Proc.devRef .tc main_v85_9) := by
    unfold F1
    simp only [post0]
    after_reads_simp
  rw [← e]
  unfold F2
  generalize F1 V = M at *
  simp only [post1]
  after_reads_simp
theorem F2_v9_1 : F2 V (Proc.devRef .tc main_v9_1) = V (Proc.devRef .tc main_v9_1) := by
  have e : F1 V (Proc.devRef .tc main_v9_1) = V (Proc.devRef .tc main_v9_1) := by
    unfold F1
    simp only [post0]
    after_reads_simp
  rw [← e]
  unfold F2
  generalize F1 V = M at *
  simp only [post1]
  after_reads_simp
theorem F2_v59 : F2 V (Proc.devRef .tc main_v59) = V (Proc.devRef .tc main_v59) := by
  have e : F1 V (Proc.devRef .tc main_v59) = V (Proc.devRef .tc main_v59) := by
    unfold F1
    simp only [post0]
    after_reads_simp
  rw [← e]
  unfold F2
  generalize F1 V = M at *
  simp only [post1]
  after_reads_simp
theorem F2_v67 : F2 V (Proc.devRef .tc main_v67) = V (Proc.devRef .tc main_v67) := by
  have e : F1 V (Proc.devRef .tc main_v67) = V (Proc.devRef .tc main_v67) := by
    unfold F1
    simp only [post0]
    after_reads_simp
  rw [← e]
  unfold F2
  generalize F1 V = M at *
  simp only [post1]
  after_reads_simp
set_option maxHeartbeats 1000000 in
theorem F3_v112 (I : PostIn V D) (t : Fin 4096) (c : Fin 512) : (F3 V (Proc.devRef .tc main_v112) : Vec Ideal S4096x512 .bf16) (ix2 t c)
    = ((D.dq (t / 64) (c / 128) (t % 64) (c % 128) : ℝ) : EReal) := by
  have h : ∀ n i h a, _ = _ := I.dq
  rw [← F2_v85_9 (V := V)] at h
  unfold F3
  generalize F2 V = M at *
  simp only [post2, post3, post4, List.cons_append, List.nil_append]
  after_reads_at
  simp only [h, c_sc, ← EReal.coe_mul, dqu, Finset.sum_mul]
  unfold Inp.dq
  refine congrArg (fun x : ℝ => (x : EReal)) (Finset.sum_congr rfl fun b _ => ?_)
  show _ = dou D _ _ _ _ * sc * _
  ring
set_option maxHeartbeats 1000000 in
theorem F3_v113 (I : PostIn V D) (t : Fin 4096) (c : Fin 512) : (F3 V (Proc.devRef .tc main_v113) : Vec Ideal S4096x512 .bf16) (ix2 t c)
    = ((D.dk (t / 64) (c / 128) (t % 64) (c % 128) : ℝ) : EReal) := by
  have h : ∀ n i h a, _ = _ := F1_v93 I
  rw [← F2_v93 (V := V)] at h
  unfold F3
  generalize F2 V = M at *
  simp only [post2, post3, post4, List.cons_append, List.nil_append]
  after_reads_at
  simp only [h]
set_option maxHeartbeats 1000000 in
theorem F3_v114 (I : PostIn V D) (t : Fin 4096) (c : Fin 1024) : (F3 V (Proc.devRef .tc main_v114) : Vec Ideal S4096x1024 .bf16) (ix2 t c)
    = ((D.dv (t / 64) (c / 256) (t % 64) (c % 256) : ℝ) : EReal) := by
  have h : ∀ n i h a, _ = _ := F1_v89 I
  rw [← F2_v89 (V := V)] at h
  unfold F3
  generalize F2 V = M at *
  simp only [post2, post3, post4, List.cons_append, List.nil_append]
  after_reads_at
  simp only [h]
set_option maxHeartbeats 1000000 in
theorem F3_v115 (I : PostIn V D) (t : Fin 4096) (c : Fin 1024) : (F3 V (Proc.devRef .tc main_v115) : Vec Ideal S4096x1024 .bf16) (ix2 t c)
    = ((D.dr (t / 64) (c / 256) (t % 64) (c % 256) : ℝ) : EReal) := by
  have h := I.dr
  rw [← F2_v59 (V := V)] at h
  unfold F3
  generalize F2 V = M at *
  simp only [post2, post3, post4, List.cons_append, List.nil_append]
  after_reads_at
  simp only [h]
set_option maxHeartbeats 1000000 in
theorem F3_v111 (I : PostIn V D) (t : Fin 4096) (c : Fin 512) : (F3 V (Proc.devRef .tc main_v111) : Vec Ideal S4096x512 .f32) (ix2 t c)
    = ((D.dgate (t / 64) (c / 128) (t % 64) (c % 128) : ℝ) : EReal) := by
  have h : ∀ n i h a, _ = _ := F2_v101 I
  have hg := I.gate
  rw [← F2_v9_1 (V := V)] at hg
  unfold F3
  generalize F2 V = M at *
  simp only [post2, post3, post4, List.cons_append, List.nil_append]
  after_reads_at
  simp only [h, hg, c_16, div_coe _ (show (16 : ℝ) ≠ 0 by norm_num), ← EReal.coe_neg, ← EReal.coe_mul]
  refine congrArg (fun x : ℝ => (x : EReal)) ?_
  unfold Inp.dgate
  ring
theorem F3_v67 : F3 V (Proc.devRef .tc main_v67) = V (Proc.devRef .tc main_v67) := by
  rw [← F2_v67 (V := V)]
  unfold F3
  generalize F2 V = M at *
  simp only [post2, post3, post4, List.cons_append, List.nil_append]
  after_reads_simp
end Cert.ReferenceIdeal.Val
end
-- ==== Proof.RefTop.lean ====
module
public import proofs.«01_k».proof.Proof.RefPre
public import proofs.«01_k».proof.Proof.RefFrame
public import proofs.«01_k».proof.Proof.RefLoop0
public import proofs.«01_k».proof.Proof.RefMid
public import proofs.«01_k».proof.Proof.RefPost
@[expose] public section
/-! # The reference's results over the reals -/
set_option maxRecDepth 16384
noncomputable section
namespace Cert.ReferenceIdeal.Val
open Cert.ReferenceIdeal Cert.ReferenceIdeal.Gen Cert.ReferenceIdeal.Run Idealize.ShloMosaic Idealize.ShloMosaic.TcCoe Idealize.SL.Sem Cert.RealVal Cert.Spec
open StableHlo (afterL_cons afterL_nil after_append launchContents)
variable (m : (ℓ : Loc nD τ sig) → Buf (Elt Ideal) ℓ) (c : Dev nD)
set_option maxHeartbeats 1000000 in
/-- The forward loop keeps this buffer. -/
theorem M0_v3 : M0 m c (Proc.devRef .tc main_v3) = P3 (launchContents m c) (Proc.devRef .tc main_v3) := by
  have hc : ∀ V : Valuation τ sig (Elt Ideal), StableHlo.after cond0 V (Proc.devRef .tc main_v3) = V (Proc.devRef .tc main_v3) := fun V => by simp only [cond0]; after_reads_simp
  have hb : ∀ V : Valuation τ sig (Elt Ideal), StableHlo.afterL body0I (StableHlo.after cond0 V) (Proc.devRef .tc main_v3) = V (Proc.devRef .tc main_v3) := fun V => by simp only [afterL_cons, afterL_nil]; after_reads_simp
  exact (hc _).trans ((atTrip_keep hb (W0 m) c 64).trans (congrFun (P3_eq (launchContents m c)) _))
set_option maxHeartbeats 1000000 in
/-- The forward loop keeps this buffer. -/
theorem M0_v5 : M0 m c (Proc.devRef .tc main_v5) = P3 (launchContents m c) (Proc.devRef .tc main_v5) := by
  have hc : ∀ V : Valuation τ sig (Elt Ideal), StableHlo.after cond0 V (Proc.devRef .tc main_v5) = V (Proc.devRef .tc main_v5) := fun V => by simp only [cond0]; after_reads_simp
  have hb : ∀ V : Valuation τ sig (Elt Ideal), StableHlo.afterL body0I (StableHlo.after cond0 V) (Proc.devRef .tc main_v5) = V (Proc.devRef .tc main_v5) := fun V => by simp only [afterL_cons, afterL_nil]; after_reads_simp
  exact (hc _).trans ((atTrip_keep hb (W0 m) c 64).trans (congrFun (P3_eq (launchContents m c)) _))
set_option maxHeartbeats 1000000 in
/-- The forward loop keeps this buffer. -/
theorem M0_arg7 : M0 m c (Proc.devRef .tc main_arg7) = P3 (launchContents m c) (Proc.devRef .tc main_arg7) := by
  have hc : ∀ V : Valuation τ sig (Elt Ideal), StableHlo.after cond0 V (Proc.devRef .tc main_arg7) = V (Proc.devRef .tc main_arg7) := fun V => by simp only [cond0]; after_reads_simp
  have hb : ∀ V : Valuation τ sig (Elt Ideal), StableHlo.afterL body0I (StableHlo.after cond0 V) (Proc.devRef .tc main_arg7) = V (Proc.devRef .tc main_arg7) := fun V => by simp only [afterL_cons, afterL_nil]; after_reads_simp
  exact (hc _).trans ((atTrip_keep hb (W0 m) c 64).trans (congrFun (P3_eq (launchContents m c)) _))
set_option maxHeartbeats 1000000 in
/-- The forward loop keeps this buffer. -/
theorem M0_v15 : M0 m c (Proc.devRef .tc main_v15) = P3 (launchContents m c) (Proc.devRef .tc main_v15) := by
  have hc : ∀ V : Valuation τ sig (Elt Ideal), StableHlo.after cond0 V (Proc.devRef .tc main_v15) = V (Proc.devRef .tc main_v15) := fun V => by simp only [cond0]; after_reads_simp
  have hb : ∀ V : Valuation τ sig (Elt Ideal), StableHlo.afterL body0I (StableHlo.after cond0 V) (Proc.devRef .tc main_v15) = V (Proc.devRef .tc main_v15) := fun V => by simp only [afterL_cons, afterL_nil]; after_reads_simp
  exact (hc _).trans ((atTrip_keep hb (W0 m) c 64).trans (congrFun (P3_eq (launchContents m c)) _))
set_option maxHeartbeats 1000000 in
/-- The forward loop keeps this buffer. -/
theorem M0_v16 : M0 m c (Proc.devRef .tc main_v16) = P3 (launchContents m c) (Proc.devRef .tc main_v16) := by
  have hc : ∀ V : Valuation τ sig (Elt Ideal), StableHlo.after cond0 V (Proc.devRef .tc main_v16) = V (Proc.devRef .tc main_v16) := fun V => by simp only [cond0]; after_reads_simp
  have hb : ∀ V : Valuation τ sig (Elt Ideal), StableHlo.afterL body0I (StableHlo.after cond0 V) (Proc.devRef .tc main_v16) = V (Proc.devRef .tc main_v16) := fun V => by simp only [afterL_cons, afterL_nil]; after_reads_simp
  exact (hc _).trans ((atTrip_keep hb (W0 m) c 64).trans (congrFun (P3_eq (launchContents m c)) _))
set_option maxHeartbeats 1000000 in
/-- The forward loop keeps this buffer. -/
theorem M0_v17 : M0 m c (Proc.devRef .tc main_v17) = P3 (launchContents m c) (Proc.devRef .tc main_v17) := by
  have hc : ∀ V : Valuation τ sig (Elt Ideal), StableHlo.after cond0 V (Proc.devRef .tc main_v17) = V (Proc.devRef .tc main_v17) := fun V => by simp only [cond0]; after_reads_simp
  have hb : ∀ V : Valuation τ sig (Elt Ideal), StableHlo.afterL body0I (StableHlo.after cond0 V) (Proc.devRef .tc main_v17) = V (Proc.devRef .tc main_v17) := fun V => by simp only [afterL_cons, afterL_nil]; after_reads_simp
  exact (hc _).trans ((atTrip_keep hb (W0 m) c 64).trans (congrFun (P3_eq (launchContents m c)) _))
set_option maxHeartbeats 1000000 in
/-- The forward loop keeps this buffer. -/
theorem M0_v23 : M0 m c (Proc.devRef .tc main_v23) = P3 (launchContents m c) (Proc.devRef .tc main_v23) := by
  have hc : ∀ V : Valuation τ sig (Elt Ideal), StableHlo.after cond0 V (Proc.devRef .tc main_v23) = V (Proc.devRef .tc main_v23) := fun V => by simp only [cond0]; after_reads_simp
  have hb : ∀ V : Valuation τ sig (Elt Ideal), StableHlo.afterL body0I (StableHlo.after cond0 V) (Proc.devRef .tc main_v23) = V (Proc.devRef .tc main_v23) := fun V => by simp only [afterL_cons, afterL_nil]; after_reads_simp
  exact (hc _).trans ((atTrip_keep hb (W0 m) c 64).trans (congrFun (P3_eq (launchContents m c)) _))
set_option maxHeartbeats 1000000 in
/-- The forward loop keeps this buffer. -/
theorem M0_v24 : M0 m c (Proc.devRef .tc main_v24) = P3 (launchContents m c) (Proc.devRef .tc main_v24) := by
  have hc : ∀ V : Valuation τ sig (Elt Ideal), StableHlo.after cond0 V (Proc.devRef .tc main_v24) = V (Proc.devRef .tc main_v24) := fun V => by simp only [cond0]; after_reads_simp
  have hb : ∀ V : Valuation τ sig (Elt Ideal), StableHlo.afterL body0I (StableHlo.after cond0 V) (Proc.devRef .tc main_v24) = V (Proc.devRef .tc main_v24) := fun V => by simp only [afterL_cons, afterL_nil]; after_reads_simp
  exact (hc _).trans ((atTrip_keep hb (W0 m) c 64).trans (congrFun (P3_eq (launchContents m c)) _))
set_option maxHeartbeats 1000000 in
/-- The forward loop keeps this buffer. -/
theorem M0_v27 : M0 m c (Proc.devRef .tc main_v27) = P3 (launchContents m c) (Proc.devRef .tc main_v27) := by
  have hc : ∀ V : Valuation τ sig (Elt Ideal), StableHlo.after cond0 V (Proc.devRef .tc main_v27) = V (Proc.devRef .tc main_v27) := fun V => by simp only [cond0]; after_reads_simp
  have hb : ∀ V : Valuation τ sig (Elt Ideal), StableHlo.afterL body0I (StableHlo.after cond0 V) (Proc.devRef .tc main_v27) = V (Proc.devRef .tc main_v27) := fun V => by simp only [afterL_cons, afterL_nil]; after_reads_simp
  exact (hc _).trans ((atTrip_keep hb (W0 m) c 64).trans (congrFun (P3_eq (launchContents m c)) _))
set_option maxHeartbeats 1000000 in
/-- The forward loop keeps this buffer. -/
theorem M0_v9_1 : M0 m c (Proc.devRef .tc main_v9_1) = P3 (launchContents m c) (Proc.devRef .tc main_v9_1) := by
  have hc : ∀ V : Valuation τ sig (Elt Ideal), StableHlo.after cond0 V (Proc.devRef .tc main_v9_1) = V (Proc.devRef .tc main_v9_1) := fun V => by simp only [cond0]; after_reads_simp
  have hb : ∀ V : Valuation τ sig (Elt Ideal), StableHlo.afterL body0I (StableHlo.after cond0 V) (Proc.devRef .tc main_v9_1) = V (Proc.devRef .tc main_v9_1) := fun V => by simp only [afterL_cons, afterL_nil]; after_reads_simp
  exact (hc _).trans ((atTrip_keep hb (W0 m) c 64).trans (congrFun (P3_eq (launchContents m c)) _))
set_option maxHeartbeats 1000000 in
/-- The backward loop keeps this buffer. -/
theorem M1_v16 : M1 m c (Proc.devRef .tc main_v16) = E2 (M0 m c) (Proc.devRef .tc main_v16) := by
  have hc : ∀ V : Valuation τ sig (Elt Ideal), StableHlo.after cond1 V (Proc.devRef .tc main_v16) = V (Proc.devRef .tc main_v16) := fun V => by simp only [cond1]; after_reads_simp
  have hb : ∀ V : Valuation τ sig (Elt Ideal), StableHlo.afterL body1I (StableHlo.after cond1 V) (Proc.devRef .tc main_v16) = V (Proc.devRef .tc main_v16) := fun V => by simp only [afterL_cons, afterL_nil]; after_reads_simp
  exact (hc _).trans ((atTrip_keep hb (W1 m) c 64).trans (congrFun (E2_eq (M0 m c)) _))
set_option maxHeartbeats 1000000 in
/-- The backward loop keeps this buffer. -/
theorem M1_v17 : M1 m c (Proc.devRef .tc main_v17) = E2 (M0 m c) (Proc.devRef .tc main_v17) := by
  have hc : ∀ V : Valuation τ sig (Elt Ideal), StableHlo.after cond1 V (Proc.devRef .tc main_v17) = V (Proc.devRef .tc main_v17) := fun V => by simp only [cond1]; after_reads_simp
  have hb : ∀ V : Valuation τ sig (Elt Ideal), StableHlo.afterL body1I (StableHlo.after cond1 V) (Proc.devRef .tc main_v17) = V (Proc.devRef .tc main_v17) := fun V => by simp only [afterL_cons, afterL_nil]; after_reads_simp
  exact (hc _).trans ((atTrip_keep hb (W1 m) c 64).trans (congrFun (E2_eq (M0 m c)) _))
set_option maxHeartbeats 1000000 in
/-- The backward loop keeps this buffer. -/
theorem M1_v23 : M1 m c (Proc.devRef .tc main_v23) = E2 (M0 m c) (Proc.devRef .tc main_v23) := by
  have hc : ∀ V : Valuation τ sig (Elt Ideal), StableHlo.after cond1 V (Proc.devRef .tc main_v23) = V (Proc.devRef .tc main_v23) := fun V => by simp only [cond1]; after_reads_simp
  have hb : ∀ V : Valuation τ sig (Elt Ideal), StableHlo.afterL body1I (StableHlo.after cond1 V) (Proc.devRef .tc main_v23) = V (Proc.devRef .tc main_v23) := fun V => by simp only [afterL_cons, afterL_nil]; after_reads_simp
  exact (hc _).trans ((atTrip_keep hb (W1 m) c 64).trans (congrFun (E2_eq (M0 m c)) _))
set_option maxHeartbeats 1000000 in
/-- The backward loop keeps this buffer. -/
theorem M1_v24 : M1 m c (Proc.devRef .tc main_v24) = E2 (M0 m c) (Proc.devRef .tc main_v24) := by
  have hc : ∀ V : Valuation τ sig (Elt Ideal), StableHlo.after cond1 V (Proc.devRef .tc main_v24) = V (Proc.devRef .tc main_v24) := fun V => by simp only [cond1]; after_reads_simp
  have hb : ∀ V : Valuation τ sig (Elt Ideal), StableHlo.afterL body1I (StableHlo.after cond1 V) (Proc.devRef .tc main_v24) = V (Proc.devRef .tc main_v24) := fun V => by simp only [afterL_cons, afterL_nil]; after_reads_simp
  exact (hc _).trans ((atTrip_keep hb (W1 m) c 64).trans (congrFun (E2_eq (M0 m c)) _))
set_option maxHeartbeats 1000000 in
/-- The backward loop keeps this buffer. -/
theorem M1_v27 : M1 m c (Proc.devRef .tc main_v27) = E2 (M0 m c) (Proc.devRef .tc main_v27) := by
  have hc : ∀ V : Valuation τ sig (Elt Ideal), StableHlo.after cond1 V (Proc.devRef .tc main_v27) = V (Proc.devRef .tc main_v27) := fun V => by simp only [cond1]; after_reads_simp
  have hb : ∀ V : Valuation τ sig (Elt Ideal), StableHlo.afterL body1I (StableHlo.after cond1 V) (Proc.devRef .tc main_v27) = V (Proc.devRef .tc main_v27) := fun V => by simp only [afterL_cons, afterL_nil]; after_reads_simp
  exact (hc _).trans ((atTrip_keep hb (W1 m) c 64).trans (congrFun (E2_eq (M0 m c)) _))
set_option maxHeartbeats 1000000 in
/-- The backward loop keeps this buffer. -/
theorem M1_v9_1 : M1 m c (Proc.devRef .tc main_v9_1) = E2 (M0 m c) (Proc.devRef .tc main_v9_1) := by
  have hc : ∀ V : Valuation τ sig (Elt Ideal), StableHlo.after cond1 V (Proc.devRef .tc main_v9_1) = V (Proc.devRef .tc main_v9_1) := fun V => by simp only [cond1]; after_reads_simp
  have hb : ∀ V : Valuation τ sig (Elt Ideal), StableHlo.afterL body1I (StableHlo.after cond1 V) (Proc.devRef .tc main_v9_1) = V (Proc.devRef .tc main_v9_1) := fun V => by simp only [afterL_cons, afterL_nil]; after_reads_simp
  exact (hc _).trans ((atTrip_keep hb (W1 m) c 64).trans (congrFun (E2_eq (M0 m c)) _))
set_option maxHeartbeats 1000000 in
/-- The backward loop keeps this buffer. -/
theorem M1_v59 : M1 m c (Proc.devRef .tc main_v59) = E2 (M0 m c) (Proc.devRef .tc main_v59) := by
  have hc : ∀ V : Valuation τ sig (Elt Ideal), StableHlo.after cond1 V (Proc.devRef .tc main_v59) = V (Proc.devRef .tc main_v59) := fun V => by simp only [cond1]; after_reads_simp
  have hb : ∀ V : Valuation τ sig (Elt Ideal), StableHlo.afterL body1I (StableHlo.after cond1 V) (Proc.devRef .tc main_v59) = V (Proc.devRef .tc main_v59) := fun V => by simp only [afterL_cons, afterL_nil]; after_reads_simp
  exact (hc _).trans ((atTrip_keep hb (W1 m) c 64).trans (congrFun (E2_eq (M0 m c)) _))
set_option maxHeartbeats 1000000 in
/-- The backward loop keeps this buffer. -/
theorem M1_v67 : M1 m c (Proc.devRef .tc main_v67) = E2 (M0 m c) (Proc.devRef .tc main_v67) := by
  have hc : ∀ V : Valuation τ sig (Elt Ideal), StableHlo.after cond1 V (Proc.devRef .tc main_v67) = V (Proc.devRef .tc main_v67) := fun V => by simp only [cond1]; after_reads_simp
  have hb : ∀ V : Valuation τ sig (Elt Ideal), StableHlo.afterL body1I (StableHlo.after cond1 V) (Proc.devRef .tc main_v67) = V (Proc.devRef .tc main_v67) := fun V => by simp only [afterL_cons, afterL_nil]; after_reads_simp
  exact (hc _).trans ((atTrip_keep hb (W1 m) c 64).trans (congrFun (E2_eq (M0 m c)) _))
variable {m c} {D : Inp}
/-- The forward loop starts with an empty state. -/
theorem inv0_start (H : LArgs (launchContents m c) D) : Inv0 (W0 m c) D 0 := by
  have e : W0 m c = P3 (launchContents m c) := P3_eq _
  rw [e]
  exact ⟨P3_v33_0 H, P3_v33_1 H, P3_v33_2 H, P3_v33_4, fun n h => absurd h (Nat.not_lt_zero _), fun n h => absurd h (Nat.not_lt_zero _),
    fun n h => absurd h (Nat.not_lt_zero _), fun n h => absurd h (Nat.not_lt_zero _)⟩
/-- After the forward loop every chunk's output and states are there. -/
theorem inv0_end (H : LArgs (launchContents m c) D) : Inv0 (M0 m c) D 64 :=
  (inv0 (W0 m) (W0_ctr m) c (inv0_start H) 64 le_rfl).cond
/-- What the norm and the output gate read. -/
theorem mid_in (H : LArgs (launchContents m c) D) : MidIn (M0 m c) D where
  o := fun n i h b => (inv0_end H).o n n.isLt i h b
  r := by rw [M0_v3, P3_v3]; exact P1_v3 H
  dy := by rw [M0_v5, P3_v5]; exact P1_v5 H
  g := by rw [M0_arg7, P3_arg7]; exact P1_arg7 H
/-- The backward loop starts with no gradient carried. -/
theorem inv1_start (H : LArgs (launchContents m c) D) : Inv1 (W1 m c) D 0 := by
  have e : W1 m c = E2 (M0 m c) := E2_eq _
  rw [e]
  have I := inv0_end H
  exact
    { dout := by rw [E2_v85_0]; exact E2_v80 (mid_in H)
      before := by rw [E2_v85_1]; exact fun n h a b => I.before n n.isLt h a b
      decay := by rw [E2_v85_2]; exact fun n h a => I.decay n n.isLt h a
      q := by rw [E2_v85_3, M0_v15, P3_v15]; exact P1_v15 H
      after := by rw [E2_v85_4]; exact fun n h a b => I.after n n.isLt h a b
      st := E2_v85_6
      ddec := fun n h => absurd h (by have := n.isLt; omega)
      dS := fun n h => absurd h (by have := n.isLt; omega)
      dq := fun n h => absurd h (by have := n.isLt; omega) }
/-- After the backward loop every chunk's gradients are there. -/
theorem inv1_end (H : LArgs (launchContents m c) D) : Inv1 (M1 m c) D 64 :=
  (inv1 (W1 m) (W1_ctr m) c (inv1_start H) 64 le_rfl).cond
/-- What the last stretch reads. -/
theorem post_in (H : LArgs (launchContents m c) D) : PostIn (M1 m c) D where
  ddec := fun n h a => (inv1_end H).ddec n (by omega) h a
  dS := fun n h a b => (inv1_end H).dS n (by omega) h a b
  dq := fun n i h a => (inv1_end H).dq n (by omega) i h a
  k := by rw [M1_v16, E2_v16, M0_v16, P3_v16]; exact P1_v16 H
  v := by rw [M1_v17, E2_v17, M0_v17, P3_v17]; exact P1_v17 H
  w := by rw [M1_v23, E2_v23, M0_v23]; exact P3_v23 H
  kw := by rw [M1_v24, E2_v24, M0_v24]; exact P3_v24 H
  dec := by rw [M1_v27, E2_v27, M0_v27]; exact P3_v27 H
  gate := by rw [M1_v9_1, E2_v9_1, M0_v9_1, P3_v9_1]; exact P1_v9_1 H
  dr := by rw [M1_v59]; exact E2_v59 (mid_in H)
/-- The gradient of the queries. -/
theorem fin_v112 (H : LArgs (launchContents m c) D) : (fin m c (Proc.devRef .tc main_v112) : S4096x512.Idx → EReal)
    = fun x : S4096x512.Idx => ((D.dq ((x 0).val / 64) ((x 1).val / 128) ((x 0).val % 64) ((x 1).val % 128) : ℝ) : EReal) := by
  have e : fin m c = F3 (M1 m c) := F3_eq _
  rw [e]
  funext x
  obtain ⟨t, a, rfl⟩ : ∃ (t : Fin 4096) (a : Fin 512), x = ix2 t a := ⟨x 0, x 1, eq_ix2 x⟩
  exact F3_v112 (post_in H) t a
/-- The gradient of the keys. -/
theorem fin_v113 (H : LArgs (launchContents m c) D) : (fin m c (Proc.devRef .tc main_v113) : S4096x512.Idx → EReal)
    = fun x : S4096x512.Idx => ((D.dk ((x 0).val / 64) ((x 1).val / 128) ((x 0).val % 64) ((x 1).val % 128) : ℝ) : EReal) := by
  have e : fin m c = F3 (M1 m c) := F3_eq _
  rw [e]
  funext x
  obtain ⟨t, a, rfl⟩ : ∃ (t : Fin 4096) (a : Fin 512), x = ix2 t a := ⟨x 0, x 1, eq_ix2 x⟩
  exact F3_v113 (post_in H) t a
/-- The gradient of the values. -/
theorem fin_v114 (H : LArgs (launchContents m c) D) : (fin m c (Proc.devRef .tc main_v114) : S4096x1024.Idx → EReal)
    = fun x : S4096x1024.Idx => ((D.dv ((x 0).val / 64) ((x 1).val / 256) ((x 0).val % 64) ((x 1).val % 256) : ℝ) : EReal) := by
  have e : fin m c = F3 (M1 m c) := F3_eq _
  rw [e]
  funext x
  obtain ⟨t, a, rfl⟩ : ∃ (t : Fin 4096) (a : Fin 1024), x = ix2 t a := ⟨x 0, x 1, eq_ix2 x⟩
  exact F3_v114 (post_in H) t a
/-- The gradient of the output gate. -/
theorem fin_v115 (H : LArgs (launchContents m c) D) : (fin m c (Proc.devRef .tc main_v115) : S4096x1024.Idx → EReal)
    = fun x : S4096x1024.Idx => ((D.dr ((x 0).val / 64) ((x 1).val / 256) ((x 0).val % 64) ((x 1).val % 256) : ℝ) : EReal) := by
  have e : fin m c = F3 (M1 m c) := F3_eq _
  rw [e]
  funext x
  obtain ⟨t, a, rfl⟩ : ∃ (t : Fin 4096) (a : Fin 1024), x = ix2 t a := ⟨x 0, x 1, eq_ix2 x⟩
  exact F3_v115 (post_in H) t a
/-- The gradient of the decay gate's argument. -/
theorem fin_v111 (H : LArgs (launchContents m c) D) : (fin m c (Proc.devRef .tc main_v111) : S4096x512.Idx → EReal)
    = fun x : S4096x512.Idx => ((D.dgate ((x 0).val / 64) ((x 1).val / 128) ((x 0).val % 64) ((x 1).val % 128) : ℝ) : EReal) := by
  have e : fin m c = F3 (M1 m c) := F3_eq _
  rw [e]
  funext x
  obtain ⟨t, a, rfl⟩ : ∃ (t : Fin 4096) (a : Fin 512), x = ix2 t a := ⟨x 0, x 1, eq_ix2 x⟩
  exact F3_v111 (post_in H) t a
/-- The gradient of the norm's scale. -/
theorem fin_v67 (H : LArgs (launchContents m c) D) : (fin m c (Proc.devRef .tc main_v67) : S1x256.Idx → EReal)
    = fun x : S1x256.Idx => ((D.dgn (x 1).val : ℝ) : EReal) := by
  have e : fin m c = F3 (M1 m c) := F3_eq _
  rw [e, F3_v67, M1_v67]
  funext x
  obtain ⟨i, b, rfl⟩ : ∃ (i : Fin 1) (b : Fin 256), x = ix2 i b := ⟨x 0, x 1, eq_ix2 x⟩
  obtain rfl : i = 0 := Subsingleton.elim _ _
  exact E2_v67 (mid_in H) b
end Cert.ReferenceIdeal.Val
end
-- ==== Proof.PreVal.lean ====
module
public import proofs.«01_k».proof.Proof.RefPre
public import proofs.«01_k».proof.Defs
@[expose] public section
/-! # The precondition: the arguments hold real numbers -/
set_option maxRecDepth 16384
noncomputable section
namespace Cert.PreVal
open Idealize.ShloMosaic Idealize.ShloMosaic.TcCoe Idealize.SL.Sem Cert.RealVal Cert.Spec

/-- The shape relations the precondition's operations take. -/
theorem facts : Cert.Pre_finite.Facts where
  bitsLt_bf16_f32 := by decide
  bcast_S_S4096x512 := by decide
  bcast_S_S4096x1024 := by decide
  bcast_S_S4096x16 := by decide
  bcast_S_S16x512 := by decide
  bcast_S_S1x512 := by decide
  bcast_S_S1x256 := by decide

/-- An extended real whose absolute value is below infinity is real. -/
theorem real_of (x : EReal) (h : Ideal.cmp .olt (max x (-x)) (Ideal.ofBits .f32 0x7F800000#32) = 1#1) : x = ((x.toReal : ℝ) : EReal) := by
  rw [Cert.ReferenceIdeal.Val.ofBits_inf] at h
  have h' : max x (-x) < ⊤ := by
    by_contra hn
    simp [Ideal.cmp, hn] at h
  refine (EReal.coe_toReal ?_ ?_).symm
  · rintro rfl; simp at h'
  · rintro rfl; simp at h'

/-- An array's entries as real numbers, by row and column. -/
def re {m n : Nat} (x : (⟨2, ![m, n]⟩ : Shape).Idx → EReal) (r c : Nat) : ℝ :=
  if h : r < m ∧ c < n then (x (ix2 ⟨r, h.1⟩ ⟨c, h.2⟩)).toReal else 0
/-- An array whose entries all pass the test holds those reals. -/
theorem is2_re {m n : Nat} (x : (⟨2, ![m, n]⟩ : Shape).Idx → EReal)
    (h : ∀ i, Ideal.cmp .olt (max (x i) (-x i)) (Ideal.ofBits .f32 0x7F800000#32) = 1#1) : Is2 x (re x) := by
  intro i j
  unfold re
  rw [dif_pos ⟨i.isLt, j.isLt⟩]
  exact real_of _ (h _)

/-- Nine arrays that pass the precondition hold nine arrays of reals. -/
theorem args_of [Cert.Pre_finite.Facts] (x0 x1 : FVec Ideal Cert.Pre_finite.S4096x512 .bf16) (x2 x3 : FVec Ideal Cert.Pre_finite.S4096x1024 .bf16) (x4 : FVec Ideal Cert.Pre_finite.S4096x16 .bf16)
    (x5 : FVec Ideal Cert.Pre_finite.S16x512 .f32) (x6 : FVec Ideal Cert.Pre_finite.S1x512 .f32) (x7 : FVec Ideal Cert.Pre_finite.S1x256 .f32) (x8 : FVec Ideal Cert.Pre_finite.S4096x1024 .bf16)
    (h0 : (Cert.Pre_finite.fn (F := Ideal) x0 x1 x2 x3 x4 x5 x6 x7 x8).1 = fun _ => 1#1)
    (h1 : (Cert.Pre_finite.fn (F := Ideal) x0 x1 x2 x3 x4 x5 x6 x7 x8).2.1 = fun _ => 1#1)
    (h2 : (Cert.Pre_finite.fn (F := Ideal) x0 x1 x2 x3 x4 x5 x6 x7 x8).2.2.1 = fun _ => 1#1)
    (h3 : (Cert.Pre_finite.fn (F := Ideal) x0 x1 x2 x3 x4 x5 x6 x7 x8).2.2.2.1 = fun _ => 1#1)
    (h4 : (Cert.Pre_finite.fn (F := Ideal) x0 x1 x2 x3 x4 x5 x6 x7 x8).2.2.2.2.1 = fun _ => 1#1)
    (h5 : (Cert.Pre_finite.fn (F := Ideal) x0 x1 x2 x3 x4 x5 x6 x7 x8).2.2.2.2.2.1 = fun _ => 1#1)
    (h6 : (Cert.Pre_finite.fn (F := Ideal) x0 x1 x2 x3 x4 x5 x6 x7 x8).2.2.2.2.2.2.1 = fun _ => 1#1)
    (h7 : (Cert.Pre_finite.fn (F := Ideal) x0 x1 x2 x3 x4 x5 x6 x7 x8).2.2.2.2.2.2.2.1 = fun _ => 1#1)
    (h8 : (Cert.Pre_finite.fn (F := Ideal) x0 x1 x2 x3 x4 x5 x6 x7 x8).2.2.2.2.2.2.2.2 = fun _ => 1#1) :
    Cert.KernelIdeal.Host.Args x0 x1 x2 x3 x4 x5 x6 x7 x8 ⟨re x0, re x1, re x2, re x3, re x4, re x5, re x6 0, re x7 0, re x8⟩ where
  q := is2_re x0 fun i => congrFun h0 i
  k := is2_re x1 fun i => congrFun h1 i
  v := is2_re x2 fun i => congrFun h2 i
  r := is2_re x3 fun i => congrFun h3 i
  lr := is2_re x4 fun i => congrFun h4 i
  wa := is2_re x5 fun i => congrFun h5 i
  ba := fun a => is2_re x6 (fun i => congrFun h6 i) 0 a
  g := fun b => is2_re x7 (fun i => congrFun h7 i) 0 b
  dy := is2_re x8 fun i => congrFun h8 i
end Cert.PreVal
end
-- ==== Proof.F4.lean ====
module
public import proofs.«01_k».proof.Proof.Gen.Kernel4Ideal.Value
public import proofs.«01_k».proof.Proof.RealVal
public import Idealize.ShloMosaic.Lib.Pointwise
public import Idealize.ShloMosaic.Lib.Pipeline.ValueKit.Point
@[expose] public section
/-! # The feed-forward layer's input product over the reals

Each result of the kernel at a row and a column, from the arguments. -/
set_option maxRecDepth 16384
noncomputable section
namespace Cert.Ffn
open Idealize.ShloMosaic Cert.RealVal

/-- The sigmoid of an extended real, as a quotient. -/
def sgE (a : EReal) : EReal := Ideal.div 1 (1 + Ideal.exp (-a))
/-- It is the hyperbolic tangent of half the argument, halved and moved up by a half, at the infinities too. -/
theorem sgE_tanh (a : EReal) :
    Ideal.ofBits .f32 0x3F000000#32 * Ideal.tanh (Ideal.ofBits .f32 0x3F000000#32 * a) + Ideal.ofBits .f32 0x3F000000#32 = sgE a := by
  rw [c_half]
  unfold sgE
  induction a with
  | bot =>
    rw [EReal.coe_mul_bot_of_pos (by norm_num : (0 : ℝ) < 1 / 2), EReal.neg_bot]
    show ((1 / 2 : ℝ) : EReal) * ((-1 : ℝ) : EReal) + ((1 / 2 : ℝ) : EReal) = Ideal.div 1 (1 + ⊤)
    rw [← EReal.coe_mul, ← EReal.coe_add]
    show _ = Ideal.div 1 (((1 : ℝ) : EReal) + ⊤)
    rw [EReal.coe_add_top]
    unfold Ideal.div
    rw [if_neg (by simp), EReal.inv_top, mul_zero]
    norm_num
  | top =>
    rw [EReal.coe_mul_top_of_pos (by norm_num : (0 : ℝ) < 1 / 2), EReal.neg_top]
    show ((1 / 2 : ℝ) : EReal) * ((1 : ℝ) : EReal) + ((1 / 2 : ℝ) : EReal) = Ideal.div ((1 : ℝ) : EReal) (((1 : ℝ) : EReal) + ((0 : ℝ) : EReal))
    rw [← EReal.coe_mul, ← EReal.coe_add, ← EReal.coe_add, div_coe _ (by norm_num)]
    norm_num
  | coe x =>
    rw [← EReal.coe_mul, tanh_coe, ← EReal.coe_mul, ← EReal.coe_add, sg_tanh, ← EReal.coe_neg, exp_coe, c_one, ← EReal.coe_add,
      div_coe _ (by positivity)]
    unfold sg
    rw [one_div]
/-- At a real number it is the sigmoid. -/
theorem sgE_coe (x : ℝ) : sgE (x : EReal) = ((sg x : ℝ) : EReal) := by
  rw [← sgE_tanh, c_half, ← EReal.coe_mul, tanh_coe, ← EReal.coe_mul, ← EReal.coe_add, sg_tanh]

end Cert.Ffn

namespace Cert.Kernel4Ideal.Val
open Cert.Kernel4Ideal Cert.Kernel4Ideal.Gen Idealize.ShloMosaic Idealize.ShloMosaic.TcCoe Idealize.SL.Sem Cert.RealVal Cert.Ffn

/-- A row of the normalised input, scaled and shifted, times one column of one block of the weights. -/
def prj (h : Vec Ideal S4096x2048 .f32) (sh sc : Vec Ideal S1x2048 .f32) (w : Vec Ideal S8x2048x1408 .bf16) (r : Fin 4096) (b : Fin 8) (j : Fin 1408) : EReal :=
  ∑ k : Fin 2048, (h (ix2 r k) * (1 + sc (ix2 0 k)) + sh (ix2 0 k)) * w (ix3 b k j)
/-- The first half of the columns. -/
def resA (h : Vec Ideal S4096x2048 .f32) (sh sc : Vec Ideal S1x2048 .f32) (w : Vec Ideal S8x2048x1408 .bf16) : S4096x5632.Idx → EReal := fun y =>
  prj h sh sc w ⟨(y 0).val, (y 0).isLt⟩ ⟨(y 1).val / 1408, by have : (y 1).val < 5632 := (y 1).isLt; omega⟩ ⟨(y 1).val % 1408, by omega⟩
/-- The second half of the columns. -/
def resB (h : Vec Ideal S4096x2048 .f32) (sh sc : Vec Ideal S1x2048 .f32) (w : Vec Ideal S8x2048x1408 .bf16) : S4096x5632.Idx → EReal := fun y =>
  prj h sh sc w ⟨(y 0).val, (y 0).isLt⟩ ⟨4 + (y 1).val / 1408, by have : (y 1).val < 5632 := (y 1).isLt; omega⟩ ⟨(y 1).val % 1408, by omega⟩
/-- The gated product. -/
def resC (h : Vec Ideal S4096x2048 .f32) (sh sc : Vec Ideal S1x2048 .f32) (w : Vec Ideal S8x2048x1408 .bf16) : S4096x5632.Idx → EReal := fun y =>
  resA h sh sc w y * sgE (resA h sh sc w y) * resB h sh sc w y

theorem pay2_val (v0 : Vec Ideal S512x2048 .f32) (v1 v2 : Vec Ideal S1x2048 .f32) (w : Vec Ideal S1x2048x1408 .bf16) (i : Fin 512) (j : Fin 1408) :
    k0_pay2 v0 v1 v2 w (ix2 i j) = ∑ k : Fin 2048, (v0 (ix2 i k) * (1 + v2 (ix2 0 k)) + v1 (ix2 0 k)) * w (ix3 0 k j) := by
  pointwise [k0_pay2, k0_pay1]
theorem pay3_val (v0 : Vec Ideal S512x2048 .f32) (v1 v2 : Vec Ideal S1x2048 .f32) (w : Vec Ideal S1x2048x1408 .bf16) (i : Fin 512) (j : Fin 1408) :
    k0_pay3 v0 v1 v2 w (ix2 i j) = ∑ k : Fin 2048, (v0 (ix2 i k) * (1 + v2 (ix2 0 k)) + v1 (ix2 0 k)) * w (ix3 0 k j) := by
  pointwise [k0_pay3, k0_pay1]
theorem pay6_val (v0 : Vec Ideal S512x2048 .f32) (v1 v2 : Vec Ideal S1x2048 .f32) (w w' : Vec Ideal S1x2048x1408 .bf16) (x : S512x1408.Idx) :
    k0_pay6 v0 v1 v2 w w' x = k0_pay2 v0 v1 v2 w x * sgE (k0_pay2 v0 v1 v2 w x) * k0_pay3 v0 v1 v2 w' x := by
  rw [← sgE_tanh]
  rfl

variable (m : (ℓ : Loc nD τ sig) → Buf (Elt Ideal) ℓ) (c : Dev nD)
theorem idx : ∀ t : Fin cfg0.N, win0_0.index t = ![t.val % 8, 0] ∧ win0_1.index t = ![0, 0] ∧ win0_2.index t = ![0, 0]
    ∧ win0_3.index t = ![t.val / 8, 0, 0] ∧ win0_4.index t = ![4 + t.val / 8, 0, 0] ∧ win0_5.index t = ![t.val % 8, t.val / 8]
    ∧ win0_6.index t = ![t.val % 8, t.val / 8] ∧ win0_7.index t = ![t.val % 8, t.val / 8] := by decide +kernel
theorem emb5 (t : Fin cfg0.N) (i : Fin 512) (a : Fin 1408) (hr : 512 * (t.val % 8) + i.val < 4096) (hc : 1408 * (t.val / 8) + a.val < 5632) :
    ((win0_5.blk t).view.emb (ix2 i a) : S4096x5632.Idx) = ix2 (⟨512 * (t.val % 8) + i.val, hr⟩ : Fin 4096) (⟨1408 * (t.val / 8) + a.val, hc⟩ : Fin 5632) := by
  have ht : t.val < 32 := t.isLt
  blk_ext [(idx t).2.2.2.2.2.1]
theorem emb6 (t : Fin cfg0.N) (i : Fin 512) (a : Fin 1408) (hr : 512 * (t.val % 8) + i.val < 4096) (hc : 1408 * (t.val / 8) + a.val < 5632) :
    ((win0_6.blk t).view.emb (ix2 i a) : S4096x5632.Idx) = ix2 (⟨512 * (t.val % 8) + i.val, hr⟩ : Fin 4096) (⟨1408 * (t.val / 8) + a.val, hc⟩ : Fin 5632) := by
  have ht : t.val < 32 := t.isLt
  blk_ext [(idx t).2.2.2.2.2.2.1]
theorem emb7 (t : Fin cfg0.N) (i : Fin 512) (a : Fin 1408) (hr : 512 * (t.val % 8) + i.val < 4096) (hc : 1408 * (t.val / 8) + a.val < 5632) :
    ((win0_7.blk t).view.emb (ix2 i a) : S4096x5632.Idx) = ix2 (⟨512 * (t.val % 8) + i.val, hr⟩ : Fin 4096) (⟨1408 * (t.val / 8) + a.val, hc⟩ : Fin 5632) := by
  have ht : t.val < 32 := t.isLt
  blk_ext [(idx t).2.2.2.2.2.2.2]

theorem in0 (t : Fin cfg0.N) (i : Fin 512) (k : Fin 2048) (hr : 512 * (t.val % 8) + i.val < 4096) :
    (View.ld (iblk m c 0 t) r0_0 : Vec Ideal S512x2048 .f32) (ix2 i k) = m ((c : Thread nD τ).loc main_arg0) (ix2 (⟨512 * (t.val % 8) + i.val, hr⟩ : Fin 4096) k) := by
  refine (congrFun (View.ld_unit_lit (S := S512x2048) _ _ (by decide)) (ix2 i k)).trans ?_
  have ht : t.val < 32 := t.isLt
  blk_ext [iblk, V, (idx t).1]
theorem in1 (t : Fin cfg0.N) (k : Fin 2048) :
    (View.ld (iblk m c 1 t) r0_1 : Vec Ideal S1x2048 .f32) (ix2 0 k) = m ((c : Thread nD τ).loc main_arg1) (ix2 0 k) := by
  refine (congrFun (View.ld_unit_lit (S := S1x2048) _ _ (by decide)) (ix2 0 k)).trans ?_
  blk_ext [iblk, V, (idx t).2.1]
theorem in2 (t : Fin cfg0.N) (k : Fin 2048) :
    (View.ld (iblk m c 2 t) r0_1 : Vec Ideal S1x2048 .f32) (ix2 0 k) = m ((c : Thread nD τ).loc main_arg2) (ix2 0 k) := by
  refine (congrFun (View.ld_unit_lit (S := S1x2048) _ _ (by decide)) (ix2 0 k)).trans ?_
  blk_ext [iblk, V, (idx t).2.2.1]
theorem in3 (t : Fin cfg0.N) (k : Fin 2048) (j : Fin 1408) (hb : t.val / 8 < 8) :
    (View.ld (iblk m c 3 t) r0_2 : Vec Ideal S1x2048x1408 .bf16) (ix3 0 k j) = m ((c : Thread nD τ).loc main_arg3) (ix3 (⟨t.val / 8, hb⟩ : Fin 8) k j) := by
  refine (congrFun (View.ld_unit_lit (S := S1x2048x1408) _ _ (by decide)) (ix3 0 k j)).trans ?_
  have ht : t.val < 32 := t.isLt
  blk_ext [iblk, V, (idx t).2.2.2.1]
theorem in4 (t : Fin cfg0.N) (k : Fin 2048) (j : Fin 1408) (hb : 4 + t.val / 8 < 8) :
    (View.ld (iblk m c 4 t) r0_2 : Vec Ideal S1x2048x1408 .bf16) (ix3 0 k j) = m ((c : Thread nD τ).loc main_arg3) (ix3 (⟨4 + t.val / 8, hb⟩ : Fin 8) k j) := by
  refine (congrFun (View.ld_unit_lit (S := S1x2048x1408) _ _ (by decide)) (ix3 0 k j)).trans ?_
  have ht : t.val < 32 := t.isLt
  blk_ext [iblk, V, (idx t).2.2.2.2.1]

/-- A block's row and column, the arguments at them. -/
theorem blkA (t : Fin cfg0.N) (i : Fin 512) (a : Fin 1408) (hr : 512 * (t.val % 8) + i.val < 4096) (hb : t.val / 8 < 8) :
    k0_pay2 (View.ld (iblk m c 0 t) r0_0) (View.ld (iblk m c 1 t) r0_1) (View.ld (iblk m c 2 t) r0_1) (View.ld (iblk m c 3 t) r0_2) (ix2 i a)
      = prj (m ((c : Thread nD τ).loc main_arg0)) (m ((c : Thread nD τ).loc main_arg1)) (m ((c : Thread nD τ).loc main_arg2)) (m ((c : Thread nD τ).loc main_arg3))
          ⟨512 * (t.val % 8) + i.val, hr⟩ ⟨t.val / 8, hb⟩ a := by
  rw [pay2_val]
  exact Finset.sum_congr rfl fun k _ => by rw [in0 m c t i k hr, in1, in2, in3 m c t k a hb]
theorem blkB (t : Fin cfg0.N) (i : Fin 512) (a : Fin 1408) (hr : 512 * (t.val % 8) + i.val < 4096) (hb : 4 + t.val / 8 < 8) :
    k0_pay3 (View.ld (iblk m c 0 t) r0_0) (View.ld (iblk m c 1 t) r0_1) (View.ld (iblk m c 2 t) r0_1) (View.ld (iblk m c 4 t) r0_2) (ix2 i a)
      = prj (m ((c : Thread nD τ).loc main_arg0)) (m ((c : Thread nD τ).loc main_arg1)) (m ((c : Thread nD τ).loc main_arg2)) (m ((c : Thread nD τ).loc main_arg3))
          ⟨512 * (t.val % 8) + i.val, hr⟩ ⟨4 + t.val / 8, hb⟩ a := by
  rw [pay3_val]
  exact Finset.sum_congr rfl fun k _ => by rw [in0 m c t i k hr, in1, in2, in4 m c t k a hb]
theorem resA_at (h : Vec Ideal S4096x2048 .f32) (sh sc : Vec Ideal S1x2048 .f32) (w : Vec Ideal S8x2048x1408 .bf16) (r : Fin 4096) (b : Nat) (a : Fin 1408)
    (hc : 1408 * b + a.val < 5632) (hb : b < 8) : resA h sh sc w (ix2 r (⟨1408 * b + a.val, hc⟩ : Fin 5632)) = prj h sh sc w r ⟨b, hb⟩ a := by
  unfold resA
  exact congr (congrArg (prj h sh sc w r) (Fin.ext (by show (1408 * b + a.val) / 1408 = b; omega))) (Fin.ext (by show (1408 * b + a.val) % 1408 = a.val; omega))
theorem resB_at (h : Vec Ideal S4096x2048 .f32) (sh sc : Vec Ideal S1x2048 .f32) (w : Vec Ideal S8x2048x1408 .bf16) (r : Fin 4096) (b : Nat) (a : Fin 1408)
    (hc : 1408 * b + a.val < 5632) (hb : 4 + b < 8) : resB h sh sc w (ix2 r (⟨1408 * b + a.val, hc⟩ : Fin 5632)) = prj h sh sc w r ⟨4 + b, hb⟩ a := by
  unfold resB
  exact congr (congrArg (prj h sh sc w r) (Fin.ext (by show 4 + (1408 * b + a.val) / 1408 = 4 + b; omega))) (Fin.ext (by show (1408 * b + a.val) % 1408 = a.val; omega))

/-- Result 0 of the kernel. -/
theorem final5 : (dats m 0 c).arrAt 5 cfg0.N
    = resA (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have ht : t.val < 32 := t.isLt
  obtain ⟨i, a, rfl⟩ : ∃ (i : Fin 512) (a : Fin 1408), y = ix2 i a := ⟨y 0, y 1, eq_ix2 y⟩
  refine Eq.trans ?_ (((congrArg (resA _ _ _ _) (emb5 t i a (by omega) (by omega))).trans (resA_at _ _ _ _ _ (t.val / 8) a (by omega) (by omega))).symm)
  rw [← blkA m c t i a]
  show (dats m 0 c).after 5 t (ix2 i a) = _
  rw [after0_5]
  unfold out0_5
  rw [View.canon_cons_unit_lit _ _ _ (by decide)]
  rfl
/-- Result 1 of the kernel. -/
theorem final6 : (dats m 0 c).arrAt 6 cfg0.N
    = resB (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  have ht : t.val < 32 := t.isLt
  obtain ⟨i, a, rfl⟩ : ∃ (i : Fin 512) (a : Fin 1408), y = ix2 i a := ⟨y 0, y 1, eq_ix2 y⟩
  refine Eq.trans ?_ (((congrArg (resB _ _ _ _) (emb6 t i a (by omega) (by omega))).trans (resB_at _ _ _ _ _ (t.val / 8) a (by omega) (by omega))).symm)
  rw [← blkB m c t i a]
  show (dats m 0 c).after 6 t (ix2 i a) = _
  rw [after0_6]
  unfold out0_6
  rw [View.canon_cons_unit_lit _ _ _ (by decide)]
  rfl
/-- Result 2 of the kernel. -/
theorem final7 : (dats m 0 c).arrAt 7 cfg0.N
    = resC (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  have ht : t.val < 32 := t.isLt
  obtain ⟨i, a, rfl⟩ : ∃ (i : Fin 512) (a : Fin 1408), y = ix2 i a := ⟨y 0, y 1, eq_ix2 y⟩
  refine Eq.trans ?_ (congrArg (resC _ _ _ _) (emb7 t i a (by omega) (by omega))).symm
  unfold resC
  rw [resA_at _ _ _ _ _ (t.val / 8) a (by omega) (by omega), resB_at _ _ _ _ _ (t.val / 8) a (by omega) (by omega), ← blkA m c t i a, ← blkB m c t i a, ← pay6_val]
  show (dats m 0 c).after 7 t (ix2 i a) = _
  rw [after0_7]
  unfold out0_7
  rw [View.canon_cons_unit_lit _ _ _ (by decide)]
  rfl
end Cert.Kernel4Ideal.Val
end
-- ==== Proof.F2.lean ====
module
public import proofs.«01_k».proof.Proof.Gen.Kernel2Ideal.Value
public import proofs.«01_k».proof.Proof.F4
public import Idealize.ShloMosaic.Lib.Pointwise
public import Idealize.ShloMosaic.Lib.Pipeline.ValueKit.Point
@[expose] public section
/-! # The gradients of the feed-forward layer's two products over the reals

The kernel's result at a row and a column, from the arguments. -/
set_option maxRecDepth 16384
noncomputable section
namespace Cert.Kernel2Ideal.Val
open Cert.Kernel2Ideal Cert.Kernel2Ideal.Gen Idealize.ShloMosaic Idealize.ShloMosaic.TcCoe Idealize.SL.Sem Cert.RealVal Cert.Ffn

/-- A row of the layer's gradient times a row of the output weights: the gradient of the gated product. -/
def gz (df : Vec Ideal S4096x2048 .bf16) (w : Vec Ideal S5632x2048 .bf16) (r : Fin 4096) (j : Fin 5632) : EReal := ∑ k : Fin 2048, df (ix2 r k) * w (ix2 j k)
/-- The gradient of the gate from the gated product's. -/
def dA (g a b : EReal) : EReal := g * b * (sgE a * (1 + a * (1 - sgE a)))
/-- The gradient of the other factor from the gated product's. -/
def dB (g a : EReal) : EReal := g * (a * sgE a)
/-- The two gradients, one array. -/
def res (df : Vec Ideal S4096x2048 .bf16) (w : Vec Ideal S5632x2048 .bf16) (a b : Vec Ideal S4096x5632 .bf16) (p : Fin 2) (r : Fin 4096) (j : Fin 5632) : EReal :=
  if p.val = 0 then dA (gz df w r j) (a (ix2 r j)) (b (ix2 r j)) else dB (gz df w r j) (a (ix2 r j))

theorem pay1_val (v0 : Vec Ideal S512x2048 .bf16) (v1 : Vec Ideal S1408x2048 .bf16) (i : Fin 512) (j : Fin 1408) :
    k0_pay1 v0 v1 (ix2 i j) = ∑ k : Fin 2048, v0 (ix2 i k) * v1 (ix2 j k) := by
  pointwise [k0_pay1]
theorem pay3_val (v3 : Vec Ideal S512x1408 .bf16) (x : S512x1408.Idx) : k0_pay3 v3 x = sgE (v3 x) := by
  rw [← sgE_tanh]
  rfl
theorem cast_val (v : Vec Ideal S512x1408 .bf16) (h : S512x1408.ShapeCasts S1x512x1408) (i : Fin 512) (j : Fin 1408) :
    shapeCast S1x512x1408 v h (ix3 0 i j) = v (ix2 i j) := by
  pointwise []
theorem pay4_val (v0 : Vec Ideal S512x2048 .bf16) (v1 : Vec Ideal S1408x2048 .bf16) (v3 v12 : Vec Ideal S512x1408 .bf16) (i : Fin 512) (j : Fin 1408) :
    k0_pay4 v0 v1 v3 v12 (ix3 0 i j) = dA (k0_pay1 v0 v1 (ix2 i j)) (v3 (ix2 i j)) (v12 (ix2 i j)) := by
  unfold k0_pay4 dA
  refine (cast_val _ _ i j).trans ?_
  rw [← pay3_val, ← Ideal.ofBits_one_f32]
  rfl
theorem pay5_val (v0 : Vec Ideal S512x2048 .bf16) (v1 : Vec Ideal S1408x2048 .bf16) (v3 : Vec Ideal S512x1408 .bf16) (i : Fin 512) (j : Fin 1408) :
    k0_pay5 v0 v1 v3 (ix3 0 i j) = dB (k0_pay1 v0 v1 (ix2 i j)) (v3 (ix2 i j)) := by
  unfold k0_pay5 dB
  refine (cast_val _ _ i j).trans ?_
  rw [← pay3_val]
  rfl

/-- What the two stores leave, by place in the block. -/
def blkG (x0 : Vec Ideal S512x2048 .bf16) (x1 : Vec Ideal S1408x2048 .bf16) (x2 x3 : Vec Ideal S512x1408 .bf16) : S2x512x1408.Idx → EReal := fun y =>
  if (y 0).val = 0 then k0_pay4 (View.ld x0 r0_0) (View.ld x1 r0_1) (View.ld x2 r0_2) (View.ld x3 r0_2) (ix3 (0 : Fin 1) (⟨(y 1).val, (y 1).isLt⟩ : Fin 512) (⟨(y 2).val, (y 2).isLt⟩ : Fin 1408))
  else k0_pay5 (View.ld x0 r0_0) (View.ld x1 r0_1) (View.ld x2 r0_2) (ix3 (0 : Fin 1) (⟨(y 1).val, (y 1).isLt⟩ : Fin 512) (⟨(y 2).val, (y 2).isLt⟩ : Fin 1408))
theorem emb_0 (i : Fin 512) (a : Fin 1408) : (r0_3.emb (ix3 (0 : Fin 1) i a) : S2x512x1408.Idx) = ix3 (0 : Fin 2) i a := by
  funext d
  match d with
  | ⟨0, _⟩ => rfl
  | ⟨1, _⟩ => exact Fin.ext (by show 0 + 1 * i.val = i.val; omega)
  | ⟨2, _⟩ => exact Fin.ext (by show 0 + 1 * a.val = a.val; omega)
theorem emb_1 (i : Fin 512) (a : Fin 1408) : (r0_4.emb (ix3 (0 : Fin 1) i a) : S2x512x1408.Idx) = ix3 (1 : Fin 2) i a := by
  funext d
  match d with
  | ⟨0, _⟩ => rfl
  | ⟨1, _⟩ => exact Fin.ext (by show 0 + 1 * i.val = i.val; omega)
  | ⟨2, _⟩ => exact Fin.ext (by show 0 + 1 * a.val = a.val; omega)
theorem out_apply (x0 : Vec Ideal S512x2048 .bf16) (x1 : Vec Ideal S1408x2048 .bf16) (x2 x3 : Vec Ideal S512x1408 .bf16) (y : S2x512x1408.Idx) :
    out0_4 x0 x1 x2 x3 y = blkG x0 x1 x2 x3 y := by
  unfold out0_4
  refine View.canon_apply_of_pieces (Val := Elt Ideal) (e := .bf16) (blkG x0 x1 x2 x3) _ (fun pc hp x => ?_) _ (cover0_4 _ _ _)
  simp only [List.mem_cons, List.not_mem_nil, or_false] at hp
  rcases hp with rfl | rfl
  · obtain ⟨q, i, a, rfl⟩ : ∃ (q : Fin 1) (i : Fin 512) (a : Fin 1408), x = ix3 q i a := ⟨x 0, x 1, x 2, eq_ix3 x⟩
    obtain rfl : q = 0 := Subsingleton.elim _ _
    exact (congrArg (blkG x0 x1 x2 x3) (emb_1 i a)).symm
  · obtain ⟨q, i, a, rfl⟩ : ∃ (q : Fin 1) (i : Fin 512) (a : Fin 1408), x = ix3 q i a := ⟨x 0, x 1, x 2, eq_ix3 x⟩
    obtain rfl : q = 0 := Subsingleton.elim _ _
    exact (congrArg (blkG x0 x1 x2 x3) (emb_0 i a)).symm

variable (m : (ℓ : Loc nD τ sig) → Buf (Elt Ideal) ℓ) (c : Dev nD)
theorem idx : ∀ t : Fin cfg0.N, win0_0.index t = ![t.val % 8, 0] ∧ win0_1.index t = ![t.val / 8, 0] ∧ win0_2.index t = ![t.val % 8, t.val / 8]
    ∧ win0_3.index t = ![t.val % 8, t.val / 8] ∧ win0_4.index t = ![0, t.val % 8, t.val / 8] := by decide +kernel
theorem emb4 (t : Fin cfg0.N) (p : Fin 2) (i : Fin 512) (a : Fin 1408) (hr : 512 * (t.val % 8) + i.val < 4096) (hc : 1408 * (t.val / 8) + a.val < 5632) :
    ((win0_4.blk t).view.emb (ix3 p i a) : S2x4096x5632.Idx) = ix3 p (⟨512 * (t.val % 8) + i.val, hr⟩ : Fin 4096) (⟨1408 * (t.val / 8) + a.val, hc⟩ : Fin 5632) := by
  have ht : t.val < 32 := t.isLt
  blk_ext [(idx t).2.2.2.2]
theorem in0 (t : Fin cfg0.N) (i : Fin 512) (k : Fin 2048) (hr : 512 * (t.val % 8) + i.val < 4096) :
    (View.ld (iblk m c 0 t) r0_0 : Vec Ideal S512x2048 .bf16) (ix2 i k) = m ((c : Thread nD τ).loc main_arg0) (ix2 (⟨512 * (t.val % 8) + i.val, hr⟩ : Fin 4096) k) := by
  refine (congrFun (View.ld_unit_lit (S := S512x2048) _ _ (by decide)) (ix2 i k)).trans ?_
  have ht : t.val < 32 := t.isLt
  blk_ext [iblk, V, (idx t).1]
theorem in1 (t : Fin cfg0.N) (j : Fin 1408) (k : Fin 2048) (hj : 1408 * (t.val / 8) + j.val < 5632) :
    (View.ld (iblk m c 1 t) r0_1 : Vec Ideal S1408x2048 .bf16) (ix2 j k) = m ((c : Thread nD τ).loc main_arg1) (ix2 (⟨1408 * (t.val / 8) + j.val, hj⟩ : Fin 5632) k) := by
  refine (congrFun (View.ld_unit_lit (S := S1408x2048) _ _ (by decide)) (ix2 j k)).trans ?_
  have ht : t.val < 32 := t.isLt
  blk_ext [iblk, V, (idx t).2.1]
theorem in2 (t : Fin cfg0.N) (i : Fin 512) (j : Fin 1408) (hr : 512 * (t.val % 8) + i.val < 4096) (hj : 1408 * (t.val / 8) + j.val < 5632) :
    (View.ld (iblk m c 2 t) r0_2 : Vec Ideal S512x1408 .bf16) (ix2 i j) = m ((c : Thread nD τ).loc main_arg2) (ix2 (⟨512 * (t.val % 8) + i.val, hr⟩ : Fin 4096) (⟨1408 * (t.val / 8) + j.val, hj⟩ : Fin 5632)) := by
  refine (congrFun (View.ld_unit_lit (S := S512x1408) _ _ (by decide)) (ix2 i j)).trans ?_
  have ht : t.val < 32 := t.isLt
  blk_ext [iblk, V, (idx t).2.2.1]
theorem in3 (t : Fin cfg0.N) (i : Fin 512) (j : Fin 1408) (hr : 512 * (t.val % 8) + i.val < 4096) (hj : 1408 * (t.val / 8) + j.val < 5632) :
    (View.ld (iblk m c 3 t) r0_2 : Vec Ideal S512x1408 .bf16) (ix2 i j) = m ((c : Thread nD τ).loc main_arg3) (ix2 (⟨512 * (t.val % 8) + i.val, hr⟩ : Fin 4096) (⟨1408 * (t.val / 8) + j.val, hj⟩ : Fin 5632)) := by
  refine (congrFun (View.ld_unit_lit (S := S512x1408) _ _ (by decide)) (ix2 i j)).trans ?_
  have ht : t.val < 32 := t.isLt
  blk_ext [iblk, V, (idx t).2.2.2.1]

/-- The result, an array of three axes. -/
def resV (df : Vec Ideal S4096x2048 .bf16) (w : Vec Ideal S5632x2048 .bf16) (a b : Vec Ideal S4096x5632 .bf16) : S2x4096x5632.Idx → EReal := fun y =>
  res df w a b ⟨(y 0).val, (y 0).isLt⟩ ⟨(y 1).val, (y 1).isLt⟩ ⟨(y 2).val, (y 2).isLt⟩

/-- The result of the kernel. -/
theorem final4 : (dats m 0 c).arrAt 4 cfg0.N
    = resV (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have ht : t.val < 32 := t.isLt
  obtain ⟨p, i, a, rfl⟩ : ∃ (p : Fin 2) (i : Fin 512) (a : Fin 1408), y = ix3 p i a := ⟨y 0, y 1, y 2, eq_ix3 y⟩
  have hr : 512 * (t.val % 8) + i.val < 4096 := by omega
  have hc : 1408 * (t.val / 8) + a.val < 5632 := by omega
  refine Eq.trans ?_ (congrArg (resV _ _ _ _) (emb4 t p i a hr hc)).symm
  show (dats m 0 c).after 4 t (ix3 p i a) = res _ _ _ _ p (⟨512 * (t.val % 8) + i.val, hr⟩ : Fin 4096) (⟨1408 * (t.val / 8) + a.val, hc⟩ : Fin 5632)
  have eg : k0_pay1 (View.ld (iblk m c 0 t) r0_0) (View.ld (iblk m c 1 t) r0_1) (ix2 i a)
      = gz (m ((c : Thread nD τ).loc main_arg0)) (m ((c : Thread nD τ).loc main_arg1)) (⟨512 * (t.val % 8) + i.val, hr⟩ : Fin 4096) (⟨1408 * (t.val / 8) + a.val, hc⟩ : Fin 5632) := by
    rw [pay1_val]
    exact Finset.sum_congr rfl fun k _ => by rw [in0 m c t i k hr, in1 m c t a k hc]
  rw [after0_4, out_apply]
  unfold res blkG
  by_cases hp : p.val = 0
  · rw [if_pos (show ((ix3 p i a : S2x512x1408.Idx) 0).val = 0 from hp), if_pos hp, ← eg, ← in2 m c t i a hr hc, ← in3 m c t i a hr hc]
    exact pay4_val _ _ _ _ i a
  · rw [if_neg (show ¬ ((ix3 p i a : S2x512x1408.Idx) 0).val = 0 from hp), if_neg hp, ← eg, ← in2 m c t i a hr hc]
    exact pay5_val _ _ _ i a
end Cert.Kernel2Ideal.Val
end
-- ==== Proof.R2.lean ====
module
public import proofs.«01_k».proof.Proof.Gen.Reference2Ideal.Read
public import proofs.«01_k».proof.Proof.F2
@[expose] public section
/-! # The reference of the gradients of the feed-forward layer's two products over the reals -/
set_option maxRecDepth 16384
noncomputable section
namespace Cert.Reference2Ideal.Val
open Cert.Reference2Ideal Cert.Reference2Ideal.Gen Cert.Reference2Ideal.Read Idealize.ShloMosaic Idealize.ShloMosaic.TcCoe Idealize.SL.Sem Cert.RealVal Cert.Ffn
open Cert.Kernel2Ideal.Val (gz dA dB res resV)

variable (df : Vec Ideal S4096x2048 .bf16) (w : Vec Ideal S5632x2048 .bf16) (a b : Vec Ideal S4096x5632 .bf16)

theorem v7_val (r : Fin 4096) (j : Fin 5632) : val_main_v7 (F := Ideal) df w (ix2 r j) = gz df w r j := by
  rw [val_main_v7_apply]
  refine Finset.sum_congr rfl fun k _ => congrArg₂ (· * ·) ?_ ?_
  · exact congrArg df (eq_ix2 _)
  · exact congrArg w (eq_ix2 _)
theorem sig_val (i : S4096x5632.Idx) : val_main_v4_2 (F := Ideal) a i = sgE (a i) := by
  rw [val_main_v4_2_apply, val_main_call0_v4_apply, val_main_call0_cst_0_apply, val_main_call0_v3_apply, val_main_call0_v2_apply, val_main_call0_cst_apply,
    val_main_call0_v1_apply, val_main_call0_v0_apply]
  unfold sgE
  rw [← Ideal.ofBits_one_f32]
  rfl
theorem v8_val (r : Fin 4096) (j : Fin 5632) : val_main_v8 (F := Ideal) df w a (ix2 r j) = a (ix2 r j) * sgE (a (ix2 r j)) * gz df w r j := by
  rw [val_main_v8_apply, v7_val, val_main_v4_0_apply, sig_val]
  rfl
theorem v10_val (r : Fin 4096) (j : Fin 5632) : val_main_v10 (F := Ideal) df w a b (ix2 r j)
    = gz df w r j * b (ix2 r j) * sgE (a (ix2 r j))
      + a (ix2 r j) * (gz df w r j * b (ix2 r j)) * (sgE (a (ix2 r j)) * (1 - sgE (a (ix2 r j)))) := by
  rw [val_main_v10_apply, val_main_call1_v2_apply, val_main_call1_v1_apply, val_main_call1_v0_apply, val_main_v9_apply, v7_val, val_main_v4_1_apply, val_main_call0_v7_apply,
    val_main_call0_v6_apply, val_main_call0_cst_1_apply, sig_val, ← Ideal.ofBits_one_f32]
  rfl
theorem gz_coe (h0 : ∀ i, df i = ((EReal.toReal (df i) : ℝ) : EReal)) (h1 : ∀ i, w i = ((EReal.toReal (w i) : ℝ) : EReal)) (r : Fin 4096) (j : Fin 5632) :
    ∃ g : ℝ, gz df w r j = (g : EReal) := by
  refine ⟨∑ k : Fin 2048, EReal.toReal (df (ix2 r k)) * EReal.toReal (w (ix2 j k)), ?_⟩
  unfold gz
  rw [← sum_coe]
  exact Finset.sum_congr rfl fun k _ => by rw [EReal.coe_mul, ← h0, ← h1]

theorem cat_left (x y : S1x4096x5632.Idx → EReal) (h : Shape.Concatenates [S1x4096x5632, S1x4096x5632] S2x4096x5632 0) (p : Fin 2) (r : Fin 4096) (j : Fin 5632) (hp : p.val = 0) :
    concatenate S2x4096x5632 0 [⟨S1x4096x5632, x⟩, ⟨S1x4096x5632, y⟩] h (ix3 p r j) = x (ix3 (0 : Fin 1) r j) :=
  concatenate_pair_apply_left (t := S2x4096x5632) 0 x y h (ix3 p r j) rfl (ix3 (0 : Fin 1) r j) fun d => match d with
    | ⟨0, _⟩ => hp.symm
    | ⟨1, _⟩ => rfl
    | ⟨2, _⟩ => rfl
theorem cat_right (x y : S1x4096x5632.Idx → EReal) (h : Shape.Concatenates [S1x4096x5632, S1x4096x5632] S2x4096x5632 0) (p : Fin 2) (r : Fin 4096) (j : Fin 5632) (hp : ¬ p.val = 0) :
    concatenate S2x4096x5632 0 [⟨S1x4096x5632, x⟩, ⟨S1x4096x5632, y⟩] h (ix3 p r j) = y (ix3 (0 : Fin 1) r j) :=
  concatenate_pair_apply_right (t := S2x4096x5632) 0 x y h (ix3 p r j) rfl rfl (ix3 (0 : Fin 1) r j) (fun d => match d with
    | ⟨0, _⟩ => fun hd => absurd rfl hd
    | ⟨1, _⟩ => fun _ => rfl
    | ⟨2, _⟩ => fun _ => rfl) (by show 0 + 1 = p.val; have := p.isLt; omega)

/-- The reference's result is the kernel's where the arguments are real numbers. -/
theorem v14_val (h0 : ∀ i, df i = ((EReal.toReal (df i) : ℝ) : EReal)) (h1 : ∀ i, w i = ((EReal.toReal (w i) : ℝ) : EReal))
    (h2 : ∀ i, a i = ((EReal.toReal (a i) : ℝ) : EReal)) (h3 : ∀ i, b i = ((EReal.toReal (b i) : ℝ) : EReal)) :
    val_main_v14 (F := Ideal) df w a b = resV df w a b := by
  funext y
  obtain ⟨p, r, j, rfl⟩ : ∃ (p : Fin 2) (r : Fin 4096) (j : Fin 5632), y = ix3 p r j := ⟨y 0, y 1, y 2, eq_ix3 y⟩
  show val_main_v13 (F := Ideal) df w a b (ix3 p r j) = res df w a b p r j
  obtain ⟨g, hg⟩ := gz_coe df w h0 h1 r j
  unfold val_main_v13 res
  by_cases hp : p.val = 0
  · rw [if_pos hp]
    refine (cat_left _ _ _ p r j hp).trans ?_
    · rw [val_main_v11_apply, show idx_main_v11 (ix3 (0 : Fin 1) r j) = ix2 r j from eq_ix2 _, v10_val]
      unfold dA
      rw [hg, h2 (ix2 r j), h3 (ix2 r j), sgE_coe, c_one]
      simp only [← EReal.coe_mul, ← EReal.coe_sub, ← EReal.coe_add]
      exact congrArg _ (by ring)
  · rw [if_neg hp]
    refine (cat_right _ _ _ p r j hp).trans ?_
    · rw [val_main_v12_apply, show idx_main_v12 (ix3 (0 : Fin 1) r j) = ix2 r j from eq_ix2 _, v8_val]
      unfold dB
      exact mul_comm _ _
end Cert.Reference2Ideal.Val
end
-- ==== Proof.Pre2.lean ====
module
public import proofs.«01_k».proof.Proof.PreVal
@[expose] public section
/-! # The second precondition: the arguments hold real numbers -/
set_option maxRecDepth 16384
noncomputable section
namespace Cert.PreVal2
open Idealize.ShloMosaic Idealize.ShloMosaic.TcCoe Idealize.SL.Sem Cert.RealVal

/-- The shape relations the precondition's operations take. -/
theorem facts : Cert.Pre_finite2.Facts where
  bitsLt_bf16_f32 := by decide
  bcast_S_S4096x2048 := by decide
  bcast_S_S5632x2048 := by decide
  bcast_S_S4096x5632 := by decide

/-- Four arrays that pass the precondition hold real numbers. -/
theorem args_of [Cert.Pre_finite2.Facts] (x0 : FVec Ideal Cert.Pre_finite2.S4096x2048 .bf16) (x1 : FVec Ideal Cert.Pre_finite2.S5632x2048 .bf16)
    (x2 x3 : FVec Ideal Cert.Pre_finite2.S4096x5632 .bf16)
    (h0 : (Cert.Pre_finite2.fn (F := Ideal) x0 x1 x2 x3).1 = fun _ => 1#1)
    (h1 : (Cert.Pre_finite2.fn (F := Ideal) x0 x1 x2 x3).2.1 = fun _ => 1#1)
    (h2 : (Cert.Pre_finite2.fn (F := Ideal) x0 x1 x2 x3).2.2.1 = fun _ => 1#1)
    (h3 : (Cert.Pre_finite2.fn (F := Ideal) x0 x1 x2 x3).2.2.2 = fun _ => 1#1) :
    (∀ i, x0 i = ((EReal.toReal (x0 i) : ℝ) : EReal)) ∧ (∀ i, x1 i = ((EReal.toReal (x1 i) : ℝ) : EReal)) ∧ (∀ i, x2 i = ((EReal.toReal (x2 i) : ℝ) : EReal))
      ∧ (∀ i, x3 i = ((EReal.toReal (x3 i) : ℝ) : EReal)) :=
  ⟨fun i => Cert.PreVal.real_of _ (congrFun h0 i), fun i => Cert.PreVal.real_of _ (congrFun h1 i), fun i => Cert.PreVal.real_of _ (congrFun h2 i),
    fun i => Cert.PreVal.real_of _ (congrFun h3 i)⟩
end Cert.PreVal2
end
-- ==== Proof.Top2.lean ====
module
public import proofs.«01_k».proof.Defs
public import proofs.«01_k».proof.Proof.R2
public import proofs.«01_k».proof.Proof.Pre2
public import proofs.«01_k».proof.Proof.Gen.Kernel2.Frame
public import proofs.«01_k».proof.Proof.Gen.Reference2Ideal.Run
@[expose] public section
/-! # The gradient of the gated unit: the claims -/
set_option maxRecDepth 16384
noncomputable section
namespace Cert.Top2
open Idealize.ShloMosaic Idealize.SL.Sem

/-- Argument 0 on core `c`. -/
abbrev A0 (m : (ℓ : Loc Cert.Kernel2Ideal.nD Cert.Kernel2Ideal.τ Cert.Kernel2Ideal.sig) → Buf (Elt Ideal) ℓ) (c : Dev Cert.Kernel2Ideal.nD) := m ((c.tc : Thread Cert.Kernel2Ideal.nD Cert.Kernel2Ideal.τ).loc Cert.Kernel2Ideal.main_arg0)
/-- Argument 1 on core `c`. -/
abbrev A1 (m : (ℓ : Loc Cert.Kernel2Ideal.nD Cert.Kernel2Ideal.τ Cert.Kernel2Ideal.sig) → Buf (Elt Ideal) ℓ) (c : Dev Cert.Kernel2Ideal.nD) := m ((c.tc : Thread Cert.Kernel2Ideal.nD Cert.Kernel2Ideal.τ).loc Cert.Kernel2Ideal.main_arg1)
/-- Argument 2 on core `c`. -/
abbrev A2 (m : (ℓ : Loc Cert.Kernel2Ideal.nD Cert.Kernel2Ideal.τ Cert.Kernel2Ideal.sig) → Buf (Elt Ideal) ℓ) (c : Dev Cert.Kernel2Ideal.nD) := m ((c.tc : Thread Cert.Kernel2Ideal.nD Cert.Kernel2Ideal.τ).loc Cert.Kernel2Ideal.main_arg2)
/-- Argument 3 on core `c`. -/
abbrev A3 (m : (ℓ : Loc Cert.Kernel2Ideal.nD Cert.Kernel2Ideal.τ Cert.Kernel2Ideal.sig) → Buf (Elt Ideal) ℓ) (c : Dev Cert.Kernel2Ideal.nD) := m ((c.tc : Thread Cert.Kernel2Ideal.nD Cert.Kernel2Ideal.τ).loc Cert.Kernel2Ideal.main_arg3)

/-- Over the extended reals the kernel's result is the reference's, on arguments that are real numbers. -/
theorem values : @Cert.algebraic_Kernel2Ideal_Reference2Ideal_pre_finite2 Cert.Kernel2Ideal.Gen.facts Cert.Reference2Ideal.Gen.facts Cert.PreVal2.facts := by
  intro m g m' g' hp he
  refine ⟨fun c => Cert.Kernel2Ideal.Val.resV (A0 m c) (A1 m c) (A2 m c) (A3 m c), (θ_run _ _ _).mono (fun r h c => ?_) (Cert.Kernel2Ideal.Value.run_blocks m g), (θ_run _ _ _).mono (fun r h c => ?_) (Cert.Reference2Ideal.Value.run m' g')⟩
  · obtain ⟨h0, hk⟩ := h c
    exact ⟨h0.trans (Cert.Kernel2Ideal.Val.final4 m c), hk⟩
  · obtain ⟨h0, hk⟩ := h c
    obtain ⟨e0, e1, e2, e3⟩ := he c
    refine ⟨h0.trans ?_, hk⟩
    haveI := Cert.PreVal2.facts
    obtain ⟨r0, r1, r2, r3⟩ := Cert.PreVal2.args_of (A0 m c) (A1 m c) (A2 m c) (A3 m c) (hp c).1 (hp c).2.1 (hp c).2.2.1 (hp c).2.2.2
    rw [Cert.Reference2Ideal.Read.val_main_v14_eq]
    exact (congr (congr (congr (congrArg (Cert.Reference2Ideal.Read.val_main_v14 (F := Ideal)) e0) e1) e2) e3).trans (Cert.Reference2Ideal.Val.v14_val (A0 m c) (A1 m c) (A2 m c) (A3 m c) r0 r1 r2 r3)
theorem frameK : @Cert.quiescent_Kernel2 Cert.Kernel2.Gen.facts := fun m ρ _ => Cert.Kernel2.Gen.frame m ρ
theorem frameKI : @Cert.quiescent_Kernel2Ideal Cert.Kernel2Ideal.Gen.facts := fun m ρ _ => Cert.Kernel2Ideal.Gen.frame m ρ
theorem frameRI : @Cert.quiescent_Reference2Ideal Cert.Reference2Ideal.Gen.facts := fun m ρ _ =>
  (θ_run _ _ _).mono (fun r h => ⟨fun c => (h c).2, sem_eq_zero_of_no_sems (by decide) r.2⟩) (Cert.Reference2Ideal.Value.run m ρ)
theorem frameKI' : @Cert.quiescent_Kernel2Ideal_pre_finite2 Cert.Kernel2Ideal.Gen.facts Cert.PreVal2.facts := fun m ρ _ => Cert.Kernel2Ideal.Gen.frame m ρ
theorem frameRI' : @Cert.quiescent_Reference2Ideal_pre_finite2 Cert.Reference2Ideal.Gen.facts Cert.PreVal2.facts := fun m ρ _ =>
  (θ_run _ _ _).mono (fun r h => ⟨fun c => (h c).2, sem_eq_zero_of_no_sems (by decide) r.2⟩) (Cert.Reference2Ideal.Value.run m ρ)
end Cert.Top2
end
-- ==== Proof.F3.lean ====
module
public import proofs.«01_k».proof.Proof.Gen.Kernel3Ideal.Value
public import proofs.«01_k».proof.Proof.F4
public import Idealize.ShloMosaic.Lib.Pipeline.ValueKit
public import Idealize.ShloMosaic.Lib.Pipeline.ReadBack
public import Idealize.ShloMosaic.Lib.Pipeline.Regions
public import Idealize.ShloMosaic.Lib.Pointwise
public import Idealize.ShloMosaic.Lib.Pipeline.ValueKit.Point
@[expose] public section
/-! # The gradient of the feed-forward layer's input weights over the reals

The kernel's result at a block, a row and a column, from the arguments. -/
set_option maxRecDepth 16384
noncomputable section
namespace Cert.Kernel3Ideal.Val
open Cert.Kernel3Ideal Cert.Kernel3Ideal.Gen Idealize.ShloMosaic Idealize.ShloMosaic.TcCoe Idealize.SL.Sem Cert.RealVal

section Open
variable {F : FTy → Type} [FloatOps F]
set_option maxHeartbeats 4000000 in
/-- The first block of rows leaves its product on zeros. -/
theorem sout0_A_0_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1024x1408 .bf16) (harg5 : arg5.IsWhole) (arg6 : Memref sig .tc .vmem S1x2048x1408 .bf16) (harg6 : arg6.IsWhole) (arg7 : Memref sig .tc .vmem S2048x1408 .f32) (harg7 : arg7.IsWhole) (hc0 : cond0_0 i) (hc1 : ¬cond0_1 i)
    (x0 : Vec F S1024x2048 .f32) (x1 : Vec F S1x2048 .f32) (x2 : Vec F S1x2048 .f32) (x3 : Vec F S1x1024x1408 .bf16) :
    sout0_A_0 c i arg2 harg2 arg3 harg3 arg4 harg4 arg5 harg5 arg6 harg6 arg7 harg7 hc0 hc1 x0 x1 x2 x3 = k0_pay2 x0 x3 x1 x2 k0_pay1 := by
  frame_out
set_option maxHeartbeats 4000000 in
/-- A further block of rows leaves its product on what it found. -/
theorem sout0_B_0_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1024x1408 .bf16) (harg5 : arg5.IsWhole) (arg6 : Memref sig .tc .vmem S1x2048x1408 .bf16) (harg6 : arg6.IsWhole) (arg7 : Memref sig .tc .vmem S2048x1408 .f32) (harg7 : arg7.IsWhole) (hc0 : ¬cond0_0 i) (hc1 : ¬cond0_1 i)
    (x0 : Vec F S1024x2048 .f32) (x1 : Vec F S1x2048 .f32) (x2 : Vec F S1x2048 .f32) (x3 : Vec F S1x1024x1408 .bf16) (xs0 : Vec F S2048x1408 .f32) :
    sout0_B_0 c i arg2 harg2 arg3 harg3 arg4 harg4 arg5 harg5 arg6 harg6 arg7 harg7 hc0 hc1 x0 x1 x2 x3 xs0 = k0_pay2 x0 x3 x1 x2 xs0 := by
  frame_out
set_option maxHeartbeats 4000000 in
/-- The last block of rows leaves its product on what it found. -/
theorem sout0_C_0_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1024x1408 .bf16) (harg5 : arg5.IsWhole) (arg6 : Memref sig .tc .vmem S1x2048x1408 .bf16) (harg6 : arg6.IsWhole) (arg7 : Memref sig .tc .vmem S2048x1408 .f32) (harg7 : arg7.IsWhole) (hc0 : ¬cond0_0 i) (hc1 : cond0_1 i)
    (x0 : Vec F S1024x2048 .f32) (x1 : Vec F S1x2048 .f32) (x2 : Vec F S1x2048 .f32) (x3 : Vec F S1x1024x1408 .bf16) (xs0 : Vec F S2048x1408 .f32) :
    sout0_C_0 c i arg2 harg2 arg3 harg3 arg4 harg4 arg5 harg5 arg6 harg6 arg7 harg7 hc0 hc1 x0 x1 x2 x3 xs0 = k0_pay2 x0 x3 x1 x2 xs0 := by
  frame_out
set_option maxHeartbeats 4000000 in
/-- The last block of rows stores the sum. -/
theorem out0_C_4_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x1024x1408 .bf16) (harg5 : arg5.IsWhole) (arg6 : Memref sig .tc .vmem S1x2048x1408 .bf16) (harg6 : arg6.IsWhole) (arg7 : Memref sig .tc .vmem S2048x1408 .f32) (harg7 : arg7.IsWhole) (hc0 : ¬cond0_0 i) (hc1 : cond0_1 i)
    (x0 : Vec F S1024x2048 .f32) (x1 : Vec F S1x2048 .f32) (x2 : Vec F S1x2048 .f32) (x3 : Vec F S1x1024x1408 .bf16) (xs0 : Vec F S2048x1408 .f32) :
    out0_C_4 c i arg2 harg2 arg3 harg3 arg4 harg4 arg5 harg5 arg6 harg6 arg7 harg7 hc0 hc1 x0 x1 x2 x3 xs0 = k0_pay3 (k0_pay2 x0 x3 x1 x2 xs0) := by
  frame_out
end Open

/-- One row's term of the gradient of block `b` of the input weights at a row and a column: the scaled and shifted input times the product's gradient. -/
def term (h : Vec Ideal S4096x2048 .f32) (sh sc : Vec Ideal S1x2048 .f32) (dab : Vec Ideal S2x4096x5632 .bf16) (b : Fin 8) (k : Fin 2048) (j : Fin 1408) (r : Fin 4096) : EReal :=
  (h (ix2 r k) * (1 + sc (ix2 0 k)) + sh (ix2 0 k)) * dab (ix3 (⟨b.val / 4, by omega⟩ : Fin 2) r (⟨1408 * (b.val % 4) + j.val, by omega⟩ : Fin 5632))
/-- The same by a row's number, zero past the last row. -/
def termN (h : Vec Ideal S4096x2048 .f32) (sh sc : Vec Ideal S1x2048 .f32) (dab : Vec Ideal S2x4096x5632 .bf16) (b : Fin 8) (k : Fin 2048) (j : Fin 1408) (n : ℕ) : EReal :=
  if hn : n < 4096 then term h sh sc dab b k j ⟨n, hn⟩ else 0
/-- The gradient: the sum over all rows. -/
def res (h : Vec Ideal S4096x2048 .f32) (sh sc : Vec Ideal S1x2048 .f32) (dab : Vec Ideal S2x4096x5632 .bf16) : S8x2048x1408.Idx → EReal := fun y =>
  ∑ r : Fin 4096, term h sh sc dab ⟨(y 0).val, (y 0).isLt⟩ ⟨(y 1).val, (y 1).isLt⟩ ⟨(y 2).val, (y 2).isLt⟩ r

theorem pay1_val (x : S2048x1408.Idx) : k0_pay1 (F := Ideal) x = 0 := by
  obtain ⟨k, j, rfl⟩ : ∃ (k : Fin 2048) (j : Fin 1408), x = ix2 k j := ⟨x 0, x 1, eq_ix2 x⟩
  pointwise [k0_pay1]
theorem pay2_val (v3 : Vec Ideal S1024x2048 .f32) (v4 : Vec Ideal S1x1024x1408 .bf16) (v6 v7 : Vec Ideal S1x2048 .f32) (v15 : Vec Ideal S2048x1408 .f32) (k : Fin 2048) (j : Fin 1408) :
    k0_pay2 v3 v4 v6 v7 v15 (ix2 k j) = v15 (ix2 k j) + ∑ i : Fin 1024, (v3 (ix2 i k) * (1 + v7 (ix2 0 k)) + v6 (ix2 0 k)) * v4 (ix3 0 i j) := by
  pointwise [k0_pay2]
theorem pay3_val (v : Vec Ideal S2048x1408 .f32) (k : Fin 2048) (j : Fin 1408) : k0_pay3 v (ix3 0 k j) = v (ix2 k j) := by
  pointwise [k0_pay3]

variable (m : (ℓ : Loc nD τ sig) → Buf (Elt Ideal) ℓ) (c : Dev nD)
theorem idx : ∀ t : Fin cfg0.N, win0_0.index t = ![t.val % 4, 0] ∧ win0_1.index t = ![0, 0] ∧ win0_2.index t = ![0, 0]
    ∧ win0_3.index t = ![t.val / 4 / 4, t.val % 4, t.val / 4 % 4] ∧ win0_4.index t = ![t.val / 4, 0, 0] := by decide +kernel
theorem emb4 (t : Fin cfg0.N) (k : Fin 2048) (j : Fin 1408) (hb : t.val / 4 < 8) :
    ((win0_4.blk t).view.emb (ix3 (0 : Fin 1) k j) : S8x2048x1408.Idx) = ix3 (⟨t.val / 4, hb⟩ : Fin 8) k j := by
  have ht : t.val < 32 := t.isLt
  blk_ext [(idx t).2.2.2.2]
theorem in0 (t : Fin cfg0.N) (i : Fin 1024) (k : Fin 2048) (hr : 1024 * (t.val % 4) + i.val < 4096) :
    (iblk m c 0 t : Vec Ideal S1024x2048 .f32) (ix2 i k) = m ((c : Thread nD τ).loc main_arg0) (ix2 (⟨1024 * (t.val % 4) + i.val, hr⟩ : Fin 4096) k) := by
  have ht : t.val < 32 := t.isLt
  blk_ext [iblk, V, (idx t).1]
theorem in1 (t : Fin cfg0.N) (k : Fin 2048) :
    (iblk m c 1 t : Vec Ideal S1x2048 .f32) (ix2 0 k) = m ((c : Thread nD τ).loc main_arg1) (ix2 0 k) := by
  blk_ext [iblk, V, (idx t).2.1]
theorem in2 (t : Fin cfg0.N) (k : Fin 2048) :
    (iblk m c 2 t : Vec Ideal S1x2048 .f32) (ix2 0 k) = m ((c : Thread nD τ).loc main_arg2) (ix2 0 k) := by
  blk_ext [iblk, V, (idx t).2.2.1]
theorem in3 (t : Fin cfg0.N) (i : Fin 1024) (j : Fin 1408) (hp : t.val / 4 / 4 < 2) (hr : 1024 * (t.val % 4) + i.val < 4096) (hj : 1408 * (t.val / 4 % 4) + j.val < 5632) :
    (iblk m c 3 t : Vec Ideal S1x1024x1408 .bf16) (ix3 0 i j)
      = m ((c : Thread nD τ).loc main_arg3) (ix3 (⟨t.val / 4 / 4, hp⟩ : Fin 2) (⟨1024 * (t.val % 4) + i.val, hr⟩ : Fin 4096) (⟨1408 * (t.val / 4 % 4) + j.val, hj⟩ : Fin 5632)) := by
  have ht : t.val < 32 := t.isLt
  blk_ext [iblk, V, (idx t).2.2.2.1]

/-- A block of rows' terms. -/
theorem blk_sum (t : Fin cfg0.N) (b : Fin 8) (hb : t.val / 4 = b.val) (k : Fin 2048) (j : Fin 1408) (v : Vec Ideal S2048x1408 .f32) :
    k0_pay2 (iblk m c 0 t) (iblk m c 3 t) (iblk m c 1 t) (iblk m c 2 t) v (ix2 k j) = v (ix2 k j)
      + ∑ i ∈ Finset.range 1024, termN (m ((c : Thread nD τ).loc main_arg0)) (m ((c : Thread nD τ).loc main_arg1)) (m ((c : Thread nD τ).loc main_arg2)) (m ((c : Thread nD τ).loc main_arg3))
          b k j (1024 * (t.val % 4) + i) := by
  have ht : t.val < 32 := t.isLt
  obtain ⟨b, hb8⟩ := b
  obtain rfl : t.val / 4 = b := hb
  rw [pay2_val, Finset.sum_range]
  refine congrArg _ (Finset.sum_congr rfl fun i _ => ?_)
  have hr : 1024 * (t.val % 4) + i.val < 4096 := by omega
  unfold termN term
  rw [dif_pos hr, in0 m c t i k hr, in1, in2, in3 m c t i j (by omega) hr (by omega)]

/-- The carried sum after the first block of rows. -/
theorem snd_A (t : Fin cfg0.N) (h0 : t.val % 4 = 0) (h1 : ¬ t.val % 4 = 3) :
    (outsAt0 m c t.val t.isLt).2 = k0_pay2 (iblk m c 0 t) (iblk m c 3 t) (iblk m c 1 t) (iblk m c 2 t) (k0_pay1 (F := Ideal)) := by
  rw [outsAt0_A m c t h0 h1, sout0_A_0_eq]
/-- The carried sum after a middle block of rows. -/
theorem snd_B (t : Fin cfg0.N) (h0 : ¬ t.val % 4 = 0) (h1 : ¬ t.val % 4 = 3) :
    (outsAt0 m c t.val t.isLt).2 = k0_pay2 (iblk m c 0 t) (iblk m c 3 t) (iblk m c 1 t) (iblk m c 2 t) (outsAt0 m c (t.val - 1) (Nat.lt_of_le_of_lt (Nat.sub_le _ _) t.isLt)).2 := by
  rw [outsAt0_B m c t h0 h1, sout0_B_0_eq]
/-- The carried sum after the last block of rows. -/
theorem snd_C (t : Fin cfg0.N) (h0 : ¬ t.val % 4 = 0) (h1 : t.val % 4 = 3) :
    (outsAt0 m c t.val t.isLt).2 = k0_pay2 (iblk m c 0 t) (iblk m c 3 t) (iblk m c 1 t) (iblk m c 2 t) (outsAt0 m c (t.val - 1) (Nat.lt_of_le_of_lt (Nat.sub_le _ _) t.isLt)).2 := by
  rw [outsAt0_C m c t h0 h1, sout0_C_0_eq]
/-- What the last block of rows stores. -/
theorem fst_C (t : Fin cfg0.N) (h0 : ¬ t.val % 4 = 0) (h1 : t.val % 4 = 3) :
    (outsAt0 m c t.val t.isLt).1 = k0_pay3 (outsAt0 m c t.val t.isLt).2 := by
  rw [snd_C m c t h0 h1]
  rw [outsAt0_C m c t h0 h1, out0_C_4_eq]

/-- What the carried sum holds after a grid point: the terms of the rows so far. -/
theorem scr : ∀ (n : ℕ) (hn : n < cfg0.N) (b : Fin 8) (_ : n / 4 = b.val) (k : Fin 2048) (j : Fin 1408),
    (outsAt0 m c n hn).2 (ix2 k j) = ∑ i ∈ Finset.range (1024 * (n % 4) + 1024),
      termN (m ((c : Thread nD τ).loc main_arg0)) (m ((c : Thread nD τ).loc main_arg1)) (m ((c : Thread nD τ).loc main_arg2)) (m ((c : Thread nD τ).loc main_arg3)) b k j i := by
  intro n
  induction n with
  | zero =>
    intro hn b hb k j
    refine (congrFun (snd_A m c ⟨0, hn⟩ rfl (by show ¬ 0 % 4 = 3; omega)) _).trans ?_
    rw [blk_sum m c ⟨0, hn⟩ b hb k j, pay1_val, zero_add, Finset.sum_range_add]
    simp
  | succ n ih =>
    intro hn b hb k j
    rw [Finset.sum_range_add]
    by_cases h0 : (n + 1) % 4 = 0
    · refine (congrFun (snd_A m c ⟨n + 1, hn⟩ h0 (by show ¬ (n + 1) % 4 = 3; omega)) _).trans ?_
      rw [blk_sum m c ⟨n + 1, hn⟩ b hb k j, pay1_val, h0]
      simp [h0]
    · have hp := ih (Nat.lt_of_succ_lt hn) b (by omega) k j
      have e : 1024 * (n % 4) + 1024 = 1024 * ((n + 1) % 4) := by omega
      rw [e] at hp
      by_cases h1 : (n + 1) % 4 = 3
      · refine (congrFun (snd_C m c ⟨n + 1, hn⟩ h0 h1) _).trans ?_
        rw [blk_sum m c ⟨n + 1, hn⟩ b hb k j, ← hp]
        rfl
      · refine (congrFun (snd_B m c ⟨n + 1, hn⟩ h0 h1) _).trans ?_
        rw [blk_sum m c ⟨n + 1, hn⟩ b hb k j, ← hp]
        rfl

/-- The result of the kernel. -/
theorem final4 : (dats m 0 c).arrAt 4 cfg0.N
    = res (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have ht : t.val < 32 := t.isLt
  have h3 : t.val % 4 = 3 := (flush0_4 t).mp hf
  obtain ⟨q, k, j, rfl⟩ : ∃ (q : Fin 1) (k : Fin 2048) (j : Fin 1408), y = ix3 q k j := ⟨y 0, y 1, y 2, eq_ix3 y⟩
  obtain rfl : q = 0 := Subsingleton.elim _ _
  have hb : t.val / 4 < 8 := by omega
  refine Eq.trans ?_ (congrArg (res _ _ _ _) (emb4 t k j hb)).symm
  show (dats m 0 c).after 4 t (ix3 0 k j) = ∑ r : Fin 4096, term _ _ _ _ (⟨t.val / 4, hb⟩ : Fin 8) k j r
  have hs := scr m c t.val t.isLt ⟨t.val / 4, hb⟩ rfl k j
  rw [congrArg (fun n => 1024 * n + 1024) h3, show 1024 * 3 + 1024 = 4096 from rfl, Finset.sum_range] at hs
  rw [after0_4, fst_C m c t (by omega) h3]
  refine (pay3_val _ k j).trans (hs.trans ?_)
  refine Finset.sum_congr rfl fun r _ => ?_
  unfold termN
  exact dif_pos r.isLt
end Cert.Kernel3Ideal.Val
end
-- ==== Proof.R3.lean ====
module
public import proofs.«01_k».proof.Proof.Gen.Reference3Ideal.Read
public import proofs.«01_k».proof.Proof.F3
@[expose] public section
/-! # The reference of the gradient of the feed-forward layer's input weights over the reals -/
set_option maxRecDepth 16384
noncomputable section
namespace Cert.Reference3Ideal.Val
open Cert.Reference3Ideal Cert.Reference3Ideal.Gen Cert.Reference3Ideal.Read Idealize.ShloMosaic Idealize.ShloMosaic.TcCoe Idealize.SL.Sem Cert.RealVal
open Cert.Kernel3Ideal.Val (term res)

variable (h : Vec Ideal S4096x2048 .f32) (sh sc : Vec Ideal S1x2048 .f32) (dab : Vec Ideal S2x4096x5632 .bf16)

/-- The scaled and shifted input. -/
theorem v5_val (r : Fin 4096) (k : Fin 2048) : val_main_v5 (F := Ideal) h sh sc (ix2 r k) = h (ix2 r k) * (1 + sc (ix2 0 k)) + sh (ix2 0 k) := by
  rw [val_main_v5_apply, val_main_v3_apply, val_main_v2_apply, val_main_v1_apply, val_main_v0_apply, val_main_cst_apply, val_main_v4_apply]
  refine congrArg₂ (· + ·) (congrArg₂ (· * ·) rfl (congrArg₂ (· + ·) Ideal.ofBits_one_f32 (congrArg sc ?_))) (congrArg sh ?_)
  · exact eq_ix2 _
  · exact eq_ix2 _
theorem v7_val (r : Fin 4096) (j : Fin 5632) : val_main_v7 (F := Ideal) dab (ix2 r j) = dab (ix3 (0 : Fin 2) r j) := by
  rw [val_main_v7_apply, val_main_v6_apply]
  refine congrArg dab (funext fun d => ?_)
  match d with
  | ⟨0, _⟩ => rfl
  | ⟨1, _⟩ => exact Fin.ext (by show (r.val * 5632 + j.val) / 5632 % 4096 = r.val; omega)
  | ⟨2, _⟩ => exact Fin.ext (by show (r.val * 5632 + j.val) % 5632 = j.val; omega)
theorem v9_val (r : Fin 4096) (j : Fin 5632) : val_main_v9 (F := Ideal) dab (ix2 r j) = dab (ix3 (1 : Fin 2) r j) := by
  rw [val_main_v9_apply, val_main_v8_apply]
  refine congrArg dab (funext fun d => ?_)
  match d with
  | ⟨0, _⟩ => rfl
  | ⟨1, _⟩ => exact Fin.ext (by show (r.val * 5632 + j.val) / 5632 % 4096 = r.val; omega)
  | ⟨2, _⟩ => exact Fin.ext (by show (r.val * 5632 + j.val) % 5632 = j.val; omega)
/-- The two gradients side by side, by the number of the column. -/
theorem v10_val (r : Fin 4096) (j : Fin 11264) : val_main_v10 (F := Ideal) dab (ix2 r j)
    = dab (ix3 (⟨j.val / 5632, by omega⟩ : Fin 2) r (⟨j.val % 5632, by omega⟩ : Fin 5632)) := by
  unfold val_main_v10
  by_cases hj : j.val < 5632
  · refine (concatenate_pair_apply_left (t := S4096x11264) 1 (val_main_v7 (F := Ideal) dab) (val_main_v9 (F := Ideal) dab) _ (ix2 r j) rfl (ix2 r (⟨j.val, hj⟩ : Fin 5632))
      (fun d => match d with | ⟨0, _⟩ => rfl | ⟨1, _⟩ => rfl)).trans ?_
    rw [v7_val]
    exact congrArg₂ (fun p q => dab (ix3 p r q)) (Fin.ext (by show 0 = j.val / 5632; omega)) (Fin.ext (by show j.val = j.val % 5632; omega))
  · refine (concatenate_pair_apply_right (t := S4096x11264) 1 (val_main_v7 (F := Ideal) dab) (val_main_v9 (F := Ideal) dab) _ (ix2 r j) rfl rfl (ix2 r (⟨j.val - 5632, by omega⟩ : Fin 5632))
      (fun d => match d with | ⟨0, _⟩ => fun _ => rfl | ⟨1, _⟩ => fun hd => absurd rfl hd) (by show j.val - 5632 + 5632 = j.val; omega)).trans ?_
    rw [v9_val]
    exact congrArg₂ (fun p q => dab (ix3 p r q)) (Fin.ext (by show 1 = j.val / 5632; omega)) (Fin.ext (by show j.val - 5632 = j.val % 5632; omega))
/-- The reference's result is the kernel's. -/
theorem v16_val : val_main_v16 (F := Ideal) h sh sc dab = res h sh sc dab := by
  funext y
  obtain ⟨b, k, j, rfl⟩ : ∃ (b : Fin 8) (k : Fin 2048) (j : Fin 1408), y = ix3 b k j := ⟨y 0, y 1, y 2, eq_ix3 y⟩
  have hk : k.val < 2048 := k.isLt
  have hb : b.val < 8 := b.isLt
  have hj : j.val < 1408 := j.isLt
  have hc : 1408 * b.val + j.val < 11264 := by omega
  have e : idx_main_v13 (idx_main_v14 (idx_main_v15 (ix3 b k j))) = ix2 (⟨1408 * b.val + j.val, hc⟩ : Fin 11264) k := by
    funext d
    match d with
    | ⟨0, _⟩ => exact Fin.ext (by show ((k.val * 8 + b.val) * 1408 + j.val) % 11264 = 1408 * b.val + j.val; omega)
    | ⟨1, _⟩ => exact Fin.ext (by show ((k.val * 8 + b.val) * 1408 + j.val) / 11264 = k.val; omega)
  show val_main_v15 (F := Ideal) h sh sc dab (ix3 b k j) = ∑ r : Fin 4096, term h sh sc dab b k j r
  rw [val_main_v15_apply, val_main_v14_apply, val_main_v13_apply, e, val_main_v12_apply]
  refine Finset.sum_congr rfl fun r _ => ?_
  rw [show lidx_main_v12 (ix2 (⟨1408 * b.val + j.val, hc⟩ : Fin 11264) k) r = ix2 r (⟨1408 * b.val + j.val, hc⟩ : Fin 11264) from eq_ix2 _,
    show ridx_main_v12 (ix2 (⟨1408 * b.val + j.val, hc⟩ : Fin 11264) k) r = ix2 r k from eq_ix2 _, v5_val]
  show val_main_v10 (F := Ideal) dab (ix2 r (⟨1408 * b.val + j.val, hc⟩ : Fin 11264)) * _ = _
  rw [v10_val, mul_comm]
  unfold term
  exact congrArg _ (congrArg₂ (fun p q => dab (ix3 p r q)) (Fin.ext (by show (1408 * b.val + j.val) / 5632 = b.val / 4; omega))
    (Fin.ext (by show (1408 * b.val + j.val) % 5632 = 1408 * (b.val % 4) + j.val; omega)))
end Cert.Reference3Ideal.Val
end
-- ==== Proof.Top3.lean ====
module
public import proofs.«01_k».proof.Defs
public import proofs.«01_k».proof.Proof.R3
public import proofs.«01_k».proof.Proof.Gen.Kernel3.Frame
public import proofs.«01_k».proof.Proof.Gen.Reference3Ideal.Run
@[expose] public section
/-! # The gradient of the feed-forward layer's input weights: the claims -/
set_option maxRecDepth 16384
noncomputable section
namespace Cert.Top3
open Idealize.ShloMosaic Idealize.SL.Sem

/-- Argument 0 on core `c`. -/
abbrev A0 (m : (ℓ : Loc Cert.Kernel3Ideal.nD Cert.Kernel3Ideal.τ Cert.Kernel3Ideal.sig) → Buf (Elt Ideal) ℓ) (c : Dev Cert.Kernel3Ideal.nD) := m ((c.tc : Thread Cert.Kernel3Ideal.nD Cert.Kernel3Ideal.τ).loc Cert.Kernel3Ideal.main_arg0)
/-- Argument 1 on core `c`. -/
abbrev A1 (m : (ℓ : Loc Cert.Kernel3Ideal.nD Cert.Kernel3Ideal.τ Cert.Kernel3Ideal.sig) → Buf (Elt Ideal) ℓ) (c : Dev Cert.Kernel3Ideal.nD) := m ((c.tc : Thread Cert.Kernel3Ideal.nD Cert.Kernel3Ideal.τ).loc Cert.Kernel3Ideal.main_arg1)
/-- Argument 2 on core `c`. -/
abbrev A2 (m : (ℓ : Loc Cert.Kernel3Ideal.nD Cert.Kernel3Ideal.τ Cert.Kernel3Ideal.sig) → Buf (Elt Ideal) ℓ) (c : Dev Cert.Kernel3Ideal.nD) := m ((c.tc : Thread Cert.Kernel3Ideal.nD Cert.Kernel3Ideal.τ).loc Cert.Kernel3Ideal.main_arg2)
/-- Argument 3 on core `c`. -/
abbrev A3 (m : (ℓ : Loc Cert.Kernel3Ideal.nD Cert.Kernel3Ideal.τ Cert.Kernel3Ideal.sig) → Buf (Elt Ideal) ℓ) (c : Dev Cert.Kernel3Ideal.nD) := m ((c.tc : Thread Cert.Kernel3Ideal.nD Cert.Kernel3Ideal.τ).loc Cert.Kernel3Ideal.main_arg3)

/-- Over the extended reals the kernel's result is the reference's, whatever the arguments. -/
theorem values : @Cert.algebraic_Kernel3Ideal_Reference3Ideal Cert.Kernel3Ideal.Gen.facts Cert.Reference3Ideal.Gen.facts := by
  intro m g m' g' _ he
  refine ⟨fun c => Cert.Kernel3Ideal.Val.res (A0 m c) (A1 m c) (A2 m c) (A3 m c), (θ_run _ _ _).mono (fun r h c => ?_) (Cert.Kernel3Ideal.Value.run_blocks m g), (θ_run _ _ _).mono (fun r h c => ?_) (Cert.Reference3Ideal.Value.run m' g')⟩
  · obtain ⟨h0, hk⟩ := h c
    exact ⟨h0.trans (Cert.Kernel3Ideal.Val.final4 m c), hk⟩
  · obtain ⟨h0, hk⟩ := h c
    obtain ⟨e0, e1, e2, e3⟩ := he c
    refine ⟨h0.trans ?_, hk⟩
    rw [Cert.Reference3Ideal.Read.val_main_v16_eq, Cert.Reference3Ideal.Val.v16_val]
    exact congr (congr (congr (congrArg Cert.Kernel3Ideal.Val.res e0) e1) e2) e3
theorem frameK : @Cert.quiescent_Kernel3 Cert.Kernel3.Gen.facts := fun m ρ _ => Cert.Kernel3.Gen.frame m ρ
theorem frameKI : @Cert.quiescent_Kernel3Ideal Cert.Kernel3Ideal.Gen.facts := fun m ρ _ => Cert.Kernel3Ideal.Gen.frame m ρ
theorem frameRI : @Cert.quiescent_Reference3Ideal Cert.Reference3Ideal.Gen.facts := fun m ρ _ =>
  (θ_run _ _ _).mono (fun r h => ⟨fun c => (h c).2, sem_eq_zero_of_no_sems (by decide) r.2⟩) (Cert.Reference3Ideal.Value.run m ρ)
end Cert.Top3
end
-- ==== Proof.R4.lean ====
module
public import proofs.«01_k».proof.Proof.Gen.Reference4Ideal.Read
public import proofs.«01_k».proof.Proof.F4
@[expose] public section
/-! # The reference of the feed-forward layer's input product over the reals -/
set_option maxRecDepth 16384
noncomputable section
namespace Cert.Reference4Ideal.Val
open Cert.Reference4Ideal Cert.Reference4Ideal.Gen Cert.Reference4Ideal.Read Idealize.ShloMosaic Idealize.ShloMosaic.TcCoe Idealize.SL.Sem Cert.RealVal Cert.Ffn
open Cert.Kernel4Ideal.Val (prj resA resB resC)

variable (h : Vec Ideal S4096x2048 .f32) (sh sc : Vec Ideal S1x2048 .f32) (w : Vec Ideal S8x2048x1408 .bf16)

/-- The product at a row and a column. -/
theorem v9_val (r : Fin 4096) (j : Fin 11264) : val_main_v9 (F := Ideal) h sh sc w (ix2 r j)
    = prj h sh sc w r ⟨j.val / 1408, by omega⟩ ⟨j.val % 1408, by omega⟩ := by
  rw [val_main_v9_apply]
  refine Finset.sum_congr rfl fun k _ => ?_
  have e1 : val_main_v5 (F := Ideal) h sh sc (lidx_main_v9 (ix2 r j) k) = h (ix2 r k) * (1 + sc (ix2 0 k)) + sh (ix2 0 k) := by
    rw [val_main_v5_apply, val_main_v3_apply, val_main_v2_apply, val_main_v1_apply, val_main_v0_apply, val_main_cst_apply, val_main_v4_apply]
    refine congrArg₂ (· + ·) (congrArg₂ (· * ·) (congrArg h ?_) (congrArg₂ (· + ·) Ideal.ofBits_one_f32 (congrArg sc ?_))) (congrArg sh ?_)
    · exact eq_ix2 _
    · exact eq_ix2 _
    · exact eq_ix2 _
  have e2 : val_main_v8 (F := Ideal) w (ridx_main_v9 (ix2 r j) k) = w (ix3 (⟨j.val / 1408, by omega⟩ : Fin 8) k (⟨j.val % 1408, by omega⟩ : Fin 1408)) := by
    rw [val_main_v8_apply, val_main_v7_apply, val_main_v6_apply]
    refine congrArg w ?_
    have hk : k.val < 2048 := k.isLt
    have hj : j.val < 11264 := j.isLt
    funext a
    match a with
    | ⟨0, _⟩ => exact Fin.ext (by show (k.val * 11264 + j.val) / 1408 % 8 = j.val / 1408; omega)
    | ⟨1, _⟩ => exact Fin.ext (by show (k.val * 11264 + j.val) / 11264 = k.val; omega)
    | ⟨2, _⟩ => exact Fin.ext (by show (k.val * 11264 + j.val) % 1408 = j.val % 1408; omega)
  rw [e1, e2]

theorem v10_val (y : S4096x5632.Idx) : val_main_v10 (F := Ideal) h sh sc w y = resA h sh sc w y := by
  obtain ⟨r, j, rfl⟩ : ∃ (r : Fin 4096) (j : Fin 5632), y = ix2 r j := ⟨y 0, y 1, eq_ix2 y⟩
  rw [val_main_v10_apply, show idx_main_v10 (ix2 r j) = ix2 r (⟨j.val, by omega⟩ : Fin 11264) from eq_ix2 _, v9_val]
  rfl
theorem v11_val (y : S4096x5632.Idx) : val_main_v11 (F := Ideal) h sh sc w y = resB h sh sc w y := by
  obtain ⟨r, j, rfl⟩ : ∃ (r : Fin 4096) (j : Fin 5632), y = ix2 r j := ⟨y 0, y 1, eq_ix2 y⟩
  rw [val_main_v11_apply, show idx_main_v11 (ix2 r j) = ix2 r (⟨5632 + j.val, by omega⟩ : Fin 11264) from eq_ix2 _, v9_val]
  unfold resB
  exact congr (congrArg (prj h sh sc w _) (Fin.ext (by show (5632 + j.val) / 1408 = 4 + j.val / 1408; omega))) (Fin.ext (by show (5632 + j.val) % 1408 = j.val % 1408; omega))
theorem v14_val : val_main_v14 (F := Ideal) h sh sc w = resA h sh sc w := funext fun y => (val_main_v14_apply h sh sc w y).trans (v10_val h sh sc w y)
theorem v15_val : val_main_v15 (F := Ideal) h sh sc w = resB h sh sc w := funext fun y => (val_main_v15_apply h sh sc w y).trans (v11_val h sh sc w y)
theorem v16_val : val_main_v16 (F := Ideal) h sh sc w = resC h sh sc w := funext fun y => by
  rw [val_main_v16_apply, val_main_v13_apply, val_main_v12_apply, val_main_call0_v5_apply, val_main_call0_v4_apply, val_main_call0_cst_0_apply,
    val_main_call0_v3_apply, val_main_call0_v2_apply, val_main_call0_cst_apply, val_main_call0_v1_apply, val_main_call0_v0_apply, v10_val, v11_val]
  unfold resC sgE
  rw [← Ideal.ofBits_one_f32]
  rfl
end Cert.Reference4Ideal.Val
end
-- ==== Proof.Top4.lean ====
module
public import proofs.«01_k».proof.Defs
public import proofs.«01_k».proof.Proof.R4
public import proofs.«01_k».proof.Proof.Gen.Kernel4.Frame
@[expose] public section
/-! # The feed-forward layer's input product: the claims -/
set_option maxRecDepth 16384
noncomputable section
namespace Cert.Top4
open Idealize.ShloMosaic Idealize.SL.Sem

/-- Argument 0 on core `c`. -/
abbrev A0 (m : (ℓ : Loc Cert.Kernel4Ideal.nD Cert.Kernel4Ideal.τ Cert.Kernel4Ideal.sig) → Buf (Elt Ideal) ℓ) (c : Dev Cert.Kernel4Ideal.nD) := m ((c.tc : Thread Cert.Kernel4Ideal.nD Cert.Kernel4Ideal.τ).loc Cert.Kernel4Ideal.main_arg0)
/-- Argument 1 on core `c`. -/
abbrev A1 (m : (ℓ : Loc Cert.Kernel4Ideal.nD Cert.Kernel4Ideal.τ Cert.Kernel4Ideal.sig) → Buf (Elt Ideal) ℓ) (c : Dev Cert.Kernel4Ideal.nD) := m ((c.tc : Thread Cert.Kernel4Ideal.nD Cert.Kernel4Ideal.τ).loc Cert.Kernel4Ideal.main_arg1)
/-- Argument 2 on core `c`. -/
abbrev A2 (m : (ℓ : Loc Cert.Kernel4Ideal.nD Cert.Kernel4Ideal.τ Cert.Kernel4Ideal.sig) → Buf (Elt Ideal) ℓ) (c : Dev Cert.Kernel4Ideal.nD) := m ((c.tc : Thread Cert.Kernel4Ideal.nD Cert.Kernel4Ideal.τ).loc Cert.Kernel4Ideal.main_arg2)
/-- Argument 3 on core `c`. -/
abbrev A3 (m : (ℓ : Loc Cert.Kernel4Ideal.nD Cert.Kernel4Ideal.τ Cert.Kernel4Ideal.sig) → Buf (Elt Ideal) ℓ) (c : Dev Cert.Kernel4Ideal.nD) := m ((c.tc : Thread Cert.Kernel4Ideal.nD Cert.Kernel4Ideal.τ).loc Cert.Kernel4Ideal.main_arg3)

/-- Over the extended reals the kernel's three results are the reference's, whatever the arguments. -/
theorem values : @Cert.algebraic_Kernel4Ideal_Reference4Ideal Cert.Kernel4Ideal.Gen.facts Cert.Reference4Ideal.Gen.facts := by
  intro m g m' g' _ he
  refine ⟨fun c => Cert.Kernel4Ideal.Val.resA (A0 m c) (A1 m c) (A2 m c) (A3 m c), fun c => Cert.Kernel4Ideal.Val.resB (A0 m c) (A1 m c) (A2 m c) (A3 m c), fun c => Cert.Kernel4Ideal.Val.resC (A0 m c) (A1 m c) (A2 m c) (A3 m c), (θ_run _ _ _).mono (fun r h c => ?_) (Cert.Kernel4Ideal.Value.run_blocks m g), (θ_run _ _ _).mono (fun r h c => ?_) (Cert.Reference4Ideal.Value.run m' g')⟩
  · obtain ⟨h0, h1, h2, hk⟩ := h c
    exact ⟨h0.trans (Cert.Kernel4Ideal.Val.final5 m c), h1.trans (Cert.Kernel4Ideal.Val.final6 m c), h2.trans (Cert.Kernel4Ideal.Val.final7 m c), hk⟩
  · obtain ⟨h0, h1, h2, hk⟩ := h c
    obtain ⟨e0, e1, e2, e3⟩ := he c
    refine ⟨h0.trans ?_, h1.trans ?_, h2.trans ?_, hk⟩
    · rw [Cert.Reference4Ideal.Read.val_main_v14_eq, Cert.Reference4Ideal.Val.v14_val]
      exact congr (congr (congr (congrArg Cert.Kernel4Ideal.Val.resA e0) e1) e2) e3
    · rw [Cert.Reference4Ideal.Read.val_main_v15_eq, Cert.Reference4Ideal.Val.v15_val]
      exact congr (congr (congr (congrArg Cert.Kernel4Ideal.Val.resB e0) e1) e2) e3
    · rw [Cert.Reference4Ideal.Read.val_main_v16_eq, Cert.Reference4Ideal.Val.v16_val]
      exact congr (congr (congr (congrArg Cert.Kernel4Ideal.Val.resC e0) e1) e2) e3
theorem frameK : @Cert.quiescent_Kernel4 Cert.Kernel4.Gen.facts := fun m ρ _ => Cert.Kernel4.Gen.frame m ρ
theorem frameKI : @Cert.quiescent_Kernel4Ideal Cert.Kernel4Ideal.Gen.facts := fun m ρ _ => Cert.Kernel4Ideal.Gen.frame m ρ
theorem frameRI : @Cert.quiescent_Reference4Ideal Cert.Reference4Ideal.Gen.facts := fun m ρ _ =>
  (θ_run _ _ _).mono (fun r h => ⟨fun c => (h c).2.2.2, sem_eq_zero_of_no_sems (by decide) r.2⟩) (Cert.Reference4Ideal.Value.run m ρ)
end Cert.Top4
end
-- ==== Proof.F5.lean ====
module
public import proofs.«01_k».proof.Proof.Gen.Kernel5Ideal.Value
public import proofs.«01_k».proof.Proof.RealVal
public import Idealize.ShloMosaic.Lib.Pipeline.ValueKit
public import Idealize.ShloMosaic.Lib.Pipeline.ReadBack
public import Idealize.ShloMosaic.Lib.Pipeline.Regions
public import Idealize.ShloMosaic.Lib.Pointwise
public import Idealize.ShloMosaic.Lib.Pipeline.ValueKit.Point
@[expose] public section
/-! # The gradient of the feed-forward layer's output weights over the reals

The kernel's result at a row and a column, from the arguments. -/
set_option maxRecDepth 16384
noncomputable section
namespace Cert.Kernel5Ideal.Val
open Cert.Kernel5Ideal Cert.Kernel5Ideal.Gen Idealize.ShloMosaic Idealize.ShloMosaic.TcCoe Idealize.SL.Sem Cert.RealVal

section Open
variable {F : FTy → Type} [FloatOps F]
set_option maxHeartbeats 4000000 in
/-- The first block of rows leaves its product on zeros. -/
theorem sout0_A_0_eq (c : Dev nD) (i : grid0.Coords) (arg2 : Memref sig .tc .vmem S1024x1408 .bf16) (harg2 : arg2.IsWhole) (arg3 : Memref sig .tc .vmem S1024x2048 .bf16) (harg3 : arg3.IsWhole) (arg4 : Memref sig .tc .vmem S1408x2048 .bf16) (harg4 : arg4.IsWhole) (arg5 : Memref sig .tc .vmem S1408x2048 .f32) (harg5 : arg5.IsWhole) (hc0 : cond0_0 i) (hc1 : ¬cond0_1 i)
    (x0 : Vec F S1024x1408 .bf16) (x1 : Vec F S1024x2048 .bf16) :
    sout0_A_0 c i arg2 harg2 arg3 harg3 arg4 harg4 arg5 harg5 hc0 hc1 x0 x1 = k0_pay2 x0 x1 k0_pay1 := by
  frame_out
set_option maxHeartbeats 4000000 in
/-- A further block of rows leaves its product on what it found. -/
theorem sout0_B_0_eq (c : Dev nD) (i : grid0.Coords) (arg2 : Memref sig .tc .vmem S1024x1408 .bf16) (harg2 : arg2.IsWhole) (arg3 : Memref sig .tc .vmem S1024x2048 .bf16) (harg3 : arg3.IsWhole) (arg4 : Memref sig .tc .vmem S1408x2048 .bf16) (harg4 : arg4.IsWhole) (arg5 : Memref sig .tc .vmem S1408x2048 .f32) (harg5 : arg5.IsWhole) (hc0 : ¬cond0_0 i) (hc1 : ¬cond0_1 i)
    (x0 : Vec F S1024x1408 .bf16) (x1 : Vec F S1024x2048 .bf16) (xs0 : Vec F S1408x2048 .f32) :
    sout0_B_0 c i arg2 harg2 arg3 harg3 arg4 harg4 arg5 harg5 hc0 hc1 x0 x1 xs0 = k0_pay2 x0 x1 xs0 := by
  frame_out
set_option maxHeartbeats 4000000 in
/-- The last block of rows leaves its product on what it found. -/
theorem sout0_C_0_eq (c : Dev nD) (i : grid0.Coords) (arg2 : Memref sig .tc .vmem S1024x1408 .bf16) (harg2 : arg2.IsWhole) (arg3 : Memref sig .tc .vmem S1024x2048 .bf16) (harg3 : arg3.IsWhole) (arg4 : Memref sig .tc .vmem S1408x2048 .bf16) (harg4 : arg4.IsWhole) (arg5 : Memref sig .tc .vmem S1408x2048 .f32) (harg5 : arg5.IsWhole) (hc0 : ¬cond0_0 i) (hc1 : cond0_1 i)
    (x0 : Vec F S1024x1408 .bf16) (x1 : Vec F S1024x2048 .bf16) (xs0 : Vec F S1408x2048 .f32) :
    sout0_C_0 c i arg2 harg2 arg3 harg3 arg4 harg4 arg5 harg5 hc0 hc1 x0 x1 xs0 = k0_pay2 x0 x1 xs0 := by
  frame_out
set_option maxHeartbeats 4000000 in
/-- The last block of rows stores the sum. -/
theorem out0_C_2_eq (c : Dev nD) (i : grid0.Coords) (arg2 : Memref sig .tc .vmem S1024x1408 .bf16) (harg2 : arg2.IsWhole) (arg3 : Memref sig .tc .vmem S1024x2048 .bf16) (harg3 : arg3.IsWhole) (arg4 : Memref sig .tc .vmem S1408x2048 .bf16) (harg4 : arg4.IsWhole) (arg5 : Memref sig .tc .vmem S1408x2048 .f32) (harg5 : arg5.IsWhole) (hc0 : ¬cond0_0 i) (hc1 : cond0_1 i)
    (x0 : Vec F S1024x1408 .bf16) (x1 : Vec F S1024x2048 .bf16) (xs0 : Vec F S1408x2048 .f32) :
    out0_C_2 c i arg2 harg2 arg3 harg3 arg4 harg4 arg5 harg5 hc0 hc1 x0 x1 xs0 = k0_pay3 (k0_pay2 x0 x1 xs0) := by
  frame_out
end Open

/-- One row's term of the gradient of the output weights at a row and a column: the gated product times the output's gradient. -/
def term (s : Vec Ideal S4096x5632 .bf16) (df : Vec Ideal S4096x2048 .bf16) (k : Fin 5632) (j : Fin 2048) (r : Fin 4096) : EReal :=
  s (ix2 r k) * df (ix2 r j)
/-- The same by a row's number, zero past the last row. -/
def termN (s : Vec Ideal S4096x5632 .bf16) (df : Vec Ideal S4096x2048 .bf16) (k : Fin 5632) (j : Fin 2048) (n : ℕ) : EReal :=
  if hn : n < 4096 then term s df k j ⟨n, hn⟩ else 0
/-- The gradient: the sum over all rows. -/
def res (s : Vec Ideal S4096x5632 .bf16) (df : Vec Ideal S4096x2048 .bf16) : S5632x2048.Idx → EReal := fun y =>
  ∑ r : Fin 4096, term s df ⟨(y 0).val, (y 0).isLt⟩ ⟨(y 1).val, (y 1).isLt⟩ r

theorem pay1_val (x : S1408x2048.Idx) : k0_pay1 (F := Ideal) x = 0 := by
  obtain ⟨k, j, rfl⟩ : ∃ (k : Fin 1408) (j : Fin 2048), x = ix2 k j := ⟨x 0, x 1, eq_ix2 x⟩
  pointwise [k0_pay1]
theorem pay2_val (v3 : Vec Ideal S1024x1408 .bf16) (v4 : Vec Ideal S1024x2048 .bf16) (v5 : Vec Ideal S1408x2048 .f32) (k : Fin 1408) (j : Fin 2048) :
    k0_pay2 v3 v4 v5 (ix2 k j) = v5 (ix2 k j) + ∑ i : Fin 1024, v3 (ix2 i k) * v4 (ix2 i j) := by
  pointwise [k0_pay2]
theorem pay3_val (v : Vec Ideal S1408x2048 .f32) (k : Fin 1408) (j : Fin 2048) : k0_pay3 v (ix2 k j) = v (ix2 k j) := by
  pointwise [k0_pay3]

variable (m : (ℓ : Loc nD τ sig) → Buf (Elt Ideal) ℓ) (c : Dev nD)
theorem idx : ∀ t : Fin cfg0.N, win0_0.index t = ![t.val % 4, t.val / 4] ∧ win0_1.index t = ![t.val % 4, 0] ∧ win0_2.index t = ![t.val / 4, 0] := by decide +kernel
theorem emb2 (t : Fin cfg0.N) (k : Fin 1408) (j : Fin 2048) (hb : 1408 * (t.val / 4) + k.val < 5632) :
    ((win0_2.blk t).view.emb (ix2 k j) : S5632x2048.Idx) = ix2 (⟨1408 * (t.val / 4) + k.val, hb⟩ : Fin 5632) j := by
  have ht : t.val < 16 := t.isLt
  blk_ext [(idx t).2.2]
theorem in0 (t : Fin cfg0.N) (i : Fin 1024) (k : Fin 1408) (hr : 1024 * (t.val % 4) + i.val < 4096) (hk : 1408 * (t.val / 4) + k.val < 5632) :
    (iblk m c 0 t : Vec Ideal S1024x1408 .bf16) (ix2 i k) = m ((c : Thread nD τ).loc main_arg0) (ix2 (⟨1024 * (t.val % 4) + i.val, hr⟩ : Fin 4096) (⟨1408 * (t.val / 4) + k.val, hk⟩ : Fin 5632)) := by
  have ht : t.val < 16 := t.isLt
  blk_ext [iblk, V, (idx t).1]
theorem in1 (t : Fin cfg0.N) (i : Fin 1024) (j : Fin 2048) (hr : 1024 * (t.val % 4) + i.val < 4096) :
    (iblk m c 1 t : Vec Ideal S1024x2048 .bf16) (ix2 i j) = m ((c : Thread nD τ).loc main_arg1) (ix2 (⟨1024 * (t.val % 4) + i.val, hr⟩ : Fin 4096) j) := by
  have ht : t.val < 16 := t.isLt
  blk_ext [iblk, V, (idx t).2.1]

/-- A block of rows' terms. -/
theorem blk_sum (t : Fin cfg0.N) (q : Fin 4) (hq : t.val / 4 = q.val) (k : Fin 1408) (hk : 1408 * q.val + k.val < 5632) (j : Fin 2048) (v : Vec Ideal S1408x2048 .f32) :
    k0_pay2 (iblk m c 0 t) (iblk m c 1 t) v (ix2 k j) = v (ix2 k j)
      + ∑ i ∈ Finset.range 1024, termN (m ((c : Thread nD τ).loc main_arg0)) (m ((c : Thread nD τ).loc main_arg1))
          ⟨1408 * q.val + k.val, hk⟩ j (1024 * (t.val % 4) + i) := by
  have ht : t.val < 16 := t.isLt
  obtain ⟨q, hq8⟩ := q
  obtain rfl : t.val / 4 = q := hq
  rw [pay2_val, Finset.sum_range]
  refine congrArg _ (Finset.sum_congr rfl fun i _ => ?_)
  have hr : 1024 * (t.val % 4) + i.val < 4096 := by omega
  have hb : 1408 * (t.val / 4) + k.val < 5632 := hk
  unfold termN term
  rw [dif_pos hr, in0 m c t i k hr hb, in1 m c t i j hr]

/-- The carried sum after the first block of rows. -/
theorem snd_A (t : Fin cfg0.N) (h0 : t.val % 4 = 0) (h1 : ¬ t.val % 4 = 3) :
    (outsAt0 m c t.val t.isLt).2 = k0_pay2 (iblk m c 0 t) (iblk m c 1 t) (k0_pay1 (F := Ideal)) := by
  rw [outsAt0_A m c t h0 h1, sout0_A_0_eq]
/-- The carried sum after a middle block of rows. -/
theorem snd_B (t : Fin cfg0.N) (h0 : ¬ t.val % 4 = 0) (h1 : ¬ t.val % 4 = 3) :
    (outsAt0 m c t.val t.isLt).2 = k0_pay2 (iblk m c 0 t) (iblk m c 1 t) (outsAt0 m c (t.val - 1) (Nat.lt_of_le_of_lt (Nat.sub_le _ _) t.isLt)).2 := by
  rw [outsAt0_B m c t h0 h1, sout0_B_0_eq]
/-- The carried sum after the last block of rows. -/
theorem snd_C (t : Fin cfg0.N) (h0 : ¬ t.val % 4 = 0) (h1 : t.val % 4 = 3) :
    (outsAt0 m c t.val t.isLt).2 = k0_pay2 (iblk m c 0 t) (iblk m c 1 t) (outsAt0 m c (t.val - 1) (Nat.lt_of_le_of_lt (Nat.sub_le _ _) t.isLt)).2 := by
  rw [outsAt0_C m c t h0 h1, sout0_C_0_eq]
/-- What the last block of rows stores. -/
theorem fst_C (t : Fin cfg0.N) (h0 : ¬ t.val % 4 = 0) (h1 : t.val % 4 = 3) :
    (outsAt0 m c t.val t.isLt).1 = k0_pay3 (outsAt0 m c t.val t.isLt).2 := by
  rw [snd_C m c t h0 h1]
  rw [outsAt0_C m c t h0 h1, out0_C_2_eq]

/-- What the carried sum holds after a grid point: the terms of the rows so far. -/
theorem scr : ∀ (n : ℕ) (hn : n < cfg0.N) (q : Fin 4) (_ : n / 4 = q.val) (k : Fin 1408) (hk : 1408 * q.val + k.val < 5632) (j : Fin 2048),
    (outsAt0 m c n hn).2 (ix2 k j) = ∑ i ∈ Finset.range (1024 * (n % 4) + 1024),
      termN (m ((c : Thread nD τ).loc main_arg0)) (m ((c : Thread nD τ).loc main_arg1)) ⟨1408 * q.val + k.val, hk⟩ j i := by
  intro n
  induction n with
  | zero =>
    intro hn q hq k hk j
    refine (congrFun (snd_A m c ⟨0, hn⟩ rfl (by show ¬ 0 % 4 = 3; omega)) _).trans ?_
    rw [blk_sum m c ⟨0, hn⟩ q hq k hk j, pay1_val, zero_add, Finset.sum_range_add]
    simp
  | succ n ih =>
    intro hn q hq k hk j
    rw [Finset.sum_range_add]
    by_cases h0 : (n + 1) % 4 = 0
    · refine (congrFun (snd_A m c ⟨n + 1, hn⟩ h0 (by show ¬ (n + 1) % 4 = 3; omega)) _).trans ?_
      rw [blk_sum m c ⟨n + 1, hn⟩ q hq k hk j, pay1_val, h0]
      simp [h0]
    · have hp := ih (Nat.lt_of_succ_lt hn) q (by omega) k hk j
      have e : 1024 * (n % 4) + 1024 = 1024 * ((n + 1) % 4) := by omega
      rw [e] at hp
      by_cases h1 : (n + 1) % 4 = 3
      · refine (congrFun (snd_C m c ⟨n + 1, hn⟩ h0 h1) _).trans ?_
        rw [blk_sum m c ⟨n + 1, hn⟩ q hq k hk j, ← hp]
        rfl
      · refine (congrFun (snd_B m c ⟨n + 1, hn⟩ h0 h1) _).trans ?_
        rw [blk_sum m c ⟨n + 1, hn⟩ q hq k hk j, ← hp]
        rfl

/-- The result of the kernel. -/
theorem final2 : (dats m 0 c).arrAt 2 cfg0.N
    = res (m ((c : Thread nD τ).loc main_arg0)) (m ((c : Thread nD τ).loc main_arg1)) := by
  refine (dats m 0 c).arrAt_eq_of_covers 2 _ (by decide +kernel) fun t hf y => ?_
  have ht : t.val < 16 := t.isLt
  have h3 : t.val % 4 = 3 := (flush0_2 t).mp hf
  obtain ⟨k, j, rfl⟩ : ∃ (k : Fin 1408) (j : Fin 2048), y = ix2 k j := ⟨y 0, y 1, eq_ix2 y⟩
  have hq : t.val / 4 < 4 := by omega
  have hb : 1408 * (t.val / 4) + k.val < 5632 := by omega
  refine Eq.trans ?_ (congrArg (res _ _) (emb2 t k j hb)).symm
  show (dats m 0 c).after 2 t (ix2 k j) = ∑ r : Fin 4096, term _ _ (⟨1408 * (t.val / 4) + k.val, hb⟩ : Fin 5632) j r
  have hs := scr m c t.val t.isLt ⟨t.val / 4, hq⟩ rfl k hb j
  rw [congrArg (fun n => 1024 * n + 1024) h3, show 1024 * 3 + 1024 = 4096 from rfl, Finset.sum_range] at hs
  rw [after0_2, fst_C m c t (by omega) h3]
  refine (pay3_val _ k j).trans (hs.trans ?_)
  refine Finset.sum_congr rfl fun r _ => ?_
  unfold termN
  exact dif_pos r.isLt
end Cert.Kernel5Ideal.Val
end
-- ==== Proof.R5.lean ====
module
public import proofs.«01_k».proof.Proof.Gen.Reference5Ideal.Read
public import proofs.«01_k».proof.Proof.F5
@[expose] public section
/-! # The reference of the gradient of the feed-forward layer's output weights over the reals -/
set_option maxRecDepth 16384
noncomputable section
namespace Cert.Reference5Ideal.Val
open Cert.Reference5Ideal Cert.Reference5Ideal.Gen Cert.Reference5Ideal.Read Idealize.ShloMosaic Idealize.ShloMosaic.TcCoe Idealize.SL.Sem Cert.RealVal
open Cert.Kernel5Ideal.Val (term res)

/-- The reference's result is the kernel's. -/
theorem v4_val (s : Vec Ideal S4096x5632 .bf16) (df : Vec Ideal S4096x2048 .bf16) : val_main_v4 (F := Ideal) s df = res s df := by
  funext y
  obtain ⟨k, j, rfl⟩ : ∃ (k : Fin 5632) (j : Fin 2048), y = ix2 k j := ⟨y 0, y 1, eq_ix2 y⟩
  show val_main_v3 (F := Ideal) s df (ix2 k j) = ∑ r : Fin 4096, term s df k j r
  rw [val_main_v3_apply, val_main_v2_apply]
  refine Finset.sum_congr rfl fun r _ => ?_
  rw [mul_comm]
  unfold term
  exact congrArg₂ (· * ·) (congrArg s (eq_ix2 _)) (congrArg df (eq_ix2 _))
end Cert.Reference5Ideal.Val
end
-- ==== Proof.Top5.lean ====
module
public import proofs.«01_k».proof.Defs
public import proofs.«01_k».proof.Proof.R5
public import proofs.«01_k».proof.Proof.Gen.Kernel5.Frame
public import proofs.«01_k».proof.Proof.Gen.Reference5Ideal.Run
@[expose] public section
/-! # The gradient of the feed-forward layer's output weights: the claims -/
set_option maxRecDepth 16384
noncomputable section
namespace Cert.Top5
open Idealize.ShloMosaic Idealize.SL.Sem

/-- Argument 0 on core `c`. -/
abbrev A0 (m : (ℓ : Loc Cert.Kernel5Ideal.nD Cert.Kernel5Ideal.τ Cert.Kernel5Ideal.sig) → Buf (Elt Ideal) ℓ) (c : Dev Cert.Kernel5Ideal.nD) := m ((c.tc : Thread Cert.Kernel5Ideal.nD Cert.Kernel5Ideal.τ).loc Cert.Kernel5Ideal.main_arg0)
/-- Argument 1 on core `c`. -/
abbrev A1 (m : (ℓ : Loc Cert.Kernel5Ideal.nD Cert.Kernel5Ideal.τ Cert.Kernel5Ideal.sig) → Buf (Elt Ideal) ℓ) (c : Dev Cert.Kernel5Ideal.nD) := m ((c.tc : Thread Cert.Kernel5Ideal.nD Cert.Kernel5Ideal.τ).loc Cert.Kernel5Ideal.main_arg1)

/-- Over the extended reals the kernel's result is the reference's, whatever the arguments. -/
theorem values : @Cert.algebraic_Kernel5Ideal_Reference5Ideal Cert.Kernel5Ideal.Gen.facts Cert.Reference5Ideal.Gen.facts := by
  intro m g m' g' _ he
  refine ⟨fun c => Cert.Kernel5Ideal.Val.res (A0 m c) (A1 m c), (θ_run _ _ _).mono (fun r h c => ?_) (Cert.Kernel5Ideal.Value.run_blocks m g), (θ_run _ _ _).mono (fun r h c => ?_) (Cert.Reference5Ideal.Value.run m' g')⟩
  · obtain ⟨h0, hk⟩ := h c
    exact ⟨h0.trans (Cert.Kernel5Ideal.Val.final2 m c), hk⟩
  · obtain ⟨h0, hk⟩ := h c
    obtain ⟨e0, e1⟩ := he c
    refine ⟨h0.trans ?_, hk⟩
    rw [Cert.Reference5Ideal.Read.val_main_v4_eq, Cert.Reference5Ideal.Val.v4_val]
    exact congr (congrArg Cert.Kernel5Ideal.Val.res e0) e1
theorem frameK : @Cert.quiescent_Kernel5 Cert.Kernel5.Gen.facts := fun m ρ _ => Cert.Kernel5.Gen.frame m ρ
theorem frameKI : @Cert.quiescent_Kernel5Ideal Cert.Kernel5Ideal.Gen.facts := fun m ρ _ => Cert.Kernel5Ideal.Gen.frame m ρ
theorem frameRI : @Cert.quiescent_Reference5Ideal Cert.Reference5Ideal.Gen.facts := fun m ρ _ =>
  (θ_run _ _ _).mono (fun r h => ⟨fun c => (h c).2, sem_eq_zero_of_no_sems (by decide) r.2⟩) (Cert.Reference5Ideal.Value.run m ρ)
end Cert.Top5
end
-- ==== Proof.F6.lean ====
module
public import proofs.«01_k».proof.Proof.Gen.Kernel6Ideal.Value
public import proofs.«01_k».proof.Proof.RealVal
public import Idealize.ShloMosaic.Lib.Pipeline.ValueKit
public import Idealize.ShloMosaic.Lib.Pipeline.ReadBack
public import Idealize.ShloMosaic.Lib.Pipeline.Regions
public import Idealize.ShloMosaic.Lib.Pointwise
public import Idealize.ShloMosaic.Lib.Pipeline.ValueKit.Point
@[expose] public section
/-! # The gradient of the mixer's input weights over the reals

The kernel's result at a row and a column, from the arguments. -/
set_option maxRecDepth 16384
noncomputable section
namespace Cert.Kernel6Ideal.Val
open Cert.Kernel6Ideal Cert.Kernel6Ideal.Gen Idealize.ShloMosaic Idealize.ShloMosaic.TcCoe Idealize.SL.Sem Cert.RealVal

section Open
variable {F : FTy → Type} [FloatOps F]
set_option maxHeartbeats 4000000 in
/-- The first block of rows leaves its product on zeros. -/
theorem sout0_A_0_eq (c : Dev nD) (i : grid0.Coords) (arg2 : Memref sig .tc .vmem S1024x1152 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1152x2048 .bf16) (harg6 : arg6.IsWhole) (arg7 : Memref sig .tc .vmem S1152x2048 .f32) (harg7 : arg7.IsWhole) (hc0 : cond0_0 i) (hc1 : ¬cond0_1 i)
    (x0 : Vec F S1024x1152 .bf16) (x1 : Vec F S1x2048 .f32) (x2 : Vec F S1x2048 .f32) (x3 : Vec F S1024x2048 .f32) :
    sout0_A_0 c i arg2 harg2 arg3 harg3 arg4 harg4 arg5 harg5 arg6 harg6 arg7 harg7 hc0 hc1 x0 x1 x2 x3 = k0_pay2 x0 x3 x1 x2 k0_pay1 := by
  frame_out
set_option maxHeartbeats 4000000 in
/-- A further block of rows leaves its product on what it found. -/
theorem sout0_B_0_eq (c : Dev nD) (i : grid0.Coords) (arg2 : Memref sig .tc .vmem S1024x1152 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1152x2048 .bf16) (harg6 : arg6.IsWhole) (arg7 : Memref sig .tc .vmem S1152x2048 .f32) (harg7 : arg7.IsWhole) (hc0 : ¬cond0_0 i) (hc1 : ¬cond0_1 i)
    (x0 : Vec F S1024x1152 .bf16) (x1 : Vec F S1x2048 .f32) (x2 : Vec F S1x2048 .f32) (x3 : Vec F S1024x2048 .f32) (xs0 : Vec F S1152x2048 .f32) :
    sout0_B_0 c i arg2 harg2 arg3 harg3 arg4 harg4 arg5 harg5 arg6 harg6 arg7 harg7 hc0 hc1 x0 x1 x2 x3 xs0 = k0_pay2 x0 x3 x1 x2 xs0 := by
  frame_out
set_option maxHeartbeats 4000000 in
/-- The last block of rows leaves its product on what it found. -/
theorem sout0_C_0_eq (c : Dev nD) (i : grid0.Coords) (arg2 : Memref sig .tc .vmem S1024x1152 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1152x2048 .bf16) (harg6 : arg6.IsWhole) (arg7 : Memref sig .tc .vmem S1152x2048 .f32) (harg7 : arg7.IsWhole) (hc0 : ¬cond0_0 i) (hc1 : cond0_1 i)
    (x0 : Vec F S1024x1152 .bf16) (x1 : Vec F S1x2048 .f32) (x2 : Vec F S1x2048 .f32) (x3 : Vec F S1024x2048 .f32) (xs0 : Vec F S1152x2048 .f32) :
    sout0_C_0 c i arg2 harg2 arg3 harg3 arg4 harg4 arg5 harg5 arg6 harg6 arg7 harg7 hc0 hc1 x0 x1 x2 x3 xs0 = k0_pay2 x0 x3 x1 x2 xs0 := by
  frame_out
set_option maxHeartbeats 4000000 in
/-- The last block of rows stores the sum. -/
theorem out0_C_4_eq (c : Dev nD) (i : grid0.Coords) (arg2 : Memref sig .tc .vmem S1024x1152 .bf16) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1152x2048 .bf16) (harg6 : arg6.IsWhole) (arg7 : Memref sig .tc .vmem S1152x2048 .f32) (harg7 : arg7.IsWhole) (hc0 : ¬cond0_0 i) (hc1 : cond0_1 i)
    (x0 : Vec F S1024x1152 .bf16) (x1 : Vec F S1x2048 .f32) (x2 : Vec F S1x2048 .f32) (x3 : Vec F S1024x2048 .f32) (xs0 : Vec F S1152x2048 .f32) :
    out0_C_4 c i arg2 harg2 arg3 harg3 arg4 harg4 arg5 harg5 arg6 harg6 arg7 harg7 hc0 hc1 x0 x1 x2 x3 xs0 = k0_pay3 (k0_pay2 x0 x3 x1 x2 xs0) := by
  frame_out
end Open

/-- One row's term of the gradient of the input weights at a row and a column: the product's gradient times the scaled and shifted input. -/
def term (dp : Vec Ideal S4096x10368 .bf16) (h : Vec Ideal S4096x2048 .f32) (sh : Vec Ideal S1x2048 .f32) (sc : Vec Ideal S1x2048 .f32) (k : Fin 10368) (j : Fin 2048) (r : Fin 4096) : EReal :=
  dp (ix2 r k) * (h (ix2 r j) * (1 + sc (ix2 0 j)) + sh (ix2 0 j))
/-- The same by a row's number, zero past the last row. -/
def termN (dp : Vec Ideal S4096x10368 .bf16) (h : Vec Ideal S4096x2048 .f32) (sh : Vec Ideal S1x2048 .f32) (sc : Vec Ideal S1x2048 .f32) (k : Fin 10368) (j : Fin 2048) (n : ℕ) : EReal :=
  if hn : n < 4096 then term dp h sh sc k j ⟨n, hn⟩ else 0
/-- The gradient: the sum over all rows. -/
def res (dp : Vec Ideal S4096x10368 .bf16) (h : Vec Ideal S4096x2048 .f32) (sh : Vec Ideal S1x2048 .f32) (sc : Vec Ideal S1x2048 .f32) : S10368x2048.Idx → EReal := fun y =>
  ∑ r : Fin 4096, term dp h sh sc ⟨(y 0).val, (y 0).isLt⟩ ⟨(y 1).val, (y 1).isLt⟩ r

theorem pay1_val (x : S1152x2048.Idx) : k0_pay1 (F := Ideal) x = 0 := by
  obtain ⟨k, j, rfl⟩ : ∃ (k : Fin 1152) (j : Fin 2048), x = ix2 k j := ⟨x 0, x 1, eq_ix2 x⟩
  pointwise [k0_pay1]
theorem pay2_val (v3 : Vec Ideal S1024x1152 .bf16) (v4 : Vec Ideal S1024x2048 .f32) (v5 v6 : Vec Ideal S1x2048 .f32) (v14 : Vec Ideal S1152x2048 .f32) (k : Fin 1152) (j : Fin 2048) :
    k0_pay2 v3 v4 v5 v6 v14 (ix2 k j) = v14 (ix2 k j) + ∑ i : Fin 1024, v3 (ix2 i k) * (v4 (ix2 i j) * (1 + v6 (ix2 0 j)) + v5 (ix2 0 j)) := by
  pointwise [k0_pay2]
theorem pay3_val (v : Vec Ideal S1152x2048 .f32) (k : Fin 1152) (j : Fin 2048) : k0_pay3 v (ix2 k j) = v (ix2 k j) := by
  pointwise [k0_pay3]

variable (m : (ℓ : Loc nD τ sig) → Buf (Elt Ideal) ℓ) (c : Dev nD)
theorem idx : ∀ t : Fin cfg0.N, win0_0.index t = ![t.val % 4, t.val / 4] ∧ win0_1.index t = ![0, 0] ∧ win0_2.index t = ![0, 0] ∧ win0_3.index t = ![t.val % 4, 0] ∧ win0_4.index t = ![t.val / 4, 0] := by decide +kernel
theorem emb4 (t : Fin cfg0.N) (k : Fin 1152) (j : Fin 2048) (hb : 1152 * (t.val / 4) + k.val < 10368) :
    ((win0_4.blk t).view.emb (ix2 k j) : S10368x2048.Idx) = ix2 (⟨1152 * (t.val / 4) + k.val, hb⟩ : Fin 10368) j := by
  have ht : t.val < 36 := t.isLt
  blk_ext [(idx t).2.2.2.2]
theorem in0 (t : Fin cfg0.N) (i : Fin 1024) (k : Fin 1152) (hr : 1024 * (t.val % 4) + i.val < 4096) (hk : 1152 * (t.val / 4) + k.val < 10368) :
    (iblk m c 0 t : Vec Ideal S1024x1152 .bf16) (ix2 i k) = m ((c : Thread nD τ).loc main_arg0) (ix2 (⟨1024 * (t.val % 4) + i.val, hr⟩ : Fin 4096) (⟨1152 * (t.val / 4) + k.val, hk⟩ : Fin 10368)) := by
  have ht : t.val < 36 := t.isLt
  blk_ext [iblk, V, (idx t).1]
theorem in1 (t : Fin cfg0.N) (j : Fin 2048) :
    (iblk m c 1 t : Vec Ideal S1x2048 .f32) (ix2 0 j) = m ((c : Thread nD τ).loc main_arg2) (ix2 0 j) := by
  blk_ext [iblk, V, (idx t).2.1]
theorem in2 (t : Fin cfg0.N) (j : Fin 2048) :
    (iblk m c 2 t : Vec Ideal S1x2048 .f32) (ix2 0 j) = m ((c : Thread nD τ).loc main_arg3) (ix2 0 j) := by
  blk_ext [iblk, V, (idx t).2.2.1]
theorem in3 (t : Fin cfg0.N) (i : Fin 1024) (j : Fin 2048) (hr : 1024 * (t.val % 4) + i.val < 4096) :
    (iblk m c 3 t : Vec Ideal S1024x2048 .f32) (ix2 i j) = m ((c : Thread nD τ).loc main_arg1) (ix2 (⟨1024 * (t.val % 4) + i.val, hr⟩ : Fin 4096) j) := by
  have ht : t.val < 36 := t.isLt
  blk_ext [iblk, V, (idx t).2.2.2.1]

/-- A block of rows' terms. -/
theorem blk_sum (t : Fin cfg0.N) (q : Fin 9) (hq : t.val / 4 = q.val) (k : Fin 1152) (hk : 1152 * q.val + k.val < 10368) (j : Fin 2048) (v : Vec Ideal S1152x2048 .f32) :
    k0_pay2 (iblk m c 0 t) (iblk m c 3 t) (iblk m c 1 t) (iblk m c 2 t) v (ix2 k j) = v (ix2 k j)
      + ∑ i ∈ Finset.range 1024, termN (m ((c : Thread nD τ).loc main_arg0)) (m ((c : Thread nD τ).loc main_arg1)) (m ((c : Thread nD τ).loc main_arg2)) (m ((c : Thread nD τ).loc main_arg3))
          ⟨1152 * q.val + k.val, hk⟩ j (1024 * (t.val % 4) + i) := by
  have ht : t.val < 36 := t.isLt
  obtain ⟨q, hq8⟩ := q
  obtain rfl : t.val / 4 = q := hq
  rw [pay2_val, Finset.sum_range]
  refine congrArg _ (Finset.sum_congr rfl fun i _ => ?_)
  have hr : 1024 * (t.val % 4) + i.val < 4096 := by omega
  have hb : 1152 * (t.val / 4) + k.val < 10368 := hk
  unfold termN term
  rw [dif_pos hr, in0 m c t i k hr hb, in1, in2, in3 m c t i j hr]

/-- The carried sum after the first block of rows. -/
theorem snd_A (t : Fin cfg0.N) (h0 : t.val % 4 = 0) (h1 : ¬ t.val % 4 = 3) :
    (outsAt0 m c t.val t.isLt).2 = k0_pay2 (iblk m c 0 t) (iblk m c 3 t) (iblk m c 1 t) (iblk m c 2 t) (k0_pay1 (F := Ideal)) := by
  rw [outsAt0_A m c t h0 h1, sout0_A_0_eq]
/-- The carried sum after a middle block of rows. -/
theorem snd_B (t : Fin cfg0.N) (h0 : ¬ t.val % 4 = 0) (h1 : ¬ t.val % 4 = 3) :
    (outsAt0 m c t.val t.isLt).2 = k0_pay2 (iblk m c 0 t) (iblk m c 3 t) (iblk m c 1 t) (iblk m c 2 t) (outsAt0 m c (t.val - 1) (Nat.lt_of_le_of_lt (Nat.sub_le _ _) t.isLt)).2 := by
  rw [outsAt0_B m c t h0 h1, sout0_B_0_eq]
/-- The carried sum after the last block of rows. -/
theorem snd_C (t : Fin cfg0.N) (h0 : ¬ t.val % 4 = 0) (h1 : t.val % 4 = 3) :
    (outsAt0 m c t.val t.isLt).2 = k0_pay2 (iblk m c 0 t) (iblk m c 3 t) (iblk m c 1 t) (iblk m c 2 t) (outsAt0 m c (t.val - 1) (Nat.lt_of_le_of_lt (Nat.sub_le _ _) t.isLt)).2 := by
  rw [outsAt0_C m c t h0 h1, sout0_C_0_eq]
/-- What the last block of rows stores. -/
theorem fst_C (t : Fin cfg0.N) (h0 : ¬ t.val % 4 = 0) (h1 : t.val % 4 = 3) :
    (outsAt0 m c t.val t.isLt).1 = k0_pay3 (outsAt0 m c t.val t.isLt).2 := by
  rw [snd_C m c t h0 h1]
  rw [outsAt0_C m c t h0 h1, out0_C_4_eq]

/-- What the carried sum holds after a grid point: the terms of the rows so far. -/
theorem scr : ∀ (n : ℕ) (hn : n < cfg0.N) (q : Fin 9) (_ : n / 4 = q.val) (k : Fin 1152) (hk : 1152 * q.val + k.val < 10368) (j : Fin 2048),
    (outsAt0 m c n hn).2 (ix2 k j) = ∑ i ∈ Finset.range (1024 * (n % 4) + 1024),
      termN (m ((c : Thread nD τ).loc main_arg0)) (m ((c : Thread nD τ).loc main_arg1)) (m ((c : Thread nD τ).loc main_arg2)) (m ((c : Thread nD τ).loc main_arg3)) ⟨1152 * q.val + k.val, hk⟩ j i := by
  intro n
  induction n with
  | zero =>
    intro hn q hq k hk j
    refine (congrFun (snd_A m c ⟨0, hn⟩ rfl (by show ¬ 0 % 4 = 3; omega)) _).trans ?_
    rw [blk_sum m c ⟨0, hn⟩ q hq k hk j, pay1_val, zero_add, Finset.sum_range_add]
    simp
  | succ n ih =>
    intro hn q hq k hk j
    rw [Finset.sum_range_add]
    by_cases h0 : (n + 1) % 4 = 0
    · refine (congrFun (snd_A m c ⟨n + 1, hn⟩ h0 (by show ¬ (n + 1) % 4 = 3; omega)) _).trans ?_
      rw [blk_sum m c ⟨n + 1, hn⟩ q hq k hk j, pay1_val, h0]
      simp [h0]
    · have hp := ih (Nat.lt_of_succ_lt hn) q (by omega) k hk j
      have e : 1024 * (n % 4) + 1024 = 1024 * ((n + 1) % 4) := by omega
      rw [e] at hp
      by_cases h1 : (n + 1) % 4 = 3
      · refine (congrFun (snd_C m c ⟨n + 1, hn⟩ h0 h1) _).trans ?_
        rw [blk_sum m c ⟨n + 1, hn⟩ q hq k hk j, ← hp]
        rfl
      · refine (congrFun (snd_B m c ⟨n + 1, hn⟩ h0 h1) _).trans ?_
        rw [blk_sum m c ⟨n + 1, hn⟩ q hq k hk j, ← hp]
        rfl

/-- The result of the kernel. -/
theorem final4 : (dats m 0 c).arrAt 4 cfg0.N
    = res (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have ht : t.val < 36 := t.isLt
  have h3 : t.val % 4 = 3 := (flush0_4 t).mp hf
  obtain ⟨k, j, rfl⟩ : ∃ (k : Fin 1152) (j : Fin 2048), y = ix2 k j := ⟨y 0, y 1, eq_ix2 y⟩
  have hq : t.val / 4 < 9 := by omega
  have hb : 1152 * (t.val / 4) + k.val < 10368 := by omega
  refine Eq.trans ?_ (congrArg (res _ _ _ _) (emb4 t k j hb)).symm
  show (dats m 0 c).after 4 t (ix2 k j) = ∑ r : Fin 4096, term _ _ _ _ (⟨1152 * (t.val / 4) + k.val, hb⟩ : Fin 10368) j r
  have hs := scr m c t.val t.isLt ⟨t.val / 4, hq⟩ rfl k hb j
  rw [congrArg (fun n => 1024 * n + 1024) h3, show 1024 * 3 + 1024 = 4096 from rfl, Finset.sum_range] at hs
  rw [after0_4, fst_C m c t (by omega) h3]
  refine (pay3_val _ k j).trans (hs.trans ?_)
  refine Finset.sum_congr rfl fun r _ => ?_
  unfold termN
  exact dif_pos r.isLt
end Cert.Kernel6Ideal.Val
end
-- ==== Proof.R6.lean ====
module
public import proofs.«01_k».proof.Proof.Gen.Reference6Ideal.Read
public import proofs.«01_k».proof.Proof.F6
@[expose] public section
/-! # The reference of the gradient of the mixer's input weights over the reals -/
set_option maxRecDepth 16384
noncomputable section
namespace Cert.Reference6Ideal.Val
open Cert.Reference6Ideal Cert.Reference6Ideal.Gen Cert.Reference6Ideal.Read Idealize.ShloMosaic Idealize.ShloMosaic.TcCoe Idealize.SL.Sem Cert.RealVal
open Cert.Kernel6Ideal.Val (term res)

variable (dp : Vec Ideal S4096x10368 .bf16) (h : Vec Ideal S4096x2048 .f32) (sh sc : Vec Ideal S1x2048 .f32)

/-- The scaled and shifted input. -/
theorem v5_val (r : Fin 4096) (k : Fin 2048) : val_main_v5 (F := Ideal) h sh sc (ix2 r k) = h (ix2 r k) * (1 + sc (ix2 0 k)) + sh (ix2 0 k) := by
  rw [val_main_v5_apply, val_main_v3_apply, val_main_v2_apply, val_main_v1_apply, val_main_v0_apply, val_main_cst_apply, val_main_v4_apply]
  refine congrArg₂ (· + ·) (congrArg₂ (· * ·) rfl (congrArg₂ (· + ·) Ideal.ofBits_one_f32 (congrArg sc ?_))) (congrArg sh ?_)
  · exact eq_ix2 _
  · exact eq_ix2 _
/-- The reference's result is the kernel's. -/
theorem v10_val : val_main_v10 (F := Ideal) dp h sh sc = res dp h sh sc := by
  funext y
  obtain ⟨k, j, rfl⟩ : ∃ (k : Fin 10368) (j : Fin 2048), y = ix2 k j := ⟨y 0, y 1, eq_ix2 y⟩
  show val_main_v9 (F := Ideal) dp h sh sc (ix2 k j) = ∑ r : Fin 4096, term dp h sh sc k j r
  rw [val_main_v9_apply, val_main_v8_apply, val_main_v7_apply]
  refine Finset.sum_congr rfl fun r _ => ?_
  unfold term
  refine congrArg₂ (· * ·) (congrArg dp (eq_ix2 _)) (Eq.trans (congrArg (val_main_v5 (F := Ideal) h sh sc) (eq_ix2 _)) (v5_val h sh sc r j))
end Cert.Reference6Ideal.Val
end
-- ==== Proof.Top6.lean ====
module
public import proofs.«01_k».proof.Defs
public import proofs.«01_k».proof.Proof.R6
public import proofs.«01_k».proof.Proof.Gen.Kernel6.Frame
public import proofs.«01_k».proof.Proof.Gen.Reference6Ideal.Run
@[expose] public section
/-! # The gradient of the mixer's input weights: the claims -/
set_option maxRecDepth 16384
noncomputable section
namespace Cert.Top6
open Idealize.ShloMosaic Idealize.SL.Sem

/-- Argument 0 on core `c`. -/
abbrev A0 (m : (ℓ : Loc Cert.Kernel6Ideal.nD Cert.Kernel6Ideal.τ Cert.Kernel6Ideal.sig) → Buf (Elt Ideal) ℓ) (c : Dev Cert.Kernel6Ideal.nD) := m ((c.tc : Thread Cert.Kernel6Ideal.nD Cert.Kernel6Ideal.τ).loc Cert.Kernel6Ideal.main_arg0)
/-- Argument 1 on core `c`. -/
abbrev A1 (m : (ℓ : Loc Cert.Kernel6Ideal.nD Cert.Kernel6Ideal.τ Cert.Kernel6Ideal.sig) → Buf (Elt Ideal) ℓ) (c : Dev Cert.Kernel6Ideal.nD) := m ((c.tc : Thread Cert.Kernel6Ideal.nD Cert.Kernel6Ideal.τ).loc Cert.Kernel6Ideal.main_arg1)
/-- Argument 2 on core `c`. -/
abbrev A2 (m : (ℓ : Loc Cert.Kernel6Ideal.nD Cert.Kernel6Ideal.τ Cert.Kernel6Ideal.sig) → Buf (Elt Ideal) ℓ) (c : Dev Cert.Kernel6Ideal.nD) := m ((c.tc : Thread Cert.Kernel6Ideal.nD Cert.Kernel6Ideal.τ).loc Cert.Kernel6Ideal.main_arg2)
/-- Argument 3 on core `c`. -/
abbrev A3 (m : (ℓ : Loc Cert.Kernel6Ideal.nD Cert.Kernel6Ideal.τ Cert.Kernel6Ideal.sig) → Buf (Elt Ideal) ℓ) (c : Dev Cert.Kernel6Ideal.nD) := m ((c.tc : Thread Cert.Kernel6Ideal.nD Cert.Kernel6Ideal.τ).loc Cert.Kernel6Ideal.main_arg3)

/-- Over the extended reals the kernel's result is the reference's, whatever the arguments. -/
theorem values : @Cert.algebraic_Kernel6Ideal_Reference6Ideal Cert.Kernel6Ideal.Gen.facts Cert.Reference6Ideal.Gen.facts := by
  intro m g m' g' _ he
  refine ⟨fun c => Cert.Kernel6Ideal.Val.res (A0 m c) (A1 m c) (A2 m c) (A3 m c), (θ_run _ _ _).mono (fun r h c => ?_) (Cert.Kernel6Ideal.Value.run_blocks m g), (θ_run _ _ _).mono (fun r h c => ?_) (Cert.Reference6Ideal.Value.run m' g')⟩
  · obtain ⟨h0, hk⟩ := h c
    exact ⟨h0.trans (Cert.Kernel6Ideal.Val.final4 m c), hk⟩
  · obtain ⟨h0, hk⟩ := h c
    obtain ⟨e0, e1, e2, e3⟩ := he c
    refine ⟨h0.trans ?_, hk⟩
    rw [Cert.Reference6Ideal.Read.val_main_v10_eq, Cert.Reference6Ideal.Val.v10_val]
    exact congr (congr (congr (congrArg Cert.Kernel6Ideal.Val.res e0) e1) e2) e3
theorem frameK : @Cert.quiescent_Kernel6 Cert.Kernel6.Gen.facts := fun m ρ _ => Cert.Kernel6.Gen.frame m ρ
theorem frameKI : @Cert.quiescent_Kernel6Ideal Cert.Kernel6Ideal.Gen.facts := fun m ρ _ => Cert.Kernel6Ideal.Gen.frame m ρ
theorem frameRI : @Cert.quiescent_Reference6Ideal Cert.Reference6Ideal.Gen.facts := fun m ρ _ =>
  (θ_run _ _ _).mono (fun r h => ⟨fun c => (h c).2, sem_eq_zero_of_no_sems (by decide) r.2⟩) (Cert.Reference6Ideal.Value.run m ρ)
end Cert.Top6
end
-- ==== Proof.F7.lean ====
module
public import proofs.«01_k».proof.Proof.Gen.Kernel7Ideal.Value
public import proofs.«01_k».proof.Proof.RealVal
public import Idealize.ShloMosaic.Lib.Pointwise
public import Idealize.ShloMosaic.Lib.Pipeline.ValueKit.Point
@[expose] public section
/-! # The mixer's input product over the reals

The kernel's result at a row and a column, from the arguments. -/
set_option maxRecDepth 16384
noncomputable section
namespace Cert.Kernel7Ideal.Val
open Cert.Kernel7Ideal Cert.Kernel7Ideal.Gen Idealize.ShloMosaic Idealize.ShloMosaic.TcCoe Idealize.SL.Sem Cert.RealVal

/-- A row of the normalised input, scaled and shifted, times one row of the transposed weights. -/
def prj (h : Vec Ideal S4096x2048 .f32) (sh sc : Vec Ideal S1x2048 .f32) (w : Vec Ideal S10368x2048 .bf16) (r : Fin 4096) (j : Fin 10368) : EReal :=
  ∑ k : Fin 2048, (h (ix2 r k) * (1 + sc (ix2 0 k)) + sh (ix2 0 k)) * w (ix2 j k)
/-- The product at every row and column. -/
def res (h : Vec Ideal S4096x2048 .f32) (sh sc : Vec Ideal S1x2048 .f32) (w : Vec Ideal S10368x2048 .bf16) : S4096x10368.Idx → EReal := fun y =>
  prj h sh sc w ⟨(y 0).val, (y 0).isLt⟩ ⟨(y 1).val, (y 1).isLt⟩

theorem pay1_val (v0 : Vec Ideal S512x2048 .f32) (v1 v2 : Vec Ideal S1x2048 .f32) (w : Vec Ideal S1152x2048 .bf16) (i : Fin 512) (j : Fin 1152) :
    k0_pay1 v0 v1 v2 w (ix2 i j) = ∑ k : Fin 2048, (v0 (ix2 i k) * (1 + v2 (ix2 0 k)) + v1 (ix2 0 k)) * w (ix2 j k) := by
  pointwise [k0_pay1]

variable (m : (ℓ : Loc nD τ sig) → Buf (Elt Ideal) ℓ) (c : Dev nD)
theorem idx : ∀ t : Fin cfg0.N, win0_0.index t = ![t.val % 8, 0] ∧ win0_1.index t = ![0, 0] ∧ win0_2.index t = ![0, 0]
    ∧ win0_3.index t = ![t.val / 8, 0] ∧ win0_4.index t = ![t.val % 8, t.val / 8] := by decide +kernel
theorem emb4 (t : Fin cfg0.N) (i : Fin 512) (a : Fin 1152) (hr : 512 * (t.val % 8) + i.val < 4096) (hc : 1152 * (t.val / 8) + a.val < 10368) :
    ((win0_4.blk t).view.emb (ix2 i a) : S4096x10368.Idx) = ix2 (⟨512 * (t.val % 8) + i.val, hr⟩ : Fin 4096) (⟨1152 * (t.val / 8) + a.val, hc⟩ : Fin 10368) := by
  have ht : t.val < 72 := t.isLt
  blk_ext [(idx t).2.2.2.2]
theorem in0 (t : Fin cfg0.N) (i : Fin 512) (k : Fin 2048) (hr : 512 * (t.val % 8) + i.val < 4096) :
    (View.ld (iblk m c 0 t) r0_0 : Vec Ideal S512x2048 .f32) (ix2 i k) = m ((c : Thread nD τ).loc main_arg0) (ix2 (⟨512 * (t.val % 8) + i.val, hr⟩ : Fin 4096) k) := by
  refine (congrFun (View.ld_unit_lit (S := S512x2048) _ _ (by decide)) (ix2 i k)).trans ?_
  have ht : t.val < 72 := t.isLt
  blk_ext [iblk, V, (idx t).1]
theorem in1 (t : Fin cfg0.N) (k : Fin 2048) :
    (View.ld (iblk m c 1 t) r0_1 : Vec Ideal S1x2048 .f32) (ix2 0 k) = m ((c : Thread nD τ).loc main_arg1) (ix2 0 k) := by
  refine (congrFun (View.ld_unit_lit (S := S1x2048) _ _ (by decide)) (ix2 0 k)).trans ?_
  blk_ext [iblk, V, (idx t).2.1]
theorem in2 (t : Fin cfg0.N) (k : Fin 2048) :
    (View.ld (iblk m c 2 t) r0_1 : Vec Ideal S1x2048 .f32) (ix2 0 k) = m ((c : Thread nD τ).loc main_arg2) (ix2 0 k) := by
  refine (congrFun (View.ld_unit_lit (S := S1x2048) _ _ (by decide)) (ix2 0 k)).trans ?_
  blk_ext [iblk, V, (idx t).2.2.1]
theorem in3 (t : Fin cfg0.N) (j : Fin 1152) (k : Fin 2048) (hb : 1152 * (t.val / 8) + j.val < 10368) :
    (View.ld (iblk m c 3 t) r0_2 : Vec Ideal S1152x2048 .bf16) (ix2 j k) = m ((c : Thread nD τ).loc main_arg3) (ix2 (⟨1152 * (t.val / 8) + j.val, hb⟩ : Fin 10368) k) := by
  refine (congrFun (View.ld_unit_lit (S := S1152x2048) _ _ (by decide)) (ix2 j k)).trans ?_
  have ht : t.val < 72 := t.isLt
  blk_ext [iblk, V, (idx t).2.2.2.1]

/-- The result of the kernel. -/
theorem final4 : (dats m 0 c).arrAt 4 cfg0.N
    = res (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have ht : t.val < 72 := t.isLt
  obtain ⟨i, a, rfl⟩ : ∃ (i : Fin 512) (a : Fin 1152), y = ix2 i a := ⟨y 0, y 1, eq_ix2 y⟩
  have hr : 512 * (t.val % 8) + i.val < 4096 := by omega
  have hc : 1152 * (t.val / 8) + a.val < 10368 := by omega
  refine Eq.trans ?_ (congrArg (res _ _ _ _) (emb4 t i a hr hc)).symm
  show (dats m 0 c).after 4 t (ix2 i a) = prj (m ((c : Thread nD τ).loc main_arg0)) (m ((c : Thread nD τ).loc main_arg1)) (m ((c : Thread nD τ).loc main_arg2)) (m ((c : Thread nD τ).loc main_arg3)) ⟨512 * (t.val % 8) + i.val, hr⟩ ⟨1152 * (t.val / 8) + a.val, hc⟩
  rw [after0_4]
  unfold out0_4
  rw [View.canon_cons_unit_lit _ _ _ (by decide)]
  refine (pay1_val _ _ _ _ i a).trans ?_
  unfold prj
  exact Finset.sum_congr rfl fun k _ => by rw [in0 m c t i k hr, in1, in2, in3 m c t a k hc]
end Cert.Kernel7Ideal.Val
end
-- ==== Proof.R7.lean ====
module
public import proofs.«01_k».proof.Proof.Gen.Reference7Ideal.Read
public import proofs.«01_k».proof.Proof.F7
@[expose] public section
/-! # The reference of the mixer's input product over the reals -/
set_option maxRecDepth 16384
noncomputable section
namespace Cert.Reference7Ideal.Val
open Cert.Reference7Ideal Cert.Reference7Ideal.Gen Cert.Reference7Ideal.Read Idealize.ShloMosaic Idealize.ShloMosaic.TcCoe Idealize.SL.Sem Cert.RealVal
open Cert.Kernel7Ideal.Val (prj res)

variable (h : Vec Ideal S4096x2048 .f32) (sh sc : Vec Ideal S1x2048 .f32) (w : Vec Ideal S10368x2048 .bf16)

/-- The reference's result is the kernel's. -/
theorem v9_val : val_main_v9 (F := Ideal) h sh sc w = res h sh sc w := by
  funext y
  obtain ⟨r, j, rfl⟩ : ∃ (r : Fin 4096) (j : Fin 10368), y = ix2 r j := ⟨y 0, y 1, eq_ix2 y⟩
  show val_main_v8 (F := Ideal) h sh sc w (ix2 r j) = prj h sh sc w r j
  rw [val_main_v8_apply]
  unfold prj
  refine Finset.sum_congr rfl fun k _ => ?_
  have e1 : val_main_v5 (F := Ideal) h sh sc (lidx_main_v8 (ix2 r j) k) = h (ix2 r k) * (1 + sc (ix2 0 k)) + sh (ix2 0 k) := by
    rw [val_main_v5_apply, val_main_v3_apply, val_main_v2_apply, val_main_v1_apply, val_main_v0_apply, val_main_cst_apply, val_main_v4_apply]
    refine congrArg₂ (· + ·) (congrArg₂ (· * ·) (congrArg h ?_) (congrArg₂ (· + ·) Ideal.ofBits_one_f32 (congrArg sc ?_))) (congrArg sh ?_)
    · exact eq_ix2 _
    · exact eq_ix2 _
    · exact eq_ix2 _
  have e2 : val_main_v7 (F := Ideal) w (ridx_main_v8 (ix2 r j) k) = w (ix2 j k) := by
    rw [val_main_v7_apply, val_main_v6_apply]
    exact congrArg w (eq_ix2 _)
  rw [e1, e2]
end Cert.Reference7Ideal.Val
end
-- ==== Proof.Top7.lean ====
module
public import proofs.«01_k».proof.Defs
public import proofs.«01_k».proof.Proof.R7
public import proofs.«01_k».proof.Proof.Gen.Kernel7.Frame
public import proofs.«01_k».proof.Proof.Gen.Reference7Ideal.Run
@[expose] public section
/-! # The mixer's input product: the claims -/
set_option maxRecDepth 16384
noncomputable section
namespace Cert.Top7
open Idealize.ShloMosaic Idealize.SL.Sem

/-- Argument 0 on core `c`. -/
abbrev A0 (m : (ℓ : Loc Cert.Kernel7Ideal.nD Cert.Kernel7Ideal.τ Cert.Kernel7Ideal.sig) → Buf (Elt Ideal) ℓ) (c : Dev Cert.Kernel7Ideal.nD) := m ((c.tc : Thread Cert.Kernel7Ideal.nD Cert.Kernel7Ideal.τ).loc Cert.Kernel7Ideal.main_arg0)
/-- Argument 1 on core `c`. -/
abbrev A1 (m : (ℓ : Loc Cert.Kernel7Ideal.nD Cert.Kernel7Ideal.τ Cert.Kernel7Ideal.sig) → Buf (Elt Ideal) ℓ) (c : Dev Cert.Kernel7Ideal.nD) := m ((c.tc : Thread Cert.Kernel7Ideal.nD Cert.Kernel7Ideal.τ).loc Cert.Kernel7Ideal.main_arg1)
/-- Argument 2 on core `c`. -/
abbrev A2 (m : (ℓ : Loc Cert.Kernel7Ideal.nD Cert.Kernel7Ideal.τ Cert.Kernel7Ideal.sig) → Buf (Elt Ideal) ℓ) (c : Dev Cert.Kernel7Ideal.nD) := m ((c.tc : Thread Cert.Kernel7Ideal.nD Cert.Kernel7Ideal.τ).loc Cert.Kernel7Ideal.main_arg2)
/-- Argument 3 on core `c`. -/
abbrev A3 (m : (ℓ : Loc Cert.Kernel7Ideal.nD Cert.Kernel7Ideal.τ Cert.Kernel7Ideal.sig) → Buf (Elt Ideal) ℓ) (c : Dev Cert.Kernel7Ideal.nD) := m ((c.tc : Thread Cert.Kernel7Ideal.nD Cert.Kernel7Ideal.τ).loc Cert.Kernel7Ideal.main_arg3)

/-- Over the extended reals the kernel's result is the reference's, whatever the arguments. -/
theorem values : @Cert.algebraic_Kernel7Ideal_Reference7Ideal Cert.Kernel7Ideal.Gen.facts Cert.Reference7Ideal.Gen.facts := by
  intro m g m' g' _ he
  refine ⟨fun c => Cert.Kernel7Ideal.Val.res (A0 m c) (A1 m c) (A2 m c) (A3 m c), (θ_run _ _ _).mono (fun r h c => ?_) (Cert.Kernel7Ideal.Value.run_blocks m g), (θ_run _ _ _).mono (fun r h c => ?_) (Cert.Reference7Ideal.Value.run m' g')⟩
  · obtain ⟨h0, hk⟩ := h c
    exact ⟨h0.trans (Cert.Kernel7Ideal.Val.final4 m c), hk⟩
  · obtain ⟨h0, hk⟩ := h c
    obtain ⟨e0, e1, e2, e3⟩ := he c
    refine ⟨h0.trans ?_, hk⟩
    rw [Cert.Reference7Ideal.Read.val_main_v9_eq, Cert.Reference7Ideal.Val.v9_val]
    exact congr (congr (congr (congrArg Cert.Kernel7Ideal.Val.res e0) e1) e2) e3
theorem frameK : @Cert.quiescent_Kernel7 Cert.Kernel7.Gen.facts := fun m ρ _ => Cert.Kernel7.Gen.frame m ρ
theorem frameKI : @Cert.quiescent_Kernel7Ideal Cert.Kernel7Ideal.Gen.facts := fun m ρ _ => Cert.Kernel7Ideal.Gen.frame m ρ
theorem frameRI : @Cert.quiescent_Reference7Ideal Cert.Reference7Ideal.Gen.facts := fun m ρ _ =>
  (θ_run _ _ _).mono (fun r h => ⟨fun c => (h c).2, sem_eq_zero_of_no_sems (by decide) r.2⟩) (Cert.Reference7Ideal.Value.run m ρ)
end Cert.Top7
end
-- ==== Proof.F8.lean ====
module
public import proofs.«01_k».proof.Proof.Gen.Kernel8Ideal.Value
public import proofs.«01_k».proof.Proof.RealVal
public import Idealize.ShloMosaic.Lib.Pointwise
public import Idealize.ShloMosaic.Lib.Pipeline.ValueKit.Point
@[expose] public section
/-! # The feed-forward layer's output product, residual and layer norm over the reals

Each result of the kernel at a row and a column, from the arguments. -/
set_option maxRecDepth 16384
noncomputable section
namespace Cert.Kernel8Ideal.Val
open Cert.Kernel8Ideal Cert.Kernel8Ideal.Gen Idealize.ShloMosaic Idealize.ShloMosaic.TcCoe Idealize.SL.Sem Cert.RealVal

/-- The mean of a row. -/
def mean (z : Fin 2048 → EReal) : EReal := Ideal.div (∑ k, z k) (Ideal.ofBits .f32 0x45000000#32)
/-- A row less its mean, over its standard deviation. -/
def nrm (z : Fin 2048 → EReal) (j : Fin 2048) : EReal :=
  (z j - mean z) * Ideal.rsqrt (Ideal.div (∑ k, (z k - mean z) * (z k - mean z)) (Ideal.ofBits .f32 0x45000000#32) + Ideal.ofBits .f32 0x3727C5AC#32)

/-- The output product at a row and a column. -/
def prj (s : Vec Ideal S4096x5632 .bf16) (w : Vec Ideal S5632x2048 .bf16) (r : Fin 4096) (j : Fin 2048) : EReal :=
  ∑ k : Fin 5632, s (ix2 r k) * w (ix2 k j)
/-- The gated sum with the residual at a row and a column. -/
def zed (s : Vec Ideal S4096x5632 .bf16) (w : Vec Ideal S5632x2048 .bf16) (h : Vec Ideal S4096x2048 .f32) (g : Vec Ideal S1x2048 .f32) (r : Fin 4096) (j : Fin 2048) : EReal :=
  Ideal.ofBits .f32 0x3F9837F0#32 * h (ix2 r j) + Ideal.ofBits .f32 0x3F000000#32 * g (ix2 0 j) * prj s w r j
/-- The normalised sum at a row and a column. -/
def lno (s : Vec Ideal S4096x5632 .bf16) (w : Vec Ideal S5632x2048 .bf16) (h : Vec Ideal S4096x2048 .f32) (g lg lb : Vec Ideal S1x2048 .f32) (r : Fin 4096) (j : Fin 2048) : EReal :=
  nrm (zed s w h g r) j * lg (ix2 0 j) + lb (ix2 0 j)
/-- The product. -/
def resF (s : Vec Ideal S4096x5632 .bf16) (w : Vec Ideal S5632x2048 .bf16) : S4096x2048.Idx → EReal := fun y =>
  prj s w ⟨(y 0).val, (y 0).isLt⟩ ⟨(y 1).val, (y 1).isLt⟩
/-- The sum. -/
def resZ (s : Vec Ideal S4096x5632 .bf16) (w : Vec Ideal S5632x2048 .bf16) (h : Vec Ideal S4096x2048 .f32) (g : Vec Ideal S1x2048 .f32) : S4096x2048.Idx → EReal := fun y =>
  zed s w h g ⟨(y 0).val, (y 0).isLt⟩ ⟨(y 1).val, (y 1).isLt⟩
/-- The normalised sum. -/
def resH (s : Vec Ideal S4096x5632 .bf16) (w : Vec Ideal S5632x2048 .bf16) (h : Vec Ideal S4096x2048 .f32) (g lg lb : Vec Ideal S1x2048 .f32) : S4096x2048.Idx → EReal := fun y =>
  lno s w h g lg lb ⟨(y 0).val, (y 0).isLt⟩ ⟨(y 1).val, (y 1).isLt⟩

theorem pay2_val (v0 : Vec Ideal S256x5632 .bf16) (v1 : Vec Ideal S5632x2048 .bf16) (i : Fin 256) (j : Fin 2048) :
    k0_pay2 v0 v1 (ix2 i j) = ∑ k : Fin 5632, v0 (ix2 i k) * v1 (ix2 k j) := by
  pointwise [k0_pay2]
theorem pay3_val (v0 : Vec Ideal S256x5632 .bf16) (v1 : Vec Ideal S5632x2048 .bf16) (v3 : Vec Ideal S256x2048 .f32) (v6 : Vec Ideal S1x2048 .f32) (i : Fin 256) (j : Fin 2048) :
    k0_pay3 v0 v1 v3 v6 (ix2 i j) = Ideal.ofBits .f32 0x3F9837F0#32 * v3 (ix2 i j) + Ideal.ofBits .f32 0x3F000000#32 * v6 (ix2 0 j) * k0_pay2 v0 v1 (ix2 i j) := by
  pointwise [k0_pay3]
set_option maxHeartbeats 1000000 in
theorem pay5_val (v0 : Vec Ideal S256x5632 .bf16) (v1 : Vec Ideal S5632x2048 .bf16) (v3 : Vec Ideal S256x2048 .f32) (v6 v31 : Vec Ideal S1x2048 .f32) (i : Fin 256) (j : Fin 2048) :
    k0_pay5 v0 v1 v3 v6 v31 (ix2 i j) = nrm (fun k => k0_pay3 v0 v1 v3 v6 (ix2 i k)) j * v31 (ix2 0 j) := by
  unfold k0_pay5 nrm mean
  generalize k0_pay3 v0 v1 v3 v6 = z
  pointwise []
theorem pay1_val (v33 : Vec Ideal S256x2048 .f32) (v34 : Vec Ideal S1x2048 .f32) (i : Fin 256) (j : Fin 2048) :
    k0_pay1 v33 v34 (ix2 i j) = v33 (ix2 i j) + v34 (ix2 0 j) := by
  pointwise [k0_pay1]

variable (m : (ℓ : Loc nD τ sig) → Buf (Elt Ideal) ℓ) (c : Dev nD)
theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![0, 0] ∧ win0_6.index t = ![t.val, 0] ∧ win0_7.index t = ![t.val, 0] ∧ win0_8.index t = ![t.val, 0] := by decide +kernel
theorem emb6 (t : Fin cfg0.N) (i : Fin 256) (j : Fin 2048) (hr : 256 * t.val + i.val < 4096) :
    ((win0_6.blk t).view.emb (ix2 i j) : S4096x2048.Idx) = ix2 (⟨256 * t.val + i.val, hr⟩ : Fin 4096) j := by
  have ht : t.val < 16 := t.isLt
  blk_ext [(idx t).2.2.2.2.2.2.1]
theorem emb7 (t : Fin cfg0.N) (i : Fin 256) (j : Fin 2048) (hr : 256 * t.val + i.val < 4096) :
    ((win0_7.blk t).view.emb (ix2 i j) : S4096x2048.Idx) = ix2 (⟨256 * t.val + i.val, hr⟩ : Fin 4096) j := by
  have ht : t.val < 16 := t.isLt
  blk_ext [(idx t).2.2.2.2.2.2.2.1]
theorem emb8 (t : Fin cfg0.N) (i : Fin 256) (j : Fin 2048) (hr : 256 * t.val + i.val < 4096) :
    ((win0_8.blk t).view.emb (ix2 i j) : S4096x2048.Idx) = ix2 (⟨256 * t.val + i.val, hr⟩ : Fin 4096) j := by
  have ht : t.val < 16 := t.isLt
  blk_ext [(idx t).2.2.2.2.2.2.2.2]
theorem in0 (t : Fin cfg0.N) (i : Fin 256) (k : Fin 5632) (hr : 256 * t.val + i.val < 4096) :
    (View.ld (iblk m c 0 t) r0_0 : Vec Ideal S256x5632 .bf16) (ix2 i k) = m ((c : Thread nD τ).loc main_arg0) (ix2 (⟨256 * t.val + i.val, hr⟩ : Fin 4096) k) := by
  refine (congrFun (View.ld_unit_lit (S := S256x5632) _ _ (by decide)) (ix2 i k)).trans ?_
  have ht : t.val < 16 := t.isLt
  blk_ext [iblk, V, (idx t).1]
theorem in1 (t : Fin cfg0.N) (k : Fin 5632) (j : Fin 2048) :
    (View.ld (iblk m c 1 t) r0_1 : Vec Ideal S5632x2048 .bf16) (ix2 k j) = m ((c : Thread nD τ).loc main_arg1) (ix2 k j) := by
  refine (congrFun (View.ld_unit_lit (S := S5632x2048) _ _ (by decide)) (ix2 k j)).trans ?_
  blk_ext [iblk, V, (idx t).2.1]
theorem in2 (t : Fin cfg0.N) (i : Fin 256) (j : Fin 2048) (hr : 256 * t.val + i.val < 4096) :
    (View.ld (iblk m c 2 t) r0_2 : Vec Ideal S256x2048 .f32) (ix2 i j) = m ((c : Thread nD τ).loc main_arg2) (ix2 (⟨256 * t.val + i.val, hr⟩ : Fin 4096) j) := by
  refine (congrFun (View.ld_unit_lit (S := S256x2048) _ _ (by decide)) (ix2 i j)).trans ?_
  have ht : t.val < 16 := t.isLt
  blk_ext [iblk, V, (idx t).2.2.1]
theorem in3 (t : Fin cfg0.N) (j : Fin 2048) :
    (View.ld (iblk m c 3 t) r0_3 : Vec Ideal S1x2048 .f32) (ix2 0 j) = m ((c : Thread nD τ).loc main_arg3) (ix2 0 j) := by
  refine (congrFun (View.ld_unit_lit (S := S1x2048) _ _ (by decide)) (ix2 0 j)).trans ?_
  blk_ext [iblk, V, (idx t).2.2.2.1]
theorem in4 (t : Fin cfg0.N) (j : Fin 2048) :
    (View.ld (iblk m c 4 t) r0_3 : Vec Ideal S1x2048 .f32) (ix2 0 j) = m ((c : Thread nD τ).loc main_arg4) (ix2 0 j) := by
  refine (congrFun (View.ld_unit_lit (S := S1x2048) _ _ (by decide)) (ix2 0 j)).trans ?_
  blk_ext [iblk, V, (idx t).2.2.2.2.1]
theorem in5 (t : Fin cfg0.N) (j : Fin 2048) :
    (View.ld (iblk m c 5 t) r0_3 : Vec Ideal S1x2048 .f32) (ix2 0 j) = m ((c : Thread nD τ).loc main_arg5) (ix2 0 j) := by
  refine (congrFun (View.ld_unit_lit (S := S1x2048) _ _ (by decide)) (ix2 0 j)).trans ?_
  blk_ext [iblk, V, (idx t).2.2.2.2.2.1]

/-- The product of a block of rows, from the arguments. -/
theorem blkF (t : Fin cfg0.N) (i : Fin 256) (j : Fin 2048) (hr : 256 * t.val + i.val < 4096) :
    k0_pay2 (View.ld (iblk m c 0 t) r0_0) (View.ld (iblk m c 1 t) r0_1) (ix2 i j)
      = prj (m ((c : Thread nD τ).loc main_arg0)) (m ((c : Thread nD τ).loc main_arg1)) ⟨256 * t.val + i.val, hr⟩ j := by
  rw [pay2_val]
  unfold prj
  exact Finset.sum_congr rfl fun k _ => by rw [in0 m c t i k hr, in1]
/-- The sum of a block of rows, from the arguments. -/
theorem blkZ (t : Fin cfg0.N) (i : Fin 256) (j : Fin 2048) (hr : 256 * t.val + i.val < 4096) :
    k0_pay3 (View.ld (iblk m c 0 t) r0_0) (View.ld (iblk m c 1 t) r0_1) (View.ld (iblk m c 2 t) r0_2) (View.ld (iblk m c 3 t) r0_3) (ix2 i j)
      = zed (m ((c : Thread nD τ).loc main_arg0)) (m ((c : Thread nD τ).loc main_arg1)) (m ((c : Thread nD τ).loc main_arg2)) (m ((c : Thread nD τ).loc main_arg3)) ⟨256 * t.val + i.val, hr⟩ j := by
  rw [pay3_val, blkF m c t i j hr, in2 m c t i j hr, in3]
  rfl
/-- The normalised sum of a block of rows, from the arguments. -/
theorem blkH (t : Fin cfg0.N) (i : Fin 256) (j : Fin 2048) (hr : 256 * t.val + i.val < 4096) :
    k0_pay1 (k0_pay5 (View.ld (iblk m c 0 t) r0_0) (View.ld (iblk m c 1 t) r0_1) (View.ld (iblk m c 2 t) r0_2) (View.ld (iblk m c 3 t) r0_3) (View.ld (iblk m c 4 t) r0_3))
        (View.ld (iblk m c 5 t) r0_3) (ix2 i j)
      = lno (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) ⟨256 * t.val + i.val, hr⟩ j := by
  rw [pay1_val, pay5_val, in4, in5, funext fun k => blkZ m c t i k hr]
  rfl

/-- Result 0 of the kernel. -/
theorem final6 : (dats m 0 c).arrAt 6 cfg0.N = resF (m ((c : Thread nD τ).loc main_arg0)) (m ((c : Thread nD τ).loc main_arg1)) := by
  refine (dats m 0 c).arrAt_eq_of_covers 6 _ (by decide +kernel) fun t hf y => ?_
  have ht : t.val < 16 := t.isLt
  obtain ⟨i, j, rfl⟩ : ∃ (i : Fin 256) (j : Fin 2048), y = ix2 i j := ⟨y 0, y 1, eq_ix2 y⟩
  have hr : 256 * t.val + i.val < 4096 := by omega
  refine Eq.trans ?_ ((blkF m c t i j hr).trans (congrArg (resF _ _) (emb6 t i j hr)).symm)
  show (dats m 0 c).after 6 t (ix2 i j) = _
  rw [after0_6]
  unfold out0_6
  rw [View.canon_cons_unit_lit _ _ _ (by decide)]
  rfl
/-- Result 1 of the kernel. -/
theorem final7 : (dats m 0 c).arrAt 7 cfg0.N
    = resZ (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  have ht : t.val < 16 := t.isLt
  obtain ⟨i, j, rfl⟩ : ∃ (i : Fin 256) (j : Fin 2048), y = ix2 i j := ⟨y 0, y 1, eq_ix2 y⟩
  have hr : 256 * t.val + i.val < 4096 := by omega
  refine Eq.trans ?_ ((blkZ m c t i j hr).trans (congrArg (resZ _ _ _ _) (emb7 t i j hr)).symm)
  show (dats m 0 c).after 7 t (ix2 i j) = _
  rw [after0_7]
  unfold out0_7
  rw [View.canon_cons_unit_lit _ _ _ (by decide)]
  rfl
/-- Result 2 of the kernel. -/
theorem final8 : (dats m 0 c).arrAt 8 cfg0.N
    = resH (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) := by
  refine (dats m 0 c).arrAt_eq_of_covers 8 _ (by decide +kernel) fun t hf y => ?_
  have ht : t.val < 16 := t.isLt
  obtain ⟨i, j, rfl⟩ : ∃ (i : Fin 256) (j : Fin 2048), y = ix2 i j := ⟨y 0, y 1, eq_ix2 y⟩
  have hr : 256 * t.val + i.val < 4096 := by omega
  refine Eq.trans ?_ ((blkH m c t i j hr).trans (congrArg (resH _ _ _ _ _ _) (emb8 t i j hr)).symm)
  show (dats m 0 c).after 8 t (ix2 i j) = _
  rw [after0_8]
  unfold out0_8
  rw [View.canon_cons_unit_lit _ _ _ (by decide)]
  rfl
end Cert.Kernel8Ideal.Val
end
-- ==== Proof.R8.lean ====
module
public import proofs.«01_k».proof.Proof.Gen.Reference8Ideal.Read
public import proofs.«01_k».proof.Proof.F8
@[expose] public section
/-! # The reference of the feed-forward layer's output product, residual and layer norm over the reals -/
set_option maxRecDepth 16384
noncomputable section
namespace Cert.Reference8Ideal.Val
open Cert.Reference8Ideal Cert.Reference8Ideal.Gen Cert.Reference8Ideal.Read Idealize.ShloMosaic Idealize.ShloMosaic.TcCoe Idealize.SL.Sem Cert.RealVal
open Cert.Kernel8Ideal.Val (prj zed lno nrm mean resF resZ resH)

variable (s : Vec Ideal S4096x5632 .bf16) (w : Vec Ideal S5632x2048 .bf16) (h : Vec Ideal S4096x2048 .f32) (g lg lb : Vec Ideal S1x2048 .f32)

/-- The product at a row and a column. -/
theorem v2_val (r : Fin 4096) (j : Fin 2048) : val_main_v2 (F := Ideal) s w (ix2 r j) = prj s w r j := by
  rw [val_main_v2_apply]
  unfold prj
  refine Finset.sum_congr rfl fun k _ => ?_
  have e1 : val_main_v0 (F := Ideal) s (lidx_main_v2 (ix2 r j) k) = s (ix2 r k) := by
    rw [val_main_v0_apply]
    exact congrArg s (eq_ix2 _)
  have e2 : val_main_v1 (F := Ideal) w (ridx_main_v2 (ix2 r j) k) = w (ix2 k j) := by
    rw [val_main_v1_apply]
    exact congrArg w (eq_ix2 _)
  rw [e1, e2]
/-- The sum with the residual at a row and a column. -/
theorem v9_at (r : Fin 4096) (j : Fin 2048) : val_main_v9 (F := Ideal) s w h g (ix2 r j) = zed s w h g r j := by
  rw [val_main_v9_apply, val_main_v4_apply, val_main_v3_apply, val_main_cst_apply, val_main_v8_apply, val_main_v7_apply, val_main_v6_apply, val_main_v5_apply, val_main_cst_0_apply, v2_val]
  refine congrArg₂ (· + ·) rfl (congrArg₂ (· * ·) (congrArg₂ (· * ·) rfl (congrArg g ?_)) rfl)
  exact eq_ix2 _
/-- The mean of a row. -/
theorem v13_at (r : Fin 4096) : val_main_v13 (F := Ideal) s w h g (ix2 r (0 : Fin 1)) = mean (zed s w h g r) := by
  rw [val_main_v13_apply, val_main_v11_apply, val_main_v10_apply, val_main_cst_1_apply, val_main_v12_apply, val_main_cst_2_apply]
  refine congrArg₂ Ideal.div ?_ rfl
  refine (congrArg (· + _) Ideal.ofBits_zero_f32).trans ((zero_add _).trans (Finset.sum_congr rfl fun k _ => ?_))
  exact (congrArg (val_main_v9 (F := Ideal) s w h g) (eq_ix2 _)).trans (v9_at s w h g r k)
/-- An element less its row's mean. -/
theorem v15_at (r : Fin 4096) (j : Fin 2048) : val_main_v15 (F := Ideal) s w h g (ix2 r j) = zed s w h g r j - mean (zed s w h g r) := by
  rw [val_main_v15_apply, val_main_v14_apply, v9_at]
  rw [show idx_main_v14 (ix2 r j) = ix2 r (0 : Fin 1) from eq_ix2 _, v13_at]
  rfl
/-- The variance of a row. -/
theorem v20_at (r : Fin 4096) : val_main_v20 (F := Ideal) s w h g (ix2 r (0 : Fin 1))
    = Ideal.div (∑ k, (zed s w h g r k - mean (zed s w h g r)) * (zed s w h g r k - mean (zed s w h g r))) (Ideal.ofBits .f32 0x45000000#32) := by
  rw [val_main_v20_apply, val_main_v18_apply, val_main_v17_apply, val_main_cst_3_apply, val_main_v19_apply, val_main_cst_4_apply]
  refine congrArg₂ Ideal.div ?_ rfl
  refine (congrArg (· + _) Ideal.ofBits_zero_f32).trans ((zero_add _).trans (Finset.sum_congr rfl fun k _ => ?_))
  rw [show idx_main_v17 (idx_main_v18 (ix2 r (0 : Fin 1))) k = ix2 r k from eq_ix2 _, val_main_v16_apply, v15_at]
  rfl
/-- The normalised sum at a row and a column. -/
theorem v32_at (r : Fin 4096) (j : Fin 2048) : val_main_v32 (F := Ideal) s w h g lg lb (ix2 r j) = lno s w h g lg lb r j := by
  rw [val_main_v32_apply, val_main_v30_apply, val_main_v28_apply, val_main_v23_apply, val_main_v22_apply, val_main_v27_apply, val_main_v26_apply, val_main_v25_apply, val_main_v24_apply,
    val_main_cst_5_apply, val_main_v29_apply, val_main_v31_apply, v9_at]
  have e1 : val_main_v13 (F := Ideal) s w h g (idx_main_v22 (ix2 r j)) = mean (zed s w h g r) := (congrArg _ (eq_ix2 _)).trans (v13_at s w h g r)
  have e2 := (congrArg (val_main_v20 (F := Ideal) s w h g) (eq_ix2 (idx_main_v27 (ix2 r j)))).trans (v20_at s w h g r)
  rw [e1, e2, show idx_main_v29 (ix2 r j) = ix2 (0 : Fin 1) j from eq_ix2 _, show idx_main_v31 (ix2 r j) = ix2 (0 : Fin 1) j from eq_ix2 _]
  rfl
theorem v21_val : val_main_v21 (F := Ideal) s w = resF s w := funext fun y => by
  obtain ⟨r, j, rfl⟩ : ∃ (r : Fin 4096) (j : Fin 2048), y = ix2 r j := ⟨y 0, y 1, eq_ix2 y⟩
  exact (val_main_v21_apply s w (ix2 r j)).trans (v2_val s w r j)
theorem v9_val : val_main_v9 (F := Ideal) s w h g = resZ s w h g := funext fun y => by
  obtain ⟨r, j, rfl⟩ : ∃ (r : Fin 4096) (j : Fin 2048), y = ix2 r j := ⟨y 0, y 1, eq_ix2 y⟩
  exact v9_at s w h g r j
theorem v32_val : val_main_v32 (F := Ideal) s w h g lg lb = resH s w h g lg lb := funext fun y => by
  obtain ⟨r, j, rfl⟩ : ∃ (r : Fin 4096) (j : Fin 2048), y = ix2 r j := ⟨y 0, y 1, eq_ix2 y⟩
  exact v32_at s w h g lg lb r j
end Cert.Reference8Ideal.Val
end
-- ==== Proof.Top8.lean ====
module
public import proofs.«01_k».proof.Defs
public import proofs.«01_k».proof.Proof.R8
public import proofs.«01_k».proof.Proof.Gen.Kernel8.Frame
public import proofs.«01_k».proof.Proof.Gen.Reference8Ideal.Run
@[expose] public section
/-! # The feed-forward layer's output product, residual and layer norm: the claims -/
set_option maxRecDepth 16384
noncomputable section
namespace Cert.Top8
open Idealize.ShloMosaic Idealize.SL.Sem

/-- Argument 0 on core `c`. -/
abbrev A0 (m : (ℓ : Loc Cert.Kernel8Ideal.nD Cert.Kernel8Ideal.τ Cert.Kernel8Ideal.sig) → Buf (Elt Ideal) ℓ) (c : Dev Cert.Kernel8Ideal.nD) := m ((c.tc : Thread Cert.Kernel8Ideal.nD Cert.Kernel8Ideal.τ).loc Cert.Kernel8Ideal.main_arg0)
/-- Argument 1 on core `c`. -/
abbrev A1 (m : (ℓ : Loc Cert.Kernel8Ideal.nD Cert.Kernel8Ideal.τ Cert.Kernel8Ideal.sig) → Buf (Elt Ideal) ℓ) (c : Dev Cert.Kernel8Ideal.nD) := m ((c.tc : Thread Cert.Kernel8Ideal.nD Cert.Kernel8Ideal.τ).loc Cert.Kernel8Ideal.main_arg1)
/-- Argument 2 on core `c`. -/
abbrev A2 (m : (ℓ : Loc Cert.Kernel8Ideal.nD Cert.Kernel8Ideal.τ Cert.Kernel8Ideal.sig) → Buf (Elt Ideal) ℓ) (c : Dev Cert.Kernel8Ideal.nD) := m ((c.tc : Thread Cert.Kernel8Ideal.nD Cert.Kernel8Ideal.τ).loc Cert.Kernel8Ideal.main_arg2)
/-- Argument 3 on core `c`. -/
abbrev A3 (m : (ℓ : Loc Cert.Kernel8Ideal.nD Cert.Kernel8Ideal.τ Cert.Kernel8Ideal.sig) → Buf (Elt Ideal) ℓ) (c : Dev Cert.Kernel8Ideal.nD) := m ((c.tc : Thread Cert.Kernel8Ideal.nD Cert.Kernel8Ideal.τ).loc Cert.Kernel8Ideal.main_arg3)
/-- Argument 4 on core `c`. -/
abbrev A4 (m : (ℓ : Loc Cert.Kernel8Ideal.nD Cert.Kernel8Ideal.τ Cert.Kernel8Ideal.sig) → Buf (Elt Ideal) ℓ) (c : Dev Cert.Kernel8Ideal.nD) := m ((c.tc : Thread Cert.Kernel8Ideal.nD Cert.Kernel8Ideal.τ).loc Cert.Kernel8Ideal.main_arg4)
/-- Argument 5 on core `c`. -/
abbrev A5 (m : (ℓ : Loc Cert.Kernel8Ideal.nD Cert.Kernel8Ideal.τ Cert.Kernel8Ideal.sig) → Buf (Elt Ideal) ℓ) (c : Dev Cert.Kernel8Ideal.nD) := m ((c.tc : Thread Cert.Kernel8Ideal.nD Cert.Kernel8Ideal.τ).loc Cert.Kernel8Ideal.main_arg5)

/-- Over the extended reals the kernel's three results are the reference's, whatever the arguments. -/
theorem values : @Cert.algebraic_Kernel8Ideal_Reference8Ideal Cert.Kernel8Ideal.Gen.facts Cert.Reference8Ideal.Gen.facts := by
  intro m g m' g' _ he
  refine ⟨fun c => Cert.Kernel8Ideal.Val.resF (A0 m c) (A1 m c), fun c => Cert.Kernel8Ideal.Val.resZ (A0 m c) (A1 m c) (A2 m c) (A3 m c), fun c => Cert.Kernel8Ideal.Val.resH (A0 m c) (A1 m c) (A2 m c) (A3 m c) (A4 m c) (A5 m c), (θ_run _ _ _).mono (fun r h c => ?_) (Cert.Kernel8Ideal.Value.run_blocks m g), (θ_run _ _ _).mono (fun r h c => ?_) (Cert.Reference8Ideal.Value.run m' g')⟩
  · obtain ⟨h0, h1, h2, hk⟩ := h c
    exact ⟨h0.trans (Cert.Kernel8Ideal.Val.final6 m c), h1.trans (Cert.Kernel8Ideal.Val.final7 m c), h2.trans (Cert.Kernel8Ideal.Val.final8 m c), hk⟩
  · obtain ⟨h0, h1, h2, hk⟩ := h c
    obtain ⟨e0, e1, e2, e3, e4, e5⟩ := he c
    refine ⟨h0.trans ?_, h1.trans ?_, h2.trans ?_, hk⟩
    · rw [Cert.Reference8Ideal.Read.val_main_v21_eq, Cert.Reference8Ideal.Val.v21_val]
      exact congr (congrArg Cert.Kernel8Ideal.Val.resF e0) e1
    · rw [Cert.Reference8Ideal.Read.val_main_v9_eq, Cert.Reference8Ideal.Val.v9_val]
      exact congr (congr (congr (congrArg Cert.Kernel8Ideal.Val.resZ e0) e1) e2) e3
    · rw [Cert.Reference8Ideal.Read.val_main_v32_eq, Cert.Reference8Ideal.Val.v32_val]
      exact congr (congr (congr (congr (congr (congrArg Cert.Kernel8Ideal.Val.resH e0) e1) e2) e3) e4) e5
theorem frameK : @Cert.quiescent_Kernel8 Cert.Kernel8.Gen.facts := fun m ρ _ => Cert.Kernel8.Gen.frame m ρ
theorem frameKI : @Cert.quiescent_Kernel8Ideal Cert.Kernel8Ideal.Gen.facts := fun m ρ _ => Cert.Kernel8Ideal.Gen.frame m ρ
theorem frameRI : @Cert.quiescent_Reference8Ideal Cert.Reference8Ideal.Gen.facts := fun m ρ _ =>
  (θ_run _ _ _).mono (fun r h => ⟨fun c => (h c).2.2.2, sem_eq_zero_of_no_sems (by decide) r.2⟩) (Cert.Reference8Ideal.Value.run m ρ)
end Cert.Top8
end
-- ==== Proof.F9.lean ====
module
public import proofs.«01_k».proof.Proof.Gen.Kernel9Ideal.Value
public import proofs.«01_k».proof.Proof.RealVal
public import Idealize.ShloMosaic.Lib.Pointwise
public import Idealize.ShloMosaic.Lib.Pipeline.ValueKit.Point
@[expose] public section
/-! # The first half of the gradient of the feed-forward layer's input over the reals

The kernel's result at a row and a column, from the arguments. -/
set_option maxRecDepth 16384
noncomputable section
namespace Cert.Kernel9Ideal.Val
open Cert.Kernel9Ideal Cert.Kernel9Ideal.Gen Idealize.ShloMosaic Idealize.ShloMosaic.TcCoe Idealize.SL.Sem Cert.RealVal

/-- A sum over 5632 columns is the sum of the sums over its four blocks of 1408. -/
theorem sum4 (f : Fin 5632 → EReal) : ∑ k, f k = ∑ a : Fin 1408, f ⟨a.val, by omega⟩ + ∑ a : Fin 1408, f ⟨1408 + a.val, by omega⟩
    + ∑ a : Fin 1408, f ⟨2816 + a.val, by omega⟩ + ∑ a : Fin 1408, f ⟨4224 + a.val, by omega⟩ := by
  have h3 := Fin.sum_univ_add (a := 4224) (b := 1408) f
  have h2 := Fin.sum_univ_add (a := 2816) (b := 1408) (fun i => f ⟨i.val, by omega⟩)
  have h1 := Fin.sum_univ_add (a := 1408) (b := 1408) (fun i => f ⟨i.val, by omega⟩)
  exact h3.trans (congrArg (· + _) (h2.trans (congrArg (· + _) h1)))

/-- Half `p` of the gradient at a row and a column: the product's gradient against the weights, over the half's 5632 columns. -/
def du (p : Fin 2) (dab : Vec Ideal S2x4096x5632 .bf16) (w : Vec Ideal S8x2048x1408 .bf16) (r : Fin 4096) (j : Fin 2048) : EReal :=
  ∑ k : Fin 5632, dab (ix3 p r k) * w (ix3 (⟨4 * p.val + k.val / 1408, by omega⟩ : Fin 8) j (⟨k.val % 1408, by omega⟩ : Fin 1408))
/-- The first half at every row and column. -/
def res (dab : Vec Ideal S2x4096x5632 .bf16) (w : Vec Ideal S8x2048x1408 .bf16) : S4096x2048.Idx → EReal := fun y =>
  du 0 dab w ⟨(y 0).val, (y 0).isLt⟩ ⟨(y 1).val, (y 1).isLt⟩

set_option maxHeartbeats 1000000 in
theorem pay1_val (v0 v7 v13 v19 : Vec Ideal S1x256x1408 .bf16) (v2 v9 v15 v21 : Vec Ideal S1x2048x1408 .bf16) (i : Fin 256) (j : Fin 2048) :
    k0_pay1 v0 v2 v7 v9 v13 v15 v19 v21 (ix2 i j) = ∑ k : Fin 1408, v0 (ix3 0 i k) * v2 (ix3 0 j k) + ∑ k : Fin 1408, v7 (ix3 0 i k) * v9 (ix3 0 j k)
      + ∑ k : Fin 1408, v13 (ix3 0 i k) * v15 (ix3 0 j k) + ∑ k : Fin 1408, v19 (ix3 0 i k) * v21 (ix3 0 j k) := by
  pointwise [k0_pay1]
theorem x0 (X : Vec Ideal S1x256x5632 .bf16) (i : Fin 256) (a : Fin 1408) :
    (View.ld X r0_0 : Vec Ideal S1x256x1408 .bf16) (ix3 0 i a) = X (ix3 0 i (⟨a.val, by omega⟩ : Fin 5632)) := by
  refine congrArg X (funext fun d => ?_)
  match d with
  | ⟨0, _⟩ => exact Fin.ext (by show 0 + 1 * 0 = 0; omega)
  | ⟨1, _⟩ => exact Fin.ext (by show 0 + 1 * i.val = i.val; omega)
  | ⟨2, _⟩ => exact Fin.ext (by show 0 + 1 * a.val = a.val; omega)
theorem w0 (W : Vec Ideal S4x2048x1408 .bf16) (j : Fin 2048) (a : Fin 1408) (n : ℕ) (hn : n = a.val) (h1 : n / 1408 < 4) (h2 : n % 1408 < 1408) :
    (View.ld W r0_1 : Vec Ideal S1x2048x1408 .bf16) (ix3 0 j a) = W (ix3 (⟨n / 1408, h1⟩ : Fin 4) j (⟨n % 1408, h2⟩ : Fin 1408)) := by
  subst hn
  refine congrArg W (funext fun d => ?_)
  match d with
  | ⟨0, _⟩ => exact Fin.ext (by show 0 + 1 * 0 = (a.val) / 1408; omega)
  | ⟨1, _⟩ => exact Fin.ext (by show 0 + 1 * j.val = j.val; omega)
  | ⟨2, _⟩ => exact Fin.ext (by show 0 + 1 * a.val = (a.val) % 1408; omega)
theorem x1 (X : Vec Ideal S1x256x5632 .bf16) (i : Fin 256) (a : Fin 1408) :
    (View.ld X r0_2 : Vec Ideal S1x256x1408 .bf16) (ix3 0 i a) = X (ix3 0 i (⟨1408 + a.val, by omega⟩ : Fin 5632)) := by
  refine congrArg X (funext fun d => ?_)
  match d with
  | ⟨0, _⟩ => exact Fin.ext (by show 0 + 1 * 0 = 0; omega)
  | ⟨1, _⟩ => exact Fin.ext (by show 0 + 1 * i.val = i.val; omega)
  | ⟨2, _⟩ => exact Fin.ext (by show 1408 + 1 * a.val = 1408 + a.val; omega)
theorem w1 (W : Vec Ideal S4x2048x1408 .bf16) (j : Fin 2048) (a : Fin 1408) (n : ℕ) (hn : n = 1408 + a.val) (h1 : n / 1408 < 4) (h2 : n % 1408 < 1408) :
    (View.ld W r0_3 : Vec Ideal S1x2048x1408 .bf16) (ix3 0 j a) = W (ix3 (⟨n / 1408, h1⟩ : Fin 4) j (⟨n % 1408, h2⟩ : Fin 1408)) := by
  subst hn
  refine congrArg W (funext fun d => ?_)
  match d with
  | ⟨0, _⟩ => exact Fin.ext (by show 1 + 1 * 0 = (1408 + a.val) / 1408; omega)
  | ⟨1, _⟩ => exact Fin.ext (by show 0 + 1 * j.val = j.val; omega)
  | ⟨2, _⟩ => exact Fin.ext (by show 0 + 1 * a.val = (1408 + a.val) % 1408; omega)
theorem x2 (X : Vec Ideal S1x256x5632 .bf16) (i : Fin 256) (a : Fin 1408) :
    (View.ld X r0_4 : Vec Ideal S1x256x1408 .bf16) (ix3 0 i a) = X (ix3 0 i (⟨2816 + a.val, by omega⟩ : Fin 5632)) := by
  refine congrArg X (funext fun d => ?_)
  match d with
  | ⟨0, _⟩ => exact Fin.ext (by show 0 + 1 * 0 = 0; omega)
  | ⟨1, _⟩ => exact Fin.ext (by show 0 + 1 * i.val = i.val; omega)
  | ⟨2, _⟩ => exact Fin.ext (by show 2816 + 1 * a.val = 2816 + a.val; omega)
theorem w2 (W : Vec Ideal S4x2048x1408 .bf16) (j : Fin 2048) (a : Fin 1408) (n : ℕ) (hn : n = 2816 + a.val) (h1 : n / 1408 < 4) (h2 : n % 1408 < 1408) :
    (View.ld W r0_5 : Vec Ideal S1x2048x1408 .bf16) (ix3 0 j a) = W (ix3 (⟨n / 1408, h1⟩ : Fin 4) j (⟨n % 1408, h2⟩ : Fin 1408)) := by
  subst hn
  refine congrArg W (funext fun d => ?_)
  match d with
  | ⟨0, _⟩ => exact Fin.ext (by show 2 + 1 * 0 = (2816 + a.val) / 1408; omega)
  | ⟨1, _⟩ => exact Fin.ext (by show 0 + 1 * j.val = j.val; omega)
  | ⟨2, _⟩ => exact Fin.ext (by show 0 + 1 * a.val = (2816 + a.val) % 1408; omega)
theorem x3 (X : Vec Ideal S1x256x5632 .bf16) (i : Fin 256) (a : Fin 1408) :
    (View.ld X r0_6 : Vec Ideal S1x256x1408 .bf16) (ix3 0 i a) = X (ix3 0 i (⟨4224 + a.val, by omega⟩ : Fin 5632)) := by
  refine congrArg X (funext fun d => ?_)
  match d with
  | ⟨0, _⟩ => exact Fin.ext (by show 0 + 1 * 0 = 0; omega)
  | ⟨1, _⟩ => exact Fin.ext (by show 0 + 1 * i.val = i.val; omega)
  | ⟨2, _⟩ => exact Fin.ext (by show 4224 + 1 * a.val = 4224 + a.val; omega)
theorem w3 (W : Vec Ideal S4x2048x1408 .bf16) (j : Fin 2048) (a : Fin 1408) (n : ℕ) (hn : n = 4224 + a.val) (h1 : n / 1408 < 4) (h2 : n % 1408 < 1408) :
    (View.ld W r0_7 : Vec Ideal S1x2048x1408 .bf16) (ix3 0 j a) = W (ix3 (⟨n / 1408, h1⟩ : Fin 4) j (⟨n % 1408, h2⟩ : Fin 1408)) := by
  subst hn
  refine congrArg W (funext fun d => ?_)
  match d with
  | ⟨0, _⟩ => exact Fin.ext (by show 3 + 1 * 0 = (4224 + a.val) / 1408; omega)
  | ⟨1, _⟩ => exact Fin.ext (by show 0 + 1 * j.val = j.val; omega)
  | ⟨2, _⟩ => exact Fin.ext (by show 0 + 1 * a.val = (4224 + a.val) % 1408; omega)
/-- The four products of a block of rows are one sum over all columns. -/
theorem blk (X : Vec Ideal S1x256x5632 .bf16) (W : Vec Ideal S4x2048x1408 .bf16) (i : Fin 256) (j : Fin 2048) :
    k0_pay1 (View.ld X r0_0) (View.ld W r0_1) (View.ld X r0_2) (View.ld W r0_3) (View.ld X r0_4) (View.ld W r0_5) (View.ld X r0_6) (View.ld W r0_7) (ix2 i j)
      = ∑ k : Fin 5632, X (ix3 0 i k) * W (ix3 (⟨k.val / 1408, by omega⟩ : Fin 4) j (⟨k.val % 1408, by omega⟩ : Fin 1408)) := by
  rw [pay1_val, sum4]
  exact congrArg₂ (· + ·) (congrArg₂ (· + ·) (congrArg₂ (· + ·)
    (Finset.sum_congr rfl fun a _ => congrArg₂ (· * ·) (x0 X i a) (w0 W j a _ rfl _ _))
    (Finset.sum_congr rfl fun a _ => congrArg₂ (· * ·) (x1 X i a) (w1 W j a _ rfl _ _)))
    (Finset.sum_congr rfl fun a _ => congrArg₂ (· * ·) (x2 X i a) (w2 W j a _ rfl _ _)))
    (Finset.sum_congr rfl fun a _ => congrArg₂ (· * ·) (x3 X i a) (w3 W j a _ rfl _ _))

variable (m : (ℓ : Loc nD τ sig) → Buf (Elt Ideal) ℓ) (c : Dev nD)
theorem idx : ∀ t : Fin cfg0.N, win0_0.index t = ![0, t.val, 0] ∧ win0_1.index t = ![0, 0, 0] ∧ win0_2.index t = ![t.val, 0] := by decide +kernel
theorem emb2 (t : Fin cfg0.N) (i : Fin 256) (j : Fin 2048) (hr : 256 * t.val + i.val < 4096) :
    ((win0_2.blk t).view.emb (ix2 i j) : S4096x2048.Idx) = ix2 (⟨256 * t.val + i.val, hr⟩ : Fin 4096) j := by
  have ht : t.val < 16 := t.isLt
  blk_ext [(idx t).2.2]
theorem in0 (t : Fin cfg0.N) (i : Fin 256) (k : Fin 5632) (hr : 256 * t.val + i.val < 4096) :
    (iblk m c 0 t : Vec Ideal S1x256x5632 .bf16) (ix3 0 i k) = m ((c : Thread nD τ).loc main_arg0) (ix3 (0 : Fin 2) (⟨256 * t.val + i.val, hr⟩ : Fin 4096) k) := by
  have ht : t.val < 16 := t.isLt
  blk_ext [iblk, V, (idx t).1]
theorem in1 (t : Fin cfg0.N) (q : Fin 4) (j : Fin 2048) (a : Fin 1408) (hq : 4 * (0 : Fin 2).val + q.val < 8) :
    (iblk m c 1 t : Vec Ideal S4x2048x1408 .bf16) (ix3 q j a) = m ((c : Thread nD τ).loc main_arg1) (ix3 (⟨4 * (0 : Fin 2).val + q.val, hq⟩ : Fin 8) j a) := by
  have ht : t.val < 16 := t.isLt
  blk_ext [iblk, V, (idx t).2.1]

/-- The result of the kernel. -/
theorem final2 : (dats m 0 c).arrAt 2 cfg0.N = res (m ((c : Thread nD τ).loc main_arg0)) (m ((c : Thread nD τ).loc main_arg1)) := by
  refine (dats m 0 c).arrAt_eq_of_covers 2 _ (by decide +kernel) fun t hf y => ?_
  have ht : t.val < 16 := t.isLt
  obtain ⟨i, j, rfl⟩ : ∃ (i : Fin 256) (j : Fin 2048), y = ix2 i j := ⟨y 0, y 1, eq_ix2 y⟩
  have hr : 256 * t.val + i.val < 4096 := by omega
  refine Eq.trans ?_ (congrArg (res _ _) (emb2 t i j hr)).symm
  show (dats m 0 c).after 2 t (ix2 i j) = du 0 (m ((c : Thread nD τ).loc main_arg0)) (m ((c : Thread nD τ).loc main_arg1)) ⟨256 * t.val + i.val, hr⟩ j
  rw [after0_2]
  unfold out0_2
  rw [View.canon_cons_unit_lit _ _ _ (by decide)]
  refine (blk (iblk m c 0 t) (iblk m c 1 t) i j).trans ?_
  unfold du
  exact Finset.sum_congr rfl fun k _ => congrArg₂ (· * ·) (in0 m c t i k hr) (in1 m c t _ j _ _)
end Cert.Kernel9Ideal.Val
end
-- ==== Proof.R9.lean ====
module
public import proofs.«01_k».proof.Proof.Gen.Reference9Ideal.Read
public import proofs.«01_k».proof.Proof.F9
@[expose] public section
/-! # The reference of the first half of the gradient of the feed-forward layer's input over the reals -/
set_option maxRecDepth 16384
noncomputable section
namespace Cert.Reference9Ideal.Val
open Cert.Reference9Ideal Cert.Reference9Ideal.Gen Cert.Reference9Ideal.Read Idealize.ShloMosaic Idealize.ShloMosaic.TcCoe Idealize.SL.Sem Cert.RealVal
open Cert.Kernel9Ideal.Val (du res)

variable (dab : Vec Ideal S2x4096x5632 .bf16) (w : Vec Ideal S8x2048x1408 .bf16)

/-- The product's gradient at a row and a column. -/
theorem v6_val (r : Fin 4096) (k : Fin 5632) : val_main_v6 (F := Ideal) dab (ix2 r k) = dab (ix3 (0 : Fin 2) r k) := by
  rw [val_main_v6_apply, val_main_v5_apply, val_main_v4_apply]
  refine congrArg dab (funext fun d => ?_)
  match d with
  | ⟨0, _⟩ => rfl
  | ⟨1, _⟩ => exact Fin.ext (by show (r.val * 5632 + k.val) / 5632 % 4096 = r.val; omega)
  | ⟨2, _⟩ => exact Fin.ext (by show (r.val * 5632 + k.val) % 5632 = k.val; omega)
/-- The weights at a row and a column. -/
theorem v3_val (j : Fin 2048) (k : Fin 5632) : val_main_v3 (F := Ideal) w (ix2 j k)
    = w (ix3 (⟨4 * (0 : Fin 2).val + k.val / 1408, by show 4 * 0 + k.val / 1408 < 8; omega⟩ : Fin 8) j (⟨k.val % 1408, by omega⟩ : Fin 1408)) := by
  rw [val_main_v3_apply, val_main_v2_apply, val_main_v1_apply, val_main_v0_apply]
  refine congrArg w (funext fun d => ?_)
  match d with
  | ⟨0, _⟩ => exact Fin.ext (by show (j.val * 5632 + k.val) / 1408 % 4 = 4 * 0 + k.val / 1408; omega)
  | ⟨1, _⟩ => exact Fin.ext (by show (j.val * 5632 + k.val) / 5632 = j.val; omega)
  | ⟨2, _⟩ => exact Fin.ext (by show (j.val * 5632 + k.val) % 1408 = k.val % 1408; omega)
/-- The reference's result is the kernel's. -/
theorem v7_val : val_main_v7 (F := Ideal) dab w = res dab w := by
  funext y
  obtain ⟨r, j, rfl⟩ : ∃ (r : Fin 4096) (j : Fin 2048), y = ix2 r j := ⟨y 0, y 1, eq_ix2 y⟩
  show _ = du 0 dab w r j
  rw [val_main_v7_apply]
  unfold du
  exact Finset.sum_congr rfl fun k _ => congrArg₂ (· * ·) ((congrArg (val_main_v6 (F := Ideal) dab) (eq_ix2 _)).trans (v6_val dab r k))
    ((congrArg (val_main_v3 (F := Ideal) w) (eq_ix2 _)).trans (v3_val w j k))
end Cert.Reference9Ideal.Val
end
-- ==== Proof.Top9.lean ====
module
public import proofs.«01_k».proof.Defs
public import proofs.«01_k».proof.Proof.R9
public import proofs.«01_k».proof.Proof.Gen.Kernel9.Frame
public import proofs.«01_k».proof.Proof.Gen.Reference9Ideal.Run
@[expose] public section
/-! # The first half of the gradient of the feed-forward layer's input: the claims -/
set_option maxRecDepth 16384
noncomputable section
namespace Cert.Top9
open Idealize.ShloMosaic Idealize.SL.Sem

/-- Argument 0 on core `c`. -/
abbrev A0 (m : (ℓ : Loc Cert.Kernel9Ideal.nD Cert.Kernel9Ideal.τ Cert.Kernel9Ideal.sig) → Buf (Elt Ideal) ℓ) (c : Dev Cert.Kernel9Ideal.nD) := m ((c.tc : Thread Cert.Kernel9Ideal.nD Cert.Kernel9Ideal.τ).loc Cert.Kernel9Ideal.main_arg0)
/-- Argument 1 on core `c`. -/
abbrev A1 (m : (ℓ : Loc Cert.Kernel9Ideal.nD Cert.Kernel9Ideal.τ Cert.Kernel9Ideal.sig) → Buf (Elt Ideal) ℓ) (c : Dev Cert.Kernel9Ideal.nD) := m ((c.tc : Thread Cert.Kernel9Ideal.nD Cert.Kernel9Ideal.τ).loc Cert.Kernel9Ideal.main_arg1)

/-- Over the extended reals the kernel's result is the reference's, whatever the arguments. -/
theorem values : @Cert.algebraic_Kernel9Ideal_Reference9Ideal Cert.Kernel9Ideal.Gen.facts Cert.Reference9Ideal.Gen.facts := by
  intro m g m' g' _ he
  refine ⟨fun c => Cert.Kernel9Ideal.Val.res (A0 m c) (A1 m c), (θ_run _ _ _).mono (fun r h c => ?_) (Cert.Kernel9Ideal.Value.run_blocks m g), (θ_run _ _ _).mono (fun r h c => ?_) (Cert.Reference9Ideal.Value.run m' g')⟩
  · obtain ⟨h0, hk⟩ := h c
    exact ⟨h0.trans (Cert.Kernel9Ideal.Val.final2 m c), hk⟩
  · obtain ⟨h0, hk⟩ := h c
    obtain ⟨e0, e1⟩ := he c
    refine ⟨h0.trans ?_, hk⟩
    rw [Cert.Reference9Ideal.Read.val_main_v7_eq, Cert.Reference9Ideal.Val.v7_val]
    exact congr (congrArg Cert.Kernel9Ideal.Val.res e0) e1
theorem frameK : @Cert.quiescent_Kernel9 Cert.Kernel9.Gen.facts := fun m ρ _ => Cert.Kernel9.Gen.frame m ρ
theorem frameKI : @Cert.quiescent_Kernel9Ideal Cert.Kernel9Ideal.Gen.facts := fun m ρ _ => Cert.Kernel9Ideal.Gen.frame m ρ
theorem frameRI : @Cert.quiescent_Reference9Ideal Cert.Reference9Ideal.Gen.facts := fun m ρ _ =>
  (θ_run _ _ _).mono (fun r h => ⟨fun c => (h c).2, sem_eq_zero_of_no_sems (by decide) r.2⟩) (Cert.Reference9Ideal.Value.run m ρ)
end Cert.Top9
end
-- ==== Proof.O10.lean ====
module
public import proofs.«01_k».proof.Proof.Gen.Kernel10Ideal.Value
public import Idealize.ShloMosaic.Lib.Pipeline.ValueKit
public import Idealize.ShloMosaic.Lib.Pipeline.ReadBack
public import Idealize.ShloMosaic.Lib.Pipeline.Regions
@[expose] public section
/-! # What one block of rows of the second half of the feed-forward layer's input gradient leaves in its outputs -/
set_option maxRecDepth 16384
noncomputable section
namespace Cert.Kernel10Ideal.Val
open Cert.Kernel10Ideal Cert.Kernel10Ideal.Gen Idealize.ShloMosaic Idealize.ShloMosaic.TcCoe Idealize.SL.Sem

/-! The four blocks of columns of the product's gradient, and the four blocks of the weights. -/
abbrev q0 : Rect S1x256x5632 := Rect.unit (s := S1x256x5632) ![0, 0, 0] S1x256x1408.size inb_S1x256x5632_S1x256x1408_0_0_0
abbrev q1 : Rect S4x2048x1408 := Rect.unit (s := S4x2048x1408) ![0, 0, 0] S1x2048x1408.size inb_S4x2048x1408_S1x2048x1408_0_0_0
abbrev q2 : Rect S1x256x5632 := Rect.unit (s := S1x256x5632) ![0, 0, 1408] S1x256x1408.size inb_S1x256x5632_S1x256x1408_0_0_1408
abbrev q3 : Rect S4x2048x1408 := Rect.unit (s := S4x2048x1408) ![1, 0, 0] S1x2048x1408.size inb_S4x2048x1408_S1x2048x1408_1_0_0
abbrev q4 : Rect S1x256x5632 := Rect.unit (s := S1x256x5632) ![0, 0, 2816] S1x256x1408.size inb_S1x256x5632_S1x256x1408_0_0_2816
abbrev q5 : Rect S4x2048x1408 := Rect.unit (s := S4x2048x1408) ![2, 0, 0] S1x2048x1408.size inb_S4x2048x1408_S1x2048x1408_2_0_0
abbrev q6 : Rect S1x256x5632 := Rect.unit (s := S1x256x5632) ![0, 0, 4224] S1x256x1408.size inb_S1x256x5632_S1x256x1408_0_0_4224
abbrev q7 : Rect S4x2048x1408 := Rect.unit (s := S4x2048x1408) ![3, 0, 0] S1x2048x1408.size inb_S4x2048x1408_S1x2048x1408_3_0_0

variable {F : FTy → Type} [FloatOps F]
/-- The first three products of a block of rows. -/
def p7 (x0 : Vec F S1x256x5632 .bf16) (x1 : Vec F S4x2048x1408 .bf16) : FVec F S256x2048 .f32 := k0_pay7 (View.ld x0 q0) (View.ld x1 q1) (View.ld x0 q2) (View.ld x1 q3) (View.ld x0 q4) (View.ld x1 q5)
/-- The last block of columns. -/
def p8 (x0 : Vec F S1x256x5632 .bf16) : FVec F S256x1408 .bf16 := k0_pay8 (View.ld x0 q6)
/-- The last block of the weights. -/
def p9 (x1 : Vec F S4x2048x1408 .bf16) : Vec F S1x2048x1408 .bf16 := View.ld x1 q7

set_option maxHeartbeats 4000000 in
/-- The first block of rows stores its rows of the input's gradient. -/
theorem out0_A_6_eq (c : Dev nD) (i : grid0.Coords) (arg1 : Memref sig .tc .vmem S1x256x5632 .bf16) (harg1 : arg1.IsWhole) (arg2 : Memref sig .tc .vmem S4x2048x1408 .bf16) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (hc0 : cond0_0 i)
    (x0 : Vec F S1x256x5632 .bf16) (x1 : Vec F S4x2048x1408 .bf16) (x2 x3 x4 : Vec F S256x2048 .f32) (x5 : Vec F S1x2048 .f32) :
    out0_A_6 c i arg1 harg1 arg2 harg2 arg3 harg3 arg4 harg4 arg5 harg5 arg6 harg6 arg7 harg7 arg8 harg8 arg9 harg9 hc0 x0 x1 x2 x3 x4 x5 = k0_pay2 x2 (p7 x0 x1) (p8 x0) (p9 x1) x3 x5 := by
  unfold p7 p8 p9
  frame_out
set_option maxHeartbeats 4000000 in
/-- The first block of rows leaves its sums for the scale on zeros. -/
theorem out0_A_7_eq (c : Dev nD) (i : grid0.Coords) (arg1 : Memref sig .tc .vmem S1x256x5632 .bf16) (harg1 : arg1.IsWhole) (arg2 : Memref sig .tc .vmem S4x2048x1408 .bf16) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (hc0 : cond0_0 i)
    (x0 : Vec F S1x256x5632 .bf16) (x1 : Vec F S4x2048x1408 .bf16) (x2 x3 x4 : Vec F S256x2048 .f32) (x5 : Vec F S1x2048 .f32) :
    out0_A_7 c i arg1 harg1 arg2 harg2 arg3 harg3 arg4 harg4 arg5 harg5 arg6 harg6 arg7 harg7 arg8 harg8 arg9 harg9 hc0 x0 x1 x2 x3 x4 x5 = k0_pay3 x2 (p7 x0 x1) (p8 x0) (p9 x1) k0_pay5 x4 := by
  unfold p7 p8 p9
  frame_out
set_option maxHeartbeats 4000000 in
/-- The first block of rows leaves its sums for the shift on zeros. -/
theorem out0_A_8_eq (c : Dev nD) (i : grid0.Coords) (arg1 : Memref sig .tc .vmem S1x256x5632 .bf16) (harg1 : arg1.IsWhole) (arg2 : Memref sig .tc .vmem S4x2048x1408 .bf16) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (hc0 : cond0_0 i)
    (x0 : Vec F S1x256x5632 .bf16) (x1 : Vec F S4x2048x1408 .bf16) (x2 x3 x4 : Vec F S256x2048 .f32) (x5 : Vec F S1x2048 .f32) :
    out0_A_8 c i arg1 harg1 arg2 harg2 arg3 harg3 arg4 harg4 arg5 harg5 arg6 harg6 arg7 harg7 arg8 harg8 arg9 harg9 hc0 x0 x1 x2 x3 x4 x5 = k0_pay4 x2 (p7 x0 x1) (p8 x0) (p9 x1) k0_pay6 := by
  unfold p7 p8 p9
  frame_out
set_option maxHeartbeats 4000000 in
/-- A further block of rows stores its rows of the input's gradient. -/
theorem out0_B_6_eq (c : Dev nD) (i : grid0.Coords) (arg1 : Memref sig .tc .vmem S1x256x5632 .bf16) (harg1 : arg1.IsWhole) (arg2 : Memref sig .tc .vmem S4x2048x1408 .bf16) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (hc0 : ¬cond0_0 i)
    (x0 : Vec F S1x256x5632 .bf16) (x1 : Vec F S4x2048x1408 .bf16) (x2 x3 x4 : Vec F S256x2048 .f32) (x5 : Vec F S1x2048 .f32) (xo7 xo8 : Vec F S1x2048 .f32) :
    out0_B_6 c i arg1 harg1 arg2 harg2 arg3 harg3 arg4 harg4 arg5 harg5 arg6 harg6 arg7 harg7 arg8 harg8 arg9 harg9 hc0 x0 x1 x2 x3 x4 x5 xo7 xo8 = k0_pay2 x2 (p7 x0 x1) (p8 x0) (p9 x1) x3 x5 := by
  unfold p7 p8 p9
  frame_out
set_option maxHeartbeats 4000000 in
/-- A further block of rows leaves its sums for the scale on what it found. -/
theorem out0_B_7_eq (c : Dev nD) (i : grid0.Coords) (arg1 : Memref sig .tc .vmem S1x256x5632 .bf16) (harg1 : arg1.IsWhole) (arg2 : Memref sig .tc .vmem S4x2048x1408 .bf16) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (hc0 : ¬cond0_0 i)
    (x0 : Vec F S1x256x5632 .bf16) (x1 : Vec F S4x2048x1408 .bf16) (x2 x3 x4 : Vec F S256x2048 .f32) (x5 : Vec F S1x2048 .f32) (xo7 xo8 : Vec F S1x2048 .f32) :
    out0_B_7 c i arg1 harg1 arg2 harg2 arg3 harg3 arg4 harg4 arg5 harg5 arg6 harg6 arg7 harg7 arg8 harg8 arg9 harg9 hc0 x0 x1 x2 x3 x4 x5 xo7 xo8 = k0_pay3 x2 (p7 x0 x1) (p8 x0) (p9 x1) xo7 x4 := by
  unfold p7 p8 p9
  frame_out
set_option maxHeartbeats 4000000 in
/-- A further block of rows leaves its sums for the shift on what it found. -/
theorem out0_B_8_eq (c : Dev nD) (i : grid0.Coords) (arg1 : Memref sig .tc .vmem S1x256x5632 .bf16) (harg1 : arg1.IsWhole) (arg2 : Memref sig .tc .vmem S4x2048x1408 .bf16) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S1x2048 .f32) (harg9 : arg9.IsWhole) (hc0 : ¬cond0_0 i)
    (x0 : Vec F S1x256x5632 .bf16) (x1 : Vec F S4x2048x1408 .bf16) (x2 x3 x4 : Vec F S256x2048 .f32) (x5 : Vec F S1x2048 .f32) (xo7 xo8 : Vec F S1x2048 .f32) :
    out0_B_8 c i arg1 harg1 arg2 harg2 arg3 harg3 arg4 harg4 arg5 harg5 arg6 harg6 arg7 harg7 arg8 harg8 arg9 harg9 hc0 x0 x1 x2 x3 x4 x5 xo7 xo8 = k0_pay4 x2 (p7 x0 x1) (p8 x0) (p9 x1) xo8 := by
  unfold p7 p8 p9
  frame_out
end Cert.Kernel10Ideal.Val
end
-- ==== Proof.F10.lean ====
module
public import proofs.«01_k».proof.Proof.O10
public import proofs.«01_k».proof.Proof.F9
@[expose] public section
/-! # The second half of the gradient of the feed-forward layer's input over the reals

The kernel's three results, from the arguments. -/
set_option maxRecDepth 16384
noncomputable section
namespace Cert.Kernel10Ideal.Val
open Cert.Kernel10Ideal Cert.Kernel10Ideal.Gen Idealize.ShloMosaic Idealize.ShloMosaic.TcCoe Idealize.SL.Sem Cert.RealVal
open Cert.Kernel9Ideal.Val (sum4 du)

/-- The whole gradient of the product's input at a row and a column: the first half's part and the second half. -/
def tot (dab : Vec Ideal S2x4096x5632 .bf16) (w : Vec Ideal S8x2048x1408 .bf16) (part : Vec Ideal S4096x2048 .f32) (r : Fin 4096) (j : Fin 2048) : EReal :=
  part (ix2 r j) + du 1 dab w r j
/-- The gradient of the layer's input at a row and a column. -/
def inp (dab : Vec Ideal S2x4096x5632 .bf16) (w : Vec Ideal S8x2048x1408 .bf16) (part : Vec Ideal S4096x2048 .f32) (dz : Vec Ideal S4096x2048 .f32) (sc : Vec Ideal S1x2048 .f32) (r : Fin 4096) (j : Fin 2048) : EReal :=
  Ideal.ofBits .f32 0x3F9837F0#32 * dz (ix2 r j) + tot dab w part r j * (1 + sc (ix2 0 j))
/-- The gradient of the layer's input. -/
def inpR (dab : Vec Ideal S2x4096x5632 .bf16) (w : Vec Ideal S8x2048x1408 .bf16) (part : Vec Ideal S4096x2048 .f32) (dz : Vec Ideal S4096x2048 .f32) (sc : Vec Ideal S1x2048 .f32) : S4096x2048.Idx → EReal := fun y =>
  inp dab w part dz sc ⟨(y 0).val, (y 0).isLt⟩ ⟨(y 1).val, (y 1).isLt⟩
/-- A row's term of the scale's gradient. -/
def sclT (dab : Vec Ideal S2x4096x5632 .bf16) (w : Vec Ideal S8x2048x1408 .bf16) (part : Vec Ideal S4096x2048 .f32) (h : Vec Ideal S4096x2048 .f32) (j : Fin 2048) (r : Fin 4096) : EReal := tot dab w part r j * h (ix2 r j)
/-- A row's term of the shift's gradient. -/
def shfT (dab : Vec Ideal S2x4096x5632 .bf16) (w : Vec Ideal S8x2048x1408 .bf16) (part : Vec Ideal S4096x2048 .f32) (j : Fin 2048) (r : Fin 4096) : EReal := tot dab w part r j
/-- The sum over the rows. -/
def sclS (f : Fin 4096 → EReal) : EReal := ∑ r, f r
/-- The sum over the rows. -/
def shfS (f : Fin 4096 → EReal) : EReal := ∑ r, f r
/-- The gradient of the scale. -/
def sclR (dab : Vec Ideal S2x4096x5632 .bf16) (w : Vec Ideal S8x2048x1408 .bf16) (part : Vec Ideal S4096x2048 .f32) (h : Vec Ideal S4096x2048 .f32) : S1x2048.Idx → EReal := fun y => sclS (sclT dab w part h ⟨(y 1).val, (y 1).isLt⟩)
/-- The gradient of the shift. -/
def shfR (dab : Vec Ideal S2x4096x5632 .bf16) (w : Vec Ideal S8x2048x1408 .bf16) (part : Vec Ideal S4096x2048 .f32) : S1x2048.Idx → EReal := fun y => shfS (shfT dab w part ⟨(y 1).val, (y 1).isLt⟩)
/-- A term by a row's number, zero past the last row. -/
def atN (f : Fin 4096 → EReal) (n : ℕ) : EReal := if h : n < 4096 then f ⟨n, h⟩ else 0

set_option maxHeartbeats 1000000 in
theorem pay1_val (v3 : Vec Ideal S256x2048 .f32) (a b d g : Vec Ideal S1x256x1408 .bf16) (a' b' d' g' : Vec Ideal S1x2048x1408 .bf16) (i : Fin 256) (j : Fin 2048) :
    k0_pay1 v3 (k0_pay7 a a' b b' d d') (k0_pay8 g) g' (ix2 i j) = v3 (ix2 i j) + (∑ k : Fin 1408, a (ix3 0 i k) * a' (ix3 0 j k) + ∑ k : Fin 1408, b (ix3 0 i k) * b' (ix3 0 j k)
      + ∑ k : Fin 1408, d (ix3 0 i k) * d' (ix3 0 j k) + ∑ k : Fin 1408, g (ix3 0 i k) * g' (ix3 0 j k)) := by
  pointwise [k0_pay1, k0_pay7, k0_pay8]
theorem pay2_val (v3 v22 : Vec Ideal S256x2048 .f32) (v24 : Vec Ideal S256x1408 .bf16) (v25 : Vec Ideal S1x2048x1408 .bf16) (v30 : Vec Ideal S256x2048 .f32) (v33 : Vec Ideal S1x2048 .f32) (i : Fin 256) (j : Fin 2048) :
    k0_pay2 v3 v22 v24 v25 v30 v33 (ix2 i j) = Ideal.ofBits .f32 0x3F9837F0#32 * v30 (ix2 i j) + k0_pay1 v3 v22 v24 v25 (ix2 i j) * (1 + v33 (ix2 0 j)) := by
  pointwise [k0_pay2]
theorem scl_pay (v3 v22 : Vec Ideal S256x2048 .f32) (v24 : Vec Ideal S256x1408 .bf16) (v25 : Vec Ideal S1x2048x1408 .bf16) (v40 : Vec Ideal S1x2048 .f32) (v42 : Vec Ideal S256x2048 .f32) (j : Fin 2048) :
    k0_pay3 v3 v22 v24 v25 v40 v42 (ix2 0 j) = v40 (ix2 0 j) + ∑ i : Fin 256, k0_pay1 v3 v22 v24 v25 (ix2 i j) * v42 (ix2 i j) := by
  pointwise [k0_pay3]
theorem shf_pay (v3 v22 : Vec Ideal S256x2048 .f32) (v24 : Vec Ideal S256x1408 .bf16) (v25 : Vec Ideal S1x2048x1408 .bf16) (v48 : Vec Ideal S1x2048 .f32) (j : Fin 2048) :
    k0_pay4 v3 v22 v24 v25 v48 (ix2 0 j) = v48 (ix2 0 j) + ∑ i : Fin 256, k0_pay1 v3 v22 v24 v25 (ix2 i j) := by
  pointwise [k0_pay4]
theorem scl_zero (j : Fin 2048) : k0_pay5 (F := Ideal) (ix2 0 j) = 0 := by
  pointwise [k0_pay5]
theorem shf_zero (j : Fin 2048) : k0_pay6 (F := Ideal) (ix2 0 j) = 0 := by
  pointwise [k0_pay6]
theorem x0 (X : Vec Ideal S1x256x5632 .bf16) (i : Fin 256) (a : Fin 1408) :
    (View.ld X q0 : Vec Ideal S1x256x1408 .bf16) (ix3 0 i a) = X (ix3 0 i (⟨a.val, by omega⟩ : Fin 5632)) := by
  refine congrArg X (funext fun d => ?_)
  match d with
  | ⟨0, _⟩ => exact Fin.ext (by show 0 + 1 * 0 = 0; omega)
  | ⟨1, _⟩ => exact Fin.ext (by show 0 + 1 * i.val = i.val; omega)
  | ⟨2, _⟩ => exact Fin.ext (by show 0 + 1 * a.val = a.val; omega)
theorem w0 (W : Vec Ideal S4x2048x1408 .bf16) (j : Fin 2048) (a : Fin 1408) (n : ℕ) (hn : n = a.val) (h1 : n / 1408 < 4) (h2 : n % 1408 < 1408) :
    (View.ld W q1 : Vec Ideal S1x2048x1408 .bf16) (ix3 0 j a) = W (ix3 (⟨n / 1408, h1⟩ : Fin 4) j (⟨n % 1408, h2⟩ : Fin 1408)) := by
  subst hn
  refine congrArg W (funext fun d => ?_)
  match d with
  | ⟨0, _⟩ => exact Fin.ext (by show 0 + 1 * 0 = (a.val) / 1408; omega)
  | ⟨1, _⟩ => exact Fin.ext (by show 0 + 1 * j.val = j.val; omega)
  | ⟨2, _⟩ => exact Fin.ext (by show 0 + 1 * a.val = (a.val) % 1408; omega)
theorem x1 (X : Vec Ideal S1x256x5632 .bf16) (i : Fin 256) (a : Fin 1408) :
    (View.ld X q2 : Vec Ideal S1x256x1408 .bf16) (ix3 0 i a) = X (ix3 0 i (⟨1408 + a.val, by omega⟩ : Fin 5632)) := by
  refine congrArg X (funext fun d => ?_)
  match d with
  | ⟨0, _⟩ => exact Fin.ext (by show 0 + 1 * 0 = 0; omega)
  | ⟨1, _⟩ => exact Fin.ext (by show 0 + 1 * i.val = i.val; omega)
  | ⟨2, _⟩ => exact Fin.ext (by show 1408 + 1 * a.val = 1408 + a.val; omega)
theorem w1 (W : Vec Ideal S4x2048x1408 .bf16) (j : Fin 2048) (a : Fin 1408) (n : ℕ) (hn : n = 1408 + a.val) (h1 : n / 1408 < 4) (h2 : n % 1408 < 1408) :
    (View.ld W q3 : Vec Ideal S1x2048x1408 .bf16) (ix3 0 j a) = W (ix3 (⟨n / 1408, h1⟩ : Fin 4) j (⟨n % 1408, h2⟩ : Fin 1408)) := by
  subst hn
  refine congrArg W (funext fun d => ?_)
  match d with
  | ⟨0, _⟩ => exact Fin.ext (by show 1 + 1 * 0 = (1408 + a.val) / 1408; omega)
  | ⟨1, _⟩ => exact Fin.ext (by show 0 + 1 * j.val = j.val; omega)
  | ⟨2, _⟩ => exact Fin.ext (by show 0 + 1 * a.val = (1408 + a.val) % 1408; omega)
theorem x2 (X : Vec Ideal S1x256x5632 .bf16) (i : Fin 256) (a : Fin 1408) :
    (View.ld X q4 : Vec Ideal S1x256x1408 .bf16) (ix3 0 i a) = X (ix3 0 i (⟨2816 + a.val, by omega⟩ : Fin 5632)) := by
  refine congrArg X (funext fun d => ?_)
  match d with
  | ⟨0, _⟩ => exact Fin.ext (by show 0 + 1 * 0 = 0; omega)
  | ⟨1, _⟩ => exact Fin.ext (by show 0 + 1 * i.val = i.val; omega)
  | ⟨2, _⟩ => exact Fin.ext (by show 2816 + 1 * a.val = 2816 + a.val; omega)
theorem w2 (W : Vec Ideal S4x2048x1408 .bf16) (j : Fin 2048) (a : Fin 1408) (n : ℕ) (hn : n = 2816 + a.val) (h1 : n / 1408 < 4) (h2 : n % 1408 < 1408) :
    (View.ld W q5 : Vec Ideal S1x2048x1408 .bf16) (ix3 0 j a) = W (ix3 (⟨n / 1408, h1⟩ : Fin 4) j (⟨n % 1408, h2⟩ : Fin 1408)) := by
  subst hn
  refine congrArg W (funext fun d => ?_)
  match d with
  | ⟨0, _⟩ => exact Fin.ext (by show 2 + 1 * 0 = (2816 + a.val) / 1408; omega)
  | ⟨1, _⟩ => exact Fin.ext (by show 0 + 1 * j.val = j.val; omega)
  | ⟨2, _⟩ => exact Fin.ext (by show 0 + 1 * a.val = (2816 + a.val) % 1408; omega)
theorem x3 (X : Vec Ideal S1x256x5632 .bf16) (i : Fin 256) (a : Fin 1408) :
    (View.ld X q6 : Vec Ideal S1x256x1408 .bf16) (ix3 0 i a) = X (ix3 0 i (⟨4224 + a.val, by omega⟩ : Fin 5632)) := by
  refine congrArg X (funext fun d => ?_)
  match d with
  | ⟨0, _⟩ => exact Fin.ext (by show 0 + 1 * 0 = 0; omega)
  | ⟨1, _⟩ => exact Fin.ext (by show 0 + 1 * i.val = i.val; omega)
  | ⟨2, _⟩ => exact Fin.ext (by show 4224 + 1 * a.val = 4224 + a.val; omega)
theorem w3 (W : Vec Ideal S4x2048x1408 .bf16) (j : Fin 2048) (a : Fin 1408) (n : ℕ) (hn : n = 4224 + a.val) (h1 : n / 1408 < 4) (h2 : n % 1408 < 1408) :
    (View.ld W q7 : Vec Ideal S1x2048x1408 .bf16) (ix3 0 j a) = W (ix3 (⟨n / 1408, h1⟩ : Fin 4) j (⟨n % 1408, h2⟩ : Fin 1408)) := by
  subst hn
  refine congrArg W (funext fun d => ?_)
  match d with
  | ⟨0, _⟩ => exact Fin.ext (by show 3 + 1 * 0 = (4224 + a.val) / 1408; omega)
  | ⟨1, _⟩ => exact Fin.ext (by show 0 + 1 * j.val = j.val; omega)
  | ⟨2, _⟩ => exact Fin.ext (by show 0 + 1 * a.val = (4224 + a.val) % 1408; omega)
/-- The four products of a block of rows are one sum over all columns. -/
theorem blk (X : Vec Ideal S1x256x5632 .bf16) (W : Vec Ideal S4x2048x1408 .bf16) (v : Vec Ideal S256x2048 .f32) (i : Fin 256) (j : Fin 2048) :
    k0_pay1 v (p7 X W) (p8 X) (p9 W) (ix2 i j)
      = v (ix2 i j) + ∑ k : Fin 5632, X (ix3 0 i k) * W (ix3 (⟨k.val / 1408, by omega⟩ : Fin 4) j (⟨k.val % 1408, by omega⟩ : Fin 1408)) := by
  unfold p7 p8 p9
  rw [pay1_val, sum4]
  exact congrArg (v (ix2 i j) + ·) (congrArg₂ (· + ·) (congrArg₂ (· + ·) (congrArg₂ (· + ·)
    (Finset.sum_congr rfl fun a _ => congrArg₂ (· * ·) (x0 X i a) (w0 W j a _ rfl _ _))
    (Finset.sum_congr rfl fun a _ => congrArg₂ (· * ·) (x1 X i a) (w1 W j a _ rfl _ _)))
    (Finset.sum_congr rfl fun a _ => congrArg₂ (· * ·) (x2 X i a) (w2 W j a _ rfl _ _)))
    (Finset.sum_congr rfl fun a _ => congrArg₂ (· * ·) (x3 X i a) (w3 W j a _ rfl _ _)))

variable (m : (ℓ : Loc nD τ sig) → Buf (Elt Ideal) ℓ) (c : Dev nD)
theorem idx : ∀ t : Fin cfg0.N, win0_0.index t = ![1, t.val, 0] ∧ win0_1.index t = ![1, 0, 0] ∧ win0_2.index t = ![t.val, 0] ∧ win0_3.index t = ![t.val, 0]
    ∧ win0_4.index t = ![t.val, 0] ∧ win0_5.index t = ![0, 0] ∧ win0_6.index t = ![t.val, 0] ∧ win0_7.index t = ![0, 0] ∧ win0_8.index t = ![0, 0] := by decide +kernel
theorem emb6 (t : Fin cfg0.N) (i : Fin 256) (j : Fin 2048) (hr : 256 * t.val + i.val < 4096) :
    ((win0_6.blk t).view.emb (ix2 i j) : S4096x2048.Idx) = ix2 (⟨256 * t.val + i.val, hr⟩ : Fin 4096) j := by
  have ht : t.val < 16 := t.isLt
  blk_ext [(idx t).2.2.2.2.2.2.1]
theorem emb7 (t : Fin cfg0.N) (j : Fin 2048) : ((win0_7.blk t).view.emb (ix2 (0 : Fin 1) j) : S1x2048.Idx) = ix2 (0 : Fin 1) j := by
  blk_ext [(idx t).2.2.2.2.2.2.2.1]
theorem emb8 (t : Fin cfg0.N) (j : Fin 2048) : ((win0_8.blk t).view.emb (ix2 (0 : Fin 1) j) : S1x2048.Idx) = ix2 (0 : Fin 1) j := by
  blk_ext [(idx t).2.2.2.2.2.2.2.2]
theorem in0 (t : Fin cfg0.N) (i : Fin 256) (k : Fin 5632) (hr : 256 * t.val + i.val < 4096) :
    (iblk m c 0 t : Vec Ideal S1x256x5632 .bf16) (ix3 0 i k) = m ((c : Thread nD τ).loc main_arg0) (ix3 (1 : Fin 2) (⟨256 * t.val + i.val, hr⟩ : Fin 4096) k) := by
  have ht : t.val < 16 := t.isLt
  blk_ext [iblk, V, (idx t).1]
theorem in1 (t : Fin cfg0.N) (q : Fin 4) (j : Fin 2048) (a : Fin 1408) (hq : 4 * (1 : Fin 2).val + q.val < 8) :
    (iblk m c 1 t : Vec Ideal S4x2048x1408 .bf16) (ix3 q j a) = m ((c : Thread nD τ).loc main_arg1) (ix3 (⟨4 * (1 : Fin 2).val + q.val, hq⟩ : Fin 8) j a) := by
  have ht : t.val < 16 := t.isLt
  blk_ext [iblk, V, (idx t).2.1]
theorem in2 (t : Fin cfg0.N) (i : Fin 256) (j : Fin 2048) (hr : 256 * t.val + i.val < 4096) :
    (iblk m c 2 t : Vec Ideal S256x2048 .f32) (ix2 i j) = m ((c : Thread nD τ).loc main_arg2) (ix2 (⟨256 * t.val + i.val, hr⟩ : Fin 4096) j) := by
  have ht : t.val < 16 := t.isLt
  blk_ext [iblk, V, (idx t).2.2.1]
theorem in3 (t : Fin cfg0.N) (i : Fin 256) (j : Fin 2048) (hr : 256 * t.val + i.val < 4096) :
    (iblk m c 3 t : Vec Ideal S256x2048 .f32) (ix2 i j) = m ((c : Thread nD τ).loc main_arg3) (ix2 (⟨256 * t.val + i.val, hr⟩ : Fin 4096) j) := by
  have ht : t.val < 16 := t.isLt
  blk_ext [iblk, V, (idx t).2.2.2.1]
theorem in4 (t : Fin cfg0.N) (i : Fin 256) (j : Fin 2048) (hr : 256 * t.val + i.val < 4096) :
    (iblk m c 4 t : Vec Ideal S256x2048 .f32) (ix2 i j) = m ((c : Thread nD τ).loc main_arg4) (ix2 (⟨256 * t.val + i.val, hr⟩ : Fin 4096) j) := by
  have ht : t.val < 16 := t.isLt
  blk_ext [iblk, V, (idx t).2.2.2.2.1]
theorem in5 (t : Fin cfg0.N) (j : Fin 2048) :
    (iblk m c 5 t : Vec Ideal S1x2048 .f32) (ix2 0 j) = m ((c : Thread nD τ).loc main_arg5) (ix2 0 j) := by
  blk_ext [iblk, V, (idx t).2.2.2.2.2.1]

/-- The whole gradient of the product's input at a block of rows, from the arguments. -/
theorem blkM (t : Fin cfg0.N) (i : Fin 256) (j : Fin 2048) (hr : 256 * t.val + i.val < 4096) :
    k0_pay1 (iblk m c 2 t) (p7 (iblk m c 0 t) (iblk m c 1 t)) (p8 (iblk m c 0 t)) (p9 (iblk m c 1 t)) (ix2 i j) = tot (m ((c : Thread nD τ).loc main_arg0)) (m ((c : Thread nD τ).loc main_arg1)) (m ((c : Thread nD τ).loc main_arg2)) ⟨256 * t.val + i.val, hr⟩ j := by
  refine (blk (iblk m c 0 t) (iblk m c 1 t) (iblk m c 2 t) i j).trans ?_
  unfold tot du
  exact congrArg₂ (· + ·) (in2 m c t i j hr) (Finset.sum_congr rfl fun k _ => congrArg₂ (· * ·) (in0 m c t i k hr) (in1 m c t _ j _ _))
/-- What a block of rows stores as the input's gradient. -/
theorem row_eq (t : Fin cfg0.N) : (outsAt0 m c t.val t.isLt).1 = k0_pay2 (iblk m c 2 t) (p7 (iblk m c 0 t) (iblk m c 1 t)) (p8 (iblk m c 0 t)) (p9 (iblk m c 1 t)) (iblk m c 3 t) (iblk m c 5 t) := by
  by_cases h0 : t.val % 16 = 0
  · rw [outsAt0_A m c t h0, out0_A_6_eq]
  · rw [outsAt0_B m c t h0, out0_B_6_eq]
/-- The kernel's gradient of the layer's input. -/
theorem final6 : (dats m 0 c).arrAt 6 cfg0.N = inpR (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 6 _ (by decide +kernel) fun t hf y => ?_
  have ht : t.val < 16 := t.isLt
  obtain ⟨i, j, rfl⟩ : ∃ (i : Fin 256) (j : Fin 2048), y = ix2 i j := ⟨y 0, y 1, eq_ix2 y⟩
  have hr : 256 * t.val + i.val < 4096 := by omega
  refine Eq.trans ?_ (congrArg (inpR _ _ _ _ _) (emb6 t i j hr)).symm
  show (dats m 0 c).after 6 t (ix2 i j) = inp (m ((c : Thread nD τ).loc main_arg0)) (m ((c : Thread nD τ).loc main_arg1)) (m ((c : Thread nD τ).loc main_arg2)) (m ((c : Thread nD τ).loc main_arg3)) (m ((c : Thread nD τ).loc main_arg5)) ⟨256 * t.val + i.val, hr⟩ j
  rw [after0_6, row_eq]
  refine (pay2_val _ _ _ _ _ _ i j).trans ?_
  rw [blkM m c t i j hr, in3 m c t i j hr, in5]
  rfl
/-- The carried sums for the scale after the first block of rows. -/
theorem scl_A (t : Fin cfg0.N) (h0 : t.val % 16 = 0) : (outsAt0 m c t.val t.isLt).2.1 = k0_pay3 (iblk m c 2 t) (p7 (iblk m c 0 t) (iblk m c 1 t)) (p8 (iblk m c 0 t)) (p9 (iblk m c 1 t)) (k0_pay5 (F := Ideal)) (iblk m c 4 t) := by
  rw [outsAt0_A m c t h0, out0_A_7_eq]
/-- The carried sums for the scale after a further block of rows. -/
theorem scl_B (t : Fin cfg0.N) (h0 : ¬ t.val % 16 = 0) : (outsAt0 m c t.val t.isLt).2.1 = k0_pay3 (iblk m c 2 t) (p7 (iblk m c 0 t) (iblk m c 1 t)) (p8 (iblk m c 0 t)) (p9 (iblk m c 1 t)) (outsAt0 m c (t.val - 1) (Nat.lt_of_le_of_lt (Nat.sub_le _ _) t.isLt)).2.1 (iblk m c 4 t) := by
  rw [outsAt0_B m c t h0, out0_B_7_eq]
/-- One block's terms of the sums for the scale. -/
theorem scl_blk (t : Fin cfg0.N) (j : Fin 2048) (v : Vec Ideal S1x2048 .f32) :
    k0_pay3 (iblk m c 2 t) (p7 (iblk m c 0 t) (iblk m c 1 t)) (p8 (iblk m c 0 t)) (p9 (iblk m c 1 t)) v (iblk m c 4 t) (ix2 0 j) = v (ix2 0 j) + ∑ i ∈ Finset.range 256, atN (sclT (m ((c : Thread nD τ).loc main_arg0)) (m ((c : Thread nD τ).loc main_arg1)) (m ((c : Thread nD τ).loc main_arg2)) (m ((c : Thread nD τ).loc main_arg4)) j) (256 * t.val + i) := by
  have ht : t.val < 16 := t.isLt
  rw [scl_pay, Finset.sum_range]
  refine congrArg _ (Finset.sum_congr rfl fun i _ => ?_)
  have hr : 256 * t.val + i.val < 4096 := by omega
  unfold atN sclT
  rw [dif_pos hr, blkM m c t i j hr, in4 m c t i j hr]
/-- What the carried sums for the scale hold after a block of rows: the terms of the rows so far. -/
theorem scl_scr : ∀ (n : ℕ) (hn : n < cfg0.N) (j : Fin 2048),
    (outsAt0 m c n hn).2.1 (ix2 0 j) = ∑ i ∈ Finset.range (256 * n + 256), atN (sclT (m ((c : Thread nD τ).loc main_arg0)) (m ((c : Thread nD τ).loc main_arg1)) (m ((c : Thread nD τ).loc main_arg2)) (m ((c : Thread nD τ).loc main_arg4)) j) i := by
  intro n
  induction n with
  | zero =>
    intro hn j
    refine (congrFun (scl_A m c ⟨0, hn⟩ rfl) _).trans ?_
    rw [scl_blk m c ⟨0, hn⟩ j, scl_zero, zero_add, Finset.sum_range_add]
    simp
  | succ n ih =>
    intro hn j
    have hN : n + 1 < 16 := hn
    have hp := ih (Nat.lt_of_succ_lt hn) j
    rw [show 256 * n + 256 = 256 * (n + 1) from by omega] at hp
    rw [Finset.sum_range_add]
    refine (congrFun (scl_B m c ⟨n + 1, hn⟩ (by show ¬ (n + 1) % 16 = 0; omega)) _).trans ?_
    rw [scl_blk m c ⟨n + 1, hn⟩ j, ← hp]
    rfl
/-- The kernel's gradient of the scale. -/
theorem final7 : (dats m 0 c).arrAt 7 cfg0.N = sclR (m ((c : Thread nD τ).loc main_arg0)) (m ((c : Thread nD τ).loc main_arg1)) (m ((c : Thread nD τ).loc main_arg2)) (m ((c : Thread nD τ).loc main_arg4)) := by
  refine (dats m 0 c).arrAt_eq_of_covers 7 _ (by decide +kernel) fun t hf y => ?_
  have ht : t.val < 16 := t.isLt
  have h15 : t.val % 16 = 15 := (flush0_7 t).mp hf
  obtain ⟨q, j, rfl⟩ : ∃ (q : Fin 1) (j : Fin 2048), y = ix2 q j := ⟨y 0, y 1, eq_ix2 y⟩
  obtain rfl : q = 0 := Subsingleton.elim _ _
  refine Eq.trans ?_ (congrArg (sclR _ _ _ _) (emb7 t j)).symm
  show (dats m 0 c).after 7 t (ix2 0 j) = sclS (sclT (m ((c : Thread nD τ).loc main_arg0)) (m ((c : Thread nD τ).loc main_arg1)) (m ((c : Thread nD τ).loc main_arg2)) (m ((c : Thread nD τ).loc main_arg4)) j)
  have hs := scl_scr m c t.val t.isLt j
  rw [show 256 * t.val + 256 = 4096 from by omega, Finset.sum_range] at hs
  rw [after0_7]
  refine hs.trans ?_
  unfold sclS
  refine Finset.sum_congr rfl fun r _ => ?_
  unfold atN
  exact dif_pos r.isLt
/-- The carried sums for the shift after the first block of rows. -/
theorem shf_A (t : Fin cfg0.N) (h0 : t.val % 16 = 0) : (outsAt0 m c t.val t.isLt).2.2 = k0_pay4 (iblk m c 2 t) (p7 (iblk m c 0 t) (iblk m c 1 t)) (p8 (iblk m c 0 t)) (p9 (iblk m c 1 t)) (k0_pay6 (F := Ideal)) := by
  rw [outsAt0_A m c t h0, out0_A_8_eq]
/-- The carried sums for the shift after a further block of rows. -/
theorem shf_B (t : Fin cfg0.N) (h0 : ¬ t.val % 16 = 0) : (outsAt0 m c t.val t.isLt).2.2 = k0_pay4 (iblk m c 2 t) (p7 (iblk m c 0 t) (iblk m c 1 t)) (p8 (iblk m c 0 t)) (p9 (iblk m c 1 t)) (outsAt0 m c (t.val - 1) (Nat.lt_of_le_of_lt (Nat.sub_le _ _) t.isLt)).2.2 := by
  rw [outsAt0_B m c t h0, out0_B_8_eq]
/-- One block's terms of the sums for the shift. -/
theorem shf_blk (t : Fin cfg0.N) (j : Fin 2048) (v : Vec Ideal S1x2048 .f32) :
    k0_pay4 (iblk m c 2 t) (p7 (iblk m c 0 t) (iblk m c 1 t)) (p8 (iblk m c 0 t)) (p9 (iblk m c 1 t)) v (ix2 0 j) = v (ix2 0 j) + ∑ i ∈ Finset.range 256, atN (shfT (m ((c : Thread nD τ).loc main_arg0)) (m ((c : Thread nD τ).loc main_arg1)) (m ((c : Thread nD τ).loc main_arg2)) j) (256 * t.val + i) := by
  have ht : t.val < 16 := t.isLt
  rw [shf_pay, Finset.sum_range]
  refine congrArg _ (Finset.sum_congr rfl fun i _ => ?_)
  have hr : 256 * t.val + i.val < 4096 := by omega
  unfold atN shfT
  rw [dif_pos hr, blkM m c t i j hr]
/-- What the carried sums for the shift hold after a block of rows: the terms of the rows so far. -/
theorem shf_scr : ∀ (n : ℕ) (hn : n < cfg0.N) (j : Fin 2048),
    (outsAt0 m c n hn).2.2 (ix2 0 j) = ∑ i ∈ Finset.range (256 * n + 256), atN (shfT (m ((c : Thread nD τ).loc main_arg0)) (m ((c : Thread nD τ).loc main_arg1)) (m ((c : Thread nD τ).loc main_arg2)) j) i := by
  intro n
  induction n with
  | zero =>
    intro hn j
    refine (congrFun (shf_A m c ⟨0, hn⟩ rfl) _).trans ?_
    rw [shf_blk m c ⟨0, hn⟩ j, shf_zero, zero_add, Finset.sum_range_add]
    simp
  | succ n ih =>
    intro hn j
    have hN : n + 1 < 16 := hn
    have hp := ih (Nat.lt_of_succ_lt hn) j
    rw [show 256 * n + 256 = 256 * (n + 1) from by omega] at hp
    rw [Finset.sum_range_add]
    refine (congrFun (shf_B m c ⟨n + 1, hn⟩ (by show ¬ (n + 1) % 16 = 0; omega)) _).trans ?_
    rw [shf_blk m c ⟨n + 1, hn⟩ j, ← hp]
    rfl
/-- The kernel's gradient of the shift. -/
theorem final8 : (dats m 0 c).arrAt 8 cfg0.N = shfR (m ((c : Thread nD τ).loc main_arg0)) (m ((c : Thread nD τ).loc main_arg1)) (m ((c : Thread nD τ).loc main_arg2)) := by
  refine (dats m 0 c).arrAt_eq_of_covers 8 _ (by decide +kernel) fun t hf y => ?_
  have ht : t.val < 16 := t.isLt
  have h15 : t.val % 16 = 15 := (flush0_8 t).mp hf
  obtain ⟨q, j, rfl⟩ : ∃ (q : Fin 1) (j : Fin 2048), y = ix2 q j := ⟨y 0, y 1, eq_ix2 y⟩
  obtain rfl : q = 0 := Subsingleton.elim _ _
  refine Eq.trans ?_ (congrArg (shfR _ _ _) (emb8 t j)).symm
  show (dats m 0 c).after 8 t (ix2 0 j) = shfS (shfT (m ((c : Thread nD τ).loc main_arg0)) (m ((c : Thread nD τ).loc main_arg1)) (m ((c : Thread nD τ).loc main_arg2)) j)
  have hs := shf_scr m c t.val t.isLt j
  rw [show 256 * t.val + 256 = 4096 from by omega, Finset.sum_range] at hs
  rw [after0_8]
  refine hs.trans ?_
  unfold shfS
  refine Finset.sum_congr rfl fun r _ => ?_
  unfold atN
  exact dif_pos r.isLt
end Cert.Kernel10Ideal.Val
end
-- ==== Proof.R10.lean ====
module
public import proofs.«01_k».proof.Proof.Gen.Reference10Ideal.Read
public import proofs.«01_k».proof.Proof.F10
@[expose] public section
/-! # The reference of the second half of the gradient of the feed-forward layer's input over the reals -/
set_option maxRecDepth 16384
noncomputable section
namespace Cert.Reference10Ideal.Val
open Cert.Reference10Ideal Cert.Reference10Ideal.Gen Cert.Reference10Ideal.Read Idealize.ShloMosaic Idealize.ShloMosaic.TcCoe Idealize.SL.Sem Cert.RealVal
open Cert.Kernel9Ideal.Val (du)
open Cert.Kernel10Ideal.Val (tot inp sclT shfT sclS shfS inpR sclR shfR)

variable (dab : Vec Ideal S2x4096x5632 .bf16) (w : Vec Ideal S8x2048x1408 .bf16) (part dz h : Vec Ideal S4096x2048 .f32) (sc : Vec Ideal S1x2048 .f32)

/-- The product's gradient at a row and a column. -/
theorem v6_val (r : Fin 4096) (k : Fin 5632) : val_main_v6 (F := Ideal) dab (ix2 r k) = dab (ix3 (1 : Fin 2) r k) := by
  rw [val_main_v6_apply, val_main_v5_apply, val_main_v4_apply]
  refine congrArg dab (funext fun d => ?_)
  match d with
  | ⟨0, _⟩ => exact Fin.ext (by show 1 + _ = 1; rfl)
  | ⟨1, _⟩ => exact Fin.ext (by show (r.val * 5632 + k.val) / 5632 % 4096 = r.val; omega)
  | ⟨2, _⟩ => exact Fin.ext (by show (r.val * 5632 + k.val) % 5632 = k.val; omega)
/-- The weights at a row and a column. -/
theorem v3_val (j : Fin 2048) (k : Fin 5632) : val_main_v3 (F := Ideal) w (ix2 j k)
    = w (ix3 (⟨4 * (1 : Fin 2).val + k.val / 1408, by show 4 * 1 + k.val / 1408 < 8; omega⟩ : Fin 8) j (⟨k.val % 1408, by omega⟩ : Fin 1408)) := by
  rw [val_main_v3_apply, val_main_v2_apply, val_main_v1_apply, val_main_v0_apply]
  refine congrArg w (funext fun d => ?_)
  match d with
  | ⟨0, _⟩ => exact Fin.ext (by show 4 + (j.val * 5632 + k.val) / 1408 % 4 = 4 * 1 + k.val / 1408; omega)
  | ⟨1, _⟩ => exact Fin.ext (by show (j.val * 5632 + k.val) / 5632 = j.val; omega)
  | ⟨2, _⟩ => exact Fin.ext (by show (j.val * 5632 + k.val) % 1408 = k.val % 1408; omega)
/-- The whole gradient of the product's input at a row and a column. -/
theorem v17_val (r : Fin 4096) (j : Fin 2048) : val_main_v17 (F := Ideal) dab w part (ix2 r j) = tot dab w part r j := by
  rw [val_main_v17_apply, val_main_v7_apply]
  unfold tot du
  exact congrArg (part (ix2 r j) + ·) (Finset.sum_congr rfl fun k _ => congrArg₂ (· * ·) ((congrArg (val_main_v6 (F := Ideal) dab) (eq_ix2 _)).trans (v6_val dab r k))
    ((congrArg (val_main_v3 (F := Ideal) w) (eq_ix2 _)).trans (v3_val w j k)))
/-- The gradient of the layer's input. -/
theorem v27_val : val_main_v27 (F := Ideal) dab w part dz sc = inpR dab w part dz sc := funext fun y => by
  obtain ⟨r, j, rfl⟩ : ∃ (r : Fin 4096) (j : Fin 2048), y = ix2 r j := ⟨y 0, y 1, eq_ix2 y⟩
  show _ = inp dab w part dz sc r j
  rw [val_main_v27_apply, val_main_v24_apply, v17_val, val_main_v23_apply, val_main_v12_apply, val_main_v11_apply, val_main_cst_1_apply, val_main_v26_apply, val_main_v25_apply, val_main_cst_4_apply]
  rw [show idx_main_v23 (ix2 r j) = ix2 (0 : Fin 1) j from eq_ix2 _]
  unfold inp
  rw [← Ideal.ofBits_one_f32]
  exact add_comm _ _
/-- The gradient of the scale. -/
theorem v22_val : val_main_v22 (F := Ideal) dab w part h = sclR dab w part h := funext fun y => by
  obtain ⟨q, j, rfl⟩ : ∃ (q : Fin 1) (j : Fin 2048), y = ix2 q j := ⟨y 0, y 1, eq_ix2 y⟩
  obtain rfl : q = 0 := Subsingleton.elim _ _
  show _ = sclS (sclT dab w part h j)
  rw [val_main_v22_apply, val_main_v21_apply, val_main_cst_3_apply]
  unfold sclS
  refine (congrArg (· + _) Ideal.ofBits_zero_f32).trans ((zero_add _).trans (Finset.sum_congr rfl fun r _ => ?_))
  have e : idx_main_v21 (idx_main_v22 (ix2 (0 : Fin 1) j)) r = ix2 r j := funext fun d => by
    match d with
    | ⟨0, _⟩ => rfl
    | ⟨1, _⟩ => exact Fin.ext (by show 0 * 2048 + j.val = j.val; omega)
  rw [e, val_main_v20_apply, v17_val]
  exact mul_comm (h (ix2 r j)) (tot dab w part r j)
/-- The gradient of the shift. -/
theorem v19_val : val_main_v19 (F := Ideal) dab w part = shfR dab w part := funext fun y => by
  obtain ⟨q, j, rfl⟩ : ∃ (q : Fin 1) (j : Fin 2048), y = ix2 q j := ⟨y 0, y 1, eq_ix2 y⟩
  obtain rfl : q = 0 := Subsingleton.elim _ _
  show _ = shfS (shfT dab w part j)
  rw [val_main_v19_apply, val_main_v18_apply, val_main_cst_2_apply]
  unfold shfS
  refine (congrArg (· + _) Ideal.ofBits_zero_f32).trans ((zero_add _).trans (Finset.sum_congr rfl fun r _ => ?_))
  have e : idx_main_v18 (idx_main_v19 (ix2 (0 : Fin 1) j)) r = ix2 r j := funext fun d => by
    match d with
    | ⟨0, _⟩ => rfl
    | ⟨1, _⟩ => exact Fin.ext (by show 0 * 2048 + j.val = j.val; omega)
  rw [e, v17_val]
  rfl
end Cert.Reference10Ideal.Val
end
-- ==== Proof.Top10.lean ====
module
public import proofs.«01_k».proof.Defs
public import proofs.«01_k».proof.Proof.R10
public import proofs.«01_k».proof.Proof.Gen.Kernel10.Frame
public import proofs.«01_k».proof.Proof.Gen.Reference10Ideal.Run
@[expose] public section
/-! # The second half of the gradient of the feed-forward layer's input: the claims -/
set_option maxRecDepth 16384
noncomputable section
namespace Cert.Top10
open Idealize.ShloMosaic Idealize.SL.Sem

/-- Argument 0 on core `c`. -/
abbrev A0 (m : (ℓ : Loc Cert.Kernel10Ideal.nD Cert.Kernel10Ideal.τ Cert.Kernel10Ideal.sig) → Buf (Elt Ideal) ℓ) (c : Dev Cert.Kernel10Ideal.nD) := m ((c.tc : Thread Cert.Kernel10Ideal.nD Cert.Kernel10Ideal.τ).loc Cert.Kernel10Ideal.main_arg0)
/-- Argument 1 on core `c`. -/
abbrev A1 (m : (ℓ : Loc Cert.Kernel10Ideal.nD Cert.Kernel10Ideal.τ Cert.Kernel10Ideal.sig) → Buf (Elt Ideal) ℓ) (c : Dev Cert.Kernel10Ideal.nD) := m ((c.tc : Thread Cert.Kernel10Ideal.nD Cert.Kernel10Ideal.τ).loc Cert.Kernel10Ideal.main_arg1)
/-- Argument 2 on core `c`. -/
abbrev A2 (m : (ℓ : Loc Cert.Kernel10Ideal.nD Cert.Kernel10Ideal.τ Cert.Kernel10Ideal.sig) → Buf (Elt Ideal) ℓ) (c : Dev Cert.Kernel10Ideal.nD) := m ((c.tc : Thread Cert.Kernel10Ideal.nD Cert.Kernel10Ideal.τ).loc Cert.Kernel10Ideal.main_arg2)
/-- Argument 3 on core `c`. -/
abbrev A3 (m : (ℓ : Loc Cert.Kernel10Ideal.nD Cert.Kernel10Ideal.τ Cert.Kernel10Ideal.sig) → Buf (Elt Ideal) ℓ) (c : Dev Cert.Kernel10Ideal.nD) := m ((c.tc : Thread Cert.Kernel10Ideal.nD Cert.Kernel10Ideal.τ).loc Cert.Kernel10Ideal.main_arg3)
/-- Argument 4 on core `c`. -/
abbrev A4 (m : (ℓ : Loc Cert.Kernel10Ideal.nD Cert.Kernel10Ideal.τ Cert.Kernel10Ideal.sig) → Buf (Elt Ideal) ℓ) (c : Dev Cert.Kernel10Ideal.nD) := m ((c.tc : Thread Cert.Kernel10Ideal.nD Cert.Kernel10Ideal.τ).loc Cert.Kernel10Ideal.main_arg4)
/-- Argument 5 on core `c`. -/
abbrev A5 (m : (ℓ : Loc Cert.Kernel10Ideal.nD Cert.Kernel10Ideal.τ Cert.Kernel10Ideal.sig) → Buf (Elt Ideal) ℓ) (c : Dev Cert.Kernel10Ideal.nD) := m ((c.tc : Thread Cert.Kernel10Ideal.nD Cert.Kernel10Ideal.τ).loc Cert.Kernel10Ideal.main_arg5)

/-- Over the extended reals the kernel's three results are the reference's, whatever the arguments. -/
theorem values : @Cert.algebraic_Kernel10Ideal_Reference10Ideal Cert.Kernel10Ideal.Gen.facts Cert.Reference10Ideal.Gen.facts := by
  intro m g m' g' _ he
  refine ⟨fun c => Cert.Kernel10Ideal.Val.inpR (A0 m c) (A1 m c) (A2 m c) (A3 m c) (A5 m c), fun c => Cert.Kernel10Ideal.Val.sclR (A0 m c) (A1 m c) (A2 m c) (A4 m c), fun c => Cert.Kernel10Ideal.Val.shfR (A0 m c) (A1 m c) (A2 m c), (θ_run _ _ _).mono (fun r h c => ?_) (Cert.Kernel10Ideal.Value.run_blocks m g), (θ_run _ _ _).mono (fun r h c => ?_) (Cert.Reference10Ideal.Value.run m' g')⟩
  · obtain ⟨h0, h1, h2, hk⟩ := h c
    exact ⟨h0.trans (Cert.Kernel10Ideal.Val.final6 m c), h1.trans (Cert.Kernel10Ideal.Val.final7 m c), h2.trans (Cert.Kernel10Ideal.Val.final8 m c), hk⟩
  · obtain ⟨h0, h1, h2, hk⟩ := h c
    obtain ⟨e0, e1, e2, e3, e4, e5⟩ := he c
    refine ⟨h0.trans ?_, h1.trans ?_, h2.trans ?_, hk⟩
    · rw [Cert.Reference10Ideal.Read.val_main_v27_eq, Cert.Reference10Ideal.Val.v27_val]
      exact congr (congr (congr (congr (congrArg Cert.Kernel10Ideal.Val.inpR e0) e1) e2) e3) e5
    · rw [Cert.Reference10Ideal.Read.val_main_v22_eq, Cert.Reference10Ideal.Val.v22_val]
      exact congr (congr (congr (congrArg Cert.Kernel10Ideal.Val.sclR e0) e1) e2) e4
    · rw [Cert.Reference10Ideal.Read.val_main_v19_eq, Cert.Reference10Ideal.Val.v19_val]
      exact congr (congr (congrArg Cert.Kernel10Ideal.Val.shfR e0) e1) e2
theorem frameK : @Cert.quiescent_Kernel10 Cert.Kernel10.Gen.facts := fun m ρ _ => Cert.Kernel10.Gen.frame m ρ
theorem frameKI : @Cert.quiescent_Kernel10Ideal Cert.Kernel10Ideal.Gen.facts := fun m ρ _ => Cert.Kernel10Ideal.Gen.frame m ρ
theorem frameRI : @Cert.quiescent_Reference10Ideal Cert.Reference10Ideal.Gen.facts := fun m ρ _ =>
  (θ_run _ _ _).mono (fun r h => ⟨fun c => (h c).2.2.2, sem_eq_zero_of_no_sems (by decide) r.2⟩) (Cert.Reference10Ideal.Value.run m ρ)
end Cert.Top10
end
-- ==== Proof.lean ====
module

public import proofs.«01_k».proof.Proof.Gen.KernelIdeal.Value
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Kernel2
public import proofs.«01_k».proof.Proof.Gen.Kernel2.Frame
public import proofs.«01_k».proof.Proof.Gen.Kernel3
public import proofs.«01_k».proof.Proof.Gen.Kernel3.Frame
public import proofs.«01_k».proof.Proof.Gen.Kernel4
public import proofs.«01_k».proof.Proof.Gen.Kernel4.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Kernel5
public import proofs.«01_k».proof.Proof.Gen.Kernel5.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Kernel6
public import proofs.«01_k».proof.Proof.Gen.Kernel6.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Kernel7
public import proofs.«01_k».proof.Proof.Gen.Kernel7.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Kernel8
public import proofs.«01_k».proof.Proof.Gen.Kernel8.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Kernel9
public import proofs.«01_k».proof.Proof.Gen.Kernel9.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Kernel10
public import proofs.«01_k».proof.Proof.Gen.Kernel10.Frame
public import proofs.«01_k».proof.Proof.Gen.Reference10Ideal
public import proofs.«01_k».proof.Proof.Gen.Reference10Ideal.Run
public import proofs.«01_k».proof.Proof.Gen.Reference10Ideal.Read
public import proofs.«01_k».proof.Proof.RefFrame
public import proofs.«01_k».proof.Proof.Twin
public import proofs.«01_k».proof.Proof.KTop
public import proofs.«01_k».proof.Proof.RefTop
public import proofs.«01_k».proof.Proof.PreVal
public import proofs.«01_k».proof.Proof.Top2
public import proofs.«01_k».proof.Proof.Top3
public import proofs.«01_k».proof.Proof.Top4
public import proofs.«01_k».proof.Proof.Top5
public import proofs.«01_k».proof.Proof.Top6
public import proofs.«01_k».proof.Proof.Top7
public import proofs.«01_k».proof.Proof.Top8
public import proofs.«01_k».proof.Proof.Top9
public import proofs.«01_k».proof.Proof.Top10
public import Idealize.ShloMosaic.Adequacy
public import Idealize.ShloMosaic.Init

@[expose] public section

set_option maxRecDepth 16384

noncomputable section

namespace Cert.Proof

open Idealize.ShloMosaic Idealize.SL.Sem

/-- The kernel over the bit values runs, its arguments end as they were, every counter is at zero. -/
theorem frame_kernel : Cert.quiescent_Kernel :=
  quiescent_eq.mpr fun m ρ _ => Cert.KernelIdeal.Gen.frame (F := Bits) m ρ

/-- Over the reals the kernel's six gradients are the reference's, on arguments that are real numbers. -/
theorem values : Cert.algebraic_KernelIdeal_ReferenceIdeal_pre_finite (hPre_finite := Cert.PreVal.facts) := by
  intro m g m' g' hp he
  have hk : ∀ c : Dev Cert.KernelIdeal.nD, ∃ D : Cert.Spec.Inp, Cert.KernelIdeal.Host.LArgs (StableHlo.launchContents m c) D := fun c =>
    haveI := Cert.PreVal.facts
    ⟨_, Cert.PreVal.args_of _ _ _ _ _ _ _ _ _ (hp c).1 (hp c).2.1 (hp c).2.2.1 (hp c).2.2.2.1 (hp c).2.2.2.2.1 (hp c).2.2.2.2.2.1
      (hp c).2.2.2.2.2.2.1 (hp c).2.2.2.2.2.2.2.1 (hp c).2.2.2.2.2.2.2.2⟩
  choose D hD using hk
  have hr : ∀ c : Dev Cert.KernelIdeal.nD, Cert.ReferenceIdeal.Val.LArgs (StableHlo.launchContents m' c) (D c) := fun c => by
    obtain ⟨e0, e1, e2, e3, e4, e5, e6, e7, e8⟩ := he c
    have h := hD c
    exact
      { q := fun i j => (congrFun e0 _).trans (h.q i j)
        k := fun i j => (congrFun e1 _).trans (h.k i j)
        v := fun i j => (congrFun e2 _).trans (h.v i j)
        r := fun i j => (congrFun e3 _).trans (h.r i j)
        lr := fun i j => (congrFun e4 _).trans (h.lr i j)
        wa := fun i j => (congrFun e5 _).trans (h.wa i j)
        ba := fun a => (congrFun e6 _).trans (h.ba a)
        g := fun b => (congrFun e7 _).trans (h.g b)
        dy := fun i j => (congrFun e8 _).trans (h.dy i j) }
  refine ⟨fun c => Cert.KernelIdeal.Chunk.arr128 (D c).dq, fun c => Cert.KernelIdeal.Chunk.arr128 (D c).dk, fun c => Cert.KernelIdeal.Chunk.arr256 (D c).dv,
    fun c => Cert.KernelIdeal.Chunk.arr256 (D c).dr, fun c => Cert.KernelIdeal.Chunk.arr128 (D c).dgate,
    fun c => (fun x : Cert.KernelIdeal.S1x256.Idx => (((D c).dgn (x 1).val : ℝ) : EReal)), ?_, ?_⟩
  · refine (θ_run _ _ _).mono (fun r h c => ?_) (Cert.KernelIdeal.Value.run_blocks m g)
    have H := Cert.KernelIdeal.Host.arrs (hD c)
    have R := Cert.KernelIdeal.Host.reads m c
    obtain ⟨h0, h1, h2, h3, h4, h5, hk⟩ := h c
    exact ⟨h0.trans (Cert.KernelIdeal.Chunk.final12 H R), h1.trans (Cert.KernelIdeal.Chunk.final13 H R), h2.trans (Cert.KernelIdeal.Chunk.final14 H R),
      h3.trans (Cert.KernelIdeal.Chunk.final15 H R), h4.trans (Cert.KernelIdeal.Chunk.final16 H R), h5.trans (Cert.KernelIdeal.Chunk.final17 H R), hk⟩
  · refine (θ_run _ _ _).mono (fun r h c => ?_) (Cert.ReferenceIdeal.Run.run_fin m' g')
    have H := hr c
    exact ⟨(h c Cert.ReferenceIdeal.main_v112 rfl).trans (Cert.ReferenceIdeal.Val.fin_v112 H),
      (h c Cert.ReferenceIdeal.main_v113 rfl).trans (Cert.ReferenceIdeal.Val.fin_v113 H),
      (h c Cert.ReferenceIdeal.main_v114 rfl).trans (Cert.ReferenceIdeal.Val.fin_v114 H),
      (h c Cert.ReferenceIdeal.main_v115 rfl).trans (Cert.ReferenceIdeal.Val.fin_v115 H),
      (h c Cert.ReferenceIdeal.main_v111 rfl).trans (Cert.ReferenceIdeal.Val.fin_v111 H),
      (h c Cert.ReferenceIdeal.main_v67 rfl).trans (Cert.ReferenceIdeal.Val.fin_v67 H),
      (h c Cert.ReferenceIdeal.main_arg0 rfl).trans (Cert.ReferenceIdeal.Run.fin_arg0 m' c),
      (h c Cert.ReferenceIdeal.main_arg1 rfl).trans (Cert.ReferenceIdeal.Run.fin_arg1 m' c),
      (h c Cert.ReferenceIdeal.main_arg2 rfl).trans (Cert.ReferenceIdeal.Run.fin_arg2 m' c),
      (h c Cert.ReferenceIdeal.main_arg3 rfl).trans (Cert.ReferenceIdeal.Run.fin_arg3 m' c),
      (h c Cert.ReferenceIdeal.main_arg4 rfl).trans (Cert.ReferenceIdeal.Run.fin_arg4 m' c),
      (h c Cert.ReferenceIdeal.main_arg5 rfl).trans (Cert.ReferenceIdeal.Run.fin_arg5 m' c),
      (h c Cert.ReferenceIdeal.main_arg6 rfl).trans (Cert.ReferenceIdeal.Run.fin_arg6 m' c),
      (h c Cert.ReferenceIdeal.main_arg7 rfl).trans (Cert.ReferenceIdeal.Run.fin_arg7 m' c),
      (h c Cert.ReferenceIdeal.main_arg8 rfl).trans (Cert.ReferenceIdeal.Run.fin_arg8 m' c)⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.PreVal.facts, Cert.PreVal2.facts,
  frame_kernel,
  fun m ρ _ => Cert.KernelIdeal.Gen.frame m ρ,
  fun m ρ _ => Cert.KernelIdeal.Gen.frame m ρ,
  fun m ρ _ => Cert.ReferenceIdeal.Run.frame m ρ,
  fun m ρ _ => Cert.ReferenceIdeal.Run.frame m ρ,
  Cert.Top2.frameK, Cert.Top2.frameKI, Cert.Top2.frameKI', Cert.Top2.frameRI, Cert.Top2.frameRI',
  Cert.Top3.frameK, Cert.Top3.frameKI, Cert.Top3.frameRI,
  Cert.Top4.frameK, Cert.Top4.frameKI, Cert.Top4.frameRI,
  Cert.Top5.frameK, Cert.Top5.frameKI, Cert.Top5.frameRI,
  Cert.Top6.frameK, Cert.Top6.frameKI, Cert.Top6.frameRI,
  Cert.Top7.frameK, Cert.Top7.frameKI, Cert.Top7.frameRI,
  Cert.Top8.frameK, Cert.Top8.frameKI, Cert.Top8.frameRI,
  Cert.Top9.frameK, Cert.Top9.frameKI, Cert.Top9.frameRI,
  Cert.Top10.frameK, Cert.Top10.frameKI, Cert.Top10.frameRI,
  trivial, values,
  trivial, Cert.Top2.values,
  trivial, Cert.Top3.values,
  trivial, Cert.Top4.values,
  trivial, Cert.Top5.values,
  trivial, Cert.Top6.values,
  trivial, Cert.Top7.values,
  trivial, Cert.Top8.values,
  trivial, Cert.Top9.values,
  trivial, Cert.Top10.values⟩

end Cert.Proof

end
